-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Kernel31Ideal_finite_skip [hPre_finite_skip : Cert.Pre_finite_skip.Facts] (m : (ℓ : Loc Cert.Kernel31Ideal.nD Cert.Kernel31Ideal.τ Cert.Kernel31Ideal.sig) → Buf (Elt Ideal) ℓ) : Prop :=
  ∀ c : Dev Cert.Kernel31Ideal.nD,
    (Cert.Pre_finite_skip.fn (F := Ideal) (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2)) (m ((c.tc : Thread Cert.Kernel31Ideal.nD Cert.Kernel31Ideal.τ).loc Cert.Kernel31Ideal.main_arg3))) = (fun _ => 1#1)

def Pre_Reference31Ideal (m : (ℓ : Loc Cert.Reference31Ideal.nD Cert.Reference31Ideal.τ Cert.Reference31Ideal.sig) → Buf (Elt Ideal) ℓ) : Prop :=
  True

def Pre_Reference31Ideal_finite_skip [hPre_finite_skip : Cert.Pre_finite_skip.Facts] (m : (ℓ : Loc Cert.Reference31Ideal.nD Cert.Reference31Ideal.τ Cert.Reference31Ideal.sig) → Buf (Elt Ideal) ℓ) : Prop :=
  ∀ c : Dev Cert.Reference31Ideal.nD,
    (Cert.Pre_finite_skip.fn (F := Ideal) (m ((c.tc : Thread Cert.Reference31Ideal.nD Cert.Reference31Ideal.τ).loc Cert.Reference31Ideal.main_arg0)) (m ((c.tc : Thread Cert.Reference31Ideal.nD Cert.Reference31Ideal.τ).loc Cert.Reference31Ideal.main_arg1)) (m ((c.tc : Thread Cert.Reference31Ideal.nD Cert.Reference31Ideal.τ).loc Cert.Reference31Ideal.main_arg2)) (m ((c.tc : Thread Cert.Reference31Ideal.nD Cert.Reference31Ideal.τ).loc Cert.Reference31Ideal.main_arg3))) = (fun _ => 1#1)

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Kernel33Ideal_finite_norm [hPre_finite_norm : Cert.Pre_finite_norm.Facts] (m : (ℓ : Loc Cert.Kernel33Ideal.nD Cert.Kernel33Ideal.τ Cert.Kernel33Ideal.sig) → Buf (Elt Ideal) ℓ) : Prop :=
  ∀ c : Dev Cert.Kernel33Ideal.nD,
    (Cert.Pre_finite_norm.fn (F := Ideal) (m ((c.tc : Thread Cert.Kernel33Ideal.nD Cert.Kernel33Ideal.τ).loc Cert.Kernel33Ideal.main_arg0)) (m ((c.tc : Thread Cert.Kernel33Ideal.nD Cert.Kernel33Ideal.τ).loc Cert.Kernel33Ideal.main_arg1)) (m ((c.tc : Thread Cert.Kernel33Ideal.nD Cert.Kernel33Ideal.τ).loc Cert.Kernel33Ideal.main_arg2)) (m ((c.tc : Thread Cert.Kernel33Ideal.nD Cert.Kernel33Ideal.τ).loc Cert.Kernel33Ideal.main_arg3))) = (fun _ => 1#1)

def Pre_Reference33Ideal (m : (ℓ : Loc Cert.Reference33Ideal.nD Cert.Reference33Ideal.τ Cert.Reference33Ideal.sig) → Buf (Elt Ideal) ℓ) : Prop :=
  True

def Pre_Reference33Ideal_finite_norm [hPre_finite_norm : Cert.Pre_finite_norm.Facts] (m : (ℓ : Loc Cert.Reference33Ideal.nD Cert.Reference33Ideal.τ Cert.Reference33Ideal.sig) → Buf (Elt Ideal) ℓ) : Prop :=
  ∀ c : Dev Cert.Reference33Ideal.nD,
    (Cert.Pre_finite_norm.fn (F := Ideal) (m ((c.tc : Thread Cert.Reference33Ideal.nD Cert.Reference33Ideal.τ).loc Cert.Reference33Ideal.main_arg0)) (m ((c.tc : Thread Cert.Reference33Ideal.nD Cert.Reference33Ideal.τ).loc Cert.Reference33Ideal.main_arg1)) (m ((c.tc : Thread Cert.Reference33Ideal.nD Cert.Reference33Ideal.τ).loc Cert.Reference33Ideal.main_arg2)) (m ((c.tc : Thread Cert.Reference33Ideal.nD Cert.Reference33Ideal.τ).loc Cert.Reference33Ideal.main_arg3))) = (fun _ => 1#1)

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Kernel35Ideal_finite_latent [hPre_finite_latent : Cert.Pre_finite_latent.Facts] (m : (ℓ : Loc Cert.Kernel35Ideal.nD Cert.Kernel35Ideal.τ Cert.Kernel35Ideal.sig) → Buf (Elt Ideal) ℓ) : Prop :=
  ∀ c : Dev Cert.Kernel35Ideal.nD,
    (Cert.Pre_finite_latent.fn (F := Ideal) (m ((c.tc : Thread Cert.Kernel35Ideal.nD Cert.Kernel35Ideal.τ).loc Cert.Kernel35Ideal.main_arg0)) (m ((c.tc : Thread Cert.Kernel35Ideal.nD Cert.Kernel35Ideal.τ).loc Cert.Kernel35Ideal.main_arg1)) (m ((c.tc : Thread Cert.Kernel35Ideal.nD Cert.Kernel35Ideal.τ).loc Cert.Kernel35Ideal.main_arg2))) = (fun _ => 1#1)

def Pre_Reference35Ideal (m : (ℓ : Loc Cert.Reference35Ideal.nD Cert.Reference35Ideal.τ Cert.Reference35Ideal.sig) → Buf (Elt Ideal) ℓ) : Prop :=
  True

def Pre_Reference35Ideal_finite_latent [hPre_finite_latent : Cert.Pre_finite_latent.Facts] (m : (ℓ : Loc Cert.Reference35Ideal.nD Cert.Reference35Ideal.τ Cert.Reference35Ideal.sig) → Buf (Elt Ideal) ℓ) : Prop :=
  ∀ c : Dev Cert.Reference35Ideal.nD,
    (Cert.Pre_finite_latent.fn (F := Ideal) (m ((c.tc : Thread Cert.Reference35Ideal.nD Cert.Reference35Ideal.τ).loc Cert.Reference35Ideal.main_arg0)) (m ((c.tc : Thread Cert.Reference35Ideal.nD Cert.Reference35Ideal.τ).loc Cert.Reference35Ideal.main_arg1)) (m ((c.tc : Thread Cert.Reference35Ideal.nD Cert.Reference35Ideal.τ).loc Cert.Reference35Ideal.main_arg2))) = (fun _ => 1#1)

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Kernel36Ideal_finite_latent [hPre_finite_latent : Cert.Pre_finite_latent.Facts] (m : (ℓ : Loc Cert.Kernel36Ideal.nD Cert.Kernel36Ideal.τ Cert.Kernel36Ideal.sig) → Buf (Elt Ideal) ℓ) : Prop :=
  ∀ c : Dev Cert.Kernel36Ideal.nD,
    (Cert.Pre_finite_latent.fn (F := Ideal) (m ((c.tc : Thread Cert.Kernel36Ideal.nD Cert.Kernel36Ideal.τ).loc Cert.Kernel36Ideal.main_arg0)) (m ((c.tc : Thread Cert.Kernel36Ideal.nD Cert.Kernel36Ideal.τ).loc Cert.Kernel36Ideal.main_arg1)) (m ((c.tc : Thread Cert.Kernel36Ideal.nD Cert.Kernel36Ideal.τ).loc Cert.Kernel36Ideal.main_arg2))) = (fun _ => 1#1)

def Pre_Reference36Ideal (m : (ℓ : Loc Cert.Reference36Ideal.nD Cert.Reference36Ideal.τ Cert.Reference36Ideal.sig) → Buf (Elt Ideal) ℓ) : Prop :=
  True

def Pre_Reference36Ideal_finite_latent [hPre_finite_latent : Cert.Pre_finite_latent.Facts] (m : (ℓ : Loc Cert.Reference36Ideal.nD Cert.Reference36Ideal.τ Cert.Reference36Ideal.sig) → Buf (Elt Ideal) ℓ) : Prop :=
  ∀ c : Dev Cert.Reference36Ideal.nD,
    (Cert.Pre_finite_latent.fn (F := Ideal) (m ((c.tc : Thread Cert.Reference36Ideal.nD Cert.Reference36Ideal.τ).loc Cert.Reference36Ideal.main_arg0)) (m ((c.tc : Thread Cert.Reference36Ideal.nD Cert.Reference36Ideal.τ).loc Cert.Reference36Ideal.main_arg1)) (m ((c.tc : Thread Cert.Reference36Ideal.nD Cert.Reference36Ideal.τ).loc Cert.Reference36Ideal.main_arg2))) = (fun _ => 1#1)

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6)
      ∧ r.2.mem ((c.tc : Thread Cert.Kernel22.nD Cert.Kernel22.τ).loc Cert.Kernel22.main_arg7) = m ((c.tc : Thread Cert.Kernel22.nD Cert.Kernel22.τ).loc Cert.Kernel22.main_arg7))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
      ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6)
      ∧ r.2.mem ((c.tc : Thread Cert.Reference22Ideal.nD Cert.Reference22Ideal.τ).loc Cert.Reference22Ideal.main_arg7) = m ((c.tc : Thread Cert.Reference22Ideal.nD Cert.Reference22Ideal.τ).loc Cert.Reference22Ideal.main_arg7))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Kernel31Ideal_pre_finite_skip [hKernel31Ideal : Cert.Kernel31Ideal.Facts] [hPre_finite_skip : Cert.Pre_finite_skip.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal_finite_skip m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Reference31Ideal_pre_finite_skip [hReference31Ideal : Cert.Reference31Ideal.Facts] [hPre_finite_skip : Cert.Pre_finite_skip.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal_finite_skip m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Kernel33Ideal_pre_finite_norm [hKernel33Ideal : Cert.Kernel33Ideal.Facts] [hPre_finite_norm : Cert.Pre_finite_norm.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal_finite_norm m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Reference33Ideal_pre_finite_norm [hReference33Ideal : Cert.Reference33Ideal.Facts] [hPre_finite_norm : Cert.Pre_finite_norm.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal_finite_norm m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2))
      ∧ r.2.sem = fun _ => 0)

def quiescent_Kernel35Ideal_pre_finite_latent [hKernel35Ideal : Cert.Kernel35Ideal.Facts] [hPre_finite_latent : Cert.Pre_finite_latent.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal_finite_latent m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2))
      ∧ r.2.sem = fun _ => 0)

def quiescent_Reference35Ideal_pre_finite_latent [hReference35Ideal : Cert.Reference35Ideal.Facts] [hPre_finite_latent : Cert.Pre_finite_latent.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal_finite_latent m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2))
      ∧ r.2.sem = fun _ => 0)

def quiescent_Kernel36Ideal_pre_finite_latent [hKernel36Ideal : Cert.Kernel36Ideal.Facts] [hPre_finite_latent : Cert.Pre_finite_latent.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal_finite_latent m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2))
      ∧ r.2.sem = fun _ => 0)

def quiescent_Reference36Ideal_pre_finite_latent [hReference36Ideal : Cert.Reference36Ideal.Facts] [hPre_finite_latent : Cert.Pre_finite_latent.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal_finite_latent m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_v58) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)) (v2 : (c : Dev Cert.Kernel2Ideal.nD) → Buf (Elt Ideal) ((c.tc : Thread Cert.Kernel2Ideal.nD Cert.Kernel2Ideal.τ).loc Cert.Kernel2Ideal.main_v2_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_v2_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_v20) = v1 c
          ∧ r.2.mem ((c.tc : Thread Cert.Reference2Ideal.nD Cert.Reference2Ideal.τ).loc Cert.Reference2Ideal.main_v23) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v0) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v3) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v3) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)
      ∧ m' ((c.tc : Thread Cert.Reference22Ideal.nD Cert.Reference22Ideal.τ).loc Cert.Reference22Ideal.main_arg7) = m ((c.tc : Thread Cert.Kernel22Ideal.nD Cert.Kernel22Ideal.τ).loc Cert.Kernel22Ideal.main_arg7)) →
    ∃ (v0 : (c : Dev Cert.Kernel22Ideal.nD) → Buf (Elt Ideal) ((c.tc : Thread Cert.Kernel22Ideal.nD Cert.Kernel22Ideal.τ).loc Cert.Kernel22Ideal.main_v6)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v6) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
          ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v2) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6)
          ∧ r.2.mem ((c.tc : Thread Cert.Reference22Ideal.nD Cert.Reference22Ideal.τ).loc Cert.Reference22Ideal.main_arg7) = m' ((c.tc : Thread Cert.Reference22Ideal.nD Cert.Reference22Ideal.τ).loc Cert.Reference22Ideal.main_arg7))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v2) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v0) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v2) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v3) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v2) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v1) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v2) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v0) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v16) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v9) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v55) = v0 c
          ∧ r.2.mem ((c.tc : Thread Cert.Reference29Ideal.nD Cert.Reference29Ideal.τ).loc Cert.Reference29Ideal.main_v56) = v1 c
          ∧ r.2.mem ((c.tc : Thread Cert.Reference29Ideal.nD Cert.Reference29Ideal.τ).loc Cert.Reference29Ideal.main_v57) = v2 c
          ∧ r.2.mem ((c.tc : Thread Cert.Reference29Ideal.nD Cert.Reference29Ideal.τ).loc Cert.Reference29Ideal.main_v50) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v23) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  IdealRules.named_const.Statement Cert.Kernel31Ideal.κ "gelu_a" .f32 0x3D372713#32 ((8943 / 200000 : ℝ) : EReal)
  ∧ IdealRules.named_const.Statement Cert.Kernel31Ideal.κ "gelu_3a" .f32 0x3E095D4F#32 ((26829 / 200000 : ℝ) : EReal)

def algebraic_Kernel31Ideal_Reference31Ideal_pre_finite_skip [hKernel31Ideal : Cert.Kernel31Ideal.Facts] [hReference31Ideal : Cert.Reference31Ideal.Facts] [hPre_finite_skip : Cert.Pre_finite_skip.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal_finite_skip m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v41) = v0 c
          ∧ r.2.mem ((c.tc : Thread Cert.Reference31Ideal.nD Cert.Reference31Ideal.τ).loc Cert.Reference31Ideal.main_v44) = v1 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v16) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2))

def preserves_Kernel33_Kernel33Ideal : Prop :=
  True

def algebraic_Kernel33Ideal_Reference33Ideal_pre_finite_norm [hKernel33Ideal : Cert.Kernel33Ideal.Facts] [hReference33Ideal : Cert.Reference33Ideal.Facts] [hPre_finite_norm : Cert.Pre_finite_norm.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal_finite_norm m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v34) = v0 c
          ∧ r.2.mem ((c.tc : Thread Cert.Reference33Ideal.nD Cert.Reference33Ideal.τ).loc Cert.Reference33Ideal.main_v35) = v1 c
          ∧ r.2.mem ((c.tc : Thread Cert.Reference33Ideal.nD Cert.Reference33Ideal.τ).loc Cert.Reference33Ideal.main_v17) = v2 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v12) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1))

def preserves_Kernel35_Kernel35Ideal : Prop :=
  True

def algebraic_Kernel35Ideal_Reference35Ideal_pre_finite_latent [hKernel35Ideal : Cert.Kernel35Ideal.Facts] [hReference35Ideal : Cert.Reference35Ideal.Facts] [hPre_finite_latent : Cert.Pre_finite_latent.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal_finite_latent m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v35) = v0 c
          ∧ r.2.mem ((c.tc : Thread Cert.Reference35Ideal.nD Cert.Reference35Ideal.τ).loc Cert.Reference35Ideal.main_v18) = v1 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2))

def preserves_Kernel36_Kernel36Ideal : Prop :=
  True

def algebraic_Kernel36Ideal_Reference36Ideal_pre_finite_latent [hKernel36Ideal : Cert.Kernel36Ideal.Facts] [hReference36Ideal : Cert.Reference36Ideal.Facts] [hPre_finite_latent : Cert.Pre_finite_latent.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal_finite_latent m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v35) = v0 c
          ∧ r.2.mem ((c.tc : Thread Cert.Reference36Ideal.nD Cert.Reference36Ideal.τ).loc Cert.Reference36Ideal.main_v18) = v1 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)) →
    ∃ (v0 : (c : Dev Cert.Kernel37Ideal.nD) → Buf (Elt Ideal) ((c.tc : Thread Cert.Kernel37Ideal.nD Cert.Kernel37Ideal.τ).loc Cert.Kernel37Ideal.main_v0)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0) = v0 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v13) = v0 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)) →
    ∃ (v0 : (c : Dev Cert.Kernel38Ideal.nD) → Buf (Elt Ideal) ((c.tc : Thread Cert.Kernel38Ideal.nD Cert.Kernel38Ideal.τ).loc Cert.Kernel38Ideal.main_v0)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0) = v0 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v13) = v0 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hPre_finite_inputs : Cert.Pre_finite_inputs.Facts) (hPre_finite_skip : Cert.Pre_finite_skip.Facts) (hPre_finite_norm : Cert.Pre_finite_norm.Facts) (hPre_finite_latent : Cert.Pre_finite_latent.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Kernel31Ideal_pre_finite_skip (hKernel31Ideal := hKernel31Ideal) (hPre_finite_skip := hPre_finite_skip)
    ∧ quiescent_Reference31Ideal (hReference31Ideal := hReference31Ideal)
    ∧ quiescent_Reference31Ideal_pre_finite_skip (hReference31Ideal := hReference31Ideal) (hPre_finite_skip := hPre_finite_skip)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Kernel33Ideal_pre_finite_norm (hKernel33Ideal := hKernel33Ideal) (hPre_finite_norm := hPre_finite_norm)
    ∧ quiescent_Reference33Ideal (hReference33Ideal := hReference33Ideal)
    ∧ quiescent_Reference33Ideal_pre_finite_norm (hReference33Ideal := hReference33Ideal) (hPre_finite_norm := hPre_finite_norm)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Kernel35Ideal_pre_finite_latent (hKernel35Ideal := hKernel35Ideal) (hPre_finite_latent := hPre_finite_latent)
    ∧ quiescent_Reference35Ideal (hReference35Ideal := hReference35Ideal)
    ∧ quiescent_Reference35Ideal_pre_finite_latent (hReference35Ideal := hReference35Ideal) (hPre_finite_latent := hPre_finite_latent)
    ∧ quiescent_Kernel36 (hKernel36 := hKernel36)
    ∧ quiescent_Kernel36Ideal (hKernel36Ideal := hKernel36Ideal)
    ∧ quiescent_Kernel36Ideal_pre_finite_latent (hKernel36Ideal := hKernel36Ideal) (hPre_finite_latent := hPre_finite_latent)
    ∧ quiescent_Reference36Ideal (hReference36Ideal := hReference36Ideal)
    ∧ quiescent_Reference36Ideal_pre_finite_latent (hReference36Ideal := hReference36Ideal) (hPre_finite_latent := hPre_finite_latent)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal_pre_finite_skip (hKernel31Ideal := hKernel31Ideal) (hReference31Ideal := hReference31Ideal) (hPre_finite_skip := hPre_finite_skip)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal_pre_finite_norm (hKernel33Ideal := hKernel33Ideal) (hReference33Ideal := hReference33Ideal) (hPre_finite_norm := hPre_finite_norm)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal_pre_finite_latent (hKernel35Ideal := hKernel35Ideal) (hReference35Ideal := hReference35Ideal) (hPre_finite_latent := hPre_finite_latent)
    ∧ preserves_Kernel36_Kernel36Ideal
    ∧ algebraic_Kernel36Ideal_Reference36Ideal_pre_finite_latent (hKernel36Ideal := hKernel36Ideal) (hReference36Ideal := hReference36Ideal) (hPre_finite_latent := hPre_finite_latent)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
-- ==== Pre_finite_inputs.lean ====
abbrev S4096x2816 : Shape := ⟨2, ![4096, 2816]⟩
abbrev S3x5632 : Shape := ⟨2, ![3, 5632]⟩
abbrev S2816x1024 : Shape := ⟨2, ![2816, 1024]⟩
abbrev S4096x1024 : Shape := ⟨2, ![4096, 1024]⟩
abbrev S_ : Shape := ⟨0, ![]⟩

class Facts : Prop where
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S3x5632 : S_.BroadcastsInDim S3x5632 (![] : Fin 0 → Fin S3x5632.rank)
  reducesTo_S3x5632_S_d0_1 : S3x5632.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S4096x1024 .f32) (main_v14 : IVec S_ 1) (main_v15 : FVec F S2816x1024 .f32) (main_cst_5 : FVec F S_ .f32) : IVec S_ 1 :=
  let main_v16 : FVec F S2816x1024 .f32 := broadcastInDim S2816x1024 ![] bcast_S_S2816x1024 main_cst_5
  let main_v17 : IVec S2816x1024 1 := cmpf .olt main_v15 main_v16
  let main_c_6 : IVec S_ 1 := constantI S_ 1 1#1
  let main_v18 : IVec S_ 1 := (fun x v => Host.reduce IntOp.andi x v reducesTo_S2816x1024_S_d0_1 h_S_) main_v17 main_c_6
  let main_v19 : IVec S_ 1 := andi main_v14 main_v18
  let main_v20 : FVec F S4096x1024 .f32 := Host.absf main_arg4
  let main_cst_7 : FVec F S_ .f32 := constant S_ .f32 0x7F800000#32
  let main_v21 : FVec F S4096x1024 .f32 := broadcastInDim S4096x1024 ![] bcast_S_S4096x1024 main_cst_7
  let main_v22 : IVec S4096x1024 1 := cmpf .olt main_v20 main_v21
  let main_c_8 : IVec S_ 1 := constantI S_ 1 1#1
  let main_v23 : IVec S_ 1 := (fun x v => Host.reduce IntOp.andi x v reducesTo_S4096x1024_S_d0_1 h_S_) main_v22 main_c_8
  let main_v24 : IVec S_ 1 := andi main_v19 main_v23
  main_v24

def fn {F : FTy → Type} [FloatOps F] (main_arg0 : FVec F S4096x2816 .f32) (main_arg1 : FVec F S4096x2816 .f32) (main_arg2 : FVec F S3x5632 .f32) (main_arg3 : FVec F S2816x1024 .f32) (main_arg4 : FVec F S4096x1024 .f32) : IVec S_ 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_c : IVec S_ 1 := constantI S_ 1 1#1
  let main_v3 : IVec S_ 1 := (fun x v => Host.reduce IntOp.andi x v reducesTo_S4096x2816_S_d0_1 h_S_) main_v2 main_c
  let main_c_0 : IVec S_ 1 := constantI S_ 1 1#1
  let main_v4 : IVec S_ 1 := andi main_c_0 main_v3
  let main_v5 : FVec F S4096x2816 .f32 := Host.absf main_arg1
  let main_cst_1 : FVec F S_ .f32 := constant S_ .f32 0x7F800000#32
  let main_v6 : FVec F S4096x2816 .f32 := broadcastInDim S4096x2816 ![] bcast_S_S4096x2816 main_cst_1
  let main_v7 : IVec S4096x2816 1 := cmpf .olt main_v5 main_v6
  let main_c_2 : IVec S_ 1 := constantI S_ 1 1#1
  let main_v8 : IVec S_ 1 := (fun x v => Host.reduce IntOp.andi x v reducesTo_S4096x2816_S_d0_1 h_S_) main_v7 main_c_2
  let main_v9 : IVec S_ 1 := andi main_v4 main_v8
  let main_v10 : FVec F S3x5632 .f32 := Host.absf main_arg2
  let main_cst_3 : FVec F S_ .f32 := constant S_ .f32 0x7F800000#32
  let main_v11 : FVec F S3x5632 .f32 := broadcastInDim S3x5632 ![] bcast_S_S3x5632 main_cst_3
  let main_v12 : IVec S3x5632 1 := cmpf .olt main_v10 main_v11
  let main_c_4 : IVec S_ 1 := constantI S_ 1 1#1
  let main_v13 : IVec S_ 1 := (fun x v => Host.reduce IntOp.andi x v reducesTo_S3x5632_S_d0_1 h_S_) main_v12 main_c_4
  let main_v14 : IVec S_ 1 := andi main_v9 main_v13
  let main_v15 : FVec F S2816x1024 .f32 := Host.absf main_arg3
  let main_cst_5 : FVec F S_ .f32 := constant S_ .f32 0x7F800000#32
  fn_part1 (F := F) main_arg4 main_v14 main_v15 main_cst_5
-- ==== Pre_finite_latent.lean ====
abbrev S4096x2176 : Shape := ⟨2, ![4096, 2176]⟩
abbrev S1x256 : Shape := ⟨2, ![1, 256]⟩
abbrev S4096x256 : Shape := ⟨2, ![4096, 256]⟩
abbrev S_ : Shape := ⟨0, ![]⟩

class Facts : Prop where
  bcast_S_S4096x2176 : S_.BroadcastsInDim S4096x2176 (![] : Fin 0 → Fin S4096x2176.rank)
  reducesTo_S4096x2176_S_d0_1 : S4096x2176.ReducesTo [0, 1] S_
  h_S_ : 0 < S_.numel
  bcast_S_S1x256 : S_.BroadcastsInDim S1x256 (![] : Fin 0 → Fin S1x256.rank)
  reducesTo_S1x256_S_d0_1 : S1x256.ReducesTo [0, 1] S_
  bcast_S_S4096x256 : S_.BroadcastsInDim S4096x256 (![] : Fin 0 → Fin S4096x256.rank)
  reducesTo_S4096x256_S_d0_1 : S4096x256.ReducesTo [0, 1] S_

variable [Facts]

def fn {F : FTy → Type} [FloatOps F] (main_arg0 : FVec F S4096x2176 .f32) (main_arg1 : FVec F S1x256 .f32) (main_arg2 : FVec F S4096x256 .f32) : IVec S_ 1 :=
  let main_v0 : FVec F S4096x2176 .f32 := Host.absf main_arg0
  let main_cst : FVec F S_ .f32 := constant S_ .f32 0x7F800000#32
  let main_v1 : FVec F S4096x2176 .f32 := broadcastInDim S4096x2176 ![] bcast_S_S4096x2176 main_cst
  let main_v2 : IVec S4096x2176 1 := cmpf .olt main_v0 main_v1
  let main_c : IVec S_ 1 := constantI S_ 1 1#1
  let main_v3 : IVec S_ 1 := (fun x v => Host.reduce IntOp.andi x v reducesTo_S4096x2176_S_d0_1 h_S_) main_v2 main_c
  let main_c_0 : IVec S_ 1 := constantI S_ 1 1#1
  let main_v4 : IVec S_ 1 := andi main_c_0 main_v3
  let main_v5 : FVec F S1x256 .f32 := Host.absf main_arg1
  let main_cst_1 : FVec F S_ .f32 := constant S_ .f32 0x7F800000#32
  let main_v6 : FVec F S1x256 .f32 := broadcastInDim S1x256 ![] bcast_S_S1x256 main_cst_1
  let main_v7 : IVec S1x256 1 := cmpf .olt main_v5 main_v6
  let main_c_2 : IVec S_ 1 := constantI S_ 1 1#1
  let main_v8 : IVec S_ 1 := (fun x v => Host.reduce IntOp.andi x v reducesTo_S1x256_S_d0_1 h_S_) main_v7 main_c_2
  let main_v9 : IVec S_ 1 := andi main_v4 main_v8
  let main_v10 : FVec F S4096x256 .f32 := Host.absf main_arg2
  let main_cst_3 : FVec F S_ .f32 := constant S_ .f32 0x7F800000#32
  let main_v11 : FVec F S4096x256 .f32 := broadcastInDim S4096x256 ![] bcast_S_S4096x256 main_cst_3
  let main_v12 : IVec S4096x256 1 := cmpf .olt main_v10 main_v11
  let main_c_4 : IVec S_ 1 := constantI S_ 1 1#1
  let main_v13 : IVec S_ 1 := (fun x v => Host.reduce IntOp.andi x v reducesTo_S4096x256_S_d0_1 h_S_) main_v12 main_c_4
  let main_v14 : IVec S_ 1 := andi main_v9 main_v13
  main_v14
-- ==== Pre_finite_norm.lean ====
abbrev S4096x1024 : Shape := ⟨2, ![4096, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S4096x1024 .f32) (main_arg1 : FVec F S1x1024 .f32) (main_arg2 : FVec F S4096x1024 .f32) (main_arg3 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_c_0 : IVec S_ 1 := constantI S_ 1 1#1
  let main_v4 : IVec S_ 1 := andi main_c_0 main_v3
  let main_v5 : FVec F S1x1024 .f32 := Host.absf main_arg1
  let main_cst_1 : FVec F S_ .f32 := constant S_ .f32 0x7F800000#32
  let main_v6 : FVec F S1x1024 .f32 := broadcastInDim S1x1024 ![] bcast_S_S1x1024 main_cst_1
  let main_v7 : IVec S1x1024 1 := cmpf .olt main_v5 main_v6
  let main_c_2 : IVec S_ 1 := constantI S_ 1 1#1
  let main_v8 : IVec S_ 1 := (fun x v => Host.reduce IntOp.andi x v reducesTo_S1x1024_S_d0_1 h_S_) main_v7 main_c_2
  let main_v9 : IVec S_ 1 := andi main_v4 main_v8
  let main_v10 : FVec F S4096x1024 .f32 := Host.absf main_arg2
  let main_cst_3 : FVec F S_ .f32 := constant S_ .f32 0x7F800000#32
  let main_v11 : FVec F S4096x1024 .f32 := broadcastInDim S4096x1024 ![] bcast_S_S4096x1024 main_cst_3
  let main_v12 : IVec S4096x1024 1 := cmpf .olt main_v10 main_v11
  let main_c_4 : IVec S_ 1 := constantI S_ 1 1#1
  let main_v13 : IVec S_ 1 := (fun x v => Host.reduce IntOp.andi x v reducesTo_S4096x1024_S_d0_1 h_S_) main_v12 main_c_4
  let main_v14 : IVec S_ 1 := andi main_v9 main_v13
  main_v14
-- ==== Pre_finite_skip.lean ====
abbrev S4096x1024 : Shape := ⟨2, ![4096, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v14 : IVec S_ 1) (main_v15 : FVec F S4096x1024 .f32) (main_cst_5 : FVec F S_ .f32) : IVec S_ 1 :=
  let main_v16 : FVec F S4096x1024 .f32 := broadcastInDim S4096x1024 ![] bcast_S_S4096x1024 main_cst_5
  let main_v17 : IVec S4096x1024 1 := cmpf .olt main_v15 main_v16
  let main_c_6 : IVec S_ 1 := constantI S_ 1 1#1
  let main_v18 : IVec S_ 1 := (fun x v => Host.reduce IntOp.andi x v reducesTo_S4096x1024_S_d0_1 h_S_) main_v17 main_c_6
  let main_v19 : IVec S_ 1 := andi main_v14 main_v18
  main_v19

def fn {F : FTy → Type} [FloatOps F] (main_arg0 : FVec F S4096x1024 .f32) (main_arg1 : FVec F S4096x1024 .f32) (main_arg2 : FVec F S1x1024 .f32) (main_arg3 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_c_0 : IVec S_ 1 := constantI S_ 1 1#1
  let main_v4 : IVec S_ 1 := andi main_c_0 main_v3
  let main_v5 : FVec F S4096x1024 .f32 := Host.absf main_arg1
  let main_cst_1 : FVec F S_ .f32 := constant S_ .f32 0x7F800000#32
  let main_v6 : FVec F S4096x1024 .f32 := broadcastInDim S4096x1024 ![] bcast_S_S4096x1024 main_cst_1
  let main_v7 : IVec S4096x1024 1 := cmpf .olt main_v5 main_v6
  let main_c_2 : IVec S_ 1 := constantI S_ 1 1#1
  let main_v8 : IVec S_ 1 := (fun x v => Host.reduce IntOp.andi x v reducesTo_S4096x1024_S_d0_1 h_S_) main_v7 main_c_2
  let main_v9 : IVec S_ 1 := andi main_v4 main_v8
  let main_v10 : FVec F S1x1024 .f32 := Host.absf main_arg2
  let main_cst_3 : FVec F S_ .f32 := constant S_ .f32 0x7F800000#32
  let main_v11 : FVec F S1x1024 .f32 := broadcastInDim S1x1024 ![] bcast_S_S1x1024 main_cst_3
  let main_v12 : IVec S1x1024 1 := cmpf .olt main_v10 main_v11
  let main_c_4 : IVec S_ 1 := constantI S_ 1 1#1
  let main_v13 : IVec S_ 1 := (fun x v => Host.reduce IntOp.andi x v reducesTo_S1x1024_S_d0_1 h_S_) main_v12 main_c_4
  let main_v14 : IVec S_ 1 := andi main_v9 main_v13
  let main_v15 : FVec F S4096x1024 .f32 := Host.absf main_arg3
  let main_cst_5 : FVec F S_ .f32 := constant S_ .f32 0x7F800000#32
  fn_part1 (F := F) main_v14 main_v15 main_cst_5
-- ==== Kernel.lean ====
abbrev S4096x2816 : Shape := ⟨2, ![4096, 2816]⟩
abbrev S3x5632 : Shape := ⟨2, ![3, 5632]⟩
abbrev S2816x1024 : Shape := ⟨2, ![2816, 1024]⟩
abbrev S4096x1024 : Shape := ⟨2, ![4096, 1024]⟩
abbrev S3x2816 : Shape := ⟨2, ![3, 2816]⟩
abbrev S1024x256 : Shape := ⟨2, ![1024, 256]⟩
abbrev S8x256 : Shape := ⟨2, ![8, 256]⟩
abbrev S3x256 : Shape := ⟨2, ![3, 256]⟩
abbrev S1024x1024 : Shape := ⟨2, ![1024, 1024]⟩
abbrev S16x1024 : Shape := ⟨2, ![16, 1024]⟩
abbrev S256x1024 : Shape := ⟨2, ![256, 1024]⟩
abbrev S1040x256 : Shape := ⟨2, ![1040, 256]⟩
abbrev S1x256 : Shape := ⟨2, ![1, 256]⟩
abbrev S1032x256 : Shape := ⟨2, ![1032, 256]⟩
abbrev S16x256 : Shape := ⟨2, ![16, 256]⟩
abbrev S256 : Shape := ⟨1, ![256]⟩

abbrev nBuf : Space → Nat
  | .hbm => 11
  | .vmem => 30
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S3x5632, .f32⟩
  | .hbm, ⟨3, _⟩ => ⟨S2816x1024, .f32⟩
  | .hbm, ⟨4, _⟩ => ⟨S4096x1024, .f32⟩
  | .hbm, ⟨5, _⟩ => ⟨S4096x1024, .bf16⟩
  | .hbm, ⟨6, _⟩ => ⟨S2816x1024, .bf16⟩
  | .hbm, ⟨7, _⟩ => ⟨S4096x2816, .bf16⟩
  | .hbm, ⟨8, _⟩ => ⟨S4096x2816, .bf16⟩
  | .hbm, ⟨9, _⟩ => ⟨S3x2816, .f32⟩
  | .hbm, ⟨10, _⟩ => ⟨S3x2816, .f32⟩
  | .local _ .vmem, ⟨0, _⟩ => ⟨S1024x256, .f32⟩
  | .local _ .vmem, ⟨1, _⟩ => ⟨S1024x256, .f32⟩
  | .local _ .vmem, ⟨2, _⟩ => ⟨S8x256, .f32⟩
  | .local _ .vmem, ⟨3, _⟩ => ⟨S8x256, .f32⟩
  | .local _ .vmem, ⟨4, _⟩ => ⟨S8x256, .f32⟩
  | .local _ .vmem, ⟨5, _⟩ => ⟨S8x256, .f32⟩
  | .local _ .vmem, ⟨6, _⟩ => ⟨S1024x256, .f32⟩
  | .local _ .vmem, ⟨7, _⟩ => ⟨S1024x256, .f32⟩
  | .local _ .vmem, ⟨8, _⟩ => ⟨S8x256, .f32⟩
  | .local _ .vmem, ⟨9, _⟩ => ⟨S8x256, .f32⟩
  | .local _ .vmem, ⟨10, _⟩ => ⟨S8x256, .f32⟩
  | .local _ .vmem, ⟨11, _⟩ => ⟨S8x256, .f32⟩
  | .local _ .vmem, ⟨12, _⟩ => ⟨S3x256, .f32⟩
  | .local _ .vmem, ⟨13, _⟩ => ⟨S3x256, .f32⟩
  | .local _ .vmem, ⟨14, _⟩ => ⟨S3x256, .f32⟩
  | .local _ .vmem, ⟨15, _⟩ => ⟨S3x256, .f32⟩
  | .local _ .vmem, ⟨16, _⟩ => ⟨S1024x1024, .bf16⟩
  | .local _ .vmem, ⟨17, _⟩ => ⟨S1024x1024, .bf16⟩
  | .local _ .vmem, ⟨18, _⟩ => ⟨S16x1024, .bf16⟩
  | .local _ .vmem, ⟨19, _⟩ => ⟨S16x1024, .bf16⟩
  | .local _ .vmem, ⟨20, _⟩ => ⟨S256x1024, .bf16⟩
  | .local _ .vmem, ⟨21, _⟩ => ⟨S256x1024, .bf16⟩
  | .local _ .vmem, ⟨22, _⟩ => ⟨S1024x256, .bf16⟩
  | .local _ .vmem, ⟨23, _⟩ => ⟨S1024x256, .bf16⟩
  | .local _ .vmem, ⟨24, _⟩ => ⟨S1024x256, .bf16⟩
  | .local _ .vmem, ⟨25, _⟩ => ⟨S1024x256, .bf16⟩
  | .local _ .vmem, ⟨26, _⟩ => ⟨S3x256, .f32⟩
  | .local _ .vmem, ⟨27, _⟩ => ⟨S3x256, .f32⟩
  | .local _ .vmem, ⟨28, _⟩ => ⟨S3x256, .f32⟩
  | .local _ .vmem, ⟨29, _⟩ => ⟨S3x256, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c0_i32 : BitVec 32 := 0#32
  ![v2.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S3x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S16x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S3x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S3x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== ReferenceIdeal.lean ====
abbrev S4096x2816 : Shape := ⟨2, ![4096, 2816]⟩
abbrev S3x5632 : Shape := ⟨2, ![3, 5632]⟩
abbrev S2816x1024 : Shape := ⟨2, ![2816, 1024]⟩
abbrev S4096x1024 : Shape := ⟨2, ![4096, 1024]⟩
abbrev S4096x5632 : Shape := ⟨2, ![4096, 5632]⟩
abbrev S_ : Shape := ⟨0, ![]⟩
abbrev S2x5632 : Shape := ⟨2, ![2, 5632]⟩
abbrev S4098x5632 : Shape := ⟨2, ![4098, 5632]⟩
abbrev S1x5632 : Shape := ⟨2, ![1, 5632]⟩
abbrev S5632 : Shape := ⟨1, ![5632]⟩
abbrev S3x2816 : Shape := ⟨2, ![3, 2816]⟩

abbrev nBuf : Space → Nat
  | .hbm => 92
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S3x5632, .f32⟩
  | .hbm, ⟨3, _⟩ => ⟨S2816x1024, .f32⟩
  | .hbm, ⟨4, _⟩ => ⟨S4096x1024, .f32⟩
  | .hbm, ⟨5, _⟩ => ⟨S4096x5632, .f32⟩
  | .hbm, ⟨6, _⟩ => ⟨S_, .f32⟩
  | .hbm, ⟨7, _⟩ => ⟨S2x5632, .f32⟩
  | .hbm, ⟨8, _⟩ => ⟨S4098x5632, .f32⟩
  | .hbm, ⟨9, _⟩ => ⟨S_, .f32⟩
  | .hbm, ⟨10, _⟩ => ⟨S2x5632, .f32⟩
  | .hbm, ⟨11, _⟩ => ⟨S1x5632, .f32⟩
  | .hbm, ⟨12, _⟩ => ⟨S4096x5632, .f32⟩
  | .hbm, ⟨13, _⟩ => ⟨S4096x5632, .f32⟩
  | .hbm, ⟨14, _⟩ => ⟨S4096x5632, .f32⟩
  | .hbm, ⟨15, _⟩ => ⟨S1x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S1x5632, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x1024, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x5632, .f32⟩
  | .hbm, ⟨50, _⟩ => ⟨S4096x5632, .f32⟩
  | .hbm, ⟨51, _⟩ => ⟨S4096x5632, .f32⟩
  | .hbm, ⟨52, _⟩ => ⟨S4096x5632, .f32⟩
  | .hbm, ⟨53, _⟩ => ⟨S_, .f32⟩
  | .hbm, ⟨54, _⟩ => ⟨S5632, .f32⟩
  | .hbm, ⟨55, _⟩ => ⟨S1x5632, .f32⟩
  | .hbm, ⟨56, _⟩ => ⟨S_, .f32⟩
  | .hbm, ⟨57, _⟩ => ⟨S4098x5632, .f32⟩
  | .hbm, ⟨58, _⟩ => ⟨S_, .f32⟩
  | .hbm, ⟨59, _⟩ => ⟨S3x5632, .f32⟩
  | .hbm, ⟨60, _⟩ => ⟨S4096x5632, .f32⟩
  | .hbm, ⟨61, _⟩ => ⟨S4096x5632, .f32⟩
  | .hbm, ⟨62, _⟩ => ⟨S4096x5632, .f32⟩
  | .hbm, ⟨63, _⟩ => ⟨S_, .f32⟩
  | .hbm, ⟨64, _⟩ => ⟨S5632, .f32⟩
  | .hbm, ⟨65, _⟩ => ⟨S1x5632, .f32⟩
  | .hbm, ⟨66, _⟩ => ⟨S_, .f32⟩
  | .hbm, ⟨67, _⟩ => ⟨S4098x5632, .f32⟩
  | .hbm, ⟨68, _⟩ => ⟨S4098x5632, .f32⟩
  | .hbm, ⟨69, _⟩ => ⟨S_, .f32⟩
  | .hbm, ⟨70, _⟩ => ⟨S3x5632, .f32⟩
  | .hbm, ⟨71, _⟩ => ⟨S3x5632, .f32⟩
  | .hbm, ⟨72, _⟩ => ⟨S4096x5632, .f32⟩
  | .hbm, ⟨73, _⟩ => ⟨S4096x5632, .f32⟩
  | .hbm, ⟨74, _⟩ => ⟨S4096x5632, .f32⟩
  | .hbm, ⟨75, _⟩ => ⟨S_, .f32⟩
  | .hbm, ⟨76, _⟩ => ⟨S5632, .f32⟩
  | .hbm, ⟨77, _⟩ => ⟨S1x5632, .f32⟩
  | .hbm, ⟨78, _⟩ => ⟨S_, .f32⟩
  | .hbm, ⟨79, _⟩ => ⟨S4098x5632, .f32⟩
  | .hbm, ⟨80, _⟩ => ⟨S4098x5632, .f32⟩
  | .hbm, ⟨81, _⟩ => ⟨S_, .f32⟩
  | .hbm, ⟨82, _⟩ => ⟨S3x5632, .f32⟩
  | .hbm, ⟨83, _⟩ => ⟨S3x5632, .f32⟩
  | .hbm, ⟨84, _⟩ => ⟨S2x5632, .f32⟩
  | .hbm, ⟨85, _⟩ => ⟨S4096x5632, .f32⟩
  | .hbm, ⟨86, _⟩ => ⟨S4096x2816, .f32⟩
  | .hbm, ⟨87, _⟩ => ⟨S4096x2816, .f32⟩
  | .hbm, ⟨88, _⟩ => ⟨S3x2816, .f32⟩
  | .hbm, ⟨89, _⟩ => ⟨S3x2816, .f32⟩
  | .hbm, ⟨90, _⟩ => ⟨S4096x2816, .bf16⟩
  | .hbm, ⟨91, _⟩ => ⟨S4096x2816, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v20_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v20_1 : Ref sig .tc := ⟨.hbm, 38, rfl⟩
abbrev main_v20_0 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_1 : Ref sig .tc := ⟨.hbm, 53, rfl⟩
abbrev main_v31 : Ref sig .tc := ⟨.hbm, 54, rfl⟩
abbrev main_v32 : Ref sig .tc := ⟨.hbm, 55, rfl⟩
abbrev main_cst_2 : Ref sig .tc := ⟨.hbm, 56, rfl⟩
abbrev main_v33 : Ref sig .tc := ⟨.hbm, 57, rfl⟩
abbrev main_cst_3 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_4 : Ref sig .tc := ⟨.hbm, 63, rfl⟩
abbrev main_v38 : Ref sig .tc := ⟨.hbm, 64, rfl⟩
abbrev main_v39 : Ref sig .tc := ⟨.hbm, 65, rfl⟩
abbrev main_cst_5 : Ref sig .tc := ⟨.hbm, 66, rfl⟩
abbrev main_v40 : Ref sig .tc := ⟨.hbm, 67, rfl⟩
abbrev main_v41 : Ref sig .tc := ⟨.hbm, 68, rfl⟩
abbrev main_cst_6 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_7 : Ref sig .tc := ⟨.hbm, 75, rfl⟩
abbrev main_v47 : Ref sig .tc := ⟨.hbm, 76, rfl⟩
abbrev main_v48 : Ref sig .tc := ⟨.hbm, 77, rfl⟩
abbrev main_cst_8 : Ref sig .tc := ⟨.hbm, 78, rfl⟩
abbrev main_v49 : Ref sig .tc := ⟨.hbm, 79, rfl⟩
abbrev main_v50 : Ref sig .tc := ⟨.hbm, 80, rfl⟩
abbrev main_cst_9 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩

abbrev nD : Nat := 1
abbrev τ : Topo := Topo.v7x

variable {F : FTy → Type} [FloatOps F]
-- ==== Kernel2.lean ====
abbrev S4096x1024 : Shape := ⟨2, ![4096, 1024]⟩
abbrev S1024x5632 : Shape := ⟨2, ![1024, 5632]⟩
abbrev S3x5632 : Shape := ⟨2, ![3, 5632]⟩
abbrev S4096x2816 : Shape := ⟨2, ![4096, 2816]⟩
abbrev S1024x1024 : Shape := ⟨2, ![1024, 1024]⟩
abbrev S16x1024 : Shape := ⟨2, ![16, 1024]⟩
abbrev S1024x256 : Shape := ⟨2, ![1024, 256]⟩
abbrev S3x256 : Shape := ⟨2, ![3, 256]⟩
abbrev S16x256 : Shape := ⟨2, ![16, 256]⟩
abbrev S1040x256 : Shape := ⟨2, ![1040, 256]⟩
abbrev S1x256 : Shape := ⟨2, ![1, 256]⟩

abbrev nBuf : Space → Nat
  | .hbm => 8
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S3x5632, .f32⟩
  | .hbm, ⟨3, _⟩ => ⟨S4096x1024, .bf16⟩
  | .hbm, ⟨4, _⟩ => ⟨S1024x5632, .bf16⟩
  | .hbm, ⟨5, _⟩ => ⟨S4096x2816, .f32⟩
  | .hbm, ⟨6, _⟩ => ⟨S4096x2816, .f32⟩
  | .hbm, ⟨7, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S16x1024, .bf16⟩
  | .local _ .vmem, ⟨3, _⟩ => ⟨S16x1024, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S3x256, .f32⟩
  | .local _ .vmem, ⟨9, _⟩ => ⟨S3x256, .f32⟩
  | .local _ .vmem, ⟨10, _⟩ => ⟨S3x256, .f32⟩
  | .local _ .vmem, ⟨11, _⟩ => ⟨S3x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x256, .bf16⟩
  | .local _ .vmem, ⟨17, _⟩ => ⟨S1024x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S4096x1024 : Shape := ⟨2, ![4096, 1024]⟩
abbrev S1024x5632 : Shape := ⟨2, ![1024, 5632]⟩
abbrev S3x5632 : Shape := ⟨2, ![3, 5632]⟩
abbrev S4096x5632 : Shape := ⟨2, ![4096, 5632]⟩
abbrev S_ : Shape := ⟨0, ![]⟩
abbrev S2x5632 : Shape := ⟨2, ![2, 5632]⟩
abbrev S4098x5632 : Shape := ⟨2, ![4098, 5632]⟩
abbrev S1x5632 : Shape := ⟨2, ![1, 5632]⟩
abbrev S4096x2816 : Shape := ⟨2, ![4096, 2816]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S3x5632, .f32⟩
  | .hbm, ⟨3, _⟩ => ⟨S4096x5632, .f32⟩
  | .hbm, ⟨4, _⟩ => ⟨S_, .f32⟩
  | .hbm, ⟨5, _⟩ => ⟨S2x5632, .f32⟩
  | .hbm, ⟨6, _⟩ => ⟨S4098x5632, .f32⟩
  | .hbm, ⟨7, _⟩ => ⟨S1x5632, .f32⟩
  | .hbm, ⟨8, _⟩ => ⟨S4096x5632, .f32⟩
  | .hbm, ⟨9, _⟩ => ⟨S4096x5632, .f32⟩
  | .hbm, ⟨10, _⟩ => ⟨S4096x5632, .f32⟩
  | .hbm, ⟨11, _⟩ => ⟨S1x5632, .f32⟩
  | .hbm, ⟨12, _⟩ => ⟨S4096x5632, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S1x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]
-- ==== Kernel3.lean ====
abbrev S4096x2816 : Shape := ⟨2, ![4096, 2816]⟩
abbrev S2816x1024 : Shape := ⟨2, ![2816, 1024]⟩
abbrev S4096x1024 : Shape := ⟨2, ![4096, 1024]⟩
abbrev S512x2816 : Shape := ⟨2, ![512, 2816]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x2816, .bf16⟩
  | .hbm, ⟨4, _⟩ => ⟨S2816x1024, .bf16⟩
  | .hbm, ⟨5, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel4.lean ====
abbrev S4096x2816 : Shape := ⟨2, ![4096, 2816]⟩
abbrev S2816x1024 : Shape := ⟨2, ![2816, 1024]⟩
abbrev S4096x1024 : Shape := ⟨2, ![4096, 1024]⟩
abbrev S4096x256 : Shape := ⟨2, ![4096, 256]⟩
abbrev S256x1024 : Shape := ⟨2, ![256, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x2816, .bf16⟩
  | .hbm, ⟨4, _⟩ => ⟨S4096x1024, .bf16⟩
  | .hbm, ⟨5, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S1024x2816, .f32⟩
  | .hbm, ⟨5, _⟩ => ⟨S2816x1024, .f32⟩
  | .hbm, ⟨6, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S4096x1024 : Shape := ⟨2, ![4096, 1024]⟩
abbrev S1024x2816 : Shape := ⟨2, ![1024, 2816]⟩
abbrev S4096x2816 : Shape := ⟨2, ![4096, 2816]⟩
abbrev S4096x256 : Shape := ⟨2, ![4096, 256]⟩
abbrev S1024x256 : Shape := ⟨2, ![1024, 256]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S4096x2816, .f32⟩
  | .hbm, ⟨3, _⟩ => ⟨S4096x1024, .bf16⟩
  | .hbm, ⟨4, _⟩ => ⟨S4096x2816, .bf16⟩
  | .hbm, ⟨5, _⟩ => ⟨S1024x2816, .bf16⟩
  | .local _ .vmem, ⟨0, _⟩ => ⟨S4096x1024, .bf16⟩
  | .local _ .vmem, ⟨1, _⟩ => ⟨S4096x256, .bf16⟩
  | .local _ .vmem, ⟨2, _⟩ => ⟨S4096x256, .bf16⟩
  | .local _ .vmem, ⟨3, _⟩ => ⟨S1024x256, .bf16⟩
  | .local _ .vmem, ⟨4, _⟩ => ⟨S1024x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4096x1024 : Shape := ⟨2, ![4096, 1024]⟩
abbrev S1024x2816 : Shape := ⟨2, ![1024, 2816]⟩
abbrev S4096x2816 : Shape := ⟨2, ![4096, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S4096x2816, .f32⟩
  | .hbm, ⟨3, _⟩ => ⟨S4096x2816, .f32⟩
  | .hbm, ⟨4, _⟩ => ⟨S2816x1024, .f32⟩
  | .hbm, ⟨5, _⟩ => ⟨S1024x2816, .f32⟩
  | .hbm, ⟨6, _⟩ => ⟨S1024x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S4096x1024 : Shape := ⟨2, ![4096, 1024]⟩
abbrev S1024x5632 : Shape := ⟨2, ![1024, 5632]⟩
abbrev S4096x2816 : Shape := ⟨2, ![4096, 2816]⟩
abbrev S256x2816 : Shape := ⟨2, ![256, 2816]⟩
abbrev S1024x2816 : Shape := ⟨2, ![1024, 2816]⟩
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x2816, .f32⟩
  | .hbm, ⟨3, _⟩ => ⟨S4096x2816, .f32⟩
  | .hbm, ⟨4, _⟩ => ⟨S4096x2816, .bf16⟩
  | .hbm, ⟨5, _⟩ => ⟨S4096x2816, .bf16⟩
  | .hbm, ⟨6, _⟩ => ⟨S1024x5632, .bf16⟩
  | .hbm, ⟨7, _⟩ => ⟨S4096x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S1024x2816, .bf16⟩
  | .local _ .vmem, ⟨5, _⟩ => ⟨S1024x2816, .bf16⟩
  | .local _ .vmem, ⟨6, _⟩ => ⟨S256x1024, .f32⟩
  | .local _ .vmem, ⟨7, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S4096x1024 : Shape := ⟨2, ![4096, 1024]⟩
abbrev S1024x5632 : Shape := ⟨2, ![1024, 5632]⟩
abbrev S4096x2816 : Shape := ⟨2, ![4096, 2816]⟩
abbrev S4096x5632 : Shape := ⟨2, ![4096, 5632]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x2816, .f32⟩
  | .hbm, ⟨3, _⟩ => ⟨S4096x2816, .f32⟩
  | .hbm, ⟨4, _⟩ => ⟨S4096x5632, .f32⟩
  | .hbm, ⟨5, _⟩ => ⟨S4096x5632, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel7.lean ====
abbrev S4096x1024 : Shape := ⟨2, ![4096, 1024]⟩
abbrev S1024x2176 : Shape := ⟨2, ![1024, 2176]⟩
abbrev S4096x2176 : Shape := ⟨2, ![4096, 2176]⟩
abbrev S256x1024 : Shape := ⟨2, ![256, 1024]⟩
abbrev S256x2176 : Shape := ⟨2, ![256, 2176]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x2176, .f32⟩
  | .hbm, ⟨2, _⟩ => ⟨S4096x1024, .bf16⟩
  | .hbm, ⟨3, _⟩ => ⟨S1024x2176, .bf16⟩
  | .hbm, ⟨4, _⟩ => ⟨S4096x2176, .f32⟩
  | .local _ .vmem, ⟨0, _⟩ => ⟨S256x1024, .bf16⟩
  | .local _ .vmem, ⟨1, _⟩ => ⟨S256x1024, .bf16⟩
  | .local _ .vmem, ⟨2, _⟩ => ⟨S1024x2176, .bf16⟩
  | .local _ .vmem, ⟨3, _⟩ => ⟨S256x2176, .f32⟩
  | .local _ .vmem, ⟨4, _⟩ => ⟨S256x2176, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x2176 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S4096x1024 : Shape := ⟨2, ![4096, 1024]⟩
abbrev S1024x2176 : Shape := ⟨2, ![1024, 2176]⟩
abbrev S4096x2176 : Shape := ⟨2, ![4096, 2176]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2176, .f32⟩
  | .hbm, ⟨2, _⟩ => ⟨S4096x2176, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel8.lean ====
abbrev S4096x256 : Shape := ⟨2, ![4096, 256]⟩
abbrev S256x1024 : Shape := ⟨2, ![256, 1024]⟩
abbrev S4096x1024 : Shape := ⟨2, ![4096, 1024]⟩
abbrev S512x256 : Shape := ⟨2, ![512, 256]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S4096x256, .bf16⟩
  | .hbm, ⟨3, _⟩ => ⟨S256x1024, .bf16⟩
  | .hbm, ⟨4, _⟩ => ⟨S4096x1024, .f32⟩
  | .local _ .vmem, ⟨0, _⟩ => ⟨S512x256, .bf16⟩
  | .local _ .vmem, ⟨1, _⟩ => ⟨S512x256, .bf16⟩
  | .local _ .vmem, ⟨2, _⟩ => ⟨S256x1024, .bf16⟩
  | .local _ .vmem, ⟨3, _⟩ => ⟨S512x1024, .f32⟩
  | .local _ .vmem, ⟨4, _⟩ => ⟨S512x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4096x256 : Shape := ⟨2, ![4096, 256]⟩
abbrev S256x1024 : Shape := ⟨2, ![256, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S4096x1024, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel9.lean ====
abbrev S4096x256 : Shape := ⟨2, ![4096, 256]⟩
abbrev S256x2048 : Shape := ⟨2, ![256, 2048]⟩
abbrev S4096x2048 : Shape := ⟨2, ![4096, 2048]⟩
abbrev S256x256 : Shape := ⟨2, ![256, 256]⟩

abbrev nBuf : Space → Nat
  | .hbm => 5
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S4096x256, .bf16⟩
  | .hbm, ⟨3, _⟩ => ⟨S256x2048, .bf16⟩
  | .hbm, ⟨4, _⟩ => ⟨S4096x2048, .f32⟩
  | .local _ .vmem, ⟨0, _⟩ => ⟨S256x256, .bf16⟩
  | .local _ .vmem, ⟨1, _⟩ => ⟨S256x256, .bf16⟩
  | .local _ .vmem, ⟨2, _⟩ => ⟨S256x2048, .bf16⟩
  | .local _ .vmem, ⟨3, _⟩ => ⟨S256x2048, .f32⟩
  | .local _ .vmem, ⟨4, _⟩ => ⟨S256x2048, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S4096x256 : Shape := ⟨2, ![4096, 256]⟩
abbrev S256x2048 : Shape := ⟨2, ![256, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S4096x2048, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel11.lean ====
abbrev S4096x512 : Shape := ⟨2, ![4096, 512]⟩
abbrev S512x1024 : Shape := ⟨2, ![512, 1024]⟩
abbrev S4096x1024 : Shape := ⟨2, ![4096, 1024]⟩
abbrev S512x512 : Shape := ⟨2, ![512, 512]⟩

abbrev nBuf : Space → Nat
  | .hbm => 6
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S4096x512, .bf16⟩
  | .hbm, ⟨4, _⟩ => ⟨S512x1024, .bf16⟩
  | .hbm, ⟨5, _⟩ => ⟨S4096x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel12.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel13.lean ====
abbrev S4096x512 : Shape := ⟨2, ![4096, 512]⟩
abbrev S512x1024 : Shape := ⟨2, ![512, 1024]⟩
abbrev S4096x1024 : Shape := ⟨2, ![4096, 1024]⟩
abbrev S1024x1024 : Shape := ⟨2, ![1024, 1024]⟩
abbrev S1024x512 : Shape := ⟨2, ![1024, 512]⟩

abbrev nBuf : Space → Nat
  | .hbm => 6
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S4096x1024, .bf16⟩
  | .hbm, ⟨4, _⟩ => ⟨S512x1024, .bf16⟩
  | .hbm, ⟨5, _⟩ => ⟨S4096x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S4096x1024, .f32⟩
  | .hbm, ⟨4, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel14.lean ====
abbrev S4096x1024 : Shape := ⟨2, ![4096, 1024]⟩
abbrev S1024x1024 : Shape := ⟨2, ![1024, 1024]⟩
abbrev S4096x512 : Shape := ⟨2, ![4096, 512]⟩
abbrev S1024x512 : Shape := ⟨2, ![1024, 512]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S1024x1024, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 6
  | .vmem => 3
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S4096x512, .bf16⟩
  | .hbm, ⟨4, _⟩ => ⟨S4096x1024, .bf16⟩
  | .hbm, ⟨5, _⟩ => ⟨S512x1024, .bf16⟩
  | .local _ .vmem, ⟨0, _⟩ => ⟨S4096x512, .bf16⟩
  | .local _ .vmem, ⟨1, _⟩ => ⟨S4096x1024, .bf16⟩
  | .local _ .vmem, ⟨2, _⟩ => ⟨S512x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference15Ideal.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S4096x1024, .f32⟩
  | .hbm, ⟨4, _⟩ => ⟨S1024x512, .f32⟩
  | .hbm, ⟨5, _⟩ => ⟨S512x1024, .f32⟩
  | .hbm, ⟨6, _⟩ => ⟨S512x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel16.lean ====
abbrev S4096x256 : Shape := ⟨2, ![4096, 256]⟩
abbrev S256x1024 : Shape := ⟨2, ![256, 1024]⟩
abbrev S4096x1024 : Shape := ⟨2, ![4096, 1024]⟩
abbrev S1024x1024 : Shape := ⟨2, ![1024, 1024]⟩
abbrev S1024x256 : Shape := ⟨2, ![1024, 256]⟩

abbrev nBuf : Space → Nat
  | .hbm => 6
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S4096x1024, .f32⟩
  | .hbm, ⟨3, _⟩ => ⟨S4096x1024, .bf16⟩
  | .hbm, ⟨4, _⟩ => ⟨S256x1024, .bf16⟩
  | .hbm, ⟨5, _⟩ => ⟨S4096x256, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S1024x256, .f32⟩
  | .local _ .vmem, ⟨4, _⟩ => ⟨S1024x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference16Ideal.lean ====
abbrev S4096x256 : Shape := ⟨2, ![4096, 256]⟩
abbrev S256x1024 : Shape := ⟨2, ![256, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S4096x1024, .f32⟩
  | .hbm, ⟨3, _⟩ => ⟨S4096x1024, .f32⟩
  | .hbm, ⟨4, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel17.lean ====
abbrev S4096x256 : Shape := ⟨2, ![4096, 256]⟩
abbrev S256x1024 : Shape := ⟨2, ![256, 1024]⟩
abbrev S4096x1024 : Shape := ⟨2, ![4096, 1024]⟩

abbrev nBuf : Space → Nat
  | .hbm => 6
  | .vmem => 3
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S4096x1024, .f32⟩
  | .hbm, ⟨3, _⟩ => ⟨S4096x256, .bf16⟩
  | .hbm, ⟨4, _⟩ => ⟨S4096x1024, .bf16⟩
  | .hbm, ⟨5, _⟩ => ⟨S256x1024, .bf16⟩
  | .local _ .vmem, ⟨0, _⟩ => ⟨S4096x256, .bf16⟩
  | .local _ .vmem, ⟨1, _⟩ => ⟨S4096x1024, .bf16⟩
  | .local _ .vmem, ⟨2, _⟩ => ⟨S256x1024, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference17Ideal.lean ====
abbrev S4096x256 : Shape := ⟨2, ![4096, 256]⟩
abbrev S256x1024 : Shape := ⟨2, ![256, 1024]⟩
abbrev S4096x1024 : Shape := ⟨2, ![4096, 1024]⟩
abbrev S1024x256 : Shape := ⟨2, ![1024, 256]⟩

abbrev nBuf : Space → Nat
  | .hbm => 7
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S4096x1024, .f32⟩
  | .hbm, ⟨3, _⟩ => ⟨S4096x1024, .f32⟩
  | .hbm, ⟨4, _⟩ => ⟨S1024x256, .f32⟩
  | .hbm, ⟨5, _⟩ => ⟨S256x1024, .f32⟩
  | .hbm, ⟨6, _⟩ => ⟨S256x1024, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel18.lean ====
abbrev S4096x256 : Shape := ⟨2, ![4096, 256]⟩
abbrev S256x2048 : Shape := ⟨2, ![256, 2048]⟩
abbrev S4096x1024 : Shape := ⟨2, ![4096, 1024]⟩
abbrev S1024x1024 : Shape := ⟨2, ![1024, 1024]⟩
abbrev S256x1024 : Shape := ⟨2, ![256, 1024]⟩
abbrev S1024x256 : Shape := ⟨2, ![1024, 256]⟩

abbrev nBuf : Space → Nat
  | .hbm => 8
  | .vmem => 8
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S4096x1024, .f32⟩
  | .hbm, ⟨3, _⟩ => ⟨S4096x1024, .f32⟩
  | .hbm, ⟨4, _⟩ => ⟨S4096x1024, .bf16⟩
  | .hbm, ⟨5, _⟩ => ⟨S4096x1024, .bf16⟩
  | .hbm, ⟨6, _⟩ => ⟨S256x2048, .bf16⟩
  | .hbm, ⟨7, _⟩ => ⟨S4096x256, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .bf16⟩
  | .local _ .vmem, ⟨5, _⟩ => ⟨S256x1024, .bf16⟩
  | .local _ .vmem, ⟨6, _⟩ => ⟨S1024x256, .f32⟩
  | .local _ .vmem, ⟨7, _⟩ => ⟨S1024x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference18Ideal.lean ====
abbrev S4096x256 : Shape := ⟨2, ![4096, 256]⟩
abbrev S256x2048 : Shape := ⟨2, ![256, 2048]⟩
abbrev S4096x1024 : Shape := ⟨2, ![4096, 1024]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S4096x1024, .f32⟩
  | .hbm, ⟨3, _⟩ => ⟨S4096x1024, .f32⟩
  | .hbm, ⟨4, _⟩ => ⟨S4096x2048, .f32⟩
  | .hbm, ⟨5, _⟩ => ⟨S4096x2048, .f32⟩
  | .hbm, ⟨6, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel19.lean ====
abbrev S4096x1024 : Shape := ⟨2, ![4096, 1024]⟩
abbrev S1024x256 : Shape := ⟨2, ![1024, 256]⟩
abbrev S4096x256 : Shape := ⟨2, ![4096, 256]⟩

abbrev nBuf : Space → Nat
  | .hbm => 6
  | .vmem => 3
  | .smem => 0
  | _ => 0

abbrev bufTy : (tb : Table) → Fin (tcTables nBuf tb) → BufTy
  | .hbm, ⟨0, _⟩ => ⟨S4096x1024, .f32⟩
  | .hbm, ⟨1, _⟩ => ⟨S1024x256, .f32⟩
  | .hbm, ⟨2, _⟩ => ⟨S4096x256, .f32⟩
  | .hbm, ⟨3, _⟩ => ⟨S4096x1024, .bf16⟩
  | .hbm, ⟨4, _⟩ => ⟨S4096x256, .bf16⟩
  | .hbm, ⟨5, _⟩ => ⟨S1024x256, .bf16⟩
  | .local _ .vmem, ⟨0, _⟩ => ⟨S4096x1024, .bf16⟩
  | .local _ .vmem, ⟨1, _⟩ => ⟨S4096x256, .bf16⟩
  | .local _ .vmem, ⟨2, _⟩ => ⟨S1024x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference19Ideal.lean ====
abbrev S4096x1024 : Shape := ⟨2, ![4096, 1024]⟩
abbrev S1024x256 : Shape := ⟨2, ![1024, 256]⟩
abbrev S4096x256 : Shape := ⟨2, ![4096, 256]⟩
abbrev S256x1024 : Shape := ⟨2, ![256, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x256, .f32⟩
  | .hbm, ⟨2, _⟩ => ⟨S4096x256, .f32⟩
  | .hbm, ⟨3, _⟩ => ⟨S4096x256, .f32⟩
  | .hbm, ⟨4, _⟩ => ⟨S256x1024, .f32⟩
  | .hbm, ⟨5, _⟩ => ⟨S1024x256, .f32⟩
  | .hbm, ⟨6, _⟩ => ⟨S1024x256, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel20.lean ====
abbrev S4096x1024 : Shape := ⟨2, ![4096, 1024]⟩
abbrev S1024x512 : Shape := ⟨2, ![1024, 512]⟩
abbrev S4096x512 : Shape := ⟨2, ![4096, 512]⟩

abbrev nBuf : Space → Nat
  | .hbm => 6
  | .vmem => 3
  | .smem => 0
  | _ => 0

abbrev bufTy : (tb : Table) → Fin (tcTables nBuf tb) → BufTy
  | .hbm, ⟨0, _⟩ => ⟨S4096x1024, .f32⟩
  | .hbm, ⟨1, _⟩ => ⟨S1024x512, .f32⟩
  | .hbm, ⟨2, _⟩ => ⟨S4096x512, .f32⟩
  | .hbm, ⟨3, _⟩ => ⟨S4096x1024, .bf16⟩
  | .hbm, ⟨4, _⟩ => ⟨S4096x512, .bf16⟩
  | .hbm, ⟨5, _⟩ => ⟨S1024x512, .bf16⟩
  | .local _ .vmem, ⟨0, _⟩ => ⟨S4096x1024, .bf16⟩
  | .local _ .vmem, ⟨1, _⟩ => ⟨S4096x512, .bf16⟩
  | .local _ .vmem, ⟨2, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference20Ideal.lean ====
abbrev S4096x1024 : Shape := ⟨2, ![4096, 1024]⟩
abbrev S1024x512 : Shape := ⟨2, ![1024, 512]⟩
abbrev S4096x512 : Shape := ⟨2, ![4096, 512]⟩
abbrev S512x1024 : Shape := ⟨2, ![512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x512, .f32⟩
  | .hbm, ⟨2, _⟩ => ⟨S4096x512, .f32⟩
  | .hbm, ⟨3, _⟩ => ⟨S4096x512, .f32⟩
  | .hbm, ⟨4, _⟩ => ⟨S512x1024, .f32⟩
  | .hbm, ⟨5, _⟩ => ⟨S1024x512, .f32⟩
  | .hbm, ⟨6, _⟩ => ⟨S1024x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel21.lean ====
abbrev S4096x1024 : Shape := ⟨2, ![4096, 1024]⟩
abbrev S1024x128 : Shape := ⟨2, ![1024, 128]⟩
abbrev S4096x128 : Shape := ⟨2, ![4096, 128]⟩

abbrev nBuf : Space → Nat
  | .hbm => 5
  | .vmem => 3
  | .smem => 0
  | _ => 0

abbrev bufTy : (tb : Table) → Fin (tcTables nBuf tb) → BufTy
  | .hbm, ⟨0, _⟩ => ⟨S4096x1024, .f32⟩
  | .hbm, ⟨1, _⟩ => ⟨S1024x128, .f32⟩
  | .hbm, ⟨2, _⟩ => ⟨S4096x128, .f32⟩
  | .hbm, ⟨3, _⟩ => ⟨S4096x1024, .bf16⟩
  | .hbm, ⟨4, _⟩ => ⟨S1024x128, .bf16⟩
  | .local _ .vmem, ⟨0, _⟩ => ⟨S4096x1024, .bf16⟩
  | .local _ .vmem, ⟨1, _⟩ => ⟨S4096x128, .f32⟩
  | .local _ .vmem, ⟨2, _⟩ => ⟨S1024x128, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference21Ideal.lean ====
abbrev S4096x1024 : Shape := ⟨2, ![4096, 1024]⟩
abbrev S1024x128 : Shape := ⟨2, ![1024, 128]⟩
abbrev S4096x128 : Shape := ⟨2, ![4096, 128]⟩
abbrev S128x1024 : Shape := ⟨2, ![128, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x128, .f32⟩
  | .hbm, ⟨2, _⟩ => ⟨S4096x128, .f32⟩
  | .hbm, ⟨3, _⟩ => ⟨S4096x128, .f32⟩
  | .hbm, ⟨4, _⟩ => ⟨S128x1024, .f32⟩
  | .hbm, ⟨5, _⟩ => ⟨S1024x128, .f32⟩
  | .hbm, ⟨6, _⟩ => ⟨S1024x128, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel22.lean ====
abbrev S4096x1024 : Shape := ⟨2, ![4096, 1024]⟩
abbrev S1024x2176 : Shape := ⟨2, ![1024, 2176]⟩
abbrev S4096x256 : Shape := ⟨2, ![4096, 256]⟩
abbrev S4096x512 : Shape := ⟨2, ![4096, 512]⟩
abbrev S4096x128 : Shape := ⟨2, ![4096, 128]⟩
abbrev S512x256 : Shape := ⟨2, ![512, 256]⟩
abbrev S512x512 : Shape := ⟨2, ![512, 512]⟩
abbrev S512x128 : Shape := ⟨2, ![512, 128]⟩
abbrev S1024x256 : Shape := ⟨2, ![1024, 256]⟩
abbrev S1024x512 : Shape := ⟨2, ![1024, 512]⟩
abbrev S1024x128 : Shape := ⟨2, ![1024, 128]⟩
abbrev S512x1024 : Shape := ⟨2, ![512, 1024]⟩

abbrev nBuf : Space → Nat
  | .hbm => 15
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1024x2176, .f32⟩
  | .hbm, ⟨2, _⟩ => ⟨S4096x256, .f32⟩
  | .hbm, ⟨3, _⟩ => ⟨S4096x256, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x128, .f32⟩
  | .hbm, ⟨8, _⟩ => ⟨S4096x256, .bf16⟩
  | .hbm, ⟨9, _⟩ => ⟨S4096x256, .bf16⟩
  | .hbm, ⟨10, _⟩ => ⟨S4096x512, .bf16⟩
  | .hbm, ⟨11, _⟩ => ⟨S4096x512, .bf16⟩
  | .hbm, ⟨12, _⟩ => ⟨S4096x512, .bf16⟩
  | .hbm, ⟨13, _⟩ => ⟨S1024x2176, .bf16⟩
  | .hbm, ⟨14, _⟩ => ⟨S4096x1024, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x128, .f32⟩
  | .local _ .vmem, ⟨11, _⟩ => ⟨S512x128, .f32⟩
  | .local _ .vmem, ⟨12, _⟩ => ⟨S1024x256, .bf16⟩
  | .local _ .vmem, ⟨13, _⟩ => ⟨S1024x256, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x128, .bf16⟩
  | .local _ .vmem, ⟨18, _⟩ => ⟨S512x1024, .f32⟩
  | .local _ .vmem, ⟨19, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_10 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  ![arg0.toNat, c16_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference22Ideal.lean ====
abbrev S4096x1024 : Shape := ⟨2, ![4096, 1024]⟩
abbrev S1024x2176 : Shape := ⟨2, ![1024, 2176]⟩
abbrev S4096x256 : Shape := ⟨2, ![4096, 256]⟩
abbrev S4096x512 : Shape := ⟨2, ![4096, 512]⟩
abbrev S4096x128 : Shape := ⟨2, ![4096, 128]⟩
abbrev S4096x2176 : Shape := ⟨2, ![4096, 2176]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2176, .f32⟩
  | .hbm, ⟨2, _⟩ => ⟨S4096x256, .f32⟩
  | .hbm, ⟨3, _⟩ => ⟨S4096x256, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x128, .f32⟩
  | .hbm, ⟨8, _⟩ => ⟨S4096x2176, .f32⟩
  | .hbm, ⟨9, _⟩ => ⟨S4096x2176, .f32⟩
  | .hbm, ⟨10, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩

abbrev nD : Nat := 1
abbrev τ : Topo := Topo.v7x

variable {F : FTy → Type} [FloatOps F]
-- ==== Kernel23.lean ====
abbrev S4096x1024 : Shape := ⟨2, ![4096, 1024]⟩
abbrev S1024x2048 : Shape := ⟨2, ![1024, 2048]⟩
abbrev S4096x2048 : Shape := ⟨2, ![4096, 2048]⟩
abbrev S256x1024 : Shape := ⟨2, ![256, 1024]⟩
abbrev S256x2048 : Shape := ⟨2, ![256, 2048]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x1024, .bf16⟩
  | .hbm, ⟨3, _⟩ => ⟨S1024x2048, .bf16⟩
  | .hbm, ⟨4, _⟩ => ⟨S4096x2048, .f32⟩
  | .local _ .vmem, ⟨0, _⟩ => ⟨S256x1024, .bf16⟩
  | .local _ .vmem, ⟨1, _⟩ => ⟨S256x1024, .bf16⟩
  | .local _ .vmem, ⟨2, _⟩ => ⟨S1024x2048, .bf16⟩
  | .local _ .vmem, ⟨3, _⟩ => ⟨S256x2048, .f32⟩
  | .local _ .vmem, ⟨4, _⟩ => ⟨S256x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference23Ideal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel24.lean ====
abbrev S4096x1024 : Shape := ⟨2, ![4096, 1024]⟩
abbrev S1024x2048 : Shape := ⟨2, ![1024, 2048]⟩
abbrev S4096x2048 : Shape := ⟨2, ![4096, 2048]⟩
abbrev S4096x512 : Shape := ⟨2, ![4096, 512]⟩
abbrev S1024x512 : Shape := ⟨2, ![1024, 512]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | .hbm, ⟨3, _⟩ => ⟨S4096x1024, .bf16⟩
  | .hbm, ⟨4, _⟩ => ⟨S4096x2048, .bf16⟩
  | .hbm, ⟨5, _⟩ => ⟨S1024x2048, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference24Ideal.lean ====
abbrev S4096x1024 : Shape := ⟨2, ![4096, 1024]⟩
abbrev S1024x2048 : Shape := ⟨2, ![1024, 2048]⟩
abbrev S4096x2048 : Shape := ⟨2, ![4096, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | .hbm, ⟨3, _⟩ => ⟨S4096x2048, .f32⟩
  | .hbm, ⟨4, _⟩ => ⟨S2048x1024, .f32⟩
  | .hbm, ⟨5, _⟩ => ⟨S1024x2048, .f32⟩
  | .hbm, ⟨6, _⟩ => ⟨S1024x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel25.lean ====
abbrev S4096x1024 : Shape := ⟨2, ![4096, 1024]⟩
abbrev S1024x2048 : Shape := ⟨2, ![1024, 2048]⟩
abbrev S4096x2048 : Shape := ⟨2, ![4096, 2048]⟩
abbrev S512x2048 : Shape := ⟨2, ![512, 2048]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | .hbm, ⟨3, _⟩ => ⟨S4096x2048, .bf16⟩
  | .hbm, ⟨4, _⟩ => ⟨S1024x2048, .bf16⟩
  | .hbm, ⟨5, _⟩ => ⟨S4096x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference25Ideal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | .hbm, ⟨3, _⟩ => ⟨S4096x2048, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel26.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference26Ideal.lean ====
abbrev S4096x1024 : Shape := ⟨2, ![4096, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel27.lean ====
abbrev S4096x2048 : Shape := ⟨2, ![4096, 2048]⟩
abbrev S4096x1024 : Shape := ⟨2, ![4096, 1024]⟩
abbrev S512x1024 : Shape := ⟨2, ![512, 1024]⟩
abbrev S512x2048 : Shape := ⟨2, ![512, 2048]⟩

abbrev nBuf : Space → Nat
  | .hbm => 3
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x2048, .bf16⟩
  | .local _ .vmem, ⟨7, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference27Ideal.lean ====
abbrev S4096x2048 : Shape := ⟨2, ![4096, 2048]⟩
abbrev S4096x1024 : Shape := ⟨2, ![4096, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x2048, .f32⟩
  | .hbm, ⟨21, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Kernel28.lean ====
abbrev S4096x2048 : Shape := ⟨2, ![4096, 2048]⟩
abbrev S4096x1024 : Shape := ⟨2, ![4096, 1024]⟩
abbrev S512x1024 : Shape := ⟨2, ![512, 1024]⟩

abbrev nBuf : Space → Nat
  | .hbm => 3
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference28Ideal.lean ====
abbrev S4096x2048 : Shape := ⟨2, ![4096, 2048]⟩
abbrev S4096x1024 : Shape := ⟨2, ![4096, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel29.lean ====
abbrev S4096x2176 : Shape := ⟨2, ![4096, 2176]⟩
abbrev S3x512 : Shape := ⟨2, ![3, 512]⟩
abbrev S4096x512 : Shape := ⟨2, ![4096, 512]⟩
abbrev S512x256 : Shape := ⟨2, ![512, 256]⟩
abbrev S8x256 : Shape := ⟨2, ![8, 256]⟩
abbrev S3x256 : Shape := ⟨2, ![3, 256]⟩
abbrev S520x256 : Shape := ⟨2, ![520, 256]⟩
abbrev S1x256 : Shape := ⟨2, ![1, 256]⟩
abbrev S256 : Shape := ⟨1, ![256]⟩

abbrev nBuf : Space → Nat
  | .hbm => 7
  | .vmem => 26
  | .smem => 0
  | _ => 0

abbrev bufTy : (tb : Table) → Fin (tcTables nBuf tb) → BufTy
  | .hbm, ⟨0, _⟩ => ⟨S4096x2176, .f32⟩
  | .hbm, ⟨1, _⟩ => ⟨S3x512, .f32⟩
  | .hbm, ⟨2, _⟩ => ⟨S4096x512, .f32⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S3x512, .f32⟩
  | .local _ .vmem, ⟨0, _⟩ => ⟨S512x256, .f32⟩
  | .local _ .vmem, ⟨1, _⟩ => ⟨S512x256, .f32⟩
  | .local _ .vmem, ⟨2, _⟩ => ⟨S8x256, .f32⟩
  | .local _ .vmem, ⟨3, _⟩ => ⟨S8x256, .f32⟩
  | .local _ .vmem, ⟨4, _⟩ => ⟨S512x256, .f32⟩
  | .local _ .vmem, ⟨5, _⟩ => ⟨S512x256, .f32⟩
  | .local _ .vmem, ⟨6, _⟩ => ⟨S8x256, .f32⟩
  | .local _ .vmem, ⟨7, _⟩ => ⟨S8x256, .f32⟩
  | .local _ .vmem, ⟨8, _⟩ => ⟨S512x256, .f32⟩
  | .local _ .vmem, ⟨9, _⟩ => ⟨S512x256, .f32⟩
  | .local _ .vmem, ⟨10, _⟩ => ⟨S8x256, .f32⟩
  | .local _ .vmem, ⟨11, _⟩ => ⟨S8x256, .f32⟩
  | .local _ .vmem, ⟨12, _⟩ => ⟨S3x256, .f32⟩
  | .local _ .vmem, ⟨13, _⟩ => ⟨S3x256, .f32⟩
  | .local _ .vmem, ⟨14, _⟩ => ⟨S512x256, .f32⟩
  | .local _ .vmem, ⟨15, _⟩ => ⟨S512x256, .f32⟩
  | .local _ .vmem, ⟨16, _⟩ => ⟨S8x256, .f32⟩
  | .local _ .vmem, ⟨17, _⟩ => ⟨S8x256, .f32⟩
  | .local _ .vmem, ⟨18, _⟩ => ⟨S512x256, .bf16⟩
  | .local _ .vmem, ⟨19, _⟩ => ⟨S512x256, .bf16⟩
  | .local _ .vmem, ⟨20, _⟩ => ⟨S512x256, .bf16⟩
  | .local _ .vmem, ⟨21, _⟩ => ⟨S512x256, .bf16⟩
  | .local _ .vmem, ⟨22, _⟩ => ⟨S512x256, .bf16⟩
  | .local _ .vmem, ⟨23, _⟩ => ⟨S512x256, .bf16⟩
  | .local _ .vmem, ⟨24, _⟩ => ⟨S3x256, .f32⟩
  | .local _ .vmem, ⟨25, _⟩ => ⟨S3x256, .f32⟩
  | _, _ => ⟨S4096x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c2_i32 : BitVec 32 := 2#32
  let v3 : BitVec 32 := Scalar.addi c2_i32 arg0
  let c0_i32 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg0
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let v3 : BitVec 32 := Scalar.addi c6_i32 arg0
  let c0_i32_0 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  ![v2.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S3x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Reference29Ideal.lean ====
abbrev S4096x2176 : Shape := ⟨2, ![4096, 2176]⟩
abbrev S3x512 : Shape := ⟨2, ![3, 512]⟩
abbrev S4096x512 : Shape := ⟨2, ![4096, 512]⟩
abbrev S4096x128 : Shape := ⟨2, ![4096, 128]⟩
abbrev S_ : Shape := ⟨0, ![]⟩
abbrev S2x512 : Shape := ⟨2, ![2, 512]⟩
abbrev S4098x512 : Shape := ⟨2, ![4098, 512]⟩
abbrev S1x512 : Shape := ⟨2, ![1, 512]⟩
abbrev S512 : Shape := ⟨1, ![512]⟩

abbrev nBuf : Space → Nat
  | .hbm => 72
  | .vmem => 0
  | .smem => 0
  | _ => 0

abbrev bufTy : (tb : Table) → Fin (tcTables nBuf tb) → BufTy
  | .hbm, ⟨0, _⟩ => ⟨S4096x2176, .f32⟩
  | .hbm, ⟨1, _⟩ => ⟨S3x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x128, .f32⟩
  | .hbm, ⟨8, _⟩ => ⟨S4096x512, .f32⟩
  | .hbm, ⟨9, _⟩ => ⟨S_, .f32⟩
  | .hbm, ⟨10, _⟩ => ⟨S2x512, .f32⟩
  | .hbm, ⟨11, _⟩ => ⟨S4098x512, .f32⟩
  | .hbm, ⟨12, _⟩ => ⟨S_, .f32⟩
  | .hbm, ⟨13, _⟩ => ⟨S2x512, .f32⟩
  | .hbm, ⟨14, _⟩ => ⟨S1x512, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S1x512, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S1x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S_, .f32⟩
  | .hbm, ⟨35, _⟩ => ⟨S512, .f32⟩
  | .hbm, ⟨36, _⟩ => ⟨S1x512, .f32⟩
  | .hbm, ⟨37, _⟩ => ⟨S_, .f32⟩
  | .hbm, ⟨38, _⟩ => ⟨S4098x512, .f32⟩
  | .hbm, ⟨39, _⟩ => ⟨S_, .f32⟩
  | .hbm, ⟨40, _⟩ => ⟨S3x512, .f32⟩
  | .hbm, ⟨41, _⟩ => ⟨S4096x512, .f32⟩
  | .hbm, ⟨42, _⟩ => ⟨S4096x512, .f32⟩
  | .hbm, ⟨43, _⟩ => ⟨S4096x512, .f32⟩
  | .hbm, ⟨44, _⟩ => ⟨S_, .f32⟩
  | .hbm, ⟨45, _⟩ => ⟨S512, .f32⟩
  | .hbm, ⟨46, _⟩ => ⟨S1x512, .f32⟩
  | .hbm, ⟨47, _⟩ => ⟨S_, .f32⟩
  | .hbm, ⟨48, _⟩ => ⟨S4098x512, .f32⟩
  | .hbm, ⟨49, _⟩ => ⟨S4098x512, .f32⟩
  | .hbm, ⟨50, _⟩ => ⟨S_, .f32⟩
  | .hbm, ⟨51, _⟩ => ⟨S3x512, .f32⟩
  | .hbm, ⟨52, _⟩ => ⟨S3x512, .f32⟩
  | .hbm, ⟨53, _⟩ => ⟨S4096x512, .f32⟩
  | .hbm, ⟨54, _⟩ => ⟨S4096x512, .f32⟩
  | .hbm, ⟨55, _⟩ => ⟨S4096x512, .f32⟩
  | .hbm, ⟨56, _⟩ => ⟨S_, .f32⟩
  | .hbm, ⟨57, _⟩ => ⟨S512, .f32⟩
  | .hbm, ⟨58, _⟩ => ⟨S1x512, .f32⟩
  | .hbm, ⟨59, _⟩ => ⟨S_, .f32⟩
  | .hbm, ⟨60, _⟩ => ⟨S4098x512, .f32⟩
  | .hbm, ⟨61, _⟩ => ⟨S4098x512, .f32⟩
  | .hbm, ⟨62, _⟩ => ⟨S_, .f32⟩
  | .hbm, ⟨63, _⟩ => ⟨S3x512, .f32⟩
  | .hbm, ⟨64, _⟩ => ⟨S3x512, .f32⟩
  | .hbm, ⟨65, _⟩ => ⟨S2x512, .f32⟩
  | .hbm, ⟨66, _⟩ => ⟨S4096x512, .f32⟩
  | .hbm, ⟨67, _⟩ => ⟨S4096x512, .f32⟩
  | .hbm, ⟨68, _⟩ => ⟨S4096x512, .f32⟩
  | .hbm, ⟨69, _⟩ => ⟨S4096x512, .bf16⟩
  | .hbm, ⟨70, _⟩ => ⟨S4096x512, .bf16⟩
  | .hbm, ⟨71, _⟩ => ⟨S4096x512, .bf16⟩
  | _, _ => ⟨S4096x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst_1 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_4 : Ref sig .tc := ⟨.hbm, 44, rfl⟩
abbrev main_v36 : Ref sig .tc := ⟨.hbm, 45, rfl⟩
abbrev main_v37 : Ref sig .tc := ⟨.hbm, 46, rfl⟩
abbrev main_cst_5 : Ref sig .tc := ⟨.hbm, 47, rfl⟩
abbrev main_v38 : Ref sig .tc := ⟨.hbm, 48, rfl⟩
abbrev main_v39 : Ref sig .tc := ⟨.hbm, 49, rfl⟩
abbrev main_cst_6 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_7 : Ref sig .tc := ⟨.hbm, 56, rfl⟩
abbrev main_v45 : Ref sig .tc := ⟨.hbm, 57, rfl⟩
abbrev main_v46 : Ref sig .tc := ⟨.hbm, 58, rfl⟩
abbrev main_cst_8 : Ref sig .tc := ⟨.hbm, 59, rfl⟩
abbrev main_v47 : Ref sig .tc := ⟨.hbm, 60, rfl⟩
abbrev main_v48 : Ref sig .tc := ⟨.hbm, 61, rfl⟩
abbrev main_cst_9 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩

abbrev nD : Nat := 1
abbrev τ : Topo := Topo.v7x

variable {F : FTy → Type} [FloatOps F]
-- ==== Kernel30.lean ====
abbrev S4096x2176 : Shape := ⟨2, ![4096, 2176]⟩
abbrev S3x512 : Shape := ⟨2, ![3, 512]⟩
abbrev S4096x512 : Shape := ⟨2, ![4096, 512]⟩
abbrev S1024x256 : Shape := ⟨2, ![1024, 256]⟩
abbrev S8x256 : Shape := ⟨2, ![8, 256]⟩
abbrev S3x256 : Shape := ⟨2, ![3, 256]⟩
abbrev S1032x256 : Shape := ⟨2, ![1032, 256]⟩
abbrev S1x256 : Shape := ⟨2, ![1, 256]⟩

abbrev nBuf : Space → Nat
  | .hbm => 3
  | .vmem => 14
  | .smem => 0
  | _ => 0

abbrev bufTy : (tb : Table) → Fin (tcTables nBuf tb) → BufTy
  | .hbm, ⟨0, _⟩ => ⟨S4096x2176, .f32⟩
  | .hbm, ⟨1, _⟩ => ⟨S3x512, .f32⟩
  | .hbm, ⟨2, _⟩ => ⟨S4096x512, .bf16⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S8x256, .f32⟩
  | .local _ .vmem, ⟨5, _⟩ => ⟨S8x256, .f32⟩
  | .local _ .vmem, ⟨6, _⟩ => ⟨S1024x256, .f32⟩
  | .local _ .vmem, ⟨7, _⟩ => ⟨S1024x256, .f32⟩
  | .local _ .vmem, ⟨8, _⟩ => ⟨S8x256, .f32⟩
  | .local _ .vmem, ⟨9, _⟩ => ⟨S8x256, .f32⟩
  | .local _ .vmem, ⟨10, _⟩ => ⟨S3x256, .f32⟩
  | .local _ .vmem, ⟨11, _⟩ => ⟨S3x256, .f32⟩
  | .local _ .vmem, ⟨12, _⟩ => ⟨S1024x256, .bf16⟩
  | .local _ .vmem, ⟨13, _⟩ => ⟨S1024x256, .bf16⟩
  | _, _ => ⟨S4096x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg0
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let v3 : BitVec 32 := Scalar.addi c6_i32 arg0
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference30Ideal.lean ====
abbrev S4096x2176 : Shape := ⟨2, ![4096, 2176]⟩
abbrev S3x512 : Shape := ⟨2, ![3, 512]⟩
abbrev S4096x512 : Shape := ⟨2, ![4096, 512]⟩
abbrev S4096x128 : Shape := ⟨2, ![4096, 128]⟩
abbrev S_ : Shape := ⟨0, ![]⟩
abbrev S2x512 : Shape := ⟨2, ![2, 512]⟩
abbrev S4098x512 : Shape := ⟨2, ![4098, 512]⟩
abbrev S1x512 : Shape := ⟨2, ![1, 512]⟩

abbrev nBuf : Space → Nat
  | .hbm => 27
  | .vmem => 0
  | .smem => 0
  | _ => 0

abbrev bufTy : (tb : Table) → Fin (tcTables nBuf tb) → BufTy
  | .hbm, ⟨0, _⟩ => ⟨S4096x2176, .f32⟩
  | .hbm, ⟨1, _⟩ => ⟨S3x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x128, .f32⟩
  | .hbm, ⟨7, _⟩ => ⟨S4096x512, .f32⟩
  | .hbm, ⟨8, _⟩ => ⟨S_, .f32⟩
  | .hbm, ⟨9, _⟩ => ⟨S2x512, .f32⟩
  | .hbm, ⟨10, _⟩ => ⟨S4098x512, .f32⟩
  | .hbm, ⟨11, _⟩ => ⟨S1x512, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S1x512, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S1x512, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S4096x512, .bf16⟩
  | _, _ => ⟨S4096x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩

abbrev nD : Nat := 1
abbrev τ : Topo := Topo.v7x

variable {F : FTy → Type} [FloatOps F]
-- ==== Kernel31.lean ====
abbrev S4096x1024 : Shape := ⟨2, ![4096, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Kernel31Ideal.lean ====
variable {F : FTy → Type} [FloatOps F] [Named F]
def κ : String → Option EReal := fun
  | "gelu_3a" => some ((26829 / 200000 : ℝ) : EReal)
  | "gelu_a" => some ((8943 / 200000 : ℝ) : EReal)
  | _ => none
-- ==== Reference31Ideal.lean ====
abbrev S4096x1024 : Shape := ⟨2, ![4096, 1024]⟩
abbrev S1x1024 : Shape := ⟨2, ![1, 1024]⟩
abbrev S_ : Shape := ⟨0, ![]⟩
abbrev S1024 : Shape := ⟨1, ![1024]⟩

abbrev nBuf : Space → Nat
  | .hbm => 61
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_10 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== Kernel32.lean ====
abbrev S4096x1024 : Shape := ⟨2, ![4096, 1024]⟩
abbrev S1x1024 : Shape := ⟨2, ![1, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference32Ideal.lean ====
abbrev S4096x1024 : Shape := ⟨2, ![4096, 1024]⟩
abbrev S1x1024 : Shape := ⟨2, ![1, 1024]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel33.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference33Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 48
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel34.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference34Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel35.lean ====
abbrev S4096x2176 : Shape := ⟨2, ![4096, 2176]⟩
abbrev S1x256 : Shape := ⟨2, ![1, 256]⟩
abbrev S4096x256 : Shape := ⟨2, ![4096, 256]⟩
abbrev S512x256 : Shape := ⟨2, ![512, 256]⟩
abbrev S512 : Shape := ⟨1, ![512]⟩
abbrev S512x1 : Shape := ⟨2, ![512, 1]⟩
abbrev S256 : Shape := ⟨1, ![256]⟩

abbrev nBuf : Space → Nat
  | .hbm => 5
  | .vmem => 8
  | .smem => 0
  | _ => 0

abbrev bufTy : (tb : Table) → Fin (tcTables nBuf tb) → BufTy
  | .hbm, ⟨0, _⟩ => ⟨S4096x2176, .f32⟩
  | .hbm, ⟨1, _⟩ => ⟨S1x256, .f32⟩
  | .hbm, ⟨2, _⟩ => ⟨S4096x256, .f32⟩
  | .hbm, ⟨3, _⟩ => ⟨S4096x256, .bf16⟩
  | .hbm, ⟨4, _⟩ => ⟨S1x256, .f32⟩
  | .local _ .vmem, ⟨0, _⟩ => ⟨S512x256, .f32⟩
  | .local _ .vmem, ⟨1, _⟩ => ⟨S512x256, .f32⟩
  | .local _ .vmem, ⟨2, _⟩ => ⟨S1x256, .f32⟩
  | .local _ .vmem, ⟨3, _⟩ => ⟨S512x256, .f32⟩
  | .local _ .vmem, ⟨4, _⟩ => ⟨S512x256, .f32⟩
  | .local _ .vmem, ⟨5, _⟩ => ⟨S512x256, .bf16⟩
  | .local _ .vmem, ⟨6, _⟩ => ⟨S512x256, .bf16⟩
  | .local _ .vmem, ⟨7, _⟩ => ⟨S1x256, .f32⟩
  | _, _ => ⟨S4096x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference35Ideal.lean ====
abbrev S4096x2176 : Shape := ⟨2, ![4096, 2176]⟩
abbrev S1x256 : Shape := ⟨2, ![1, 256]⟩
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S256 : Shape := ⟨1, ![256]⟩

abbrev nBuf : Space → Nat
  | .hbm => 47
  | .vmem => 0
  | .smem => 0
  | _ => 0

abbrev bufTy : (tb : Table) → Fin (tcTables nBuf tb) → BufTy
  | .hbm, ⟨0, _⟩ => ⟨S4096x2176, .f32⟩
  | .hbm, ⟨1, _⟩ => ⟨S1x256, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x256, .f32⟩
  | .hbm, ⟨20, _⟩ => ⟨S4096x256, .f32⟩
  | .hbm, ⟨21, _⟩ => ⟨S4096x256, .f32⟩
  | .hbm, ⟨22, _⟩ => ⟨S4096x256, .f32⟩
  | .hbm, ⟨23, _⟩ => ⟨S4096x256, .f32⟩
  | .hbm, ⟨24, _⟩ => ⟨S_, .f32⟩
  | .hbm, ⟨25, _⟩ => ⟨S256, .f32⟩
  | .hbm, ⟨26, _⟩ => ⟨S1x256, .f32⟩
  | .hbm, ⟨27, _⟩ => ⟨S4096x256, .f32⟩
  | .hbm, ⟨28, _⟩ => ⟨S4096x256, .f32⟩
  | .hbm, ⟨29, _⟩ => ⟨S4096x256, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x256, .f32⟩
  | .hbm, ⟨34, _⟩ => ⟨S4096x256, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x256, .f32⟩
  | .hbm, ⟨42, _⟩ => ⟨S4096x256, .f32⟩
  | .hbm, ⟨43, _⟩ => ⟨S4096x256, .f32⟩
  | .hbm, ⟨44, _⟩ => ⟨S4096x256, .f32⟩
  | .hbm, ⟨45, _⟩ => ⟨S4096x256, .f32⟩
  | .hbm, ⟨46, _⟩ => ⟨S4096x256, .bf16⟩
  | _, _ => ⟨S4096x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Kernel36.lean ====
abbrev S4096x2176 : Shape := ⟨2, ![4096, 2176]⟩
abbrev S1x256 : Shape := ⟨2, ![1, 256]⟩
abbrev S4096x256 : Shape := ⟨2, ![4096, 256]⟩
abbrev S512x256 : Shape := ⟨2, ![512, 256]⟩
abbrev S512 : Shape := ⟨1, ![512]⟩
abbrev S512x1 : Shape := ⟨2, ![512, 1]⟩
abbrev S256 : Shape := ⟨1, ![256]⟩

abbrev nBuf : Space → Nat
  | .hbm => 5
  | .vmem => 8
  | .smem => 0
  | _ => 0

abbrev bufTy : (tb : Table) → Fin (tcTables nBuf tb) → BufTy
  | .hbm, ⟨0, _⟩ => ⟨S4096x2176, .f32⟩
  | .hbm, ⟨1, _⟩ => ⟨S1x256, .f32⟩
  | .hbm, ⟨2, _⟩ => ⟨S4096x256, .f32⟩
  | .hbm, ⟨3, _⟩ => ⟨S4096x256, .bf16⟩
  | .hbm, ⟨4, _⟩ => ⟨S1x256, .f32⟩
  | .local _ .vmem, ⟨0, _⟩ => ⟨S512x256, .f32⟩
  | .local _ .vmem, ⟨1, _⟩ => ⟨S512x256, .f32⟩
  | .local _ .vmem, ⟨2, _⟩ => ⟨S1x256, .f32⟩
  | .local _ .vmem, ⟨3, _⟩ => ⟨S512x256, .f32⟩
  | .local _ .vmem, ⟨4, _⟩ => ⟨S512x256, .f32⟩
  | .local _ .vmem, ⟨5, _⟩ => ⟨S512x256, .bf16⟩
  | .local _ .vmem, ⟨6, _⟩ => ⟨S512x256, .bf16⟩
  | .local _ .vmem, ⟨7, _⟩ => ⟨S1x256, .f32⟩
  | _, _ => ⟨S4096x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference36Ideal.lean ====
abbrev S4096x2176 : Shape := ⟨2, ![4096, 2176]⟩
abbrev S1x256 : Shape := ⟨2, ![1, 256]⟩
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S256 : Shape := ⟨1, ![256]⟩

abbrev nBuf : Space → Nat
  | .hbm => 47
  | .vmem => 0
  | .smem => 0
  | _ => 0

abbrev bufTy : (tb : Table) → Fin (tcTables nBuf tb) → BufTy
  | .hbm, ⟨0, _⟩ => ⟨S4096x2176, .f32⟩
  | .hbm, ⟨1, _⟩ => ⟨S1x256, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x256, .f32⟩
  | .hbm, ⟨20, _⟩ => ⟨S4096x256, .f32⟩
  | .hbm, ⟨21, _⟩ => ⟨S4096x256, .f32⟩
  | .hbm, ⟨22, _⟩ => ⟨S4096x256, .f32⟩
  | .hbm, ⟨23, _⟩ => ⟨S4096x256, .f32⟩
  | .hbm, ⟨24, _⟩ => ⟨S_, .f32⟩
  | .hbm, ⟨25, _⟩ => ⟨S256, .f32⟩
  | .hbm, ⟨26, _⟩ => ⟨S1x256, .f32⟩
  | .hbm, ⟨27, _⟩ => ⟨S4096x256, .f32⟩
  | .hbm, ⟨28, _⟩ => ⟨S4096x256, .f32⟩
  | .hbm, ⟨29, _⟩ => ⟨S4096x256, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x256, .f32⟩
  | .hbm, ⟨34, _⟩ => ⟨S4096x256, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x256, .f32⟩
  | .hbm, ⟨42, _⟩ => ⟨S4096x256, .f32⟩
  | .hbm, ⟨43, _⟩ => ⟨S4096x256, .f32⟩
  | .hbm, ⟨44, _⟩ => ⟨S4096x256, .f32⟩
  | .hbm, ⟨45, _⟩ => ⟨S4096x256, .f32⟩
  | .hbm, ⟨46, _⟩ => ⟨S4096x256, .bf16⟩
  | _, _ => ⟨S4096x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Kernel37.lean ====
abbrev S4096x2176 : Shape := ⟨2, ![4096, 2176]⟩
abbrev S1x256 : Shape := ⟨2, ![1, 256]⟩
abbrev S4096x256 : Shape := ⟨2, ![4096, 256]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2176, .f32⟩
  | .hbm, ⟨1, _⟩ => ⟨S1x256, .f32⟩
  | .hbm, ⟨2, _⟩ => ⟨S4096x256, .bf16⟩
  | .local _ .vmem, ⟨0, _⟩ => ⟨S512x256, .f32⟩
  | .local _ .vmem, ⟨1, _⟩ => ⟨S512x256, .f32⟩
  | .local _ .vmem, ⟨2, _⟩ => ⟨S1x256, .f32⟩
  | .local _ .vmem, ⟨3, _⟩ => ⟨S512x256, .bf16⟩
  | .local _ .vmem, ⟨4, _⟩ => ⟨S512x256, .bf16⟩
  | _, _ => ⟨S4096x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference37Ideal.lean ====
abbrev S4096x2176 : Shape := ⟨2, ![4096, 2176]⟩
abbrev S1x256 : Shape := ⟨2, ![1, 256]⟩
abbrev S4096x256 : Shape := ⟨2, ![4096, 256]⟩
abbrev S_ : Shape := ⟨0, ![]⟩
abbrev S4096 : Shape := ⟨1, ![4096]⟩
abbrev S4096x1 : Shape := ⟨2, ![4096, 1]⟩

abbrev nBuf : Space → Nat
  | .hbm => 19
  | .vmem => 0
  | .smem => 0
  | _ => 0

abbrev bufTy : (tb : Table) → Fin (tcTables nBuf tb) → BufTy
  | .hbm, ⟨0, _⟩ => ⟨S4096x2176, .f32⟩
  | .hbm, ⟨1, _⟩ => ⟨S1x256, .f32⟩
  | .hbm, ⟨2, _⟩ => ⟨S4096x256, .f32⟩
  | .hbm, ⟨3, _⟩ => ⟨S4096x256, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x256, .f32⟩
  | .hbm, ⟨15, _⟩ => ⟨S4096x256, .f32⟩
  | .hbm, ⟨16, _⟩ => ⟨S4096x256, .f32⟩
  | .hbm, ⟨17, _⟩ => ⟨S4096x256, .f32⟩
  | .hbm, ⟨18, _⟩ => ⟨S4096x256, .bf16⟩
  | _, _ => ⟨S4096x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel38.lean ====
abbrev S4096x2176 : Shape := ⟨2, ![4096, 2176]⟩
abbrev S1x256 : Shape := ⟨2, ![1, 256]⟩
abbrev S4096x256 : Shape := ⟨2, ![4096, 256]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2176, .f32⟩
  | .hbm, ⟨1, _⟩ => ⟨S1x256, .f32⟩
  | .hbm, ⟨2, _⟩ => ⟨S4096x256, .bf16⟩
  | .local _ .vmem, ⟨0, _⟩ => ⟨S512x256, .f32⟩
  | .local _ .vmem, ⟨1, _⟩ => ⟨S512x256, .f32⟩
  | .local _ .vmem, ⟨2, _⟩ => ⟨S1x256, .f32⟩
  | .local _ .vmem, ⟨3, _⟩ => ⟨S512x256, .bf16⟩
  | .local _ .vmem, ⟨4, _⟩ => ⟨S512x256, .bf16⟩
  | _, _ => ⟨S4096x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference38Ideal.lean ====
abbrev S4096x2176 : Shape := ⟨2, ![4096, 2176]⟩
abbrev S1x256 : Shape := ⟨2, ![1, 256]⟩
abbrev S4096x256 : Shape := ⟨2, ![4096, 256]⟩
abbrev S_ : Shape := ⟨0, ![]⟩
abbrev S4096 : Shape := ⟨1, ![4096]⟩
abbrev S4096x1 : Shape := ⟨2, ![4096, 1]⟩

abbrev nBuf : Space → Nat
  | .hbm => 19
  | .vmem => 0
  | .smem => 0
  | _ => 0

abbrev bufTy : (tb : Table) → Fin (tcTables nBuf tb) → BufTy
  | .hbm, ⟨0, _⟩ => ⟨S4096x2176, .f32⟩
  | .hbm, ⟨1, _⟩ => ⟨S1x256, .f32⟩
  | .hbm, ⟨2, _⟩ => ⟨S4096x256, .f32⟩
  | .hbm, ⟨3, _⟩ => ⟨S4096x256, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x256, .f32⟩
  | .hbm, ⟨15, _⟩ => ⟨S4096x256, .f32⟩
  | .hbm, ⟨16, _⟩ => ⟨S4096x256, .f32⟩
  | .hbm, ⟨17, _⟩ => ⟨S4096x256, .f32⟩
  | .hbm, ⟨18, _⟩ => ⟨S4096x256, .bf16⟩
  | _, _ => ⟨S4096x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.FfnSpec.lean ====
/-
  The feed-forward gate's backward pass as plain mathematics on extended reals, indexed by row and column numbers.
  A matrix is a function of two numbers that is zero outside its rows and columns; the causal convolution of width three
  reads two rows back, its transpose two rows ahead.
-/
module

public import Idealize.ShloMosaic.Lib.Pointwise
public import Idealize.ShloMosaic.PureOps.Ideal.Laws

@[expose] public section

noncomputable section

namespace Cert.Ffn

open Idealize.ShloMosaic

/-- An array read at a row and a column number, zero outside the array. -/
def at2 {n m : Nat} (x : (⟨2, ![n, m]⟩ : Shape).Idx → EReal) (r c : Nat) : EReal :=
  if h : r < n ∧ c < m then x (ix2 ⟨r, h.1⟩ ⟨c, h.2⟩) else 0

theorem at2_of_lt {n m : Nat} (x : (⟨2, ![n, m]⟩ : Shape).Idx → EReal) {r c : Nat} (hr : r < n) (hc : c < m) :
    at2 x r c = x (ix2 ⟨r, hr⟩ ⟨c, hc⟩) := dif_pos ⟨hr, hc⟩

theorem at2_of_row_le {n m : Nat} (x : (⟨2, ![n, m]⟩ : Shape).Idx → EReal) {r c : Nat} (hr : n ≤ r) : at2 x r c = 0 :=
  dif_neg fun h => absurd h.1 (by omega)

theorem at2_ix2 {n m : Nat} (x : (⟨2, ![n, m]⟩ : Shape).Idx → EReal) (r : Fin n) (c : Fin m) : at2 x r.val c.val = x (ix2 r c) :=
  at2_of_lt x r.isLt c.isLt

/-- An entry is the array read at the entry's row and column number. -/
theorem at2_at {n m : Nat} (x : (⟨2, ![n, m]⟩ : Shape).Idx → EReal) (q : (⟨2, ![n, m]⟩ : Shape).Idx) {a b : Nat}
    (h0 : (q 0).val = a) (h1 : (q 1).val = b) : x q = at2 x a b := by
  subst h0 h1
  exact (congrArg x (eq_ix2 q)).trans (at2_of_lt x (q 0).isLt (q 1).isLt).symm

/-- The origin of a matrix, at each axis. -/
theorem hz : (![0, 0] : Fin 2 → Nat) = fun _ => 0 := by funext a; match a with | ⟨0, _⟩ => rfl | ⟨1, _⟩ => rfl

/-- What holds at both of a matrix's axes holds at every one. -/
theorem tile_at {P : Fin 2 → Prop} (h0 : P 0) (h1 : P 1) : ∀ a, P a := Fin.forall_fin_two.mpr ⟨h0, h1⟩

/-- The row `k` before row `e`, zero before the first row. -/
def bk (k : Nat) (x : Nat → Nat → EReal) (e c : Nat) : EReal := if k ≤ e then x (e - k) c else 0

theorem bk_zero (x : Nat → Nat → EReal) (e c : Nat) : bk 0 x e c = x e c := if_pos (Nat.zero_le _)

theorem bk_add (k d : Nat) (x : Nat → Nat → EReal) (e c : Nat) : bk (k + d) x (e + d) c = bk k x e c := by
  unfold bk
  by_cases h : k ≤ e
  · rw [if_pos h, if_pos (by omega), show e + d - (k + d) = e - k by omega]
  · rw [if_neg h, if_neg (by omega)]

/-- The causal convolution of width three down the rows, column `c` of `x` filtered by column `f` of `w`. -/
def conv (x w : Nat → Nat → EReal) (f e c : Nat) : EReal :=
  (w 2 f * x e c + w 1 f * bk 1 x e c) + w 0 f * bk 2 x e c

/-- The same convolution transposed: row `e` of what the input receives from the output's gradient `y`. -/
def convT (y w : Nat → Nat → EReal) (f e c : Nat) : EReal :=
  (w 2 f * y e c + w 1 f * y (e + 1) c) + w 0 f * y (e + 2) c

/-- Row `a` of the filter's gradient: each output gradient times the input row that tap read, over the first `n` rows. -/
def convW (y x : Nat → Nat → EReal) (a n c : Nat) : EReal := ∑ e ∈ Finset.range n, y e c * bk (2 - a) x e c

/-- The gradient that reaches the gated activation through the down projection. -/
def dAct (D M : Nat → Nat → EReal) (e c : Nat) : EReal := ∑ k ∈ Finset.range 1024, D e k * M c k

/-- The gradient of the gate half of the convolution's output. -/
def dGate (G V W D M : Nat → Nat → EReal) (e c : Nat) : EReal :=
  (dAct D M e c * conv V W (2816 + c) e c)
    * (Ideal.logistic (conv G W c e c) * (1 + conv G W c e c * (1 - Ideal.logistic (conv G W c e c))))

/-- The gradient of the value half of the convolution's output. -/
def dVal (G W D M : Nat → Nat → EReal) (e c : Nat) : EReal :=
  dAct D M e c * (conv G W c e c * Ideal.logistic (conv G W c e c))

theorem dAct_of_zero {D : Nat → Nat → EReal} (M : Nat → Nat → EReal) {e : Nat} (c : Nat) (h : ∀ k, D e k = 0) : dAct D M e c = 0 :=
  Finset.sum_eq_zero fun k _ => by rw [h k, zero_mul]

theorem dGate_of_zero (G V W : Nat → Nat → EReal) {D : Nat → Nat → EReal} (M : Nat → Nat → EReal) {e : Nat} (c : Nat)
    (h : ∀ k, D e k = 0) : dGate G V W D M e c = 0 := by
  unfold dGate; rw [dAct_of_zero M c h, zero_mul, zero_mul]

theorem dVal_of_zero (G W : Nat → Nat → EReal) {D : Nat → Nat → EReal} (M : Nat → Nat → EReal) {e : Nat} (c : Nat)
    (h : ∀ k, D e k = 0) : dVal G W D M e c = 0 := by
  unfold dVal; rw [dAct_of_zero M c h, zero_mul]

/-! ## Finite values -/

/-- An extended real that is a real number. -/
def IsReal (x : EReal) : Prop := ∃ r : ℝ, x = (r : EReal)

theorem IsReal.zero : IsReal 0 := ⟨0, rfl⟩
theorem IsReal.add {x y : EReal} : IsReal x → IsReal y → IsReal (x + y) := by
  rintro ⟨a, rfl⟩ ⟨b, rfl⟩; exact ⟨a + b, (EReal.coe_add a b).symm⟩
theorem IsReal.mul {x y : EReal} : IsReal x → IsReal y → IsReal (x * y) := by
  rintro ⟨a, rfl⟩ ⟨b, rfl⟩; exact ⟨a * b, (EReal.coe_mul a b).symm⟩
theorem IsReal.sum {ι : Type} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- Every entry of a matrix is finite. -/
def AllFin (x : Nat → Nat → EReal) : Prop := ∀ r c, IsReal (x r c)

theorem AllFin.at2 {n m : Nat} {x : (⟨2, ![n, m]⟩ : Shape).Idx → EReal} (h : ∀ i, IsReal (x i)) : AllFin (at2 x) := fun r c => by
  unfold Ffn.at2
  split
  · exact h _
  · exact IsReal.zero

theorem AllFin.bk {x : Nat → Nat → EReal} (h : AllFin x) (k e c : Nat) : IsReal (bk k x e c) := by
  unfold Ffn.bk
  split
  · exact h _ _
  · exact IsReal.zero

theorem AllFin.conv {x w : Nat → Nat → EReal} (hx : AllFin x) (hw : AllFin w) (f e c : Nat) : IsReal (conv x w f e c) :=
  (((hw _ _).mul (hx _ _)).add ((hw _ _).mul (hx.bk _ _ _))).add ((hw _ _).mul (hx.bk _ _ _))

theorem AllFin.dAct {D M : Nat → Nat → EReal} (hD : AllFin D) (hM : AllFin M) (e c : Nat) : IsReal (dAct D M e c) :=
  IsReal.sum _ _ fun _ _ => (hD _ _).mul (hM _ _)

/-- The derivative of `x · σ(x)`, factored and expanded: on finite values the two agree. -/
theorem silu_deriv {d v g : EReal} (hd : IsReal d) (hv : IsReal v) (hg : IsReal g) :
    (d * v) * (Ideal.logistic g * (1 + g * (1 - Ideal.logistic g)))
      = (d * v) * Ideal.logistic g + (g * (d * v)) * (Ideal.logistic g * (1 - Ideal.logistic g)) := by
  obtain ⟨d, rfl⟩ := hd
  obtain ⟨v, rfl⟩ := hv
  obtain ⟨g, rfl⟩ := hg
  rw [Ideal.logistic_coe]
  generalize (1 + Real.exp (-g))⁻¹ = s
  rw [← EReal.coe_one]
  simp only [← EReal.coe_mul, ← EReal.coe_add, ← EReal.coe_sub]
  exact congrArg _ (by ring)

end Cert.Ffn

end
-- ==== Proof.Product.lean ====
/-
  The three products of two matrices that a dense layer and its gradients take, as sums over row and column numbers.
-/
module

public import proofs.«01_k».proof.Proof.FfnSpec

@[expose] public section

noncomputable section

namespace Cert.Product

/-- Entry `(r, c)` of the product of `x` and `y` over the first `n` columns of `x`. -/
def prod (n : Nat) (x y : Nat → Nat → EReal) (r c : Nat) : EReal := ∑ k ∈ Finset.range n, x r k * y k c

/-- Entry `(r, c)` of the product of `x` transposed and `y` over the first `n` rows of both. -/
def prodTa (n : Nat) (x y : Nat → Nat → EReal) (r c : Nat) : EReal := ∑ k ∈ Finset.range n, x k r * y k c

/-- Entry `(r, c)` of the product of `x` and `y` transposed over the first `n` columns of both. -/
def prodTb (n : Nat) (x y : Nat → Nat → EReal) (r c : Nat) : EReal := ∑ k ∈ Finset.range n, x r k * y c k

theorem prod_fin (n : Nat) (x y : Nat → Nat → EReal) (r c : Nat) : prod n x y r c = ∑ k : Fin n, x r k.val * y k.val c :=
  Finset.sum_range _

theorem prodTa_fin (n : Nat) (x y : Nat → Nat → EReal) (r c : Nat) : prodTa n x y r c = ∑ k : Fin n, x k.val r * y k.val c :=
  Finset.sum_range _

theorem prodTb_fin (n : Nat) (x y : Nat → Nat → EReal) (r c : Nat) : prodTb n x y r c = ∑ k : Fin n, x r k.val * y c k.val :=
  Finset.sum_range _

end Cert.Product

end
-- ==== Proof.Up2.lean ====
/-
  The feed-forward block's up projection, causal convolution and gate in one call: what the kernel's three result arrays
  hold, what the reference computes, and that they are the same.
-/
module

public import proofs.«01_k».proof.Defs
public import proofs.«01_k».proof.Proof.Product
public import proofs.«01_k».proof.Proof.Gen.Kernel2Ideal.Value
public import proofs.«01_k».proof.Proof.Gen.Reference2Ideal.Run
public import proofs.«01_k».proof.Proof.Gen.Reference2Ideal.Read

@[expose] public section

noncomputable section

namespace Cert.Kernel2Ideal.Up

open Idealize.ShloMosaic Idealize.ShloMosaic.TcCoe Idealize.SL.Sem
open Cert.Kernel2Ideal Cert.Kernel2Ideal.Gen Cert.Ffn Cert.Product

/-- The gated activation: the sigmoid-weighted gate times the value. -/
def gated (g v : EReal) : EReal := g * Ideal.logistic g * v

/-! ## One grid point -/

/-- The factor that clears the rows before the first tile: zero at the first tile and one at the others. -/
theorem clear_eq (i : grid0.Coords) : k0_pay2 (F := Ideal) i = if (i 1).val = 0 then 0 else 1 := by
  have h : (i 1).val < 4 := (i 1).isLt
  unfold k0_pay2
  generalize (i 1).val = n at h ⊢
  have e : ∀ k : Nat, ∀ z : Int, (Scalar.extui (Scalar.cmpi .sgt (BitVec.ofNat 32 k) 0#32) : BitVec 32).toInt = z →
      Scalar.sitofp (F := Ideal) .f32 (Scalar.extui (Scalar.cmpi .sgt (BitVec.ofNat 32 k) 0#32) : BitVec 32) = ((z : ℝ) : EReal) :=
    fun k z hz => by rw [← hz]; rfl
  interval_cases n
  · exact (e 0 0 (by decide)).trans (by norm_num)
  · exact (e 1 1 (by decide)).trans (by norm_num)
  · exact (e 2 1 (by decide)).trans (by norm_num)
  · exact (e 3 1 (by decide)).trans (by norm_num)

/-- The sixteen rows before the tile, cleared at the first tile, and the tile's rows. -/
def rows (z : Ideal .f32) (xp : FVec Ideal S16x1024 .bf16) (xw : FVec Ideal S1024x256 .bf16) (cur : FVec Ideal S1024x256 .f32) :
    FVec Ideal S1040x256 .f32 :=
  concatenate S1040x256 0 [⟨S16x256, mulf (matmul dot_S16x1024_S1024x256_S16x256_1_0_0_1_n_n none xp xw (constant S16x256 .f32 0x00000000#32))
    (broadcast S16x256 z)⟩, ⟨S1024x256, cur⟩] concatenates_S16x256_S1024x256_S1040x256_d0

/-- The three taps of the convolution over those rows. -/
def taps (w : Vec Ideal S3x256 .f32) (y : FVec Ideal S1040x256 .f32) : FVec Ideal S1024x256 .f32 :=
  extractStridedSlice S1024x256 ![16, 0]
    (addf (addf (mulf (broadcastTo S1040x256 (extractStridedSlice S1x256 ![2, 0] w slices_S3x256_o2_0_S1x256) broadcasts_S1x256_S1040x256) y)
        (mulf (broadcastTo S1040x256 (extractStridedSlice S1x256 ![1, 0] w slices_S3x256_o1_0_S1x256) broadcasts_S1x256_S1040x256)
          (dynamicRotate 0 1#32 none y rotates_S1040x256_d0)))
      (mulf (broadcastTo S1040x256 (extractStridedSlice S1x256 ![0, 0] w slices_S3x256_o0_0_S1x256) broadcasts_S1x256_S1040x256)
        (dynamicRotate 0 2#32 none y rotates_S1040x256_d0))) slices_S1040x256_o16_0_S1024x256

theorem taps_read (w : Vec Ideal S3x256 .f32) (y : FVec Ideal S1040x256 .f32) (r : Fin 1024) (l : Fin 256) :
    taps w y (ix2 r l) = (w (ix2 2 l) * y (ix2 ⟨16 + r.val, by omega⟩ l) + w (ix2 1 l) * y (ix2 ⟨15 + r.val, by omega⟩ l))
      + w (ix2 0 l) * y (ix2 ⟨14 + r.val, by omega⟩ l) := by
  have e1 : ∀ h, (⟨(16 + r.val + 1040 - 1) % 1040, h⟩ : Fin 1040) = ⟨15 + r.val, by omega⟩ := fun h => Fin.ext (by dsimp only; omega)
  have e2 : ∀ h, (⟨(16 + r.val + 1040 - 2) % 1040, h⟩ : Fin 1040) = ⟨14 + r.val, by omega⟩ := fun h => Fin.ext (by dsimp only; omega)
  unfold taps
  pointwise
  rw [e1, e2]

theorem pay5_read (xh : Vec Ideal S1024x1024 .bf16) (xw : Vec Ideal S1024x256 .bf16) (r : Fin 1024) (l : Fin 256) :
    k0_pay5 (F := Ideal) xh xw (ix2 r l) = ∑ k : Fin 1024, xh (ix2 r k) * xw (ix2 k l) := by
  unfold k0_pay5 k0_pay3
  pointwise

theorem pay7_eq (xh : Vec Ideal S1024x1024 .bf16) (xw : Vec Ideal S1024x256 .bf16) : k0_pay7 (F := Ideal) xh xw = k0_pay5 xh xw := rfl

theorem pay6_eq (i : grid0.Coords) (xh : Vec Ideal S1024x1024 .bf16) (xp : Vec Ideal S16x1024 .bf16) (xw xw' : Vec Ideal S1024x256 .bf16)
    (w : Vec Ideal S3x256 .f32) : k0_pay6 (F := Ideal) i xh xp xw xw' w
      = taps w (rows (k0_pay2 (F := Ideal) i) (k0_pay4 xp) (shapeCast S1024x256 xw' shapeCasts_S1024x256_S1024x256) (k0_pay5 xh xw)) := rfl

theorem pay1_read (z : Ideal .f32) (xp : FVec Ideal S16x1024 .bf16) (g v : FVec Ideal S1024x256 .f32) (xw : Vec Ideal S1024x256 .bf16)
    (w : Vec Ideal S3x256 .f32) (r : Fin 1024) (l : Fin 256) : k0_pay1 (F := Ideal) z xp g v xw w (ix2 r l)
      = gated (g (ix2 r l)) (taps w (rows z xp (shapeCast S1024x256 xw shapeCasts_S1024x256_S1024x256) v) (ix2 r l)) := by
  show truncf .bf16 (mulf (mulf g (logistic g)) (taps w (rows z xp (shapeCast S1024x256 xw shapeCasts_S1024x256_S1024x256) v))) bitsLt_bf16_f32 (ix2 r l) = _
  generalize taps w _ = y
  unfold gated
  pointwise

/-- The rows the taps read, when the tile's rows and the sixteen before it are rows of `U`. -/
theorem rows_read {j b : Nat} {U : Nat → Nat → EReal} {z : Ideal .f32} {xp : FVec Ideal S16x1024 .bf16} {xw : FVec Ideal S1024x256 .bf16}
    {cur : FVec Ideal S1024x256 .f32} (hz : z = if j = 0 then 0 else 1)
    (hp : 0 < j → ∀ (r : Fin 16) (l : Fin 256), (∑ k : Fin 1024, xp (ix2 r k) * xw (ix2 k l)) = U (1024 * j + r.val - 16) (b + l.val))
    (hc : ∀ (r : Fin 1024) (l : Fin 256), cur (ix2 r l) = U (1024 * j + r.val) (b + l.val)) (p : Fin 1040) (l : Fin 256) :
    rows z xp xw cur (ix2 p l) = bk 16 U (1024 * j + p.val) (b + l.val) := by
  have hb : 16 ≤ 1024 * j + p.val → bk 16 U (1024 * j + p.val) (b + l.val) = U (1024 * j + p.val - 16) (b + l.val) := fun h => if_pos h
  unfold rows
  pointwise
  split
  · by_cases h0 : j = 0
    · rw [if_pos h0] at hz
      rw [hz, mul_zero]
      exact (if_neg (by omega)).symm
    · rw [if_neg h0] at hz
      rw [hz, mul_one, hb (by omega)]
      exact hp (by omega) ⟨p.val, by omega⟩ l
  · rw [hb (by omega), hc]
    exact congrArg (fun q => U q (b + l.val)) (by show 1024 * j + (p.val - 16) = _; omega)

/-- The convolution over those rows is the causal convolution. -/
theorem taps_conv {j b f : Nat} {U W : Nat → Nat → EReal} {y : FVec Ideal S1040x256 .f32} {w : Vec Ideal S3x256 .f32}
    (hy : ∀ (p : Fin 1040) (l : Fin 256), y (ix2 p l) = bk 16 U (1024 * j + p.val) (b + l.val))
    (hw : ∀ (a : Fin 3) (l : Fin 256), w (ix2 a l) = W a.val (f + l.val)) (r : Fin 1024) (l : Fin 256) :
    taps w y (ix2 r l) = conv U W (f + l.val) (1024 * j + r.val) (b + l.val) := by
  rw [taps_read, hy, hy, hy, hw, hw, hw]
  have h0 := bk_add 0 16 U (1024 * j + r.val) (b + l.val)
  have h1 := bk_add 1 15 U (1024 * j + r.val) (b + l.val)
  have h2 := bk_add 2 14 U (1024 * j + r.val) (b + l.val)
  rw [bk_zero] at h0
  unfold conv
  rw [← h0, ← h1, ← h2]
  show (W 2 _ * bk 16 U (1024 * j + (16 + r.val)) _ + W 1 _ * bk 16 U (1024 * j + (15 + r.val)) _)
    + W 0 _ * bk 16 U (1024 * j + (14 + r.val)) _ = _
  rw [show 1024 * j + (16 + r.val) = 1024 * j + r.val + 16 by omega, show 1024 * j + (15 + r.val) = 1024 * j + r.val + 15 by omega,
    show 1024 * j + (14 + r.val) = 1024 * j + r.val + 14 by omega]

/-! ## The arrays -/

theorem hz2 : (![0, 0] : Fin 2 → Nat) = fun _ => 0 := by funext a; match a with | ⟨0, _⟩ => rfl | ⟨1, _⟩ => rfl

theorem canon_whole (v : Vec Ideal S1024x256 .f32) : View.canon [⟨r0_2, v⟩] = v :=
  View.canon_unit_zero hz2 inb_S1024x256_S1024x256_0_0 v

theorem ld_0 (x : Vec Ideal S1024x1024 .bf16) : View.ld x r0_0 = x := View.ld_unit_zero (S := S1024x1024) hz2 inb_S1024x1024_S1024x1024_0_0 x
theorem ld_1 (x : Vec Ideal S16x1024 .bf16) : View.ld x r0_1 = x := View.ld_unit_zero (S := S16x1024) hz2 inb_S16x1024_S16x1024_0_0 x
theorem ld_2 (x : Vec Ideal S1024x256 .bf16) : View.ld x r0_2 = x := View.ld_unit_zero (S := S1024x256) hz2 inb_S1024x256_S1024x256_0_0 x
theorem ld_3 (x : Vec Ideal S3x256 .f32) : View.ld x r0_3 = x := View.ld_unit_zero (S := S3x256) hz2 inb_S3x256_S3x256_0_0 x

variable (m : (ℓ : Loc nD τ sig) → Buf (Elt Ideal) ℓ) (ρ : Dev nD → PrngReg) (c : Dev nD)

/-- The three arguments as matrices. -/
abbrev argH : Nat → Nat → EReal := at2 (n := 4096) (m := 1024) (m ((c : Thread nD τ).loc main_arg0))
abbrev argU : Nat → Nat → EReal := at2 (n := 1024) (m := 5632) (m ((c : Thread nD τ).loc main_arg1))
abbrev argC : Nat → Nat → EReal := at2 (n := 3) (m := 5632) (m ((c : Thread nD τ).loc main_arg2))

theorem point_lt (t : Fin cfg0.N) : t.val < 44 := t.isLt.trans_eq N_0

/-- Point `t` of the grid works on tile `t mod 4` of the rows. -/
theorem coord1 : ∀ t : Fin grid0.N, ((grid0.coords t) 1).val = t.val % 4 := by decide +kernel

theorem V_main_v0 : V m c main_v0 = (m ((c : Thread nD τ).loc main_arg0) : Vec Ideal S4096x1024 .f32) := by
  unfold V hostOps0
  after_results
  rfl

theorem V_main_v1 : V m c main_v1 = (m ((c : Thread nD τ).loc main_arg1) : Vec Ideal S1024x5632 .f32) := by
  unfold V hostOps0
  after_results
  rfl

theorem index_0 : ∀ t : Fin grid0.N, win0_0.index t 0 = t.val % 4 ∧ win0_0.index t 1 = 0 := by decide +kernel

theorem index_1 : ∀ t : Fin grid0.N, win0_1.index t 0 = 64 * (t.val % 4) - 1 ∧ win0_1.index t 1 = 0 := by decide +kernel

theorem index_2 : ∀ t : Fin grid0.N, win0_2.index t 0 = 0 ∧ win0_2.index t 1 = t.val / 4 := by decide +kernel

theorem index_3 : ∀ t : Fin grid0.N, win0_3.index t 0 = 0 ∧ win0_3.index t 1 = 11 + t.val / 4 := by decide +kernel

theorem index_4 : ∀ t : Fin grid0.N, win0_4.index t 0 = 0 ∧ win0_4.index t 1 = t.val / 4 := by decide +kernel

theorem index_5 : ∀ t : Fin grid0.N, win0_5.index t 0 = 0 ∧ win0_5.index t 1 = 11 + t.val / 4 := by decide +kernel

theorem index_6 : ∀ t : Fin grid0.N, win0_6.index t 0 = t.val % 4 ∧ win0_6.index t 1 = t.val / 4 := by decide +kernel

theorem index_7 : ∀ t : Fin grid0.N, win0_7.index t 0 = t.val % 4 ∧ win0_7.index t 1 = t.val / 4 := by decide +kernel

theorem index_8 : ∀ t : Fin grid0.N, win0_8.index t 0 = t.val % 4 ∧ win0_8.index t 1 = t.val / 4 := by decide +kernel

/-- What point `t` reads through window 0. -/
theorem iblk_0 (t : Fin cfg0.N) (r : Fin 1024) (l : Fin 1024) :
    iblk m c 0 t (ix2 r l) = argH m c (1024 * (t.val % 4) + r.val) (l.val) := by
  have ht := point_lt t
  obtain ⟨i0, i1⟩ := index_0 t
  unfold iblk
  rw [View.read_apply]
  show V m c main_v0 _ = _
  rw [V_main_v0]
  exact at2_at _ _ (by show win0_0.index t 0 * 1024 + 1 * r.val = _; rw [i0]; omega)
    (by show win0_0.index t 1 * 1024 + 1 * l.val = _; rw [i1]; omega)

/-- What point `t` reads through window 1. -/
theorem iblk_1 (t : Fin cfg0.N) (h : 0 < t.val % 4) (r : Fin 16) (l : Fin 1024) :
    iblk m c 1 t (ix2 r l) = argH m c (1024 * (t.val % 4) + r.val - 16) (l.val) := by
  have ht := point_lt t
  obtain ⟨i0, i1⟩ := index_1 t
  unfold iblk
  rw [View.read_apply]
  show V m c main_v0 _ = _
  rw [V_main_v0]
  exact at2_at _ _ (by show win0_1.index t 0 * 16 + 1 * r.val = _; rw [i0]; omega)
    (by show win0_1.index t 1 * 1024 + 1 * l.val = _; rw [i1]; omega)

/-- What point `t` reads through window 2. -/
theorem iblk_2 (t : Fin cfg0.N) (r : Fin 1024) (l : Fin 256) :
    iblk m c 2 t (ix2 r l) = argU m c (r.val) (256 * (t.val / 4) + l.val) := by
  have ht := point_lt t
  obtain ⟨i0, i1⟩ := index_2 t
  unfold iblk
  rw [View.read_apply]
  show V m c main_v1 _ = _
  rw [V_main_v1]
  exact at2_at _ _ (by show win0_2.index t 0 * 1024 + 1 * r.val = _; rw [i0]; omega)
    (by show win0_2.index t 1 * 256 + 1 * l.val = _; rw [i1]; omega)

/-- What point `t` reads through window 3. -/
theorem iblk_3 (t : Fin cfg0.N) (r : Fin 1024) (l : Fin 256) :
    iblk m c 3 t (ix2 r l) = argU m c (r.val) (2816 + 256 * (t.val / 4) + l.val) := by
  have ht := point_lt t
  obtain ⟨i0, i1⟩ := index_3 t
  unfold iblk
  rw [View.read_apply]
  show V m c main_v1 _ = _
  rw [V_main_v1]
  exact at2_at _ _ (by show win0_3.index t 0 * 1024 + 1 * r.val = _; rw [i0]; omega)
    (by show win0_3.index t 1 * 256 + 1 * l.val = _; rw [i1]; omega)

/-- What point `t` reads through window 4. -/
theorem iblk_4 (t : Fin cfg0.N) (r : Fin 3) (l : Fin 256) :
    iblk m c 4 t (ix2 r l) = argC m c (r.val) (256 * (t.val / 4) + l.val) := by
  have ht := point_lt t
  obtain ⟨i0, i1⟩ := index_4 t
  unfold iblk
  rw [View.read_apply]
  show V m c main_arg2 _ = _
  rw [V_main_arg2]
  exact at2_at _ _ (by show win0_4.index t 0 * 3 + 1 * r.val = _; rw [i0]; omega)
    (by show win0_4.index t 1 * 256 + 1 * l.val = _; rw [i1]; omega)

/-- What point `t` reads through window 5. -/
theorem iblk_5 (t : Fin cfg0.N) (r : Fin 3) (l : Fin 256) :
    iblk m c 5 t (ix2 r l) = argC m c (r.val) (2816 + 256 * (t.val / 4) + l.val) := by
  have ht := point_lt t
  obtain ⟨i0, i1⟩ := index_5 t
  unfold iblk
  rw [View.read_apply]
  show V m c main_arg2 _ = _
  rw [V_main_arg2]
  exact at2_at _ _ (by show win0_5.index t 0 * 3 + 1 * r.val = _; rw [i0]; omega)
    (by show win0_5.index t 1 * 256 + 1 * l.val = _; rw [i1]; omega)

/-- The up projection. -/
abbrev up : Nat → Nat → EReal := prod 1024 (argH m c) (argU m c)

theorem gate_cur (t : Fin cfg0.N) (r : Fin 1024) (l : Fin 256) : k0_pay5 (F := Ideal) (iblk m c 0 t) (iblk m c 2 t) (ix2 r l)
    = up m c (1024 * (t.val % 4) + r.val) (256 * (t.val / 4) + l.val) := by
  rw [pay5_read, up, prod_fin]
  exact Finset.sum_congr rfl fun k _ => by rw [iblk_0, iblk_2]

theorem value_cur (t : Fin cfg0.N) (r : Fin 1024) (l : Fin 256) : k0_pay5 (F := Ideal) (iblk m c 0 t) (iblk m c 3 t) (ix2 r l)
    = up m c (1024 * (t.val % 4) + r.val) (2816 + 256 * (t.val / 4) + l.val) := by
  rw [pay5_read, up, prod_fin]
  exact Finset.sum_congr rfl fun k _ => by rw [iblk_0, iblk_3]

theorem gate_rows (t : Fin cfg0.N) (p : Fin 1040) (l : Fin 256) :
    rows (k0_pay2 (F := Ideal) (grid0.coords t)) (k0_pay4 (iblk m c 1 t)) (shapeCast S1024x256 (iblk m c 2 t) shapeCasts_S1024x256_S1024x256)
        (k0_pay5 (iblk m c 0 t) (iblk m c 2 t)) (ix2 p l)
      = bk 16 (up m c) (1024 * (t.val % 4) + p.val) (256 * (t.val / 4) + l.val) := by
  refine rows_read ?_ (fun h r l => ?_) (gate_cur m c t) p l
  · rw [clear_eq, coord1]
  · have e : (shapeCast S1024x256 (iblk m c 2 t) shapeCasts_S1024x256_S1024x256 : Vec Ideal S1024x256 .bf16) = iblk m c 2 t := shapeCast_self _ _
    have e' : k0_pay4 (F := Ideal) (iblk m c 1 t) = iblk m c 1 t := shapeCast_self _ _
    rw [e, e', up, prod_fin]
    exact Finset.sum_congr rfl fun k _ => by rw [iblk_1 m c t h, iblk_2]

theorem value_rows (t : Fin cfg0.N) (p : Fin 1040) (l : Fin 256) :
    rows (k0_pay2 (F := Ideal) (grid0.coords t)) (k0_pay4 (iblk m c 1 t)) (shapeCast S1024x256 (iblk m c 3 t) shapeCasts_S1024x256_S1024x256)
        (k0_pay5 (iblk m c 0 t) (iblk m c 3 t)) (ix2 p l)
      = bk 16 (up m c) (1024 * (t.val % 4) + p.val) (2816 + 256 * (t.val / 4) + l.val) := by
  refine rows_read ?_ (fun h r l => ?_) (value_cur m c t) p l
  · rw [clear_eq, coord1]
  · have e : (shapeCast S1024x256 (iblk m c 3 t) shapeCasts_S1024x256_S1024x256 : Vec Ideal S1024x256 .bf16) = iblk m c 3 t := shapeCast_self _ _
    have e' : k0_pay4 (F := Ideal) (iblk m c 1 t) = iblk m c 1 t := shapeCast_self _ _
    rw [e, e', up, prod_fin]
    exact Finset.sum_congr rfl fun k _ => by rw [iblk_1 m c t h, iblk_3]

/-- What point `t` leaves of the three outputs. -/
theorem block_6 (t : Fin cfg0.N) (r : Fin 1024) (l : Fin 256) :
    out0_6 (F := Ideal) (grid0.coords t) (iblk m c 0 t) (iblk m c 1 t) (iblk m c 2 t) (iblk m c 3 t) (iblk m c 4 t) (iblk m c 5 t) (ix2 r l)
      = up m c (1024 * (t.val % 4) + r.val) (256 * (t.val / 4) + l.val) := by
  unfold out0_6
  rw [ld_0, ld_2]
  exact (congrFun (canon_whole _) _).trans (gate_cur m c t r l)

theorem block_7 (t : Fin cfg0.N) (r : Fin 1024) (l : Fin 256) :
    out0_7 (F := Ideal) (grid0.coords t) (iblk m c 0 t) (iblk m c 1 t) (iblk m c 2 t) (iblk m c 3 t) (iblk m c 4 t) (iblk m c 5 t) (ix2 r l)
      = up m c (1024 * (t.val % 4) + r.val) (2816 + 256 * (t.val / 4) + l.val) := by
  unfold out0_7 k0_pay8
  rw [ld_0, ld_2, pay7_eq]
  exact (congrFun (canon_whole _) _).trans (value_cur m c t r l)

theorem block_8 (t : Fin cfg0.N) (r : Fin 1024) (l : Fin 256) :
    out0_8 (F := Ideal) (grid0.coords t) (iblk m c 0 t) (iblk m c 1 t) (iblk m c 2 t) (iblk m c 3 t) (iblk m c 4 t) (iblk m c 5 t) (ix2 r l)
      = gated (conv (up m c) (argC m c) (256 * (t.val / 4) + l.val) (1024 * (t.val % 4) + r.val) (256 * (t.val / 4) + l.val))
          (conv (up m c) (argC m c) (2816 + 256 * (t.val / 4) + l.val) (1024 * (t.val % 4) + r.val) (2816 + 256 * (t.val / 4) + l.val)) := by
  unfold out0_8 k0_pay8
  rw [ld_0, ld_1, ld_2, ld_2, ld_3, ld_3, pay7_eq, pay6_eq]
  refine (congrFun (View.canon_unit_zero hz2 inb_S1024x256_S1024x256_0_0 _) _).trans ?_
  rw [pay1_read, taps_conv (gate_rows m c t) (iblk_4 m c t), taps_conv (value_rows m c t) (iblk_5 m c t)]

/-- The whole array of the gate half of the up projection. -/
def result_6 : Buf (Elt Ideal) ((c : Thread nD τ).loc main_v2_0) := fun (q : S4096x2816.Idx) => up m c (q 0).val (q 1).val

theorem flushed_6 (t : Fin cfg0.N) (_hf : (cfg0.win 6).flush t = true) :
    (dats m 0 c).flushed 6 t = ((cfg0.win 6).blk t).view.read (Elt Ideal) (result_6 m c) := by
  obtain ⟨i0, i1⟩ := index_6 t
  rw [Cert.Kernel2Ideal.Value.flushed6]
  funext j
  rw [View.read_apply]
  refine (congrArg (out0_6 (F := Ideal) (grid0.coords t) (iblk m c 0 t) (iblk m c 1 t) (iblk m c 2 t) (iblk m c 3 t) (iblk m c 4 t) (iblk m c 5 t)) (eq_ix2 (j : S1024x256.Idx))).trans ?_
  refine (block_6 m c t (j 0) (j 1)).trans ?_
  show _ = up m c (win0_6.index t 0 * 1024 + 1 * (j 0).val) (win0_6.index t 1 * 256 + 1 * (j 1).val)
  rw [i0, i1, one_mul, one_mul, mul_comm (t.val % 4) 1024, mul_comm (t.val / 4) 256]

/-- The array of the gate half of the up projection after the run. -/
theorem final_6 : (dats m 0 c).arrAt 6 cfg0.N = result_6 m c :=
  (dats m 0 c).arrAt_eq_of_cover 6 (result_6 m c) (flushed_6 m c) fun i => by
    have h0 : (i 0 : Nat) < 4096 := (i 0).isLt
    have h1 : (i 1 : Nat) < 2816 := (i 1).isLt
    have hN : cfg0.N = 44 := N_0
    obtain ⟨t, hv⟩ : ∃ t : Fin cfg0.N, t.val = 4 * ((i 1 : Nat) / 256) + (i 0 : Nat) / 1024 := ⟨⟨_, by omega⟩, rfl⟩
    have hx := index_6 t
    refine ⟨t, flush0_6 _, ?_⟩
    show i ∈ ((View.whole main_v2_0).slice (win0_6.rect t)).set
    rw [View.set_slice_whole, Rect.mem_set_unit]
    exact tile_at (by show _ * 1024 ≤ (i 0 : Nat) ∧ _ < _ * 1024 + 1024; rw [hx.1]; omega)
      (by show _ * 256 ≤ (i 1 : Nat) ∧ _ < _ * 256 + 256; rw [hx.2]; omega)

/-- The whole array of the value half of the up projection. -/
def result_7 : Buf (Elt Ideal) ((c : Thread nD τ).loc main_v2_1) := fun (q : S4096x2816.Idx) => up m c (q 0).val (2816 + (q 1).val)

theorem flushed_7 (t : Fin cfg0.N) (_hf : (cfg0.win 7).flush t = true) :
    (dats m 0 c).flushed 7 t = ((cfg0.win 7).blk t).view.read (Elt Ideal) (result_7 m c) := by
  obtain ⟨i0, i1⟩ := index_7 t
  rw [Cert.Kernel2Ideal.Value.flushed7]
  funext j
  rw [View.read_apply]
  refine (congrArg (out0_7 (F := Ideal) (grid0.coords t) (iblk m c 0 t) (iblk m c 1 t) (iblk m c 2 t) (iblk m c 3 t) (iblk m c 4 t) (iblk m c 5 t)) (eq_ix2 (j : S1024x256.Idx))).trans ?_
  refine (block_7 m c t (j 0) (j 1)).trans ?_
  show _ = up m c (win0_7.index t 0 * 1024 + 1 * (j 0).val) (2816 + (win0_7.index t 1 * 256 + 1 * (j 1).val))
  rw [i0, i1, one_mul, one_mul, mul_comm (t.val % 4) 1024, mul_comm (t.val / 4) 256, Nat.add_assoc 2816]

/-- The array of the value half of the up projection after the run. -/
theorem final_7 : (dats m 0 c).arrAt 7 cfg0.N = result_7 m c :=
  (dats m 0 c).arrAt_eq_of_cover 7 (result_7 m c) (flushed_7 m c) fun i => by
    have h0 : (i 0 : Nat) < 4096 := (i 0).isLt
    have h1 : (i 1 : Nat) < 2816 := (i 1).isLt
    have hN : cfg0.N = 44 := N_0
    obtain ⟨t, hv⟩ : ∃ t : Fin cfg0.N, t.val = 4 * ((i 1 : Nat) / 256) + (i 0 : Nat) / 1024 := ⟨⟨_, by omega⟩, rfl⟩
    have hx := index_7 t
    refine ⟨t, flush0_7 _, ?_⟩
    show i ∈ ((View.whole main_v2_1).slice (win0_7.rect t)).set
    rw [View.set_slice_whole, Rect.mem_set_unit]
    exact tile_at (by show _ * 1024 ≤ (i 0 : Nat) ∧ _ < _ * 1024 + 1024; rw [hx.1]; omega)
      (by show _ * 256 ≤ (i 1 : Nat) ∧ _ < _ * 256 + 256; rw [hx.2]; omega)

/-- The whole array of the gated activation. -/
def result_8 : Buf (Elt Ideal) ((c : Thread nD τ).loc main_v2_2) := fun (q : S4096x2816.Idx) => gated (conv (up m c) (argC m c) (q 1).val (q 0).val (q 1).val) (conv (up m c) (argC m c) (2816 + (q 1).val) (q 0).val (2816 + (q 1).val))

theorem flushed_8 (t : Fin cfg0.N) (_hf : (cfg0.win 8).flush t = true) :
    (dats m 0 c).flushed 8 t = ((cfg0.win 8).blk t).view.read (Elt Ideal) (result_8 m c) := by
  obtain ⟨i0, i1⟩ := index_8 t
  rw [Cert.Kernel2Ideal.Value.flushed8]
  funext j
  rw [View.read_apply]
  refine (congrArg (out0_8 (F := Ideal) (grid0.coords t) (iblk m c 0 t) (iblk m c 1 t) (iblk m c 2 t) (iblk m c 3 t) (iblk m c 4 t) (iblk m c 5 t)) (eq_ix2 (j : S1024x256.Idx))).trans ?_
  refine (block_8 m c t (j 0) (j 1)).trans ?_
  show _ = gated (conv (up m c) (argC m c) (win0_8.index t 1 * 256 + 1 * (j 1).val) (win0_8.index t 0 * 1024 + 1 * (j 0).val) (win0_8.index t 1 * 256 + 1 * (j 1).val)) (conv (up m c) (argC m c) (2816 + (win0_8.index t 1 * 256 + 1 * (j 1).val)) (win0_8.index t 0 * 1024 + 1 * (j 0).val) (2816 + (win0_8.index t 1 * 256 + 1 * (j 1).val)))
  rw [i0, i1, one_mul, one_mul, mul_comm (t.val % 4) 1024, mul_comm (t.val / 4) 256, Nat.add_assoc 2816]

/-- The array of the gated activation after the run. -/
theorem final_8 : (dats m 0 c).arrAt 8 cfg0.N = result_8 m c :=
  (dats m 0 c).arrAt_eq_of_cover 8 (result_8 m c) (flushed_8 m c) fun i => by
    have h0 : (i 0 : Nat) < 4096 := (i 0).isLt
    have h1 : (i 1 : Nat) < 2816 := (i 1).isLt
    have hN : cfg0.N = 44 := N_0
    obtain ⟨t, hv⟩ : ∃ t : Fin cfg0.N, t.val = 4 * ((i 1 : Nat) / 256) + (i 0 : Nat) / 1024 := ⟨⟨_, by omega⟩, rfl⟩
    have hx := index_8 t
    refine ⟨t, flush0_8 _, ?_⟩
    show i ∈ ((View.whole main_v2_2).slice (win0_8.rect t)).set
    rw [View.set_slice_whole, Rect.mem_set_unit]
    exact tile_at (by show _ * 1024 ≤ (i 0 : Nat) ∧ _ < _ * 1024 + 1024; rw [hx.1]; omega)
      (by show _ * 256 ≤ (i 1 : Nat) ∧ _ < _ * 256 + 256; rw [hx.2]; omega)

/-- The kernel's run: the three results are the plain mathematics of the arguments and the arguments are unchanged. -/
theorem run : θ_run defs (onTc (τ := τ) (main (F := Ideal))) ⟨m, fun _ => 0, ρ⟩ fun r => ∀ c : Dev nD,
      r.2.mem ((c : Thread nD τ).loc main_v2_0) = result_6 m c
      ∧ r.2.mem ((c : Thread nD τ).loc main_v2_1) = result_7 m c
      ∧ r.2.mem ((c : Thread nD τ).loc main_v2_2) = result_8 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨(h c).1.trans (final_6 m c), (h c).2.1.trans (final_7 m c), (h c).2.2.1.trans (final_8 m c), (h c).2.2.2⟩)
    (Cert.Kernel2Ideal.Value.run_blocks m ρ)

end Cert.Kernel2Ideal.Up

namespace Cert.Reference2Ideal.Up

open Idealize.ShloMosaic Idealize.SL.Sem
open Cert.Reference2Ideal Cert.Reference2Ideal.Gen Cert.Reference2Ideal.Read Cert.Ffn Cert.Product

/-- The reference runs, keeps its arguments and leaves every counter at zero. -/
theorem frame : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run m ρ)

variable (x0 : (⟨S4096x1024, .f32⟩ : BufTy).Contents (Elt Ideal)) (x1 : (⟨S1024x5632, .f32⟩ : BufTy).Contents (Elt Ideal))
  (x2 : (⟨S3x5632, .f32⟩ : BufTy).Contents (Elt Ideal))

abbrev up : Nat → Nat → EReal := prod 1024 (at2 (n := 4096) (m := 1024) x0) (at2 (n := 1024) (m := 5632) x1)
abbrev filt : Nat → Nat → EReal := at2 (n := 3) (m := 5632) x2

theorem up_read (p : Fin 4096) (q : Fin 5632) : val_main_v0 (F := Ideal) x0 x1 (ix2 p q) = up x0 x1 p.val q.val := by
  unfold val_main_v0
  pointwise
  rw [up, prod_fin]
  exact Finset.sum_congr rfl fun k _ => by rw [at2_ix2, at2_ix2]

theorem input_read (p : Fin 4098) (q : Fin 5632) : val_main_v2 (F := Ideal) x0 x1 (ix2 p q) = bk 2 (up x0 x1) p.val q.val := by
  have h := up_read x0 x1
  unfold val_main_v2 val_main_v1 val_main_cst
  generalize val_main_v0 (F := Ideal) x0 x1 = y at h ⊢
  pointwise
  by_cases hp : p.val < 2
  · rw [dif_pos hp]
    exact (if_neg (by omega)).symm
  · rw [dif_neg hp]
    exact (h _ _).trans (if_pos (by omega)).symm

theorem conv_read (p : Fin 4096) (q : Fin 5632) : val_main_v16 (F := Ideal) x0 x1 x2 (ix2 p q)
    = conv (up x0 x1) (filt x2) q.val p.val q.val := by
  have r0 := input_read x0 x1 (⟨p.val, by omega⟩ : Fin 4098) q
  have r1 := input_read x0 x1 (⟨1 + p.val, by omega⟩ : Fin 4098) q
  have r2 := input_read x0 x1 (⟨2 + p.val, by omega⟩ : Fin 4098) q
  unfold val_main_v16 val_main_v15 val_main_v14 val_main_v13 val_main_v12 val_main_v11 val_main_v10 val_main_v9
    val_main_v8 val_main_v7 val_main_v6 val_main_v5 val_main_v4 val_main_v3
  generalize val_main_v2 (F := Ideal) x0 x1 = y at r0 r1 r2 ⊢
  pointwise
  rw [r0, r1, r2]
  have h1 := bk_add 1 1 (up x0 x1) p.val q.val
  have h2 := bk_add 0 2 (up x0 x1) p.val q.val
  rw [bk_zero] at h2
  unfold conv
  rw [← h1, ← h2, show x2 (ix2 0 q) = filt x2 0 q.val from (at2_ix2 x2 0 q).symm,
    show x2 (ix2 1 q) = filt x2 1 q.val from (at2_ix2 x2 1 q).symm, show x2 (ix2 2 q) = filt x2 2 q.val from (at2_ix2 x2 2 q).symm]
  show _ + filt x2 1 q.val * bk 2 _ (1 + p.val) _ + filt x2 2 q.val * bk 2 _ (2 + p.val) _ = _
  rw [add_comm 1 p.val, add_comm 2 p.val]
  generalize filt x2 0 q.val * _ = u0
  generalize filt x2 1 q.val * _ = u1
  generalize filt x2 2 q.val * _ = u2
  rw [add_comm (u0 + u1) u2, add_comm u0 u1, add_assoc]

theorem out0_read (p : Fin 4096) (q : Fin 2816) : val_main_v19 (F := Ideal) x0 x1 (ix2 p q) = up x0 x1 p.val q.val := by
  have h := up_read x0 x1 p ⟨q.val, by omega⟩
  unfold val_main_v19
  generalize val_main_v0 (F := Ideal) x0 x1 = y at h ⊢
  pointwise
  exact h

theorem out1_read (p : Fin 4096) (q : Fin 2816) : val_main_v20 (F := Ideal) x0 x1 (ix2 p q) = up x0 x1 p.val (2816 + q.val) := by
  have h := up_read x0 x1 p ⟨2816 + q.val, by omega⟩
  unfold val_main_v20
  generalize val_main_v0 (F := Ideal) x0 x1 = y at h ⊢
  pointwise
  exact h

theorem out2_read (p : Fin 4096) (q : Fin 2816) : val_main_v23 (F := Ideal) x0 x1 x2 (ix2 p q)
    = Cert.Kernel2Ideal.Up.gated (conv (up x0 x1) (filt x2) q.val p.val q.val) (conv (up x0 x1) (filt x2) (2816 + q.val) p.val (2816 + q.val)) := by
  have hg := conv_read x0 x1 x2 p ⟨q.val, by omega⟩
  have hv := conv_read x0 x1 x2 p ⟨2816 + q.val, by omega⟩
  unfold val_main_v23 val_main_v22 val_main_v21 val_main_call0_v5 val_main_call0_v4 val_main_call0_v3 val_main_call0_v2 val_main_call0_v1
    val_main_call0_v0 val_main_call0_cst val_main_call0_cst_0 val_main_v17 val_main_v18
  generalize val_main_v16 (F := Ideal) x0 x1 x2 = y at hg hv ⊢
  pointwise
  rw [hg, hv]
  rfl

end Cert.Reference2Ideal.Up

namespace Cert.Kernel2Ideal.Up

open Idealize.ShloMosaic Idealize.SL.Sem

/-- The kernel and the reference end with the same three arrays. -/
theorem algebraic : Cert.algebraic_Kernel2Ideal_Reference2Ideal := by
  intro m g m' g' _ hargs
  refine ⟨result_6 m, result_7 m, result_8 m, run m g, ?_⟩
  refine (θ_run Cert.Reference2Ideal.defs _ _).mono (fun r h c => ?_) (Cert.Reference2Ideal.Value.run (F := Ideal) m' g')
  obtain ⟨a0, a1, a2⟩ := hargs c
  refine ⟨(h c).1.trans ?_, (h c).2.1.trans ?_, (h c).2.2.1.trans ?_, (h c).2.2.2⟩
  · rw [Cert.Reference2Ideal.Read.val_main_v19_eq, a0, a1]
    refine funext fun i => ?_
    rw [eq_ix2 i]
    exact Cert.Reference2Ideal.Up.out0_read _ _ (i 0) (i 1)
  · rw [Cert.Reference2Ideal.Read.val_main_v20_eq, a0, a1]
    refine funext fun i => ?_
    rw [eq_ix2 i]
    exact Cert.Reference2Ideal.Up.out1_read _ _ (i 0) (i 1)
  · rw [Cert.Reference2Ideal.Read.val_main_v23_eq, a0, a1, a2]
    refine funext fun i => ?_
    rw [eq_ix2 i]
    exact Cert.Reference2Ideal.Up.out2_read _ _ _ (i 0) (i 1)

end Cert.Kernel2Ideal.Up

end
-- ==== Proof.Prod3.lean ====
/-
  The feed-forward block's down projection with the residual added: the kernel computes the plain product plus the residual.
-/
module

public import proofs.«01_k».proof.Defs
public import proofs.«01_k».proof.Proof.Product
public import proofs.«01_k».proof.Proof.Gen.Kernel3Ideal.Value
public import proofs.«01_k».proof.Proof.Gen.Reference3Ideal.Run
public import proofs.«01_k».proof.Proof.Gen.Reference3Ideal.Read

@[expose] public section

noncomputable section

namespace Cert.Kernel3Ideal.Prod

open Idealize.ShloMosaic Idealize.ShloMosaic.TcCoe Idealize.SL.Sem
open Cert.Kernel3Ideal Cert.Kernel3Ideal.Gen Cert.Ffn Cert.Product

/-- One entry of the block a grid point leaves in the output's buffer. -/
theorem out_read (x0 : Vec Ideal S512x2816 .bf16) (x1 : Vec Ideal S2816x1024 .bf16) (x2 : Vec Ideal S512x1024 .f32) (r : Fin 512) (l : Fin 1024) :
    out0_3 (F := Ideal) x0 x1 x2 (ix2 r l) = (∑ k : Fin 2816, x0 (ix2 r k) * x1 (ix2 k l)) + x2 (ix2 r l) := by
  unfold out0_3
  refine (congrFun (View.canon_unit_zero hz inb_S512x1024_S512x1024_0_0 _) (ix2 r l)).trans ?_
  have e0 : View.ld x0 r0_0 = x0 := View.ld_unit_zero (S := S512x2816) hz inb_S512x2816_S512x2816_0_0 x0
  have e1 : View.ld x1 r0_1 = x1 := View.ld_unit_zero (S := S2816x1024) hz inb_S2816x1024_S2816x1024_0_0 x1
  have e2 : View.ld x2 r0_2 = x2 := View.ld_unit_zero (S := S512x1024) hz inb_S512x1024_S512x1024_0_0 x2
  rw [e0, e1, e2]
  unfold k0_pay1
  pointwise

variable (m : (ℓ : Loc nD τ sig) → Buf (Elt Ideal) ℓ) (ρ : Dev nD → PrngReg) (c : Dev nD)

/-- Argument 0 as a matrix. -/
abbrev arg0 : Nat → Nat → EReal := at2 (n := 4096) (m := 2816) (m ((c : Thread nD τ).loc main_arg0))

/-- Argument 1 as a matrix. -/
abbrev arg1 : Nat → Nat → EReal := at2 (n := 2816) (m := 1024) (m ((c : Thread nD τ).loc main_arg1))

/-- Argument 2 as a matrix. -/
abbrev arg2 : Nat → Nat → EReal := at2 (n := 4096) (m := 1024) (m ((c : Thread nD τ).loc main_arg2))

theorem point_lt (t : Fin cfg0.N) : t.val < 8 := t.isLt.trans_eq N_0

theorem V_main_v0 : V m c main_v0 = (m ((c : Thread nD τ).loc main_arg0) : Vec Ideal S4096x2816 .f32) := by
  unfold V hostOps0
  after_results
  rfl

theorem V_main_v1 : V m c main_v1 = (m ((c : Thread nD τ).loc main_arg1) : Vec Ideal S2816x1024 .f32) := by
  unfold V hostOps0
  after_results
  rfl

theorem index_0 : ∀ t : Fin grid0.N, win0_0.index t 0 = t.val ∧ win0_0.index t 1 = 0 := by decide +kernel

theorem index_1 : ∀ t : Fin grid0.N, win0_1.index t 0 = 0 ∧ win0_1.index t 1 = 0 := by decide +kernel

theorem index_2 : ∀ t : Fin grid0.N, win0_2.index t 0 = t.val ∧ win0_2.index t 1 = 0 := by decide +kernel

theorem index_3 : ∀ t : Fin grid0.N, win0_3.index t 0 = t.val ∧ win0_3.index t 1 = 0 := by decide +kernel

/-- What point `t` reads through window 0. -/
theorem iblk_0 (t : Fin cfg0.N) (r : Fin 512) (l : Fin 2816) :
    iblk m c 0 t (ix2 r l) = arg0 m c (t.val * 512 + r.val) (0 * 2816 + l.val) := by
  have ht := point_lt t
  obtain ⟨i0, i1⟩ := index_0 t
  unfold iblk
  rw [View.read_apply]
  show V m c main_v0 _ = _
  rw [V_main_v0]
  exact at2_at _ _ (by show win0_0.index t 0 * 512 + 1 * r.val = _; rw [i0]; omega)
    (by show win0_0.index t 1 * 2816 + 1 * l.val = _; rw [i1]; omega)

/-- What point `t` reads through window 1. -/
theorem iblk_1 (t : Fin cfg0.N) (r : Fin 2816) (l : Fin 1024) :
    iblk m c 1 t (ix2 r l) = arg1 m c (0 * 2816 + r.val) (0 * 1024 + l.val) := by
  have ht := point_lt t
  obtain ⟨i0, i1⟩ := index_1 t
  unfold iblk
  rw [View.read_apply]
  show V m c main_v1 _ = _
  rw [V_main_v1]
  exact at2_at _ _ (by show win0_1.index t 0 * 2816 + 1 * r.val = _; rw [i0]; omega)
    (by show win0_1.index t 1 * 1024 + 1 * l.val = _; rw [i1]; omega)

/-- What point `t` reads through window 2. -/
theorem iblk_2 (t : Fin cfg0.N) (r : Fin 512) (l : Fin 1024) :
    iblk m c 2 t (ix2 r l) = arg2 m c (t.val * 512 + r.val) (0 * 1024 + l.val) := by
  have ht := point_lt t
  obtain ⟨i0, i1⟩ := index_2 t
  unfold iblk
  rw [View.read_apply]
  show V m c main_arg2 _ = _
  rw [V_main_arg2]
  exact at2_at _ _ (by show win0_2.index t 0 * 512 + 1 * r.val = _; rw [i0]; omega)
    (by show win0_2.index t 1 * 1024 + 1 * l.val = _; rw [i1]; omega)

/-- The whole result. -/
def result : Buf (Elt Ideal) ((c : Thread nD τ).loc main_v2) := fun (q : S4096x1024.Idx) =>
  prod 2816 (arg0 m c) (arg1 m c) (q 0).val (q 1).val + arg2 m c (q 0).val (q 1).val

/-- What point `t` leaves of the output. -/
theorem block (t : Fin cfg0.N) (r : Fin 512) (l : Fin 1024) :
    out0_3 (F := Ideal) (iblk m c 0 t) (iblk m c 1 t) (iblk m c 2 t) (ix2 r l)
      = prod 2816 (arg0 m c) (arg1 m c) (t.val * 512 + r.val) (0 * 1024 + l.val) + arg2 m c (t.val * 512 + r.val) (0 * 1024 + l.val) := by
  rw [out_read]
  simp only [iblk_0, iblk_1, iblk_2, prod_fin, zero_mul, zero_add]

theorem flushed (t : Fin cfg0.N) (_hf : (cfg0.win 3).flush t = true) :
    (dats m 0 c).flushed 3 t = ((cfg0.win 3).blk t).view.read (Elt Ideal) (result m c) := by
  obtain ⟨i0, i1⟩ := index_3 t
  rw [Cert.Kernel3Ideal.Value.flushed3]
  funext j
  rw [View.read_apply]
  refine (congrArg (out0_3 (F := Ideal) (iblk m c 0 t) (iblk m c 1 t) (iblk m c 2 t)) (eq_ix2 (j : S512x1024.Idx))).trans ?_
  refine (block m c t (j 0) (j 1)).trans ?_
  show _ = prod 2816 (arg0 m c) (arg1 m c) (win0_3.index t 0 * 512 + 1 * (j 0).val) (win0_3.index t 1 * 1024 + 1 * (j 1).val) + arg2 m c (win0_3.index t 0 * 512 + 1 * (j 0).val) (win0_3.index t 1 * 1024 + 1 * (j 1).val)
  rw [i0, i1, one_mul, one_mul]

/-- The result's array after the run. -/
theorem final : (dats m 0 c).arrAt 3 cfg0.N = result m c :=
  (dats m 0 c).arrAt_eq_of_cover 3 (result m c) (flushed m c) fun i => by
    have h0 : (i 0 : Nat) < 4096 := (i 0).isLt
    have h1 : (i 1 : Nat) < 1024 := (i 1).isLt
    have hN : cfg0.N = 8 := N_0
    obtain ⟨t, hv⟩ : ∃ t : Fin cfg0.N, t.val = (i 0 : Nat) / 512 := ⟨⟨_, by omega⟩, rfl⟩
    have hx := index_3 t
    refine ⟨t, flush0_3 _, ?_⟩
    show i ∈ ((View.whole main_v2).slice (win0_3.rect t)).set
    rw [View.set_slice_whole, Rect.mem_set_unit]
    exact tile_at (by show _ * 512 ≤ (i 0 : Nat) ∧ _ < _ * 512 + 512; rw [hx.1]; omega)
      (by show _ * 1024 ≤ (i 1 : Nat) ∧ _ < _ * 1024 + 1024; rw [hx.2]; omega)

/-- The kernel's run: the result is the plain product and the arguments are unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.Kernel3Ideal.Value.run_blocks m ρ)

end Cert.Kernel3Ideal.Prod

namespace Cert.Reference3Ideal.Prod

open Idealize.ShloMosaic Idealize.SL.Sem
open Cert.Reference3Ideal Cert.Reference3Ideal.Gen Cert.Reference3Ideal.Read Cert.Ffn Cert.Product

/-- The reference runs, keeps its arguments and leaves every counter at zero. -/
theorem frame : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

/-- One entry of the reference's result. -/
theorem read (x0 : (⟨S4096x2816, .f32⟩ : BufTy).Contents (Elt Ideal)) (x1 : (⟨S2816x1024, .f32⟩ : BufTy).Contents (Elt Ideal)) (x2 : (⟨S4096x1024, .f32⟩ : BufTy).Contents (Elt Ideal))
    (p : Fin 4096) (q : Fin 1024) :
    val_main_v1 (F := Ideal) x0 x1 x2 (ix2 p q)
      = prod 2816 (at2 (n := 4096) (m := 2816) x0) (at2 (n := 2816) (m := 1024) x1) p.val q.val + at2 x2 p.val q.val := by
  unfold val_main_v1 val_main_v0
  pointwise
  rw [prod_fin, at2_ix2, add_comm]
  congr 1
  exact Finset.sum_congr rfl fun k _ => by rw [at2_ix2, at2_ix2]

end Cert.Reference3Ideal.Prod

namespace Cert.Kernel3Ideal.Prod

open Idealize.ShloMosaic Idealize.SL.Sem

/-- The kernel and the reference end with the same array. -/
theorem algebraic : Cert.algebraic_Kernel3Ideal_Reference3Ideal := by
  intro m g m' g' _ hargs
  refine ⟨result m, run m g, ?_⟩
  refine (θ_run Cert.Reference3Ideal.defs _ _).mono (fun r h c => ?_) (Cert.Reference3Ideal.Value.run (F := Ideal) m' g')
  obtain ⟨a0, a1, a2⟩ := hargs c
  refine ⟨(h c).1.trans ?_, (h c).2⟩
  rw [Cert.Reference3Ideal.Read.val_main_v1_eq, a0, a1, a2]
  refine funext fun i => ?_
  rw [eq_ix2 i]
  exact Cert.Reference3Ideal.Prod.read _ _ _ (i 0) (i 1)

end Cert.Kernel3Ideal.Prod

end
-- ==== Proof.Prod4.lean ====
/-
  The gradient of the down projection's weight: the kernel computes the plain product of the activations transposed and the output gradient.
-/
module

public import proofs.«01_k».proof.Defs
public import proofs.«01_k».proof.Proof.Product
public import proofs.«01_k».proof.Proof.Gen.Kernel4Ideal.Value
public import proofs.«01_k».proof.Proof.Gen.Reference4Ideal.Run
public import proofs.«01_k».proof.Proof.Gen.Reference4Ideal.Read

@[expose] public section

noncomputable section

namespace Cert.Kernel4Ideal.Prod

open Idealize.ShloMosaic Idealize.ShloMosaic.TcCoe Idealize.SL.Sem
open Cert.Kernel4Ideal Cert.Kernel4Ideal.Gen Cert.Ffn Cert.Product

/-- One entry of the block a grid point leaves in the output's buffer. -/
theorem out_read (x0 : Vec Ideal S4096x256 .bf16) (x1 : Vec Ideal S4096x1024 .bf16) (r : Fin 256) (l : Fin 1024) :
    out0_2 (F := Ideal) x0 x1 (ix2 r l) = (∑ k : Fin 4096, x0 (ix2 k r) * x1 (ix2 k l)) := by
  unfold out0_2
  refine (congrFun (View.canon_unit_zero hz inb_S256x1024_S256x1024_0_0 _) (ix2 r l)).trans ?_
  have e0 : View.ld x0 r0_0 = x0 := View.ld_unit_zero (S := S4096x256) hz inb_S4096x256_S4096x256_0_0 x0
  have e1 : View.ld x1 r0_1 = x1 := View.ld_unit_zero (S := S4096x1024) hz inb_S4096x1024_S4096x1024_0_0 x1
  rw [e0, e1]
  unfold k0_pay1
  pointwise

variable (m : (ℓ : Loc nD τ sig) → Buf (Elt Ideal) ℓ) (ρ : Dev nD → PrngReg) (c : Dev nD)

/-- Argument 0 as a matrix. -/
abbrev arg0 : Nat → Nat → EReal := at2 (n := 4096) (m := 2816) (m ((c : Thread nD τ).loc main_arg0))

/-- Argument 2 as a matrix. -/
abbrev arg2 : Nat → Nat → EReal := at2 (n := 4096) (m := 1024) (m ((c : Thread nD τ).loc main_arg2))

theorem point_lt (t : Fin cfg0.N) : t.val < 11 := t.isLt.trans_eq N_0

theorem V_main_v0 : V m c main_v0 = (m ((c : Thread nD τ).loc main_arg0) : Vec Ideal S4096x2816 .f32) := by
  unfold V hostOps0
  after_results
  rfl

theorem V_main_v1 : V m c main_v1 = (m ((c : Thread nD τ).loc main_arg2) : Vec Ideal S4096x1024 .f32) := by
  unfold V hostOps0
  after_results
  rfl

theorem index_0 : ∀ t : Fin grid0.N, win0_0.index t 0 = 0 ∧ win0_0.index t 1 = t.val := by decide +kernel

theorem index_1 : ∀ t : Fin grid0.N, win0_1.index t 0 = 0 ∧ win0_1.index t 1 = 0 := by decide +kernel

theorem index_2 : ∀ t : Fin grid0.N, win0_2.index t 0 = t.val ∧ win0_2.index t 1 = 0 := by decide +kernel

/-- What point `t` reads through window 0. -/
theorem iblk_0 (t : Fin cfg0.N) (r : Fin 4096) (l : Fin 256) :
    iblk m c 0 t (ix2 r l) = arg0 m c (0 * 4096 + r.val) (t.val * 256 + l.val) := by
  have ht := point_lt t
  obtain ⟨i0, i1⟩ := index_0 t
  unfold iblk
  rw [View.read_apply]
  show V m c main_v0 _ = _
  rw [V_main_v0]
  exact at2_at _ _ (by show win0_0.index t 0 * 4096 + 1 * r.val = _; rw [i0]; omega)
    (by show win0_0.index t 1 * 256 + 1 * l.val = _; rw [i1]; omega)

/-- What point `t` reads through window 1. -/
theorem iblk_1 (t : Fin cfg0.N) (r : Fin 4096) (l : Fin 1024) :
    iblk m c 1 t (ix2 r l) = arg2 m c (0 * 4096 + r.val) (0 * 1024 + l.val) := by
  have ht := point_lt t
  obtain ⟨i0, i1⟩ := index_1 t
  unfold iblk
  rw [View.read_apply]
  show V m c main_v1 _ = _
  rw [V_main_v1]
  exact at2_at _ _ (by show win0_1.index t 0 * 4096 + 1 * r.val = _; rw [i0]; omega)
    (by show win0_1.index t 1 * 1024 + 1 * l.val = _; rw [i1]; omega)

/-- The whole result. -/
def result : Buf (Elt Ideal) ((c : Thread nD τ).loc main_v2) := fun (q : S2816x1024.Idx) =>
  prodTa 4096 (arg0 m c) (arg2 m c) (q 0).val (q 1).val

/-- What point `t` leaves of the output. -/
theorem block (t : Fin cfg0.N) (r : Fin 256) (l : Fin 1024) :
    out0_2 (F := Ideal) (iblk m c 0 t) (iblk m c 1 t) (ix2 r l)
      = prodTa 4096 (arg0 m c) (arg2 m c) (t.val * 256 + r.val) (0 * 1024 + l.val) := by
  rw [out_read]
  simp only [iblk_0, iblk_1, prodTa_fin, zero_mul, zero_add]

theorem flushed (t : Fin cfg0.N) (_hf : (cfg0.win 2).flush t = true) :
    (dats m 0 c).flushed 2 t = ((cfg0.win 2).blk t).view.read (Elt Ideal) (result m c) := by
  obtain ⟨i0, i1⟩ := index_2 t
  rw [Cert.Kernel4Ideal.Value.flushed2]
  funext j
  rw [View.read_apply]
  refine (congrArg (out0_2 (F := Ideal) (iblk m c 0 t) (iblk m c 1 t)) (eq_ix2 (j : S256x1024.Idx))).trans ?_
  refine (block m c t (j 0) (j 1)).trans ?_
  show _ = prodTa 4096 (arg0 m c) (arg2 m c) (win0_2.index t 0 * 256 + 1 * (j 0).val) (win0_2.index t 1 * 1024 + 1 * (j 1).val)
  rw [i0, i1, one_mul, one_mul]

/-- The result's array after the run. -/
theorem final : (dats m 0 c).arrAt 2 cfg0.N = result m c :=
  (dats m 0 c).arrAt_eq_of_cover 2 (result m c) (flushed m c) fun i => by
    have h0 : (i 0 : Nat) < 2816 := (i 0).isLt
    have h1 : (i 1 : Nat) < 1024 := (i 1).isLt
    have hN : cfg0.N = 11 := N_0
    obtain ⟨t, hv⟩ : ∃ t : Fin cfg0.N, t.val = (i 0 : Nat) / 256 := ⟨⟨_, by omega⟩, rfl⟩
    have hx := index_2 t
    refine ⟨t, flush0_2 _, ?_⟩
    show i ∈ ((View.whole main_v2).slice (win0_2.rect t)).set
    rw [View.set_slice_whole, Rect.mem_set_unit]
    exact tile_at (by show _ * 256 ≤ (i 0 : Nat) ∧ _ < _ * 256 + 256; rw [hx.1]; omega)
      (by show _ * 1024 ≤ (i 1 : Nat) ∧ _ < _ * 1024 + 1024; rw [hx.2]; omega)

/-- The kernel's run: the result is the plain product and the arguments are unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.Kernel4Ideal.Value.run_blocks m ρ)

end Cert.Kernel4Ideal.Prod

namespace Cert.Reference4Ideal.Prod

open Idealize.ShloMosaic Idealize.SL.Sem
open Cert.Reference4Ideal Cert.Reference4Ideal.Gen Cert.Reference4Ideal.Read Cert.Ffn Cert.Product

/-- The reference runs, keeps its arguments and leaves every counter at zero. -/
theorem frame : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

/-- One entry of the reference's result. -/
theorem read (x0 : (⟨S4096x2816, .f32⟩ : BufTy).Contents (Elt Ideal)) (x2 : (⟨S4096x1024, .f32⟩ : BufTy).Contents (Elt Ideal))
    (p : Fin 2816) (q : Fin 1024) :
    val_main_v3 (F := Ideal) x0 x2 (ix2 p q)
      = prodTa 4096 (at2 (n := 4096) (m := 2816) x0) (at2 (n := 4096) (m := 1024) x2) p.val q.val := by
  unfold val_main_v3 val_main_v2 val_main_v1
  pointwise
  rw [prodTa_fin]
  exact Finset.sum_congr rfl fun k _ => by rw [at2_ix2, at2_ix2, mul_comm]

end Cert.Reference4Ideal.Prod

namespace Cert.Kernel4Ideal.Prod

open Idealize.ShloMosaic Idealize.SL.Sem

/-- The kernel and the reference end with the same array. -/
theorem algebraic : Cert.algebraic_Kernel4Ideal_Reference4Ideal := by
  intro m g m' g' _ hargs
  refine ⟨result m, run m g, ?_⟩
  refine (θ_run Cert.Reference4Ideal.defs _ _).mono (fun r h c => ?_) (Cert.Reference4Ideal.Value.run (F := Ideal) m' g')
  obtain ⟨a0, a1, a2⟩ := hargs c
  refine ⟨(h c).1.trans ?_, (h c).2⟩
  rw [Cert.Reference4Ideal.Read.val_main_v3_eq, a0, a2]
  refine funext fun i => ?_
  rw [eq_ix2 i]
  exact Cert.Reference4Ideal.Prod.read _ _ (i 0) (i 1)

end Cert.Kernel4Ideal.Prod

end
-- ==== Proof.Prod5.lean ====
/-
  The gradient of one half of the up projection's weight: the kernel computes the plain product of the input transposed and the half's gradient.
-/
module

public import proofs.«01_k».proof.Defs
public import proofs.«01_k».proof.Proof.Product
public import proofs.«01_k».proof.Proof.Gen.Kernel5Ideal.Value
public import proofs.«01_k».proof.Proof.Gen.Reference5Ideal.Run
public import proofs.«01_k».proof.Proof.Gen.Reference5Ideal.Read

@[expose] public section

noncomputable section

namespace Cert.Kernel5Ideal.Prod

open Idealize.ShloMosaic Idealize.ShloMosaic.TcCoe Idealize.SL.Sem
open Cert.Kernel5Ideal Cert.Kernel5Ideal.Gen Cert.Ffn Cert.Product

/-- One entry of the block a grid point leaves in the output's buffer. -/
theorem out_read (x0 : Vec Ideal S4096x1024 .bf16) (x1 : Vec Ideal S4096x256 .bf16) (r : Fin 1024) (l : Fin 256) :
    out0_2 (F := Ideal) x0 x1 (ix2 r l) = (∑ k : Fin 4096, x0 (ix2 k r) * x1 (ix2 k l)) := by
  unfold out0_2
  refine (congrFun (View.canon_unit_zero hz inb_S1024x256_S1024x256_0_0 _) (ix2 r l)).trans ?_
  have e0 : View.ld x0 r0_0 = x0 := View.ld_unit_zero (S := S4096x1024) hz inb_S4096x1024_S4096x1024_0_0 x0
  have e1 : View.ld x1 r0_1 = x1 := View.ld_unit_zero (S := S4096x256) hz inb_S4096x256_S4096x256_0_0 x1
  rw [e0, e1]
  unfold k0_pay1
  pointwise

variable (m : (ℓ : Loc nD τ sig) → Buf (Elt Ideal) ℓ) (ρ : Dev nD → PrngReg) (c : Dev nD)

/-- Argument 0 as a matrix. -/
abbrev arg0 : Nat → Nat → EReal := at2 (n := 4096) (m := 1024) (m ((c : Thread nD τ).loc main_arg0))

/-- Argument 2 as a matrix. -/
abbrev arg2 : Nat → Nat → EReal := at2 (n := 4096) (m := 2816) (m ((c : Thread nD τ).loc main_arg2))

theorem point_lt (t : Fin cfg0.N) : t.val < 11 := t.isLt.trans_eq N_0

theorem V_main_v0 : V m c main_v0 = (m ((c : Thread nD τ).loc main_arg0) : Vec Ideal S4096x1024 .f32) := by
  unfold V hostOps0
  after_results
  rfl

theorem V_main_v1 : V m c main_v1 = (m ((c : Thread nD τ).loc main_arg2) : Vec Ideal S4096x2816 .f32) := by
  unfold V hostOps0
  after_results
  rfl

theorem index_0 : ∀ t : Fin grid0.N, win0_0.index t 0 = 0 ∧ win0_0.index t 1 = 0 := by decide +kernel

theorem index_1 : ∀ t : Fin grid0.N, win0_1.index t 0 = 0 ∧ win0_1.index t 1 = t.val := by decide +kernel

theorem index_2 : ∀ t : Fin grid0.N, win0_2.index t 0 = 0 ∧ win0_2.index t 1 = t.val := by decide +kernel

/-- What point `t` reads through window 0. -/
theorem iblk_0 (t : Fin cfg0.N) (r : Fin 4096) (l : Fin 1024) :
    iblk m c 0 t (ix2 r l) = arg0 m c (0 * 4096 + r.val) (0 * 1024 + l.val) := by
  have ht := point_lt t
  obtain ⟨i0, i1⟩ := index_0 t
  unfold iblk
  rw [View.read_apply]
  show V m c main_v0 _ = _
  rw [V_main_v0]
  exact at2_at _ _ (by show win0_0.index t 0 * 4096 + 1 * r.val = _; rw [i0]; omega)
    (by show win0_0.index t 1 * 1024 + 1 * l.val = _; rw [i1]; omega)

/-- What point `t` reads through window 1. -/
theorem iblk_1 (t : Fin cfg0.N) (r : Fin 4096) (l : Fin 256) :
    iblk m c 1 t (ix2 r l) = arg2 m c (0 * 4096 + r.val) (t.val * 256 + l.val) := by
  have ht := point_lt t
  obtain ⟨i0, i1⟩ := index_1 t
  unfold iblk
  rw [View.read_apply]
  show V m c main_v1 _ = _
  rw [V_main_v1]
  exact at2_at _ _ (by show win0_1.index t 0 * 4096 + 1 * r.val = _; rw [i0]; omega)
    (by show win0_1.index t 1 * 256 + 1 * l.val = _; rw [i1]; omega)

/-- The whole result. -/
def result : Buf (Elt Ideal) ((c : Thread nD τ).loc main_v2) := fun (q : S1024x2816.Idx) =>
  prodTa 4096 (arg0 m c) (arg2 m c) (q 0).val (q 1).val

/-- What point `t` leaves of the output. -/
theorem block (t : Fin cfg0.N) (r : Fin 1024) (l : Fin 256) :
    out0_2 (F := Ideal) (iblk m c 0 t) (iblk m c 1 t) (ix2 r l)
      = prodTa 4096 (arg0 m c) (arg2 m c) (0 * 1024 + r.val) (t.val * 256 + l.val) := by
  rw [out_read]
  simp only [iblk_0, iblk_1, prodTa_fin, zero_mul, zero_add]

theorem flushed (t : Fin cfg0.N) (_hf : (cfg0.win 2).flush t = true) :
    (dats m 0 c).flushed 2 t = ((cfg0.win 2).blk t).view.read (Elt Ideal) (result m c) := by
  obtain ⟨i0, i1⟩ := index_2 t
  rw [Cert.Kernel5Ideal.Value.flushed2]
  funext j
  rw [View.read_apply]
  refine (congrArg (out0_2 (F := Ideal) (iblk m c 0 t) (iblk m c 1 t)) (eq_ix2 (j : S1024x256.Idx))).trans ?_
  refine (block m c t (j 0) (j 1)).trans ?_
  show _ = prodTa 4096 (arg0 m c) (arg2 m c) (win0_2.index t 0 * 1024 + 1 * (j 0).val) (win0_2.index t 1 * 256 + 1 * (j 1).val)
  rw [i0, i1, one_mul, one_mul]

/-- The result's array after the run. -/
theorem final : (dats m 0 c).arrAt 2 cfg0.N = result m c :=
  (dats m 0 c).arrAt_eq_of_cover 2 (result m c) (flushed m c) fun i => by
    have h0 : (i 0 : Nat) < 1024 := (i 0).isLt
    have h1 : (i 1 : Nat) < 2816 := (i 1).isLt
    have hN : cfg0.N = 11 := N_0
    obtain ⟨t, hv⟩ : ∃ t : Fin cfg0.N, t.val = (i 1 : Nat) / 256 := ⟨⟨_, by omega⟩, rfl⟩
    have hx := index_2 t
    refine ⟨t, flush0_2 _, ?_⟩
    show i ∈ ((View.whole main_v2).slice (win0_2.rect t)).set
    rw [View.set_slice_whole, Rect.mem_set_unit]
    exact tile_at (by show _ * 1024 ≤ (i 0 : Nat) ∧ _ < _ * 1024 + 1024; rw [hx.1]; omega)
      (by show _ * 256 ≤ (i 1 : Nat) ∧ _ < _ * 256 + 256; rw [hx.2]; omega)

/-- The kernel's run: the result is the plain product and the arguments are unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.Kernel5Ideal.Value.run_blocks m ρ)

end Cert.Kernel5Ideal.Prod

namespace Cert.Reference5Ideal.Prod

open Idealize.ShloMosaic Idealize.SL.Sem
open Cert.Reference5Ideal Cert.Reference5Ideal.Gen Cert.Reference5Ideal.Read Cert.Ffn Cert.Product

/-- The reference runs, keeps its arguments and leaves every counter at zero. -/
theorem frame : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

/-- One entry of the reference's result. -/
theorem read (x0 : (⟨S4096x1024, .f32⟩ : BufTy).Contents (Elt Ideal)) (x2 : (⟨S4096x2816, .f32⟩ : BufTy).Contents (Elt Ideal))
    (p : Fin 1024) (q : Fin 2816) :
    val_main_v3 (F := Ideal) x0 x2 (ix2 p q)
      = prodTa 4096 (at2 (n := 4096) (m := 1024) x0) (at2 (n := 4096) (m := 2816) x2) p.val q.val := by
  unfold val_main_v3 val_main_v2 val_main_v1
  pointwise
  rw [prodTa_fin]
  exact Finset.sum_congr rfl fun k _ => by rw [at2_ix2, at2_ix2, mul_comm]

end Cert.Reference5Ideal.Prod

namespace Cert.Kernel5Ideal.Prod

open Idealize.ShloMosaic Idealize.SL.Sem

/-- The kernel and the reference end with the same array. -/
theorem algebraic : Cert.algebraic_Kernel5Ideal_Reference5Ideal := by
  intro m g m' g' _ hargs
  refine ⟨result m, run m g, ?_⟩
  refine (θ_run Cert.Reference5Ideal.defs _ _).mono (fun r h c => ?_) (Cert.Reference5Ideal.Value.run (F := Ideal) m' g')
  obtain ⟨a0, a1, a2⟩ := hargs c
  refine ⟨(h c).1.trans ?_, (h c).2⟩
  rw [Cert.Reference5Ideal.Read.val_main_v3_eq, a0, a2]
  refine funext fun i => ?_
  rw [eq_ix2 i]
  exact Cert.Reference5Ideal.Prod.read _ _ (i 0) (i 1)

end Cert.Kernel5Ideal.Prod

end
-- ==== Proof.Prod6.lean ====
/-
  The gradient of the up projection's input: the kernel multiplies the two halves' gradients by the two halves of the weight and adds.
-/
module

public import proofs.«01_k».proof.Defs
public import proofs.«01_k».proof.Proof.Product
public import proofs.«01_k».proof.Proof.Gen.Kernel6Ideal.Value
public import proofs.«01_k».proof.Proof.Gen.Reference6Ideal.Run
public import proofs.«01_k».proof.Proof.Gen.Reference6Ideal.Read

@[expose] public section

noncomputable section

namespace Cert.Kernel6Ideal.Prod

open Idealize.ShloMosaic Idealize.ShloMosaic.TcCoe Idealize.SL.Sem
open Cert.Kernel6Ideal Cert.Kernel6Ideal.Gen Cert.Ffn Cert.Product

/-- One entry of the block a grid point leaves in the output's buffer. -/
theorem out_read (x0 : Vec Ideal S256x2816 .bf16) (x1 : Vec Ideal S256x2816 .bf16) (x2 : Vec Ideal S1024x2816 .bf16) (x3 : Vec Ideal S1024x2816 .bf16) (r : Fin 256) (l : Fin 1024) :
    out0_4 (F := Ideal) x0 x1 x2 x3 (ix2 r l) = (∑ k : Fin 2816, x0 (ix2 r k) * x2 (ix2 l k)) + (∑ k : Fin 2816, x1 (ix2 r k) * x3 (ix2 l k)) := by
  unfold out0_4
  refine (congrFun (View.canon_unit_zero hz inb_S256x1024_S256x1024_0_0 _) (ix2 r l)).trans ?_
  have e0 : View.ld x0 r0_0 = x0 := View.ld_unit_zero (S := S256x2816) hz inb_S256x2816_S256x2816_0_0 x0
  have e1 : View.ld x1 r0_0 = x1 := View.ld_unit_zero (S := S256x2816) hz inb_S256x2816_S256x2816_0_0 x1
  have e2 : View.ld x2 r0_1 = x2 := View.ld_unit_zero (S := S1024x2816) hz inb_S1024x2816_S1024x2816_0_0 x2
  have e3 : View.ld x3 r0_1 = x3 := View.ld_unit_zero (S := S1024x2816) hz inb_S1024x2816_S1024x2816_0_0 x3
  rw [e0, e1, e2, e3]
  unfold k0_pay1
  pointwise

variable (m : (ℓ : Loc nD τ sig) → Buf (Elt Ideal) ℓ) (ρ : Dev nD → PrngReg) (c : Dev nD)

/-- Argument 1 as a matrix. -/
abbrev arg1 : Nat → Nat → EReal := at2 (n := 1024) (m := 5632) (m ((c : Thread nD τ).loc main_arg1))

/-- Argument 2 as a matrix. -/
abbrev arg2 : Nat → Nat → EReal := at2 (n := 4096) (m := 2816) (m ((c : Thread nD τ).loc main_arg2))

/-- Argument 3 as a matrix. -/
abbrev arg3 : Nat → Nat → EReal := at2 (n := 4096) (m := 2816) (m ((c : Thread nD τ).loc main_arg3))

theorem point_lt (t : Fin cfg0.N) : t.val < 16 := t.isLt.trans_eq N_0

theorem V_main_v0 : V m c main_v0 = (m ((c : Thread nD τ).loc main_arg2) : Vec Ideal S4096x2816 .f32) := by
  unfold V hostOps0
  after_results
  rfl

theorem V_main_v1 : V m c main_v1 = (m ((c : Thread nD τ).loc main_arg3) : Vec Ideal S4096x2816 .f32) := by
  unfold V hostOps0
  after_results
  rfl

theorem V_main_v2 : V m c main_v2 = (m ((c : Thread nD τ).loc main_arg1) : Vec Ideal S1024x5632 .f32) := by
  unfold V hostOps0
  after_results
  rfl

theorem index_0 : ∀ t : Fin grid0.N, win0_0.index t 0 = t.val ∧ win0_0.index t 1 = 0 := by decide +kernel

theorem index_1 : ∀ t : Fin grid0.N, win0_1.index t 0 = t.val ∧ win0_1.index t 1 = 0 := by decide +kernel

theorem index_2 : ∀ t : Fin grid0.N, win0_2.index t 0 = 0 ∧ win0_2.index t 1 = 0 := by decide +kernel

theorem index_3 : ∀ t : Fin grid0.N, win0_3.index t 0 = 0 ∧ win0_3.index t 1 = 1 := by decide +kernel

theorem index_4 : ∀ t : Fin grid0.N, win0_4.index t 0 = t.val ∧ win0_4.index t 1 = 0 := by decide +kernel

/-- What point `t` reads through window 0. -/
theorem iblk_0 (t : Fin cfg0.N) (r : Fin 256) (l : Fin 2816) :
    iblk m c 0 t (ix2 r l) = arg2 m c (t.val * 256 + r.val) (0 * 2816 + l.val) := by
  have ht := point_lt t
  obtain ⟨i0, i1⟩ := index_0 t
  unfold iblk
  rw [View.read_apply]
  show V m c main_v0 _ = _
  rw [V_main_v0]
  exact at2_at _ _ (by show win0_0.index t 0 * 256 + 1 * r.val = _; rw [i0]; omega)
    (by show win0_0.index t 1 * 2816 + 1 * l.val = _; rw [i1]; omega)

/-- What point `t` reads through window 1. -/
theorem iblk_1 (t : Fin cfg0.N) (r : Fin 256) (l : Fin 2816) :
    iblk m c 1 t (ix2 r l) = arg3 m c (t.val * 256 + r.val) (0 * 2816 + l.val) := by
  have ht := point_lt t
  obtain ⟨i0, i1⟩ := index_1 t
  unfold iblk
  rw [View.read_apply]
  show V m c main_v1 _ = _
  rw [V_main_v1]
  exact at2_at _ _ (by show win0_1.index t 0 * 256 + 1 * r.val = _; rw [i0]; omega)
    (by show win0_1.index t 1 * 2816 + 1 * l.val = _; rw [i1]; omega)

/-- What point `t` reads through window 2. -/
theorem iblk_2 (t : Fin cfg0.N) (r : Fin 1024) (l : Fin 2816) :
    iblk m c 2 t (ix2 r l) = arg1 m c (0 * 1024 + r.val) (0 * 2816 + l.val) := by
  have ht := point_lt t
  obtain ⟨i0, i1⟩ := index_2 t
  unfold iblk
  rw [View.read_apply]
  show V m c main_v2 _ = _
  rw [V_main_v2]
  exact at2_at _ _ (by show win0_2.index t 0 * 1024 + 1 * r.val = _; rw [i0]; omega)
    (by show win0_2.index t 1 * 2816 + 1 * l.val = _; rw [i1]; omega)

/-- What point `t` reads through window 3. -/
theorem iblk_3 (t : Fin cfg0.N) (r : Fin 1024) (l : Fin 2816) :
    iblk m c 3 t (ix2 r l) = arg1 m c (0 * 1024 + r.val) (1 * 2816 + l.val) := by
  have ht := point_lt t
  obtain ⟨i0, i1⟩ := index_3 t
  unfold iblk
  rw [View.read_apply]
  show V m c main_v2 _ = _
  rw [V_main_v2]
  exact at2_at _ _ (by show win0_3.index t 0 * 1024 + 1 * r.val = _; rw [i0]; omega)
    (by show win0_3.index t 1 * 2816 + 1 * l.val = _; rw [i1]; omega)

/-- The whole result. -/
def result : Buf (Elt Ideal) ((c : Thread nD τ).loc main_v3) := fun (q : S4096x1024.Idx) =>
  prodTb 2816 (arg2 m c) (arg1 m c) (q 0).val (q 1).val + prodTb 2816 (arg3 m c) (fun a b => arg1 m c a (2816 + b)) (q 0).val (q 1).val

/-- What point `t` leaves of the output. -/
theorem block (t : Fin cfg0.N) (r : Fin 256) (l : Fin 1024) :
    out0_4 (F := Ideal) (iblk m c 0 t) (iblk m c 1 t) (iblk m c 2 t) (iblk m c 3 t) (ix2 r l)
      = prodTb 2816 (arg2 m c) (arg1 m c) (t.val * 256 + r.val) (0 * 1024 + l.val) + prodTb 2816 (arg3 m c) (fun a b => arg1 m c a (2816 + b)) (t.val * 256 + r.val) (0 * 1024 + l.val) := by
  rw [out_read]
  simp only [iblk_0, iblk_1, iblk_2, iblk_3, prodTb_fin, zero_mul, zero_add]

theorem flushed (t : Fin cfg0.N) (_hf : (cfg0.win 4).flush t = true) :
    (dats m 0 c).flushed 4 t = ((cfg0.win 4).blk t).view.read (Elt Ideal) (result m c) := by
  obtain ⟨i0, i1⟩ := index_4 t
  rw [Cert.Kernel6Ideal.Value.flushed4]
  funext j
  rw [View.read_apply]
  refine (congrArg (out0_4 (F := Ideal) (iblk m c 0 t) (iblk m c 1 t) (iblk m c 2 t) (iblk m c 3 t)) (eq_ix2 (j : S256x1024.Idx))).trans ?_
  refine (block m c t (j 0) (j 1)).trans ?_
  show _ = prodTb 2816 (arg2 m c) (arg1 m c) (win0_4.index t 0 * 256 + 1 * (j 0).val) (win0_4.index t 1 * 1024 + 1 * (j 1).val) + prodTb 2816 (arg3 m c) (fun a b => arg1 m c a (2816 + b)) (win0_4.index t 0 * 256 + 1 * (j 0).val) (win0_4.index t 1 * 1024 + 1 * (j 1).val)
  rw [i0, i1, one_mul, one_mul]

/-- The result's array after the run. -/
theorem final : (dats m 0 c).arrAt 4 cfg0.N = result m c :=
  (dats m 0 c).arrAt_eq_of_cover 4 (result m c) (flushed m c) fun i => by
    have h0 : (i 0 : Nat) < 4096 := (i 0).isLt
    have h1 : (i 1 : Nat) < 1024 := (i 1).isLt
    have hN : cfg0.N = 16 := N_0
    obtain ⟨t, hv⟩ : ∃ t : Fin cfg0.N, t.val = (i 0 : Nat) / 256 := ⟨⟨_, by omega⟩, rfl⟩
    have hx := index_4 t
    refine ⟨t, flush0_4 _, ?_⟩
    show i ∈ ((View.whole main_v3).slice (win0_4.rect t)).set
    rw [View.set_slice_whole, Rect.mem_set_unit]
    exact tile_at (by show _ * 256 ≤ (i 0 : Nat) ∧ _ < _ * 256 + 256; rw [hx.1]; omega)
      (by show _ * 1024 ≤ (i 1 : Nat) ∧ _ < _ * 1024 + 1024; rw [hx.2]; omega)

/-- The kernel's run: the result is the plain product and the arguments are unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.Kernel6Ideal.Value.run_blocks m ρ)

end Cert.Kernel6Ideal.Prod

namespace Cert.Reference6Ideal.Prod

open Idealize.ShloMosaic Idealize.SL.Sem
open Cert.Reference6Ideal Cert.Reference6Ideal.Gen Cert.Reference6Ideal.Read Cert.Ffn Cert.Product

/-- The reference runs, keeps its arguments and leaves every counter at zero. -/
theorem frame : Cert.quiescent_Reference6Ideal := fun m ρ _ =>
  (θ_run Cert.Reference6Ideal.defs _ _).mono (fun r h => ⟨fun c => (h c).2, sem_eq_zero_of_no_sems (by decide) r.2⟩)
    (Cert.Reference6Ideal.Value.run m ρ)

/-- One entry of the reference's result. -/
theorem read (x1 : (⟨S1024x5632, .f32⟩ : BufTy).Contents (Elt Ideal)) (x2 : (⟨S4096x2816, .f32⟩ : BufTy).Contents (Elt Ideal)) (x3 : (⟨S4096x2816, .f32⟩ : BufTy).Contents (Elt Ideal))
    (p : Fin 4096) (q : Fin 1024) :
    val_main_v2 (F := Ideal) x1 x2 x3 (ix2 p q)
      = prodTb 2816 (at2 (n := 4096) (m := 2816) x2) (at2 (n := 1024) (m := 5632) x1) p.val q.val + prodTb 2816 (at2 (n := 4096) (m := 2816) x3) (fun a b => at2 (n := 1024) (m := 5632) x1 a (2816 + b)) p.val q.val := by
  unfold val_main_v2 val_main_v1
  pointwise
  rw [prodTb_fin, prodTb_fin]
  congr 1
  · exact Finset.sum_congr rfl fun k _ => by rw [at2_ix2, at2_of_lt _ q.isLt (by omega)]
  · exact Finset.sum_congr rfl fun k _ => by rw [at2_ix2, at2_of_lt _ q.isLt (by omega)]

end Cert.Reference6Ideal.Prod

namespace Cert.Kernel6Ideal.Prod

open Idealize.ShloMosaic Idealize.SL.Sem

/-- The kernel and the reference end with the same array. -/
theorem algebraic : Cert.algebraic_Kernel6Ideal_Reference6Ideal := by
  intro m g m' g' _ hargs
  refine ⟨result m, run m g, ?_⟩
  refine (θ_run Cert.Reference6Ideal.defs _ _).mono (fun r h c => ?_) (Cert.Reference6Ideal.Value.run (F := Ideal) m' g')
  obtain ⟨a0, a1, a2, a3⟩ := hargs c
  refine ⟨(h c).1.trans ?_, (h c).2⟩
  rw [Cert.Reference6Ideal.Read.val_main_v2_eq, a1, a2, a3]
  refine funext fun i => ?_
  rw [eq_ix2 i]
  exact Cert.Reference6Ideal.Prod.read _ _ _ (i 0) (i 1)

end Cert.Kernel6Ideal.Prod

end
-- ==== Proof.Prod7.lean ====
/-
  The attention mixer's joint input projection, in the kernel's padded column layout.
-/
module

public import proofs.«01_k».proof.Defs
public import proofs.«01_k».proof.Proof.Product
public import proofs.«01_k».proof.Proof.Gen.Kernel7Ideal.Value
public import proofs.«01_k».proof.Proof.Gen.Reference7Ideal.Run
public import proofs.«01_k».proof.Proof.Gen.Reference7Ideal.Read

@[expose] public section

noncomputable section

namespace Cert.Kernel7Ideal.Prod

open Idealize.ShloMosaic Idealize.ShloMosaic.TcCoe Idealize.SL.Sem
open Cert.Kernel7Ideal Cert.Kernel7Ideal.Gen Cert.Ffn Cert.Product

/-- One entry of the block a grid point leaves in the output's buffer. -/
theorem out_read (x0 : Vec Ideal S256x1024 .bf16) (x1 : Vec Ideal S1024x2176 .bf16) (r : Fin 256) (l : Fin 2176) :
    out0_2 (F := Ideal) x0 x1 (ix2 r l) = (∑ k : Fin 1024, x0 (ix2 r k) * x1 (ix2 k l)) := by
  unfold out0_2
  refine (congrFun (View.canon_unit_zero hz inb_S256x2176_S256x2176_0_0 _) (ix2 r l)).trans ?_
  have e0 : View.ld x0 r0_0 = x0 := View.ld_unit_zero (S := S256x1024) hz inb_S256x1024_S256x1024_0_0 x0
  have e1 : View.ld x1 r0_1 = x1 := View.ld_unit_zero (S := S1024x2176) hz inb_S1024x2176_S1024x2176_0_0 x1
  rw [e0, e1]
  unfold k0_pay1
  pointwise

variable (m : (ℓ : Loc nD τ sig) → Buf (Elt Ideal) ℓ) (ρ : Dev nD → PrngReg) (c : Dev nD)

/-- Argument 0 as a matrix. -/
abbrev arg0 : Nat → Nat → EReal := at2 (n := 4096) (m := 1024) (m ((c : Thread nD τ).loc main_arg0))

/-- Argument 1 as a matrix. -/
abbrev arg1 : Nat → Nat → EReal := at2 (n := 1024) (m := 2176) (m ((c : Thread nD τ).loc main_arg1))

theorem point_lt (t : Fin cfg0.N) : t.val < 16 := t.isLt.trans_eq N_0

theorem V_main_v0 : V m c main_v0 = (m ((c : Thread nD τ).loc main_arg0) : Vec Ideal S4096x1024 .f32) := by
  unfold V hostOps0
  after_results
  rfl

theorem V_main_v1 : V m c main_v1 = (m ((c : Thread nD τ).loc main_arg1) : Vec Ideal S1024x2176 .f32) := by
  unfold V hostOps0
  after_results
  rfl

theorem index_0 : ∀ t : Fin grid0.N, win0_0.index t 0 = t.val ∧ win0_0.index t 1 = 0 := by decide +kernel

theorem index_1 : ∀ t : Fin grid0.N, win0_1.index t 0 = 0 ∧ win0_1.index t 1 = 0 := by decide +kernel

theorem index_2 : ∀ t : Fin grid0.N, win0_2.index t 0 = t.val ∧ win0_2.index t 1 = 0 := by decide +kernel

/-- What point `t` reads through window 0. -/
theorem iblk_0 (t : Fin cfg0.N) (r : Fin 256) (l : Fin 1024) :
    iblk m c 0 t (ix2 r l) = arg0 m c (t.val * 256 + r.val) (0 * 1024 + l.val) := by
  have ht := point_lt t
  obtain ⟨i0, i1⟩ := index_0 t
  unfold iblk
  rw [View.read_apply]
  show V m c main_v0 _ = _
  rw [V_main_v0]
  exact at2_at _ _ (by show win0_0.index t 0 * 256 + 1 * r.val = _; rw [i0]; omega)
    (by show win0_0.index t 1 * 1024 + 1 * l.val = _; rw [i1]; omega)

/-- What point `t` reads through window 1. -/
theorem iblk_1 (t : Fin cfg0.N) (r : Fin 1024) (l : Fin 2176) :
    iblk m c 1 t (ix2 r l) = arg1 m c (0 * 1024 + r.val) (0 * 2176 + l.val) := by
  have ht := point_lt t
  obtain ⟨i0, i1⟩ := index_1 t
  unfold iblk
  rw [View.read_apply]
  show V m c main_v1 _ = _
  rw [V_main_v1]
  exact at2_at _ _ (by show win0_1.index t 0 * 1024 + 1 * r.val = _; rw [i0]; omega)
    (by show win0_1.index t 1 * 2176 + 1 * l.val = _; rw [i1]; omega)

/-- The whole result. -/
def result : Buf (Elt Ideal) ((c : Thread nD τ).loc main_v2) := fun (q : S4096x2176.Idx) =>
  prod 1024 (arg0 m c) (arg1 m c) (q 0).val (q 1).val

/-- What point `t` leaves of the output. -/
theorem block (t : Fin cfg0.N) (r : Fin 256) (l : Fin 2176) :
    out0_2 (F := Ideal) (iblk m c 0 t) (iblk m c 1 t) (ix2 r l)
      = prod 1024 (arg0 m c) (arg1 m c) (t.val * 256 + r.val) (0 * 2176 + l.val) := by
  rw [out_read]
  simp only [iblk_0, iblk_1, prod_fin, zero_mul, zero_add]

theorem flushed (t : Fin cfg0.N) (_hf : (cfg0.win 2).flush t = true) :
    (dats m 0 c).flushed 2 t = ((cfg0.win 2).blk t).view.read (Elt Ideal) (result m c) := by
  obtain ⟨i0, i1⟩ := index_2 t
  rw [Cert.Kernel7Ideal.Value.flushed2]
  funext j
  rw [View.read_apply]
  refine (congrArg (out0_2 (F := Ideal) (iblk m c 0 t) (iblk m c 1 t)) (eq_ix2 (j : S256x2176.Idx))).trans ?_
  refine (block m c t (j 0) (j 1)).trans ?_
  show _ = prod 1024 (arg0 m c) (arg1 m c) (win0_2.index t 0 * 256 + 1 * (j 0).val) (win0_2.index t 1 * 2176 + 1 * (j 1).val)
  rw [i0, i1, one_mul, one_mul]

/-- The result's array after the run. -/
theorem final : (dats m 0 c).arrAt 2 cfg0.N = result m c :=
  (dats m 0 c).arrAt_eq_of_cover 2 (result m c) (flushed m c) fun i => by
    have h0 : (i 0 : Nat) < 4096 := (i 0).isLt
    have h1 : (i 1 : Nat) < 2176 := (i 1).isLt
    have hN : cfg0.N = 16 := N_0
    obtain ⟨t, hv⟩ : ∃ t : Fin cfg0.N, t.val = (i 0 : Nat) / 256 := ⟨⟨_, by omega⟩, rfl⟩
    have hx := index_2 t
    refine ⟨t, flush0_2 _, ?_⟩
    show i ∈ ((View.whole main_v2).slice (win0_2.rect t)).set
    rw [View.set_slice_whole, Rect.mem_set_unit]
    exact tile_at (by show _ * 256 ≤ (i 0 : Nat) ∧ _ < _ * 256 + 256; rw [hx.1]; omega)
      (by show _ * 2176 ≤ (i 1 : Nat) ∧ _ < _ * 2176 + 2176; rw [hx.2]; omega)

/-- The kernel's run: the result is the plain product and the arguments are unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.Kernel7Ideal.Value.run_blocks m ρ)

end Cert.Kernel7Ideal.Prod

namespace Cert.Reference7Ideal.Prod

open Idealize.ShloMosaic Idealize.SL.Sem
open Cert.Reference7Ideal Cert.Reference7Ideal.Gen Cert.Reference7Ideal.Read Cert.Ffn Cert.Product

/-- The reference runs, keeps its arguments and leaves every counter at zero. -/
theorem frame : Cert.quiescent_Reference7Ideal := fun m ρ _ =>
  (θ_run Cert.Reference7Ideal.defs _ _).mono (fun r h => ⟨fun c => (h c).2, sem_eq_zero_of_no_sems (by decide) r.2⟩)
    (Cert.Reference7Ideal.Value.run m ρ)

/-- One entry of the reference's result. -/
theorem read (x0 : (⟨S4096x1024, .f32⟩ : BufTy).Contents (Elt Ideal)) (x1 : (⟨S1024x2176, .f32⟩ : BufTy).Contents (Elt Ideal))
    (p : Fin 4096) (q : Fin 2176) :
    val_main_v0 (F := Ideal) x0 x1 (ix2 p q)
      = prod 1024 (at2 (n := 4096) (m := 1024) x0) (at2 (n := 1024) (m := 2176) x1) p.val q.val := by
  unfold val_main_v0
  pointwise
  rw [prod_fin]
  exact Finset.sum_congr rfl fun k _ => by rw [at2_ix2, at2_ix2]

end Cert.Reference7Ideal.Prod

namespace Cert.Kernel7Ideal.Prod

open Idealize.ShloMosaic Idealize.SL.Sem

/-- The kernel and the reference end with the same array. -/
theorem algebraic : Cert.algebraic_Kernel7Ideal_Reference7Ideal := by
  intro m g m' g' _ hargs
  refine ⟨result m, run m g, ?_⟩
  refine (θ_run Cert.Reference7Ideal.defs _ _).mono (fun r h c => ?_) (Cert.Reference7Ideal.Value.run (F := Ideal) m' g')
  obtain ⟨a0, a1⟩ := hargs c
  refine ⟨(h c).1.trans ?_, (h c).2⟩
  rw [Cert.Reference7Ideal.Read.val_main_v0_eq, a0, a1]
  refine funext fun i => ?_
  rw [eq_ix2 i]
  exact Cert.Reference7Ideal.Prod.read _ _ (i 0) (i 1)

end Cert.Kernel7Ideal.Prod

end
-- ==== Proof.Prod8.lean ====
/-
  The query up projection of latent attention.
-/
module

public import proofs.«01_k».proof.Defs
public import proofs.«01_k».proof.Proof.Product
public import proofs.«01_k».proof.Proof.Gen.Kernel8Ideal.Value
public import proofs.«01_k».proof.Proof.Gen.Reference8Ideal.Run
public import proofs.«01_k».proof.Proof.Gen.Reference8Ideal.Read

@[expose] public section

noncomputable section

namespace Cert.Kernel8Ideal.Prod

open Idealize.ShloMosaic Idealize.ShloMosaic.TcCoe Idealize.SL.Sem
open Cert.Kernel8Ideal Cert.Kernel8Ideal.Gen Cert.Ffn Cert.Product

/-- One entry of the block a grid point leaves in the output's buffer. -/
theorem out_read (x0 : Vec Ideal S512x256 .bf16) (x1 : Vec Ideal S256x1024 .bf16) (r : Fin 512) (l : Fin 1024) :
    out0_2 (F := Ideal) x0 x1 (ix2 r l) = (∑ k : Fin 256, x0 (ix2 r k) * x1 (ix2 k l)) := by
  unfold out0_2
  refine (congrFun (View.canon_unit_zero hz inb_S512x1024_S512x1024_0_0 _) (ix2 r l)).trans ?_
  have e0 : View.ld x0 r0_0 = x0 := View.ld_unit_zero (S := S512x256) hz inb_S512x256_S512x256_0_0 x0
  have e1 : View.ld x1 r0_1 = x1 := View.ld_unit_zero (S := S256x1024) hz inb_S256x1024_S256x1024_0_0 x1
  rw [e0, e1]
  unfold k0_pay1
  pointwise

variable (m : (ℓ : Loc nD τ sig) → Buf (Elt Ideal) ℓ) (ρ : Dev nD → PrngReg) (c : Dev nD)

/-- Argument 0 as a matrix. -/
abbrev arg0 : Nat → Nat → EReal := at2 (n := 4096) (m := 256) (m ((c : Thread nD τ).loc main_arg0))

/-- Argument 1 as a matrix. -/
abbrev arg1 : Nat → Nat → EReal := at2 (n := 256) (m := 1024) (m ((c : Thread nD τ).loc main_arg1))

theorem point_lt (t : Fin cfg0.N) : t.val < 8 := t.isLt.trans_eq N_0

theorem V_main_v0 : V m c main_v0 = (m ((c : Thread nD τ).loc main_arg0) : Vec Ideal S4096x256 .f32) := by
  unfold V hostOps0
  after_results
  rfl

theorem V_main_v1 : V m c main_v1 = (m ((c : Thread nD τ).loc main_arg1) : Vec Ideal S256x1024 .f32) := by
  unfold V hostOps0
  after_results
  rfl

theorem index_0 : ∀ t : Fin grid0.N, win0_0.index t 0 = t.val ∧ win0_0.index t 1 = 0 := by decide +kernel

theorem index_1 : ∀ t : Fin grid0.N, win0_1.index t 0 = 0 ∧ win0_1.index t 1 = 0 := by decide +kernel

theorem index_2 : ∀ t : Fin grid0.N, win0_2.index t 0 = t.val ∧ win0_2.index t 1 = 0 := by decide +kernel

/-- What point `t` reads through window 0. -/
theorem iblk_0 (t : Fin cfg0.N) (r : Fin 512) (l : Fin 256) :
    iblk m c 0 t (ix2 r l) = arg0 m c (t.val * 512 + r.val) (0 * 256 + l.val) := by
  have ht := point_lt t
  obtain ⟨i0, i1⟩ := index_0 t
  unfold iblk
  rw [View.read_apply]
  show V m c main_v0 _ = _
  rw [V_main_v0]
  exact at2_at _ _ (by show win0_0.index t 0 * 512 + 1 * r.val = _; rw [i0]; omega)
    (by show win0_0.index t 1 * 256 + 1 * l.val = _; rw [i1]; omega)

/-- What point `t` reads through window 1. -/
theorem iblk_1 (t : Fin cfg0.N) (r : Fin 256) (l : Fin 1024) :
    iblk m c 1 t (ix2 r l) = arg1 m c (0 * 256 + r.val) (0 * 1024 + l.val) := by
  have ht := point_lt t
  obtain ⟨i0, i1⟩ := index_1 t
  unfold iblk
  rw [View.read_apply]
  show V m c main_v1 _ = _
  rw [V_main_v1]
  exact at2_at _ _ (by show win0_1.index t 0 * 256 + 1 * r.val = _; rw [i0]; omega)
    (by show win0_1.index t 1 * 1024 + 1 * l.val = _; rw [i1]; omega)

/-- The whole result. -/
def result : Buf (Elt Ideal) ((c : Thread nD τ).loc main_v2) := fun (q : S4096x1024.Idx) =>
  prod 256 (arg0 m c) (arg1 m c) (q 0).val (q 1).val

/-- What point `t` leaves of the output. -/
theorem block (t : Fin cfg0.N) (r : Fin 512) (l : Fin 1024) :
    out0_2 (F := Ideal) (iblk m c 0 t) (iblk m c 1 t) (ix2 r l)
      = prod 256 (arg0 m c) (arg1 m c) (t.val * 512 + r.val) (0 * 1024 + l.val) := by
  rw [out_read]
  simp only [iblk_0, iblk_1, prod_fin, zero_mul, zero_add]

theorem flushed (t : Fin cfg0.N) (_hf : (cfg0.win 2).flush t = true) :
    (dats m 0 c).flushed 2 t = ((cfg0.win 2).blk t).view.read (Elt Ideal) (result m c) := by
  obtain ⟨i0, i1⟩ := index_2 t
  rw [Cert.Kernel8Ideal.Value.flushed2]
  funext j
  rw [View.read_apply]
  refine (congrArg (out0_2 (F := Ideal) (iblk m c 0 t) (iblk m c 1 t)) (eq_ix2 (j : S512x1024.Idx))).trans ?_
  refine (block m c t (j 0) (j 1)).trans ?_
  show _ = prod 256 (arg0 m c) (arg1 m c) (win0_2.index t 0 * 512 + 1 * (j 0).val) (win0_2.index t 1 * 1024 + 1 * (j 1).val)
  rw [i0, i1, one_mul, one_mul]

/-- The result's array after the run. -/
theorem final : (dats m 0 c).arrAt 2 cfg0.N = result m c :=
  (dats m 0 c).arrAt_eq_of_cover 2 (result m c) (flushed m c) fun i => by
    have h0 : (i 0 : Nat) < 4096 := (i 0).isLt
    have h1 : (i 1 : Nat) < 1024 := (i 1).isLt
    have hN : cfg0.N = 8 := N_0
    obtain ⟨t, hv⟩ : ∃ t : Fin cfg0.N, t.val = (i 0 : Nat) / 512 := ⟨⟨_, by omega⟩, rfl⟩
    have hx := index_2 t
    refine ⟨t, flush0_2 _, ?_⟩
    show i ∈ ((View.whole main_v2).slice (win0_2.rect t)).set
    rw [View.set_slice_whole, Rect.mem_set_unit]
    exact tile_at (by show _ * 512 ≤ (i 0 : Nat) ∧ _ < _ * 512 + 512; rw [hx.1]; omega)
      (by show _ * 1024 ≤ (i 1 : Nat) ∧ _ < _ * 1024 + 1024; rw [hx.2]; omega)

/-- The kernel's run: the result is the plain product and the arguments are unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.Kernel8Ideal.Value.run_blocks m ρ)

end Cert.Kernel8Ideal.Prod

namespace Cert.Reference8Ideal.Prod

open Idealize.ShloMosaic Idealize.SL.Sem
open Cert.Reference8Ideal Cert.Reference8Ideal.Gen Cert.Reference8Ideal.Read Cert.Ffn Cert.Product

/-- The reference runs, keeps its arguments and leaves every counter at zero. -/
theorem frame : Cert.quiescent_Reference8Ideal := fun m ρ _ =>
  (θ_run Cert.Reference8Ideal.defs _ _).mono (fun r h => ⟨fun c => (h c).2, sem_eq_zero_of_no_sems (by decide) r.2⟩)
    (Cert.Reference8Ideal.Value.run m ρ)

/-- One entry of the reference's result. -/
theorem read (x0 : (⟨S4096x256, .f32⟩ : BufTy).Contents (Elt Ideal)) (x1 : (⟨S256x1024, .f32⟩ : BufTy).Contents (Elt Ideal))
    (p : Fin 4096) (q : Fin 1024) :
    val_main_v0 (F := Ideal) x0 x1 (ix2 p q)
      = prod 256 (at2 (n := 4096) (m := 256) x0) (at2 (n := 256) (m := 1024) x1) p.val q.val := by
  unfold val_main_v0
  pointwise
  rw [prod_fin]
  exact Finset.sum_congr rfl fun k _ => by rw [at2_ix2, at2_ix2]

end Cert.Reference8Ideal.Prod

namespace Cert.Kernel8Ideal.Prod

open Idealize.ShloMosaic Idealize.SL.Sem

/-- The kernel and the reference end with the same array. -/
theorem algebraic : Cert.algebraic_Kernel8Ideal_Reference8Ideal := by
  intro m g m' g' _ hargs
  refine ⟨result m, run m g, ?_⟩
  refine (θ_run Cert.Reference8Ideal.defs _ _).mono (fun r h c => ?_) (Cert.Reference8Ideal.Value.run (F := Ideal) m' g')
  obtain ⟨a0, a1⟩ := hargs c
  refine ⟨(h c).1.trans ?_, (h c).2⟩
  rw [Cert.Reference8Ideal.Read.val_main_v0_eq, a0, a1]
  refine funext fun i => ?_
  rw [eq_ix2 i]
  exact Cert.Reference8Ideal.Prod.read _ _ (i 0) (i 1)

end Cert.Kernel8Ideal.Prod

end
-- ==== Proof.Prod9.lean ====
/-
  The key and value up projection of latent attention.
-/
module

public import proofs.«01_k».proof.Defs
public import proofs.«01_k».proof.Proof.Product
public import proofs.«01_k».proof.Proof.Gen.Kernel9Ideal.Value
public import proofs.«01_k».proof.Proof.Gen.Reference9Ideal.Run
public import proofs.«01_k».proof.Proof.Gen.Reference9Ideal.Read

@[expose] public section

noncomputable section

namespace Cert.Kernel9Ideal.Prod

open Idealize.ShloMosaic Idealize.ShloMosaic.TcCoe Idealize.SL.Sem
open Cert.Kernel9Ideal Cert.Kernel9Ideal.Gen Cert.Ffn Cert.Product

/-- One entry of the block a grid point leaves in the output's buffer. -/
theorem out_read (x0 : Vec Ideal S256x256 .bf16) (x1 : Vec Ideal S256x2048 .bf16) (r : Fin 256) (l : Fin 2048) :
    out0_2 (F := Ideal) x0 x1 (ix2 r l) = (∑ k : Fin 256, x0 (ix2 r k) * x1 (ix2 k l)) := by
  unfold out0_2
  refine (congrFun (View.canon_unit_zero hz inb_S256x2048_S256x2048_0_0 _) (ix2 r l)).trans ?_
  have e0 : View.ld x0 r0_0 = x0 := View.ld_unit_zero (S := S256x256) hz inb_S256x256_S256x256_0_0 x0
  have e1 : View.ld x1 r0_1 = x1 := View.ld_unit_zero (S := S256x2048) hz inb_S256x2048_S256x2048_0_0 x1
  rw [e0, e1]
  unfold k0_pay1
  pointwise

variable (m : (ℓ : Loc nD τ sig) → Buf (Elt Ideal) ℓ) (ρ : Dev nD → PrngReg) (c : Dev nD)

/-- Argument 0 as a matrix. -/
abbrev arg0 : Nat → Nat → EReal := at2 (n := 4096) (m := 256) (m ((c : Thread nD τ).loc main_arg0))

/-- Argument 1 as a matrix. -/
abbrev arg1 : Nat → Nat → EReal := at2 (n := 256) (m := 2048) (m ((c : Thread nD τ).loc main_arg1))

theorem point_lt (t : Fin cfg0.N) : t.val < 16 := t.isLt.trans_eq N_0

theorem V_main_v0 : V m c main_v0 = (m ((c : Thread nD τ).loc main_arg0) : Vec Ideal S4096x256 .f32) := by
  unfold V hostOps0
  after_results
  rfl

theorem V_main_v1 : V m c main_v1 = (m ((c : Thread nD τ).loc main_arg1) : Vec Ideal S256x2048 .f32) := by
  unfold V hostOps0
  after_results
  rfl

theorem index_0 : ∀ t : Fin grid0.N, win0_0.index t 0 = t.val ∧ win0_0.index t 1 = 0 := by decide +kernel

theorem index_1 : ∀ t : Fin grid0.N, win0_1.index t 0 = 0 ∧ win0_1.index t 1 = 0 := by decide +kernel

theorem index_2 : ∀ t : Fin grid0.N, win0_2.index t 0 = t.val ∧ win0_2.index t 1 = 0 := by decide +kernel

/-- What point `t` reads through window 0. -/
theorem iblk_0 (t : Fin cfg0.N) (r : Fin 256) (l : Fin 256) :
    iblk m c 0 t (ix2 r l) = arg0 m c (t.val * 256 + r.val) (0 * 256 + l.val) := by
  have ht := point_lt t
  obtain ⟨i0, i1⟩ := index_0 t
  unfold iblk
  rw [View.read_apply]
  show V m c main_v0 _ = _
  rw [V_main_v0]
  exact at2_at _ _ (by show win0_0.index t 0 * 256 + 1 * r.val = _; rw [i0]; omega)
    (by show win0_0.index t 1 * 256 + 1 * l.val = _; rw [i1]; omega)

/-- What point `t` reads through window 1. -/
theorem iblk_1 (t : Fin cfg0.N) (r : Fin 256) (l : Fin 2048) :
    iblk m c 1 t (ix2 r l) = arg1 m c (0 * 256 + r.val) (0 * 2048 + l.val) := by
  have ht := point_lt t
  obtain ⟨i0, i1⟩ := index_1 t
  unfold iblk
  rw [View.read_apply]
  show V m c main_v1 _ = _
  rw [V_main_v1]
  exact at2_at _ _ (by show win0_1.index t 0 * 256 + 1 * r.val = _; rw [i0]; omega)
    (by show win0_1.index t 1 * 2048 + 1 * l.val = _; rw [i1]; omega)

/-- The whole result. -/
def result : Buf (Elt Ideal) ((c : Thread nD τ).loc main_v2) := fun (q : S4096x2048.Idx) =>
  prod 256 (arg0 m c) (arg1 m c) (q 0).val (q 1).val

/-- What point `t` leaves of the output. -/
theorem block (t : Fin cfg0.N) (r : Fin 256) (l : Fin 2048) :
    out0_2 (F := Ideal) (iblk m c 0 t) (iblk m c 1 t) (ix2 r l)
      = prod 256 (arg0 m c) (arg1 m c) (t.val * 256 + r.val) (0 * 2048 + l.val) := by
  rw [out_read]
  simp only [iblk_0, iblk_1, prod_fin, zero_mul, zero_add]

theorem flushed (t : Fin cfg0.N) (_hf : (cfg0.win 2).flush t = true) :
    (dats m 0 c).flushed 2 t = ((cfg0.win 2).blk t).view.read (Elt Ideal) (result m c) := by
  obtain ⟨i0, i1⟩ := index_2 t
  rw [Cert.Kernel9Ideal.Value.flushed2]
  funext j
  rw [View.read_apply]
  refine (congrArg (out0_2 (F := Ideal) (iblk m c 0 t) (iblk m c 1 t)) (eq_ix2 (j : S256x2048.Idx))).trans ?_
  refine (block m c t (j 0) (j 1)).trans ?_
  show _ = prod 256 (arg0 m c) (arg1 m c) (win0_2.index t 0 * 256 + 1 * (j 0).val) (win0_2.index t 1 * 2048 + 1 * (j 1).val)
  rw [i0, i1, one_mul, one_mul]

/-- The result's array after the run. -/
theorem final : (dats m 0 c).arrAt 2 cfg0.N = result m c :=
  (dats m 0 c).arrAt_eq_of_cover 2 (result m c) (flushed m c) fun i => by
    have h0 : (i 0 : Nat) < 4096 := (i 0).isLt
    have h1 : (i 1 : Nat) < 2048 := (i 1).isLt
    have hN : cfg0.N = 16 := N_0
    obtain ⟨t, hv⟩ : ∃ t : Fin cfg0.N, t.val = (i 0 : Nat) / 256 := ⟨⟨_, by omega⟩, rfl⟩
    have hx := index_2 t
    refine ⟨t, flush0_2 _, ?_⟩
    show i ∈ ((View.whole main_v2).slice (win0_2.rect t)).set
    rw [View.set_slice_whole, Rect.mem_set_unit]
    exact tile_at (by show _ * 256 ≤ (i 0 : Nat) ∧ _ < _ * 256 + 256; rw [hx.1]; omega)
      (by show _ * 2048 ≤ (i 1 : Nat) ∧ _ < _ * 2048 + 2048; rw [hx.2]; omega)

/-- The kernel's run: the result is the plain product and the arguments are unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.Kernel9Ideal.Value.run_blocks m ρ)

end Cert.Kernel9Ideal.Prod

namespace Cert.Reference9Ideal.Prod

open Idealize.ShloMosaic Idealize.SL.Sem
open Cert.Reference9Ideal Cert.Reference9Ideal.Gen Cert.Reference9Ideal.Read Cert.Ffn Cert.Product

/-- The reference runs, keeps its arguments and leaves every counter at zero. -/
theorem frame : Cert.quiescent_Reference9Ideal := fun m ρ _ =>
  (θ_run Cert.Reference9Ideal.defs _ _).mono (fun r h => ⟨fun c => (h c).2, sem_eq_zero_of_no_sems (by decide) r.2⟩)
    (Cert.Reference9Ideal.Value.run m ρ)

/-- One entry of the reference's result. -/
theorem read (x0 : (⟨S4096x256, .f32⟩ : BufTy).Contents (Elt Ideal)) (x1 : (⟨S256x2048, .f32⟩ : BufTy).Contents (Elt Ideal))
    (p : Fin 4096) (q : Fin 2048) :
    val_main_v0 (F := Ideal) x0 x1 (ix2 p q)
      = prod 256 (at2 (n := 4096) (m := 256) x0) (at2 (n := 256) (m := 2048) x1) p.val q.val := by
  unfold val_main_v0
  pointwise
  rw [prod_fin]
  exact Finset.sum_congr rfl fun k _ => by rw [at2_ix2, at2_ix2]

end Cert.Reference9Ideal.Prod

namespace Cert.Kernel9Ideal.Prod

open Idealize.ShloMosaic Idealize.SL.Sem

/-- The kernel and the reference end with the same array. -/
theorem algebraic : Cert.algebraic_Kernel9Ideal_Reference9Ideal := by
  intro m g m' g' _ hargs
  refine ⟨result m, run m g, ?_⟩
  refine (θ_run Cert.Reference9Ideal.defs _ _).mono (fun r h c => ?_) (Cert.Reference9Ideal.Value.run (F := Ideal) m' g')
  obtain ⟨a0, a1⟩ := hargs c
  refine ⟨(h c).1.trans ?_, (h c).2⟩
  rw [Cert.Reference9Ideal.Read.val_main_v0_eq, a0, a1]
  refine funext fun i => ?_
  rw [eq_ix2 i]
  exact Cert.Reference9Ideal.Prod.read _ _ (i 0) (i 1)

end Cert.Kernel9Ideal.Prod

end
-- ==== Proof.Prod10.lean ====
/-
  The attention part of the mixer's output projection with the residual added.
-/
module

public import proofs.«01_k».proof.Defs
public import proofs.«01_k».proof.Proof.Product
public import proofs.«01_k».proof.Proof.Gen.Kernel10Ideal.Value
public import proofs.«01_k».proof.Proof.Gen.Reference10Ideal.Run
public import proofs.«01_k».proof.Proof.Gen.Reference10Ideal.Read

@[expose] public section

noncomputable section

namespace Cert.Kernel10Ideal.Prod

open Idealize.ShloMosaic Idealize.ShloMosaic.TcCoe Idealize.SL.Sem
open Cert.Kernel10Ideal Cert.Kernel10Ideal.Gen Cert.Ffn Cert.Product

/-- One entry of the block a grid point leaves in the output's buffer. -/
theorem out_read (x0 : Vec Ideal S512x1024 .bf16) (x1 : Vec Ideal S1024x1024 .bf16) (x2 : Vec Ideal S512x1024 .f32) (r : Fin 512) (l : Fin 1024) :
    out0_3 (F := Ideal) x0 x1 x2 (ix2 r l) = (∑ k : Fin 1024, x0 (ix2 r k) * x1 (ix2 k l)) + x2 (ix2 r l) := by
  unfold out0_3
  refine (congrFun (View.canon_unit_zero hz inb_S512x1024_S512x1024_0_0 _) (ix2 r l)).trans ?_
  have e0 : View.ld x0 r0_0 = x0 := View.ld_unit_zero (S := S512x1024) hz inb_S512x1024_S512x1024_0_0 x0
  have e1 : View.ld x1 r0_1 = x1 := View.ld_unit_zero (S := S1024x1024) hz inb_S1024x1024_S1024x1024_0_0 x1
  have e2 : View.ld x2 r0_0 = x2 := View.ld_unit_zero (S := S512x1024) hz inb_S512x1024_S512x1024_0_0 x2
  rw [e0, e1, e2]
  unfold k0_pay1
  pointwise

variable (m : (ℓ : Loc nD τ sig) → Buf (Elt Ideal) ℓ) (ρ : Dev nD → PrngReg) (c : Dev nD)

/-- Argument 0 as a matrix. -/
abbrev arg0 : Nat → Nat → EReal := at2 (n := 4096) (m := 1024) (m ((c : Thread nD τ).loc main_arg0))

/-- Argument 1 as a matrix. -/
abbrev arg1 : Nat → Nat → EReal := at2 (n := 1024) (m := 1024) (m ((c : Thread nD τ).loc main_arg1))

/-- Argument 2 as a matrix. -/
abbrev arg2 : Nat → Nat → EReal := at2 (n := 4096) (m := 1024) (m ((c : Thread nD τ).loc main_arg2))

theorem point_lt (t : Fin cfg0.N) : t.val < 8 := t.isLt.trans_eq N_0

theorem V_main_v0 : V m c main_v0 = (m ((c : Thread nD τ).loc main_arg0) : Vec Ideal S4096x1024 .f32) := by
  unfold V hostOps0
  after_results
  rfl

theorem V_main_v1 : V m c main_v1 = (m ((c : Thread nD τ).loc main_arg1) : Vec Ideal S1024x1024 .f32) := by
  unfold V hostOps0
  after_results
  rfl

theorem index_0 : ∀ t : Fin grid0.N, win0_0.index t 0 = t.val ∧ win0_0.index t 1 = 0 := by decide +kernel

theorem index_1 : ∀ t : Fin grid0.N, win0_1.index t 0 = 0 ∧ win0_1.index t 1 = 0 := by decide +kernel

theorem index_2 : ∀ t : Fin grid0.N, win0_2.index t 0 = t.val ∧ win0_2.index t 1 = 0 := by decide +kernel

theorem index_3 : ∀ t : Fin grid0.N, win0_3.index t 0 = t.val ∧ win0_3.index t 1 = 0 := by decide +kernel

/-- What point `t` reads through window 0. -/
theorem iblk_0 (t : Fin cfg0.N) (r : Fin 512) (l : Fin 1024) :
    iblk m c 0 t (ix2 r l) = arg0 m c (t.val * 512 + r.val) (0 * 1024 + l.val) := by
  have ht := point_lt t
  obtain ⟨i0, i1⟩ := index_0 t
  unfold iblk
  rw [View.read_apply]
  show V m c main_v0 _ = _
  rw [V_main_v0]
  exact at2_at _ _ (by show win0_0.index t 0 * 512 + 1 * r.val = _; rw [i0]; omega)
    (by show win0_0.index t 1 * 1024 + 1 * l.val = _; rw [i1]; omega)

/-- What point `t` reads through window 1. -/
theorem iblk_1 (t : Fin cfg0.N) (r : Fin 1024) (l : Fin 1024) :
    iblk m c 1 t (ix2 r l) = arg1 m c (0 * 1024 + r.val) (0 * 1024 + l.val) := by
  have ht := point_lt t
  obtain ⟨i0, i1⟩ := index_1 t
  unfold iblk
  rw [View.read_apply]
  show V m c main_v1 _ = _
  rw [V_main_v1]
  exact at2_at _ _ (by show win0_1.index t 0 * 1024 + 1 * r.val = _; rw [i0]; omega)
    (by show win0_1.index t 1 * 1024 + 1 * l.val = _; rw [i1]; omega)

/-- What point `t` reads through window 2. -/
theorem iblk_2 (t : Fin cfg0.N) (r : Fin 512) (l : Fin 1024) :
    iblk m c 2 t (ix2 r l) = arg2 m c (t.val * 512 + r.val) (0 * 1024 + l.val) := by
  have ht := point_lt t
  obtain ⟨i0, i1⟩ := index_2 t
  unfold iblk
  rw [View.read_apply]
  show V m c main_arg2 _ = _
  rw [V_main_arg2]
  exact at2_at _ _ (by show win0_2.index t 0 * 512 + 1 * r.val = _; rw [i0]; omega)
    (by show win0_2.index t 1 * 1024 + 1 * l.val = _; rw [i1]; omega)

/-- The whole result. -/
def result : Buf (Elt Ideal) ((c : Thread nD τ).loc main_v2) := fun (q : S4096x1024.Idx) =>
  prod 1024 (arg0 m c) (arg1 m c) (q 0).val (q 1).val + arg2 m c (q 0).val (q 1).val

/-- What point `t` leaves of the output. -/
theorem block (t : Fin cfg0.N) (r : Fin 512) (l : Fin 1024) :
    out0_3 (F := Ideal) (iblk m c 0 t) (iblk m c 1 t) (iblk m c 2 t) (ix2 r l)
      = prod 1024 (arg0 m c) (arg1 m c) (t.val * 512 + r.val) (0 * 1024 + l.val) + arg2 m c (t.val * 512 + r.val) (0 * 1024 + l.val) := by
  rw [out_read]
  simp only [iblk_0, iblk_1, iblk_2, prod_fin, zero_mul, zero_add]

theorem flushed (t : Fin cfg0.N) (_hf : (cfg0.win 3).flush t = true) :
    (dats m 0 c).flushed 3 t = ((cfg0.win 3).blk t).view.read (Elt Ideal) (result m c) := by
  obtain ⟨i0, i1⟩ := index_3 t
  rw [Cert.Kernel10Ideal.Value.flushed3]
  funext j
  rw [View.read_apply]
  refine (congrArg (out0_3 (F := Ideal) (iblk m c 0 t) (iblk m c 1 t) (iblk m c 2 t)) (eq_ix2 (j : S512x1024.Idx))).trans ?_
  refine (block m c t (j 0) (j 1)).trans ?_
  show _ = prod 1024 (arg0 m c) (arg1 m c) (win0_3.index t 0 * 512 + 1 * (j 0).val) (win0_3.index t 1 * 1024 + 1 * (j 1).val) + arg2 m c (win0_3.index t 0 * 512 + 1 * (j 0).val) (win0_3.index t 1 * 1024 + 1 * (j 1).val)
  rw [i0, i1, one_mul, one_mul]

/-- The result's array after the run. -/
theorem final : (dats m 0 c).arrAt 3 cfg0.N = result m c :=
  (dats m 0 c).arrAt_eq_of_cover 3 (result m c) (flushed m c) fun i => by
    have h0 : (i 0 : Nat) < 4096 := (i 0).isLt
    have h1 : (i 1 : Nat) < 1024 := (i 1).isLt
    have hN : cfg0.N = 8 := N_0
    obtain ⟨t, hv⟩ : ∃ t : Fin cfg0.N, t.val = (i 0 : Nat) / 512 := ⟨⟨_, by omega⟩, rfl⟩
    have hx := index_3 t
    refine ⟨t, flush0_3 _, ?_⟩
    show i ∈ ((View.whole main_v2).slice (win0_3.rect t)).set
    rw [View.set_slice_whole, Rect.mem_set_unit]
    exact tile_at (by show _ * 512 ≤ (i 0 : Nat) ∧ _ < _ * 512 + 512; rw [hx.1]; omega)
      (by show _ * 1024 ≤ (i 1 : Nat) ∧ _ < _ * 1024 + 1024; rw [hx.2]; omega)

/-- The kernel's run: the result is the plain product and the arguments are unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.Kernel10Ideal.Value.run_blocks m ρ)

end Cert.Kernel10Ideal.Prod

namespace Cert.Reference10Ideal.Prod

open Idealize.ShloMosaic Idealize.SL.Sem
open Cert.Reference10Ideal Cert.Reference10Ideal.Gen Cert.Reference10Ideal.Read Cert.Ffn Cert.Product

/-- The reference runs, keeps its arguments and leaves every counter at zero. -/
theorem frame : Cert.quiescent_Reference10Ideal := fun m ρ _ =>
  (θ_run Cert.Reference10Ideal.defs _ _).mono (fun r h => ⟨fun c => (h c).2, sem_eq_zero_of_no_sems (by decide) r.2⟩)
    (Cert.Reference10Ideal.Value.run m ρ)

/-- One entry of the reference's result. -/
theorem read (x0 : (⟨S4096x1024, .f32⟩ : BufTy).Contents (Elt Ideal)) (x1 : (⟨S1024x1024, .f32⟩ : BufTy).Contents (Elt Ideal)) (x2 : (⟨S4096x1024, .f32⟩ : BufTy).Contents (Elt Ideal))
    (p : Fin 4096) (q : Fin 1024) :
    val_main_v1 (F := Ideal) x0 x1 x2 (ix2 p q)
      = prod 1024 (at2 (n := 4096) (m := 1024) x0) (at2 (n := 1024) (m := 1024) x1) p.val q.val + at2 x2 p.val q.val := by
  unfold val_main_v1 val_main_v0
  pointwise
  rw [prod_fin, at2_ix2, add_comm]
  congr 1
  exact Finset.sum_congr rfl fun k _ => by rw [at2_ix2, at2_ix2]

end Cert.Reference10Ideal.Prod

namespace Cert.Kernel10Ideal.Prod

open Idealize.ShloMosaic Idealize.SL.Sem

/-- The kernel and the reference end with the same array. -/
theorem algebraic : Cert.algebraic_Kernel10Ideal_Reference10Ideal := by
  intro m g m' g' _ hargs
  refine ⟨result m, run m g, ?_⟩
  refine (θ_run Cert.Reference10Ideal.defs _ _).mono (fun r h c => ?_) (Cert.Reference10Ideal.Value.run (F := Ideal) m' g')
  obtain ⟨a0, a1, a2⟩ := hargs c
  refine ⟨(h c).1.trans ?_, (h c).2⟩
  rw [Cert.Reference10Ideal.Read.val_main_v1_eq, a0, a1, a2]
  refine funext fun i => ?_
  rw [eq_ix2 i]
  exact Cert.Reference10Ideal.Prod.read _ _ _ (i 0) (i 1)

end Cert.Kernel10Ideal.Prod

end
-- ==== Proof.Prod11.lean ====
/-
  The convolution part of the mixer's output projection with the sum so far added.
-/
module

public import proofs.«01_k».proof.Defs
public import proofs.«01_k».proof.Proof.Product
public import proofs.«01_k».proof.Proof.Gen.Kernel11Ideal.Value
public import proofs.«01_k».proof.Proof.Gen.Reference11Ideal.Run
public import proofs.«01_k».proof.Proof.Gen.Reference11Ideal.Read

@[expose] public section

noncomputable section

namespace Cert.Kernel11Ideal.Prod

open Idealize.ShloMosaic Idealize.ShloMosaic.TcCoe Idealize.SL.Sem
open Cert.Kernel11Ideal Cert.Kernel11Ideal.Gen Cert.Ffn Cert.Product

/-- One entry of the block a grid point leaves in the output's buffer. -/
theorem out_read (x0 : Vec Ideal S512x512 .bf16) (x1 : Vec Ideal S512x1024 .bf16) (x2 : Vec Ideal S512x1024 .f32) (r : Fin 512) (l : Fin 1024) :
    out0_3 (F := Ideal) x0 x1 x2 (ix2 r l) = (∑ k : Fin 512, x0 (ix2 r k) * x1 (ix2 k l)) + x2 (ix2 r l) := by
  unfold out0_3
  refine (congrFun (View.canon_unit_zero hz inb_S512x1024_S512x1024_0_0 _) (ix2 r l)).trans ?_
  have e0 : View.ld x0 r0_0 = x0 := View.ld_unit_zero (S := S512x512) hz inb_S512x512_S512x512_0_0 x0
  have e1 : View.ld x1 r0_1 = x1 := View.ld_unit_zero (S := S512x1024) hz inb_S512x1024_S512x1024_0_0 x1
  have e2 : View.ld x2 r0_1 = x2 := View.ld_unit_zero (S := S512x1024) hz inb_S512x1024_S512x1024_0_0 x2
  rw [e0, e1, e2]
  unfold k0_pay1
  pointwise

variable (m : (ℓ : Loc nD τ sig) → Buf (Elt Ideal) ℓ) (ρ : Dev nD → PrngReg) (c : Dev nD)

/-- Argument 0 as a matrix. -/
abbrev arg0 : Nat → Nat → EReal := at2 (n := 4096) (m := 512) (m ((c : Thread nD τ).loc main_arg0))

/-- Argument 1 as a matrix. -/
abbrev arg1 : Nat → Nat → EReal := at2 (n := 512) (m := 1024) (m ((c : Thread nD τ).loc main_arg1))

/-- Argument 2 as a matrix. -/
abbrev arg2 : Nat → Nat → EReal := at2 (n := 4096) (m := 1024) (m ((c : Thread nD τ).loc main_arg2))

theorem point_lt (t : Fin cfg0.N) : t.val < 8 := t.isLt.trans_eq N_0

theorem V_main_v0 : V m c main_v0 = (m ((c : Thread nD τ).loc main_arg0) : Vec Ideal S4096x512 .f32) := by
  unfold V hostOps0
  after_results
  rfl

theorem V_main_v1 : V m c main_v1 = (m ((c : Thread nD τ).loc main_arg1) : Vec Ideal S512x1024 .f32) := by
  unfold V hostOps0
  after_results
  rfl

theorem index_0 : ∀ t : Fin grid0.N, win0_0.index t 0 = t.val ∧ win0_0.index t 1 = 0 := by decide +kernel

theorem index_1 : ∀ t : Fin grid0.N, win0_1.index t 0 = 0 ∧ win0_1.index t 1 = 0 := by decide +kernel

theorem index_2 : ∀ t : Fin grid0.N, win0_2.index t 0 = t.val ∧ win0_2.index t 1 = 0 := by decide +kernel

theorem index_3 : ∀ t : Fin grid0.N, win0_3.index t 0 = t.val ∧ win0_3.index t 1 = 0 := by decide +kernel

/-- What point `t` reads through window 0. -/
theorem iblk_0 (t : Fin cfg0.N) (r : Fin 512) (l : Fin 512) :
    iblk m c 0 t (ix2 r l) = arg0 m c (t.val * 512 + r.val) (0 * 512 + l.val) := by
  have ht := point_lt t
  obtain ⟨i0, i1⟩ := index_0 t
  unfold iblk
  rw [View.read_apply]
  show V m c main_v0 _ = _
  rw [V_main_v0]
  exact at2_at _ _ (by show win0_0.index t 0 * 512 + 1 * r.val = _; rw [i0]; omega)
    (by show win0_0.index t 1 * 512 + 1 * l.val = _; rw [i1]; omega)

/-- What point `t` reads through window 1. -/
theorem iblk_1 (t : Fin cfg0.N) (r : Fin 512) (l : Fin 1024) :
    iblk m c 1 t (ix2 r l) = arg1 m c (0 * 512 + r.val) (0 * 1024 + l.val) := by
  have ht := point_lt t
  obtain ⟨i0, i1⟩ := index_1 t
  unfold iblk
  rw [View.read_apply]
  show V m c main_v1 _ = _
  rw [V_main_v1]
  exact at2_at _ _ (by show win0_1.index t 0 * 512 + 1 * r.val = _; rw [i0]; omega)
    (by show win0_1.index t 1 * 1024 + 1 * l.val = _; rw [i1]; omega)

/-- What point `t` reads through window 2. -/
theorem iblk_2 (t : Fin cfg0.N) (r : Fin 512) (l : Fin 1024) :
    iblk m c 2 t (ix2 r l) = arg2 m c (t.val * 512 + r.val) (0 * 1024 + l.val) := by
  have ht := point_lt t
  obtain ⟨i0, i1⟩ := index_2 t
  unfold iblk
  rw [View.read_apply]
  show V m c main_arg2 _ = _
  rw [V_main_arg2]
  exact at2_at _ _ (by show win0_2.index t 0 * 512 + 1 * r.val = _; rw [i0]; omega)
    (by show win0_2.index t 1 * 1024 + 1 * l.val = _; rw [i1]; omega)

/-- The whole result. -/
def result : Buf (Elt Ideal) ((c : Thread nD τ).loc main_v2) := fun (q : S4096x1024.Idx) =>
  prod 512 (arg0 m c) (arg1 m c) (q 0).val (q 1).val + arg2 m c (q 0).val (q 1).val

/-- What point `t` leaves of the output. -/
theorem block (t : Fin cfg0.N) (r : Fin 512) (l : Fin 1024) :
    out0_3 (F := Ideal) (iblk m c 0 t) (iblk m c 1 t) (iblk m c 2 t) (ix2 r l)
      = prod 512 (arg0 m c) (arg1 m c) (t.val * 512 + r.val) (0 * 1024 + l.val) + arg2 m c (t.val * 512 + r.val) (0 * 1024 + l.val) := by
  rw [out_read]
  simp only [iblk_0, iblk_1, iblk_2, prod_fin, zero_mul, zero_add]

theorem flushed (t : Fin cfg0.N) (_hf : (cfg0.win 3).flush t = true) :
    (dats m 0 c).flushed 3 t = ((cfg0.win 3).blk t).view.read (Elt Ideal) (result m c) := by
  obtain ⟨i0, i1⟩ := index_3 t
  rw [Cert.Kernel11Ideal.Value.flushed3]
  funext j
  rw [View.read_apply]
  refine (congrArg (out0_3 (F := Ideal) (iblk m c 0 t) (iblk m c 1 t) (iblk m c 2 t)) (eq_ix2 (j : S512x1024.Idx))).trans ?_
  refine (block m c t (j 0) (j 1)).trans ?_
  show _ = prod 512 (arg0 m c) (arg1 m c) (win0_3.index t 0 * 512 + 1 * (j 0).val) (win0_3.index t 1 * 1024 + 1 * (j 1).val) + arg2 m c (win0_3.index t 0 * 512 + 1 * (j 0).val) (win0_3.index t 1 * 1024 + 1 * (j 1).val)
  rw [i0, i1, one_mul, one_mul]

/-- The result's array after the run. -/
theorem final : (dats m 0 c).arrAt 3 cfg0.N = result m c :=
  (dats m 0 c).arrAt_eq_of_cover 3 (result m c) (flushed m c) fun i => by
    have h0 : (i 0 : Nat) < 4096 := (i 0).isLt
    have h1 : (i 1 : Nat) < 1024 := (i 1).isLt
    have hN : cfg0.N = 8 := N_0
    obtain ⟨t, hv⟩ : ∃ t : Fin cfg0.N, t.val = (i 0 : Nat) / 512 := ⟨⟨_, by omega⟩, rfl⟩
    have hx := index_3 t
    refine ⟨t, flush0_3 _, ?_⟩
    show i ∈ ((View.whole main_v2).slice (win0_3.rect t)).set
    rw [View.set_slice_whole, Rect.mem_set_unit]
    exact tile_at (by show _ * 512 ≤ (i 0 : Nat) ∧ _ < _ * 512 + 512; rw [hx.1]; omega)
      (by show _ * 1024 ≤ (i 1 : Nat) ∧ _ < _ * 1024 + 1024; rw [hx.2]; omega)

/-- The kernel's run: the result is the plain product and the arguments are unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.Kernel11Ideal.Value.run_blocks m ρ)

end Cert.Kernel11Ideal.Prod

namespace Cert.Reference11Ideal.Prod

open Idealize.ShloMosaic Idealize.SL.Sem
open Cert.Reference11Ideal Cert.Reference11Ideal.Gen Cert.Reference11Ideal.Read Cert.Ffn Cert.Product

/-- The reference runs, keeps its arguments and leaves every counter at zero. -/
theorem frame : Cert.quiescent_Reference11Ideal := fun m ρ _ =>
  (θ_run Cert.Reference11Ideal.defs _ _).mono (fun r h => ⟨fun c => (h c).2, sem_eq_zero_of_no_sems (by decide) r.2⟩)
    (Cert.Reference11Ideal.Value.run m ρ)

/-- One entry of the reference's result. -/
theorem read (x0 : (⟨S4096x512, .f32⟩ : BufTy).Contents (Elt Ideal)) (x1 : (⟨S512x1024, .f32⟩ : BufTy).Contents (Elt Ideal)) (x2 : (⟨S4096x1024, .f32⟩ : BufTy).Contents (Elt Ideal))
    (p : Fin 4096) (q : Fin 1024) :
    val_main_v1 (F := Ideal) x0 x1 x2 (ix2 p q)
      = prod 512 (at2 (n := 4096) (m := 512) x0) (at2 (n := 512) (m := 1024) x1) p.val q.val + at2 x2 p.val q.val := by
  unfold val_main_v1 val_main_v0
  pointwise
  rw [prod_fin, at2_ix2, add_comm]
  congr 1
  exact Finset.sum_congr rfl fun k _ => by rw [at2_ix2, at2_ix2]

end Cert.Reference11Ideal.Prod

namespace Cert.Kernel11Ideal.Prod

open Idealize.ShloMosaic Idealize.SL.Sem

/-- The kernel and the reference end with the same array. -/
theorem algebraic : Cert.algebraic_Kernel11Ideal_Reference11Ideal := by
  intro m g m' g' _ hargs
  refine ⟨result m, run m g, ?_⟩
  refine (θ_run Cert.Reference11Ideal.defs _ _).mono (fun r h c => ?_) (Cert.Reference11Ideal.Value.run (F := Ideal) m' g')
  obtain ⟨a0, a1, a2⟩ := hargs c
  refine ⟨(h c).1.trans ?_, (h c).2⟩
  rw [Cert.Reference11Ideal.Read.val_main_v1_eq, a0, a1, a2]
  refine funext fun i => ?_
  rw [eq_ix2 i]
  exact Cert.Reference11Ideal.Prod.read _ _ _ (i 0) (i 1)

end Cert.Kernel11Ideal.Prod

end
-- ==== Proof.Prod12.lean ====
/-
  The gradient of the attention's output (and, at the same shapes, of the scan mixer's input).
-/
module

public import proofs.«01_k».proof.Defs
public import proofs.«01_k».proof.Proof.Product
public import proofs.«01_k».proof.Proof.Gen.Kernel12Ideal.Value
public import proofs.«01_k».proof.Proof.Gen.Reference12Ideal.Run
public import proofs.«01_k».proof.Proof.Gen.Reference12Ideal.Read

@[expose] public section

noncomputable section

namespace Cert.Kernel12Ideal.Prod

open Idealize.ShloMosaic Idealize.ShloMosaic.TcCoe Idealize.SL.Sem
open Cert.Kernel12Ideal Cert.Kernel12Ideal.Gen Cert.Ffn Cert.Product

/-- One entry of the block a grid point leaves in the output's buffer. -/
theorem out_read (x0 : Vec Ideal S512x1024 .bf16) (x1 : Vec Ideal S1024x1024 .bf16) (r : Fin 512) (l : Fin 1024) :
    out0_2 (F := Ideal) x0 x1 (ix2 r l) = (∑ k : Fin 1024, x0 (ix2 r k) * x1 (ix2 l k)) := by
  unfold out0_2
  refine (congrFun (View.canon_unit_zero hz inb_S512x1024_S512x1024_0_0 _) (ix2 r l)).trans ?_
  have e0 : View.ld x0 r0_0 = x0 := View.ld_unit_zero (S := S512x1024) hz inb_S512x1024_S512x1024_0_0 x0
  have e1 : View.ld x1 r0_1 = x1 := View.ld_unit_zero (S := S1024x1024) hz inb_S1024x1024_S1024x1024_0_0 x1
  rw [e0, e1]
  unfold k0_pay1
  pointwise

variable (m : (ℓ : Loc nD τ sig) → Buf (Elt Ideal) ℓ) (ρ : Dev nD → PrngReg) (c : Dev nD)

/-- Argument 1 as a matrix. -/
abbrev arg1 : Nat → Nat → EReal := at2 (n := 1024) (m := 1024) (m ((c : Thread nD τ).loc main_arg1))

/-- Argument 2 as a matrix. -/
abbrev arg2 : Nat → Nat → EReal := at2 (n := 4096) (m := 1024) (m ((c : Thread nD τ).loc main_arg2))

theorem point_lt (t : Fin cfg0.N) : t.val < 8 := t.isLt.trans_eq N_0

theorem V_main_v0 : V m c main_v0 = (m ((c : Thread nD τ).loc main_arg2) : Vec Ideal S4096x1024 .f32) := by
  unfold V hostOps0
  after_results
  rfl

theorem V_main_v1 : V m c main_v1 = (m ((c : Thread nD τ).loc main_arg1) : Vec Ideal S1024x1024 .f32) := by
  unfold V hostOps0
  after_results
  rfl

theorem index_0 : ∀ t : Fin grid0.N, win0_0.index t 0 = t.val ∧ win0_0.index t 1 = 0 := by decide +kernel

theorem index_1 : ∀ t : Fin grid0.N, win0_1.index t 0 = 0 ∧ win0_1.index t 1 = 0 := by decide +kernel

theorem index_2 : ∀ t : Fin grid0.N, win0_2.index t 0 = t.val ∧ win0_2.index t 1 = 0 := by decide +kernel

/-- What point `t` reads through window 0. -/
theorem iblk_0 (t : Fin cfg0.N) (r : Fin 512) (l : Fin 1024) :
    iblk m c 0 t (ix2 r l) = arg2 m c (t.val * 512 + r.val) (0 * 1024 + l.val) := by
  have ht := point_lt t
  obtain ⟨i0, i1⟩ := index_0 t
  unfold iblk
  rw [View.read_apply]
  show V m c main_v0 _ = _
  rw [V_main_v0]
  exact at2_at _ _ (by show win0_0.index t 0 * 512 + 1 * r.val = _; rw [i0]; omega)
    (by show win0_0.index t 1 * 1024 + 1 * l.val = _; rw [i1]; omega)

/-- What point `t` reads through window 1. -/
theorem iblk_1 (t : Fin cfg0.N) (r : Fin 1024) (l : Fin 1024) :
    iblk m c 1 t (ix2 r l) = arg1 m c (0 * 1024 + r.val) (0 * 1024 + l.val) := by
  have ht := point_lt t
  obtain ⟨i0, i1⟩ := index_1 t
  unfold iblk
  rw [View.read_apply]
  show V m c main_v1 _ = _
  rw [V_main_v1]
  exact at2_at _ _ (by show win0_1.index t 0 * 1024 + 1 * r.val = _; rw [i0]; omega)
    (by show win0_1.index t 1 * 1024 + 1 * l.val = _; rw [i1]; omega)

/-- The whole result. -/
def result : Buf (Elt Ideal) ((c : Thread nD τ).loc main_v2) := fun (q : S4096x1024.Idx) =>
  prodTb 1024 (arg2 m c) (arg1 m c) (q 0).val (q 1).val

/-- What point `t` leaves of the output. -/
theorem block (t : Fin cfg0.N) (r : Fin 512) (l : Fin 1024) :
    out0_2 (F := Ideal) (iblk m c 0 t) (iblk m c 1 t) (ix2 r l)
      = prodTb 1024 (arg2 m c) (arg1 m c) (t.val * 512 + r.val) (0 * 1024 + l.val) := by
  rw [out_read]
  simp only [iblk_0, iblk_1, prodTb_fin, zero_mul, zero_add]

theorem flushed (t : Fin cfg0.N) (_hf : (cfg0.win 2).flush t = true) :
    (dats m 0 c).flushed 2 t = ((cfg0.win 2).blk t).view.read (Elt Ideal) (result m c) := by
  obtain ⟨i0, i1⟩ := index_2 t
  rw [Cert.Kernel12Ideal.Value.flushed2]
  funext j
  rw [View.read_apply]
  refine (congrArg (out0_2 (F := Ideal) (iblk m c 0 t) (iblk m c 1 t)) (eq_ix2 (j : S512x1024.Idx))).trans ?_
  refine (block m c t (j 0) (j 1)).trans ?_
  show _ = prodTb 1024 (arg2 m c) (arg1 m c) (win0_2.index t 0 * 512 + 1 * (j 0).val) (win0_2.index t 1 * 1024 + 1 * (j 1).val)
  rw [i0, i1, one_mul, one_mul]

/-- The result's array after the run. -/
theorem final : (dats m 0 c).arrAt 2 cfg0.N = result m c :=
  (dats m 0 c).arrAt_eq_of_cover 2 (result m c) (flushed m c) fun i => by
    have h0 : (i 0 : Nat) < 4096 := (i 0).isLt
    have h1 : (i 1 : Nat) < 1024 := (i 1).isLt
    have hN : cfg0.N = 8 := N_0
    obtain ⟨t, hv⟩ : ∃ t : Fin cfg0.N, t.val = (i 0 : Nat) / 512 := ⟨⟨_, by omega⟩, rfl⟩
    have hx := index_2 t
    refine ⟨t, flush0_2 _, ?_⟩
    show i ∈ ((View.whole main_v2).slice (win0_2.rect t)).set
    rw [View.set_slice_whole, Rect.mem_set_unit]
    exact tile_at (by show _ * 512 ≤ (i 0 : Nat) ∧ _ < _ * 512 + 512; rw [hx.1]; omega)
      (by show _ * 1024 ≤ (i 1 : Nat) ∧ _ < _ * 1024 + 1024; rw [hx.2]; omega)

/-- The kernel's run: the result is the plain product and the arguments are unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.Kernel12Ideal.Value.run_blocks m ρ)

end Cert.Kernel12Ideal.Prod

namespace Cert.Reference12Ideal.Prod

open Idealize.ShloMosaic Idealize.SL.Sem
open Cert.Reference12Ideal Cert.Reference12Ideal.Gen Cert.Reference12Ideal.Read Cert.Ffn Cert.Product

/-- The reference runs, keeps its arguments and leaves every counter at zero. -/
theorem frame : Cert.quiescent_Reference12Ideal := fun m ρ _ =>
  (θ_run Cert.Reference12Ideal.defs _ _).mono (fun r h => ⟨fun c => (h c).2, sem_eq_zero_of_no_sems (by decide) r.2⟩)
    (Cert.Reference12Ideal.Value.run m ρ)

/-- One entry of the reference's result. -/
theorem read (x1 : (⟨S1024x1024, .f32⟩ : BufTy).Contents (Elt Ideal)) (x2 : (⟨S4096x1024, .f32⟩ : BufTy).Contents (Elt Ideal))
    (p : Fin 4096) (q : Fin 1024) :
    val_main_v1 (F := Ideal) x1 x2 (ix2 p q)
      = prodTb 1024 (at2 (n := 4096) (m := 1024) x2) (at2 (n := 1024) (m := 1024) x1) p.val q.val := by
  unfold val_main_v1
  pointwise
  rw [prodTb_fin]
  exact Finset.sum_congr rfl fun k _ => by rw [at2_ix2, at2_ix2]

end Cert.Reference12Ideal.Prod

namespace Cert.Kernel12Ideal.Prod

open Idealize.ShloMosaic Idealize.SL.Sem

/-- The kernel and the reference end with the same array. -/
theorem algebraic : Cert.algebraic_Kernel12Ideal_Reference12Ideal := by
  intro m g m' g' _ hargs
  refine ⟨result m, run m g, ?_⟩
  refine (θ_run Cert.Reference12Ideal.defs _ _).mono (fun r h c => ?_) (Cert.Reference12Ideal.Value.run (F := Ideal) m' g')
  obtain ⟨a0, a1, a2⟩ := hargs c
  refine ⟨(h c).1.trans ?_, (h c).2⟩
  rw [Cert.Reference12Ideal.Read.val_main_v1_eq, a1, a2]
  refine funext fun i => ?_
  rw [eq_ix2 i]
  exact Cert.Reference12Ideal.Prod.read _ _ (i 0) (i 1)

end Cert.Kernel12Ideal.Prod

end
-- ==== Proof.Prod13.lean ====
/-
  The gradient of the short convolution's output.
-/
module

public import proofs.«01_k».proof.Defs
public import proofs.«01_k».proof.Proof.Product
public import proofs.«01_k».proof.Proof.Gen.Kernel13Ideal.Value
public import proofs.«01_k».proof.Proof.Gen.Reference13Ideal.Run
public import proofs.«01_k».proof.Proof.Gen.Reference13Ideal.Read

@[expose] public section

noncomputable section

namespace Cert.Kernel13Ideal.Prod

open Idealize.ShloMosaic Idealize.ShloMosaic.TcCoe Idealize.SL.Sem
open Cert.Kernel13Ideal Cert.Kernel13Ideal.Gen Cert.Ffn Cert.Product

/-- One entry of the block a grid point leaves in the output's buffer. -/
theorem out_read (x0 : Vec Ideal S1024x1024 .bf16) (x1 : Vec Ideal S512x1024 .bf16) (r : Fin 1024) (l : Fin 512) :
    out0_2 (F := Ideal) x0 x1 (ix2 r l) = (∑ k : Fin 1024, x0 (ix2 r k) * x1 (ix2 l k)) := by
  unfold out0_2
  refine (congrFun (View.canon_unit_zero hz inb_S1024x512_S1024x512_0_0 _) (ix2 r l)).trans ?_
  have e0 : View.ld x0 r0_0 = x0 := View.ld_unit_zero (S := S1024x1024) hz inb_S1024x1024_S1024x1024_0_0 x0
  have e1 : View.ld x1 r0_1 = x1 := View.ld_unit_zero (S := S512x1024) hz inb_S512x1024_S512x1024_0_0 x1
  rw [e0, e1]
  unfold k0_pay1
  pointwise

variable (m : (ℓ : Loc nD τ sig) → Buf (Elt Ideal) ℓ) (ρ : Dev nD → PrngReg) (c : Dev nD)

/-- Argument 1 as a matrix. -/
abbrev arg1 : Nat → Nat → EReal := at2 (n := 512) (m := 1024) (m ((c : Thread nD τ).loc main_arg1))

/-- Argument 2 as a matrix. -/
abbrev arg2 : Nat → Nat → EReal := at2 (n := 4096) (m := 1024) (m ((c : Thread nD τ).loc main_arg2))

theorem point_lt (t : Fin cfg0.N) : t.val < 4 := t.isLt.trans_eq N_0

theorem V_main_v0 : V m c main_v0 = (m ((c : Thread nD τ).loc main_arg2) : Vec Ideal S4096x1024 .f32) := by
  unfold V hostOps0
  after_results
  rfl

theorem V_main_v1 : V m c main_v1 = (m ((c : Thread nD τ).loc main_arg1) : Vec Ideal S512x1024 .f32) := by
  unfold V hostOps0
  after_results
  rfl

theorem index_0 : ∀ t : Fin grid0.N, win0_0.index t 0 = t.val ∧ win0_0.index t 1 = 0 := by decide +kernel

theorem index_1 : ∀ t : Fin grid0.N, win0_1.index t 0 = 0 ∧ win0_1.index t 1 = 0 := by decide +kernel

theorem index_2 : ∀ t : Fin grid0.N, win0_2.index t 0 = t.val ∧ win0_2.index t 1 = 0 := by decide +kernel

/-- What point `t` reads through window 0. -/
theorem iblk_0 (t : Fin cfg0.N) (r : Fin 1024) (l : Fin 1024) :
    iblk m c 0 t (ix2 r l) = arg2 m c (t.val * 1024 + r.val) (0 * 1024 + l.val) := by
  have ht := point_lt t
  obtain ⟨i0, i1⟩ := index_0 t
  unfold iblk
  rw [View.read_apply]
  show V m c main_v0 _ = _
  rw [V_main_v0]
  exact at2_at _ _ (by show win0_0.index t 0 * 1024 + 1 * r.val = _; rw [i0]; omega)
    (by show win0_0.index t 1 * 1024 + 1 * l.val = _; rw [i1]; omega)

/-- What point `t` reads through window 1. -/
theorem iblk_1 (t : Fin cfg0.N) (r : Fin 512) (l : Fin 1024) :
    iblk m c 1 t (ix2 r l) = arg1 m c (0 * 512 + r.val) (0 * 1024 + l.val) := by
  have ht := point_lt t
  obtain ⟨i0, i1⟩ := index_1 t
  unfold iblk
  rw [View.read_apply]
  show V m c main_v1 _ = _
  rw [V_main_v1]
  exact at2_at _ _ (by show win0_1.index t 0 * 512 + 1 * r.val = _; rw [i0]; omega)
    (by show win0_1.index t 1 * 1024 + 1 * l.val = _; rw [i1]; omega)

/-- The whole result. -/
def result : Buf (Elt Ideal) ((c : Thread nD τ).loc main_v2) := fun (q : S4096x512.Idx) =>
  prodTb 1024 (arg2 m c) (arg1 m c) (q 0).val (q 1).val

/-- What point `t` leaves of the output. -/
theorem block (t : Fin cfg0.N) (r : Fin 1024) (l : Fin 512) :
    out0_2 (F := Ideal) (iblk m c 0 t) (iblk m c 1 t) (ix2 r l)
      = prodTb 1024 (arg2 m c) (arg1 m c) (t.val * 1024 + r.val) (0 * 512 + l.val) := by
  rw [out_read]
  simp only [iblk_0, iblk_1, prodTb_fin, zero_mul, zero_add]

theorem flushed (t : Fin cfg0.N) (_hf : (cfg0.win 2).flush t = true) :
    (dats m 0 c).flushed 2 t = ((cfg0.win 2).blk t).view.read (Elt Ideal) (result m c) := by
  obtain ⟨i0, i1⟩ := index_2 t
  rw [Cert.Kernel13Ideal.Value.flushed2]
  funext j
  rw [View.read_apply]
  refine (congrArg (out0_2 (F := Ideal) (iblk m c 0 t) (iblk m c 1 t)) (eq_ix2 (j : S1024x512.Idx))).trans ?_
  refine (block m c t (j 0) (j 1)).trans ?_
  show _ = prodTb 1024 (arg2 m c) (arg1 m c) (win0_2.index t 0 * 1024 + 1 * (j 0).val) (win0_2.index t 1 * 512 + 1 * (j 1).val)
  rw [i0, i1, one_mul, one_mul]

/-- The result's array after the run. -/
theorem final : (dats m 0 c).arrAt 2 cfg0.N = result m c :=
  (dats m 0 c).arrAt_eq_of_cover 2 (result m c) (flushed m c) fun i => by
    have h0 : (i 0 : Nat) < 4096 := (i 0).isLt
    have h1 : (i 1 : Nat) < 512 := (i 1).isLt
    have hN : cfg0.N = 4 := N_0
    obtain ⟨t, hv⟩ : ∃ t : Fin cfg0.N, t.val = (i 0 : Nat) / 1024 := ⟨⟨_, by omega⟩, rfl⟩
    have hx := index_2 t
    refine ⟨t, flush0_2 _, ?_⟩
    show i ∈ ((View.whole main_v2).slice (win0_2.rect t)).set
    rw [View.set_slice_whole, Rect.mem_set_unit]
    exact tile_at (by show _ * 1024 ≤ (i 0 : Nat) ∧ _ < _ * 1024 + 1024; rw [hx.1]; omega)
      (by show _ * 512 ≤ (i 1 : Nat) ∧ _ < _ * 512 + 512; rw [hx.2]; omega)

/-- The kernel's run: the result is the plain product and the arguments are unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.Kernel13Ideal.Value.run_blocks m ρ)

end Cert.Kernel13Ideal.Prod

namespace Cert.Reference13Ideal.Prod

open Idealize.ShloMosaic Idealize.SL.Sem
open Cert.Reference13Ideal Cert.Reference13Ideal.Gen Cert.Reference13Ideal.Read Cert.Ffn Cert.Product

/-- The reference runs, keeps its arguments and leaves every counter at zero. -/
theorem frame : Cert.quiescent_Reference13Ideal := fun m ρ _ =>
  (θ_run Cert.Reference13Ideal.defs _ _).mono (fun r h => ⟨fun c => (h c).2, sem_eq_zero_of_no_sems (by decide) r.2⟩)
    (Cert.Reference13Ideal.Value.run m ρ)

/-- One entry of the reference's result. -/
theorem read (x1 : (⟨S512x1024, .f32⟩ : BufTy).Contents (Elt Ideal)) (x2 : (⟨S4096x1024, .f32⟩ : BufTy).Contents (Elt Ideal))
    (p : Fin 4096) (q : Fin 512) :
    val_main_v1 (F := Ideal) x1 x2 (ix2 p q)
      = prodTb 1024 (at2 (n := 4096) (m := 1024) x2) (at2 (n := 512) (m := 1024) x1) p.val q.val := by
  unfold val_main_v1
  pointwise
  rw [prodTb_fin]
  exact Finset.sum_congr rfl fun k _ => by rw [at2_ix2, at2_ix2]

end Cert.Reference13Ideal.Prod

namespace Cert.Kernel13Ideal.Prod

open Idealize.ShloMosaic Idealize.SL.Sem

/-- The kernel and the reference end with the same array. -/
theorem algebraic : Cert.algebraic_Kernel13Ideal_Reference13Ideal := by
  intro m g m' g' _ hargs
  refine ⟨result m, run m g, ?_⟩
  refine (θ_run Cert.Reference13Ideal.defs _ _).mono (fun r h c => ?_) (Cert.Reference13Ideal.Value.run (F := Ideal) m' g')
  obtain ⟨a0, a1, a2⟩ := hargs c
  refine ⟨(h c).1.trans ?_, (h c).2⟩
  rw [Cert.Reference13Ideal.Read.val_main_v1_eq, a1, a2]
  refine funext fun i => ?_
  rw [eq_ix2 i]
  exact Cert.Reference13Ideal.Prod.read _ _ (i 0) (i 1)

end Cert.Kernel13Ideal.Prod

end
-- ==== Proof.Prod14.lean ====
/-
  The gradient of the attention part of the output projection's weight (and, at the same shapes, of the scan mixer's input weight).
-/
module

public import proofs.«01_k».proof.Defs
public import proofs.«01_k».proof.Proof.Product
public import proofs.«01_k».proof.Proof.Gen.Kernel14Ideal.Value
public import proofs.«01_k».proof.Proof.Gen.Reference14Ideal.Run
public import proofs.«01_k».proof.Proof.Gen.Reference14Ideal.Read

@[expose] public section

noncomputable section

namespace Cert.Kernel14Ideal.Prod

open Idealize.ShloMosaic Idealize.ShloMosaic.TcCoe Idealize.SL.Sem
open Cert.Kernel14Ideal Cert.Kernel14Ideal.Gen Cert.Ffn Cert.Product

/-- One entry of the block a grid point leaves in the output's buffer. -/
theorem out_read (x0 : Vec Ideal S4096x1024 .bf16) (x1 : Vec Ideal S4096x512 .bf16) (r : Fin 1024) (l : Fin 512) :
    out0_2 (F := Ideal) x0 x1 (ix2 r l) = (∑ k : Fin 4096, x0 (ix2 k r) * x1 (ix2 k l)) := by
  unfold out0_2
  refine (congrFun (View.canon_unit_zero hz inb_S1024x512_S1024x512_0_0 _) (ix2 r l)).trans ?_
  have e0 : View.ld x0 r0_0 = x0 := View.ld_unit_zero (S := S4096x1024) hz inb_S4096x1024_S4096x1024_0_0 x0
  have e1 : View.ld x1 r0_1 = x1 := View.ld_unit_zero (S := S4096x512) hz inb_S4096x512_S4096x512_0_0 x1
  rw [e0, e1]
  unfold k0_pay1
  pointwise

variable (m : (ℓ : Loc nD τ sig) → Buf (Elt Ideal) ℓ) (ρ : Dev nD → PrngReg) (c : Dev nD)

/-- Argument 0 as a matrix. -/
abbrev arg0 : Nat → Nat → EReal := at2 (n := 4096) (m := 1024) (m ((c : Thread nD τ).loc main_arg0))

/-- Argument 2 as a matrix. -/
abbrev arg2 : Nat → Nat → EReal := at2 (n := 4096) (m := 1024) (m ((c : Thread nD τ).loc main_arg2))

theorem point_lt (t : Fin cfg0.N) : t.val < 2 := t.isLt.trans_eq N_0

theorem V_main_v0 : V m c main_v0 = (m ((c : Thread nD τ).loc main_arg0) : Vec Ideal S4096x1024 .f32) := by
  unfold V hostOps0
  after_results
  rfl

theorem V_main_v1 : V m c main_v1 = (m ((c : Thread nD τ).loc main_arg2) : Vec Ideal S4096x1024 .f32) := by
  unfold V hostOps0
  after_results
  rfl

theorem index_0 : ∀ t : Fin grid0.N, win0_0.index t 0 = 0 ∧ win0_0.index t 1 = 0 := by decide +kernel

theorem index_1 : ∀ t : Fin grid0.N, win0_1.index t 0 = 0 ∧ win0_1.index t 1 = t.val := by decide +kernel

theorem index_2 : ∀ t : Fin grid0.N, win0_2.index t 0 = 0 ∧ win0_2.index t 1 = t.val := by decide +kernel

/-- What point `t` reads through window 0. -/
theorem iblk_0 (t : Fin cfg0.N) (r : Fin 4096) (l : Fin 1024) :
    iblk m c 0 t (ix2 r l) = arg0 m c (0 * 4096 + r.val) (0 * 1024 + l.val) := by
  have ht := point_lt t
  obtain ⟨i0, i1⟩ := index_0 t
  unfold iblk
  rw [View.read_apply]
  show V m c main_v0 _ = _
  rw [V_main_v0]
  exact at2_at _ _ (by show win0_0.index t 0 * 4096 + 1 * r.val = _; rw [i0]; omega)
    (by show win0_0.index t 1 * 1024 + 1 * l.val = _; rw [i1]; omega)

/-- What point `t` reads through window 1. -/
theorem iblk_1 (t : Fin cfg0.N) (r : Fin 4096) (l : Fin 512) :
    iblk m c 1 t (ix2 r l) = arg2 m c (0 * 4096 + r.val) (t.val * 512 + l.val) := by
  have ht := point_lt t
  obtain ⟨i0, i1⟩ := index_1 t
  unfold iblk
  rw [View.read_apply]
  show V m c main_v1 _ = _
  rw [V_main_v1]
  exact at2_at _ _ (by show win0_1.index t 0 * 4096 + 1 * r.val = _; rw [i0]; omega)
    (by show win0_1.index t 1 * 512 + 1 * l.val = _; rw [i1]; omega)

/-- The whole result. -/
def result : Buf (Elt Ideal) ((c : Thread nD τ).loc main_v2) := fun (q : S1024x1024.Idx) =>
  prodTa 4096 (arg0 m c) (arg2 m c) (q 0).val (q 1).val

/-- What point `t` leaves of the output. -/
theorem block (t : Fin cfg0.N) (r : Fin 1024) (l : Fin 512) :
    out0_2 (F := Ideal) (iblk m c 0 t) (iblk m c 1 t) (ix2 r l)
      = prodTa 4096 (arg0 m c) (arg2 m c) (0 * 1024 + r.val) (t.val * 512 + l.val) := by
  rw [out_read]
  simp only [iblk_0, iblk_1, prodTa_fin, zero_mul, zero_add]

theorem flushed (t : Fin cfg0.N) (_hf : (cfg0.win 2).flush t = true) :
    (dats m 0 c).flushed 2 t = ((cfg0.win 2).blk t).view.read (Elt Ideal) (result m c) := by
  obtain ⟨i0, i1⟩ := index_2 t
  rw [Cert.Kernel14Ideal.Value.flushed2]
  funext j
  rw [View.read_apply]
  refine (congrArg (out0_2 (F := Ideal) (iblk m c 0 t) (iblk m c 1 t)) (eq_ix2 (j : S1024x512.Idx))).trans ?_
  refine (block m c t (j 0) (j 1)).trans ?_
  show _ = prodTa 4096 (arg0 m c) (arg2 m c) (win0_2.index t 0 * 1024 + 1 * (j 0).val) (win0_2.index t 1 * 512 + 1 * (j 1).val)
  rw [i0, i1, one_mul, one_mul]

/-- The result's array after the run. -/
theorem final : (dats m 0 c).arrAt 2 cfg0.N = result m c :=
  (dats m 0 c).arrAt_eq_of_cover 2 (result m c) (flushed m c) fun i => by
    have h0 : (i 0 : Nat) < 1024 := (i 0).isLt
    have h1 : (i 1 : Nat) < 1024 := (i 1).isLt
    have hN : cfg0.N = 2 := N_0
    obtain ⟨t, hv⟩ : ∃ t : Fin cfg0.N, t.val = (i 1 : Nat) / 512 := ⟨⟨_, by omega⟩, rfl⟩
    have hx := index_2 t
    refine ⟨t, flush0_2 _, ?_⟩
    show i ∈ ((View.whole main_v2).slice (win0_2.rect t)).set
    rw [View.set_slice_whole, Rect.mem_set_unit]
    exact tile_at (by show _ * 1024 ≤ (i 0 : Nat) ∧ _ < _ * 1024 + 1024; rw [hx.1]; omega)
      (by show _ * 512 ≤ (i 1 : Nat) ∧ _ < _ * 512 + 512; rw [hx.2]; omega)

/-- The kernel's run: the result is the plain product and the arguments are unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.Kernel14Ideal.Value.run_blocks m ρ)

end Cert.Kernel14Ideal.Prod

namespace Cert.Reference14Ideal.Prod

open Idealize.ShloMosaic Idealize.SL.Sem
open Cert.Reference14Ideal Cert.Reference14Ideal.Gen Cert.Reference14Ideal.Read Cert.Ffn Cert.Product

/-- The reference runs, keeps its arguments and leaves every counter at zero. -/
theorem frame : Cert.quiescent_Reference14Ideal := fun m ρ _ =>
  (θ_run Cert.Reference14Ideal.defs _ _).mono (fun r h => ⟨fun c => (h c).2, sem_eq_zero_of_no_sems (by decide) r.2⟩)
    (Cert.Reference14Ideal.Value.run m ρ)

/-- One entry of the reference's result. -/
theorem read (x0 : (⟨S4096x1024, .f32⟩ : BufTy).Contents (Elt Ideal)) (x2 : (⟨S4096x1024, .f32⟩ : BufTy).Contents (Elt Ideal))
    (p : Fin 1024) (q : Fin 1024) :
    val_main_v3 (F := Ideal) x0 x2 (ix2 p q)
      = prodTa 4096 (at2 (n := 4096) (m := 1024) x0) (at2 (n := 4096) (m := 1024) x2) p.val q.val := by
  unfold val_main_v3 val_main_v2 val_main_v1
  pointwise
  rw [prodTa_fin]
  exact Finset.sum_congr rfl fun k _ => by rw [at2_ix2, at2_ix2, mul_comm]

end Cert.Reference14Ideal.Prod

namespace Cert.Kernel14Ideal.Prod

open Idealize.ShloMosaic Idealize.SL.Sem

/-- The kernel and the reference end with the same array. -/
theorem algebraic : Cert.algebraic_Kernel14Ideal_Reference14Ideal := by
  intro m g m' g' _ hargs
  refine ⟨result m, run m g, ?_⟩
  refine (θ_run Cert.Reference14Ideal.defs _ _).mono (fun r h c => ?_) (Cert.Reference14Ideal.Value.run (F := Ideal) m' g')
  obtain ⟨a0, a1, a2⟩ := hargs c
  refine ⟨(h c).1.trans ?_, (h c).2⟩
  rw [Cert.Reference14Ideal.Read.val_main_v3_eq, a0, a2]
  refine funext fun i => ?_
  rw [eq_ix2 i]
  exact Cert.Reference14Ideal.Prod.read _ _ (i 0) (i 1)

end Cert.Kernel14Ideal.Prod

end
-- ==== Proof.Prod15.lean ====
/-
  The gradient of the convolution part of the output projection's weight.
-/
module

public import proofs.«01_k».proof.Defs
public import proofs.«01_k».proof.Proof.Product
public import proofs.«01_k».proof.Proof.Gen.Kernel15Ideal.Value
public import proofs.«01_k».proof.Proof.Gen.Reference15Ideal.Run
public import proofs.«01_k».proof.Proof.Gen.Reference15Ideal.Read

@[expose] public section

noncomputable section

namespace Cert.Kernel15Ideal.Prod

open Idealize.ShloMosaic Idealize.ShloMosaic.TcCoe Idealize.SL.Sem
open Cert.Kernel15Ideal Cert.Kernel15Ideal.Gen Cert.Ffn Cert.Product

/-- One entry of the block a grid point leaves in the output's buffer. -/
theorem out_read (x0 : Vec Ideal S4096x512 .bf16) (x1 : Vec Ideal S4096x1024 .bf16) (r : Fin 512) (l : Fin 1024) :
    out0_2 (F := Ideal) x0 x1 (ix2 r l) = (∑ k : Fin 4096, x0 (ix2 k r) * x1 (ix2 k l)) := by
  unfold out0_2
  refine (congrFun (View.canon_unit_zero hz inb_S512x1024_S512x1024_0_0 _) (ix2 r l)).trans ?_
  have e0 : View.ld x0 r0_0 = x0 := View.ld_unit_zero (S := S4096x512) hz inb_S4096x512_S4096x512_0_0 x0
  have e1 : View.ld x1 r0_1 = x1 := View.ld_unit_zero (S := S4096x1024) hz inb_S4096x1024_S4096x1024_0_0 x1
  rw [e0, e1]
  unfold k0_pay1
  pointwise

variable (m : (ℓ : Loc nD τ sig) → Buf (Elt Ideal) ℓ) (ρ : Dev nD → PrngReg) (c : Dev nD)

/-- Argument 0 as a matrix. -/
abbrev arg0 : Nat → Nat → EReal := at2 (n := 4096) (m := 512) (m ((c : Thread nD τ).loc main_arg0))

/-- Argument 2 as a matrix. -/
abbrev arg2 : Nat → Nat → EReal := at2 (n := 4096) (m := 1024) (m ((c : Thread nD τ).loc main_arg2))

theorem point_lt (t : Fin cfg0.N) : t.val < 1 := t.isLt.trans_eq N_0

theorem V_main_v0 : V m c main_v0 = (m ((c : Thread nD τ).loc main_arg0) : Vec Ideal S4096x512 .f32) := by
  unfold V hostOps0
  after_results
  rfl

theorem V_main_v1 : V m c main_v1 = (m ((c : Thread nD τ).loc main_arg2) : Vec Ideal S4096x1024 .f32) := by
  unfold V hostOps0
  after_results
  rfl

theorem index_0 : ∀ t : Fin grid0.N, win0_0.index t 0 = 0 ∧ win0_0.index t 1 = 0 := by decide +kernel

theorem index_1 : ∀ t : Fin grid0.N, win0_1.index t 0 = 0 ∧ win0_1.index t 1 = 0 := by decide +kernel

theorem index_2 : ∀ t : Fin grid0.N, win0_2.index t 0 = 0 ∧ win0_2.index t 1 = 0 := by decide +kernel

/-- What point `t` reads through window 0. -/
theorem iblk_0 (t : Fin cfg0.N) (r : Fin 4096) (l : Fin 512) :
    iblk m c 0 t (ix2 r l) = arg0 m c (0 * 4096 + r.val) (0 * 512 + l.val) := by
  have ht := point_lt t
  obtain ⟨i0, i1⟩ := index_0 t
  unfold iblk
  rw [View.read_apply]
  show V m c main_v0 _ = _
  rw [V_main_v0]
  exact at2_at _ _ (by show win0_0.index t 0 * 4096 + 1 * r.val = _; rw [i0]; omega)
    (by show win0_0.index t 1 * 512 + 1 * l.val = _; rw [i1]; omega)

/-- What point `t` reads through window 1. -/
theorem iblk_1 (t : Fin cfg0.N) (r : Fin 4096) (l : Fin 1024) :
    iblk m c 1 t (ix2 r l) = arg2 m c (0 * 4096 + r.val) (0 * 1024 + l.val) := by
  have ht := point_lt t
  obtain ⟨i0, i1⟩ := index_1 t
  unfold iblk
  rw [View.read_apply]
  show V m c main_v1 _ = _
  rw [V_main_v1]
  exact at2_at _ _ (by show win0_1.index t 0 * 4096 + 1 * r.val = _; rw [i0]; omega)
    (by show win0_1.index t 1 * 1024 + 1 * l.val = _; rw [i1]; omega)

/-- The whole result. -/
def result : Buf (Elt Ideal) ((c : Thread nD τ).loc main_v2) := fun (q : S512x1024.Idx) =>
  prodTa 4096 (arg0 m c) (arg2 m c) (q 0).val (q 1).val

/-- What point `t` leaves of the output. -/
theorem block (t : Fin cfg0.N) (r : Fin 512) (l : Fin 1024) :
    out0_2 (F := Ideal) (iblk m c 0 t) (iblk m c 1 t) (ix2 r l)
      = prodTa 4096 (arg0 m c) (arg2 m c) (0 * 512 + r.val) (0 * 1024 + l.val) := by
  rw [out_read]
  simp only [iblk_0, iblk_1, prodTa_fin, zero_mul, zero_add]

theorem flushed (t : Fin cfg0.N) (_hf : (cfg0.win 2).flush t = true) :
    (dats m 0 c).flushed 2 t = ((cfg0.win 2).blk t).view.read (Elt Ideal) (result m c) := by
  obtain ⟨i0, i1⟩ := index_2 t
  rw [Cert.Kernel15Ideal.Value.flushed2]
  funext j
  rw [View.read_apply]
  refine (congrArg (out0_2 (F := Ideal) (iblk m c 0 t) (iblk m c 1 t)) (eq_ix2 (j : S512x1024.Idx))).trans ?_
  refine (block m c t (j 0) (j 1)).trans ?_
  show _ = prodTa 4096 (arg0 m c) (arg2 m c) (win0_2.index t 0 * 512 + 1 * (j 0).val) (win0_2.index t 1 * 1024 + 1 * (j 1).val)
  rw [i0, i1, one_mul, one_mul]

/-- The result's array after the run. -/
theorem final : (dats m 0 c).arrAt 2 cfg0.N = result m c :=
  (dats m 0 c).arrAt_eq_of_cover 2 (result m c) (flushed m c) fun i => by
    have h0 : (i 0 : Nat) < 512 := (i 0).isLt
    have h1 : (i 1 : Nat) < 1024 := (i 1).isLt
    have hN : cfg0.N = 1 := N_0
    obtain ⟨t, hv⟩ : ∃ t : Fin cfg0.N, t.val = 0 := ⟨⟨_, by omega⟩, rfl⟩
    have hx := index_2 t
    refine ⟨t, flush0_2 _, ?_⟩
    show i ∈ ((View.whole main_v2).slice (win0_2.rect t)).set
    rw [View.set_slice_whole, Rect.mem_set_unit]
    exact tile_at (by show _ * 512 ≤ (i 0 : Nat) ∧ _ < _ * 512 + 512; rw [hx.1]; omega)
      (by show _ * 1024 ≤ (i 1 : Nat) ∧ _ < _ * 1024 + 1024; rw [hx.2]; omega)

/-- The kernel's run: the result is the plain product and the arguments are unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.Kernel15Ideal.Value.run_blocks m ρ)

end Cert.Kernel15Ideal.Prod

namespace Cert.Reference15Ideal.Prod

open Idealize.ShloMosaic Idealize.SL.Sem
open Cert.Reference15Ideal Cert.Reference15Ideal.Gen Cert.Reference15Ideal.Read Cert.Ffn Cert.Product

/-- The reference runs, keeps its arguments and leaves every counter at zero. -/
theorem frame : Cert.quiescent_Reference15Ideal := fun m ρ _ =>
  (θ_run Cert.Reference15Ideal.defs _ _).mono (fun r h => ⟨fun c => (h c).2, sem_eq_zero_of_no_sems (by decide) r.2⟩)
    (Cert.Reference15Ideal.Value.run m ρ)

/-- One entry of the reference's result. -/
theorem read (x0 : (⟨S4096x512, .f32⟩ : BufTy).Contents (Elt Ideal)) (x2 : (⟨S4096x1024, .f32⟩ : BufTy).Contents (Elt Ideal))
    (p : Fin 512) (q : Fin 1024) :
    val_main_v3 (F := Ideal) x0 x2 (ix2 p q)
      = prodTa 4096 (at2 (n := 4096) (m := 512) x0) (at2 (n := 4096) (m := 1024) x2) p.val q.val := by
  unfold val_main_v3 val_main_v2 val_main_v1
  pointwise
  rw [prodTa_fin]
  exact Finset.sum_congr rfl fun k _ => by rw [at2_ix2, at2_ix2, mul_comm]

end Cert.Reference15Ideal.Prod

namespace Cert.Kernel15Ideal.Prod

open Idealize.ShloMosaic Idealize.SL.Sem

/-- The kernel and the reference end with the same array. -/
theorem algebraic : Cert.algebraic_Kernel15Ideal_Reference15Ideal := by
  intro m g m' g' _ hargs
  refine ⟨result m, run m g, ?_⟩
  refine (θ_run Cert.Reference15Ideal.defs _ _).mono (fun r h c => ?_) (Cert.Reference15Ideal.Value.run (F := Ideal) m' g')
  obtain ⟨a0, a1, a2⟩ := hargs c
  refine ⟨(h c).1.trans ?_, (h c).2⟩
  rw [Cert.Reference15Ideal.Read.val_main_v3_eq, a0, a2]
  refine funext fun i => ?_
  rw [eq_ix2 i]
  exact Cert.Reference15Ideal.Prod.read _ _ (i 0) (i 1)

end Cert.Kernel15Ideal.Prod

end
-- ==== Proof.Prod16.lean ====
/-
  The gradient of the normalised query latent.
-/
module

public import proofs.«01_k».proof.Defs
public import proofs.«01_k».proof.Proof.Product
public import proofs.«01_k».proof.Proof.Gen.Kernel16Ideal.Value
public import proofs.«01_k».proof.Proof.Gen.Reference16Ideal.Run
public import proofs.«01_k».proof.Proof.Gen.Reference16Ideal.Read

@[expose] public section

noncomputable section

namespace Cert.Kernel16Ideal.Prod

open Idealize.ShloMosaic Idealize.ShloMosaic.TcCoe Idealize.SL.Sem
open Cert.Kernel16Ideal Cert.Kernel16Ideal.Gen Cert.Ffn Cert.Product

/-- One entry of the block a grid point leaves in the output's buffer. -/
theorem out_read (x0 : Vec Ideal S1024x1024 .bf16) (x1 : Vec Ideal S256x1024 .bf16) (r : Fin 1024) (l : Fin 256) :
    out0_2 (F := Ideal) x0 x1 (ix2 r l) = (∑ k : Fin 1024, x0 (ix2 r k) * x1 (ix2 l k)) := by
  unfold out0_2
  refine (congrFun (View.canon_unit_zero hz inb_S1024x256_S1024x256_0_0 _) (ix2 r l)).trans ?_
  have e0 : View.ld x0 r0_0 = x0 := View.ld_unit_zero (S := S1024x1024) hz inb_S1024x1024_S1024x1024_0_0 x0
  have e1 : View.ld x1 r0_1 = x1 := View.ld_unit_zero (S := S256x1024) hz inb_S256x1024_S256x1024_0_0 x1
  rw [e0, e1]
  unfold k0_pay1
  pointwise

variable (m : (ℓ : Loc nD τ sig) → Buf (Elt Ideal) ℓ) (ρ : Dev nD → PrngReg) (c : Dev nD)

/-- Argument 1 as a matrix. -/
abbrev arg1 : Nat → Nat → EReal := at2 (n := 256) (m := 1024) (m ((c : Thread nD τ).loc main_arg1))

/-- Argument 2 as a matrix. -/
abbrev arg2 : Nat → Nat → EReal := at2 (n := 4096) (m := 1024) (m ((c : Thread nD τ).loc main_arg2))

theorem point_lt (t : Fin cfg0.N) : t.val < 4 := t.isLt.trans_eq N_0

theorem V_main_v0 : V m c main_v0 = (m ((c : Thread nD τ).loc main_arg2) : Vec Ideal S4096x1024 .f32) := by
  unfold V hostOps0
  after_results
  rfl

theorem V_main_v1 : V m c main_v1 = (m ((c : Thread nD τ).loc main_arg1) : Vec Ideal S256x1024 .f32) := by
  unfold V hostOps0
  after_results
  rfl

theorem index_0 : ∀ t : Fin grid0.N, win0_0.index t 0 = t.val ∧ win0_0.index t 1 = 0 := by decide +kernel

theorem index_1 : ∀ t : Fin grid0.N, win0_1.index t 0 = 0 ∧ win0_1.index t 1 = 0 := by decide +kernel

theorem index_2 : ∀ t : Fin grid0.N, win0_2.index t 0 = t.val ∧ win0_2.index t 1 = 0 := by decide +kernel

/-- What point `t` reads through window 0. -/
theorem iblk_0 (t : Fin cfg0.N) (r : Fin 1024) (l : Fin 1024) :
    iblk m c 0 t (ix2 r l) = arg2 m c (t.val * 1024 + r.val) (0 * 1024 + l.val) := by
  have ht := point_lt t
  obtain ⟨i0, i1⟩ := index_0 t
  unfold iblk
  rw [View.read_apply]
  show V m c main_v0 _ = _
  rw [V_main_v0]
  exact at2_at _ _ (by show win0_0.index t 0 * 1024 + 1 * r.val = _; rw [i0]; omega)
    (by show win0_0.index t 1 * 1024 + 1 * l.val = _; rw [i1]; omega)

/-- What point `t` reads through window 1. -/
theorem iblk_1 (t : Fin cfg0.N) (r : Fin 256) (l : Fin 1024) :
    iblk m c 1 t (ix2 r l) = arg1 m c (0 * 256 + r.val) (0 * 1024 + l.val) := by
  have ht := point_lt t
  obtain ⟨i0, i1⟩ := index_1 t
  unfold iblk
  rw [View.read_apply]
  show V m c main_v1 _ = _
  rw [V_main_v1]
  exact at2_at _ _ (by show win0_1.index t 0 * 256 + 1 * r.val = _; rw [i0]; omega)
    (by show win0_1.index t 1 * 1024 + 1 * l.val = _; rw [i1]; omega)

/-- The whole result. -/
def result : Buf (Elt Ideal) ((c : Thread nD τ).loc main_v2) := fun (q : S4096x256.Idx) =>
  prodTb 1024 (arg2 m c) (arg1 m c) (q 0).val (q 1).val

/-- What point `t` leaves of the output. -/
theorem block (t : Fin cfg0.N) (r : Fin 1024) (l : Fin 256) :
    out0_2 (F := Ideal) (iblk m c 0 t) (iblk m c 1 t) (ix2 r l)
      = prodTb 1024 (arg2 m c) (arg1 m c) (t.val * 1024 + r.val) (0 * 256 + l.val) := by
  rw [out_read]
  simp only [iblk_0, iblk_1, prodTb_fin, zero_mul, zero_add]

theorem flushed (t : Fin cfg0.N) (_hf : (cfg0.win 2).flush t = true) :
    (dats m 0 c).flushed 2 t = ((cfg0.win 2).blk t).view.read (Elt Ideal) (result m c) := by
  obtain ⟨i0, i1⟩ := index_2 t
  rw [Cert.Kernel16Ideal.Value.flushed2]
  funext j
  rw [View.read_apply]
  refine (congrArg (out0_2 (F := Ideal) (iblk m c 0 t) (iblk m c 1 t)) (eq_ix2 (j : S1024x256.Idx))).trans ?_
  refine (block m c t (j 0) (j 1)).trans ?_
  show _ = prodTb 1024 (arg2 m c) (arg1 m c) (win0_2.index t 0 * 1024 + 1 * (j 0).val) (win0_2.index t 1 * 256 + 1 * (j 1).val)
  rw [i0, i1, one_mul, one_mul]

/-- The result's array after the run. -/
theorem final : (dats m 0 c).arrAt 2 cfg0.N = result m c :=
  (dats m 0 c).arrAt_eq_of_cover 2 (result m c) (flushed m c) fun i => by
    have h0 : (i 0 : Nat) < 4096 := (i 0).isLt
    have h1 : (i 1 : Nat) < 256 := (i 1).isLt
    have hN : cfg0.N = 4 := N_0
    obtain ⟨t, hv⟩ : ∃ t : Fin cfg0.N, t.val = (i 0 : Nat) / 1024 := ⟨⟨_, by omega⟩, rfl⟩
    have hx := index_2 t
    refine ⟨t, flush0_2 _, ?_⟩
    show i ∈ ((View.whole main_v2).slice (win0_2.rect t)).set
    rw [View.set_slice_whole, Rect.mem_set_unit]
    exact tile_at (by show _ * 1024 ≤ (i 0 : Nat) ∧ _ < _ * 1024 + 1024; rw [hx.1]; omega)
      (by show _ * 256 ≤ (i 1 : Nat) ∧ _ < _ * 256 + 256; rw [hx.2]; omega)

/-- The kernel's run: the result is the plain product and the arguments are unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.Kernel16Ideal.Value.run_blocks m ρ)

end Cert.Kernel16Ideal.Prod

namespace Cert.Reference16Ideal.Prod

open Idealize.ShloMosaic Idealize.SL.Sem
open Cert.Reference16Ideal Cert.Reference16Ideal.Gen Cert.Reference16Ideal.Read Cert.Ffn Cert.Product

/-- The reference runs, keeps its arguments and leaves every counter at zero. -/
theorem frame : Cert.quiescent_Reference16Ideal := fun m ρ _ =>
  (θ_run Cert.Reference16Ideal.defs _ _).mono (fun r h => ⟨fun c => (h c).2, sem_eq_zero_of_no_sems (by decide) r.2⟩)
    (Cert.Reference16Ideal.Value.run m ρ)

/-- One entry of the reference's result. -/
theorem read (x1 : (⟨S256x1024, .f32⟩ : BufTy).Contents (Elt Ideal)) (x2 : (⟨S4096x1024, .f32⟩ : BufTy).Contents (Elt Ideal))
    (p : Fin 4096) (q : Fin 256) :
    val_main_v1 (F := Ideal) x1 x2 (ix2 p q)
      = prodTb 1024 (at2 (n := 4096) (m := 1024) x2) (at2 (n := 256) (m := 1024) x1) p.val q.val := by
  unfold val_main_v1
  pointwise
  rw [prodTb_fin]
  exact Finset.sum_congr rfl fun k _ => by rw [at2_ix2, at2_ix2]

end Cert.Reference16Ideal.Prod

namespace Cert.Kernel16Ideal.Prod

open Idealize.ShloMosaic Idealize.SL.Sem

/-- The kernel and the reference end with the same array. -/
theorem algebraic : Cert.algebraic_Kernel16Ideal_Reference16Ideal := by
  intro m g m' g' _ hargs
  refine ⟨result m, run m g, ?_⟩
  refine (θ_run Cert.Reference16Ideal.defs _ _).mono (fun r h c => ?_) (Cert.Reference16Ideal.Value.run (F := Ideal) m' g')
  obtain ⟨a0, a1, a2⟩ := hargs c
  refine ⟨(h c).1.trans ?_, (h c).2⟩
  rw [Cert.Reference16Ideal.Read.val_main_v1_eq, a1, a2]
  refine funext fun i => ?_
  rw [eq_ix2 i]
  exact Cert.Reference16Ideal.Prod.read _ _ (i 0) (i 1)

end Cert.Kernel16Ideal.Prod

end
-- ==== Proof.Prod17.lean ====
/-
  The gradient of the query up projection's weight (and, at the same shapes, of either half of the key and value weight).
-/
module

public import proofs.«01_k».proof.Defs
public import proofs.«01_k».proof.Proof.Product
public import proofs.«01_k».proof.Proof.Gen.Kernel17Ideal.Value
public import proofs.«01_k».proof.Proof.Gen.Reference17Ideal.Run
public import proofs.«01_k».proof.Proof.Gen.Reference17Ideal.Read

@[expose] public section

noncomputable section

namespace Cert.Kernel17Ideal.Prod

open Idealize.ShloMosaic Idealize.ShloMosaic.TcCoe Idealize.SL.Sem
open Cert.Kernel17Ideal Cert.Kernel17Ideal.Gen Cert.Ffn Cert.Product

/-- One entry of the block a grid point leaves in the output's buffer. -/
theorem out_read (x0 : Vec Ideal S4096x256 .bf16) (x1 : Vec Ideal S4096x1024 .bf16) (r : Fin 256) (l : Fin 1024) :
    out0_2 (F := Ideal) x0 x1 (ix2 r l) = (∑ k : Fin 4096, x0 (ix2 k r) * x1 (ix2 k l)) := by
  unfold out0_2
  refine (congrFun (View.canon_unit_zero hz inb_S256x1024_S256x1024_0_0 _) (ix2 r l)).trans ?_
  have e0 : View.ld x0 r0_0 = x0 := View.ld_unit_zero (S := S4096x256) hz inb_S4096x256_S4096x256_0_0 x0
  have e1 : View.ld x1 r0_1 = x1 := View.ld_unit_zero (S := S4096x1024) hz inb_S4096x1024_S4096x1024_0_0 x1
  rw [e0, e1]
  unfold k0_pay1
  pointwise

variable (m : (ℓ : Loc nD τ sig) → Buf (Elt Ideal) ℓ) (ρ : Dev nD → PrngReg) (c : Dev nD)

/-- Argument 0 as a matrix. -/
abbrev arg0 : Nat → Nat → EReal := at2 (n := 4096) (m := 256) (m ((c : Thread nD τ).loc main_arg0))

/-- Argument 2 as a matrix. -/
abbrev arg2 : Nat → Nat → EReal := at2 (n := 4096) (m := 1024) (m ((c : Thread nD τ).loc main_arg2))

theorem point_lt (t : Fin cfg0.N) : t.val < 1 := t.isLt.trans_eq N_0

theorem V_main_v0 : V m c main_v0 = (m ((c : Thread nD τ).loc main_arg0) : Vec Ideal S4096x256 .f32) := by
  unfold V hostOps0
  after_results
  rfl

theorem V_main_v1 : V m c main_v1 = (m ((c : Thread nD τ).loc main_arg2) : Vec Ideal S4096x1024 .f32) := by
  unfold V hostOps0
  after_results
  rfl

theorem index_0 : ∀ t : Fin grid0.N, win0_0.index t 0 = 0 ∧ win0_0.index t 1 = 0 := by decide +kernel

theorem index_1 : ∀ t : Fin grid0.N, win0_1.index t 0 = 0 ∧ win0_1.index t 1 = 0 := by decide +kernel

theorem index_2 : ∀ t : Fin grid0.N, win0_2.index t 0 = 0 ∧ win0_2.index t 1 = 0 := by decide +kernel

/-- What point `t` reads through window 0. -/
theorem iblk_0 (t : Fin cfg0.N) (r : Fin 4096) (l : Fin 256) :
    iblk m c 0 t (ix2 r l) = arg0 m c (0 * 4096 + r.val) (0 * 256 + l.val) := by
  have ht := point_lt t
  obtain ⟨i0, i1⟩ := index_0 t
  unfold iblk
  rw [View.read_apply]
  show V m c main_v0 _ = _
  rw [V_main_v0]
  exact at2_at _ _ (by show win0_0.index t 0 * 4096 + 1 * r.val = _; rw [i0]; omega)
    (by show win0_0.index t 1 * 256 + 1 * l.val = _; rw [i1]; omega)

/-- What point `t` reads through window 1. -/
theorem iblk_1 (t : Fin cfg0.N) (r : Fin 4096) (l : Fin 1024) :
    iblk m c 1 t (ix2 r l) = arg2 m c (0 * 4096 + r.val) (0 * 1024 + l.val) := by
  have ht := point_lt t
  obtain ⟨i0, i1⟩ := index_1 t
  unfold iblk
  rw [View.read_apply]
  show V m c main_v1 _ = _
  rw [V_main_v1]
  exact at2_at _ _ (by show win0_1.index t 0 * 4096 + 1 * r.val = _; rw [i0]; omega)
    (by show win0_1.index t 1 * 1024 + 1 * l.val = _; rw [i1]; omega)

/-- The whole result. -/
def result : Buf (Elt Ideal) ((c : Thread nD τ).loc main_v2) := fun (q : S256x1024.Idx) =>
  prodTa 4096 (arg0 m c) (arg2 m c) (q 0).val (q 1).val

/-- What point `t` leaves of the output. -/
theorem block (t : Fin cfg0.N) (r : Fin 256) (l : Fin 1024) :
    out0_2 (F := Ideal) (iblk m c 0 t) (iblk m c 1 t) (ix2 r l)
      = prodTa 4096 (arg0 m c) (arg2 m c) (0 * 256 + r.val) (0 * 1024 + l.val) := by
  rw [out_read]
  simp only [iblk_0, iblk_1, prodTa_fin, zero_mul, zero_add]

theorem flushed (t : Fin cfg0.N) (_hf : (cfg0.win 2).flush t = true) :
    (dats m 0 c).flushed 2 t = ((cfg0.win 2).blk t).view.read (Elt Ideal) (result m c) := by
  obtain ⟨i0, i1⟩ := index_2 t
  rw [Cert.Kernel17Ideal.Value.flushed2]
  funext j
  rw [View.read_apply]
  refine (congrArg (out0_2 (F := Ideal) (iblk m c 0 t) (iblk m c 1 t)) (eq_ix2 (j : S256x1024.Idx))).trans ?_
  refine (block m c t (j 0) (j 1)).trans ?_
  show _ = prodTa 4096 (arg0 m c) (arg2 m c) (win0_2.index t 0 * 256 + 1 * (j 0).val) (win0_2.index t 1 * 1024 + 1 * (j 1).val)
  rw [i0, i1, one_mul, one_mul]

/-- The result's array after the run. -/
theorem final : (dats m 0 c).arrAt 2 cfg0.N = result m c :=
  (dats m 0 c).arrAt_eq_of_cover 2 (result m c) (flushed m c) fun i => by
    have h0 : (i 0 : Nat) < 256 := (i 0).isLt
    have h1 : (i 1 : Nat) < 1024 := (i 1).isLt
    have hN : cfg0.N = 1 := N_0
    obtain ⟨t, hv⟩ : ∃ t : Fin cfg0.N, t.val = 0 := ⟨⟨_, by omega⟩, rfl⟩
    have hx := index_2 t
    refine ⟨t, flush0_2 _, ?_⟩
    show i ∈ ((View.whole main_v2).slice (win0_2.rect t)).set
    rw [View.set_slice_whole, Rect.mem_set_unit]
    exact tile_at (by show _ * 256 ≤ (i 0 : Nat) ∧ _ < _ * 256 + 256; rw [hx.1]; omega)
      (by show _ * 1024 ≤ (i 1 : Nat) ∧ _ < _ * 1024 + 1024; rw [hx.2]; omega)

/-- The kernel's run: the result is the plain product and the arguments are unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.Kernel17Ideal.Value.run_blocks m ρ)

end Cert.Kernel17Ideal.Prod

namespace Cert.Reference17Ideal.Prod

open Idealize.ShloMosaic Idealize.SL.Sem
open Cert.Reference17Ideal Cert.Reference17Ideal.Gen Cert.Reference17Ideal.Read Cert.Ffn Cert.Product

/-- The reference runs, keeps its arguments and leaves every counter at zero. -/
theorem frame : Cert.quiescent_Reference17Ideal := fun m ρ _ =>
  (θ_run Cert.Reference17Ideal.defs _ _).mono (fun r h => ⟨fun c => (h c).2, sem_eq_zero_of_no_sems (by decide) r.2⟩)
    (Cert.Reference17Ideal.Value.run m ρ)

/-- One entry of the reference's result. -/
theorem read (x0 : (⟨S4096x256, .f32⟩ : BufTy).Contents (Elt Ideal)) (x2 : (⟨S4096x1024, .f32⟩ : BufTy).Contents (Elt Ideal))
    (p : Fin 256) (q : Fin 1024) :
    val_main_v3 (F := Ideal) x0 x2 (ix2 p q)
      = prodTa 4096 (at2 (n := 4096) (m := 256) x0) (at2 (n := 4096) (m := 1024) x2) p.val q.val := by
  unfold val_main_v3 val_main_v2 val_main_v1
  pointwise
  rw [prodTa_fin]
  exact Finset.sum_congr rfl fun k _ => by rw [at2_ix2, at2_ix2, mul_comm]

end Cert.Reference17Ideal.Prod

namespace Cert.Kernel17Ideal.Prod

open Idealize.ShloMosaic Idealize.SL.Sem

/-- The kernel and the reference end with the same array. -/
theorem algebraic : Cert.algebraic_Kernel17Ideal_Reference17Ideal := by
  intro m g m' g' _ hargs
  refine ⟨result m, run m g, ?_⟩
  refine (θ_run Cert.Reference17Ideal.defs _ _).mono (fun r h c => ?_) (Cert.Reference17Ideal.Value.run (F := Ideal) m' g')
  obtain ⟨a0, a1, a2⟩ := hargs c
  refine ⟨(h c).1.trans ?_, (h c).2⟩
  rw [Cert.Reference17Ideal.Read.val_main_v3_eq, a0, a2]
  refine funext fun i => ?_
  rw [eq_ix2 i]
  exact Cert.Reference17Ideal.Prod.read _ _ (i 0) (i 1)

end Cert.Kernel17Ideal.Prod

end
-- ==== Proof.Prod18.lean ====
/-
  The gradient of the normalised key and value latent.
-/
module

public import proofs.«01_k».proof.Defs
public import proofs.«01_k».proof.Proof.Product
public import proofs.«01_k».proof.Proof.Gen.Kernel18Ideal.Value
public import proofs.«01_k».proof.Proof.Gen.Reference18Ideal.Run
public import proofs.«01_k».proof.Proof.Gen.Reference18Ideal.Read

@[expose] public section

noncomputable section

namespace Cert.Kernel18Ideal.Prod

open Idealize.ShloMosaic Idealize.ShloMosaic.TcCoe Idealize.SL.Sem
open Cert.Kernel18Ideal Cert.Kernel18Ideal.Gen Cert.Ffn Cert.Product

/-- One entry of the block a grid point leaves in the output's buffer. -/
theorem out_read (x0 : Vec Ideal S1024x1024 .bf16) (x1 : Vec Ideal S1024x1024 .bf16) (x2 : Vec Ideal S256x1024 .bf16) (x3 : Vec Ideal S256x1024 .bf16) (r : Fin 1024) (l : Fin 256) :
    out0_4 (F := Ideal) x0 x1 x2 x3 (ix2 r l) = (∑ k : Fin 1024, x0 (ix2 r k) * x2 (ix2 l k)) + (∑ k : Fin 1024, x1 (ix2 r k) * x3 (ix2 l k)) := by
  unfold out0_4
  refine (congrFun (View.canon_unit_zero hz inb_S1024x256_S1024x256_0_0 _) (ix2 r l)).trans ?_
  have e0 : View.ld x0 r0_0 = x0 := View.ld_unit_zero (S := S1024x1024) hz inb_S1024x1024_S1024x1024_0_0 x0
  have e1 : View.ld x1 r0_0 = x1 := View.ld_unit_zero (S := S1024x1024) hz inb_S1024x1024_S1024x1024_0_0 x1
  have e2 : View.ld x2 r0_1 = x2 := View.ld_unit_zero (S := S256x1024) hz inb_S256x1024_S256x1024_0_0 x2
  have e3 : View.ld x3 r0_1 = x3 := View.ld_unit_zero (S := S256x1024) hz inb_S256x1024_S256x1024_0_0 x3
  rw [e0, e1, e2, e3]
  unfold k0_pay1
  pointwise

variable (m : (ℓ : Loc nD τ sig) → Buf (Elt Ideal) ℓ) (ρ : Dev nD → PrngReg) (c : Dev nD)

/-- Argument 1 as a matrix. -/
abbrev arg1 : Nat → Nat → EReal := at2 (n := 256) (m := 2048) (m ((c : Thread nD τ).loc main_arg1))

/-- Argument 2 as a matrix. -/
abbrev arg2 : Nat → Nat → EReal := at2 (n := 4096) (m := 1024) (m ((c : Thread nD τ).loc main_arg2))

/-- Argument 3 as a matrix. -/
abbrev arg3 : Nat → Nat → EReal := at2 (n := 4096) (m := 1024) (m ((c : Thread nD τ).loc main_arg3))

theorem point_lt (t : Fin cfg0.N) : t.val < 4 := t.isLt.trans_eq N_0

theorem V_main_v0 : V m c main_v0 = (m ((c : Thread nD τ).loc main_arg2) : Vec Ideal S4096x1024 .f32) := by
  unfold V hostOps0
  after_results
  rfl

theorem V_main_v1 : V m c main_v1 = (m ((c : Thread nD τ).loc main_arg3) : Vec Ideal S4096x1024 .f32) := by
  unfold V hostOps0
  after_results
  rfl

theorem V_main_v2 : V m c main_v2 = (m ((c : Thread nD τ).loc main_arg1) : Vec Ideal S256x2048 .f32) := by
  unfold V hostOps0
  after_results
  rfl

theorem index_0 : ∀ t : Fin grid0.N, win0_0.index t 0 = t.val ∧ win0_0.index t 1 = 0 := by decide +kernel

theorem index_1 : ∀ t : Fin grid0.N, win0_1.index t 0 = t.val ∧ win0_1.index t 1 = 0 := by decide +kernel

theorem index_2 : ∀ t : Fin grid0.N, win0_2.index t 0 = 0 ∧ win0_2.index t 1 = 0 := by decide +kernel

theorem index_3 : ∀ t : Fin grid0.N, win0_3.index t 0 = 0 ∧ win0_3.index t 1 = 1 := by decide +kernel

theorem index_4 : ∀ t : Fin grid0.N, win0_4.index t 0 = t.val ∧ win0_4.index t 1 = 0 := by decide +kernel

/-- What point `t` reads through window 0. -/
theorem iblk_0 (t : Fin cfg0.N) (r : Fin 1024) (l : Fin 1024) :
    iblk m c 0 t (ix2 r l) = arg2 m c (t.val * 1024 + r.val) (0 * 1024 + l.val) := by
  have ht := point_lt t
  obtain ⟨i0, i1⟩ := index_0 t
  unfold iblk
  rw [View.read_apply]
  show V m c main_v0 _ = _
  rw [V_main_v0]
  exact at2_at _ _ (by show win0_0.index t 0 * 1024 + 1 * r.val = _; rw [i0]; omega)
    (by show win0_0.index t 1 * 1024 + 1 * l.val = _; rw [i1]; omega)

/-- What point `t` reads through window 1. -/
theorem iblk_1 (t : Fin cfg0.N) (r : Fin 1024) (l : Fin 1024) :
    iblk m c 1 t (ix2 r l) = arg3 m c (t.val * 1024 + r.val) (0 * 1024 + l.val) := by
  have ht := point_lt t
  obtain ⟨i0, i1⟩ := index_1 t
  unfold iblk
  rw [View.read_apply]
  show V m c main_v1 _ = _
  rw [V_main_v1]
  exact at2_at _ _ (by show win0_1.index t 0 * 1024 + 1 * r.val = _; rw [i0]; omega)
    (by show win0_1.index t 1 * 1024 + 1 * l.val = _; rw [i1]; omega)

/-- What point `t` reads through window 2. -/
theorem iblk_2 (t : Fin cfg0.N) (r : Fin 256) (l : Fin 1024) :
    iblk m c 2 t (ix2 r l) = arg1 m c (0 * 256 + r.val) (0 * 1024 + l.val) := by
  have ht := point_lt t
  obtain ⟨i0, i1⟩ := index_2 t
  unfold iblk
  rw [View.read_apply]
  show V m c main_v2 _ = _
  rw [V_main_v2]
  exact at2_at _ _ (by show win0_2.index t 0 * 256 + 1 * r.val = _; rw [i0]; omega)
    (by show win0_2.index t 1 * 1024 + 1 * l.val = _; rw [i1]; omega)

/-- What point `t` reads through window 3. -/
theorem iblk_3 (t : Fin cfg0.N) (r : Fin 256) (l : Fin 1024) :
    iblk m c 3 t (ix2 r l) = arg1 m c (0 * 256 + r.val) (1 * 1024 + l.val) := by
  have ht := point_lt t
  obtain ⟨i0, i1⟩ := index_3 t
  unfold iblk
  rw [View.read_apply]
  show V m c main_v2 _ = _
  rw [V_main_v2]
  exact at2_at _ _ (by show win0_3.index t 0 * 256 + 1 * r.val = _; rw [i0]; omega)
    (by show win0_3.index t 1 * 1024 + 1 * l.val = _; rw [i1]; omega)

/-- The whole result. -/
def result : Buf (Elt Ideal) ((c : Thread nD τ).loc main_v3) := fun (q : S4096x256.Idx) =>
  prodTb 1024 (arg2 m c) (arg1 m c) (q 0).val (q 1).val + prodTb 1024 (arg3 m c) (fun a b => arg1 m c a (1024 + b)) (q 0).val (q 1).val

/-- What point `t` leaves of the output. -/
theorem block (t : Fin cfg0.N) (r : Fin 1024) (l : Fin 256) :
    out0_4 (F := Ideal) (iblk m c 0 t) (iblk m c 1 t) (iblk m c 2 t) (iblk m c 3 t) (ix2 r l)
      = prodTb 1024 (arg2 m c) (arg1 m c) (t.val * 1024 + r.val) (0 * 256 + l.val) + prodTb 1024 (arg3 m c) (fun a b => arg1 m c a (1024 + b)) (t.val * 1024 + r.val) (0 * 256 + l.val) := by
  rw [out_read]
  simp only [iblk_0, iblk_1, iblk_2, iblk_3, prodTb_fin, zero_mul, zero_add]

theorem flushed (t : Fin cfg0.N) (_hf : (cfg0.win 4).flush t = true) :
    (dats m 0 c).flushed 4 t = ((cfg0.win 4).blk t).view.read (Elt Ideal) (result m c) := by
  obtain ⟨i0, i1⟩ := index_4 t
  rw [Cert.Kernel18Ideal.Value.flushed4]
  funext j
  rw [View.read_apply]
  refine (congrArg (out0_4 (F := Ideal) (iblk m c 0 t) (iblk m c 1 t) (iblk m c 2 t) (iblk m c 3 t)) (eq_ix2 (j : S1024x256.Idx))).trans ?_
  refine (block m c t (j 0) (j 1)).trans ?_
  show _ = prodTb 1024 (arg2 m c) (arg1 m c) (win0_4.index t 0 * 1024 + 1 * (j 0).val) (win0_4.index t 1 * 256 + 1 * (j 1).val) + prodTb 1024 (arg3 m c) (fun a b => arg1 m c a (1024 + b)) (win0_4.index t 0 * 1024 + 1 * (j 0).val) (win0_4.index t 1 * 256 + 1 * (j 1).val)
  rw [i0, i1, one_mul, one_mul]

/-- The result's array after the run. -/
theorem final : (dats m 0 c).arrAt 4 cfg0.N = result m c :=
  (dats m 0 c).arrAt_eq_of_cover 4 (result m c) (flushed m c) fun i => by
    have h0 : (i 0 : Nat) < 4096 := (i 0).isLt
    have h1 : (i 1 : Nat) < 256 := (i 1).isLt
    have hN : cfg0.N = 4 := N_0
    obtain ⟨t, hv⟩ : ∃ t : Fin cfg0.N, t.val = (i 0 : Nat) / 1024 := ⟨⟨_, by omega⟩, rfl⟩
    have hx := index_4 t
    refine ⟨t, flush0_4 _, ?_⟩
    show i ∈ ((View.whole main_v3).slice (win0_4.rect t)).set
    rw [View.set_slice_whole, Rect.mem_set_unit]
    exact tile_at (by show _ * 1024 ≤ (i 0 : Nat) ∧ _ < _ * 1024 + 1024; rw [hx.1]; omega)
      (by show _ * 256 ≤ (i 1 : Nat) ∧ _ < _ * 256 + 256; rw [hx.2]; omega)

/-- The kernel's run: the result is the plain product and the arguments are unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.Kernel18Ideal.Value.run_blocks m ρ)

end Cert.Kernel18Ideal.Prod

namespace Cert.Reference18Ideal.Prod

open Idealize.ShloMosaic Idealize.SL.Sem
open Cert.Reference18Ideal Cert.Reference18Ideal.Gen Cert.Reference18Ideal.Read Cert.Ffn Cert.Product

/-- The reference runs, keeps its arguments and leaves every counter at zero. -/
theorem frame : Cert.quiescent_Reference18Ideal := fun m ρ _ =>
  (θ_run Cert.Reference18Ideal.defs _ _).mono (fun r h => ⟨fun c => (h c).2, sem_eq_zero_of_no_sems (by decide) r.2⟩)
    (Cert.Reference18Ideal.Value.run m ρ)

/-- One entry of the reference's result. -/
theorem read (x1 : (⟨S256x2048, .f32⟩ : BufTy).Contents (Elt Ideal)) (x2 : (⟨S4096x1024, .f32⟩ : BufTy).Contents (Elt Ideal)) (x3 : (⟨S4096x1024, .f32⟩ : BufTy).Contents (Elt Ideal))
    (p : Fin 4096) (q : Fin 256) :
    val_main_v2 (F := Ideal) x1 x2 x3 (ix2 p q)
      = prodTb 1024 (at2 (n := 4096) (m := 1024) x2) (at2 (n := 256) (m := 2048) x1) p.val q.val + prodTb 1024 (at2 (n := 4096) (m := 1024) x3) (fun a b => at2 (n := 256) (m := 2048) x1 a (1024 + b)) p.val q.val := by
  unfold val_main_v2 val_main_v1
  pointwise
  rw [prodTb_fin, prodTb_fin]
  congr 1
  · exact Finset.sum_congr rfl fun k _ => by rw [at2_ix2, at2_of_lt _ q.isLt (by omega)]
  · exact Finset.sum_congr rfl fun k _ => by rw [at2_ix2, at2_of_lt _ q.isLt (by omega)]

end Cert.Reference18Ideal.Prod

namespace Cert.Kernel18Ideal.Prod

open Idealize.ShloMosaic Idealize.SL.Sem

/-- The kernel and the reference end with the same array. -/
theorem algebraic : Cert.algebraic_Kernel18Ideal_Reference18Ideal := by
  intro m g m' g' _ hargs
  refine ⟨result m, run m g, ?_⟩
  refine (θ_run Cert.Reference18Ideal.defs _ _).mono (fun r h c => ?_) (Cert.Reference18Ideal.Value.run (F := Ideal) m' g')
  obtain ⟨a0, a1, a2, a3⟩ := hargs c
  refine ⟨(h c).1.trans ?_, (h c).2⟩
  rw [Cert.Reference18Ideal.Read.val_main_v2_eq, a1, a2, a3]
  refine funext fun i => ?_
  rw [eq_ix2 i]
  exact Cert.Reference18Ideal.Prod.read _ _ _ (i 0) (i 1)

end Cert.Kernel18Ideal.Prod

end
-- ==== Proof.Prod19.lean ====
/-
  The gradient of the columns of the input projection's weight that make one latent.
-/
module

public import proofs.«01_k».proof.Defs
public import proofs.«01_k».proof.Proof.Product
public import proofs.«01_k».proof.Proof.Gen.Kernel19Ideal.Value
public import proofs.«01_k».proof.Proof.Gen.Reference19Ideal.Run
public import proofs.«01_k».proof.Proof.Gen.Reference19Ideal.Read

@[expose] public section

noncomputable section

namespace Cert.Kernel19Ideal.Prod

open Idealize.ShloMosaic Idealize.ShloMosaic.TcCoe Idealize.SL.Sem
open Cert.Kernel19Ideal Cert.Kernel19Ideal.Gen Cert.Ffn Cert.Product

/-- One entry of the block a grid point leaves in the output's buffer. -/
theorem out_read (x0 : Vec Ideal S4096x1024 .bf16) (x1 : Vec Ideal S4096x256 .bf16) (r : Fin 1024) (l : Fin 256) :
    out0_2 (F := Ideal) x0 x1 (ix2 r l) = (∑ k : Fin 4096, x0 (ix2 k r) * x1 (ix2 k l)) := by
  unfold out0_2
  refine (congrFun (View.canon_unit_zero hz inb_S1024x256_S1024x256_0_0 _) (ix2 r l)).trans ?_
  have e0 : View.ld x0 r0_0 = x0 := View.ld_unit_zero (S := S4096x1024) hz inb_S4096x1024_S4096x1024_0_0 x0
  have e1 : View.ld x1 r0_1 = x1 := View.ld_unit_zero (S := S4096x256) hz inb_S4096x256_S4096x256_0_0 x1
  rw [e0, e1]
  unfold k0_pay1
  pointwise

variable (m : (ℓ : Loc nD τ sig) → Buf (Elt Ideal) ℓ) (ρ : Dev nD → PrngReg) (c : Dev nD)

/-- Argument 0 as a matrix. -/
abbrev arg0 : Nat → Nat → EReal := at2 (n := 4096) (m := 1024) (m ((c : Thread nD τ).loc main_arg0))

/-- Argument 2 as a matrix. -/
abbrev arg2 : Nat → Nat → EReal := at2 (n := 4096) (m := 256) (m ((c : Thread nD τ).loc main_arg2))

theorem point_lt (t : Fin cfg0.N) : t.val < 1 := t.isLt.trans_eq N_0

theorem V_main_v0 : V m c main_v0 = (m ((c : Thread nD τ).loc main_arg0) : Vec Ideal S4096x1024 .f32) := by
  unfold V hostOps0
  after_results
  rfl

theorem V_main_v1 : V m c main_v1 = (m ((c : Thread nD τ).loc main_arg2) : Vec Ideal S4096x256 .f32) := by
  unfold V hostOps0
  after_results
  rfl

theorem index_0 : ∀ t : Fin grid0.N, win0_0.index t 0 = 0 ∧ win0_0.index t 1 = 0 := by decide +kernel

theorem index_1 : ∀ t : Fin grid0.N, win0_1.index t 0 = 0 ∧ win0_1.index t 1 = 0 := by decide +kernel

theorem index_2 : ∀ t : Fin grid0.N, win0_2.index t 0 = 0 ∧ win0_2.index t 1 = 0 := by decide +kernel

/-- What point `t` reads through window 0. -/
theorem iblk_0 (t : Fin cfg0.N) (r : Fin 4096) (l : Fin 1024) :
    iblk m c 0 t (ix2 r l) = arg0 m c (0 * 4096 + r.val) (0 * 1024 + l.val) := by
  have ht := point_lt t
  obtain ⟨i0, i1⟩ := index_0 t
  unfold iblk
  rw [View.read_apply]
  show V m c main_v0 _ = _
  rw [V_main_v0]
  exact at2_at _ _ (by show win0_0.index t 0 * 4096 + 1 * r.val = _; rw [i0]; omega)
    (by show win0_0.index t 1 * 1024 + 1 * l.val = _; rw [i1]; omega)

/-- What point `t` reads through window 1. -/
theorem iblk_1 (t : Fin cfg0.N) (r : Fin 4096) (l : Fin 256) :
    iblk m c 1 t (ix2 r l) = arg2 m c (0 * 4096 + r.val) (0 * 256 + l.val) := by
  have ht := point_lt t
  obtain ⟨i0, i1⟩ := index_1 t
  unfold iblk
  rw [View.read_apply]
  show V m c main_v1 _ = _
  rw [V_main_v1]
  exact at2_at _ _ (by show win0_1.index t 0 * 4096 + 1 * r.val = _; rw [i0]; omega)
    (by show win0_1.index t 1 * 256 + 1 * l.val = _; rw [i1]; omega)

/-- The whole result. -/
def result : Buf (Elt Ideal) ((c : Thread nD τ).loc main_v2) := fun (q : S1024x256.Idx) =>
  prodTa 4096 (arg0 m c) (arg2 m c) (q 0).val (q 1).val

/-- What point `t` leaves of the output. -/
theorem block (t : Fin cfg0.N) (r : Fin 1024) (l : Fin 256) :
    out0_2 (F := Ideal) (iblk m c 0 t) (iblk m c 1 t) (ix2 r l)
      = prodTa 4096 (arg0 m c) (arg2 m c) (0 * 1024 + r.val) (0 * 256 + l.val) := by
  rw [out_read]
  simp only [iblk_0, iblk_1, prodTa_fin, zero_mul, zero_add]

theorem flushed (t : Fin cfg0.N) (_hf : (cfg0.win 2).flush t = true) :
    (dats m 0 c).flushed 2 t = ((cfg0.win 2).blk t).view.read (Elt Ideal) (result m c) := by
  obtain ⟨i0, i1⟩ := index_2 t
  rw [Cert.Kernel19Ideal.Value.flushed2]
  funext j
  rw [View.read_apply]
  refine (congrArg (out0_2 (F := Ideal) (iblk m c 0 t) (iblk m c 1 t)) (eq_ix2 (j : S1024x256.Idx))).trans ?_
  refine (block m c t (j 0) (j 1)).trans ?_
  show _ = prodTa 4096 (arg0 m c) (arg2 m c) (win0_2.index t 0 * 1024 + 1 * (j 0).val) (win0_2.index t 1 * 256 + 1 * (j 1).val)
  rw [i0, i1, one_mul, one_mul]

/-- The result's array after the run. -/
theorem final : (dats m 0 c).arrAt 2 cfg0.N = result m c :=
  (dats m 0 c).arrAt_eq_of_cover 2 (result m c) (flushed m c) fun i => by
    have h0 : (i 0 : Nat) < 1024 := (i 0).isLt
    have h1 : (i 1 : Nat) < 256 := (i 1).isLt
    have hN : cfg0.N = 1 := N_0
    obtain ⟨t, hv⟩ : ∃ t : Fin cfg0.N, t.val = 0 := ⟨⟨_, by omega⟩, rfl⟩
    have hx := index_2 t
    refine ⟨t, flush0_2 _, ?_⟩
    show i ∈ ((View.whole main_v2).slice (win0_2.rect t)).set
    rw [View.set_slice_whole, Rect.mem_set_unit]
    exact tile_at (by show _ * 1024 ≤ (i 0 : Nat) ∧ _ < _ * 1024 + 1024; rw [hx.1]; omega)
      (by show _ * 256 ≤ (i 1 : Nat) ∧ _ < _ * 256 + 256; rw [hx.2]; omega)

/-- The kernel's run: the result is the plain product and the arguments are unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.Kernel19Ideal.Value.run_blocks m ρ)

end Cert.Kernel19Ideal.Prod

namespace Cert.Reference19Ideal.Prod

open Idealize.ShloMosaic Idealize.SL.Sem
open Cert.Reference19Ideal Cert.Reference19Ideal.Gen Cert.Reference19Ideal.Read Cert.Ffn Cert.Product

/-- The reference runs, keeps its arguments and leaves every counter at zero. -/
theorem frame : Cert.quiescent_Reference19Ideal := fun m ρ _ =>
  (θ_run Cert.Reference19Ideal.defs _ _).mono (fun r h => ⟨fun c => (h c).2, sem_eq_zero_of_no_sems (by decide) r.2⟩)
    (Cert.Reference19Ideal.Value.run m ρ)

/-- One entry of the reference's result. -/
theorem read (x0 : (⟨S4096x1024, .f32⟩ : BufTy).Contents (Elt Ideal)) (x2 : (⟨S4096x256, .f32⟩ : BufTy).Contents (Elt Ideal))
    (p : Fin 1024) (q : Fin 256) :
    val_main_v3 (F := Ideal) x0 x2 (ix2 p q)
      = prodTa 4096 (at2 (n := 4096) (m := 1024) x0) (at2 (n := 4096) (m := 256) x2) p.val q.val := by
  unfold val_main_v3 val_main_v2 val_main_v1
  pointwise
  rw [prodTa_fin]
  exact Finset.sum_congr rfl fun k _ => by rw [at2_ix2, at2_ix2, mul_comm]

end Cert.Reference19Ideal.Prod

namespace Cert.Kernel19Ideal.Prod

open Idealize.ShloMosaic Idealize.SL.Sem

/-- The kernel and the reference end with the same array. -/
theorem algebraic : Cert.algebraic_Kernel19Ideal_Reference19Ideal := by
  intro m g m' g' _ hargs
  refine ⟨result m, run m g, ?_⟩
  refine (θ_run Cert.Reference19Ideal.defs _ _).mono (fun r h c => ?_) (Cert.Reference19Ideal.Value.run (F := Ideal) m' g')
  obtain ⟨a0, a1, a2⟩ := hargs c
  refine ⟨(h c).1.trans ?_, (h c).2⟩
  rw [Cert.Reference19Ideal.Read.val_main_v3_eq, a0, a2]
  refine funext fun i => ?_
  rw [eq_ix2 i]
  exact Cert.Reference19Ideal.Prod.read _ _ (i 0) (i 1)

end Cert.Kernel19Ideal.Prod

end
-- ==== Proof.Prod20.lean ====
/-
  The gradient of the columns of the input projection's weight that make one gate of the short convolution.
-/
module

public import proofs.«01_k».proof.Defs
public import proofs.«01_k».proof.Proof.Product
public import proofs.«01_k».proof.Proof.Gen.Kernel20Ideal.Value
public import proofs.«01_k».proof.Proof.Gen.Reference20Ideal.Run
public import proofs.«01_k».proof.Proof.Gen.Reference20Ideal.Read

@[expose] public section

noncomputable section

namespace Cert.Kernel20Ideal.Prod

open Idealize.ShloMosaic Idealize.ShloMosaic.TcCoe Idealize.SL.Sem
open Cert.Kernel20Ideal Cert.Kernel20Ideal.Gen Cert.Ffn Cert.Product

/-- One entry of the block a grid point leaves in the output's buffer. -/
theorem out_read (x0 : Vec Ideal S4096x1024 .bf16) (x1 : Vec Ideal S4096x512 .bf16) (r : Fin 1024) (l : Fin 512) :
    out0_2 (F := Ideal) x0 x1 (ix2 r l) = (∑ k : Fin 4096, x0 (ix2 k r) * x1 (ix2 k l)) := by
  unfold out0_2
  refine (congrFun (View.canon_unit_zero hz inb_S1024x512_S1024x512_0_0 _) (ix2 r l)).trans ?_
  have e0 : View.ld x0 r0_0 = x0 := View.ld_unit_zero (S := S4096x1024) hz inb_S4096x1024_S4096x1024_0_0 x0
  have e1 : View.ld x1 r0_1 = x1 := View.ld_unit_zero (S := S4096x512) hz inb_S4096x512_S4096x512_0_0 x1
  rw [e0, e1]
  unfold k0_pay1
  pointwise

variable (m : (ℓ : Loc nD τ sig) → Buf (Elt Ideal) ℓ) (ρ : Dev nD → PrngReg) (c : Dev nD)

/-- Argument 0 as a matrix. -/
abbrev arg0 : Nat → Nat → EReal := at2 (n := 4096) (m := 1024) (m ((c : Thread nD τ).loc main_arg0))

/-- Argument 2 as a matrix. -/
abbrev arg2 : Nat → Nat → EReal := at2 (n := 4096) (m := 512) (m ((c : Thread nD τ).loc main_arg2))

theorem point_lt (t : Fin cfg0.N) : t.val < 1 := t.isLt.trans_eq N_0

theorem V_main_v0 : V m c main_v0 = (m ((c : Thread nD τ).loc main_arg0) : Vec Ideal S4096x1024 .f32) := by
  unfold V hostOps0
  after_results
  rfl

theorem V_main_v1 : V m c main_v1 = (m ((c : Thread nD τ).loc main_arg2) : Vec Ideal S4096x512 .f32) := by
  unfold V hostOps0
  after_results
  rfl

theorem index_0 : ∀ t : Fin grid0.N, win0_0.index t 0 = 0 ∧ win0_0.index t 1 = 0 := by decide +kernel

theorem index_1 : ∀ t : Fin grid0.N, win0_1.index t 0 = 0 ∧ win0_1.index t 1 = 0 := by decide +kernel

theorem index_2 : ∀ t : Fin grid0.N, win0_2.index t 0 = 0 ∧ win0_2.index t 1 = 0 := by decide +kernel

/-- What point `t` reads through window 0. -/
theorem iblk_0 (t : Fin cfg0.N) (r : Fin 4096) (l : Fin 1024) :
    iblk m c 0 t (ix2 r l) = arg0 m c (0 * 4096 + r.val) (0 * 1024 + l.val) := by
  have ht := point_lt t
  obtain ⟨i0, i1⟩ := index_0 t
  unfold iblk
  rw [View.read_apply]
  show V m c main_v0 _ = _
  rw [V_main_v0]
  exact at2_at _ _ (by show win0_0.index t 0 * 4096 + 1 * r.val = _; rw [i0]; omega)
    (by show win0_0.index t 1 * 1024 + 1 * l.val = _; rw [i1]; omega)

/-- What point `t` reads through window 1. -/
theorem iblk_1 (t : Fin cfg0.N) (r : Fin 4096) (l : Fin 512) :
    iblk m c 1 t (ix2 r l) = arg2 m c (0 * 4096 + r.val) (0 * 512 + l.val) := by
  have ht := point_lt t
  obtain ⟨i0, i1⟩ := index_1 t
  unfold iblk
  rw [View.read_apply]
  show V m c main_v1 _ = _
  rw [V_main_v1]
  exact at2_at _ _ (by show win0_1.index t 0 * 4096 + 1 * r.val = _; rw [i0]; omega)
    (by show win0_1.index t 1 * 512 + 1 * l.val = _; rw [i1]; omega)

/-- The whole result. -/
def result : Buf (Elt Ideal) ((c : Thread nD τ).loc main_v2) := fun (q : S1024x512.Idx) =>
  prodTa 4096 (arg0 m c) (arg2 m c) (q 0).val (q 1).val

/-- What point `t` leaves of the output. -/
theorem block (t : Fin cfg0.N) (r : Fin 1024) (l : Fin 512) :
    out0_2 (F := Ideal) (iblk m c 0 t) (iblk m c 1 t) (ix2 r l)
      = prodTa 4096 (arg0 m c) (arg2 m c) (0 * 1024 + r.val) (0 * 512 + l.val) := by
  rw [out_read]
  simp only [iblk_0, iblk_1, prodTa_fin, zero_mul, zero_add]

theorem flushed (t : Fin cfg0.N) (_hf : (cfg0.win 2).flush t = true) :
    (dats m 0 c).flushed 2 t = ((cfg0.win 2).blk t).view.read (Elt Ideal) (result m c) := by
  obtain ⟨i0, i1⟩ := index_2 t
  rw [Cert.Kernel20Ideal.Value.flushed2]
  funext j
  rw [View.read_apply]
  refine (congrArg (out0_2 (F := Ideal) (iblk m c 0 t) (iblk m c 1 t)) (eq_ix2 (j : S1024x512.Idx))).trans ?_
  refine (block m c t (j 0) (j 1)).trans ?_
  show _ = prodTa 4096 (arg0 m c) (arg2 m c) (win0_2.index t 0 * 1024 + 1 * (j 0).val) (win0_2.index t 1 * 512 + 1 * (j 1).val)
  rw [i0, i1, one_mul, one_mul]

/-- The result's array after the run. -/
theorem final : (dats m 0 c).arrAt 2 cfg0.N = result m c :=
  (dats m 0 c).arrAt_eq_of_cover 2 (result m c) (flushed m c) fun i => by
    have h0 : (i 0 : Nat) < 1024 := (i 0).isLt
    have h1 : (i 1 : Nat) < 512 := (i 1).isLt
    have hN : cfg0.N = 1 := N_0
    obtain ⟨t, hv⟩ : ∃ t : Fin cfg0.N, t.val = 0 := ⟨⟨_, by omega⟩, rfl⟩
    have hx := index_2 t
    refine ⟨t, flush0_2 _, ?_⟩
    show i ∈ ((View.whole main_v2).slice (win0_2.rect t)).set
    rw [View.set_slice_whole, Rect.mem_set_unit]
    exact tile_at (by show _ * 1024 ≤ (i 0 : Nat) ∧ _ < _ * 1024 + 1024; rw [hx.1]; omega)
      (by show _ * 512 ≤ (i 1 : Nat) ∧ _ < _ * 512 + 512; rw [hx.2]; omega)

/-- The kernel's run: the result is the plain product and the arguments are unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.Kernel20Ideal.Value.run_blocks m ρ)

end Cert.Kernel20Ideal.Prod

namespace Cert.Reference20Ideal.Prod

open Idealize.ShloMosaic Idealize.SL.Sem
open Cert.Reference20Ideal Cert.Reference20Ideal.Gen Cert.Reference20Ideal.Read Cert.Ffn Cert.Product

/-- The reference runs, keeps its arguments and leaves every counter at zero. -/
theorem frame : Cert.quiescent_Reference20Ideal := fun m ρ _ =>
  (θ_run Cert.Reference20Ideal.defs _ _).mono (fun r h => ⟨fun c => (h c).2, sem_eq_zero_of_no_sems (by decide) r.2⟩)
    (Cert.Reference20Ideal.Value.run m ρ)

/-- One entry of the reference's result. -/
theorem read (x0 : (⟨S4096x1024, .f32⟩ : BufTy).Contents (Elt Ideal)) (x2 : (⟨S4096x512, .f32⟩ : BufTy).Contents (Elt Ideal))
    (p : Fin 1024) (q : Fin 512) :
    val_main_v3 (F := Ideal) x0 x2 (ix2 p q)
      = prodTa 4096 (at2 (n := 4096) (m := 1024) x0) (at2 (n := 4096) (m := 512) x2) p.val q.val := by
  unfold val_main_v3 val_main_v2 val_main_v1
  pointwise
  rw [prodTa_fin]
  exact Finset.sum_congr rfl fun k _ => by rw [at2_ix2, at2_ix2, mul_comm]

end Cert.Reference20Ideal.Prod

namespace Cert.Kernel20Ideal.Prod

open Idealize.ShloMosaic Idealize.SL.Sem

/-- The kernel and the reference end with the same array. -/
theorem algebraic : Cert.algebraic_Kernel20Ideal_Reference20Ideal := by
  intro m g m' g' _ hargs
  refine ⟨result m, run m g, ?_⟩
  refine (θ_run Cert.Reference20Ideal.defs _ _).mono (fun r h c => ?_) (Cert.Reference20Ideal.Value.run (F := Ideal) m' g')
  obtain ⟨a0, a1, a2⟩ := hargs c
  refine ⟨(h c).1.trans ?_, (h c).2⟩
  rw [Cert.Reference20Ideal.Read.val_main_v3_eq, a0, a2]
  refine funext fun i => ?_
  rw [eq_ix2 i]
  exact Cert.Reference20Ideal.Prod.read _ _ (i 0) (i 1)

end Cert.Kernel20Ideal.Prod

end
-- ==== Proof.Prod21.lean ====
/-
  The gradient of the columns of the input projection's weight that make the rotary keys.
-/
module

public import proofs.«01_k».proof.Defs
public import proofs.«01_k».proof.Proof.Product
public import proofs.«01_k».proof.Proof.Gen.Kernel21Ideal.Value
public import proofs.«01_k».proof.Proof.Gen.Reference21Ideal.Run
public import proofs.«01_k».proof.Proof.Gen.Reference21Ideal.Read

@[expose] public section

noncomputable section

namespace Cert.Kernel21Ideal.Prod

open Idealize.ShloMosaic Idealize.ShloMosaic.TcCoe Idealize.SL.Sem
open Cert.Kernel21Ideal Cert.Kernel21Ideal.Gen Cert.Ffn Cert.Product

/-- One entry of the block a grid point leaves in the output's buffer. -/
theorem out_read (x0 : Vec Ideal S4096x1024 .bf16) (x1 : Vec Ideal S4096x128 .f32) (r : Fin 1024) (l : Fin 128) :
    out0_2 (F := Ideal) x0 x1 (ix2 r l) = (∑ k : Fin 4096, x0 (ix2 k r) * x1 (ix2 k l)) := by
  unfold out0_2
  refine (congrFun (View.canon_unit_zero hz inb_S1024x128_S1024x128_0_0 _) (ix2 r l)).trans ?_
  have e0 : View.ld x0 r0_0 = x0 := View.ld_unit_zero (S := S4096x1024) hz inb_S4096x1024_S4096x1024_0_0 x0
  have e1 : View.ld x1 r0_1 = x1 := View.ld_unit_zero (S := S4096x128) hz inb_S4096x128_S4096x128_0_0 x1
  rw [e0, e1]
  unfold k0_pay1
  pointwise

variable (m : (ℓ : Loc nD τ sig) → Buf (Elt Ideal) ℓ) (ρ : Dev nD → PrngReg) (c : Dev nD)

/-- Argument 0 as a matrix. -/
abbrev arg0 : Nat → Nat → EReal := at2 (n := 4096) (m := 1024) (m ((c : Thread nD τ).loc main_arg0))

/-- Argument 2 as a matrix. -/
abbrev arg2 : Nat → Nat → EReal := at2 (n := 4096) (m := 128) (m ((c : Thread nD τ).loc main_arg2))

theorem point_lt (t : Fin cfg0.N) : t.val < 1 := t.isLt.trans_eq N_0

theorem V_main_v0 : V m c main_v0 = (m ((c : Thread nD τ).loc main_arg0) : Vec Ideal S4096x1024 .f32) := by
  unfold V hostOps0
  after_results
  rfl

theorem index_0 : ∀ t : Fin grid0.N, win0_0.index t 0 = 0 ∧ win0_0.index t 1 = 0 := by decide +kernel

theorem index_1 : ∀ t : Fin grid0.N, win0_1.index t 0 = 0 ∧ win0_1.index t 1 = 0 := by decide +kernel

theorem index_2 : ∀ t : Fin grid0.N, win0_2.index t 0 = 0 ∧ win0_2.index t 1 = 0 := by decide +kernel

/-- What point `t` reads through window 0. -/
theorem iblk_0 (t : Fin cfg0.N) (r : Fin 4096) (l : Fin 1024) :
    iblk m c 0 t (ix2 r l) = arg0 m c (0 * 4096 + r.val) (0 * 1024 + l.val) := by
  have ht := point_lt t
  obtain ⟨i0, i1⟩ := index_0 t
  unfold iblk
  rw [View.read_apply]
  show V m c main_v0 _ = _
  rw [V_main_v0]
  exact at2_at _ _ (by show win0_0.index t 0 * 4096 + 1 * r.val = _; rw [i0]; omega)
    (by show win0_0.index t 1 * 1024 + 1 * l.val = _; rw [i1]; omega)

/-- What point `t` reads through window 1. -/
theorem iblk_1 (t : Fin cfg0.N) (r : Fin 4096) (l : Fin 128) :
    iblk m c 1 t (ix2 r l) = arg2 m c (0 * 4096 + r.val) (0 * 128 + l.val) := by
  have ht := point_lt t
  obtain ⟨i0, i1⟩ := index_1 t
  unfold iblk
  rw [View.read_apply]
  show V m c main_arg2 _ = _
  rw [V_main_arg2]
  exact at2_at _ _ (by show win0_1.index t 0 * 4096 + 1 * r.val = _; rw [i0]; omega)
    (by show win0_1.index t 1 * 128 + 1 * l.val = _; rw [i1]; omega)

/-- The whole result. -/
def result : Buf (Elt Ideal) ((c : Thread nD τ).loc main_v1) := fun (q : S1024x128.Idx) =>
  prodTa 4096 (arg0 m c) (arg2 m c) (q 0).val (q 1).val

/-- What point `t` leaves of the output. -/
theorem block (t : Fin cfg0.N) (r : Fin 1024) (l : Fin 128) :
    out0_2 (F := Ideal) (iblk m c 0 t) (iblk m c 1 t) (ix2 r l)
      = prodTa 4096 (arg0 m c) (arg2 m c) (0 * 1024 + r.val) (0 * 128 + l.val) := by
  rw [out_read]
  simp only [iblk_0, iblk_1, prodTa_fin, zero_mul, zero_add]

theorem flushed (t : Fin cfg0.N) (_hf : (cfg0.win 2).flush t = true) :
    (dats m 0 c).flushed 2 t = ((cfg0.win 2).blk t).view.read (Elt Ideal) (result m c) := by
  obtain ⟨i0, i1⟩ := index_2 t
  rw [Cert.Kernel21Ideal.Value.flushed2]
  funext j
  rw [View.read_apply]
  refine (congrArg (out0_2 (F := Ideal) (iblk m c 0 t) (iblk m c 1 t)) (eq_ix2 (j : S1024x128.Idx))).trans ?_
  refine (block m c t (j 0) (j 1)).trans ?_
  show _ = prodTa 4096 (arg0 m c) (arg2 m c) (win0_2.index t 0 * 1024 + 1 * (j 0).val) (win0_2.index t 1 * 128 + 1 * (j 1).val)
  rw [i0, i1, one_mul, one_mul]

/-- The result's array after the run. -/
theorem final : (dats m 0 c).arrAt 2 cfg0.N = result m c :=
  (dats m 0 c).arrAt_eq_of_cover 2 (result m c) (flushed m c) fun i => by
    have h0 : (i 0 : Nat) < 1024 := (i 0).isLt
    have h1 : (i 1 : Nat) < 128 := (i 1).isLt
    have hN : cfg0.N = 1 := N_0
    obtain ⟨t, hv⟩ : ∃ t : Fin cfg0.N, t.val = 0 := ⟨⟨_, by omega⟩, rfl⟩
    have hx := index_2 t
    refine ⟨t, flush0_2 _, ?_⟩
    show i ∈ ((View.whole main_v1).slice (win0_2.rect t)).set
    rw [View.set_slice_whole, Rect.mem_set_unit]
    exact tile_at (by show _ * 1024 ≤ (i 0 : Nat) ∧ _ < _ * 1024 + 1024; rw [hx.1]; omega)
      (by show _ * 128 ≤ (i 1 : Nat) ∧ _ < _ * 128 + 128; rw [hx.2]; omega)

/-- The kernel's run: the result is the plain product and the arguments are unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.Kernel21Ideal.Value.run_blocks m ρ)

end Cert.Kernel21Ideal.Prod

namespace Cert.Reference21Ideal.Prod

open Idealize.ShloMosaic Idealize.SL.Sem
open Cert.Reference21Ideal Cert.Reference21Ideal.Gen Cert.Reference21Ideal.Read Cert.Ffn Cert.Product

/-- The reference runs, keeps its arguments and leaves every counter at zero. -/
theorem frame : Cert.quiescent_Reference21Ideal := fun m ρ _ =>
  (θ_run Cert.Reference21Ideal.defs _ _).mono (fun r h => ⟨fun c => (h c).2, sem_eq_zero_of_no_sems (by decide) r.2⟩)
    (Cert.Reference21Ideal.Value.run m ρ)

/-- One entry of the reference's result. -/
theorem read (x0 : (⟨S4096x1024, .f32⟩ : BufTy).Contents (Elt Ideal)) (x2 : (⟨S4096x128, .f32⟩ : BufTy).Contents (Elt Ideal))
    (p : Fin 1024) (q : Fin 128) :
    val_main_v3 (F := Ideal) x0 x2 (ix2 p q)
      = prodTa 4096 (at2 (n := 4096) (m := 1024) x0) (at2 (n := 4096) (m := 128) x2) p.val q.val := by
  unfold val_main_v3 val_main_v2 val_main_v1
  pointwise
  rw [prodTa_fin]
  exact Finset.sum_congr rfl fun k _ => by rw [at2_ix2, at2_ix2, mul_comm]

end Cert.Reference21Ideal.Prod

namespace Cert.Kernel21Ideal.Prod

open Idealize.ShloMosaic Idealize.SL.Sem

/-- The kernel and the reference end with the same array. -/
theorem algebraic : Cert.algebraic_Kernel21Ideal_Reference21Ideal := by
  intro m g m' g' _ hargs
  refine ⟨result m, run m g, ?_⟩
  refine (θ_run Cert.Reference21Ideal.defs _ _).mono (fun r h c => ?_) (Cert.Reference21Ideal.Value.run (F := Ideal) m' g')
  obtain ⟨a0, a1, a2⟩ := hargs c
  refine ⟨(h c).1.trans ?_, (h c).2⟩
  rw [Cert.Reference21Ideal.Read.val_main_v3_eq, a0, a2]
  refine funext fun i => ?_
  rw [eq_ix2 i]
  exact Cert.Reference21Ideal.Prod.read _ _ (i 0) (i 1)

end Cert.Kernel21Ideal.Prod

end
-- ==== Proof.Prod22.lean ====
/-
  The gradient of the attention mixer's input.
-/
module

public import proofs.«01_k».proof.Defs
public import proofs.«01_k».proof.Proof.Product
public import proofs.«01_k».proof.Proof.Gen.Kernel22Ideal.Value
public import proofs.«01_k».proof.Proof.Gen.Reference22Ideal.Run
public import proofs.«01_k».proof.Proof.Gen.Reference22Ideal.Read

@[expose] public section

noncomputable section

namespace Cert.Kernel22Ideal.Prod

open Idealize.ShloMosaic Idealize.ShloMosaic.TcCoe Idealize.SL.Sem
open Cert.Kernel22Ideal Cert.Kernel22Ideal.Gen Cert.Ffn Cert.Product

/-- The block a grid point leaves in the output's buffer, as the printed operations of the twelve blocks it loads. -/
theorem out_eq (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x128 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S1024x128 .bf16) (harg13 : arg13.IsWhole) (arg14 : Memref sig .tc .vmem S512x1024 .f32) (harg14 : arg14.IsWhole)
    (x0 : Vec Ideal S512x256 .bf16) (x1 : Vec Ideal S512x256 .bf16) (x2 : Vec Ideal S512x512 .bf16) (x3 : Vec Ideal S512x512 .bf16) (x4 : Vec Ideal S512x512 .bf16) (x5 : Vec Ideal S512x128 .f32) (x6 : Vec Ideal S1024x256 .bf16) (x7 : Vec Ideal S1024x256 .bf16) (x8 : Vec Ideal S1024x512 .bf16) (x9 : Vec Ideal S1024x512 .bf16) (x10 : Vec Ideal S1024x512 .bf16) (x11 : Vec Ideal S1024x128 .bf16) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 = k0_pay1 (k0_pay2 x0 x6 x1 x7 x2 x8 x3 x9 x4 x10) (k0_pay3 x5) x11 := by
  unfold out0_A_12
  rw [View.read_writes_eq_canon _ _ _ (fun _ => cover0_A_12 ..)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x256) hz, View.ld_unit_zero (S := S512x512) hz, View.ld_unit_zero (S := S512x128) hz, View.ld_unit_zero (S := S1024x256) hz, View.ld_unit_zero (S := S1024x512) hz, View.ld_unit_zero (S := S1024x128) hz, shapeCast_self]

/-- One entry of those operations. -/
theorem pay_read (x0 : Vec Ideal S512x256 .bf16) (x1 : Vec Ideal S512x256 .bf16) (x2 : Vec Ideal S512x512 .bf16) (x3 : Vec Ideal S512x512 .bf16) (x4 : Vec Ideal S512x512 .bf16) (x5 : Vec Ideal S512x128 .f32) (x6 : Vec Ideal S1024x256 .bf16) (x7 : Vec Ideal S1024x256 .bf16) (x8 : Vec Ideal S1024x512 .bf16) (x9 : Vec Ideal S1024x512 .bf16) (x10 : Vec Ideal S1024x512 .bf16) (x11 : Vec Ideal S1024x128 .bf16) (r : Fin 512) (l : Fin 1024) :
    k0_pay1 (F := Ideal) (k0_pay2 x0 x6 x1 x7 x2 x8 x3 x9 x4 x10) (k0_pay3 x5) x11 (ix2 r l) = (∑ k : Fin 256, x0 (ix2 r k) * x6 (ix2 l k)) + (∑ k : Fin 256, x1 (ix2 r k) * x7 (ix2 l k)) + (∑ k : Fin 512, x2 (ix2 r k) * x8 (ix2 l k)) + (∑ k : Fin 512, x3 (ix2 r k) * x9 (ix2 l k)) + (∑ k : Fin 512, x4 (ix2 r k) * x10 (ix2 l k)) + (∑ k : Fin 128, x5 (ix2 r k) * x11 (ix2 l k)) := by
  unfold k0_pay1 k0_pay2 k0_pay3
  pointwise

variable (m : (ℓ : Loc nD τ sig) → Buf (Elt Ideal) ℓ) (ρ : Dev nD → PrngReg) (c : Dev nD)

/-- Argument 1 as a matrix. -/
abbrev arg1 : Nat → Nat → EReal := at2 (n := 1024) (m := 2176) (m ((c : Thread nD τ).loc main_arg1))

/-- Argument 2 as a matrix. -/
abbrev arg2 : Nat → Nat → EReal := at2 (n := 4096) (m := 256) (m ((c : Thread nD τ).loc main_arg2))

/-- Argument 3 as a matrix. -/
abbrev arg3 : Nat → Nat → EReal := at2 (n := 4096) (m := 256) (m ((c : Thread nD τ).loc main_arg3))

/-- Argument 4 as a matrix. -/
abbrev arg4 : Nat → Nat → EReal := at2 (n := 4096) (m := 512) (m ((c : Thread nD τ).loc main_arg4))

/-- Argument 5 as a matrix. -/
abbrev arg5 : Nat → Nat → EReal := at2 (n := 4096) (m := 512) (m ((c : Thread nD τ).loc main_arg5))

/-- Argument 6 as a matrix. -/
abbrev arg6 : Nat → Nat → EReal := at2 (n := 4096) (m := 512) (m ((c : Thread nD τ).loc main_arg6))

/-- Argument 7 as a matrix. -/
abbrev arg7 : Nat → Nat → EReal := at2 (n := 4096) (m := 128) (m ((c : Thread nD τ).loc main_arg7))

theorem point_lt (t : Fin cfg0.N) : t.val < 8 := t.isLt.trans_eq N_0

theorem V_main_v0 : V m c main_v0 = (m ((c : Thread nD τ).loc main_arg2) : Vec Ideal S4096x256 .f32) := by
  unfold V hostOps0
  after_results
  rfl

theorem V_main_v1 : V m c main_v1 = (m ((c : Thread nD τ).loc main_arg3) : Vec Ideal S4096x256 .f32) := by
  unfold V hostOps0
  after_results
  rfl

theorem V_main_v2 : V m c main_v2 = (m ((c : Thread nD τ).loc main_arg4) : Vec Ideal S4096x512 .f32) := by
  unfold V hostOps0
  after_results
  rfl

theorem V_main_v3 : V m c main_v3 = (m ((c : Thread nD τ).loc main_arg5) : Vec Ideal S4096x512 .f32) := by
  unfold V hostOps0
  after_results
  rfl

theorem V_main_v4 : V m c main_v4 = (m ((c : Thread nD τ).loc main_arg6) : Vec Ideal S4096x512 .f32) := by
  unfold V hostOps0
  after_results
  rfl

theorem V_main_v5 : V m c main_v5 = (m ((c : Thread nD τ).loc main_arg1) : Vec Ideal S1024x2176 .f32) := by
  unfold V hostOps0
  after_results
  rfl

theorem index_0 : ∀ t : Fin grid0.N, win0_0.index t 0 = t.val ∧ win0_0.index t 1 = 0 := by decide +kernel

theorem index_1 : ∀ t : Fin grid0.N, win0_1.index t 0 = t.val ∧ win0_1.index t 1 = 0 := by decide +kernel

theorem index_2 : ∀ t : Fin grid0.N, win0_2.index t 0 = t.val ∧ win0_2.index t 1 = 0 := by decide +kernel

theorem index_3 : ∀ t : Fin grid0.N, win0_3.index t 0 = t.val ∧ win0_3.index t 1 = 0 := by decide +kernel

theorem index_4 : ∀ t : Fin grid0.N, win0_4.index t 0 = t.val ∧ win0_4.index t 1 = 0 := by decide +kernel

theorem index_5 : ∀ t : Fin grid0.N, win0_5.index t 0 = t.val ∧ win0_5.index t 1 = 0 := by decide +kernel

theorem index_6 : ∀ t : Fin grid0.N, win0_6.index t 0 = 0 ∧ win0_6.index t 1 = 0 := by decide +kernel

theorem index_7 : ∀ t : Fin grid0.N, win0_7.index t 0 = 0 ∧ win0_7.index t 1 = 1 := by decide +kernel

theorem index_8 : ∀ t : Fin grid0.N, win0_8.index t 0 = 0 ∧ win0_8.index t 1 = 1 := by decide +kernel

theorem index_9 : ∀ t : Fin grid0.N, win0_9.index t 0 = 0 ∧ win0_9.index t 1 = 2 := by decide +kernel

theorem index_10 : ∀ t : Fin grid0.N, win0_10.index t 0 = 0 ∧ win0_10.index t 1 = 3 := by decide +kernel

theorem index_11 : ∀ t : Fin grid0.N, win0_11.index t 0 = 0 ∧ win0_11.index t 1 = 16 := by decide +kernel

theorem index_12 : ∀ t : Fin grid0.N, win0_12.index t 0 = t.val ∧ win0_12.index t 1 = 0 := by decide +kernel

/-- What point `t` reads through window 0. -/
theorem iblk_0 (t : Fin cfg0.N) (r : Fin 512) (l : Fin 256) :
    iblk m c 0 t (ix2 r l) = arg2 m c (t.val * 512 + r.val) (0 * 256 + l.val) := by
  have ht := point_lt t
  obtain ⟨i0, i1⟩ := index_0 t
  unfold iblk
  rw [View.read_apply]
  show V m c main_v0 _ = _
  rw [V_main_v0]
  exact at2_at _ _ (by show win0_0.index t 0 * 512 + 1 * r.val = _; rw [i0]; omega)
    (by show win0_0.index t 1 * 256 + 1 * l.val = _; rw [i1]; omega)

/-- What point `t` reads through window 1. -/
theorem iblk_1 (t : Fin cfg0.N) (r : Fin 512) (l : Fin 256) :
    iblk m c 1 t (ix2 r l) = arg3 m c (t.val * 512 + r.val) (0 * 256 + l.val) := by
  have ht := point_lt t
  obtain ⟨i0, i1⟩ := index_1 t
  unfold iblk
  rw [View.read_apply]
  show V m c main_v1 _ = _
  rw [V_main_v1]
  exact at2_at _ _ (by show win0_1.index t 0 * 512 + 1 * r.val = _; rw [i0]; omega)
    (by show win0_1.index t 1 * 256 + 1 * l.val = _; rw [i1]; omega)

/-- What point `t` reads through window 2. -/
theorem iblk_2 (t : Fin cfg0.N) (r : Fin 512) (l : Fin 512) :
    iblk m c 2 t (ix2 r l) = arg4 m c (t.val * 512 + r.val) (0 * 512 + l.val) := by
  have ht := point_lt t
  obtain ⟨i0, i1⟩ := index_2 t
  unfold iblk
  rw [View.read_apply]
  show V m c main_v2 _ = _
  rw [V_main_v2]
  exact at2_at _ _ (by show win0_2.index t 0 * 512 + 1 * r.val = _; rw [i0]; omega)
    (by show win0_2.index t 1 * 512 + 1 * l.val = _; rw [i1]; omega)

/-- What point `t` reads through window 3. -/
theorem iblk_3 (t : Fin cfg0.N) (r : Fin 512) (l : Fin 512) :
    iblk m c 3 t (ix2 r l) = arg5 m c (t.val * 512 + r.val) (0 * 512 + l.val) := by
  have ht := point_lt t
  obtain ⟨i0, i1⟩ := index_3 t
  unfold iblk
  rw [View.read_apply]
  show V m c main_v3 _ = _
  rw [V_main_v3]
  exact at2_at _ _ (by show win0_3.index t 0 * 512 + 1 * r.val = _; rw [i0]; omega)
    (by show win0_3.index t 1 * 512 + 1 * l.val = _; rw [i1]; omega)

/-- What point `t` reads through window 4. -/
theorem iblk_4 (t : Fin cfg0.N) (r : Fin 512) (l : Fin 512) :
    iblk m c 4 t (ix2 r l) = arg6 m c (t.val * 512 + r.val) (0 * 512 + l.val) := by
  have ht := point_lt t
  obtain ⟨i0, i1⟩ := index_4 t
  unfold iblk
  rw [View.read_apply]
  show V m c main_v4 _ = _
  rw [V_main_v4]
  exact at2_at _ _ (by show win0_4.index t 0 * 512 + 1 * r.val = _; rw [i0]; omega)
    (by show win0_4.index t 1 * 512 + 1 * l.val = _; rw [i1]; omega)

/-- What point `t` reads through window 5. -/
theorem iblk_5 (t : Fin cfg0.N) (r : Fin 512) (l : Fin 128) :
    iblk m c 5 t (ix2 r l) = arg7 m c (t.val * 512 + r.val) (0 * 128 + l.val) := by
  have ht := point_lt t
  obtain ⟨i0, i1⟩ := index_5 t
  unfold iblk
  rw [View.read_apply]
  show V m c main_arg7 _ = _
  rw [V_main_arg7]
  exact at2_at _ _ (by show win0_5.index t 0 * 512 + 1 * r.val = _; rw [i0]; omega)
    (by show win0_5.index t 1 * 128 + 1 * l.val = _; rw [i1]; omega)

/-- What point `t` reads through window 6. -/
theorem iblk_6 (t : Fin cfg0.N) (r : Fin 1024) (l : Fin 256) :
    X0_6 m c t (ix2 r l) = arg1 m c (0 * 1024 + r.val) (0 * 256 + l.val) := by
  have ht := point_lt t
  obtain ⟨i0, i1⟩ := index_6 t
  unfold X0_6 Pipeline.Window.fill
  rw [dif_pos (moved0_6 t _)]
  unfold iblk
  rw [View.read_apply]
  show V m c main_v5 _ = _
  rw [V_main_v5]
  exact at2_at _ _ (by show win0_6.index t 0 * 1024 + 1 * r.val = _; rw [i0]; omega)
    (by show win0_6.index t 1 * 256 + 1 * l.val = _; rw [i1]; omega)

/-- What point `t` reads through window 7. -/
theorem iblk_7 (t : Fin cfg0.N) (r : Fin 1024) (l : Fin 256) :
    X0_7 m c t (ix2 r l) = arg1 m c (0 * 1024 + r.val) (1 * 256 + l.val) := by
  have ht := point_lt t
  obtain ⟨i0, i1⟩ := index_7 t
  unfold X0_7 Pipeline.Window.fill
  rw [dif_pos (moved0_7 t _)]
  unfold iblk
  rw [View.read_apply]
  show V m c main_v5 _ = _
  rw [V_main_v5]
  exact at2_at _ _ (by show win0_7.index t 0 * 1024 + 1 * r.val = _; rw [i0]; omega)
    (by show win0_7.index t 1 * 256 + 1 * l.val = _; rw [i1]; omega)

/-- What point `t` reads through window 8. -/
theorem iblk_8 (t : Fin cfg0.N) (r : Fin 1024) (l : Fin 512) :
    X0_8 m c t (ix2 r l) = arg1 m c (0 * 1024 + r.val) (1 * 512 + l.val) := by
  have ht := point_lt t
  obtain ⟨i0, i1⟩ := index_8 t
  unfold X0_8 Pipeline.Window.fill
  rw [dif_pos (moved0_8 t _)]
  unfold iblk
  rw [View.read_apply]
  show V m c main_v5 _ = _
  rw [V_main_v5]
  exact at2_at _ _ (by show win0_8.index t 0 * 1024 + 1 * r.val = _; rw [i0]; omega)
    (by show win0_8.index t 1 * 512 + 1 * l.val = _; rw [i1]; omega)

/-- What point `t` reads through window 9. -/
theorem iblk_9 (t : Fin cfg0.N) (r : Fin 1024) (l : Fin 512) :
    X0_9 m c t (ix2 r l) = arg1 m c (0 * 1024 + r.val) (2 * 512 + l.val) := by
  have ht := point_lt t
  obtain ⟨i0, i1⟩ := index_9 t
  unfold X0_9 Pipeline.Window.fill
  rw [dif_pos (moved0_9 t _)]
  unfold iblk
  rw [View.read_apply]
  show V m c main_v5 _ = _
  rw [V_main_v5]
  exact at2_at _ _ (by show win0_9.index t 0 * 1024 + 1 * r.val = _; rw [i0]; omega)
    (by show win0_9.index t 1 * 512 + 1 * l.val = _; rw [i1]; omega)

/-- What point `t` reads through window 10. -/
theorem iblk_10 (t : Fin cfg0.N) (r : Fin 1024) (l : Fin 512) :
    X0_10 m c t (ix2 r l) = arg1 m c (0 * 1024 + r.val) (3 * 512 + l.val) := by
  have ht := point_lt t
  obtain ⟨i0, i1⟩ := index_10 t
  unfold X0_10 Pipeline.Window.fill
  rw [dif_pos (moved0_10 t _)]
  unfold iblk
  rw [View.read_apply]
  show V m c main_v5 _ = _
  rw [V_main_v5]
  exact at2_at _ _ (by show win0_10.index t 0 * 1024 + 1 * r.val = _; rw [i0]; omega)
    (by show win0_10.index t 1 * 512 + 1 * l.val = _; rw [i1]; omega)

/-- What point `t` reads through window 11. -/
theorem iblk_11 (t : Fin cfg0.N) (r : Fin 1024) (l : Fin 128) :
    iblk m c 11 t (ix2 r l) = arg1 m c (0 * 1024 + r.val) (16 * 128 + l.val) := by
  have ht := point_lt t
  obtain ⟨i0, i1⟩ := index_11 t
  unfold iblk
  rw [View.read_apply]
  show V m c main_v5 _ = _
  rw [V_main_v5]
  exact at2_at _ _ (by show win0_11.index t 0 * 1024 + 1 * r.val = _; rw [i0]; omega)
    (by show win0_11.index t 1 * 128 + 1 * l.val = _; rw [i1]; omega)

/-- The whole result. -/
def result : Buf (Elt Ideal) ((c : Thread nD τ).loc main_v6) := fun (q : S4096x1024.Idx) =>
  prodTb 256 (arg2 m c) (arg1 m c) (q 0).val (q 1).val + prodTb 256 (arg3 m c) (fun a b => arg1 m c a (256 + b)) (q 0).val (q 1).val + prodTb 512 (arg4 m c) (fun a b => arg1 m c a (512 + b)) (q 0).val (q 1).val + prodTb 512 (arg5 m c) (fun a b => arg1 m c a (1024 + b)) (q 0).val (q 1).val + prodTb 512 (arg6 m c) (fun a b => arg1 m c a (1536 + b)) (q 0).val (q 1).val + prodTb 128 (arg7 m c) (fun a b => arg1 m c a (2048 + b)) (q 0).val (q 1).val

/-- What point `t` leaves of the output. -/
theorem block (t : Fin cfg0.N) (r : Fin 512) (l : Fin 1024) :
    outsAt0 m c t (ix2 r l)
      = prodTb 256 (arg2 m c) (arg1 m c) (t.val * 512 + r.val) (0 * 1024 + l.val) + prodTb 256 (arg3 m c) (fun a b => arg1 m c a (256 + b)) (t.val * 512 + r.val) (0 * 1024 + l.val) + prodTb 512 (arg4 m c) (fun a b => arg1 m c a (512 + b)) (t.val * 512 + r.val) (0 * 1024 + l.val) + prodTb 512 (arg5 m c) (fun a b => arg1 m c a (1024 + b)) (t.val * 512 + r.val) (0 * 1024 + l.val) + prodTb 512 (arg6 m c) (fun a b => arg1 m c a (1536 + b)) (t.val * 512 + r.val) (0 * 1024 + l.val) + prodTb 128 (arg7 m c) (fun a b => arg1 m c a (2048 + b)) (t.val * 512 + r.val) (0 * 1024 + l.val) := by
  unfold outsAt0
  refine (congrFun (out_eq c _ _ _ _ _ _ _ _ _ _ _ _ _ _ _ _ _ _ _ _ _ _ _ _ _ _ _ _ _ _ _ _ _ _ _ _ _ _ _) _).trans ?_
  rw [pay_read]
  simp only [iblk_0, iblk_1, iblk_2, iblk_3, iblk_4, iblk_5, iblk_6, iblk_7, iblk_8, iblk_9, iblk_10, iblk_11, prodTb_fin, zero_mul, zero_add]

theorem flushed (t : Fin cfg0.N) (_hf : (cfg0.win 12).flush t = true) :
    (dats m 0 c).flushed 12 t = ((cfg0.win 12).blk t).view.read (Elt Ideal) (result m c) := by
  obtain ⟨i0, i1⟩ := index_12 t
  rw [Cert.Kernel22Ideal.Value.flushed12]
  funext j
  rw [View.read_apply]
  refine (congrArg (outsAt0 m c t) (eq_ix2 (j : S512x1024.Idx))).trans ?_
  refine (block m c t (j 0) (j 1)).trans ?_
  show _ = prodTb 256 (arg2 m c) (arg1 m c) (win0_12.index t 0 * 512 + 1 * (j 0).val) (win0_12.index t 1 * 1024 + 1 * (j 1).val) + prodTb 256 (arg3 m c) (fun a b => arg1 m c a (256 + b)) (win0_12.index t 0 * 512 + 1 * (j 0).val) (win0_12.index t 1 * 1024 + 1 * (j 1).val) + prodTb 512 (arg4 m c) (fun a b => arg1 m c a (512 + b)) (win0_12.index t 0 * 512 + 1 * (j 0).val) (win0_12.index t 1 * 1024 + 1 * (j 1).val) + prodTb 512 (arg5 m c) (fun a b => arg1 m c a (1024 + b)) (win0_12.index t 0 * 512 + 1 * (j 0).val) (win0_12.index t 1 * 1024 + 1 * (j 1).val) + prodTb 512 (arg6 m c) (fun a b => arg1 m c a (1536 + b)) (win0_12.index t 0 * 512 + 1 * (j 0).val) (win0_12.index t 1 * 1024 + 1 * (j 1).val) + prodTb 128 (arg7 m c) (fun a b => arg1 m c a (2048 + b)) (win0_12.index t 0 * 512 + 1 * (j 0).val) (win0_12.index t 1 * 1024 + 1 * (j 1).val)
  rw [i0, i1, one_mul, one_mul]

/-- The result's array after the run. -/
theorem final : (dats m 0 c).arrAt 12 cfg0.N = result m c :=
  (dats m 0 c).arrAt_eq_of_cover 12 (result m c) (flushed m c) fun i => by
    have h0 : (i 0 : Nat) < 4096 := (i 0).isLt
    have h1 : (i 1 : Nat) < 1024 := (i 1).isLt
    have hN : cfg0.N = 8 := N_0
    obtain ⟨t, hv⟩ : ∃ t : Fin cfg0.N, t.val = (i 0 : Nat) / 512 := ⟨⟨_, by omega⟩, rfl⟩
    have hx := index_12 t
    refine ⟨t, flush0_12 _, ?_⟩
    show i ∈ ((View.whole main_v6).slice (win0_12.rect t)).set
    rw [View.set_slice_whole, Rect.mem_set_unit]
    exact tile_at (by show _ * 512 ≤ (i 0 : Nat) ∧ _ < _ * 512 + 512; rw [hx.1]; omega)
      (by show _ * 1024 ≤ (i 1 : Nat) ∧ _ < _ * 1024 + 1024; rw [hx.2]; omega)

/-- The kernel's run: the result is the plain product and the arguments are unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩)
    (Cert.Kernel22Ideal.Value.run_blocks m ρ)

end Cert.Kernel22Ideal.Prod

namespace Cert.Reference22Ideal.Prod

open Idealize.ShloMosaic Idealize.SL.Sem
open Cert.Reference22Ideal Cert.Reference22Ideal.Gen Cert.Reference22Ideal.Read Cert.Ffn Cert.Product

/-- The reference runs, keeps its arguments and leaves every counter at zero. -/
theorem frame : Cert.quiescent_Reference22Ideal := fun m ρ _ =>
  (θ_run Cert.Reference22Ideal.defs _ _).mono (fun r h => ⟨fun c => (h c).2, sem_eq_zero_of_no_sems (by decide) r.2⟩)
    (Cert.Reference22Ideal.Value.run m ρ)

/-- A sum over 2176 terms cut where the six gradients meet. -/
theorem sum_six (f : Nat → EReal) : ∑ k ∈ Finset.range 2176, f k = ∑ k ∈ Finset.range 256, f k + ∑ k ∈ Finset.range 256, f (256 + k)
      + ∑ k ∈ Finset.range 512, f (512 + k) + ∑ k ∈ Finset.range 512, f (1024 + k) + ∑ k ∈ Finset.range 512, f (1536 + k)
      + ∑ k ∈ Finset.range 128, f (2048 + k) := by
  show ∑ k ∈ Finset.range (256 + 256 + 512 + 512 + 512 + 128), f k = _
  rw [Finset.sum_range_add, Finset.sum_range_add, Finset.sum_range_add, Finset.sum_range_add, Finset.sum_range_add]

/-- The six gradients side by side. -/
def beside (x2 : (⟨S4096x256, .f32⟩ : BufTy).Contents (Elt Ideal)) (x3 : (⟨S4096x256, .f32⟩ : BufTy).Contents (Elt Ideal)) (x4 : (⟨S4096x512, .f32⟩ : BufTy).Contents (Elt Ideal)) (x5 : (⟨S4096x512, .f32⟩ : BufTy).Contents (Elt Ideal)) (x6 : (⟨S4096x512, .f32⟩ : BufTy).Contents (Elt Ideal)) (x7 : (⟨S4096x128, .f32⟩ : BufTy).Contents (Elt Ideal)) (p k : Nat) : EReal :=
  if k < 256 then at2 (n := 4096) (m := 256) x2 p (k) else if k - 256 < 256 then at2 (n := 4096) (m := 256) x3 p (k - 256) else if k - 256 - 256 < 512 then at2 (n := 4096) (m := 512) x4 p (k - 256 - 256) else if k - 256 - 256 - 512 < 512 then at2 (n := 4096) (m := 512) x5 p (k - 256 - 256 - 512) else if k - 256 - 256 - 512 - 512 < 512 then at2 (n := 4096) (m := 512) x6 p (k - 256 - 256 - 512 - 512) else at2 (n := 4096) (m := 128) x7 p (k - 256 - 256 - 512 - 512 - 512)

/-- One entry of the reference's result. -/
theorem read (x1 : (⟨S1024x2176, .f32⟩ : BufTy).Contents (Elt Ideal)) (x2 : (⟨S4096x256, .f32⟩ : BufTy).Contents (Elt Ideal)) (x3 : (⟨S4096x256, .f32⟩ : BufTy).Contents (Elt Ideal)) (x4 : (⟨S4096x512, .f32⟩ : BufTy).Contents (Elt Ideal)) (x5 : (⟨S4096x512, .f32⟩ : BufTy).Contents (Elt Ideal)) (x6 : (⟨S4096x512, .f32⟩ : BufTy).Contents (Elt Ideal)) (x7 : (⟨S4096x128, .f32⟩ : BufTy).Contents (Elt Ideal))
    (p : Fin 4096) (q : Fin 1024) :
    val_main_v2 (F := Ideal) x1 x2 x3 x4 x5 x6 x7 (ix2 p q)
      = prodTb 256 (at2 (n := 4096) (m := 256) x2) (at2 (n := 1024) (m := 2176) x1) p.val q.val + prodTb 256 (at2 (n := 4096) (m := 256) x3) (fun a b => at2 (n := 1024) (m := 2176) x1 a (256 + b)) p.val q.val + prodTb 512 (at2 (n := 4096) (m := 512) x4) (fun a b => at2 (n := 1024) (m := 2176) x1 a (512 + b)) p.val q.val + prodTb 512 (at2 (n := 4096) (m := 512) x5) (fun a b => at2 (n := 1024) (m := 2176) x1 a (1024 + b)) p.val q.val + prodTb 512 (at2 (n := 4096) (m := 512) x6) (fun a b => at2 (n := 1024) (m := 2176) x1 a (1536 + b)) p.val q.val + prodTb 128 (at2 (n := 4096) (m := 128) x7) (fun a b => at2 (n := 1024) (m := 2176) x1 a (2048 + b)) p.val q.val := by
  unfold val_main_v2 val_main_v1
  pointwise
  refine (Finset.sum_congr rfl (g := fun k : Fin 2176 => beside x2 x3 x4 x5 x6 x7 p.val k.val * at2 (n := 1024) (m := 2176) x1 q.val k.val) fun k _ => ?_).trans ?_
  · have hk := k.isLt
    rw [at2_ix2]
    refine congrArg (· * _) ?_
    unfold beside
    split_ifs <;> exact (at2_of_lt _ (by omega) (by omega)).symm
  rw [← Finset.sum_range (fun k => beside x2 x3 x4 x5 x6 x7 p.val k * at2 (n := 1024) (m := 2176) x1 q.val k),
    sum_six]
  unfold prodTb
  refine congrArg₂ (· + ·) ?_ (Finset.sum_congr rfl fun k hk => by
      have hk := Finset.mem_range.mp hk
      unfold beside
      rw [if_neg (by omega), if_neg (by omega), if_neg (by omega), if_neg (by omega), if_neg (by omega), show 2048 + k - 256 - 256 - 512 - 512 - 512 = k by omega])
  refine congrArg₂ (· + ·) ?_ (Finset.sum_congr rfl fun k hk => by
      have hk := Finset.mem_range.mp hk
      unfold beside
      rw [if_neg (by omega), if_neg (by omega), if_neg (by omega), if_neg (by omega), if_pos (by omega), show 1536 + k - 256 - 256 - 512 - 512 = k by omega])
  refine congrArg₂ (· + ·) ?_ (Finset.sum_congr rfl fun k hk => by
      have hk := Finset.mem_range.mp hk
      unfold beside
      rw [if_neg (by omega), if_neg (by omega), if_neg (by omega), if_pos (by omega), show 1024 + k - 256 - 256 - 512 = k by omega])
  refine congrArg₂ (· + ·) ?_ (Finset.sum_congr rfl fun k hk => by
      have hk := Finset.mem_range.mp hk
      unfold beside
      rw [if_neg (by omega), if_neg (by omega), if_pos (by omega), show 512 + k - 256 - 256 = k by omega])
  refine congrArg₂ (· + ·) ?_ (Finset.sum_congr rfl fun k hk => by
      have hk := Finset.mem_range.mp hk
      unfold beside
      rw [if_neg (by omega), if_pos (by omega), show 256 + k - 256 = k by omega])
  exact Finset.sum_congr rfl fun k hk => by
      have hk := Finset.mem_range.mp hk
      unfold beside
      rw [if_pos (by omega)]

end Cert.Reference22Ideal.Prod

namespace Cert.Kernel22Ideal.Prod

open Idealize.ShloMosaic Idealize.SL.Sem

/-- The kernel and the reference end with the same array. -/
theorem algebraic : Cert.algebraic_Kernel22Ideal_Reference22Ideal := by
  intro m g m' g' _ hargs
  refine ⟨result m, run m g, ?_⟩
  refine (θ_run Cert.Reference22Ideal.defs _ _).mono (fun r h c => ?_) (Cert.Reference22Ideal.Value.run (F := Ideal) m' g')
  obtain ⟨a0, a1, a2, a3, a4, a5, a6, a7⟩ := hargs c
  refine ⟨(h c).1.trans ?_, (h c).2⟩
  rw [Cert.Reference22Ideal.Read.val_main_v2_eq, a1, a2, a3, a4, a5, a6, a7]
  refine funext fun i => ?_
  rw [eq_ix2 i]
  exact Cert.Reference22Ideal.Prod.read _ _ _ _ _ _ _ (i 0) (i 1)

end Cert.Kernel22Ideal.Prod

end
-- ==== Proof.Prod23.lean ====
/-
  The scan mixer's gated output projection.
-/
module

public import proofs.«01_k».proof.Defs
public import proofs.«01_k».proof.Proof.Product
public import proofs.«01_k».proof.Proof.Gen.Kernel23Ideal.Value
public import proofs.«01_k».proof.Proof.Gen.Reference23Ideal.Run
public import proofs.«01_k».proof.Proof.Gen.Reference23Ideal.Read

@[expose] public section

noncomputable section

namespace Cert.Kernel23Ideal.Prod

open Idealize.ShloMosaic Idealize.ShloMosaic.TcCoe Idealize.SL.Sem
open Cert.Kernel23Ideal Cert.Kernel23Ideal.Gen Cert.Ffn Cert.Product

/-- One entry of the block a grid point leaves in the output's buffer. -/
theorem out_read (x0 : Vec Ideal S256x1024 .bf16) (x1 : Vec Ideal S1024x2048 .bf16) (r : Fin 256) (l : Fin 2048) :
    out0_2 (F := Ideal) x0 x1 (ix2 r l) = (∑ k : Fin 1024, x0 (ix2 r k) * x1 (ix2 k l)) := by
  unfold out0_2
  refine (congrFun (View.canon_unit_zero hz inb_S256x2048_S256x2048_0_0 _) (ix2 r l)).trans ?_
  have e0 : View.ld x0 r0_0 = x0 := View.ld_unit_zero (S := S256x1024) hz inb_S256x1024_S256x1024_0_0 x0
  have e1 : View.ld x1 r0_1 = x1 := View.ld_unit_zero (S := S1024x2048) hz inb_S1024x2048_S1024x2048_0_0 x1
  rw [e0, e1]
  unfold k0_pay1
  pointwise

variable (m : (ℓ : Loc nD τ sig) → Buf (Elt Ideal) ℓ) (ρ : Dev nD → PrngReg) (c : Dev nD)

/-- Argument 0 as a matrix. -/
abbrev arg0 : Nat → Nat → EReal := at2 (n := 4096) (m := 1024) (m ((c : Thread nD τ).loc main_arg0))

/-- Argument 1 as a matrix. -/
abbrev arg1 : Nat → Nat → EReal := at2 (n := 1024) (m := 2048) (m ((c : Thread nD τ).loc main_arg1))

theorem point_lt (t : Fin cfg0.N) : t.val < 16 := t.isLt.trans_eq N_0

theorem V_main_v0 : V m c main_v0 = (m ((c : Thread nD τ).loc main_arg0) : Vec Ideal S4096x1024 .f32) := by
  unfold V hostOps0
  after_results
  rfl

theorem V_main_v1 : V m c main_v1 = (m ((c : Thread nD τ).loc main_arg1) : Vec Ideal S1024x2048 .f32) := by
  unfold V hostOps0
  after_results
  rfl

theorem index_0 : ∀ t : Fin grid0.N, win0_0.index t 0 = t.val ∧ win0_0.index t 1 = 0 := by decide +kernel

theorem index_1 : ∀ t : Fin grid0.N, win0_1.index t 0 = 0 ∧ win0_1.index t 1 = 0 := by decide +kernel

theorem index_2 : ∀ t : Fin grid0.N, win0_2.index t 0 = t.val ∧ win0_2.index t 1 = 0 := by decide +kernel

/-- What point `t` reads through window 0. -/
theorem iblk_0 (t : Fin cfg0.N) (r : Fin 256) (l : Fin 1024) :
    iblk m c 0 t (ix2 r l) = arg0 m c (t.val * 256 + r.val) (0 * 1024 + l.val) := by
  have ht := point_lt t
  obtain ⟨i0, i1⟩ := index_0 t
  unfold iblk
  rw [View.read_apply]
  show V m c main_v0 _ = _
  rw [V_main_v0]
  exact at2_at _ _ (by show win0_0.index t 0 * 256 + 1 * r.val = _; rw [i0]; omega)
    (by show win0_0.index t 1 * 1024 + 1 * l.val = _; rw [i1]; omega)

/-- What point `t` reads through window 1. -/
theorem iblk_1 (t : Fin cfg0.N) (r : Fin 1024) (l : Fin 2048) :
    iblk m c 1 t (ix2 r l) = arg1 m c (0 * 1024 + r.val) (0 * 2048 + l.val) := by
  have ht := point_lt t
  obtain ⟨i0, i1⟩ := index_1 t
  unfold iblk
  rw [View.read_apply]
  show V m c main_v1 _ = _
  rw [V_main_v1]
  exact at2_at _ _ (by show win0_1.index t 0 * 1024 + 1 * r.val = _; rw [i0]; omega)
    (by show win0_1.index t 1 * 2048 + 1 * l.val = _; rw [i1]; omega)

/-- The whole result. -/
def result : Buf (Elt Ideal) ((c : Thread nD τ).loc main_v2) := fun (q : S4096x2048.Idx) =>
  prod 1024 (arg0 m c) (arg1 m c) (q 0).val (q 1).val

/-- What point `t` leaves of the output. -/
theorem block (t : Fin cfg0.N) (r : Fin 256) (l : Fin 2048) :
    out0_2 (F := Ideal) (iblk m c 0 t) (iblk m c 1 t) (ix2 r l)
      = prod 1024 (arg0 m c) (arg1 m c) (t.val * 256 + r.val) (0 * 2048 + l.val) := by
  rw [out_read]
  simp only [iblk_0, iblk_1, prod_fin, zero_mul, zero_add]

theorem flushed (t : Fin cfg0.N) (_hf : (cfg0.win 2).flush t = true) :
    (dats m 0 c).flushed 2 t = ((cfg0.win 2).blk t).view.read (Elt Ideal) (result m c) := by
  obtain ⟨i0, i1⟩ := index_2 t
  rw [Cert.Kernel23Ideal.Value.flushed2]
  funext j
  rw [View.read_apply]
  refine (congrArg (out0_2 (F := Ideal) (iblk m c 0 t) (iblk m c 1 t)) (eq_ix2 (j : S256x2048.Idx))).trans ?_
  refine (block m c t (j 0) (j 1)).trans ?_
  show _ = prod 1024 (arg0 m c) (arg1 m c) (win0_2.index t 0 * 256 + 1 * (j 0).val) (win0_2.index t 1 * 2048 + 1 * (j 1).val)
  rw [i0, i1, one_mul, one_mul]

/-- The result's array after the run. -/
theorem final : (dats m 0 c).arrAt 2 cfg0.N = result m c :=
  (dats m 0 c).arrAt_eq_of_cover 2 (result m c) (flushed m c) fun i => by
    have h0 : (i 0 : Nat) < 4096 := (i 0).isLt
    have h1 : (i 1 : Nat) < 2048 := (i 1).isLt
    have hN : cfg0.N = 16 := N_0
    obtain ⟨t, hv⟩ : ∃ t : Fin cfg0.N, t.val = (i 0 : Nat) / 256 := ⟨⟨_, by omega⟩, rfl⟩
    have hx := index_2 t
    refine ⟨t, flush0_2 _, ?_⟩
    show i ∈ ((View.whole main_v2).slice (win0_2.rect t)).set
    rw [View.set_slice_whole, Rect.mem_set_unit]
    exact tile_at (by show _ * 256 ≤ (i 0 : Nat) ∧ _ < _ * 256 + 256; rw [hx.1]; omega)
      (by show _ * 2048 ≤ (i 1 : Nat) ∧ _ < _ * 2048 + 2048; rw [hx.2]; omega)

/-- The kernel's run: the result is the plain product and the arguments are unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.Kernel23Ideal.Value.run_blocks m ρ)

end Cert.Kernel23Ideal.Prod

namespace Cert.Reference23Ideal.Prod

open Idealize.ShloMosaic Idealize.SL.Sem
open Cert.Reference23Ideal Cert.Reference23Ideal.Gen Cert.Reference23Ideal.Read Cert.Ffn Cert.Product

/-- The reference runs, keeps its arguments and leaves every counter at zero. -/
theorem frame : Cert.quiescent_Reference23Ideal := fun m ρ _ =>
  (θ_run Cert.Reference23Ideal.defs _ _).mono (fun r h => ⟨fun c => (h c).2, sem_eq_zero_of_no_sems (by decide) r.2⟩)
    (Cert.Reference23Ideal.Value.run m ρ)

/-- One entry of the reference's result. -/
theorem read (x0 : (⟨S4096x1024, .f32⟩ : BufTy).Contents (Elt Ideal)) (x1 : (⟨S1024x2048, .f32⟩ : BufTy).Contents (Elt Ideal))
    (p : Fin 4096) (q : Fin 2048) :
    val_main_v0 (F := Ideal) x0 x1 (ix2 p q)
      = prod 1024 (at2 (n := 4096) (m := 1024) x0) (at2 (n := 1024) (m := 2048) x1) p.val q.val := by
  unfold val_main_v0
  pointwise
  rw [prod_fin]
  exact Finset.sum_congr rfl fun k _ => by rw [at2_ix2, at2_ix2]

end Cert.Reference23Ideal.Prod

namespace Cert.Kernel23Ideal.Prod

open Idealize.ShloMosaic Idealize.SL.Sem

/-- The kernel and the reference end with the same array. -/
theorem algebraic : Cert.algebraic_Kernel23Ideal_Reference23Ideal := by
  intro m g m' g' _ hargs
  refine ⟨result m, run m g, ?_⟩
  refine (θ_run Cert.Reference23Ideal.defs _ _).mono (fun r h c => ?_) (Cert.Reference23Ideal.Value.run (F := Ideal) m' g')
  obtain ⟨a0, a1⟩ := hargs c
  refine ⟨(h c).1.trans ?_, (h c).2⟩
  rw [Cert.Reference23Ideal.Read.val_main_v0_eq, a0, a1]
  refine funext fun i => ?_
  rw [eq_ix2 i]
  exact Cert.Reference23Ideal.Prod.read _ _ (i 0) (i 1)

end Cert.Kernel23Ideal.Prod

end
-- ==== Proof.Prod24.lean ====
/-
  The gradient of the gated output projection's weight.
-/
module

public import proofs.«01_k».proof.Defs
public import proofs.«01_k».proof.Proof.Product
public import proofs.«01_k».proof.Proof.Gen.Kernel24Ideal.Value
public import proofs.«01_k».proof.Proof.Gen.Reference24Ideal.Run
public import proofs.«01_k».proof.Proof.Gen.Reference24Ideal.Read

@[expose] public section

noncomputable section

namespace Cert.Kernel24Ideal.Prod

open Idealize.ShloMosaic Idealize.ShloMosaic.TcCoe Idealize.SL.Sem
open Cert.Kernel24Ideal Cert.Kernel24Ideal.Gen Cert.Ffn Cert.Product

/-- One entry of the block a grid point leaves in the output's buffer. -/
theorem out_read (x0 : Vec Ideal S4096x1024 .bf16) (x1 : Vec Ideal S4096x512 .bf16) (r : Fin 1024) (l : Fin 512) :
    out0_2 (F := Ideal) x0 x1 (ix2 r l) = (∑ k : Fin 4096, x0 (ix2 k r) * x1 (ix2 k l)) := by
  unfold out0_2
  refine (congrFun (View.canon_unit_zero hz inb_S1024x512_S1024x512_0_0 _) (ix2 r l)).trans ?_
  have e0 : View.ld x0 r0_0 = x0 := View.ld_unit_zero (S := S4096x1024) hz inb_S4096x1024_S4096x1024_0_0 x0
  have e1 : View.ld x1 r0_1 = x1 := View.ld_unit_zero (S := S4096x512) hz inb_S4096x512_S4096x512_0_0 x1
  rw [e0, e1]
  unfold k0_pay1
  pointwise

variable (m : (ℓ : Loc nD τ sig) → Buf (Elt Ideal) ℓ) (ρ : Dev nD → PrngReg) (c : Dev nD)

/-- Argument 0 as a matrix. -/
abbrev arg0 : Nat → Nat → EReal := at2 (n := 4096) (m := 1024) (m ((c : Thread nD τ).loc main_arg0))

/-- Argument 2 as a matrix. -/
abbrev arg2 : Nat → Nat → EReal := at2 (n := 4096) (m := 2048) (m ((c : Thread nD τ).loc main_arg2))

theorem point_lt (t : Fin cfg0.N) : t.val < 4 := t.isLt.trans_eq N_0

theorem V_main_v0 : V m c main_v0 = (m ((c : Thread nD τ).loc main_arg0) : Vec Ideal S4096x1024 .f32) := by
  unfold V hostOps0
  after_results
  rfl

theorem V_main_v1 : V m c main_v1 = (m ((c : Thread nD τ).loc main_arg2) : Vec Ideal S4096x2048 .f32) := by
  unfold V hostOps0
  after_results
  rfl

theorem index_0 : ∀ t : Fin grid0.N, win0_0.index t 0 = 0 ∧ win0_0.index t 1 = 0 := by decide +kernel

theorem index_1 : ∀ t : Fin grid0.N, win0_1.index t 0 = 0 ∧ win0_1.index t 1 = t.val := by decide +kernel

theorem index_2 : ∀ t : Fin grid0.N, win0_2.index t 0 = 0 ∧ win0_2.index t 1 = t.val := by decide +kernel

/-- What point `t` reads through window 0. -/
theorem iblk_0 (t : Fin cfg0.N) (r : Fin 4096) (l : Fin 1024) :
    iblk m c 0 t (ix2 r l) = arg0 m c (0 * 4096 + r.val) (0 * 1024 + l.val) := by
  have ht := point_lt t
  obtain ⟨i0, i1⟩ := index_0 t
  unfold iblk
  rw [View.read_apply]
  show V m c main_v0 _ = _
  rw [V_main_v0]
  exact at2_at _ _ (by show win0_0.index t 0 * 4096 + 1 * r.val = _; rw [i0]; omega)
    (by show win0_0.index t 1 * 1024 + 1 * l.val = _; rw [i1]; omega)

/-- What point `t` reads through window 1. -/
theorem iblk_1 (t : Fin cfg0.N) (r : Fin 4096) (l : Fin 512) :
    iblk m c 1 t (ix2 r l) = arg2 m c (0 * 4096 + r.val) (t.val * 512 + l.val) := by
  have ht := point_lt t
  obtain ⟨i0, i1⟩ := index_1 t
  unfold iblk
  rw [View.read_apply]
  show V m c main_v1 _ = _
  rw [V_main_v1]
  exact at2_at _ _ (by show win0_1.index t 0 * 4096 + 1 * r.val = _; rw [i0]; omega)
    (by show win0_1.index t 1 * 512 + 1 * l.val = _; rw [i1]; omega)

/-- The whole result. -/
def result : Buf (Elt Ideal) ((c : Thread nD τ).loc main_v2) := fun (q : S1024x2048.Idx) =>
  prodTa 4096 (arg0 m c) (arg2 m c) (q 0).val (q 1).val

/-- What point `t` leaves of the output. -/
theorem block (t : Fin cfg0.N) (r : Fin 1024) (l : Fin 512) :
    out0_2 (F := Ideal) (iblk m c 0 t) (iblk m c 1 t) (ix2 r l)
      = prodTa 4096 (arg0 m c) (arg2 m c) (0 * 1024 + r.val) (t.val * 512 + l.val) := by
  rw [out_read]
  simp only [iblk_0, iblk_1, prodTa_fin, zero_mul, zero_add]

theorem flushed (t : Fin cfg0.N) (_hf : (cfg0.win 2).flush t = true) :
    (dats m 0 c).flushed 2 t = ((cfg0.win 2).blk t).view.read (Elt Ideal) (result m c) := by
  obtain ⟨i0, i1⟩ := index_2 t
  rw [Cert.Kernel24Ideal.Value.flushed2]
  funext j
  rw [View.read_apply]
  refine (congrArg (out0_2 (F := Ideal) (iblk m c 0 t) (iblk m c 1 t)) (eq_ix2 (j : S1024x512.Idx))).trans ?_
  refine (block m c t (j 0) (j 1)).trans ?_
  show _ = prodTa 4096 (arg0 m c) (arg2 m c) (win0_2.index t 0 * 1024 + 1 * (j 0).val) (win0_2.index t 1 * 512 + 1 * (j 1).val)
  rw [i0, i1, one_mul, one_mul]

/-- The result's array after the run. -/
theorem final : (dats m 0 c).arrAt 2 cfg0.N = result m c :=
  (dats m 0 c).arrAt_eq_of_cover 2 (result m c) (flushed m c) fun i => by
    have h0 : (i 0 : Nat) < 1024 := (i 0).isLt
    have h1 : (i 1 : Nat) < 2048 := (i 1).isLt
    have hN : cfg0.N = 4 := N_0
    obtain ⟨t, hv⟩ : ∃ t : Fin cfg0.N, t.val = (i 1 : Nat) / 512 := ⟨⟨_, by omega⟩, rfl⟩
    have hx := index_2 t
    refine ⟨t, flush0_2 _, ?_⟩
    show i ∈ ((View.whole main_v2).slice (win0_2.rect t)).set
    rw [View.set_slice_whole, Rect.mem_set_unit]
    exact tile_at (by show _ * 1024 ≤ (i 0 : Nat) ∧ _ < _ * 1024 + 1024; rw [hx.1]; omega)
      (by show _ * 512 ≤ (i 1 : Nat) ∧ _ < _ * 512 + 512; rw [hx.2]; omega)

/-- The kernel's run: the result is the plain product and the arguments are unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.Kernel24Ideal.Value.run_blocks m ρ)

end Cert.Kernel24Ideal.Prod

namespace Cert.Reference24Ideal.Prod

open Idealize.ShloMosaic Idealize.SL.Sem
open Cert.Reference24Ideal Cert.Reference24Ideal.Gen Cert.Reference24Ideal.Read Cert.Ffn Cert.Product

/-- The reference runs, keeps its arguments and leaves every counter at zero. -/
theorem frame : Cert.quiescent_Reference24Ideal := fun m ρ _ =>
  (θ_run Cert.Reference24Ideal.defs _ _).mono (fun r h => ⟨fun c => (h c).2, sem_eq_zero_of_no_sems (by decide) r.2⟩)
    (Cert.Reference24Ideal.Value.run m ρ)

/-- One entry of the reference's result. -/
theorem read (x0 : (⟨S4096x1024, .f32⟩ : BufTy).Contents (Elt Ideal)) (x2 : (⟨S4096x2048, .f32⟩ : BufTy).Contents (Elt Ideal))
    (p : Fin 1024) (q : Fin 2048) :
    val_main_v3 (F := Ideal) x0 x2 (ix2 p q)
      = prodTa 4096 (at2 (n := 4096) (m := 1024) x0) (at2 (n := 4096) (m := 2048) x2) p.val q.val := by
  unfold val_main_v3 val_main_v2 val_main_v1
  pointwise
  rw [prodTa_fin]
  exact Finset.sum_congr rfl fun k _ => by rw [at2_ix2, at2_ix2, mul_comm]

end Cert.Reference24Ideal.Prod

namespace Cert.Kernel24Ideal.Prod

open Idealize.ShloMosaic Idealize.SL.Sem

/-- The kernel and the reference end with the same array. -/
theorem algebraic : Cert.algebraic_Kernel24Ideal_Reference24Ideal := by
  intro m g m' g' _ hargs
  refine ⟨result m, run m g, ?_⟩
  refine (θ_run Cert.Reference24Ideal.defs _ _).mono (fun r h c => ?_) (Cert.Reference24Ideal.Value.run (F := Ideal) m' g')
  obtain ⟨a0, a1, a2⟩ := hargs c
  refine ⟨(h c).1.trans ?_, (h c).2⟩
  rw [Cert.Reference24Ideal.Read.val_main_v3_eq, a0, a2]
  refine funext fun i => ?_
  rw [eq_ix2 i]
  exact Cert.Reference24Ideal.Prod.read _ _ (i 0) (i 1)

end Cert.Kernel24Ideal.Prod

end
-- ==== Proof.Prod25.lean ====
/-
  The gradient of the scan mixer's activation.
-/
module

public import proofs.«01_k».proof.Defs
public import proofs.«01_k».proof.Proof.Product
public import proofs.«01_k».proof.Proof.Gen.Kernel25Ideal.Value
public import proofs.«01_k».proof.Proof.Gen.Reference25Ideal.Run
public import proofs.«01_k».proof.Proof.Gen.Reference25Ideal.Read

@[expose] public section

noncomputable section

namespace Cert.Kernel25Ideal.Prod

open Idealize.ShloMosaic Idealize.ShloMosaic.TcCoe Idealize.SL.Sem
open Cert.Kernel25Ideal Cert.Kernel25Ideal.Gen Cert.Ffn Cert.Product

/-- One entry of the block a grid point leaves in the output's buffer. -/
theorem out_read (x0 : Vec Ideal S512x2048 .bf16) (x1 : Vec Ideal S1024x2048 .bf16) (r : Fin 512) (l : Fin 1024) :
    out0_2 (F := Ideal) x0 x1 (ix2 r l) = (∑ k : Fin 2048, x0 (ix2 r k) * x1 (ix2 l k)) := by
  unfold out0_2
  refine (congrFun (View.canon_unit_zero hz inb_S512x1024_S512x1024_0_0 _) (ix2 r l)).trans ?_
  have e0 : View.ld x0 r0_0 = x0 := View.ld_unit_zero (S := S512x2048) hz inb_S512x2048_S512x2048_0_0 x0
  have e1 : View.ld x1 r0_1 = x1 := View.ld_unit_zero (S := S1024x2048) hz inb_S1024x2048_S1024x2048_0_0 x1
  rw [e0, e1]
  unfold k0_pay1
  pointwise

variable (m : (ℓ : Loc nD τ sig) → Buf (Elt Ideal) ℓ) (ρ : Dev nD → PrngReg) (c : Dev nD)

/-- Argument 1 as a matrix. -/
abbrev arg1 : Nat → Nat → EReal := at2 (n := 1024) (m := 2048) (m ((c : Thread nD τ).loc main_arg1))

/-- Argument 2 as a matrix. -/
abbrev arg2 : Nat → Nat → EReal := at2 (n := 4096) (m := 2048) (m ((c : Thread nD τ).loc main_arg2))

theorem point_lt (t : Fin cfg0.N) : t.val < 8 := t.isLt.trans_eq N_0

theorem V_main_v0 : V m c main_v0 = (m ((c : Thread nD τ).loc main_arg2) : Vec Ideal S4096x2048 .f32) := by
  unfold V hostOps0
  after_results
  rfl

theorem V_main_v1 : V m c main_v1 = (m ((c : Thread nD τ).loc main_arg1) : Vec Ideal S1024x2048 .f32) := by
  unfold V hostOps0
  after_results
  rfl

theorem index_0 : ∀ t : Fin grid0.N, win0_0.index t 0 = t.val ∧ win0_0.index t 1 = 0 := by decide +kernel

theorem index_1 : ∀ t : Fin grid0.N, win0_1.index t 0 = 0 ∧ win0_1.index t 1 = 0 := by decide +kernel

theorem index_2 : ∀ t : Fin grid0.N, win0_2.index t 0 = t.val ∧ win0_2.index t 1 = 0 := by decide +kernel

/-- What point `t` reads through window 0. -/
theorem iblk_0 (t : Fin cfg0.N) (r : Fin 512) (l : Fin 2048) :
    iblk m c 0 t (ix2 r l) = arg2 m c (t.val * 512 + r.val) (0 * 2048 + l.val) := by
  have ht := point_lt t
  obtain ⟨i0, i1⟩ := index_0 t
  unfold iblk
  rw [View.read_apply]
  show V m c main_v0 _ = _
  rw [V_main_v0]
  exact at2_at _ _ (by show win0_0.index t 0 * 512 + 1 * r.val = _; rw [i0]; omega)
    (by show win0_0.index t 1 * 2048 + 1 * l.val = _; rw [i1]; omega)

/-- What point `t` reads through window 1. -/
theorem iblk_1 (t : Fin cfg0.N) (r : Fin 1024) (l : Fin 2048) :
    iblk m c 1 t (ix2 r l) = arg1 m c (0 * 1024 + r.val) (0 * 2048 + l.val) := by
  have ht := point_lt t
  obtain ⟨i0, i1⟩ := index_1 t
  unfold iblk
  rw [View.read_apply]
  show V m c main_v1 _ = _
  rw [V_main_v1]
  exact at2_at _ _ (by show win0_1.index t 0 * 1024 + 1 * r.val = _; rw [i0]; omega)
    (by show win0_1.index t 1 * 2048 + 1 * l.val = _; rw [i1]; omega)

/-- The whole result. -/
def result : Buf (Elt Ideal) ((c : Thread nD τ).loc main_v2) := fun (q : S4096x1024.Idx) =>
  prodTb 2048 (arg2 m c) (arg1 m c) (q 0).val (q 1).val

/-- What point `t` leaves of the output. -/
theorem block (t : Fin cfg0.N) (r : Fin 512) (l : Fin 1024) :
    out0_2 (F := Ideal) (iblk m c 0 t) (iblk m c 1 t) (ix2 r l)
      = prodTb 2048 (arg2 m c) (arg1 m c) (t.val * 512 + r.val) (0 * 1024 + l.val) := by
  rw [out_read]
  simp only [iblk_0, iblk_1, prodTb_fin, zero_mul, zero_add]

theorem flushed (t : Fin cfg0.N) (_hf : (cfg0.win 2).flush t = true) :
    (dats m 0 c).flushed 2 t = ((cfg0.win 2).blk t).view.read (Elt Ideal) (result m c) := by
  obtain ⟨i0, i1⟩ := index_2 t
  rw [Cert.Kernel25Ideal.Value.flushed2]
  funext j
  rw [View.read_apply]
  refine (congrArg (out0_2 (F := Ideal) (iblk m c 0 t) (iblk m c 1 t)) (eq_ix2 (j : S512x1024.Idx))).trans ?_
  refine (block m c t (j 0) (j 1)).trans ?_
  show _ = prodTb 2048 (arg2 m c) (arg1 m c) (win0_2.index t 0 * 512 + 1 * (j 0).val) (win0_2.index t 1 * 1024 + 1 * (j 1).val)
  rw [i0, i1, one_mul, one_mul]

/-- The result's array after the run. -/
theorem final : (dats m 0 c).arrAt 2 cfg0.N = result m c :=
  (dats m 0 c).arrAt_eq_of_cover 2 (result m c) (flushed m c) fun i => by
    have h0 : (i 0 : Nat) < 4096 := (i 0).isLt
    have h1 : (i 1 : Nat) < 1024 := (i 1).isLt
    have hN : cfg0.N = 8 := N_0
    obtain ⟨t, hv⟩ : ∃ t : Fin cfg0.N, t.val = (i 0 : Nat) / 512 := ⟨⟨_, by omega⟩, rfl⟩
    have hx := index_2 t
    refine ⟨t, flush0_2 _, ?_⟩
    show i ∈ ((View.whole main_v2).slice (win0_2.rect t)).set
    rw [View.set_slice_whole, Rect.mem_set_unit]
    exact tile_at (by show _ * 512 ≤ (i 0 : Nat) ∧ _ < _ * 512 + 512; rw [hx.1]; omega)
      (by show _ * 1024 ≤ (i 1 : Nat) ∧ _ < _ * 1024 + 1024; rw [hx.2]; omega)

/-- The kernel's run: the result is the plain product and the arguments are unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.Kernel25Ideal.Value.run_blocks m ρ)

end Cert.Kernel25Ideal.Prod

namespace Cert.Reference25Ideal.Prod

open Idealize.ShloMosaic Idealize.SL.Sem
open Cert.Reference25Ideal Cert.Reference25Ideal.Gen Cert.Reference25Ideal.Read Cert.Ffn Cert.Product

/-- The reference runs, keeps its arguments and leaves every counter at zero. -/
theorem frame : Cert.quiescent_Reference25Ideal := fun m ρ _ =>
  (θ_run Cert.Reference25Ideal.defs _ _).mono (fun r h => ⟨fun c => (h c).2, sem_eq_zero_of_no_sems (by decide) r.2⟩)
    (Cert.Reference25Ideal.Value.run m ρ)

/-- One entry of the reference's result. -/
theorem read (x1 : (⟨S1024x2048, .f32⟩ : BufTy).Contents (Elt Ideal)) (x2 : (⟨S4096x2048, .f32⟩ : BufTy).Contents (Elt Ideal))
    (p : Fin 4096) (q : Fin 1024) :
    val_main_v1 (F := Ideal) x1 x2 (ix2 p q)
      = prodTb 2048 (at2 (n := 4096) (m := 2048) x2) (at2 (n := 1024) (m := 2048) x1) p.val q.val := by
  unfold val_main_v1
  pointwise
  rw [prodTb_fin]
  exact Finset.sum_congr rfl fun k _ => by rw [at2_ix2, at2_ix2]

end Cert.Reference25Ideal.Prod

namespace Cert.Kernel25Ideal.Prod

open Idealize.ShloMosaic Idealize.SL.Sem

/-- The kernel and the reference end with the same array. -/
theorem algebraic : Cert.algebraic_Kernel25Ideal_Reference25Ideal := by
  intro m g m' g' _ hargs
  refine ⟨result m, run m g, ?_⟩
  refine (θ_run Cert.Reference25Ideal.defs _ _).mono (fun r h c => ?_) (Cert.Reference25Ideal.Value.run (F := Ideal) m' g')
  obtain ⟨a0, a1, a2⟩ := hargs c
  refine ⟨(h c).1.trans ?_, (h c).2⟩
  rw [Cert.Reference25Ideal.Read.val_main_v1_eq, a1, a2]
  refine funext fun i => ?_
  rw [eq_ix2 i]
  exact Cert.Reference25Ideal.Prod.read _ _ (i 0) (i 1)

end Cert.Kernel25Ideal.Prod

end
-- ==== Proof.Prod26.lean ====
/-
  The scan mixer's input projection.
-/
module

public import proofs.«01_k».proof.Defs
public import proofs.«01_k».proof.Proof.Product
public import proofs.«01_k».proof.Proof.Gen.Kernel26Ideal.Value
public import proofs.«01_k».proof.Proof.Gen.Reference26Ideal.Run
public import proofs.«01_k».proof.Proof.Gen.Reference26Ideal.Read

@[expose] public section

noncomputable section

namespace Cert.Kernel26Ideal.Prod

open Idealize.ShloMosaic Idealize.ShloMosaic.TcCoe Idealize.SL.Sem
open Cert.Kernel26Ideal Cert.Kernel26Ideal.Gen Cert.Ffn Cert.Product

/-- One entry of the block a grid point leaves in the output's buffer. -/
theorem out_read (x0 : Vec Ideal S512x1024 .bf16) (x1 : Vec Ideal S1024x1024 .bf16) (r : Fin 512) (l : Fin 1024) :
    out0_2 (F := Ideal) x0 x1 (ix2 r l) = (∑ k : Fin 1024, x0 (ix2 r k) * x1 (ix2 k l)) := by
  unfold out0_2
  refine (congrFun (View.canon_unit_zero hz inb_S512x1024_S512x1024_0_0 _) (ix2 r l)).trans ?_
  have e0 : View.ld x0 r0_0 = x0 := View.ld_unit_zero (S := S512x1024) hz inb_S512x1024_S512x1024_0_0 x0
  have e1 : View.ld x1 r0_1 = x1 := View.ld_unit_zero (S := S1024x1024) hz inb_S1024x1024_S1024x1024_0_0 x1
  rw [e0, e1]
  unfold k0_pay1
  pointwise

variable (m : (ℓ : Loc nD τ sig) → Buf (Elt Ideal) ℓ) (ρ : Dev nD → PrngReg) (c : Dev nD)

/-- Argument 0 as a matrix. -/
abbrev arg0 : Nat → Nat → EReal := at2 (n := 4096) (m := 1024) (m ((c : Thread nD τ).loc main_arg0))

/-- Argument 1 as a matrix. -/
abbrev arg1 : Nat → Nat → EReal := at2 (n := 1024) (m := 1024) (m ((c : Thread nD τ).loc main_arg1))

theorem point_lt (t : Fin cfg0.N) : t.val < 8 := t.isLt.trans_eq N_0

theorem V_main_v0 : V m c main_v0 = (m ((c : Thread nD τ).loc main_arg0) : Vec Ideal S4096x1024 .f32) := by
  unfold V hostOps0
  after_results
  rfl

theorem V_main_v1 : V m c main_v1 = (m ((c : Thread nD τ).loc main_arg1) : Vec Ideal S1024x1024 .f32) := by
  unfold V hostOps0
  after_results
  rfl

theorem index_0 : ∀ t : Fin grid0.N, win0_0.index t 0 = t.val ∧ win0_0.index t 1 = 0 := by decide +kernel

theorem index_1 : ∀ t : Fin grid0.N, win0_1.index t 0 = 0 ∧ win0_1.index t 1 = 0 := by decide +kernel

theorem index_2 : ∀ t : Fin grid0.N, win0_2.index t 0 = t.val ∧ win0_2.index t 1 = 0 := by decide +kernel

/-- What point `t` reads through window 0. -/
theorem iblk_0 (t : Fin cfg0.N) (r : Fin 512) (l : Fin 1024) :
    iblk m c 0 t (ix2 r l) = arg0 m c (t.val * 512 + r.val) (0 * 1024 + l.val) := by
  have ht := point_lt t
  obtain ⟨i0, i1⟩ := index_0 t
  unfold iblk
  rw [View.read_apply]
  show V m c main_v0 _ = _
  rw [V_main_v0]
  exact at2_at _ _ (by show win0_0.index t 0 * 512 + 1 * r.val = _; rw [i0]; omega)
    (by show win0_0.index t 1 * 1024 + 1 * l.val = _; rw [i1]; omega)

/-- What point `t` reads through window 1. -/
theorem iblk_1 (t : Fin cfg0.N) (r : Fin 1024) (l : Fin 1024) :
    iblk m c 1 t (ix2 r l) = arg1 m c (0 * 1024 + r.val) (0 * 1024 + l.val) := by
  have ht := point_lt t
  obtain ⟨i0, i1⟩ := index_1 t
  unfold iblk
  rw [View.read_apply]
  show V m c main_v1 _ = _
  rw [V_main_v1]
  exact at2_at _ _ (by show win0_1.index t 0 * 1024 + 1 * r.val = _; rw [i0]; omega)
    (by show win0_1.index t 1 * 1024 + 1 * l.val = _; rw [i1]; omega)

/-- The whole result. -/
def result : Buf (Elt Ideal) ((c : Thread nD τ).loc main_v2) := fun (q : S4096x1024.Idx) =>
  prod 1024 (arg0 m c) (arg1 m c) (q 0).val (q 1).val

/-- What point `t` leaves of the output. -/
theorem block (t : Fin cfg0.N) (r : Fin 512) (l : Fin 1024) :
    out0_2 (F := Ideal) (iblk m c 0 t) (iblk m c 1 t) (ix2 r l)
      = prod 1024 (arg0 m c) (arg1 m c) (t.val * 512 + r.val) (0 * 1024 + l.val) := by
  rw [out_read]
  simp only [iblk_0, iblk_1, prod_fin, zero_mul, zero_add]

theorem flushed (t : Fin cfg0.N) (_hf : (cfg0.win 2).flush t = true) :
    (dats m 0 c).flushed 2 t = ((cfg0.win 2).blk t).view.read (Elt Ideal) (result m c) := by
  obtain ⟨i0, i1⟩ := index_2 t
  rw [Cert.Kernel26Ideal.Value.flushed2]
  funext j
  rw [View.read_apply]
  refine (congrArg (out0_2 (F := Ideal) (iblk m c 0 t) (iblk m c 1 t)) (eq_ix2 (j : S512x1024.Idx))).trans ?_
  refine (block m c t (j 0) (j 1)).trans ?_
  show _ = prod 1024 (arg0 m c) (arg1 m c) (win0_2.index t 0 * 512 + 1 * (j 0).val) (win0_2.index t 1 * 1024 + 1 * (j 1).val)
  rw [i0, i1, one_mul, one_mul]

/-- The result's array after the run. -/
theorem final : (dats m 0 c).arrAt 2 cfg0.N = result m c :=
  (dats m 0 c).arrAt_eq_of_cover 2 (result m c) (flushed m c) fun i => by
    have h0 : (i 0 : Nat) < 4096 := (i 0).isLt
    have h1 : (i 1 : Nat) < 1024 := (i 1).isLt
    have hN : cfg0.N = 8 := N_0
    obtain ⟨t, hv⟩ : ∃ t : Fin cfg0.N, t.val = (i 0 : Nat) / 512 := ⟨⟨_, by omega⟩, rfl⟩
    have hx := index_2 t
    refine ⟨t, flush0_2 _, ?_⟩
    show i ∈ ((View.whole main_v2).slice (win0_2.rect t)).set
    rw [View.set_slice_whole, Rect.mem_set_unit]
    exact tile_at (by show _ * 512 ≤ (i 0 : Nat) ∧ _ < _ * 512 + 512; rw [hx.1]; omega)
      (by show _ * 1024 ≤ (i 1 : Nat) ∧ _ < _ * 1024 + 1024; rw [hx.2]; omega)

/-- The kernel's run: the result is the plain product and the arguments are unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.Kernel26Ideal.Value.run_blocks m ρ)

end Cert.Kernel26Ideal.Prod

namespace Cert.Reference26Ideal.Prod

open Idealize.ShloMosaic Idealize.SL.Sem
open Cert.Reference26Ideal Cert.Reference26Ideal.Gen Cert.Reference26Ideal.Read Cert.Ffn Cert.Product

/-- The reference runs, keeps its arguments and leaves every counter at zero. -/
theorem frame : Cert.quiescent_Reference26Ideal := fun m ρ _ =>
  (θ_run Cert.Reference26Ideal.defs _ _).mono (fun r h => ⟨fun c => (h c).2, sem_eq_zero_of_no_sems (by decide) r.2⟩)
    (Cert.Reference26Ideal.Value.run m ρ)

/-- One entry of the reference's result. -/
theorem read (x0 : (⟨S4096x1024, .f32⟩ : BufTy).Contents (Elt Ideal)) (x1 : (⟨S1024x1024, .f32⟩ : BufTy).Contents (Elt Ideal))
    (p : Fin 4096) (q : Fin 1024) :
    val_main_v0 (F := Ideal) x0 x1 (ix2 p q)
      = prod 1024 (at2 (n := 4096) (m := 1024) x0) (at2 (n := 1024) (m := 1024) x1) p.val q.val := by
  unfold val_main_v0
  pointwise
  rw [prod_fin]
  exact Finset.sum_congr rfl fun k _ => by rw [at2_ix2, at2_ix2]

end Cert.Reference26Ideal.Prod

namespace Cert.Kernel26Ideal.Prod

open Idealize.ShloMosaic Idealize.SL.Sem

/-- The kernel and the reference end with the same array. -/
theorem algebraic : Cert.algebraic_Kernel26Ideal_Reference26Ideal := by
  intro m g m' g' _ hargs
  refine ⟨result m, run m g, ?_⟩
  refine (θ_run Cert.Reference26Ideal.defs _ _).mono (fun r h c => ?_) (Cert.Reference26Ideal.Value.run (F := Ideal) m' g')
  obtain ⟨a0, a1⟩ := hargs c
  refine ⟨(h c).1.trans ?_, (h c).2⟩
  rw [Cert.Reference26Ideal.Read.val_main_v0_eq, a0, a1]
  refine funext fun i => ?_
  rw [eq_ix2 i]
  exact Cert.Reference26Ideal.Prod.read _ _ (i 0) (i 1)

end Cert.Kernel26Ideal.Prod

end
-- ==== Proof.Gate27.lean ====
/-
  The gradient of the S5 mixer's output gate: the kernel stores the two halves of the columns one after the other.
-/
module

public import proofs.«01_k».proof.Defs
public import proofs.«01_k».proof.Proof.FfnSpec
public import proofs.«01_k».proof.Proof.Gen.Kernel27Ideal.Value
public import proofs.«01_k».proof.Proof.Gen.Reference27Ideal.Run
public import proofs.«01_k».proof.Proof.Gen.Reference27Ideal.Read

@[expose] public section

noncomputable section

namespace Cert.Kernel27Ideal.Gate

open Idealize.ShloMosaic Idealize.ShloMosaic.TcCoe Idealize.SL.Sem
open Cert.Kernel27Ideal Cert.Kernel27Ideal.Gen Cert.Ffn

/-- The gradient of `a · σ(b)`: towards `a` in the left half of the columns and towards `b` in the right half. -/
def gateGrad (A X : Nat → Nat → EReal) (p q : Nat) : EReal :=
  if q < 1024 then X p q * Ideal.logistic (A p (1024 + q))
  else X p (q - 1024) * A p (q - 1024) * Ideal.logistic (A p (1024 + (q - 1024))) * (1 - Ideal.logistic (A p (1024 + (q - 1024))))

theorem out_left (x0 x1 x2 : Vec Ideal S512x1024 .f32) (r : Fin 512) (l : Fin 2048) (h : l.val < 1024) :
    out0_3 (F := Ideal) x0 x1 x2 (ix2 r l) = x2 (ix2 r ⟨l.val, h⟩) * Ideal.logistic (x1 (ix2 r ⟨l.val, h⟩)) := by
  unfold out0_3
  have e1 : View.ld x1 r0_0 = x1 := View.ld_unit_zero (S := S512x1024) hz inb_S512x1024_S512x1024_0_0 x1
  have e2 : View.ld x2 r0_0 = x2 := View.ld_unit_zero (S := S512x1024) hz inb_S512x1024_S512x1024_0_0 x2
  rw [e1, e2, View.canon_cons_of_not_mem]
  · have he : r0_1.emb (ix2 r (⟨l.val, h⟩ : Fin 1024)) = (ix2 r l : S512x2048.Idx) := by
      funext x; apply Fin.ext
      fin_cases x
      · show 0 + 1 * r.val = r.val; omega
      · show 0 + 1 * l.val = l.val; omega
    rw [← he]
    refine (View.canon_cons_emb r0_1 _ _ _).trans ?_
    unfold k0_pay2 k0_pay1
    pointwise
  · intro hm
    obtain ⟨i, hi, h'⟩ := (LoadRect.mem_set _).mp hm (1 : Fin 2)
    have h2 : l.val = 1024 + 1 * i := h'
    omega

theorem out_right (x0 x1 x2 : Vec Ideal S512x1024 .f32) (r : Fin 512) (l : Fin 2048) (h : ¬l.val < 1024) (h' : l.val - 1024 < 1024) :
    out0_3 (F := Ideal) x0 x1 x2 (ix2 r l) = x2 (ix2 r ⟨l.val - 1024, h'⟩) * x0 (ix2 r ⟨l.val - 1024, h'⟩) * Ideal.logistic (x1 (ix2 r ⟨l.val - 1024, h'⟩))
        * (1 - Ideal.logistic (x1 (ix2 r ⟨l.val - 1024, h'⟩))) := by
  unfold out0_3
  have e0 : View.ld x0 r0_0 = x0 := View.ld_unit_zero (S := S512x1024) hz inb_S512x1024_S512x1024_0_0 x0
  have e1 : View.ld x1 r0_0 = x1 := View.ld_unit_zero (S := S512x1024) hz inb_S512x1024_S512x1024_0_0 x1
  have e2 : View.ld x2 r0_0 = x2 := View.ld_unit_zero (S := S512x1024) hz inb_S512x1024_S512x1024_0_0 x2
  rw [e0, e1, e2]
  have he : r0_2.emb (ix2 r (⟨l.val - 1024, h'⟩ : Fin 1024)) = (ix2 r l : S512x2048.Idx) := by
    funext x; apply Fin.ext
    fin_cases x
    · show 0 + 1 * r.val = r.val; omega
    · show 1024 + 1 * (l.val - 1024) = l.val; omega
  rw [← he]
  refine (View.canon_cons_emb r0_2 _ _ _).trans ?_
  unfold k0_pay3 k0_pay1
  pointwise

variable (m : (ℓ : Loc nD τ sig) → Buf (Elt Ideal) ℓ) (ρ : Dev nD → PrngReg) (c : Dev nD)

/-- Argument 0 as a matrix. -/
abbrev arg0 : Nat → Nat → EReal := at2 (n := 4096) (m := 2048) (m ((c : Thread nD τ).loc main_arg0))

/-- Argument 1 as a matrix. -/
abbrev arg1 : Nat → Nat → EReal := at2 (n := 4096) (m := 1024) (m ((c : Thread nD τ).loc main_arg1))

theorem point_lt (t : Fin cfg0.N) : t.val < 8 := t.isLt.trans_eq N_0

theorem index_0 : ∀ t : Fin grid0.N, win0_0.index t 0 = t.val ∧ win0_0.index t 1 = 0 := by decide +kernel

theorem index_1 : ∀ t : Fin grid0.N, win0_1.index t 0 = t.val ∧ win0_1.index t 1 = 1 := by decide +kernel

theorem index_2 : ∀ t : Fin grid0.N, win0_2.index t 0 = t.val ∧ win0_2.index t 1 = 0 := by decide +kernel

theorem index_3 : ∀ t : Fin grid0.N, win0_3.index t 0 = t.val ∧ win0_3.index t 1 = 0 := by decide +kernel

/-- What point `t` reads through window 0. -/
theorem iblk_0 (t : Fin cfg0.N) (r : Fin 512) (l : Fin 1024) :
    iblk m c 0 t (ix2 r l) = arg0 m c ((t.val) * 512 + r.val) ((0) * 1024 + l.val) := by
  have ht := point_lt t
  obtain ⟨i0, i1⟩ := index_0 t
  unfold iblk
  rw [View.read_apply]
  show V m c main_arg0 _ = _
  rw [V_main_arg0]
  exact at2_at _ _ (by show win0_0.index t 0 * 512 + 1 * r.val = _; rw [i0]; omega)
    (by show win0_0.index t 1 * 1024 + 1 * l.val = _; rw [i1]; omega)

/-- What point `t` reads through window 1. -/
theorem iblk_1 (t : Fin cfg0.N) (r : Fin 512) (l : Fin 1024) :
    iblk m c 1 t (ix2 r l) = arg0 m c ((t.val) * 512 + r.val) ((1) * 1024 + l.val) := by
  have ht := point_lt t
  obtain ⟨i0, i1⟩ := index_1 t
  unfold iblk
  rw [View.read_apply]
  show V m c main_arg0 _ = _
  rw [V_main_arg0]
  exact at2_at _ _ (by show win0_1.index t 0 * 512 + 1 * r.val = _; rw [i0]; omega)
    (by show win0_1.index t 1 * 1024 + 1 * l.val = _; rw [i1]; omega)

/-- What point `t` reads through window 2. -/
theorem iblk_2 (t : Fin cfg0.N) (r : Fin 512) (l : Fin 1024) :
    iblk m c 2 t (ix2 r l) = arg1 m c ((t.val) * 512 + r.val) ((0) * 1024 + l.val) := by
  have ht := point_lt t
  obtain ⟨i0, i1⟩ := index_2 t
  unfold iblk
  rw [View.read_apply]
  show V m c main_arg1 _ = _
  rw [V_main_arg1]
  exact at2_at _ _ (by show win0_2.index t 0 * 512 + 1 * r.val = _; rw [i0]; omega)
    (by show win0_2.index t 1 * 1024 + 1 * l.val = _; rw [i1]; omega)

/-- What point `t` leaves of the output. -/
theorem block_3 (t : Fin cfg0.N) (r : Fin 512) (l : Fin 2048) :
    out0_3 (F := Ideal) (iblk m c 0 t) (iblk m c 1 t) (iblk m c 2 t) (ix2 r l) = gateGrad (arg0 m c) (arg1 m c) (t.val * 512 + r.val) (0 * 2048 + l.val) := by
  have hl := l.isLt
  rw [zero_mul, zero_add]
  unfold gateGrad
  by_cases h : l.val < 1024
  · rw [if_pos h, out_left _ _ _ r l h, iblk_1, iblk_2]
    simp only [zero_mul, zero_add, one_mul]
  · rw [if_neg h, out_right _ _ _ r l h (by omega), iblk_0, iblk_1, iblk_2]
    simp only [zero_mul, zero_add, one_mul]

/-- The whole gradient. -/
def result_3 : Buf (Elt Ideal) ((c : Thread nD τ).loc main_v0) := fun (q : S4096x2048.Idx) => gateGrad (arg0 m c) (arg1 m c) (q 0).val (q 1).val

theorem flushed_3 (t : Fin cfg0.N) (hf : (cfg0.win 3).flush t = true) :
    (dats m 0 c).flushed 3 t = ((cfg0.win 3).blk t).view.read (Elt Ideal) (result_3 m c) := by
  obtain ⟨i0, i1⟩ := index_3 t
  rw [Cert.Kernel27Ideal.Value.flushed3]
  funext j
  rw [View.read_apply]
  refine (congrArg (out0_3 (F := Ideal) (iblk m c 0 t) (iblk m c 1 t) (iblk m c 2 t)) (eq_ix2 (j : S512x2048.Idx))).trans ?_
  refine (block_3 m c t (j 0) (j 1)).trans ?_
  show _ = gateGrad (arg0 m c) (arg1 m c) (win0_3.index t 0 * 512 + 1 * (j 0).val) (win0_3.index t 1 * 2048 + 1 * (j 1).val)
  rw [i0, i1, one_mul, one_mul]

theorem final_3 : (dats m 0 c).arrAt 3 cfg0.N = result_3 m c :=
  (dats m 0 c).arrAt_eq_of_cover 3 (result_3 m c) (flushed_3 m c) fun i => by
    have h0 : (i 0 : Nat) < 4096 := (i 0).isLt
    have h1 : (i 1 : Nat) < 2048 := (i 1).isLt
    have hN : cfg0.N = 8 := N_0
    obtain ⟨t, hv⟩ : ∃ t : Fin cfg0.N, t.val = (i 0 : Nat) / 512 := ⟨⟨_, by omega⟩, rfl⟩
    have hx := index_3 t
    refine ⟨t, flush0_3 _, ?_⟩
    show i ∈ ((View.whole main_v0).slice (win0_3.rect t)).set
    rw [View.set_slice_whole, Rect.mem_set_unit]
    exact tile_at (by show _ * 512 ≤ (i 0 : Nat) ∧ _ < _ * 512 + 512; rw [hx.1]; omega)
      (by show _ * 2048 ≤ (i 1 : Nat) ∧ _ < _ * 2048 + 2048; rw [hx.2]; omega)

/-- The kernel's run: the results are the arrays above and the arguments are unchanged. -/
theorem run : θ_run defs (onTc (τ := τ) (main (F := Ideal))) ⟨m, fun _ => 0, ρ⟩ fun r => ∀ c : Dev nD,
      r.2.mem ((c : Thread nD τ).loc main_v0) = result_3 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_3 m c), (h c).2⟩)
    (Cert.Kernel27Ideal.Value.run_blocks m ρ)

end Cert.Kernel27Ideal.Gate

namespace Cert.Reference27Ideal.Gate

open Idealize.ShloMosaic Idealize.SL.Sem
open Cert.Reference27Ideal Cert.Reference27Ideal.Gen Cert.Reference27Ideal.Read Cert.Ffn Cert.Kernel27Ideal.Gate

/-- The reference runs, keeps its arguments and leaves every counter at zero. -/
theorem frame : Cert.quiescent_Reference27Ideal := fun m ρ _ =>
  (θ_run Cert.Reference27Ideal.defs _ _).mono (fun r h => ⟨fun c => (h c).2, sem_eq_zero_of_no_sems (by decide) r.2⟩)
    (Cert.Reference27Ideal.Value.run m ρ)

/-- One entry of the reference's result. -/
theorem val_main_v16_read (x0 : (⟨S4096x2048, .f32⟩ : BufTy).Contents (Elt Ideal)) (x1 : (⟨S4096x1024, .f32⟩ : BufTy).Contents (Elt Ideal))
    (p : Fin 4096) (q : Fin 2048) :
    val_main_v16 (F := Ideal) x0 x1 (ix2 p q) = gateGrad (at2 (n := 4096) (m := 2048) x0) (at2 (n := 4096) (m := 1024) x1) p.val q.val := by
  unfold val_main_v16 val_main_v15 val_main_v14 val_main_v13 val_main_v12 val_main_v10 val_main_v9 val_main_v8 val_main_v7 val_main_v6 val_main_v5 val_main_v4 val_main_v3 val_main_v2 val_main_v1 val_main_v0 val_main_cst val_main_cst_0 val_main_cst_1
  unfold gateGrad
  by_cases h : q.val < 1024
  · rw [if_pos h]
    rw [show at2 (n := 4096) (m := 2048) x0 p.val (1024 + q.val) = x0 (ix2 ⟨p.val, by omega⟩ ⟨1024 + q.val, by omega⟩) from at2_of_lt _ (by omega) (by omega),
      show at2 (n := 4096) (m := 1024) x1 p.val (q.val) = x1 (ix2 ⟨p.val, by omega⟩ ⟨q.val, by omega⟩) from at2_of_lt _ (by omega) (by omega)]
    pointwise
    rw [dif_pos h]
    rfl
  · rw [if_neg h]
    have hq := q.isLt
    rw [show at2 (n := 4096) (m := 2048) x0 p.val (q.val - 1024) = x0 (ix2 ⟨p.val, by omega⟩ ⟨q.val - 1024, by omega⟩) from at2_of_lt _ (by omega) (by omega),
      show at2 (n := 4096) (m := 2048) x0 p.val (1024 + (q.val - 1024)) = x0 (ix2 ⟨p.val, by omega⟩ ⟨1024 + (q.val - 1024), by omega⟩) from at2_of_lt _ (by omega) (by omega),
      show at2 (n := 4096) (m := 1024) x1 p.val (q.val - 1024) = x1 (ix2 ⟨p.val, by omega⟩ ⟨q.val - 1024, by omega⟩) from at2_of_lt _ (by omega) (by omega)]
    pointwise
    rw [dif_neg h]
    rw [mul_comm (x1 _) (x0 _), mul_assoc (x0 _ * x1 _)]
    rfl
end Cert.Reference27Ideal.Gate

namespace Cert.Kernel27Ideal.Gate

open Idealize.ShloMosaic Idealize.SL.Sem Cert.Ffn

/-- The kernel and the reference end with the same arrays. -/
theorem algebraic : Cert.algebraic_Kernel27Ideal_Reference27Ideal := by
  intro m g m' g' _ hargs
  refine ⟨result_3 m, run m g, ?_⟩
  refine (θ_run Cert.Reference27Ideal.defs _ _).mono (fun r h c => ?_) (Cert.Reference27Ideal.Value.run (F := Ideal) m' g')
  obtain ⟨a0, a1⟩ := hargs c
  refine ⟨(h c).1.trans ?_, (h c).2⟩
  · rw [Cert.Reference27Ideal.Read.val_main_v16_eq, a0, a1]
    refine funext fun i => ?_
    rw [eq_ix2 i]
    exact Cert.Reference27Ideal.Gate.val_main_v16_read _ _ (i 0) (i 1)

end Cert.Kernel27Ideal.Gate

end
-- ==== Proof.Gate28.lean ====
/-
  The S5 mixer's output gate, added to the residual.
-/
module

public import proofs.«01_k».proof.Defs
public import proofs.«01_k».proof.Proof.FfnSpec
public import proofs.«01_k».proof.Proof.Gen.Kernel28Ideal.Value
public import proofs.«01_k».proof.Proof.Gen.Reference28Ideal.Run
public import proofs.«01_k».proof.Proof.Gen.Reference28Ideal.Read

@[expose] public section

noncomputable section

namespace Cert.Kernel28Ideal.Gate

open Idealize.ShloMosaic Idealize.ShloMosaic.TcCoe Idealize.SL.Sem
open Cert.Kernel28Ideal Cert.Kernel28Ideal.Gen Cert.Ffn

/-- The residual and the gated value. -/
def gated (A X : Nat → Nat → EReal) (p q : Nat) : EReal := X p q + A p q * Ideal.logistic (A p (1024 + q))

theorem out_read (x0 x1 x2 : Vec Ideal S512x1024 .f32) (r : Fin 512) (l : Fin 1024) :
    out0_3 (F := Ideal) x0 x1 x2 (ix2 r l) = x2 (ix2 r l) + x0 (ix2 r l) * Ideal.logistic (x1 (ix2 r l)) := by
  unfold out0_3
  refine (congrFun (View.canon_unit_zero hz inb_S512x1024_S512x1024_0_0 _) (ix2 r l)).trans ?_
  have e0 : View.ld x0 r0_0 = x0 := View.ld_unit_zero (S := S512x1024) hz inb_S512x1024_S512x1024_0_0 x0
  have e1 : View.ld x1 r0_0 = x1 := View.ld_unit_zero (S := S512x1024) hz inb_S512x1024_S512x1024_0_0 x1
  have e2 : View.ld x2 r0_0 = x2 := View.ld_unit_zero (S := S512x1024) hz inb_S512x1024_S512x1024_0_0 x2
  rw [e0, e1, e2]
  unfold k0_pay1
  pointwise

variable (m : (ℓ : Loc nD τ sig) → Buf (Elt Ideal) ℓ) (ρ : Dev nD → PrngReg) (c : Dev nD)

/-- Argument 0 as a matrix. -/
abbrev arg0 : Nat → Nat → EReal := at2 (n := 4096) (m := 2048) (m ((c : Thread nD τ).loc main_arg0))

/-- Argument 1 as a matrix. -/
abbrev arg1 : Nat → Nat → EReal := at2 (n := 4096) (m := 1024) (m ((c : Thread nD τ).loc main_arg1))

theorem point_lt (t : Fin cfg0.N) : t.val < 8 := t.isLt.trans_eq N_0

theorem index_0 : ∀ t : Fin grid0.N, win0_0.index t 0 = t.val ∧ win0_0.index t 1 = 0 := by decide +kernel

theorem index_1 : ∀ t : Fin grid0.N, win0_1.index t 0 = t.val ∧ win0_1.index t 1 = 1 := by decide +kernel

theorem index_2 : ∀ t : Fin grid0.N, win0_2.index t 0 = t.val ∧ win0_2.index t 1 = 0 := by decide +kernel

theorem index_3 : ∀ t : Fin grid0.N, win0_3.index t 0 = t.val ∧ win0_3.index t 1 = 0 := by decide +kernel

/-- What point `t` reads through window 0. -/
theorem iblk_0 (t : Fin cfg0.N) (r : Fin 512) (l : Fin 1024) :
    iblk m c 0 t (ix2 r l) = arg0 m c ((t.val) * 512 + r.val) ((0) * 1024 + l.val) := by
  have ht := point_lt t
  obtain ⟨i0, i1⟩ := index_0 t
  unfold iblk
  rw [View.read_apply]
  show V m c main_arg0 _ = _
  rw [V_main_arg0]
  exact at2_at _ _ (by show win0_0.index t 0 * 512 + 1 * r.val = _; rw [i0]; omega)
    (by show win0_0.index t 1 * 1024 + 1 * l.val = _; rw [i1]; omega)

/-- What point `t` reads through window 1. -/
theorem iblk_1 (t : Fin cfg0.N) (r : Fin 512) (l : Fin 1024) :
    iblk m c 1 t (ix2 r l) = arg0 m c ((t.val) * 512 + r.val) ((1) * 1024 + l.val) := by
  have ht := point_lt t
  obtain ⟨i0, i1⟩ := index_1 t
  unfold iblk
  rw [View.read_apply]
  show V m c main_arg0 _ = _
  rw [V_main_arg0]
  exact at2_at _ _ (by show win0_1.index t 0 * 512 + 1 * r.val = _; rw [i0]; omega)
    (by show win0_1.index t 1 * 1024 + 1 * l.val = _; rw [i1]; omega)

/-- What point `t` reads through window 2. -/
theorem iblk_2 (t : Fin cfg0.N) (r : Fin 512) (l : Fin 1024) :
    iblk m c 2 t (ix2 r l) = arg1 m c ((t.val) * 512 + r.val) ((0) * 1024 + l.val) := by
  have ht := point_lt t
  obtain ⟨i0, i1⟩ := index_2 t
  unfold iblk
  rw [View.read_apply]
  show V m c main_arg1 _ = _
  rw [V_main_arg1]
  exact at2_at _ _ (by show win0_2.index t 0 * 512 + 1 * r.val = _; rw [i0]; omega)
    (by show win0_2.index t 1 * 1024 + 1 * l.val = _; rw [i1]; omega)

/-- What point `t` leaves of the output. -/
theorem block_3 (t : Fin cfg0.N) (r : Fin 512) (l : Fin 1024) :
    out0_3 (F := Ideal) (iblk m c 0 t) (iblk m c 1 t) (iblk m c 2 t) (ix2 r l) = gated (arg0 m c) (arg1 m c) (t.val * 512 + r.val) (0 * 1024 + l.val) := by
  rw [out_read, iblk_0, iblk_1, iblk_2]
  unfold gated
  simp only [zero_mul, zero_add, one_mul]

/-- The whole result. -/
def result_3 : Buf (Elt Ideal) ((c : Thread nD τ).loc main_v0) := fun (q : S4096x1024.Idx) => gated (arg0 m c) (arg1 m c) (q 0).val (q 1).val

theorem flushed_3 (t : Fin cfg0.N) (hf : (cfg0.win 3).flush t = true) :
    (dats m 0 c).flushed 3 t = ((cfg0.win 3).blk t).view.read (Elt Ideal) (result_3 m c) := by
  obtain ⟨i0, i1⟩ := index_3 t
  rw [Cert.Kernel28Ideal.Value.flushed3]
  funext j
  rw [View.read_apply]
  refine (congrArg (out0_3 (F := Ideal) (iblk m c 0 t) (iblk m c 1 t) (iblk m c 2 t)) (eq_ix2 (j : S512x1024.Idx))).trans ?_
  refine (block_3 m c t (j 0) (j 1)).trans ?_
  show _ = gated (arg0 m c) (arg1 m c) (win0_3.index t 0 * 512 + 1 * (j 0).val) (win0_3.index t 1 * 1024 + 1 * (j 1).val)
  rw [i0, i1, one_mul, one_mul]

theorem final_3 : (dats m 0 c).arrAt 3 cfg0.N = result_3 m c :=
  (dats m 0 c).arrAt_eq_of_cover 3 (result_3 m c) (flushed_3 m c) fun i => by
    have h0 : (i 0 : Nat) < 4096 := (i 0).isLt
    have h1 : (i 1 : Nat) < 1024 := (i 1).isLt
    have hN : cfg0.N = 8 := N_0
    obtain ⟨t, hv⟩ : ∃ t : Fin cfg0.N, t.val = (i 0 : Nat) / 512 := ⟨⟨_, by omega⟩, rfl⟩
    have hx := index_3 t
    refine ⟨t, flush0_3 _, ?_⟩
    show i ∈ ((View.whole main_v0).slice (win0_3.rect t)).set
    rw [View.set_slice_whole, Rect.mem_set_unit]
    exact tile_at (by show _ * 512 ≤ (i 0 : Nat) ∧ _ < _ * 512 + 512; rw [hx.1]; omega)
      (by show _ * 1024 ≤ (i 1 : Nat) ∧ _ < _ * 1024 + 1024; rw [hx.2]; omega)

/-- The kernel's run: the results are the arrays above and the arguments are unchanged. -/
theorem run : θ_run defs (onTc (τ := τ) (main (F := Ideal))) ⟨m, fun _ => 0, ρ⟩ fun r => ∀ c : Dev nD,
      r.2.mem ((c : Thread nD τ).loc main_v0) = result_3 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_3 m c), (h c).2⟩)
    (Cert.Kernel28Ideal.Value.run_blocks m ρ)

end Cert.Kernel28Ideal.Gate

namespace Cert.Reference28Ideal.Gate

open Idealize.ShloMosaic Idealize.SL.Sem
open Cert.Reference28Ideal Cert.Reference28Ideal.Gen Cert.Reference28Ideal.Read Cert.Ffn Cert.Kernel28Ideal.Gate

/-- The reference runs, keeps its arguments and leaves every counter at zero. -/
theorem frame : Cert.quiescent_Reference28Ideal := fun m ρ _ =>
  (θ_run Cert.Reference28Ideal.defs _ _).mono (fun r h => ⟨fun c => (h c).2, sem_eq_zero_of_no_sems (by decide) r.2⟩)
    (Cert.Reference28Ideal.Value.run m ρ)

/-- One entry of the reference's result. -/
theorem val_main_v9_read (x0 : (⟨S4096x2048, .f32⟩ : BufTy).Contents (Elt Ideal)) (x1 : (⟨S4096x1024, .f32⟩ : BufTy).Contents (Elt Ideal))
    (p : Fin 4096) (q : Fin 1024) :
    val_main_v9 (F := Ideal) x0 x1 (ix2 p q) = gated (at2 (n := 4096) (m := 2048) x0) (at2 (n := 4096) (m := 1024) x1) p.val q.val := by
  unfold val_main_v9 val_main_v8 val_main_v7 val_main_v6 val_main_v5 val_main_v4 val_main_v3 val_main_v2 val_main_v1 val_main_v0 val_main_cst val_main_cst_0
  unfold gated
  rw [show at2 (n := 4096) (m := 2048) x0 p.val (q.val) = x0 (ix2 ⟨p.val, by omega⟩ ⟨q.val, by omega⟩) from at2_of_lt _ (by omega) (by omega),
    show at2 (n := 4096) (m := 2048) x0 p.val (1024 + q.val) = x0 (ix2 ⟨p.val, by omega⟩ ⟨1024 + q.val, by omega⟩) from at2_of_lt _ (by omega) (by omega),
    show at2 (n := 4096) (m := 1024) x1 p.val (q.val) = x1 (ix2 ⟨p.val, by omega⟩ ⟨q.val, by omega⟩) from at2_of_lt _ (by omega) (by omega)]
  pointwise
  rfl
end Cert.Reference28Ideal.Gate

namespace Cert.Kernel28Ideal.Gate

open Idealize.ShloMosaic Idealize.SL.Sem Cert.Ffn

/-- The kernel and the reference end with the same arrays. -/
theorem algebraic : Cert.algebraic_Kernel28Ideal_Reference28Ideal := by
  intro m g m' g' _ hargs
  refine ⟨result_3 m, run m g, ?_⟩
  refine (θ_run Cert.Reference28Ideal.defs _ _).mono (fun r h c => ?_) (Cert.Reference28Ideal.Value.run (F := Ideal) m' g')
  obtain ⟨a0, a1⟩ := hargs c
  refine ⟨(h c).1.trans ?_, (h c).2⟩
  · rw [Cert.Reference28Ideal.Read.val_main_v9_eq, a0, a1]
    refine funext fun i => ?_
    rw [eq_ix2 i]
    exact Cert.Reference28Ideal.Gate.val_main_v9_read _ _ (i 0) (i 1)

end Cert.Kernel28Ideal.Gate

end
-- ==== Proof.Conv30.lean ====
/-
  The gated short convolution: the product of two column groups of the projection, convolved down the rows and gated by a third.
-/
module

public import proofs.«01_k».proof.Defs
public import proofs.«01_k».proof.Proof.FfnSpec
public import proofs.«01_k».proof.Proof.Gen.Kernel30Ideal.Value
public import proofs.«01_k».proof.Proof.Gen.Reference30Ideal.Run
public import proofs.«01_k».proof.Proof.Gen.Reference30Ideal.Read

@[expose] public section

noncomputable section

namespace Cert.Kernel30Ideal.Conv

open Idealize.ShloMosaic Idealize.ShloMosaic.TcCoe Idealize.SL.Sem
open Cert.Kernel30Ideal Cert.Kernel30Ideal.Gen Cert.Ffn

/-- The convolution's input: the second and third of the projection's three 512-column groups, multiplied. -/
def taps (P : Nat → Nat → EReal) (e q : Nat) : EReal := P e (1024 + q) * P e (1536 + q)

/-- The gated convolution: the first group times the convolution of the other two's product. -/
def gated (P W : Nat → Nat → EReal) (p q : Nat) : EReal := P p (512 + q) * conv (taps P) W q p q

/-- The factor that clears the rows before the first tile: zero at the first tile and one at the others. -/
theorem clear_eq {n : Nat} (h : n < 4) :
    (((Scalar.extui (Scalar.cmpi .sgt (BitVec.ofNat 32 n) 0#32) : BitVec 32).toInt : ℝ) : EReal) = if n = 0 then 0 else 1 := by
  interval_cases n
  · rw [show (Scalar.extui (Scalar.cmpi .sgt (BitVec.ofNat 32 0) 0#32) : BitVec 32).toInt = 0 from by decide]; norm_num
  · rw [show (Scalar.extui (Scalar.cmpi .sgt (BitVec.ofNat 32 1) 0#32) : BitVec 32).toInt = 1 from by decide]; norm_num
  · rw [show (Scalar.extui (Scalar.cmpi .sgt (BitVec.ofNat 32 2) 0#32) : BitVec 32).toInt = 1 from by decide]; norm_num
  · rw [show (Scalar.extui (Scalar.cmpi .sgt (BitVec.ofNat 32 3) 0#32) : BitVec 32).toInt = 1 from by decide]; norm_num

theorem out_A_6 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S8x256 .f32) (harg4 : arg4.IsWhole) (arg5 : Memref sig .tc .vmem S1024x256 .f32) (harg5 : arg5.IsWhole) (arg6 : Memref sig .tc .vmem S8x256 .f32) (harg6 : arg6.IsWhole) (arg7 : Memref sig .tc .vmem S3x256 .f32) (harg7 : arg7.IsWhole) (arg8 : Memref sig .tc .vmem S1024x256 .bf16) (harg8 : arg8.IsWhole)
    (x0 : Vec Ideal S1024x256 .f32) (x1 : Vec Ideal S1024x256 .f32) (x2 : Vec Ideal S8x256 .f32) (x3 : Vec Ideal S1024x256 .f32) (x4 : Vec Ideal S8x256 .f32) (x5 : Vec Ideal S3x256 .f32) :
    out0_A_6 (F := Ideal) c i arg2 harg2 arg3 harg3 arg4 harg4 arg5 harg5 arg6 harg6 arg7 harg7 arg8 harg8 x0 x1 x2 x3 x4 x5 = k0_pay1 i x2 x4 x1 x3 x0 x5 := by
  unfold out0_A_6
  rw [View.read_writes_eq_canon _ _ _ (fun _ => cover0_A_6 ..)]
  unfold kernelRun0_A
  dsimp only
  sl_unfold_words
  rw [View.canon_cons_unit_zero hz]
  simp only [View.readAt_eq_ld, harg2.read_unread, harg3.read_unread, harg4.read_unread, harg5.read_unread, harg6.read_unread, harg7.read_unread, harg8.read_unread, View.ld_unit_zero (S := S1024x256) hz, View.ld_unit_zero (S := S3x256) hz, View.ld_unit_zero (S := S8x256) hz, shapeCast_self]

/-- One entry of a tile: `Z`'s rows are the convolution's input. -/
theorem tile_read (i : grid0.Coords) (Z : Nat → Nat → EReal) (cc : Nat) (x0 x1 x3 : Vec Ideal S1024x256 .f32) (x2 x4 : Vec Ideal S8x256 .f32) (x5 : Vec Ideal S3x256 .f32)
    (hc : ∀ (r : Fin 1024) (l : Fin 256), x1 (ix2 r l) * x3 (ix2 r l) = Z (1024 * (i 1).val + r.val) (cc + l.val))
    (hp : 0 < (i 1).val → ∀ (r : Fin 8) (l : Fin 256), x2 (ix2 r l) * x4 (ix2 r l) = Z (1024 * (i 1).val + r.val - 8) (cc + l.val))
    (r : Fin 1024) (l : Fin 256) :
    k0_pay1 (F := Ideal) i x2 x4 x1 x3 x0 x5 (ix2 r l) = x0 (ix2 r l) * ((x5 (ix2 2 l) * Z (1024 * (i 1).val + r.val) (cc + l.val)
      + x5 (ix2 1 l) * bk 1 Z (1024 * (i 1).val + r.val) (cc + l.val)) + x5 (ix2 0 l) * bk 2 Z (1024 * (i 1).val + r.val) (cc + l.val)) := by
  have hi : (i 1).val < 4 := (i 1).isLt
  unfold k0_pay1
  pointwise
  rw [clear_eq hi]
  refine congrArg (_ * ·) (congrArg₂ (· + ·) (congrArg₂ (· + ·) (congrArg (_ * ·) (hc r l)) (congrArg (_ * ·) ?_)) (congrArg (_ * ·) ?_))
  · split
    · by_cases h0 : (i 1).val = 0
      · rw [if_pos h0, mul_zero]
        exact (if_neg (by omega)).symm
      · rw [if_neg h0, mul_one, hp (by omega)]
        exact (congrArg (fun e => Z e _) (by dsimp only; omega)).trans (if_pos (by omega)).symm
    · rw [hc]
      exact (congrArg (fun e => Z e _) (by dsimp only; omega)).trans (if_pos (by omega)).symm
  · split
    · by_cases h0 : (i 1).val = 0
      · rw [if_pos h0, mul_zero]
        exact (if_neg (by omega)).symm
      · rw [if_neg h0, mul_one, hp (by omega)]
        exact (congrArg (fun e => Z e _) (by dsimp only; omega)).trans (if_pos (by omega)).symm
    · rw [hc]
      exact (congrArg (fun e => Z e _) (by dsimp only; omega)).trans (if_pos (by omega)).symm

variable (m : (ℓ : Loc nD τ sig) → Buf (Elt Ideal) ℓ) (ρ : Dev nD → PrngReg) (c : Dev nD)

/-- Argument 0 as a matrix. -/
abbrev arg0 : Nat → Nat → EReal := at2 (n := 4096) (m := 2176) (m ((c : Thread nD τ).loc main_arg0))

/-- Argument 1 as a matrix. -/
abbrev arg1 : Nat → Nat → EReal := at2 (n := 3) (m := 512) (m ((c : Thread nD τ).loc main_arg1))

theorem point_lt (t : Fin cfg0.N) : t.val < 8 := t.isLt.trans_eq N_0

theorem index_0 : ∀ t : Fin grid0.N, win0_0.index t 0 = t.val % 4 ∧ win0_0.index t 1 = 2 + t.val / 4 := by decide +kernel

theorem index_1 : ∀ t : Fin grid0.N, win0_1.index t 0 = t.val % 4 ∧ win0_1.index t 1 = 4 + t.val / 4 := by decide +kernel

theorem index_2 : ∀ t : Fin grid0.N, win0_2.index t 0 = 128 * (t.val % 4) - 1 ∧ win0_2.index t 1 = 4 + t.val / 4 := by decide +kernel

theorem index_3 : ∀ t : Fin grid0.N, win0_3.index t 0 = t.val % 4 ∧ win0_3.index t 1 = 6 + t.val / 4 := by decide +kernel

theorem index_4 : ∀ t : Fin grid0.N, win0_4.index t 0 = 128 * (t.val % 4) - 1 ∧ win0_4.index t 1 = 6 + t.val / 4 := by decide +kernel

theorem index_5 : ∀ t : Fin grid0.N, win0_5.index t 0 = 0 ∧ win0_5.index t 1 = t.val / 4 := by decide +kernel

theorem index_6 : ∀ t : Fin grid0.N, win0_6.index t 0 = t.val % 4 ∧ win0_6.index t 1 = t.val / 4 := by decide +kernel

/-- What point `t` reads through window 0. -/
theorem iblk_0 (t : Fin cfg0.N) (r : Fin 1024) (l : Fin 256) :
    X0_0 m c t (ix2 r l) = arg0 m c ((t.val % 4) * 1024 + r.val) ((2 + t.val / 4) * 256 + l.val) := by
  have ht := point_lt t
  obtain ⟨i0, i1⟩ := index_0 t
  unfold X0_0 Pipeline.Window.fill
  rw [dif_pos (moved0_0 t _)]
  unfold iblk
  rw [View.read_apply]
  show V m c main_arg0 _ = _
  rw [V_main_arg0]
  exact at2_at _ _ (by show win0_0.index t 0 * 1024 + 1 * r.val = _; rw [i0]; omega)
    (by show win0_0.index t 1 * 256 + 1 * l.val = _; rw [i1]; omega)

/-- What point `t` reads through window 1. -/
theorem iblk_1 (t : Fin cfg0.N) (r : Fin 1024) (l : Fin 256) :
    X0_1 m c t (ix2 r l) = arg0 m c ((t.val % 4) * 1024 + r.val) ((4 + t.val / 4) * 256 + l.val) := by
  have ht := point_lt t
  obtain ⟨i0, i1⟩ := index_1 t
  unfold X0_1 Pipeline.Window.fill
  rw [dif_pos (moved0_1 t _)]
  unfold iblk
  rw [View.read_apply]
  show V m c main_arg0 _ = _
  rw [V_main_arg0]
  exact at2_at _ _ (by show win0_1.index t 0 * 1024 + 1 * r.val = _; rw [i0]; omega)
    (by show win0_1.index t 1 * 256 + 1 * l.val = _; rw [i1]; omega)

/-- What point `t` reads through window 2. -/
theorem iblk_2 (t : Fin cfg0.N) (r : Fin 8) (l : Fin 256) :
    X0_2 m c t (ix2 r l) = arg0 m c ((128 * (t.val % 4) - 1) * 8 + r.val) ((4 + t.val / 4) * 256 + l.val) := by
  have ht := point_lt t
  obtain ⟨i0, i1⟩ := index_2 t
  unfold X0_2 Pipeline.Window.fill
  rw [dif_pos (moved0_2 t _)]
  unfold iblk
  rw [View.read_apply]
  show V m c main_arg0 _ = _
  rw [V_main_arg0]
  exact at2_at _ _ (by show win0_2.index t 0 * 8 + 1 * r.val = _; rw [i0]; omega)
    (by show win0_2.index t 1 * 256 + 1 * l.val = _; rw [i1]; omega)

/-- What point `t` reads through window 3. -/
theorem iblk_3 (t : Fin cfg0.N) (r : Fin 1024) (l : Fin 256) :
    X0_3 m c t (ix2 r l) = arg0 m c ((t.val % 4) * 1024 + r.val) ((6 + t.val / 4) * 256 + l.val) := by
  have ht := point_lt t
  obtain ⟨i0, i1⟩ := index_3 t
  unfold X0_3 Pipeline.Window.fill
  rw [dif_pos (moved0_3 t _)]
  unfold iblk
  rw [View.read_apply]
  show V m c main_arg0 _ = _
  rw [V_main_arg0]
  exact at2_at _ _ (by show win0_3.index t 0 * 1024 + 1 * r.val = _; rw [i0]; omega)
    (by show win0_3.index t 1 * 256 + 1 * l.val = _; rw [i1]; omega)

/-- What point `t` reads through window 4. -/
theorem iblk_4 (t : Fin cfg0.N) (r : Fin 8) (l : Fin 256) :
    X0_4 m c t (ix2 r l) = arg0 m c ((128 * (t.val % 4) - 1) * 8 + r.val) ((6 + t.val / 4) * 256 + l.val) := by
  have ht := point_lt t
  obtain ⟨i0, i1⟩ := index_4 t
  unfold X0_4 Pipeline.Window.fill
  rw [dif_pos (moved0_4 t _)]
  unfold iblk
  rw [View.read_apply]
  show V m c main_arg0 _ = _
  rw [V_main_arg0]
  exact at2_at _ _ (by show win0_4.index t 0 * 8 + 1 * r.val = _; rw [i0]; omega)
    (by show win0_4.index t 1 * 256 + 1 * l.val = _; rw [i1]; omega)

/-- What point `t` reads through window 5. -/
theorem iblk_5 (t : Fin cfg0.N) (r : Fin 3) (l : Fin 256) :
    iblk m c 5 t (ix2 r l) = arg1 m c ((0) * 3 + r.val) ((t.val / 4) * 256 + l.val) := by
  have ht := point_lt t
  obtain ⟨i0, i1⟩ := index_5 t
  unfold iblk
  rw [View.read_apply]
  show V m c main_arg1 _ = _
  rw [V_main_arg1]
  exact at2_at _ _ (by show win0_5.index t 0 * 3 + 1 * r.val = _; rw [i0]; omega)
    (by show win0_5.index t 1 * 256 + 1 * l.val = _; rw [i1]; omega)

/-- The tile's row is the point's second coordinate. -/
theorem coord1 : ∀ t : Fin grid0.N, ((grid0.coords t) 1).val = t.val % 4 := by decide +kernel

/-- What point `t` leaves of the output. -/
theorem block_6 (t : Fin cfg0.N) (r : Fin 1024) (l : Fin 256) :
    (outsAt0 m c t) (ix2 r l) = gated (arg0 m c) (arg1 m c) ((t.val % 4) * 1024 + r.val) ((t.val / 4) * 256 + l.val) := by
  unfold outsAt0
  rw [out_A_6]
  refine (tile_read (grid0.coords t) (taps (arg0 m c)) (t.val / 4 * 256) _ _ _ _ _ _ (fun r l => ?_) (fun h r l => ?_) r l).trans ?_
  · rw [iblk_1, iblk_3, coord1]
    unfold taps
    exact congrArg₂ (· * ·) (congrArg₂ _ (by omega) (by omega)) (congrArg₂ _ (by omega) (by omega))
  · rw [coord1] at h
    rw [iblk_2, iblk_4, coord1]
    unfold taps
    exact congrArg₂ (· * ·) (congrArg₂ _ (by omega) (by omega)) (congrArg₂ _ (by omega) (by omega))
  · rw [iblk_0, iblk_5, iblk_5, iblk_5, coord1]
    unfold gated conv
    rw [show (2 + t.val / 4) * 256 + l.val = 512 + (t.val / 4 * 256 + l.val) by omega, show 1024 * (t.val % 4) + r.val = t.val % 4 * 1024 + r.val by omega,
      show (0 * 3 + (2 : Fin 3).val) = 2 from rfl, show (0 * 3 + (1 : Fin 3).val) = 1 from rfl, show (0 * 3 + (0 : Fin 3).val) = 0 from rfl]

/-- The whole result. -/
def result_6 : Buf (Elt Ideal) ((c : Thread nD τ).loc main_v0) := fun (q : S4096x512.Idx) => gated (arg0 m c) (arg1 m c) (q 0).val (q 1).val

theorem flushed_6 (t : Fin cfg0.N) (hf : (cfg0.win 6).flush t = true) :
    (dats m 0 c).flushed 6 t = ((cfg0.win 6).blk t).view.read (Elt Ideal) (result_6 m c) := by
  obtain ⟨i0, i1⟩ := index_6 t
  rw [Cert.Kernel30Ideal.Value.flushed6]
  funext j
  rw [View.read_apply]
  refine (congrArg (outsAt0 m c t) (eq_ix2 (j : S1024x256.Idx))).trans ?_
  refine (block_6 m c t (j 0) (j 1)).trans ?_
  show _ = gated (arg0 m c) (arg1 m c) (win0_6.index t 0 * 1024 + 1 * (j 0).val) (win0_6.index t 1 * 256 + 1 * (j 1).val)
  rw [i0, i1, one_mul, one_mul]

theorem final_6 : (dats m 0 c).arrAt 6 cfg0.N = result_6 m c :=
  (dats m 0 c).arrAt_eq_of_cover 6 (result_6 m c) (flushed_6 m c) fun i => by
    have h0 : (i 0 : Nat) < 4096 := (i 0).isLt
    have h1 : (i 1 : Nat) < 512 := (i 1).isLt
    have hN : cfg0.N = 8 := N_0
    obtain ⟨t, hv⟩ : ∃ t : Fin cfg0.N, t.val = 4 * ((i 1 : Nat) / 256) + (i 0 : Nat) / 1024 := ⟨⟨_, by omega⟩, rfl⟩
    have hx := index_6 t
    refine ⟨t, flush0_6 _, ?_⟩
    show i ∈ ((View.whole main_v0).slice (win0_6.rect t)).set
    rw [View.set_slice_whole, Rect.mem_set_unit]
    exact tile_at (by show _ * 1024 ≤ (i 0 : Nat) ∧ _ < _ * 1024 + 1024; rw [hx.1]; omega)
      (by show _ * 256 ≤ (i 1 : Nat) ∧ _ < _ * 256 + 256; rw [hx.2]; omega)

/-- The kernel's run: the results are the arrays above and the arguments are unchanged. -/
theorem run : θ_run defs (onTc (τ := τ) (main (F := Ideal))) ⟨m, fun _ => 0, ρ⟩ fun r => ∀ c : Dev nD,
      r.2.mem ((c : Thread nD τ).loc main_v0) = result_6 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_6 m c), (h c).2⟩)
    (Cert.Kernel30Ideal.Value.run_blocks m ρ)

end Cert.Kernel30Ideal.Conv

namespace Cert.Reference30Ideal.Conv

open Idealize.ShloMosaic Idealize.SL.Sem
open Cert.Reference30Ideal Cert.Reference30Ideal.Gen Cert.Reference30Ideal.Read Cert.Ffn Cert.Kernel30Ideal.Conv

/-- The reference runs, keeps its arguments and leaves every counter at zero. -/
theorem frame : Cert.quiescent_Reference30Ideal := fun m ρ _ =>
  (θ_run Cert.Reference30Ideal.defs _ _).mono (fun r h => ⟨fun c => (h c).2, sem_eq_zero_of_no_sems (by decide) r.2⟩)
    (Cert.Reference30Ideal.Value.run m ρ)

/-- One entry of the reference's result. -/
theorem val_main_v23_read (x0 : (⟨S4096x2176, .f32⟩ : BufTy).Contents (Elt Ideal)) (x1 : (⟨S3x512, .f32⟩ : BufTy).Contents (Elt Ideal))
    (p : Fin 4096) (q : Fin 512) :
    val_main_v23 (F := Ideal) x0 x1 (ix2 p q) = gated (at2 (n := 4096) (m := 2176) x0) (at2 (n := 3) (m := 512) x1) p.val q.val := by
  have hb : ∀ k : Nat, bk k (taps (at2 (n := 4096) (m := 2176) x0)) p.val q.val = if h : p.val < k then 0
      else x0 (ix2 ⟨p.val - k, by omega⟩ ⟨1024 + q.val, by omega⟩) * x0 (ix2 ⟨p.val - k, by omega⟩ ⟨1536 + q.val, by omega⟩) := fun k => by
    unfold bk taps
    by_cases h : p.val < k
    · rw [dif_pos h, if_neg (by omega)]
    · rw [dif_neg h, if_pos (by omega), at2_of_lt _ (by omega) (by omega), at2_of_lt _ (by omega) (by omega)]
  unfold gated conv
  rw [← bk_zero (taps (at2 (n := 4096) (m := 2176) x0)), hb 0, hb 1, hb 2]
  rw [show at2 (n := 4096) (m := 2176) x0 p.val (512 + q.val) = x0 (ix2 p ⟨512 + q.val, by omega⟩) from at2_of_lt _ (by omega) (by omega),
    show at2 (n := 3) (m := 512) x1 2 q.val = x1 (ix2 2 q) from at2_ix2 x1 2 q, show at2 (n := 3) (m := 512) x1 1 q.val = x1 (ix2 1 q) from at2_ix2 x1 1 q, show at2 (n := 3) (m := 512) x1 0 q.val = x1 (ix2 0 q) from at2_ix2 x1 0 q]
  unfold val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v3 val_main_v2 val_main_v1 val_main_cst
  pointwise
  refine congrArg (_ * ·) ?_
  rw [add_comm, add_comm (x1 (ix2 0 q) * _), ← add_assoc]
  refine congrArg₂ (· + ·) (congrArg₂ (· + ·) (congrArg (_ * ·) ?_) (congrArg (_ * ·) ?_)) (congrArg (_ * ·) ?_)
  · rw [dif_neg (Nat.not_lt_zero _)]
  · by_cases h : p.val < 1
    · rw [dif_pos h, dif_pos (by omega)]
    · rw [dif_neg h, dif_neg (by omega)]
      have e : 1 + p.val - 2 = p.val - 1 := by omega
      simp only [e]
  · rfl
end Cert.Reference30Ideal.Conv

namespace Cert.Kernel30Ideal.Conv

open Idealize.ShloMosaic Idealize.SL.Sem Cert.Ffn

/-- The kernel and the reference end with the same arrays. -/
theorem algebraic : Cert.algebraic_Kernel30Ideal_Reference30Ideal := by
  intro m g m' g' _ hargs
  refine ⟨result_6 m, run m g, ?_⟩
  refine (θ_run Cert.Reference30Ideal.defs _ _).mono (fun r h c => ?_) (Cert.Reference30Ideal.Value.run (F := Ideal) m' g')
  obtain ⟨a0, a1⟩ := hargs c
  refine ⟨(h c).1.trans ?_, (h c).2⟩
  · rw [Cert.Reference30Ideal.Read.val_main_v23_eq, a0, a1]
    refine funext fun i => ?_
    rw [eq_ix2 i]
    exact Cert.Reference30Ideal.Conv.val_main_v23_read _ _ (i 0) (i 1)

end Cert.Kernel30Ideal.Conv

end
-- ==== Proof.FfnOut.lean ====
/-
  What one grid point of the feed-forward backward kernel leaves in its four output buffers, as the printed operations of
  the eleven blocks it loads.  A first row tile (case A) starts the two filter gradients from zero, a later one (case B)
  adds to what the tile before left.
-/
module

public import proofs.«01_k».proof.Proof.Gen.KernelIdeal.Value
public import Idealize.ShloMosaic.Lib.Pipeline.RowLoads
public import Idealize.ShloMosaic.Lib.Pipeline.ReadBack
public import Idealize.ShloMosaic.Lib.Pointwise

@[expose] public section

noncomputable section

namespace Cert.KernelIdeal.FfnOut

open Idealize.ShloMosaic Idealize.SL.Sem Idealize.ShloMosaic.View
open Cert.KernelIdeal Cert.KernelIdeal.Gen

variable {F : FTy → Type} [FloatOps F]

theorem hz : (![0, 0] : Fin 2 → Nat) = fun _ => 0 := funext fun a => by fin_cases a <;> rfl

/-- The gradient of the gate half's convolution, on the tile's rows and the eight after it. -/
def dGate (i : grid0.Coords) (x0 : Vec F S1024x256 .f32) (x1 : Vec F S8x256 .f32) (x2 : Vec F S8x256 .f32) (x3 : Vec F S1024x256 .f32) (x4 : Vec F S8x256 .f32) (x5 : Vec F S8x256 .f32) (x6 : Vec F S3x256 .f32) (x7 : Vec F S3x256 .f32) (x8 : Vec F S1024x1024 .bf16) (x9 : Vec F S16x1024 .bf16) (x10 : Vec F S256x1024 .bf16) : FVec F S1032x256 .f32 :=
  k0_pay16 (k0_pay2 (F := F) i) x6 x7 (k0_pay6 i x4 x3 x5) (k0_pay8 i x1 x0 x2) (k0_pay9 i x4 x3 x5) (k0_pay10 i x4 x3 x5)
    (k0_pay11 i x6 x1 x0 x2) (k0_pay12 i x6 x1 x0 x2) x10 x8 x9

/-- The gradient of the value half's convolution, on the same rows. -/
def dVal (i : grid0.Coords) (x0 : Vec F S1024x256 .f32) (x1 : Vec F S8x256 .f32) (x2 : Vec F S8x256 .f32) (x3 : Vec F S1024x256 .f32) (x4 : Vec F S8x256 .f32) (x5 : Vec F S8x256 .f32) (x6 : Vec F S3x256 .f32) (x7 : Vec F S3x256 .f32) (x8 : Vec F S1024x1024 .bf16) (x9 : Vec F S16x1024 .bf16) (x10 : Vec F S256x1024 .bf16) : FVec F S1032x256 .f32 :=
  k0_pay17 (k0_pay2 (F := F) i) x6 (k0_pay8 i x1 x0 x2) (k0_pay11 i x6 x1 x0 x2) (k0_pay12 i x6 x1 x0 x2) x10 x8 x9

/-- The first two taps of the transposed convolution of the gate half's gradient. -/
def dTaps (i : grid0.Coords) (x0 : Vec F S1024x256 .f32) (x1 : Vec F S8x256 .f32) (x2 : Vec F S8x256 .f32) (x3 : Vec F S1024x256 .f32) (x4 : Vec F S8x256 .f32) (x5 : Vec F S8x256 .f32) (x6 : Vec F S3x256 .f32) (x7 : Vec F S3x256 .f32) (x8 : Vec F S1024x1024 .bf16) (x9 : Vec F S16x1024 .bf16) (x10 : Vec F S256x1024 .bf16) : FVec F S1032x256 .f32 :=
  k0_pay18 (k0_pay2 (F := F) i) x6 x7 (k0_pay6 i x4 x3 x5) (k0_pay8 i x1 x0 x2) (k0_pay9 i x4 x3 x5) (k0_pay10 i x4 x3 x5)
    (k0_pay11 i x6 x1 x0 x2) (k0_pay12 i x6 x1 x0 x2) x10 x8 x9

theorem out_A_11 (c : Dev nD) (i : grid0.Coords) (arg2 : Memref sig .tc .vmem S1024x256 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S1024x256 .f32) (harg5 : arg5.IsWhole) (arg6 : Memref sig .tc .vmem S8x256 .f32) (harg6 : arg6.IsWhole) (arg7 : Memref sig .tc .vmem S8x256 .f32) (harg7 : arg7.IsWhole) (arg8 : Memref sig .tc .vmem S3x256 .f32) (harg8 : arg8.IsWhole) (arg9 : Memref sig .tc .vmem S3x256 .f32) (harg9 : arg9.IsWhole) (arg10 : Memref sig .tc .vmem S1024x1024 .bf16) (harg10 : arg10.IsWhole) (arg11 : Memref sig .tc .vmem S16x1024 .bf16) (harg11 : arg11.IsWhole) (arg12 : Memref sig .tc .vmem S256x1024 .bf16) (harg12 : arg12.IsWhole) (arg13 : Memref sig .tc .vmem S1024x256 .bf16) (harg13 : arg13.IsWhole) (arg14 : Memref sig .tc .vmem S1024x256 .bf16) (harg14 : arg14.IsWhole) (arg15 : Memref sig .tc .vmem S3x256 .f32) (harg15 : arg15.IsWhole) (arg16 : Memref sig .tc .vmem S3x256 .f32) (harg16 : arg16.IsWhole) (hc : cond0_0 i) (x0 : Vec F S1024x256 .f32) (x1 : Vec F S8x256 .f32) (x2 : Vec F S8x256 .f32) (x3 : Vec F S1024x256 .f32) (x4 : Vec F S8x256 .f32) (x5 : Vec F S8x256 .f32) (x6 : Vec F S3x256 .f32) (x7 : Vec F S3x256 .f32) (x8 : Vec F S1024x1024 .bf16) (x9 : Vec F S16x1024 .bf16) (x10 : Vec F S256x1024 .bf16) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9 x10 = k0_pay19 x6 (dGate i x0 x1 x2 x3 x4 x5 x6 x7 x8 x9 x10) (dTaps i x0 x1 x2 x3 x4 x5 x6 x7 x8 x9 x10) := by
  unfold out0_A_11
  rw [View.read_writes_eq_canon _ _ _ (fun _ => cover0_A_11 ..)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x256) hz, View.ld_unit_zero (S := S8x256) hz, View.ld_unit_zero (S := S3x256) hz, View.ld_unit_zero (S := S1024x1024) hz, View.ld_unit_zero (S := S16x1024) hz, View.ld_unit_zero (S := S256x1024) hz, shapeCast_self]
  rfl

theorem out_A_12 (c : Dev nD) (i : grid0.Coords) (arg2 : Memref sig .tc .vmem S1024x256 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S1024x256 .f32) (harg5 : arg5.IsWhole) (arg6 : Memref sig .tc .vmem S8x256 .f32) (harg6 : arg6.IsWhole) (arg7 : Memref sig .tc .vmem S8x256 .f32) (harg7 : arg7.IsWhole) (arg8 : Memref sig .tc .vmem S3x256 .f32) (harg8 : arg8.IsWhole) (arg9 : Memref sig .tc .vmem S3x256 .f32) (harg9 : arg9.IsWhole) (arg10 : Memref sig .tc .vmem S1024x1024 .bf16) (harg10 : arg10.IsWhole) (arg11 : Memref sig .tc .vmem S16x1024 .bf16) (harg11 : arg11.IsWhole) (arg12 : Memref sig .tc .vmem S256x1024 .bf16) (harg12 : arg12.IsWhole) (arg13 : Memref sig .tc .vmem S1024x256 .bf16) (harg13 : arg13.IsWhole) (arg14 : Memref sig .tc .vmem S1024x256 .bf16) (harg14 : arg14.IsWhole) (arg15 : Memref sig .tc .vmem S3x256 .f32) (harg15 : arg15.IsWhole) (arg16 : Memref sig .tc .vmem S3x256 .f32) (harg16 : arg16.IsWhole) (hc : cond0_0 i) (x0 : Vec F S1024x256 .f32) (x1 : Vec F S8x256 .f32) (x2 : Vec F S8x256 .f32) (x3 : Vec F S1024x256 .f32) (x4 : Vec F S8x256 .f32) (x5 : Vec F S8x256 .f32) (x6 : Vec F S3x256 .f32) (x7 : Vec F S3x256 .f32) (x8 : Vec F S1024x1024 .bf16) (x9 : Vec F S16x1024 .bf16) (x10 : Vec F S256x1024 .bf16) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9 x10 = k0_pay20 x7 (dVal i x0 x1 x2 x3 x4 x5 x6 x7 x8 x9 x10) := by
  unfold out0_A_12
  rw [View.read_writes_eq_canon _ _ _ (fun _ => cover0_A_12 ..)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x256) hz, View.ld_unit_zero (S := S8x256) hz, View.ld_unit_zero (S := S3x256) hz, View.ld_unit_zero (S := S1024x1024) hz, View.ld_unit_zero (S := S16x1024) hz, View.ld_unit_zero (S := S256x1024) hz, shapeCast_self]
  rfl

theorem out_B_11 (c : Dev nD) (i : grid0.Coords) (arg2 : Memref sig .tc .vmem S1024x256 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S1024x256 .f32) (harg5 : arg5.IsWhole) (arg6 : Memref sig .tc .vmem S8x256 .f32) (harg6 : arg6.IsWhole) (arg7 : Memref sig .tc .vmem S8x256 .f32) (harg7 : arg7.IsWhole) (arg8 : Memref sig .tc .vmem S3x256 .f32) (harg8 : arg8.IsWhole) (arg9 : Memref sig .tc .vmem S3x256 .f32) (harg9 : arg9.IsWhole) (arg10 : Memref sig .tc .vmem S1024x1024 .bf16) (harg10 : arg10.IsWhole) (arg11 : Memref sig .tc .vmem S16x1024 .bf16) (harg11 : arg11.IsWhole) (arg12 : Memref sig .tc .vmem S256x1024 .bf16) (harg12 : arg12.IsWhole) (arg13 : Memref sig .tc .vmem S1024x256 .bf16) (harg13 : arg13.IsWhole) (arg14 : Memref sig .tc .vmem S1024x256 .bf16) (harg14 : arg14.IsWhole) (arg15 : Memref sig .tc .vmem S3x256 .f32) (harg15 : arg15.IsWhole) (arg16 : Memref sig .tc .vmem S3x256 .f32) (harg16 : arg16.IsWhole) (hc : ¬cond0_0 i) (x0 : Vec F S1024x256 .f32) (x1 : Vec F S8x256 .f32) (x2 : Vec F S8x256 .f32) (x3 : Vec F S1024x256 .f32) (x4 : Vec F S8x256 .f32) (x5 : Vec F S8x256 .f32) (x6 : Vec F S3x256 .f32) (x7 : Vec F S3x256 .f32) (x8 : Vec F S1024x1024 .bf16) (x9 : Vec F S16x1024 .bf16) (x10 : Vec F S256x1024 .bf16) (y13 : Vec F S3x256 .f32) (y14 : Vec F S3x256 .f32) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9 x10 y13 y14 = k0_pay19 x6 (dGate i x0 x1 x2 x3 x4 x5 x6 x7 x8 x9 x10) (dTaps i x0 x1 x2 x3 x4 x5 x6 x7 x8 x9 x10) := by
  unfold out0_B_11
  rw [View.read_writes_eq_canon _ _ _ (fun _ => cover0_B_11 ..)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x256) hz, View.ld_unit_zero (S := S8x256) hz, View.ld_unit_zero (S := S3x256) hz, View.ld_unit_zero (S := S1024x1024) hz, View.ld_unit_zero (S := S16x1024) hz, View.ld_unit_zero (S := S256x1024) hz, shapeCast_self]
  rfl

theorem out_B_12 (c : Dev nD) (i : grid0.Coords) (arg2 : Memref sig .tc .vmem S1024x256 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S1024x256 .f32) (harg5 : arg5.IsWhole) (arg6 : Memref sig .tc .vmem S8x256 .f32) (harg6 : arg6.IsWhole) (arg7 : Memref sig .tc .vmem S8x256 .f32) (harg7 : arg7.IsWhole) (arg8 : Memref sig .tc .vmem S3x256 .f32) (harg8 : arg8.IsWhole) (arg9 : Memref sig .tc .vmem S3x256 .f32) (harg9 : arg9.IsWhole) (arg10 : Memref sig .tc .vmem S1024x1024 .bf16) (harg10 : arg10.IsWhole) (arg11 : Memref sig .tc .vmem S16x1024 .bf16) (harg11 : arg11.IsWhole) (arg12 : Memref sig .tc .vmem S256x1024 .bf16) (harg12 : arg12.IsWhole) (arg13 : Memref sig .tc .vmem S1024x256 .bf16) (harg13 : arg13.IsWhole) (arg14 : Memref sig .tc .vmem S1024x256 .bf16) (harg14 : arg14.IsWhole) (arg15 : Memref sig .tc .vmem S3x256 .f32) (harg15 : arg15.IsWhole) (arg16 : Memref sig .tc .vmem S3x256 .f32) (harg16 : arg16.IsWhole) (hc : ¬cond0_0 i) (x0 : Vec F S1024x256 .f32) (x1 : Vec F S8x256 .f32) (x2 : Vec F S8x256 .f32) (x3 : Vec F S1024x256 .f32) (x4 : Vec F S8x256 .f32) (x5 : Vec F S8x256 .f32) (x6 : Vec F S3x256 .f32) (x7 : Vec F S3x256 .f32) (x8 : Vec F S1024x1024 .bf16) (x9 : Vec F S16x1024 .bf16) (x10 : Vec F S256x1024 .bf16) (y13 : Vec F S3x256 .f32) (y14 : Vec F S3x256 .f32) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9 x10 y13 y14 = k0_pay20 x7 (dVal i x0 x1 x2 x3 x4 x5 x6 x7 x8 x9 x10) := by
  unfold out0_B_12
  rw [View.read_writes_eq_canon _ _ _ (fun _ => cover0_B_12 ..)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x256) hz, View.ld_unit_zero (S := S8x256) hz, View.ld_unit_zero (S := S3x256) hz, View.ld_unit_zero (S := S1024x1024) hz, View.ld_unit_zero (S := S16x1024) hz, View.ld_unit_zero (S := S256x1024) hz, shapeCast_self]
  rfl

/-- One tile's share of the gate half's filter gradient, one row for each tap. -/
def gateTap (i : grid0.Coords) (x0 : Vec F S1024x256 .f32) (x1 : Vec F S8x256 .f32) (x2 : Vec F S8x256 .f32) (x3 : Vec F S1024x256 .f32) (x4 : Vec F S8x256 .f32) (x5 : Vec F S8x256 .f32) (x6 : Vec F S3x256 .f32) (x7 : Vec F S3x256 .f32) (x8 : Vec F S1024x1024 .bf16) (x9 : Vec F S16x1024 .bf16) (x10 : Vec F S256x1024 .bf16) (a : Fin 3) : FVec F S1x256 .f32 :=
  match a with
  | 0 => k0_pay22 (k0_pay8 i x1 x0 x2) (dGate i x0 x1 x2 x3 x4 x5 x6 x7 x8 x9 x10)
  | 1 => k0_pay23 (k0_pay7 i x1 x0 x2) (dGate i x0 x1 x2 x3 x4 x5 x6 x7 x8 x9 x10)
  | 2 => k0_pay24 (k0_pay5 i x1 x0 x2) (dGate i x0 x1 x2 x3 x4 x5 x6 x7 x8 x9 x10)

/-- The row the value half's last tap sums, before it is added to what the buffer holds. -/
def lastRow (v22 : FVec F S1040x256 .f32) (v119 : FVec F S1024x256 .f32) : FVec F S1x256 .f32 :=
  shapeCast S1x256 (multiReduction .add [0] S256 (mulf v119 (extractStridedSlice S1024x256 ![8, 0] v22 slices_S1040x256_o8_0_S1024x256))
    0x00000000#32 reduces_S1024x256_S256 (.inl rfl) rfl) shapeCasts_S256_S1x256

/-- One tile's share of the value half's filter gradient, one row for each tap. -/
def valTap (i : grid0.Coords) (x0 : Vec F S1024x256 .f32) (x1 : Vec F S8x256 .f32) (x2 : Vec F S8x256 .f32) (x3 : Vec F S1024x256 .f32) (x4 : Vec F S8x256 .f32) (x5 : Vec F S8x256 .f32) (x6 : Vec F S3x256 .f32) (x7 : Vec F S3x256 .f32) (x8 : Vec F S1024x1024 .bf16) (x9 : Vec F S16x1024 .bf16) (x10 : Vec F S256x1024 .bf16) (a : Fin 3) : FVec F S1x256 .f32 :=
  match a with
  | 0 => k0_pay26 (k0_pay10 i x4 x3 x5) (dVal i x0 x1 x2 x3 x4 x5 x6 x7 x8 x9 x10)
  | 1 => k0_pay27 (k0_pay9 i x4 x3 x5) (dVal i x0 x1 x2 x3 x4 x5 x6 x7 x8 x9 x10)
  | 2 => lastRow (k0_pay6 i x4 x3 x5) (k0_pay25 (dVal i x0 x1 x2 x3 x4 x5 x6 x7 x8 x9 x10))

/-- Where the newest piece is row `k`, the buffer's row `k` holds it. -/
theorem canon_row_hit {Val : EltTy → Type} [∀ e, Nonempty (Val e)] {e : EltTy} (k : Nat) (hk : k < 3)
    (inb : ∀ a, (![k, 0] : Fin 2 → Nat) a + S1x256.size a ≤ S3x256.size a) (w : S1x256.Idx → Val e)
    (L : List (Piece Val S3x256 e)) (l : Fin 256) :
    canon ((⟨Rect.unit (s := S3x256) ![k, 0] S1x256.size inb, w⟩ : Piece Val S3x256 e) :: L) (ix2 (⟨k, hk⟩ : Fin 3) l)
      = w (ix2 (0 : Fin 1) l) := by
  have he : (Rect.unit (s := S3x256) ![k, 0] S1x256.size inb).emb (ix2 (0 : Fin 1) l) = ix2 (⟨k, hk⟩ : Fin 3) l := by
    funext x; apply Fin.ext
    fin_cases x
    · show k + 1 * 0 = k; omega
    · show 0 + 1 * l.val = l.val; omega
  rw [← he]
  exact canon_cons_emb (Rect.unit (s := S3x256) ![k, 0] S1x256.size inb) w L _

/-- Where the newest piece is another row, the buffer's row `k'` holds what the earlier pieces left. -/
theorem canon_row_skip {Val : EltTy → Type} [∀ e, Nonempty (Val e)] {e : EltTy} (k k' : Nat) (hne : k ≠ k') (hk' : k' < 3)
    (inb : ∀ a, (![k, 0] : Fin 2 → Nat) a + S1x256.size a ≤ S3x256.size a) (w : S1x256.Idx → Val e)
    (L : List (Piece Val S3x256 e)) (l : Fin 256) :
    canon ((⟨Rect.unit (s := S3x256) ![k, 0] S1x256.size inb, w⟩ : Piece Val S3x256 e) :: L) (ix2 (⟨k', hk'⟩ : Fin 3) l)
      = canon L (ix2 (⟨k', hk'⟩ : Fin 3) l) := by
  refine canon_cons_of_not_mem _ L ?_
  intro hm
  obtain ⟨i, hi, h⟩ := (LoadRect.mem_set _).mp hm (0 : Fin 2)
  have hi1 : i < 1 := hi
  have h' : k' = k + 1 * i := h
  omega

/-- Row `a` of a three-row buffer written one row at a time holds the row stored there. -/
theorem canon_rows3 {Val : EltTy → Type} [∀ e, Nonempty (Val e)] {e : EltTy} (w0 w1 w2 : S1x256.Idx → Val e)
    (L : List (Piece Val S3x256 e))
    (inb0 : ∀ a, (![0, 0] : Fin 2 → Nat) a + S1x256.size a ≤ S3x256.size a)
    (inb1 : ∀ a, (![1, 0] : Fin 2 → Nat) a + S1x256.size a ≤ S3x256.size a)
    (inb2 : ∀ a, (![2, 0] : Fin 2 → Nat) a + S1x256.size a ≤ S3x256.size a) (a : Fin 3) (l : Fin 256) :
    canon ((⟨Rect.unit (s := S3x256) ![2, 0] S1x256.size inb2, w2⟩ : Piece Val S3x256 e)
      :: (⟨Rect.unit (s := S3x256) ![1, 0] S1x256.size inb1, w1⟩ : Piece Val S3x256 e)
      :: (⟨Rect.unit (s := S3x256) ![0, 0] S1x256.size inb0, w0⟩ : Piece Val S3x256 e) :: L) (ix2 a l)
      = (match a with | 0 => w0 | 1 => w1 | 2 => w2) (ix2 (0 : Fin 1) l) := by
  match a with
  | 0 =>
    exact (canon_row_skip 2 0 (by decide) (by decide) inb2 w2 _ l).trans
      ((canon_row_skip 1 0 (by decide) (by decide) inb1 w1 _ l).trans (canon_row_hit 0 (by decide) inb0 w0 L l))
  | 1 =>
    exact (canon_row_skip 2 1 (by decide) (by decide) inb2 w2 _ l).trans (canon_row_hit 1 (by decide) inb1 w1 _ l)
  | 2 => exact canon_row_hit 2 (by decide) inb2 w2 _ l

/-- A row of a three-row array, read through the row's rectangle. -/
theorem ld_row {Val : EltTy → Type} {e : EltTy} (X : S3x256.Idx → Val e) (k : Fin 3)
    (inb : ∀ a, (![k.val, 0] : Fin 2 → Nat) a + S1x256.size a ≤ S3x256.size a) (l : Fin 256) :
    ld X (Rect.unit (s := S3x256) ![k.val, 0] S1x256.size inb) (ix2 (0 : Fin 1) l) = X (ix2 k l) := by
  refine congrArg X ?_
  funext x; apply Fin.ext
  fin_cases x
  · show k.val + 1 * 0 = k.val; omega
  · show 0 + 1 * l.val = l.val; omega

/-- A first row tile leaves its share of the filter gradient added to zero. -/
theorem out_A_13 (c : Dev nD) (i : grid0.Coords) (arg2 : Memref sig .tc .vmem S1024x256 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S1024x256 .f32) (harg5 : arg5.IsWhole) (arg6 : Memref sig .tc .vmem S8x256 .f32) (harg6 : arg6.IsWhole) (arg7 : Memref sig .tc .vmem S8x256 .f32) (harg7 : arg7.IsWhole) (arg8 : Memref sig .tc .vmem S3x256 .f32) (harg8 : arg8.IsWhole) (arg9 : Memref sig .tc .vmem S3x256 .f32) (harg9 : arg9.IsWhole) (arg10 : Memref sig .tc .vmem S1024x1024 .bf16) (harg10 : arg10.IsWhole) (arg11 : Memref sig .tc .vmem S16x1024 .bf16) (harg11 : arg11.IsWhole) (arg12 : Memref sig .tc .vmem S256x1024 .bf16) (harg12 : arg12.IsWhole) (arg13 : Memref sig .tc .vmem S1024x256 .bf16) (harg13 : arg13.IsWhole) (arg14 : Memref sig .tc .vmem S1024x256 .bf16) (harg14 : arg14.IsWhole) (arg15 : Memref sig .tc .vmem S3x256 .f32) (harg15 : arg15.IsWhole) (arg16 : Memref sig .tc .vmem S3x256 .f32) (harg16 : arg16.IsWhole) (hc : cond0_0 i) (x0 : Vec F S1024x256 .f32) (x1 : Vec F S8x256 .f32) (x2 : Vec F S8x256 .f32) (x3 : Vec F S1024x256 .f32) (x4 : Vec F S8x256 .f32) (x5 : Vec F S8x256 .f32) (x6 : Vec F S3x256 .f32) (x7 : Vec F S3x256 .f32) (x8 : Vec F S1024x1024 .bf16) (x9 : Vec F S16x1024 .bf16) (x10 : Vec F S256x1024 .bf16)
    (a : Fin 3) (l : Fin 256) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9 x10 (ix2 a l)
      = FloatOps.addf (Scalar.ofBits .f32 0x00000000#32) (gateTap i x0 x1 x2 x3 x4 x5 x6 x7 x8 x9 x10 a (ix2 (0 : Fin 1) l)) := by
  unfold out0_A_13
  rw [View.read_writes_eq_canon _ _ _ (fun _ => cover0_A_13 ..)]
  unfold kernelRun0_A
  dsimp only
  sl_unfold_words
  refine (canon_rows3 _ _ _ _ _ _ _ a l).trans ?_
  match a with
  | 0 =>
    simp only [↓View.readCov_skip, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x256) hz, View.ld_unit_zero (S := S8x256) hz, View.ld_unit_zero (S := S3x256) hz, View.ld_unit_zero (S := S1024x1024) hz, View.ld_unit_zero (S := S16x1024) hz, View.ld_unit_zero (S := S256x1024) hz, shapeCast_self]
    try rw [View.readCov_skip _ _ _ _ _ (by decide)]
    try rw [View.readCov_skip _ _ _ _ _ (by decide)]
    rw [View.readCov_fill _ _ _ _ _ (fun a => by fin_cases a <;> rfl)]
    unfold k0_pay28
    simp only [shapeCast_self]
    rfl
  | 1 =>
    simp only [↓View.readCov_skip, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x256) hz, View.ld_unit_zero (S := S8x256) hz, View.ld_unit_zero (S := S3x256) hz, View.ld_unit_zero (S := S1024x1024) hz, View.ld_unit_zero (S := S16x1024) hz, View.ld_unit_zero (S := S256x1024) hz, shapeCast_self]
    try rw [View.readCov_skip _ _ _ _ _ (by decide)]
    try rw [View.readCov_skip _ _ _ _ _ (by decide)]
    rw [View.readCov_fill _ _ _ _ _ (fun a => by fin_cases a <;> rfl)]
    unfold k0_pay30
    simp only [shapeCast_self]
    rfl
  | 2 =>
    simp only [↓View.readCov_skip, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x256) hz, View.ld_unit_zero (S := S8x256) hz, View.ld_unit_zero (S := S3x256) hz, View.ld_unit_zero (S := S1024x1024) hz, View.ld_unit_zero (S := S16x1024) hz, View.ld_unit_zero (S := S256x1024) hz, shapeCast_self]
    try rw [View.readCov_skip _ _ _ _ _ (by decide)]
    try rw [View.readCov_skip _ _ _ _ _ (by decide)]
    rw [View.readCov_fill _ _ _ _ _ (fun a => by fin_cases a <;> rfl)]
    unfold k0_pay32
    simp only [shapeCast_self]
    rfl

/-- A first row tile leaves its share of the filter gradient added to zero. -/
theorem out_A_14 (c : Dev nD) (i : grid0.Coords) (arg2 : Memref sig .tc .vmem S1024x256 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S1024x256 .f32) (harg5 : arg5.IsWhole) (arg6 : Memref sig .tc .vmem S8x256 .f32) (harg6 : arg6.IsWhole) (arg7 : Memref sig .tc .vmem S8x256 .f32) (harg7 : arg7.IsWhole) (arg8 : Memref sig .tc .vmem S3x256 .f32) (harg8 : arg8.IsWhole) (arg9 : Memref sig .tc .vmem S3x256 .f32) (harg9 : arg9.IsWhole) (arg10 : Memref sig .tc .vmem S1024x1024 .bf16) (harg10 : arg10.IsWhole) (arg11 : Memref sig .tc .vmem S16x1024 .bf16) (harg11 : arg11.IsWhole) (arg12 : Memref sig .tc .vmem S256x1024 .bf16) (harg12 : arg12.IsWhole) (arg13 : Memref sig .tc .vmem S1024x256 .bf16) (harg13 : arg13.IsWhole) (arg14 : Memref sig .tc .vmem S1024x256 .bf16) (harg14 : arg14.IsWhole) (arg15 : Memref sig .tc .vmem S3x256 .f32) (harg15 : arg15.IsWhole) (arg16 : Memref sig .tc .vmem S3x256 .f32) (harg16 : arg16.IsWhole) (hc : cond0_0 i) (x0 : Vec F S1024x256 .f32) (x1 : Vec F S8x256 .f32) (x2 : Vec F S8x256 .f32) (x3 : Vec F S1024x256 .f32) (x4 : Vec F S8x256 .f32) (x5 : Vec F S8x256 .f32) (x6 : Vec F S3x256 .f32) (x7 : Vec F S3x256 .f32) (x8 : Vec F S1024x1024 .bf16) (x9 : Vec F S16x1024 .bf16) (x10 : Vec F S256x1024 .bf16)
    (a : Fin 3) (l : Fin 256) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9 x10 (ix2 a l)
      = FloatOps.addf (Scalar.ofBits .f32 0x00000000#32) (valTap i x0 x1 x2 x3 x4 x5 x6 x7 x8 x9 x10 a (ix2 (0 : Fin 1) l)) := by
  unfold out0_A_14
  rw [View.read_writes_eq_canon _ _ _ (fun _ => cover0_A_14 ..)]
  unfold kernelRun0_A
  dsimp only
  sl_unfold_words
  refine (canon_rows3 _ _ _ _ _ _ _ a l).trans ?_
  match a with
  | 0 =>
    simp only [↓View.readCov_skip, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x256) hz, View.ld_unit_zero (S := S8x256) hz, View.ld_unit_zero (S := S3x256) hz, View.ld_unit_zero (S := S1024x1024) hz, View.ld_unit_zero (S := S16x1024) hz, View.ld_unit_zero (S := S256x1024) hz, shapeCast_self]
    try rw [View.readCov_skip _ _ _ _ _ (by decide)]
    try rw [View.readCov_skip _ _ _ _ _ (by decide)]
    rw [View.readCov_fill _ _ _ _ _ (fun a => by fin_cases a <;> rfl)]
    unfold k0_pay29
    simp only [shapeCast_self]
    rfl
  | 1 =>
    simp only [↓View.readCov_skip, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x256) hz, View.ld_unit_zero (S := S8x256) hz, View.ld_unit_zero (S := S3x256) hz, View.ld_unit_zero (S := S1024x1024) hz, View.ld_unit_zero (S := S16x1024) hz, View.ld_unit_zero (S := S256x1024) hz, shapeCast_self]
    try rw [View.readCov_skip _ _ _ _ _ (by decide)]
    try rw [View.readCov_skip _ _ _ _ _ (by decide)]
    rw [View.readCov_fill _ _ _ _ _ (fun a => by fin_cases a <;> rfl)]
    unfold k0_pay31
    simp only [shapeCast_self]
    rfl
  | 2 =>
    simp only [↓View.readCov_skip, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x256) hz, View.ld_unit_zero (S := S8x256) hz, View.ld_unit_zero (S := S3x256) hz, View.ld_unit_zero (S := S1024x1024) hz, View.ld_unit_zero (S := S16x1024) hz, View.ld_unit_zero (S := S256x1024) hz, shapeCast_self]
    try rw [View.readCov_skip _ _ _ _ _ (by decide)]
    try rw [View.readCov_skip _ _ _ _ _ (by decide)]
    rw [View.readCov_fill _ _ _ _ _ (fun a => by fin_cases a <;> rfl)]
    unfold k0_pay33
    simp only [shapeCast_self]
    rfl

/-- A later row tile adds its share of the filter gradient to what the buffer holds. -/
theorem out_B_13 (c : Dev nD) (i : grid0.Coords) (arg2 : Memref sig .tc .vmem S1024x256 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S1024x256 .f32) (harg5 : arg5.IsWhole) (arg6 : Memref sig .tc .vmem S8x256 .f32) (harg6 : arg6.IsWhole) (arg7 : Memref sig .tc .vmem S8x256 .f32) (harg7 : arg7.IsWhole) (arg8 : Memref sig .tc .vmem S3x256 .f32) (harg8 : arg8.IsWhole) (arg9 : Memref sig .tc .vmem S3x256 .f32) (harg9 : arg9.IsWhole) (arg10 : Memref sig .tc .vmem S1024x1024 .bf16) (harg10 : arg10.IsWhole) (arg11 : Memref sig .tc .vmem S16x1024 .bf16) (harg11 : arg11.IsWhole) (arg12 : Memref sig .tc .vmem S256x1024 .bf16) (harg12 : arg12.IsWhole) (arg13 : Memref sig .tc .vmem S1024x256 .bf16) (harg13 : arg13.IsWhole) (arg14 : Memref sig .tc .vmem S1024x256 .bf16) (harg14 : arg14.IsWhole) (arg15 : Memref sig .tc .vmem S3x256 .f32) (harg15 : arg15.IsWhole) (arg16 : Memref sig .tc .vmem S3x256 .f32) (harg16 : arg16.IsWhole) (hc : ¬cond0_0 i) (x0 : Vec F S1024x256 .f32) (x1 : Vec F S8x256 .f32) (x2 : Vec F S8x256 .f32) (x3 : Vec F S1024x256 .f32) (x4 : Vec F S8x256 .f32) (x5 : Vec F S8x256 .f32) (x6 : Vec F S3x256 .f32) (x7 : Vec F S3x256 .f32) (x8 : Vec F S1024x1024 .bf16) (x9 : Vec F S16x1024 .bf16) (x10 : Vec F S256x1024 .bf16) (y13 : Vec F S3x256 .f32) (y14 : Vec F S3x256 .f32)
    (a : Fin 3) (l : Fin 256) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9 x10 y13 y14 (ix2 a l)
      = FloatOps.addf (y13 (ix2 a l)) (gateTap i x0 x1 x2 x3 x4 x5 x6 x7 x8 x9 x10 a (ix2 (0 : Fin 1) l)) := by
  unfold out0_B_13
  rw [View.read_writes_eq_canon _ _ _ (fun _ => cover0_B_13 ..)]
  unfold kernelRun0_B
  dsimp only
  sl_unfold_words
  refine (canon_rows3 _ _ _ _ _ _ _ a l).trans ?_
  match a with
  | 0 =>
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x256) hz, View.ld_unit_zero (S := S8x256) hz, View.ld_unit_zero (S := S3x256) hz, View.ld_unit_zero (S := S1024x1024) hz, View.ld_unit_zero (S := S16x1024) hz, View.ld_unit_zero (S := S256x1024) hz, shapeCast_self]
    unfold k0_pay28
    simp only [shapeCast_self]
    exact congrArg (FloatOps.addf · (gateTap i x0 x1 x2 x3 x4 x5 x6 x7 x8 x9 x10 0 (ix2 (0 : Fin 1) l))) (ld_row y13 0 _ l)
  | 1 =>
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x256) hz, View.ld_unit_zero (S := S8x256) hz, View.ld_unit_zero (S := S3x256) hz, View.ld_unit_zero (S := S1024x1024) hz, View.ld_unit_zero (S := S16x1024) hz, View.ld_unit_zero (S := S256x1024) hz, shapeCast_self]
    unfold k0_pay30
    simp only [shapeCast_self]
    exact congrArg (FloatOps.addf · (gateTap i x0 x1 x2 x3 x4 x5 x6 x7 x8 x9 x10 1 (ix2 (0 : Fin 1) l))) (ld_row y13 1 _ l)
  | 2 =>
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x256) hz, View.ld_unit_zero (S := S8x256) hz, View.ld_unit_zero (S := S3x256) hz, View.ld_unit_zero (S := S1024x1024) hz, View.ld_unit_zero (S := S16x1024) hz, View.ld_unit_zero (S := S256x1024) hz, shapeCast_self]
    unfold k0_pay32
    simp only [shapeCast_self]
    exact congrArg (FloatOps.addf · (gateTap i x0 x1 x2 x3 x4 x5 x6 x7 x8 x9 x10 2 (ix2 (0 : Fin 1) l))) (ld_row y13 2 _ l)

/-- A later row tile adds its share of the filter gradient to what the buffer holds. -/
theorem out_B_14 (c : Dev nD) (i : grid0.Coords) (arg2 : Memref sig .tc .vmem S1024x256 .f32) (harg2 : arg2.IsWhole) (arg3 : Memref sig .tc .vmem S8x256 .f32) (harg3 : arg3.IsWhole) (arg4 : Memref sig .tc .vmem S8x256 .f32) (harg4 : arg4.IsWhole) (arg5 : Memref sig .tc .vmem S1024x256 .f32) (harg5 : arg5.IsWhole) (arg6 : Memref sig .tc .vmem S8x256 .f32) (harg6 : arg6.IsWhole) (arg7 : Memref sig .tc .vmem S8x256 .f32) (harg7 : arg7.IsWhole) (arg8 : Memref sig .tc .vmem S3x256 .f32) (harg8 : arg8.IsWhole) (arg9 : Memref sig .tc .vmem S3x256 .f32) (harg9 : arg9.IsWhole) (arg10 : Memref sig .tc .vmem S1024x1024 .bf16) (harg10 : arg10.IsWhole) (arg11 : Memref sig .tc .vmem S16x1024 .bf16) (harg11 : arg11.IsWhole) (arg12 : Memref sig .tc .vmem S256x1024 .bf16) (harg12 : arg12.IsWhole) (arg13 : Memref sig .tc .vmem S1024x256 .bf16) (harg13 : arg13.IsWhole) (arg14 : Memref sig .tc .vmem S1024x256 .bf16) (harg14 : arg14.IsWhole) (arg15 : Memref sig .tc .vmem S3x256 .f32) (harg15 : arg15.IsWhole) (arg16 : Memref sig .tc .vmem S3x256 .f32) (harg16 : arg16.IsWhole) (hc : ¬cond0_0 i) (x0 : Vec F S1024x256 .f32) (x1 : Vec F S8x256 .f32) (x2 : Vec F S8x256 .f32) (x3 : Vec F S1024x256 .f32) (x4 : Vec F S8x256 .f32) (x5 : Vec F S8x256 .f32) (x6 : Vec F S3x256 .f32) (x7 : Vec F S3x256 .f32) (x8 : Vec F S1024x1024 .bf16) (x9 : Vec F S16x1024 .bf16) (x10 : Vec F S256x1024 .bf16) (y13 : Vec F S3x256 .f32) (y14 : Vec F S3x256 .f32)
    (a : Fin 3) (l : Fin 256) :
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9 x10 y13 y14 (ix2 a l)
      = FloatOps.addf (y14 (ix2 a l)) (valTap i x0 x1 x2 x3 x4 x5 x6 x7 x8 x9 x10 a (ix2 (0 : Fin 1) l)) := by
  unfold out0_B_14
  rw [View.read_writes_eq_canon _ _ _ (fun _ => cover0_B_14 ..)]
  unfold kernelRun0_B
  dsimp only
  sl_unfold_words
  refine (canon_rows3 _ _ _ _ _ _ _ a l).trans ?_
  match a with
  | 0 =>
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x256) hz, View.ld_unit_zero (S := S8x256) hz, View.ld_unit_zero (S := S3x256) hz, View.ld_unit_zero (S := S1024x1024) hz, View.ld_unit_zero (S := S16x1024) hz, View.ld_unit_zero (S := S256x1024) hz, shapeCast_self]
    unfold k0_pay29
    simp only [shapeCast_self]
    exact congrArg (FloatOps.addf · (valTap i x0 x1 x2 x3 x4 x5 x6 x7 x8 x9 x10 0 (ix2 (0 : Fin 1) l))) (ld_row y14 0 _ l)
  | 1 =>
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x256) hz, View.ld_unit_zero (S := S8x256) hz, View.ld_unit_zero (S := S3x256) hz, View.ld_unit_zero (S := S1024x1024) hz, View.ld_unit_zero (S := S16x1024) hz, View.ld_unit_zero (S := S256x1024) hz, shapeCast_self]
    unfold k0_pay31
    simp only [shapeCast_self]
    exact congrArg (FloatOps.addf · (valTap i x0 x1 x2 x3 x4 x5 x6 x7 x8 x9 x10 1 (ix2 (0 : Fin 1) l))) (ld_row y14 1 _ l)
  | 2 =>
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x256) hz, View.ld_unit_zero (S := S8x256) hz, View.ld_unit_zero (S := S3x256) hz, View.ld_unit_zero (S := S1024x1024) hz, View.ld_unit_zero (S := S16x1024) hz, View.ld_unit_zero (S := S256x1024) hz, shapeCast_self]
    unfold k0_pay33
    simp only [shapeCast_self]
    exact congrArg (FloatOps.addf · (valTap i x0 x1 x2 x3 x4 x5 x6 x7 x8 x9 x10 2 (ix2 (0 : Fin 1) l))) (ld_row y14 2 _ l)

end Cert.KernelIdeal.FfnOut

end
-- ==== Proof.Conv29.lean ====
/-
  The gradients of the gated short convolution: of its two gates, of its input and, summed over the row tiles, of its filter.
-/
module

public import proofs.«01_k».proof.Defs
public import proofs.«01_k».proof.Proof.Conv30
public import proofs.«01_k».proof.Proof.FfnOut
public import proofs.«01_k».proof.Proof.Gen.Kernel29Ideal.Value
public import proofs.«01_k».proof.Proof.Gen.Reference29Ideal.Run
public import proofs.«01_k».proof.Proof.Gen.Reference29Ideal.Read

@[expose] public section

noncomputable section

namespace Cert.Kernel29Ideal.Conv

open Idealize.ShloMosaic Idealize.ShloMosaic.TcCoe Idealize.SL.Sem
open Cert.Kernel29Ideal Cert.Kernel29Ideal.Gen Cert.Ffn
open Cert.Kernel30Ideal.Conv (taps)
open Cert.KernelIdeal.FfnOut (canon_rows3 ld_row)

/-- The gradient that reaches the convolution: the output's gradient `D` through the first gate. -/
def lag (P D : Nat → Nat → EReal) (e q : Nat) : EReal := D e q * P e (512 + q)

/-- The first gate's gradient: the output's gradient times the convolution. -/
def dGateB (P W D : Nat → Nat → EReal) (p q : Nat) : EReal := D p q * conv (taps P) W q p q

/-- The second gate's gradient: the transposed convolution times the input. -/
def dGateC (P W D : Nat → Nat → EReal) (p q : Nat) : EReal := convT (lag P D) W q p q * P p (1536 + q)

/-- The input's gradient: the transposed convolution times the second gate. -/
def dIn (P W D : Nat → Nat → EReal) (p q : Nat) : EReal := convT (lag P D) W q p q * P p (1024 + q)

/-- The filter's gradient. -/
def dFilter (P D : Nat → Nat → EReal) (a q : Nat) : EReal := convW (lag P D) (taps P) a 4096 q

/-- One tile's share of row `a` of the filter's gradient. -/
def tapRow (i : grid0.Coords) (x0 : Vec Ideal S512x256 .f32) (x1 : Vec Ideal S8x256 .f32) (x2 : Vec Ideal S512x256 .f32) (x3 : Vec Ideal S8x256 .f32) (x4 : Vec Ideal S512x256 .f32) (x5 : Vec Ideal S8x256 .f32) (x7 : Vec Ideal S512x256 .f32) (x8 : Vec Ideal S8x256 .f32) (a : Fin 3) : FVec Ideal S1x256 .f32 :=
  k0_pay15 (k0_pay4 i) (match a with | 0 => k0_pay8 i x3 x5 x2 x4 | 1 => k0_pay7 i x3 x5 x2 x4 | 2 => k0_pay6 i x3 x5 x2 x4) x7 x0 x8 x1

/-! A first row tile starts the filter's gradient from zero. -/
section
variable (c : Dev nD) (i : grid0.Coords) (arg2 : Memref sig .tc .vmem S512x256 .f32) (harg2 : arg2.IsWhole) (arg3 : Memref sig .tc .vmem S8x256 .f32) (harg3 : arg3.IsWhole) (arg4 : Memref sig .tc .vmem S512x256 .f32) (harg4 : arg4.IsWhole) (arg5 : Memref sig .tc .vmem S8x256 .f32) (harg5 : arg5.IsWhole) (arg6 : Memref sig .tc .vmem S512x256 .f32) (harg6 : arg6.IsWhole) (arg7 : Memref sig .tc .vmem S8x256 .f32) (harg7 : arg7.IsWhole) (arg8 : Memref sig .tc .vmem S3x256 .f32) (harg8 : arg8.IsWhole) (arg9 : Memref sig .tc .vmem S512x256 .f32) (harg9 : arg9.IsWhole) (arg10 : Memref sig .tc .vmem S8x256 .f32) (harg10 : arg10.IsWhole) (arg11 : Memref sig .tc .vmem S512x256 .bf16) (harg11 : arg11.IsWhole) (arg12 : Memref sig .tc .vmem S512x256 .bf16) (harg12 : arg12.IsWhole) (arg13 : Memref sig .tc .vmem S512x256 .bf16) (harg13 : arg13.IsWhole) (arg14 : Memref sig .tc .vmem S3x256 .f32) (harg14 : arg14.IsWhole) (hc0 : cond0_0 i) (x0 : Vec Ideal S512x256 .f32) (x1 : Vec Ideal S8x256 .f32) (x2 : Vec Ideal S512x256 .f32) (x3 : Vec Ideal S8x256 .f32) (x4 : Vec Ideal S512x256 .f32) (x5 : Vec Ideal S8x256 .f32) (x6 : Vec Ideal S3x256 .f32) (x7 : Vec Ideal S512x256 .f32) (x8 : Vec Ideal S8x256 .f32)

theorem out_A_9 : out0_A_9 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = k0_pay9 i x6 x3 x5 x2 x4 x7 := by
  unfold out0_A_9
  rw [View.read_writes_eq_canon _ _ _ (fun _ => cover0_A_9 ..)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S3x256) hz, View.ld_unit_zero (S := S512x256) hz, View.ld_unit_zero (S := S8x256) hz]

theorem out_A_10 : out0_A_10 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = k0_pay12 (k0_pay4 i) x6 x7 x0 x8 x1 x4 := by
  unfold out0_A_10
  rw [View.read_writes_eq_canon _ _ _ (fun _ => cover0_A_10 ..)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S3x256) hz, View.ld_unit_zero (S := S512x256) hz, View.ld_unit_zero (S := S8x256) hz]

theorem out_A_11 : out0_A_11 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = k0_pay13 (k0_pay4 i) x6 x7 x0 x8 x1 x2 := by
  unfold out0_A_11
  rw [View.read_writes_eq_canon _ _ _ (fun _ => cover0_A_11 ..)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S3x256) hz, View.ld_unit_zero (S := S512x256) hz, View.ld_unit_zero (S := S8x256) hz]

/-- Row `a` of the filter's gradient: the tile's share added to zero. -/
theorem out_A_12 (a : Fin 3) (l : Fin 256) : out0_A_12 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 (ix2 a l)
    = FloatOps.addf (F := Ideal) (φ := .f32) (Scalar.ofBits .f32 0x00000000#32) (tapRow i x0 x1 x2 x3 x4 x5 x7 x8 a (ix2 (0 : Fin 1) l)) := by
  unfold out0_A_12
  rw [View.read_writes_eq_canon _ _ _ (fun _ => cover0_A_12 ..)]
  unfold kernelRun0_A
  dsimp only
  sl_unfold_words
  refine (canon_rows3 _ _ _ _ _ _ _ a l).trans ?_
  match a with
  | 0 =>
    simp only [↓View.readCov_skip, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S3x256) hz, View.ld_unit_zero (S := S512x256) hz, View.ld_unit_zero (S := S8x256) hz]
    try rw [View.readCov_skip _ _ _ _ _ (by decide)]
    try rw [View.readCov_skip _ _ _ _ _ (by decide)]
    rw [View.readCov_fill _ _ _ _ _ (fun a => by fin_cases a <;> rfl)]
    unfold k0_pay1
    simp only [shapeCast_self]
    rfl
  | 1 =>
    simp only [↓View.readCov_skip, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S3x256) hz, View.ld_unit_zero (S := S512x256) hz, View.ld_unit_zero (S := S8x256) hz]
    try rw [View.readCov_skip _ _ _ _ _ (by decide)]
    try rw [View.readCov_skip _ _ _ _ _ (by decide)]
    rw [View.readCov_fill _ _ _ _ _ (fun a => by fin_cases a <;> rfl)]
    unfold k0_pay2
    simp only [shapeCast_self]
    rfl
  | 2 =>
    simp only [↓View.readCov_skip, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S3x256) hz, View.ld_unit_zero (S := S512x256) hz, View.ld_unit_zero (S := S8x256) hz]
    try rw [View.readCov_skip _ _ _ _ _ (by decide)]
    try rw [View.readCov_skip _ _ _ _ _ (by decide)]
    rw [View.readCov_fill _ _ _ _ _ (fun a => by fin_cases a <;> rfl)]
    unfold k0_pay3
    simp only [shapeCast_self]
    rfl

end

/-! A later row tile adds to what the tile before left. -/
section
variable (c : Dev nD) (i : grid0.Coords) (arg2 : Memref sig .tc .vmem S512x256 .f32) (harg2 : arg2.IsWhole) (arg3 : Memref sig .tc .vmem S8x256 .f32) (harg3 : arg3.IsWhole) (arg4 : Memref sig .tc .vmem S512x256 .f32) (harg4 : arg4.IsWhole) (arg5 : Memref sig .tc .vmem S8x256 .f32) (harg5 : arg5.IsWhole) (arg6 : Memref sig .tc .vmem S512x256 .f32) (harg6 : arg6.IsWhole) (arg7 : Memref sig .tc .vmem S8x256 .f32) (harg7 : arg7.IsWhole) (arg8 : Memref sig .tc .vmem S3x256 .f32) (harg8 : arg8.IsWhole) (arg9 : Memref sig .tc .vmem S512x256 .f32) (harg9 : arg9.IsWhole) (arg10 : Memref sig .tc .vmem S8x256 .f32) (harg10 : arg10.IsWhole) (arg11 : Memref sig .tc .vmem S512x256 .bf16) (harg11 : arg11.IsWhole) (arg12 : Memref sig .tc .vmem S512x256 .bf16) (harg12 : arg12.IsWhole) (arg13 : Memref sig .tc .vmem S512x256 .bf16) (harg13 : arg13.IsWhole) (arg14 : Memref sig .tc .vmem S3x256 .f32) (harg14 : arg14.IsWhole) (hc0 : ¬cond0_0 i) (x0 : Vec Ideal S512x256 .f32) (x1 : Vec Ideal S8x256 .f32) (x2 : Vec Ideal S512x256 .f32) (x3 : Vec Ideal S8x256 .f32) (x4 : Vec Ideal S512x256 .f32) (x5 : Vec Ideal S8x256 .f32) (x6 : Vec Ideal S3x256 .f32) (x7 : Vec Ideal S512x256 .f32) (x8 : Vec Ideal S8x256 .f32) (xo12 : Vec Ideal S3x256 .f32)

theorem out_B_9 : out0_B_9 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo12 = k0_pay9 i x6 x3 x5 x2 x4 x7 := by
  unfold out0_B_9
  rw [View.read_writes_eq_canon _ _ _ (fun _ => cover0_B_9 ..)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S3x256) hz, View.ld_unit_zero (S := S512x256) hz, View.ld_unit_zero (S := S8x256) hz]

theorem out_B_10 : out0_B_10 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo12 = k0_pay12 (k0_pay4 i) x6 x7 x0 x8 x1 x4 := by
  unfold out0_B_10
  rw [View.read_writes_eq_canon _ _ _ (fun _ => cover0_B_10 ..)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S3x256) hz, View.ld_unit_zero (S := S512x256) hz, View.ld_unit_zero (S := S8x256) hz]

theorem out_B_11 : out0_B_11 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo12 = k0_pay13 (k0_pay4 i) x6 x7 x0 x8 x1 x2 := by
  unfold out0_B_11
  rw [View.read_writes_eq_canon _ _ _ (fun _ => cover0_B_11 ..)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S3x256) hz, View.ld_unit_zero (S := S512x256) hz, View.ld_unit_zero (S := S8x256) hz]

/-- Row `a` of the filter's gradient: the tile's share added to what the buffer held. -/
theorem out_B_12 (a : Fin 3) (l : Fin 256) : out0_B_12 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo12 (ix2 a l)
    = FloatOps.addf (F := Ideal) (φ := .f32) (xo12 (ix2 a l)) (tapRow i x0 x1 x2 x3 x4 x5 x7 x8 a (ix2 (0 : Fin 1) l)) := by
  unfold out0_B_12
  rw [View.read_writes_eq_canon _ _ _ (fun _ => cover0_B_12 ..)]
  unfold kernelRun0_B
  dsimp only
  sl_unfold_words
  refine (canon_rows3 _ _ _ _ _ _ _ a l).trans ?_
  match a with
  | 0 =>
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S3x256) hz, View.ld_unit_zero (S := S512x256) hz, View.ld_unit_zero (S := S8x256) hz]
    unfold k0_pay1
    simp only [shapeCast_self]
    exact congrArg (FloatOps.addf · (tapRow i x0 x1 x2 x3 x4 x5 x7 x8 0 (ix2 (0 : Fin 1) l))) (ld_row xo12 0 _ l)
  | 1 =>
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S3x256) hz, View.ld_unit_zero (S := S512x256) hz, View.ld_unit_zero (S := S8x256) hz]
    unfold k0_pay2
    simp only [shapeCast_self]
    exact congrArg (FloatOps.addf · (tapRow i x0 x1 x2 x3 x4 x5 x7 x8 1 (ix2 (0 : Fin 1) l))) (ld_row xo12 1 _ l)
  | 2 =>
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S3x256) hz, View.ld_unit_zero (S := S512x256) hz, View.ld_unit_zero (S := S8x256) hz]
    unfold k0_pay3
    simp only [shapeCast_self]
    exact congrArg (FloatOps.addf · (tapRow i x0 x1 x2 x3 x4 x5 x7 x8 2 (ix2 (0 : Fin 1) l))) (ld_row xo12 2 _ l)

end

/-- The factor that clears the rows before the first tile: zero at the first tile and one at the others. -/
theorem first_eq {n : Nat} (h : n < 8) :
    (((Scalar.extui (Scalar.cmpi .sgt (BitVec.ofNat 32 n) 0#32) : BitVec 32).toInt : ℝ) : EReal) = if n = 0 then 0 else 1 := by
  rw [show (Scalar.extui (Scalar.cmpi .sgt (BitVec.ofNat 32 n) 0#32) : BitVec 32).toInt = if n = 0 then 0 else 1 by interval_cases n <;> decide]
  split <;> norm_num

/-- The factor that clears the rows after the last tile: one at every tile but the last. -/
theorem last_eq (i : grid0.Coords) : k0_pay4 (F := Ideal) i = if (i 1).val < 7 then 1 else 0 := by
  have h : (i 1).val < 8 := (i 1).isLt
  unfold k0_pay4
  generalize (i 1).val = n at h ⊢
  show (((Scalar.extui (Scalar.cmpi .slt (BitVec.ofNat 32 n) 7#32) : BitVec 32).toInt : ℝ) : EReal) = _
  rw [show (Scalar.extui (Scalar.cmpi .slt (BitVec.ofNat 32 n) 7#32) : BitVec 32).toInt = if n < 7 then 1 else 0 by interval_cases n <;> decide]
  split <;> norm_num

section
variable {i : grid0.Coords} {b : Nat} {Z Y W : Nat → Nat → EReal} {x0 : Vec Ideal S512x256 .f32} {x1 : Vec Ideal S8x256 .f32} {x2 : Vec Ideal S512x256 .f32} {x3 : Vec Ideal S8x256 .f32}
  {x4 : Vec Ideal S512x256 .f32} {x5 : Vec Ideal S8x256 .f32} {x6 : Vec Ideal S3x256 .f32} {x7 : Vec Ideal S512x256 .f32} {x8 : Vec Ideal S8x256 .f32}

/-- The loaded blocks as rows of the convolution's input `Z`, of the gradient `Y` that reaches it and of the filter `W`. -/
structure Reads (i : grid0.Coords) (b : Nat) (Z Y W : Nat → Nat → EReal) (x0 : Vec Ideal S512x256 .f32) (x1 : Vec Ideal S8x256 .f32) (x2 : Vec Ideal S512x256 .f32) (x3 : Vec Ideal S8x256 .f32) (x4 : Vec Ideal S512x256 .f32) (x5 : Vec Ideal S8x256 .f32) (x6 : Vec Ideal S3x256 .f32) (x7 : Vec Ideal S512x256 .f32) (x8 : Vec Ideal S8x256 .f32) : Prop where
  zc : ∀ (r : Fin 512) (l : Fin 256), x2 (ix2 r l) * x4 (ix2 r l) = Z (512 * (i 1).val + r.val) (b + l.val)
  zp : 0 < (i 1).val → ∀ (r : Fin 8) (l : Fin 256), x3 (ix2 r l) * x5 (ix2 r l) = Z (512 * (i 1).val + r.val - 8) (b + l.val)
  yc : ∀ (r : Fin 512) (l : Fin 256), x7 (ix2 r l) * x0 (ix2 r l) = Y (512 * (i 1).val + r.val) (b + l.val)
  yn : (i 1).val < 7 → ∀ (r : Fin 8) (l : Fin 256), x8 (ix2 r l) * x1 (ix2 r l) = Y (512 * (i 1).val + 512 + r.val) (b + l.val)
  yz : ∀ e q, 4096 ≤ e → Y e q = 0
  w : ∀ (a : Fin 3) (l : Fin 256), x6 (ix2 a l) = W a.val (b + l.val)

/-- The rows of the convolution's input, eight before the tile and the tile: zero before the first row of all. -/
theorem input_read (h : Reads i b Z Y W x0 x1 x2 x3 x4 x5 x6 x7 x8) (p : Fin 520) (l : Fin 256) :
    k0_pay6 (F := Ideal) i x3 x5 x2 x4 (ix2 p l) = bk 8 Z (512 * (i 1).val + p.val) (b + l.val) := by
  have hi : (i 1).val < 8 := (i 1).isLt
  unfold k0_pay6
  pointwise
  split
  · refine (congrArg (_ * ·) (first_eq hi)).trans ?_
    by_cases h0 : (i 1).val = 0
    · rw [if_pos h0, mul_zero]
      exact (if_neg (by omega)).symm
    · rw [if_neg h0, mul_one, h.zp (by omega)]
      exact (if_pos (by omega)).symm
  · rw [h.zc]
    exact (congrArg (fun e => Z e _) (by dsimp only; omega)).trans (if_pos (by omega)).symm

/-- The same rows moved down by `k`, for a rotation that reads `k` rows back. -/
theorem moved_read (h : Reads i b Z Y W x0 x1 x2 x3 x4 x5 x6 x7 x8) (k : Nat) (v : FVec Ideal S520x256 .f32) (p : Fin 520) (l : Fin 256) (h8 : 8 ≤ p.val) (hk : k ≤ 8)
    (hv : v (ix2 p l) = k0_pay6 (F := Ideal) i x3 x5 x2 x4 (ix2 ⟨p.val - k, by omega⟩ l)) :
    v (ix2 p l) = bk (k + 8) Z (512 * (i 1).val + p.val) (b + l.val) := by
  rw [hv, input_read h, ← bk_add 8 k, Nat.add_comm 8 k]
  exact congrArg (fun e => bk (k + 8) Z e _) (by show 512 * (i 1).val + (p.val - k) + k = _; omega)

theorem back1_read (h : Reads i b Z Y W x0 x1 x2 x3 x4 x5 x6 x7 x8) (p : Fin 520) (l : Fin 256) (h8 : 8 ≤ p.val) :
    k0_pay7 (F := Ideal) i x3 x5 x2 x4 (ix2 p l) = bk (1 + 8) Z (512 * (i 1).val + p.val) (b + l.val) := by
  refine moved_read h 1 _ p l h8 (by omega) ?_
  unfold k0_pay7
  generalize k0_pay6 (F := Ideal) i x3 x5 x2 x4 = y
  pointwise
  exact congrArg (fun q => y (ix2 q l)) (Fin.ext (by show (p.val + 520 - 1) % 520 = p.val - 1; omega))

theorem back2_read (h : Reads i b Z Y W x0 x1 x2 x3 x4 x5 x6 x7 x8) (p : Fin 520) (l : Fin 256) (h8 : 8 ≤ p.val) :
    k0_pay8 (F := Ideal) i x3 x5 x2 x4 (ix2 p l) = bk (2 + 8) Z (512 * (i 1).val + p.val) (b + l.val) := by
  refine moved_read h 2 _ p l h8 (by omega) ?_
  unfold k0_pay8
  generalize k0_pay6 (F := Ideal) i x3 x5 x2 x4 = y
  pointwise
  exact congrArg (fun q => y (ix2 q l)) (Fin.ext (by show (p.val + 520 - 2) % 520 = p.val - 2; omega))

/-- The gradient's rows, the tile and eight after it: zero after the last row of all. -/
theorem grad_read (h : Reads i b Z Y W x0 x1 x2 x3 x4 x5 x6 x7 x8) (p : Fin 520) (l : Fin 256) :
    k0_pay10 (F := Ideal) (k0_pay4 i) x7 x0 x8 x1 (ix2 p l) = Y (512 * (i 1).val + p.val) (b + l.val) := by
  have hi : (i 1).val < 8 := (i 1).isLt
  have hf := last_eq i
  unfold k0_pay10
  generalize k0_pay4 (F := Ideal) i = z at hf ⊢
  pointwise
  split
  · exact h.yc _ _
  · by_cases h7 : (i 1).val < 7
    · rw [if_pos h7] at hf
      rw [hf, mul_one, h.yn h7]
      exact congrArg (fun e => Y e _) (by dsimp only; omega)
    · rw [if_neg h7] at hf
      rw [hf, mul_zero]
      exact (h.yz _ _ (by omega)).symm

theorem bk_shift (k : Nat) (Z : Nat → Nat → EReal) (n r q : Nat) : bk (k + 8) Z (n + (8 + r)) q = bk k Z (n + r) q := by
  rw [show n + (8 + r) = n + r + 8 by omega, bk_add]

/-- The first gate's tile. -/
theorem gateB_read (h : Reads i b Z Y W x0 x1 x2 x3 x4 x5 x6 x7 x8) (r : Fin 512) (l : Fin 256) :
    k0_pay9 (F := Ideal) i x6 x3 x5 x2 x4 x7 (ix2 r l) = x7 (ix2 r l) * conv Z W (b + l.val) (512 * (i 1).val + r.val) (b + l.val) := by
  have e0 := (input_read h (⟨8 + r.val, by omega⟩ : Fin 520) l).trans ((bk_shift 0 Z _ _ _).trans (bk_zero _ _ _))
  have e1 := (back1_read h (⟨8 + r.val, by omega⟩ : Fin 520) l (by show 8 ≤ 8 + r.val; omega)).trans (bk_shift 1 Z _ _ _)
  have e2 := (back2_read h (⟨8 + r.val, by omega⟩ : Fin 520) l (by show 8 ≤ 8 + r.val; omega)).trans (bk_shift 2 Z _ _ _)
  unfold k0_pay9
  generalize k0_pay6 (F := Ideal) i x3 x5 x2 x4 = y0 at e0 ⊢
  generalize k0_pay7 (F := Ideal) i x3 x5 x2 x4 = y1 at e1 ⊢
  generalize k0_pay8 (F := Ideal) i x3 x5 x2 x4 = y2 at e2 ⊢
  pointwise
  exact congrArg (_ * ·) (congrArg₂ (· + ·) (congrArg₂ (· + ·) (congrArg₂ (· * ·) (h.w 2 l) e0) (congrArg₂ (· * ·) (h.w 1 l) e1)) (congrArg₂ (· * ·) (h.w 0 l) e2))

/-- The transposed convolution's tile. -/
theorem back_read (h : Reads i b Z Y W x0 x1 x2 x3 x4 x5 x6 x7 x8) (r : Fin 512) (l : Fin 256) :
    k0_pay11 (F := Ideal) (k0_pay4 i) x6 x7 x0 x8 x1 (ix2 r l) = convT Y W (b + l.val) (512 * (i 1).val + r.val) (b + l.val) := by
  have e0 := grad_read h (⟨r.val, by omega⟩ : Fin 520) l
  have e1 := grad_read h (⟨r.val + 1, by omega⟩ : Fin 520) l
  have e2 := grad_read h (⟨r.val + 2, by omega⟩ : Fin 520) l
  unfold k0_pay11
  generalize k0_pay10 (F := Ideal) (k0_pay4 i) x7 x0 x8 x1 = y at e0 e1 e2 ⊢
  pointwise
  refine congrArg₂ (· + ·) (congrArg₂ (· + ·) (congrArg₂ (· * ·) (h.w 2 l) e0) (congrArg₂ (· * ·) (h.w 1 l) (Eq.trans ?_ e1))) (congrArg₂ (· * ·) (h.w 0 l) (Eq.trans ?_ e2))
  · exact congrArg (fun q => y (ix2 q l)) (Fin.ext (by show (r.val + 520 - 519) % 520 = r.val + 1; omega))
  · exact congrArg (fun q => y (ix2 q l)) (Fin.ext (by show (r.val + 520 - 518) % 520 = r.val + 2; omega))

theorem gateC_read (h : Reads i b Z Y W x0 x1 x2 x3 x4 x5 x6 x7 x8) (v : Vec Ideal S512x256 .f32) (r : Fin 512) (l : Fin 256) :
    k0_pay12 (F := Ideal) (k0_pay4 i) x6 x7 x0 x8 x1 v (ix2 r l) = convT Y W (b + l.val) (512 * (i 1).val + r.val) (b + l.val) * v (ix2 r l) :=
  congrArg (· * v (ix2 r l)) (back_read h r l)

/-- One tile's sum of gradient times input. -/
theorem sum_read (h : Reads i b Z Y W x0 x1 x2 x3 x4 x5 x6 x7 x8) (k : Nat) (w : FVec Ideal S520x256 .f32) (l : Fin 256)
    (hw : ∀ p : Fin 520, 8 ≤ p.val → w (ix2 p l) = bk (k + 8) Z (512 * (i 1).val + p.val) (b + l.val)) :
    k0_pay15 (F := Ideal) (k0_pay4 i) w x7 x0 x8 x1 (ix2 (0 : Fin 1) l)
      = ∑ r : Fin 512, Y (512 * (i 1).val + r.val) (b + l.val) * bk k Z (512 * (i 1).val + r.val) (b + l.val) := by
  have e := fun p => grad_read h p l
  unfold k0_pay15 k0_pay14
  generalize k0_pay10 (F := Ideal) (k0_pay4 i) x7 x0 x8 x1 = y at e ⊢
  pointwise
  refine Finset.sum_congr rfl fun r _ => ?_
  rw [e, hw _ (by show 8 ≤ 8 + r.val; omega)]
  exact congrArg (_ * ·) (bk_shift k Z _ _ _)

theorem tapRow_read (h : Reads i b Z Y W x0 x1 x2 x3 x4 x5 x6 x7 x8) (a : Fin 3) (l : Fin 256) :
    tapRow i x0 x1 x2 x3 x4 x5 x7 x8 a (ix2 (0 : Fin 1) l)
      = ∑ r : Fin 512, Y (512 * (i 1).val + r.val) (b + l.val) * bk (2 - a.val) Z (512 * (i 1).val + r.val) (b + l.val) := by
  match a with
  | 0 => exact sum_read h 2 _ l fun p h8 => back2_read h p l h8
  | 1 => exact sum_read h 1 _ l fun p h8 => back1_read h p l h8
  | 2 => exact sum_read h 0 _ l fun p _ => (input_read h p l).trans (congrArg (fun k => bk k Z _ _) (Nat.zero_add 8).symm)

end

/-- One more tile added to the sum over the tiles before it. -/
theorem convW_tile (y x : Nat → Nat → EReal) (a q i : Nat) : convW y x a (512 * (i + 1)) q
    = convW y x a (512 * i) q + ∑ r : Fin 512, y (512 * i + r.val) q * bk (2 - a) x (512 * i + r.val) q := by
  unfold convW
  rw [show 512 * (i + 1) = 512 * i + 512 by omega, Finset.sum_range_add]
  exact congrArg (_ + ·) (Fin.sum_univ_eq_sum_range (fun e => y (512 * i + e) q * bk (2 - a) x (512 * i + e) q) 512).symm

theorem zero_add_bits (x : EReal) : FloatOps.addf (F := Ideal) (φ := .f32) (Scalar.ofBits .f32 0x00000000#32) x = x := by
  pointwise

variable (m : (ℓ : Loc nD τ sig) → Buf (Elt Ideal) ℓ) (ρ : Dev nD → PrngReg) (c : Dev nD)

/-- Argument 0 as a matrix. -/
abbrev arg0 : Nat → Nat → EReal := at2 (n := 4096) (m := 2176) (m ((c : Thread nD τ).loc main_arg0))

/-- Argument 1 as a matrix. -/
abbrev arg1 : Nat → Nat → EReal := at2 (n := 3) (m := 512) (m ((c : Thread nD τ).loc main_arg1))

/-- Argument 2 as a matrix. -/
abbrev arg2 : Nat → Nat → EReal := at2 (n := 4096) (m := 512) (m ((c : Thread nD τ).loc main_arg2))

theorem point_lt (t : Fin cfg0.N) : t.val < 16 := t.isLt.trans_eq N_0

theorem index_0 : ∀ t : Fin grid0.N, win0_0.index t 0 = t.val % 8 ∧ win0_0.index t 1 = 2 + t.val / 8 := by decide +kernel

theorem index_1 : ∀ t : Fin grid0.N, win0_1.index t 0 = min (64 * (t.val % 8) + 64) 511 ∧ win0_1.index t 1 = 2 + t.val / 8 := by decide +kernel

theorem index_2 : ∀ t : Fin grid0.N, win0_2.index t 0 = t.val % 8 ∧ win0_2.index t 1 = 4 + t.val / 8 := by decide +kernel

theorem index_3 : ∀ t : Fin grid0.N, win0_3.index t 0 = 64 * (t.val % 8) - 1 ∧ win0_3.index t 1 = 4 + t.val / 8 := by decide +kernel

theorem index_4 : ∀ t : Fin grid0.N, win0_4.index t 0 = t.val % 8 ∧ win0_4.index t 1 = 6 + t.val / 8 := by decide +kernel

theorem index_5 : ∀ t : Fin grid0.N, win0_5.index t 0 = 64 * (t.val % 8) - 1 ∧ win0_5.index t 1 = 6 + t.val / 8 := by decide +kernel

theorem index_6 : ∀ t : Fin grid0.N, win0_6.index t 0 = 0 ∧ win0_6.index t 1 = t.val / 8 := by decide +kernel

theorem index_7 : ∀ t : Fin grid0.N, win0_7.index t 0 = t.val % 8 ∧ win0_7.index t 1 = t.val / 8 := by decide +kernel

theorem index_8 : ∀ t : Fin grid0.N, win0_8.index t 0 = min (64 * (t.val % 8) + 64) 511 ∧ win0_8.index t 1 = t.val / 8 := by decide +kernel

theorem index_9 : ∀ t : Fin grid0.N, win0_9.index t 0 = t.val % 8 ∧ win0_9.index t 1 = t.val / 8 := by decide +kernel

theorem index_10 : ∀ t : Fin grid0.N, win0_10.index t 0 = t.val % 8 ∧ win0_10.index t 1 = t.val / 8 := by decide +kernel

theorem index_11 : ∀ t : Fin grid0.N, win0_11.index t 0 = t.val % 8 ∧ win0_11.index t 1 = t.val / 8 := by decide +kernel

theorem index_12 : ∀ t : Fin grid0.N, win0_12.index t 0 = 0 ∧ win0_12.index t 1 = t.val / 8 := by decide +kernel

/-- What point `t` reads through window 0. -/
theorem iblk_0 (t : Fin cfg0.N) (r : Fin 512) (l : Fin 256) :
    X0_0 m c t (ix2 r l) = arg0 m c ((t.val % 8) * 512 + r.val) ((2 + t.val / 8) * 256 + l.val) := by
  have ht := point_lt t
  obtain ⟨i0, i1⟩ := index_0 t
  unfold X0_0 Pipeline.Window.fill
  rw [dif_pos (moved0_0 t _)]
  unfold iblk
  rw [View.read_apply]
  show V m c main_arg0 _ = _
  rw [V_main_arg0]
  exact at2_at _ _ (by show win0_0.index t 0 * 512 + 1 * r.val = _; rw [i0]; omega)
    (by show win0_0.index t 1 * 256 + 1 * l.val = _; rw [i1]; omega)

/-- What point `t` reads through window 1. -/
theorem iblk_1 (t : Fin cfg0.N) (r : Fin 8) (l : Fin 256) :
    X0_1 m c t (ix2 r l) = arg0 m c ((min (64 * (t.val % 8) + 64) 511) * 8 + r.val) ((2 + t.val / 8) * 256 + l.val) := by
  have ht := point_lt t
  obtain ⟨i0, i1⟩ := index_1 t
  unfold X0_1 Pipeline.Window.fill
  rw [dif_pos (moved0_1 t _)]
  unfold iblk
  rw [View.read_apply]
  show V m c main_arg0 _ = _
  rw [V_main_arg0]
  exact at2_at _ _ (by show win0_1.index t 0 * 8 + 1 * r.val = _; rw [i0]; omega)
    (by show win0_1.index t 1 * 256 + 1 * l.val = _; rw [i1]; omega)

/-- What point `t` reads through window 2. -/
theorem iblk_2 (t : Fin cfg0.N) (r : Fin 512) (l : Fin 256) :
    X0_2 m c t (ix2 r l) = arg0 m c ((t.val % 8) * 512 + r.val) ((4 + t.val / 8) * 256 + l.val) := by
  have ht := point_lt t
  obtain ⟨i0, i1⟩ := index_2 t
  unfold X0_2 Pipeline.Window.fill
  rw [dif_pos (moved0_2 t _)]
  unfold iblk
  rw [View.read_apply]
  show V m c main_arg0 _ = _
  rw [V_main_arg0]
  exact at2_at _ _ (by show win0_2.index t 0 * 512 + 1 * r.val = _; rw [i0]; omega)
    (by show win0_2.index t 1 * 256 + 1 * l.val = _; rw [i1]; omega)

/-- What point `t` reads through window 3. -/
theorem iblk_3 (t : Fin cfg0.N) (r : Fin 8) (l : Fin 256) :
    X0_3 m c t (ix2 r l) = arg0 m c ((64 * (t.val % 8) - 1) * 8 + r.val) ((4 + t.val / 8) * 256 + l.val) := by
  have ht := point_lt t
  obtain ⟨i0, i1⟩ := index_3 t
  unfold X0_3 Pipeline.Window.fill
  rw [dif_pos (moved0_3 t _)]
  unfold iblk
  rw [View.read_apply]
  show V m c main_arg0 _ = _
  rw [V_main_arg0]
  exact at2_at _ _ (by show win0_3.index t 0 * 8 + 1 * r.val = _; rw [i0]; omega)
    (by show win0_3.index t 1 * 256 + 1 * l.val = _; rw [i1]; omega)

/-- What point `t` reads through window 4. -/
theorem iblk_4 (t : Fin cfg0.N) (r : Fin 512) (l : Fin 256) :
    X0_4 m c t (ix2 r l) = arg0 m c ((t.val % 8) * 512 + r.val) ((6 + t.val / 8) * 256 + l.val) := by
  have ht := point_lt t
  obtain ⟨i0, i1⟩ := index_4 t
  unfold X0_4 Pipeline.Window.fill
  rw [dif_pos (moved0_4 t _)]
  unfold iblk
  rw [View.read_apply]
  show V m c main_arg0 _ = _
  rw [V_main_arg0]
  exact at2_at _ _ (by show win0_4.index t 0 * 512 + 1 * r.val = _; rw [i0]; omega)
    (by show win0_4.index t 1 * 256 + 1 * l.val = _; rw [i1]; omega)

/-- What point `t` reads through window 5. -/
theorem iblk_5 (t : Fin cfg0.N) (r : Fin 8) (l : Fin 256) :
    X0_5 m c t (ix2 r l) = arg0 m c ((64 * (t.val % 8) - 1) * 8 + r.val) ((6 + t.val / 8) * 256 + l.val) := by
  have ht := point_lt t
  obtain ⟨i0, i1⟩ := index_5 t
  unfold X0_5 Pipeline.Window.fill
  rw [dif_pos (moved0_5 t _)]
  unfold iblk
  rw [View.read_apply]
  show V m c main_arg0 _ = _
  rw [V_main_arg0]
  exact at2_at _ _ (by show win0_5.index t 0 * 8 + 1 * r.val = _; rw [i0]; omega)
    (by show win0_5.index t 1 * 256 + 1 * l.val = _; rw [i1]; omega)

/-- What point `t` reads through window 6. -/
theorem iblk_6 (t : Fin cfg0.N) (r : Fin 3) (l : Fin 256) :
    iblk m c 6 t (ix2 r l) = arg1 m c ((0) * 3 + r.val) ((t.val / 8) * 256 + l.val) := by
  have ht := point_lt t
  obtain ⟨i0, i1⟩ := index_6 t
  unfold iblk
  rw [View.read_apply]
  show V m c main_arg1 _ = _
  rw [V_main_arg1]
  exact at2_at _ _ (by show win0_6.index t 0 * 3 + 1 * r.val = _; rw [i0]; omega)
    (by show win0_6.index t 1 * 256 + 1 * l.val = _; rw [i1]; omega)

/-- What point `t` reads through window 7. -/
theorem iblk_7 (t : Fin cfg0.N) (r : Fin 512) (l : Fin 256) :
    iblk m c 7 t (ix2 r l) = arg2 m c ((t.val % 8) * 512 + r.val) ((t.val / 8) * 256 + l.val) := by
  have ht := point_lt t
  obtain ⟨i0, i1⟩ := index_7 t
  unfold iblk
  rw [View.read_apply]
  show V m c main_arg2 _ = _
  rw [V_main_arg2]
  exact at2_at _ _ (by show win0_7.index t 0 * 512 + 1 * r.val = _; rw [i0]; omega)
    (by show win0_7.index t 1 * 256 + 1 * l.val = _; rw [i1]; omega)

/-- What point `t` reads through window 8. -/
theorem iblk_8 (t : Fin cfg0.N) (r : Fin 8) (l : Fin 256) :
    iblk m c 8 t (ix2 r l) = arg2 m c ((min (64 * (t.val % 8) + 64) 511) * 8 + r.val) ((t.val / 8) * 256 + l.val) := by
  have ht := point_lt t
  obtain ⟨i0, i1⟩ := index_8 t
  unfold iblk
  rw [View.read_apply]
  show V m c main_arg2 _ = _
  rw [V_main_arg2]
  exact at2_at _ _ (by show win0_8.index t 0 * 8 + 1 * r.val = _; rw [i0]; omega)
    (by show win0_8.index t 1 * 256 + 1 * l.val = _; rw [i1]; omega)

/-- The tile's row is the point's second coordinate. -/
theorem coord1 : ∀ t : Fin grid0.N, ((grid0.coords t) 1).val = t.val % 8 := by decide +kernel

/-- The nine blocks that point `t` reads. -/
theorem reads (t : Fin cfg0.N) : Reads (grid0.coords t) (t.val / 8 * 256) (taps (arg0 m c)) (lag (arg0 m c) (arg2 m c)) (arg1 m c) (X0_0 m c t) (X0_1 m c t) (X0_2 m c t) (X0_3 m c t) (X0_4 m c t) (X0_5 m c t) (iblk m c 6 t) (iblk m c 7 t) (iblk m c 8 t) := by
  refine ⟨fun r l => ?_, fun h r l => ?_, fun r l => ?_, fun h r l => ?_, fun e q he => ?_, fun a l => ?_⟩
  · rw [iblk_2, iblk_4, coord1]
    unfold taps
    exact congrArg₂ (· * ·) (congrArg₂ _ (by omega) (by omega)) (congrArg₂ _ (by omega) (by omega))
  · rw [coord1] at h
    rw [iblk_3, iblk_5, coord1]
    unfold taps
    exact congrArg₂ (· * ·) (congrArg₂ _ (by omega) (by omega)) (congrArg₂ _ (by omega) (by omega))
  · rw [iblk_7, iblk_0, coord1]
    unfold lag
    exact congrArg₂ (· * ·) (congrArg₂ _ (by omega) (by omega)) (congrArg₂ _ (by omega) (by omega))
  · rw [coord1] at h
    rw [iblk_8, iblk_1, coord1]
    unfold lag
    exact congrArg₂ (· * ·) (congrArg₂ _ (by omega) (by omega)) (congrArg₂ _ (by omega) (by omega))
  · unfold lag
    rw [show arg2 m c e q = 0 from at2_of_row_le _ he, zero_mul]
  · rw [iblk_6]
    exact congrArg₂ _ (by omega) rfl

/-- What point `t` leaves in the three blocks it stores whole. -/
theorem stored (t : Fin cfg0.N) : (outsAt0 m c t.val t.isLt).1 = k0_pay9 (grid0.coords t) (iblk m c 6 t) (X0_3 m c t) (X0_5 m c t) (X0_2 m c t) (X0_4 m c t) (iblk m c 7 t)
    ∧ (outsAt0 m c t.val t.isLt).2.1 = k0_pay12 (k0_pay4 (grid0.coords t)) (iblk m c 6 t) (iblk m c 7 t) (X0_0 m c t) (iblk m c 8 t) (X0_1 m c t) (X0_4 m c t)
    ∧ (outsAt0 m c t.val t.isLt).2.2.1 = k0_pay13 (k0_pay4 (grid0.coords t)) (iblk m c 6 t) (iblk m c 7 t) (X0_0 m c t) (iblk m c 8 t) (X0_1 m c t) (X0_2 m c t) := by
  by_cases h0 : t.val % 8 = 0
  · have e := outsAt0_A m c t h0
    rw [out_A_9, out_A_10, out_A_11] at e
    rw [e]
    exact ⟨rfl, rfl, rfl⟩
  · have e := outsAt0_B m c t h0
    rw [out_B_9, out_B_10, out_B_11] at e
    rw [e]
    exact ⟨rfl, rfl, rfl⟩

theorem block_9 (t : Fin cfg0.N) (r : Fin 512) (l : Fin 256) :
    (outsAt0 m c t.val t.isLt).1 (ix2 r l) = dGateB (arg0 m c) (arg1 m c) (arg2 m c) ((t.val % 8) * 512 + r.val) ((t.val / 8) * 256 + l.val) := by
  rw [(stored m c t).1, gateB_read (reads m c t), iblk_7, coord1, Nat.mul_comm 512]
  rfl

theorem block_10 (t : Fin cfg0.N) (r : Fin 512) (l : Fin 256) :
    (outsAt0 m c t.val t.isLt).2.1 (ix2 r l) = dGateC (arg0 m c) (arg1 m c) (arg2 m c) ((t.val % 8) * 512 + r.val) ((t.val / 8) * 256 + l.val) := by
  rw [(stored m c t).2.1, gateC_read (reads m c t), iblk_4, coord1, Nat.mul_comm 512]
  exact congrArg (_ * ·) (congrArg (arg0 m c _) (by omega))

theorem block_11 (t : Fin cfg0.N) (r : Fin 512) (l : Fin 256) :
    (outsAt0 m c t.val t.isLt).2.2.1 (ix2 r l) = dIn (arg0 m c) (arg1 m c) (arg2 m c) ((t.val % 8) * 512 + r.val) ((t.val / 8) * 256 + l.val) := by
  rw [(stored m c t).2.2]
  refine (gateC_read (reads m c t) _ r l).trans ?_
  rw [iblk_2, coord1, Nat.mul_comm 512]
  exact congrArg (_ * ·) (congrArg (arg0 m c _) (by omega))

/-- What the points up to `n` of a column block have summed into the filter's gradient. -/
theorem summed : ∀ (n : ℕ) (h : n < cfg0.N) (a : Fin 3) (l : Fin 256), (outsAt0 m c n h).2.2.2 (ix2 a l)
    = convW (lag (arg0 m c) (arg2 m c)) (taps (arg0 m c)) a.val (512 * (n % 8 + 1)) (n / 8 * 256 + l.val) := by
  have first : ∀ (t : Fin cfg0.N) (h0 : t.val % 8 = 0) (a : Fin 3) (l : Fin 256), (outsAt0 m c t.val t.isLt).2.2.2 (ix2 a l)
      = convW (lag (arg0 m c) (arg2 m c)) (taps (arg0 m c)) a.val (512 * (t.val % 8 + 1)) (t.val / 8 * 256 + l.val) := fun t h0 a l => by
    have key := tapRow_read (reads m c t) a l
    rw [coord1] at key
    have e := congrArg (fun p => p.2.2.2 (ix2 a l)) (outsAt0_A m c t h0)
    dsimp only at e
    rw [out_A_12] at e
    refine e.trans ((zero_add_bits _).trans (key.trans ?_))
    rw [convW_tile, h0]
    exact (zero_add _).symm
  intro n
  induction n with
  | zero => exact fun h => first ⟨0, h⟩ rfl
  | succ n ih =>
    intro h a l
    by_cases h0 : (n + 1) % 8 = 0
    · exact first ⟨n + 1, h⟩ h0 a l
    · have key := tapRow_read (reads m c ⟨n + 1, h⟩) a l
      rw [coord1] at key
      have e := congrArg (fun p => p.2.2.2 (ix2 a l)) (outsAt0_B m c ⟨n + 1, h⟩ h0)
      dsimp only at e
      rw [out_B_12] at e
      refine e.trans ?_
      have ihn := ih (Nat.lt_of_succ_lt h) a l
      rw [show n % 8 + 1 = (n + 1) % 8 by omega, show n / 8 = (n + 1) / 8 by omega] at ihn
      rw [convW_tile, ← ihn]
      exact congrArg (FloatOps.addf (F := Ideal) (φ := .f32) _) key

theorem block_12 (t : Fin cfg0.N) (hf : t.val % 8 = 7) (r : Fin 3) (l : Fin 256) :
    (outsAt0 m c t.val t.isLt).2.2.2 (ix2 r l) = dFilter (arg0 m c) (arg2 m c) (0 * 3 + r.val) ((t.val / 8) * 256 + l.val) := by
  rw [summed, hf, Nat.zero_mul, Nat.zero_add]
  rfl

/-- The first gate's gradient. -/
def result_9 : Buf (Elt Ideal) ((c : Thread nD τ).loc main_v0_0) := fun (q : S4096x512.Idx) => dGateB (arg0 m c) (arg1 m c) (arg2 m c) (q 0).val (q 1).val

theorem flushed_9 (t : Fin cfg0.N) (hf : (cfg0.win 9).flush t = true) :
    (dats m 0 c).flushed 9 t = ((cfg0.win 9).blk t).view.read (Elt Ideal) (result_9 m c) := by
  obtain ⟨i0, i1⟩ := index_9 t
  rw [Cert.Kernel29Ideal.Value.flushed9]
  funext j
  rw [View.read_apply]
  refine (congrArg ((outsAt0 m c t.val t.isLt).1) (eq_ix2 (j : S512x256.Idx))).trans ?_
  refine (block_9 m c t (j 0) (j 1)).trans ?_
  show _ = dGateB (arg0 m c) (arg1 m c) (arg2 m c) (win0_9.index t 0 * 512 + 1 * (j 0).val) (win0_9.index t 1 * 256 + 1 * (j 1).val)
  rw [i0, i1, one_mul, one_mul]

theorem final_9 : (dats m 0 c).arrAt 9 cfg0.N = result_9 m c :=
  (dats m 0 c).arrAt_eq_of_cover 9 (result_9 m c) (flushed_9 m c) fun i => by
    have h0 : (i 0 : Nat) < 4096 := (i 0).isLt
    have h1 : (i 1 : Nat) < 512 := (i 1).isLt
    have hN : cfg0.N = 16 := N_0
    obtain ⟨t, hv⟩ : ∃ t : Fin cfg0.N, t.val = 8 * ((i 1 : Nat) / 256) + (i 0 : Nat) / 512 := ⟨⟨_, by omega⟩, rfl⟩
    have hx := index_9 t
    refine ⟨t, flush0_9 _, ?_⟩
    show i ∈ ((View.whole main_v0_0).slice (win0_9.rect t)).set
    rw [View.set_slice_whole, Rect.mem_set_unit]
    exact tile_at (by show _ * 512 ≤ (i 0 : Nat) ∧ _ < _ * 512 + 512; rw [hx.1]; omega)
      (by show _ * 256 ≤ (i 1 : Nat) ∧ _ < _ * 256 + 256; rw [hx.2]; omega)

/-- The second gate's gradient. -/
def result_10 : Buf (Elt Ideal) ((c : Thread nD τ).loc main_v0_1) := fun (q : S4096x512.Idx) => dGateC (arg0 m c) (arg1 m c) (arg2 m c) (q 0).val (q 1).val

theorem flushed_10 (t : Fin cfg0.N) (hf : (cfg0.win 10).flush t = true) :
    (dats m 0 c).flushed 10 t = ((cfg0.win 10).blk t).view.read (Elt Ideal) (result_10 m c) := by
  obtain ⟨i0, i1⟩ := index_10 t
  rw [Cert.Kernel29Ideal.Value.flushed10]
  funext j
  rw [View.read_apply]
  refine (congrArg ((outsAt0 m c t.val t.isLt).2.1) (eq_ix2 (j : S512x256.Idx))).trans ?_
  refine (block_10 m c t (j 0) (j 1)).trans ?_
  show _ = dGateC (arg0 m c) (arg1 m c) (arg2 m c) (win0_10.index t 0 * 512 + 1 * (j 0).val) (win0_10.index t 1 * 256 + 1 * (j 1).val)
  rw [i0, i1, one_mul, one_mul]

theorem final_10 : (dats m 0 c).arrAt 10 cfg0.N = result_10 m c :=
  (dats m 0 c).arrAt_eq_of_cover 10 (result_10 m c) (flushed_10 m c) fun i => by
    have h0 : (i 0 : Nat) < 4096 := (i 0).isLt
    have h1 : (i 1 : Nat) < 512 := (i 1).isLt
    have hN : cfg0.N = 16 := N_0
    obtain ⟨t, hv⟩ : ∃ t : Fin cfg0.N, t.val = 8 * ((i 1 : Nat) / 256) + (i 0 : Nat) / 512 := ⟨⟨_, by omega⟩, rfl⟩
    have hx := index_10 t
    refine ⟨t, flush0_10 _, ?_⟩
    show i ∈ ((View.whole main_v0_1).slice (win0_10.rect t)).set
    rw [View.set_slice_whole, Rect.mem_set_unit]
    exact tile_at (by show _ * 512 ≤ (i 0 : Nat) ∧ _ < _ * 512 + 512; rw [hx.1]; omega)
      (by show _ * 256 ≤ (i 1 : Nat) ∧ _ < _ * 256 + 256; rw [hx.2]; omega)

/-- The input's gradient. -/
def result_11 : Buf (Elt Ideal) ((c : Thread nD τ).loc main_v0_2) := fun (q : S4096x512.Idx) => dIn (arg0 m c) (arg1 m c) (arg2 m c) (q 0).val (q 1).val

theorem flushed_11 (t : Fin cfg0.N) (hf : (cfg0.win 11).flush t = true) :
    (dats m 0 c).flushed 11 t = ((cfg0.win 11).blk t).view.read (Elt Ideal) (result_11 m c) := by
  obtain ⟨i0, i1⟩ := index_11 t
  rw [Cert.Kernel29Ideal.Value.flushed11]
  funext j
  rw [View.read_apply]
  refine (congrArg ((outsAt0 m c t.val t.isLt).2.2.1) (eq_ix2 (j : S512x256.Idx))).trans ?_
  refine (block_11 m c t (j 0) (j 1)).trans ?_
  show _ = dIn (arg0 m c) (arg1 m c) (arg2 m c) (win0_11.index t 0 * 512 + 1 * (j 0).val) (win0_11.index t 1 * 256 + 1 * (j 1).val)
  rw [i0, i1, one_mul, one_mul]

theorem final_11 : (dats m 0 c).arrAt 11 cfg0.N = result_11 m c :=
  (dats m 0 c).arrAt_eq_of_cover 11 (result_11 m c) (flushed_11 m c) fun i => by
    have h0 : (i 0 : Nat) < 4096 := (i 0).isLt
    have h1 : (i 1 : Nat) < 512 := (i 1).isLt
    have hN : cfg0.N = 16 := N_0
    obtain ⟨t, hv⟩ : ∃ t : Fin cfg0.N, t.val = 8 * ((i 1 : Nat) / 256) + (i 0 : Nat) / 512 := ⟨⟨_, by omega⟩, rfl⟩
    have hx := index_11 t
    refine ⟨t, flush0_11 _, ?_⟩
    show i ∈ ((View.whole main_v0_2).slice (win0_11.rect t)).set
    rw [View.set_slice_whole, Rect.mem_set_unit]
    exact tile_at (by show _ * 512 ≤ (i 0 : Nat) ∧ _ < _ * 512 + 512; rw [hx.1]; omega)
      (by show _ * 256 ≤ (i 1 : Nat) ∧ _ < _ * 256 + 256; rw [hx.2]; omega)

/-- The filter's gradient. -/
def result_12 : Buf (Elt Ideal) ((c : Thread nD τ).loc main_v0_3) := fun (q : S3x512.Idx) => dFilter (arg0 m c) (arg2 m c) (q 0).val (q 1).val

theorem flushed_12 (t : Fin cfg0.N) (hf : (cfg0.win 12).flush t = true) :
    (dats m 0 c).flushed 12 t = ((cfg0.win 12).blk t).view.read (Elt Ideal) (result_12 m c) := by
  obtain ⟨i0, i1⟩ := index_12 t
  rw [Cert.Kernel29Ideal.Value.flushed12]
  funext j
  rw [View.read_apply]
  refine (congrArg ((outsAt0 m c t.val t.isLt).2.2.2) (eq_ix2 (j : S3x256.Idx))).trans ?_
  refine (block_12 m c t ((flush0_12 t).mp hf) (j 0) (j 1)).trans ?_
  show _ = dFilter (arg0 m c) (arg2 m c) (win0_12.index t 0 * 3 + 1 * (j 0).val) (win0_12.index t 1 * 256 + 1 * (j 1).val)
  rw [i0, i1, one_mul, one_mul]

theorem final_12 : (dats m 0 c).arrAt 12 cfg0.N = result_12 m c :=
  (dats m 0 c).arrAt_eq_of_cover 12 (result_12 m c) (flushed_12 m c) fun i => by
    have h0 : (i 0 : Nat) < 3 := (i 0).isLt
    have h1 : (i 1 : Nat) < 512 := (i 1).isLt
    have hN : cfg0.N = 16 := N_0
    obtain ⟨t, hv⟩ : ∃ t : Fin cfg0.N, t.val = 8 * ((i 1 : Nat) / 256) + 7 := ⟨⟨_, by omega⟩, rfl⟩
    have hx := index_12 t
    refine ⟨t, (flush0_12 _).mpr (by omega), ?_⟩
    show i ∈ ((View.whole main_v0_3).slice (win0_12.rect t)).set
    rw [View.set_slice_whole, Rect.mem_set_unit]
    exact tile_at (by show _ * 3 ≤ (i 0 : Nat) ∧ _ < _ * 3 + 3; rw [hx.1]; omega)
      (by show _ * 256 ≤ (i 1 : Nat) ∧ _ < _ * 256 + 256; rw [hx.2]; omega)

/-- The kernel's run: the results are the arrays above and the arguments are unchanged. -/
theorem run : θ_run defs (onTc (τ := τ) (main (F := Ideal))) ⟨m, fun _ => 0, ρ⟩ fun r => ∀ c : Dev nD,
      r.2.mem ((c : Thread nD τ).loc main_v0_0) = result_9 m c
      ∧ r.2.mem ((c : Thread nD τ).loc main_v0_1) = result_10 m c
      ∧ r.2.mem ((c : Thread nD τ).loc main_v0_2) = result_11 m c
      ∧ r.2.mem ((c : Thread nD τ).loc main_v0_3) = result_12 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_9 m c), (h c).2.1.trans (final_10 m c), (h c).2.2.1.trans (final_11 m c), (h c).2.2.2.1.trans (final_12 m c), (h c).2.2.2.2⟩)
    (Cert.Kernel29Ideal.Value.run_blocks m ρ)

end Cert.Kernel29Ideal.Conv

namespace Cert.Reference29Ideal.Conv

open Idealize.ShloMosaic Idealize.SL.Sem
open Cert.Reference29Ideal Cert.Reference29Ideal.Gen Cert.Reference29Ideal.Read Cert.Ffn Cert.Kernel29Ideal.Conv
open Cert.Kernel30Ideal.Conv (taps)

/-- The reference runs, keeps its arguments and leaves every counter at zero. -/
theorem frame : Cert.quiescent_Reference29Ideal := fun m ρ _ =>
  (θ_run Cert.Reference29Ideal.defs _ _).mono (fun r h => ⟨fun c => (h c).2.2.2.2, sem_eq_zero_of_no_sems (by decide) r.2⟩)
    (Cert.Reference29Ideal.Value.run m ρ)

/-- One entry of the reference's result. -/
theorem val_main_v55_read (x0 : (⟨S4096x2176, .f32⟩ : BufTy).Contents (Elt Ideal)) (x1 : (⟨S3x512, .f32⟩ : BufTy).Contents (Elt Ideal)) (x2 : (⟨S4096x512, .f32⟩ : BufTy).Contents (Elt Ideal))
    (p : Fin 4096) (q : Fin 512) :
    val_main_v55 (F := Ideal) x0 x1 x2 (ix2 p q) = dGateB (at2 (n := 4096) (m := 2176) x0) (at2 (n := 3) (m := 512) x1) (at2 (n := 4096) (m := 512) x2) p.val q.val := by
  have hb : ∀ k : Nat, bk k (taps (at2 (n := 4096) (m := 2176) x0)) p.val q.val = if h : p.val < k then 0
      else x0 (ix2 ⟨p.val - k, by omega⟩ ⟨1024 + q.val, by omega⟩) * x0 (ix2 ⟨p.val - k, by omega⟩ ⟨1536 + q.val, by omega⟩) := fun k => by
    unfold bk taps
    by_cases h : p.val < k
    · rw [dif_pos h, if_neg (by omega)]
    · rw [dif_neg h, if_pos (by omega), at2_of_lt _ (by omega) (by omega), at2_of_lt _ (by omega) (by omega)]
  unfold dGateB conv
  rw [← bk_zero (taps (at2 (n := 4096) (m := 2176) x0)), hb 0, hb 1, hb 2]
  rw [at2_ix2 x2, show at2 (n := 3) (m := 512) x1 2 q.val = x1 (ix2 2 q) from at2_ix2 x1 2 q, show at2 (n := 3) (m := 512) x1 1 q.val = x1 (ix2 1 q) from at2_ix2 x1 1 q, show at2 (n := 3) (m := 512) x1 0 q.val = x1 (ix2 0 q) from at2_ix2 x1 0 q]
  unfold val_main_v55 val_main_v25 val_main_v22 val_main_v21 val_main_v20 val_main_v19 val_main_v18 val_main_v17 val_main_v16 val_main_v15 val_main_v14 val_main_v13 val_main_v12 val_main_v11 val_main_v10 val_main_v9 val_main_v7 val_main_v6 val_main_v5 val_main_v3 val_main_v2 val_main_cst
  pointwise
  refine congrArg (_ * ·) ?_
  rw [add_comm, add_comm (x1 (ix2 0 q) * _), ← add_assoc]
  refine congrArg₂ (· + ·) (congrArg₂ (· + ·) (congrArg (_ * ·) ?_) (congrArg (_ * ·) ?_)) (congrArg (_ * ·) ?_)
  · rw [dif_neg (Nat.not_lt_zero _)]
  · by_cases h : p.val < 1
    · rw [dif_pos h, dif_pos (by omega)]
    · rw [dif_neg h, dif_neg (by omega)]
      have e : 1 + p.val - 2 = p.val - 1 := by omega
      simp only [e]
  · rfl
/-- One entry of the reference's result. -/
theorem val_main_v56_read (x0 : (⟨S4096x2176, .f32⟩ : BufTy).Contents (Elt Ideal)) (x1 : (⟨S3x512, .f32⟩ : BufTy).Contents (Elt Ideal)) (x2 : (⟨S4096x512, .f32⟩ : BufTy).Contents (Elt Ideal))
    (p : Fin 4096) (q : Fin 512) :
    val_main_v56 (F := Ideal) x0 x1 x2 (ix2 p q) = dGateC (at2 (n := 4096) (m := 2176) x0) (at2 (n := 3) (m := 512) x1) (at2 (n := 4096) (m := 512) x2) p.val q.val := by
  have hy : ∀ k : Nat, lag (at2 (n := 4096) (m := 2176) x0) (at2 (n := 4096) (m := 512) x2) (p.val + k) q.val = if h : k + p.val < 4096
      then x0 (ix2 ⟨k + p.val, h⟩ ⟨512 + q.val, by omega⟩) * x2 (ix2 ⟨k + p.val, h⟩ q) else 0 := fun k => by
    unfold lag
    by_cases h : k + p.val < 4096
    · rw [dif_pos h, mul_comm, at2_of_lt x0 (by omega) (by omega), at2_of_lt x2 (by omega) q.isLt]
      simp only [Nat.add_comm p.val k]
    · rw [dif_neg h, at2_of_row_le x2 (by omega), zero_mul]
  unfold dGateC convT
  rw [show lag (at2 (n := 4096) (m := 2176) x0) (at2 (n := 4096) (m := 512) x2) p.val q.val = _ from hy 0, hy 1, hy 2, show at2 (n := 3) (m := 512) x1 2 q.val = x1 (ix2 2 q) from at2_ix2 x1 2 q, show at2 (n := 3) (m := 512) x1 1 q.val = x1 (ix2 1 q) from at2_ix2 x1 1 q, show at2 (n := 3) (m := 512) x1 0 q.val = x1 (ix2 0 q) from at2_ix2 x1 0 q,
    show at2 (n := 4096) (m := 2176) x0 p.val (1536 + q.val) = x0 (ix2 p ⟨1536 + q.val, by omega⟩) from at2_of_lt _ p.isLt (by omega)]
  unfold val_main_v56 val_main_v54 val_main_v52 val_main_v48 val_main_v47 val_main_v43 val_main_v42 val_main_v39 val_main_v38 val_main_v34 val_main_v33 val_main_v31 val_main_v27 val_main_v26 val_main_v24 val_main_v18 val_main_v13 val_main_v9 val_main_v3 val_main_v1 val_main_cst_2 val_main_cst_5 val_main_cst_8
  pointwise
  refine congrArg (· * _) (congrArg₂ (· + ·) (congrArg₂ (· + ·) ?_ ?_) ?_)
  · rfl
  · by_cases h : 1 + p.val < 4096
    · rw [dif_pos ⟨by omega, by omega⟩, dif_pos h]
      have e : 2 + p.val - 1 = 1 + p.val := by omega
      simp only [e]
    · rw [dif_neg (by omega), dif_neg h, mul_zero]
  · by_cases h : 2 + p.val < 4096
    · rw [dif_pos h, dif_pos h]
    · rw [dif_neg h, dif_neg h, mul_zero]

/-- One entry of the reference's result. -/
theorem val_main_v57_read (x0 : (⟨S4096x2176, .f32⟩ : BufTy).Contents (Elt Ideal)) (x1 : (⟨S3x512, .f32⟩ : BufTy).Contents (Elt Ideal)) (x2 : (⟨S4096x512, .f32⟩ : BufTy).Contents (Elt Ideal))
    (p : Fin 4096) (q : Fin 512) :
    val_main_v57 (F := Ideal) x0 x1 x2 (ix2 p q) = dIn (at2 (n := 4096) (m := 2176) x0) (at2 (n := 3) (m := 512) x1) (at2 (n := 4096) (m := 512) x2) p.val q.val := by
  have hy : ∀ k : Nat, lag (at2 (n := 4096) (m := 2176) x0) (at2 (n := 4096) (m := 512) x2) (p.val + k) q.val = if h : k + p.val < 4096
      then x0 (ix2 ⟨k + p.val, h⟩ ⟨512 + q.val, by omega⟩) * x2 (ix2 ⟨k + p.val, h⟩ q) else 0 := fun k => by
    unfold lag
    by_cases h : k + p.val < 4096
    · rw [dif_pos h, mul_comm, at2_of_lt x0 (by omega) (by omega), at2_of_lt x2 (by omega) q.isLt]
      simp only [Nat.add_comm p.val k]
    · rw [dif_neg h, at2_of_row_le x2 (by omega), zero_mul]
  unfold dIn convT
  rw [show lag (at2 (n := 4096) (m := 2176) x0) (at2 (n := 4096) (m := 512) x2) p.val q.val = _ from hy 0, hy 1, hy 2, show at2 (n := 3) (m := 512) x1 2 q.val = x1 (ix2 2 q) from at2_ix2 x1 2 q, show at2 (n := 3) (m := 512) x1 1 q.val = x1 (ix2 1 q) from at2_ix2 x1 1 q, show at2 (n := 3) (m := 512) x1 0 q.val = x1 (ix2 0 q) from at2_ix2 x1 0 q,
    show at2 (n := 4096) (m := 2176) x0 p.val (1024 + q.val) = x0 (ix2 p ⟨1024 + q.val, by omega⟩) from at2_of_lt _ p.isLt (by omega)]
  unfold val_main_v57 val_main_v53 val_main_v52 val_main_v48 val_main_v47 val_main_v43 val_main_v42 val_main_v39 val_main_v38 val_main_v34 val_main_v33 val_main_v31 val_main_v27 val_main_v26 val_main_v24 val_main_v18 val_main_v13 val_main_v9 val_main_v2 val_main_v1 val_main_cst_2 val_main_cst_5 val_main_cst_8
  pointwise
  rw [mul_comm]
  refine congrArg (· * _) (congrArg₂ (· + ·) (congrArg₂ (· + ·) ?_ ?_) ?_)
  · rfl
  · by_cases h : 1 + p.val < 4096
    · rw [dif_pos ⟨by omega, by omega⟩, dif_pos h]
      have e : 2 + p.val - 1 = 1 + p.val := by omega
      simp only [e]
    · rw [dif_neg (by omega), dif_neg h, mul_zero]
  · by_cases h : 2 + p.val < 4096
    · rw [dif_pos h, dif_pos h]
    · rw [dif_neg h, dif_neg h, mul_zero]

/-- One entry of the reference's result. -/
theorem val_main_v50_read (x0 : (⟨S4096x2176, .f32⟩ : BufTy).Contents (Elt Ideal)) (x2 : (⟨S4096x512, .f32⟩ : BufTy).Contents (Elt Ideal))
    (p : Fin 3) (q : Fin 512) :
    val_main_v50 (F := Ideal) x0 x2 (ix2 p q) = dFilter (at2 (n := 4096) (m := 2176) x0) (at2 (n := 4096) (m := 512) x2) p.val q.val := by
  have hy : ∀ x : Fin 4096, lag (at2 (n := 4096) (m := 2176) x0) (at2 (n := 4096) (m := 512) x2) x.val q.val = x0 (ix2 x ⟨512 + q.val, by omega⟩) * x2 (ix2 x q) := fun x => by
    unfold lag
    rw [mul_comm, at2_of_lt x0 x.isLt (by omega), at2_ix2 x2]
  have hz : ∀ x : Fin 4096, taps (at2 (n := 4096) (m := 2176) x0) x.val q.val = x0 (ix2 x ⟨1024 + q.val, by omega⟩) * x0 (ix2 x ⟨1536 + q.val, by omega⟩) := fun x => by
    unfold taps
    rw [at2_of_lt x0 x.isLt (by omega), at2_of_lt x0 x.isLt (by omega)]
  unfold dFilter convW
  unfold val_main_v50 val_main_v49 val_main_v46 val_main_v45 val_main_v44 val_main_v41 val_main_v40 val_main_v37 val_main_v36 val_main_v35 val_main_v32 val_main_v30 val_main_v29 val_main_v28 val_main_v24 val_main_v19 val_main_v14 val_main_v10 val_main_v7 val_main_v6 val_main_v5 val_main_v3 val_main_v2 val_main_v1 val_main_cst val_main_cst_1 val_main_cst_3 val_main_cst_4 val_main_cst_6 val_main_cst_7 val_main_cst_9
  pointwise
  match p with
  | ⟨0, _⟩ =>
    rw [dif_neg (by simp), dif_neg (by simp), dif_pos (by simp), zero_add, zero_add]
    refine Eq.trans ?_ (Finset.sum_range_add _ 2 4094).symm
    rw [Finset.sum_range, Finset.sum_range]
    refine congrArg₂ (· + ·) (Finset.sum_congr rfl fun x _ => ?_) (Finset.sum_congr rfl fun x _ => ?_)
    · rw [show bk (2 - 0) (taps (at2 (n := 4096) (m := 2176) x0)) x.val q.val = 0 from if_neg (by omega), mul_zero, mul_zero]
    · rw [show bk (2 - 0) (taps (at2 (n := 4096) (m := 2176) x0)) (2 + x.val) q.val = taps (at2 (n := 4096) (m := 2176) x0) x.val q.val from (if_pos (by omega)).trans (congrArg (taps (at2 (n := 4096) (m := 2176) x0) · q.val) (by omega))]
      exact congrArg₂ (· * ·) (hy ⟨2 + x.val, by omega⟩).symm (hz ⟨x.val, by omega⟩).symm
  | ⟨1, _⟩ =>
    rw [dif_neg (by simp), dif_pos (by simp), dif_neg (by simp), zero_add, add_zero, Finset.sum_range]
    refine Finset.sum_congr rfl fun x _ => congrArg₂ (· * ·) (hy x).symm ?_
    show _ = bk 1 (taps (at2 (n := 4096) (m := 2176) x0)) x.val q.val
    by_cases h : x.val < 1
    · rw [dif_pos (show 1 + x.val < 2 by omega)]
      exact (if_neg (by omega)).symm
    · rw [dif_neg (show ¬1 + x.val < 2 by omega)]
      refine Eq.trans ?_ (if_pos (by omega)).symm
      refine Eq.trans ?_ (hz ⟨x.val - 1, by omega⟩).symm
      have e : 1 + x.val - 2 = x.val - 1 := by omega
      simp only [e]
  | ⟨2, _⟩ =>
    rw [dif_pos (by simp), dif_neg (by simp), dif_neg (by simp), add_zero, add_zero, Finset.sum_range]
    refine Finset.sum_congr rfl fun x _ => congrArg₂ (· * ·) (hy x).symm ?_
    exact (hz x).symm.trans (bk_zero _ _ _).symm
end Cert.Reference29Ideal.Conv

namespace Cert.Kernel29Ideal.Conv

open Idealize.ShloMosaic Idealize.SL.Sem Cert.Ffn

/-- The kernel and the reference end with the same arrays. -/
theorem algebraic : Cert.algebraic_Kernel29Ideal_Reference29Ideal := by
  intro m g m' g' _ hargs
  refine ⟨result_9 m, result_10 m, result_11 m, result_12 m, run m g, ?_⟩
  refine (θ_run Cert.Reference29Ideal.defs _ _).mono (fun r h c => ?_) (Cert.Reference29Ideal.Value.run (F := Ideal) m' g')
  obtain ⟨a0, a1, a2⟩ := hargs c
  refine ⟨(h c).1.trans ?_, (h c).2.1.trans ?_, (h c).2.2.1.trans ?_, (h c).2.2.2.1.trans ?_, (h c).2.2.2.2⟩
  · rw [Cert.Reference29Ideal.Read.val_main_v55_eq, a0, a1, a2]
    refine funext fun i => ?_
    rw [eq_ix2 i]
    exact Cert.Reference29Ideal.Conv.val_main_v55_read _ _ _ (i 0) (i 1)
  · rw [Cert.Reference29Ideal.Read.val_main_v56_eq, a0, a1, a2]
    refine funext fun i => ?_
    rw [eq_ix2 i]
    exact Cert.Reference29Ideal.Conv.val_main_v56_read _ _ _ (i 0) (i 1)
  · rw [Cert.Reference29Ideal.Read.val_main_v57_eq, a0, a1, a2]
    refine funext fun i => ?_
    rw [eq_ix2 i]
    exact Cert.Reference29Ideal.Conv.val_main_v57_read _ _ _ (i 0) (i 1)
  · rw [Cert.Reference29Ideal.Read.val_main_v50_eq, a0, a2]
    refine funext fun i => ?_
    rw [eq_ix2 i]
    exact Cert.Reference29Ideal.Conv.val_main_v50_read _ _ (i 0) (i 1)

end Cert.Kernel29Ideal.Conv

end
-- ==== Proof.FfnPre.lean ====
/-
  The precondition read back: every entry of the five arguments is a real number.
-/
module

public import proofs.«01_k».proof.Proof.FfnSpec
public import proofs.«01_k».proof.Proof.Gen.Pre_finite_inputs
public import Idealize.ShloMosaic.Lib.ReduceAll

@[expose] public section

noncomputable section

namespace Cert.Pre_finite_inputs.FfnPre

open Idealize.ShloMosaic Idealize.SL.Sem
open Cert.Pre_finite_inputs Cert.Pre_finite_inputs.Gen Cert.Ffn

theorem isReal_of_abs_lt_top {x : EReal} (h : max x (-x) < ⊤) : IsReal x := by
  induction x using EReal.rec with
  | bot => exact absurd h (by simp)
  | coe r => exact ⟨r, rfl⟩
  | top => exact absurd h (by simp)

instance : Subsingleton S_.Idx := ⟨fun a b => funext fun k => k.elim0⟩

/-- A comparison of the absolute value against infinity that holds at every entry makes every entry real. -/
theorem isReal_of_all {s : Shape} {axes : List (Fin s.rank)} (x : FVec Ideal s .f32) (hb : S_.BroadcastsInDim s (![] : Fin 0 → Fin s.rank))
    (init : S_.Idx → BitVec 1) (h : s.ReducesTo axes S_) (hu : 0 < S_.numel) (j : S_.Idx)
    (e : Host.reduce IntOp.andi (cmpf .olt (Host.absf x) (broadcastInDim s ![] hb (constant S_ .f32 0x7F800000#32))) init h hu j = 1#1)
    (i : s.Idx) : IsReal (x i) := by
  have h1 := Host.reduce_andi_all _ init h hu j e i
  refine isReal_of_abs_lt_top ?_
  have h2 : Ideal.cmp .olt (max (x i) (-(x i))) (Ideal.ofBits .f32 0x7F800000#32) = 1#1 := h1
  have h3 : Ideal.ofBits .f32 0x7F800000#32 = ⊤ := by simp [Ideal.ofBits, Ideal.ieee]
  rw [h3] at h2
  by_contra hc
  simp [Ideal.cmp, hc] at h2

/-- The precondition says that every entry of every argument is real. -/
theorem isReal_of_pre (x0 x1 : FVec Ideal S4096x2816 .f32) (x2 : FVec Ideal S3x5632 .f32) (x3 : FVec Ideal S2816x1024 .f32)
    (x4 : FVec Ideal S4096x1024 .f32) (h : ∀ i, fn (F := Ideal) x0 x1 x2 x3 x4 i = 1#1) :
    (∀ i, IsReal (x0 i)) ∧ (∀ i, IsReal (x1 i)) ∧ (∀ i, IsReal (x2 i)) ∧ (∀ i, IsReal (x3 i)) ∧ (∀ i, IsReal (x4 i)) := by
  have h0 := h (fun a => a.elim0 : S_.Idx)
  unfold fn fn_part1 at h0
  dsimp only [andi] at h0
  obtain ⟨h0, r4⟩ := IntOp.andi_eq_one.mp h0
  obtain ⟨h0, r3⟩ := IntOp.andi_eq_one.mp h0
  obtain ⟨h0, r2⟩ := IntOp.andi_eq_one.mp h0
  obtain ⟨h0, r1⟩ := IntOp.andi_eq_one.mp h0
  obtain ⟨_, r0⟩ := IntOp.andi_eq_one.mp h0
  exact ⟨fun i => isReal_of_all x0 _ _ _ _ _ r0 i, fun i => isReal_of_all x1 _ _ _ _ _ r1 i, fun i => isReal_of_all x2 _ _ _ _ _ r2 i,
    fun i => isReal_of_all x3 _ _ _ _ _ r3 i, fun i => isReal_of_all x4 _ _ _ _ _ r4 i⟩

end Cert.Pre_finite_inputs.FfnPre

end
-- ==== Proof.NormPre.lean ====
/-
  The preconditions of the norm's and the skip term's gradients read back: every entry of the arguments they name is a real
  number.
-/
module

public import proofs.«01_k».proof.Proof.FfnPre
public import proofs.«01_k».proof.Proof.Gen.Pre_finite_norm
public import proofs.«01_k».proof.Proof.Gen.Pre_finite_latent
public import proofs.«01_k».proof.Proof.Gen.Pre_finite_skip

@[expose] public section

noncomputable section

namespace Cert.Pre_finite_norm.Back

open Idealize.ShloMosaic Idealize.SL.Sem
open Cert.Pre_finite_norm Cert.Pre_finite_norm.Gen Cert.Ffn Cert.Pre_finite_inputs.FfnPre

theorem isReal (x0 : FVec Ideal S4096x1024 .f32) (x1 : FVec Ideal S1x1024 .f32) (x2 : FVec Ideal S4096x1024 .f32) (x3 : FVec Ideal S4096x1024 .f32)
    (h : ∀ i, fn (F := Ideal) x0 x1 x2 x3 i = 1#1) :
    (∀ i, IsReal (x0 i)) ∧ (∀ i, IsReal (x1 i)) ∧ (∀ i, IsReal (x2 i)) := by
  have h0 := h (fun a => a.elim0 : S_.Idx)
  unfold fn at h0
  dsimp only [andi] at h0
  obtain ⟨h0, r2⟩ := IntOp.andi_eq_one.mp h0
  obtain ⟨h0, r1⟩ := IntOp.andi_eq_one.mp h0
  obtain ⟨_, r0⟩ := IntOp.andi_eq_one.mp h0
  exact ⟨fun i => isReal_of_all x0 _ _ _ _ _ r0 i, fun i => isReal_of_all x1 _ _ _ _ _ r1 i, fun i => isReal_of_all x2 _ _ _ _ _ r2 i⟩

end Cert.Pre_finite_norm.Back

namespace Cert.Pre_finite_latent.Back

open Idealize.ShloMosaic Idealize.SL.Sem
open Cert.Pre_finite_latent Cert.Pre_finite_latent.Gen Cert.Ffn Cert.Pre_finite_inputs.FfnPre

theorem isReal (x0 : FVec Ideal S4096x2176 .f32) (x1 : FVec Ideal S1x256 .f32) (x2 : FVec Ideal S4096x256 .f32)
    (h : ∀ i, fn (F := Ideal) x0 x1 x2 i = 1#1) :
    (∀ i, IsReal (x0 i)) ∧ (∀ i, IsReal (x1 i)) ∧ (∀ i, IsReal (x2 i)) := by
  have h0 := h (fun a => a.elim0 : S_.Idx)
  unfold fn at h0
  dsimp only [andi] at h0
  obtain ⟨h0, r2⟩ := IntOp.andi_eq_one.mp h0
  obtain ⟨h0, r1⟩ := IntOp.andi_eq_one.mp h0
  obtain ⟨_, r0⟩ := IntOp.andi_eq_one.mp h0
  exact ⟨fun i => isReal_of_all x0 _ _ _ _ _ r0 i, fun i => isReal_of_all x1 _ _ _ _ _ r1 i, fun i => isReal_of_all x2 _ _ _ _ _ r2 i⟩

end Cert.Pre_finite_latent.Back

namespace Cert.Pre_finite_skip.Back

open Idealize.ShloMosaic Idealize.SL.Sem
open Cert.Pre_finite_skip Cert.Pre_finite_skip.Gen Cert.Ffn Cert.Pre_finite_inputs.FfnPre

theorem isReal (x0 : FVec Ideal S4096x1024 .f32) (x1 : FVec Ideal S4096x1024 .f32) (x2 : FVec Ideal S1x1024 .f32) (x3 : FVec Ideal S4096x1024 .f32)
    (h : ∀ i, fn (F := Ideal) x0 x1 x2 x3 i = 1#1) :
    (∀ i, IsReal (x0 i)) ∧ (∀ i, IsReal (x1 i)) ∧ (∀ i, IsReal (x2 i)) ∧ (∀ i, IsReal (x3 i)) := by
  have h0 := h (fun a => a.elim0 : S_.Idx)
  unfold fn at h0
  dsimp only [andi] at h0
  obtain ⟨h0, r3⟩ := IntOp.andi_eq_one.mp h0
  obtain ⟨h0, r2⟩ := IntOp.andi_eq_one.mp h0
  obtain ⟨h0, r1⟩ := IntOp.andi_eq_one.mp h0
  obtain ⟨_, r0⟩ := IntOp.andi_eq_one.mp h0
  exact ⟨fun i => isReal_of_all x0 _ _ _ _ _ r0 i, fun i => isReal_of_all x1 _ _ _ _ _ r1 i, fun i => isReal_of_all x2 _ _ _ _ _ r2 i, fun i => isReal_of_all x3 _ _ _ _ _ r3 i⟩

end Cert.Pre_finite_skip.Back

end
-- ==== Proof.Gelu31.lean ====
/-
  The gradients of the S5 mixer's skip term and GELU.
-/
module

public import proofs.«01_k».proof.Defs
public import proofs.«01_k».proof.Proof.FfnSpec
public import proofs.«01_k».proof.Proof.NormPre
public import proofs.«01_k».proof.Proof.Gen.Kernel31Ideal.Value
public import proofs.«01_k».proof.Proof.Gen.Reference31Ideal.Run
public import proofs.«01_k».proof.Proof.Gen.Reference31Ideal.Read

@[expose] public section

noncomputable section

namespace Cert.Kernel31Ideal.Gelu

open Idealize.ShloMosaic Idealize.ShloMosaic.TcCoe Idealize.SL.Sem
open Cert.Kernel31Ideal Cert.Kernel31Ideal.Gen Cert.Ffn

/-- The GELU's slope at `z`, `th` the hyperbolic tangent there. -/
def slope (z th : EReal) : EReal :=
  Ideal.ofBits .f32 0x3F000000#32 * (1 + th) + Ideal.ofBits .f32 0x3F000000#32 * z * (1 - th * th)
    * (Ideal.ofBits .f32 0x3F4C422A#32 * (1 + ((26829 / 200000 : ℝ) : EReal) * z * z))

/-- What reaches the GELU's input of the gradient `d` of its output. -/
def geluGrad (z d : EReal) : EReal :=
  d * slope z (Ideal.tanh (Ideal.ofBits .f32 0x3F4C422A#32 * (z + ((8943 / 200000 : ℝ) : EReal) * z * z * z)))

/-- The gradient of the scan's output. -/
def dScan (Y U D G : Nat → Nat → EReal) (p q : Nat) : EReal := geluGrad (Y p q + D 0 q * U p q) (G p q)

/-- The skip's gradient over the first `s` rows. -/
def skipSum (Y U D G : Nat → Nat → EReal) (s q : Nat) : EReal := ∑ e ∈ Finset.range s, dScan Y U D G e q * U e q

/-- The skip's gradient. -/
def dSkip (Y U D G : Nat → Nat → EReal) (_p q : Nat) : EReal := skipSum Y U D G 4096 q

theorem skipSum_tile (Y U D G : Nat → Nat → EReal) (i q : Nat) :
    skipSum Y U D G (512 * (i + 1)) q = skipSum Y U D G (512 * i) q
      + ∑ r : Fin 512, dScan Y U D G (512 * i + r.val) q * U (512 * i + r.val) q := by
  unfold skipSum
  rw [Nat.mul_succ, Finset.sum_range_add]
  exact congrArg (_ + ·) (Fin.sum_univ_eq_sum_range (fun e => dScan Y U D G (512 * i + e) q * U (512 * i + e) q) 512).symm

theorem ofBits_half : Ideal.ofBits .f32 0x3F000000#32 = ((1 / 2 : ℝ) : EReal) := by
  simp [Ideal.ofBits, Ideal.ieee, -EReal.coe_mul]; norm_num

theorem ofBits_8943 : Ideal.ofBits .f32 0x460BBC00#32 = ((8943 : ℝ) : EReal) := by
  simp [Ideal.ofBits, Ideal.ieee, -EReal.coe_mul]; norm_num

theorem ofBits_200000 : Ideal.ofBits .f32 0x48435000#32 = ((200000 : ℝ) : EReal) := by
  simp [Ideal.ofBits, Ideal.ieee, -EReal.coe_mul]; norm_num

theorem ofBits_root : ∃ s : ℝ, Ideal.ofBits .f32 0x3F4C422A#32 = (s : EReal) :=
  ⟨13386282 * (2 : ℝ) ^ (-24 : ℤ), by simp [Ideal.ofBits, Ideal.ieee, -EReal.coe_mul]⟩

/-- The cubic's own value: the quotient taken last or in the constant. -/
theorem cubic {z : EReal} (hz : IsReal z) :
    Ideal.div (Ideal.ofBits .f32 0x460BBC00#32 * z * z * z) (Ideal.ofBits .f32 0x48435000#32) = ((8943 / 200000 : ℝ) : EReal) * z * z * z := by
  obtain ⟨z, rfl⟩ := hz
  rw [ofBits_8943, ofBits_200000, Ideal.div_coe (by norm_num)]
  simp only [← EReal.coe_mul]
  exact congrArg _ (by ring)

/-- The gradient as the chain rule gives it, term by term. -/
def geluChain (z d th : EReal) : EReal :=
  (((Ideal.ofBits .f32 0x3F4C422A#32 * (Ideal.ofBits .f32 0x3F000000#32 * z * d * ((1 + th) * (1 - th)))
      + Ideal.ofBits .f32 0x460BBC00#32 * z * z * Ideal.div (Ideal.ofBits .f32 0x3F4C422A#32 * (Ideal.ofBits .f32 0x3F000000#32 * z * d * ((1 + th) * (1 - th)))) (Ideal.ofBits .f32 0x48435000#32))
    + Ideal.ofBits .f32 0x460BBC00#32 * z * (Ideal.div (Ideal.ofBits .f32 0x3F4C422A#32 * (Ideal.ofBits .f32 0x3F000000#32 * z * d * ((1 + th) * (1 - th)))) (Ideal.ofBits .f32 0x48435000#32) * z))
    + Ideal.ofBits .f32 0x460BBC00#32 * (Ideal.div (Ideal.ofBits .f32 0x3F4C422A#32 * (Ideal.ofBits .f32 0x3F000000#32 * z * d * ((1 + th) * (1 - th)))) (Ideal.ofBits .f32 0x48435000#32) * z * z))
    + Ideal.ofBits .f32 0x3F000000#32 * (d * (1 + th))

/-- On finite values the chain rule's terms are the slope's. -/
theorem geluChain_eq {z d : EReal} (hz : IsReal z) (hd : IsReal d) :
    geluChain z d (Ideal.tanh (Ideal.ofBits .f32 0x3F4C422A#32 * (z + Ideal.div (Ideal.ofBits .f32 0x460BBC00#32 * z * z * z) (Ideal.ofBits .f32 0x48435000#32))))
      = geluGrad z d := by
  rw [cubic hz]
  unfold geluGrad
  obtain ⟨z, rfl⟩ := hz
  obtain ⟨d, rfl⟩ := hd
  obtain ⟨s, hs⟩ := ofBits_root
  rw [hs]
  simp only [← EReal.coe_mul, ← EReal.coe_add]
  rw [Ideal.tanh_coe]
  generalize Real.tanh _ = th
  unfold geluChain slope
  rw [hs, ofBits_half, ofBits_8943, ofBits_200000, ← EReal.coe_one]
  simp only [← EReal.coe_mul, ← EReal.coe_add, ← EReal.coe_sub]
  rw [Ideal.div_coe (by norm_num)]
  simp only [← EReal.coe_mul, ← EReal.coe_add, ← EReal.coe_sub]
  exact congrArg _ (by ring)

theorem named_a : Named.named (F := Ideal) (φ := .f32) κ "gelu_a" 0x3D372713#32 = ((8943 / 200000 : ℝ) : EReal) :=
  IdealRules.named_const.ideal_named_scalar _ _ _ _ rfl

theorem named_3a : Named.named (F := Ideal) (φ := .f32) κ "gelu_3a" 0x3E095D4F#32 = ((26829 / 200000 : ℝ) : EReal) :=
  IdealRules.named_const.ideal_named_scalar _ _ _ _ rfl

theorem out_A_4 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (hc0 : cond0_0 i)
    (x0 : Vec Ideal S512x1024 .f32) (x1 : Vec Ideal S512x1024 .f32) (x2 : Vec Ideal S1x1024 .f32) (x3 : Vec Ideal S512x1024 .f32) :
    out0_A_4 (F := Ideal) c i arg1 harg1 arg2 harg2 arg3 harg3 arg4 harg4 arg5 harg5 arg6 harg6 hc0 x0 x1 x2 x3 = k0_pay3 x1 x0 x2 x3 := by
  unfold out0_A_4
  rw [View.read_writes_eq_canon _ _ _ (fun _ => cover0_A_4 ..)]
  unfold kernelRun0_A
  dsimp only
  sl_unfold_words
  rw [View.canon_cons_unit_zero hz]
  simp only [View.readAt_eq_ld, harg1.read_unread, harg2.read_unread, harg3.read_unread, harg4.read_unread, harg5.read_unread, harg6.read_unread, View.ld_unit_zero (S := S1x1024) hz, View.ld_unit_zero (S := S512x1024) hz, shapeCast_self]

theorem out_A_5 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (hc0 : cond0_0 i)
    (x0 : Vec Ideal S512x1024 .f32) (x1 : Vec Ideal S512x1024 .f32) (x2 : Vec Ideal S1x1024 .f32) (x3 : Vec Ideal S512x1024 .f32) :
    out0_A_5 (F := Ideal) c i arg1 harg1 arg2 harg2 arg3 harg3 arg4 harg4 arg5 harg5 arg6 harg6 hc0 x0 x1 x2 x3 = k0_pay1 x1 (k0_pay3 x1 x0 x2 x3) (k0_pay2 (F := Ideal)) := by
  unfold out0_A_5
  rw [View.read_writes_eq_canon _ _ _ (fun _ => cover0_A_5 ..)]
  unfold kernelRun0_A
  dsimp only
  sl_unfold_words
  rw [View.canon_cons_unit_zero hz]
  rw [View.readCov_unit_zero _ hz]
  simp only [View.readAt_eq_ld, harg1.read_unread, harg2.read_unread, harg3.read_unread, harg4.read_unread, harg5.read_unread, harg6.read_unread, View.ld_unit_zero (S := S1x1024) hz, View.ld_unit_zero (S := S512x1024) hz, shapeCast_self]

theorem out_B_4 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (hc0 : ¬cond0_0 i)
    (x0 : Vec Ideal S512x1024 .f32) (x1 : Vec Ideal S512x1024 .f32) (x2 : Vec Ideal S1x1024 .f32) (x3 : Vec Ideal S512x1024 .f32) (xo5 : Vec Ideal S1x1024 .f32) :
    out0_B_4 (F := Ideal) c i arg1 harg1 arg2 harg2 arg3 harg3 arg4 harg4 arg5 harg5 arg6 harg6 hc0 x0 x1 x2 x3 xo5 = k0_pay3 x1 x0 x2 x3 := by
  unfold out0_B_4
  rw [View.read_writes_eq_canon _ _ _ (fun _ => cover0_B_4 ..)]
  unfold kernelRun0_B
  dsimp only
  sl_unfold_words
  rw [View.canon_cons_unit_zero hz]
  simp only [View.readAt_eq_ld, harg1.read_unread, harg2.read_unread, harg3.read_unread, harg4.read_unread, harg5.read_unread, harg6.read_unread, View.ld_unit_zero (S := S1x1024) hz, View.ld_unit_zero (S := S512x1024) hz, shapeCast_self]

theorem out_B_5 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (hc0 : ¬cond0_0 i)
    (x0 : Vec Ideal S512x1024 .f32) (x1 : Vec Ideal S512x1024 .f32) (x2 : Vec Ideal S1x1024 .f32) (x3 : Vec Ideal S512x1024 .f32) (xo5 : Vec Ideal S1x1024 .f32) :
    out0_B_5 (F := Ideal) c i arg1 harg1 arg2 harg2 arg3 harg3 arg4 harg4 arg5 harg5 arg6 harg6 hc0 x0 x1 x2 x3 xo5 = k0_pay1 x1 (k0_pay3 x1 x0 x2 x3) xo5 := by
  unfold out0_B_5
  rw [View.read_writes_eq_canon _ _ _ (fun _ => cover0_B_5 ..)]
  unfold kernelRun0_B
  dsimp only
  sl_unfold_words
  rw [View.canon_cons_unit_zero hz]
  simp only [View.readAt_eq_ld, harg1.read_unread, harg2.read_unread, harg3.read_unread, harg4.read_unread, harg5.read_unread, harg6.read_unread, View.ld_unit_zero (S := S1x1024) hz, View.ld_unit_zero (S := S512x1024) hz, shapeCast_self]

/-- One entry of a tile's gradient. -/
theorem dz_read (x0 x1 x3 : Vec Ideal S512x1024 .f32) (x2 : Vec Ideal S1x1024 .f32) (r : Fin 512) (l : Fin 1024) :
    k0_pay3 (F := Ideal) x1 x0 x2 x3 (ix2 r l) = geluGrad (x0 (ix2 r l) + x2 (ix2 0 l) * x1 (ix2 r l)) (x3 (ix2 r l)) := by
  unfold k0_pay3 geluGrad slope
  rw [← named_a, ← named_3a]
  pointwise

/-- One entry of the skip's gradient after a tile. -/
theorem skip_read (x1 dz : Vec Ideal S512x1024 .f32) (v : Vec Ideal S1x1024 .f32) (r : Fin 1) (l : Fin 1024) :
    k0_pay1 (F := Ideal) x1 dz v (ix2 r l) = v (ix2 r l) + ∑ e : Fin 512, dz (ix2 e l) * x1 (ix2 e l) := by
  rw [Subsingleton.elim r 0]
  unfold k0_pay1
  pointwise

theorem zero_read (r : Fin 1) (l : Fin 1024) : k0_pay2 (F := Ideal) (ix2 r l) = 0 := by
  unfold k0_pay2
  pointwise

variable (m : (ℓ : Loc nD τ sig) → Buf (Elt Ideal) ℓ) (ρ : Dev nD → PrngReg) (c : Dev nD)

/-- Argument 0 as a matrix. -/
abbrev arg0 : Nat → Nat → EReal := at2 (n := 4096) (m := 1024) (m ((c : Thread nD τ).loc main_arg0))

/-- Argument 1 as a matrix. -/
abbrev arg1 : Nat → Nat → EReal := at2 (n := 4096) (m := 1024) (m ((c : Thread nD τ).loc main_arg1))

/-- Argument 2 as a matrix. -/
abbrev arg2 : Nat → Nat → EReal := at2 (n := 1) (m := 1024) (m ((c : Thread nD τ).loc main_arg2))

/-- Argument 3 as a matrix. -/
abbrev arg3 : Nat → Nat → EReal := at2 (n := 4096) (m := 1024) (m ((c : Thread nD τ).loc main_arg3))

theorem point_lt (t : Fin cfg0.N) : t.val < 8 := t.isLt.trans_eq N_0

theorem index_0 : ∀ t : Fin grid0.N, win0_0.index t 0 = t.val ∧ win0_0.index t 1 = 0 := by decide +kernel

theorem index_1 : ∀ t : Fin grid0.N, win0_1.index t 0 = t.val ∧ win0_1.index t 1 = 0 := by decide +kernel

theorem index_2 : ∀ t : Fin grid0.N, win0_2.index t 0 = 0 ∧ win0_2.index t 1 = 0 := by decide +kernel

theorem index_3 : ∀ t : Fin grid0.N, win0_3.index t 0 = t.val ∧ win0_3.index t 1 = 0 := by decide +kernel

theorem index_4 : ∀ t : Fin grid0.N, win0_4.index t 0 = t.val ∧ win0_4.index t 1 = 0 := by decide +kernel

theorem index_5 : ∀ t : Fin grid0.N, win0_5.index t 0 = 0 ∧ win0_5.index t 1 = 0 := by decide +kernel

/-- What point `t` reads through window 0. -/
theorem iblk_0 (t : Fin cfg0.N) (r : Fin 512) (l : Fin 1024) :
    iblk m c 0 t (ix2 r l) = arg0 m c ((t.val) * 512 + r.val) ((0) * 1024 + l.val) := by
  have ht := point_lt t
  obtain ⟨i0, i1⟩ := index_0 t
  unfold iblk
  rw [View.read_apply]
  show V m c main_arg0 _ = _
  rw [V_main_arg0]
  exact at2_at _ _ (by show win0_0.index t 0 * 512 + 1 * r.val = _; rw [i0]; omega)
    (by show win0_0.index t 1 * 1024 + 1 * l.val = _; rw [i1]; omega)

/-- What point `t` reads through window 1. -/
theorem iblk_1 (t : Fin cfg0.N) (r : Fin 512) (l : Fin 1024) :
    iblk m c 1 t (ix2 r l) = arg1 m c ((t.val) * 512 + r.val) ((0) * 1024 + l.val) := by
  have ht := point_lt t
  obtain ⟨i0, i1⟩ := index_1 t
  unfold iblk
  rw [View.read_apply]
  show V m c main_arg1 _ = _
  rw [V_main_arg1]
  exact at2_at _ _ (by show win0_1.index t 0 * 512 + 1 * r.val = _; rw [i0]; omega)
    (by show win0_1.index t 1 * 1024 + 1 * l.val = _; rw [i1]; omega)

/-- What point `t` reads through window 2. -/
theorem iblk_2 (t : Fin cfg0.N) (r : Fin 1) (l : Fin 1024) :
    iblk m c 2 t (ix2 r l) = arg2 m c ((0) * 1 + r.val) ((0) * 1024 + l.val) := by
  have ht := point_lt t
  obtain ⟨i0, i1⟩ := index_2 t
  unfold iblk
  rw [View.read_apply]
  show V m c main_arg2 _ = _
  rw [V_main_arg2]
  exact at2_at _ _ (by show win0_2.index t 0 * 1 + 1 * r.val = _; rw [i0]; omega)
    (by show win0_2.index t 1 * 1024 + 1 * l.val = _; rw [i1]; omega)

/-- What point `t` reads through window 3. -/
theorem iblk_3 (t : Fin cfg0.N) (r : Fin 512) (l : Fin 1024) :
    iblk m c 3 t (ix2 r l) = arg3 m c ((t.val) * 512 + r.val) ((0) * 1024 + l.val) := by
  have ht := point_lt t
  obtain ⟨i0, i1⟩ := index_3 t
  unfold iblk
  rw [View.read_apply]
  show V m c main_arg3 _ = _
  rw [V_main_arg3]
  exact at2_at _ _ (by show win0_3.index t 0 * 512 + 1 * r.val = _; rw [i0]; omega)
    (by show win0_3.index t 1 * 1024 + 1 * l.val = _; rw [i1]; omega)

theorem block_4 (t : Fin cfg0.N) (r : Fin 512) (l : Fin 1024) :
    (outsAt0 m c t.val t.isLt).1 (ix2 r l) = dScan (arg0 m c) (arg1 m c) (arg2 m c) (arg3 m c) (t.val * 512 + r.val) (0 * 1024 + l.val) := by
  have e : (outsAt0 m c t.val t.isLt).1 = k0_pay3 (F := Ideal) (iblk m c 1 t) (iblk m c 0 t) (iblk m c 2 t) (iblk m c 3 t) := by
    by_cases h0 : t.val % 8 = 0
    · rw [outsAt0_A m c t h0]; dsimp only; rw [out_A_4]
    · rw [outsAt0_B m c t h0]; dsimp only; rw [out_B_4]
  rw [e, dz_read]
  simp only [iblk_0, iblk_1, iblk_2, iblk_3]
  unfold dScan
  simp only [zero_mul, zero_add, one_mul, Fin.val_zero]

/-- What one tile adds to the skip's gradient. -/
theorem skip_tile (t : Fin cfg0.N) (v : Vec Ideal S1x1024 .f32) (r : Fin 1) (l : Fin 1024) :
    k0_pay1 (F := Ideal) (iblk m c 1 t) (k0_pay3 (F := Ideal) (iblk m c 1 t) (iblk m c 0 t) (iblk m c 2 t) (iblk m c 3 t)) v (ix2 r l) = v (ix2 r l)
      + ∑ e : Fin 512, dScan (arg0 m c) (arg1 m c) (arg2 m c) (arg3 m c) (512 * t.val + e.val) l.val * arg1 m c (512 * t.val + e.val) l.val := by
  rw [skip_read]
  simp only [dz_read, iblk_0, iblk_1, iblk_2, iblk_3]
  unfold dScan
  simp only [zero_mul, zero_add, one_mul, Fin.val_zero, mul_comm t.val 512]

theorem skipSum_zero (q : Nat) : skipSum (arg0 m c) (arg1 m c) (arg2 m c) (arg3 m c) (512 * 0) q = 0 := rfl

/-- What the points up to `n` have summed into the skip's gradient. -/
theorem summed : ∀ (n : ℕ) (h : n < cfg0.N) (r : Fin 1) (l : Fin 1024), (outsAt0 m c n h).2 (ix2 r l)
    = skipSum (arg0 m c) (arg1 m c) (arg2 m c) (arg3 m c) (512 * (n + 1)) l.val := by
  have hN : cfg0.N = 8 := N_0
  intro n
  induction n with
  | zero =>
    intro h r l
    have e := congrArg (fun p => p.2 (ix2 r l)) (outsAt0_A m c ⟨0, h⟩ rfl)
    dsimp only at e
    rw [out_A_5, skip_tile, zero_read] at e
    rw [skipSum_tile]
    exact e
  | succ n ih =>
    intro h r l
    have h0 : ¬(n + 1) % 8 = 0 := by omega
    have e := congrArg (fun p => p.2 (ix2 r l)) (outsAt0_B m c ⟨n + 1, h⟩ h0)
    dsimp only at e
    rw [out_B_5, skip_tile] at e
    rw [skipSum_tile, ← ih (Nat.lt_of_succ_lt h) r l]
    exact e

theorem block_5 (t : Fin cfg0.N) (h : t.val % 8 = 7) (r : Fin 1) (l : Fin 1024) :
    (outsAt0 m c t.val t.isLt).2 (ix2 r l) = dSkip (arg0 m c) (arg1 m c) (arg2 m c) (arg3 m c) (0 * 1 + r.val) (0 * 1024 + l.val) := by
  have ht := point_lt t
  rw [summed m c t.val t.isLt r l]
  unfold dSkip
  rw [show 512 * (t.val + 1) = 4096 by omega, zero_mul, zero_add]

/-- The scan output's gradient. -/
def result_4 : Buf (Elt Ideal) ((c : Thread nD τ).loc main_v0_0) := fun (q : S4096x1024.Idx) => dScan (arg0 m c) (arg1 m c) (arg2 m c) (arg3 m c) (q 0).val (q 1).val

theorem flushed_4 (t : Fin cfg0.N) (hf : (cfg0.win 4).flush t = true) :
    (dats m 0 c).flushed 4 t = ((cfg0.win 4).blk t).view.read (Elt Ideal) (result_4 m c) := by
  obtain ⟨i0, i1⟩ := index_4 t
  rw [Cert.Kernel31Ideal.Value.flushed4]
  funext j
  rw [View.read_apply]
  refine (congrArg ((outsAt0 m c t.val t.isLt).1) (eq_ix2 (j : S512x1024.Idx))).trans ?_
  refine (block_4 m c t (j 0) (j 1)).trans ?_
  show _ = dScan (arg0 m c) (arg1 m c) (arg2 m c) (arg3 m c) (win0_4.index t 0 * 512 + 1 * (j 0).val) (win0_4.index t 1 * 1024 + 1 * (j 1).val)
  rw [i0, i1, one_mul, one_mul]

theorem final_4 : (dats m 0 c).arrAt 4 cfg0.N = result_4 m c :=
  (dats m 0 c).arrAt_eq_of_cover 4 (result_4 m c) (flushed_4 m c) fun i => by
    have h0 : (i 0 : Nat) < 4096 := (i 0).isLt
    have h1 : (i 1 : Nat) < 1024 := (i 1).isLt
    have hN : cfg0.N = 8 := N_0
    obtain ⟨t, hv⟩ : ∃ t : Fin cfg0.N, t.val = (i 0 : Nat) / 512 := ⟨⟨_, by omega⟩, rfl⟩
    have hx := index_4 t
    refine ⟨t, flush0_4 _, ?_⟩
    show i ∈ ((View.whole main_v0_0).slice (win0_4.rect t)).set
    rw [View.set_slice_whole, Rect.mem_set_unit]
    exact tile_at (by show _ * 512 ≤ (i 0 : Nat) ∧ _ < _ * 512 + 512; rw [hx.1]; omega)
      (by show _ * 1024 ≤ (i 1 : Nat) ∧ _ < _ * 1024 + 1024; rw [hx.2]; omega)

/-- The skip's gradient. -/
def result_5 : Buf (Elt Ideal) ((c : Thread nD τ).loc main_v0_1) := fun (q : S1x1024.Idx) => dSkip (arg0 m c) (arg1 m c) (arg2 m c) (arg3 m c) (q 0).val (q 1).val

theorem flushed_5 (t : Fin cfg0.N) (hf : (cfg0.win 5).flush t = true) :
    (dats m 0 c).flushed 5 t = ((cfg0.win 5).blk t).view.read (Elt Ideal) (result_5 m c) := by
  obtain ⟨i0, i1⟩ := index_5 t
  rw [Cert.Kernel31Ideal.Value.flushed5]
  funext j
  rw [View.read_apply]
  refine (congrArg ((outsAt0 m c t.val t.isLt).2) (eq_ix2 (j : S1x1024.Idx))).trans ?_
  refine (block_5 m c t ((flush0_5 t).mp hf) (j 0) (j 1)).trans ?_
  show _ = dSkip (arg0 m c) (arg1 m c) (arg2 m c) (arg3 m c) (win0_5.index t 0 * 1 + 1 * (j 0).val) (win0_5.index t 1 * 1024 + 1 * (j 1).val)
  rw [i0, i1, one_mul, one_mul]

theorem final_5 : (dats m 0 c).arrAt 5 cfg0.N = result_5 m c :=
  (dats m 0 c).arrAt_eq_of_cover 5 (result_5 m c) (flushed_5 m c) fun i => by
    have h0 : (i 0 : Nat) < 1 := (i 0).isLt
    have h1 : (i 1 : Nat) < 1024 := (i 1).isLt
    have hN : cfg0.N = 8 := N_0
    obtain ⟨t, hv⟩ : ∃ t : Fin cfg0.N, t.val = 7 := ⟨⟨_, by omega⟩, rfl⟩
    have hx := index_5 t
    refine ⟨t, (flush0_5 _).mpr (by omega), ?_⟩
    show i ∈ ((View.whole main_v0_1).slice (win0_5.rect t)).set
    rw [View.set_slice_whole, Rect.mem_set_unit]
    exact tile_at (by show _ * 1 ≤ (i 0 : Nat) ∧ _ < _ * 1 + 1; rw [hx.1]; omega)
      (by show _ * 1024 ≤ (i 1 : Nat) ∧ _ < _ * 1024 + 1024; rw [hx.2]; omega)

/-- The kernel's run: the results are the arrays above and the arguments are unchanged. -/
theorem run : θ_run defs (onTc (τ := τ) (main (F := Ideal))) ⟨m, fun _ => 0, ρ⟩ fun r => ∀ c : Dev nD,
      r.2.mem ((c : Thread nD τ).loc main_v0_0) = result_4 m c
      ∧ r.2.mem ((c : Thread nD τ).loc main_v0_1) = result_5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_4 m c), (h c).2.1.trans (final_5 m c), (h c).2.2⟩)
    (Cert.Kernel31Ideal.Value.run_blocks m ρ)

end Cert.Kernel31Ideal.Gelu

namespace Cert.Reference31Ideal.Gelu

open Idealize.ShloMosaic Idealize.SL.Sem
open Cert.Reference31Ideal Cert.Reference31Ideal.Gen Cert.Reference31Ideal.Read Cert.Ffn Cert.Kernel31Ideal.Gelu

/-- The reference runs, keeps its arguments and leaves every counter at zero. -/
theorem frame : Cert.quiescent_Reference31Ideal := fun m ρ _ =>
  (θ_run Cert.Reference31Ideal.defs _ _).mono (fun r h => ⟨fun c => (h c).2.2, sem_eq_zero_of_no_sems (by decide) r.2⟩)
    (Cert.Reference31Ideal.Value.run m ρ)

/-- One entry of the reference's result. -/
theorem val_main_v41_read (x0 x1 : (⟨S4096x1024, .f32⟩ : BufTy).Contents (Elt Ideal)) (x2 : (⟨S1x1024, .f32⟩ : BufTy).Contents (Elt Ideal)) (x3 : (⟨S4096x1024, .f32⟩ : BufTy).Contents (Elt Ideal))
    (f0 : ∀ i, IsReal (x0 i)) (f1 : ∀ i, IsReal (x1 i)) (f2 : ∀ i, IsReal (x2 i)) (f3 : ∀ i, IsReal (x3 i)) (p : Fin 4096) (q : Fin 1024) :
    val_main_v41 (F := Ideal) x0 x1 x2 x3 (ix2 p q) = dScan (at2 (n := 4096) (m := 1024) x0) (at2 (n := 4096) (m := 1024) x1) (at2 (n := 1) (m := 1024) x2) (at2 (n := 4096) (m := 1024) x3) p.val q.val := by
  unfold dScan
  rw [show at2 (n := 1) (m := 1024) x2 0 q.val = x2 (ix2 0 q) from at2_ix2 x2 0 q, at2_ix2, at2_ix2, at2_ix2]
  rw [← geluChain_eq ((f0 _).add ((f2 _).mul (f1 _))) (f3 _)]
  unfold val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1 val_main_cst_2 val_main_cst_3 val_main_cst_4 val_main_cst_5 val_main_cst_6 val_main_cst_7 val_main_cst_8 val_main_cst_9 geluChain
  pointwise
/-- One entry of the reference's result. -/
theorem val_main_v44_read (x0 x1 : (⟨S4096x1024, .f32⟩ : BufTy).Contents (Elt Ideal)) (x2 : (⟨S1x1024, .f32⟩ : BufTy).Contents (Elt Ideal)) (x3 : (⟨S4096x1024, .f32⟩ : BufTy).Contents (Elt Ideal))
    (f0 : ∀ i, IsReal (x0 i)) (f1 : ∀ i, IsReal (x1 i)) (f2 : ∀ i, IsReal (x2 i)) (f3 : ∀ i, IsReal (x3 i)) (p : Fin 1) (q : Fin 1024) :
    val_main_v44 (F := Ideal) x0 x1 x2 x3 (ix2 p q) = dSkip (at2 (n := 4096) (m := 1024) x0) (at2 (n := 4096) (m := 1024) x1) (at2 (n := 1) (m := 1024) x2) (at2 (n := 4096) (m := 1024) x3) p.val q.val := by
  unfold dSkip skipSum
  rw [Finset.sum_range fun e => dScan (at2 (n := 4096) (m := 1024) x0) (at2 (n := 4096) (m := 1024) x1) (at2 (n := 1) (m := 1024) x2) (at2 (n := 4096) (m := 1024) x3) e q.val * at2 (n := 4096) (m := 1024) x1 e q.val]
  have e : ∀ k : Fin 4096, dScan (at2 (n := 4096) (m := 1024) x0) (at2 (n := 4096) (m := 1024) x1) (at2 (n := 1) (m := 1024) x2) (at2 (n := 4096) (m := 1024) x3) k.val q.val * at2 (n := 4096) (m := 1024) x1 k.val q.val
      = val_main_v42 (F := Ideal) x0 x1 x2 x3 (ix2 k q) := fun k => by
    rw [← val_main_v41_read x0 x1 x2 x3 f0 f1 f2 f3 k q, at2_ix2]
    unfold val_main_v42
    pointwise
  simp only [e]
  unfold val_main_v44 val_main_v43
  generalize val_main_v42 (F := Ideal) x0 x1 x2 x3 = y
  unfold val_main_cst_10
  pointwise
end Cert.Reference31Ideal.Gelu

namespace Cert.Kernel31Ideal.Gelu

open Idealize.ShloMosaic Idealize.SL.Sem Cert.Ffn

/-- The kernel and the reference end with the same arrays. -/
theorem algebraic : Cert.algebraic_Kernel31Ideal_Reference31Ideal_pre_finite_skip := by
  intro m g m' g' hpre hargs
  refine ⟨result_4 m, result_5 m, run m g, ?_⟩
  refine (θ_run Cert.Reference31Ideal.defs _ _).mono (fun r h c => ?_) (Cert.Reference31Ideal.Value.run (F := Ideal) m' g')
  obtain ⟨a0, a1, a2, a3⟩ := hargs c
  obtain ⟨f0, f1, f2, f3⟩ := Cert.Pre_finite_skip.Back.isReal _ _ _ _ (fun i => congrFun (hpre c) i)
  refine ⟨(h c).1.trans ?_, (h c).2.1.trans ?_, (h c).2.2⟩
  · rw [Cert.Reference31Ideal.Read.val_main_v41_eq, a0, a1, a2, a3]
    refine funext fun i => ?_
    rw [eq_ix2 i]
    exact Cert.Reference31Ideal.Gelu.val_main_v41_read _ _ _ _ f0 f1 f2 f3 (i 0) (i 1)
  · rw [Cert.Reference31Ideal.Read.val_main_v44_eq, a0, a1, a2, a3]
    refine funext fun i => ?_
    rw [eq_ix2 i]
    exact Cert.Reference31Ideal.Gelu.val_main_v44_read _ _ _ _ f0 f1 f2 f3 (i 0) (i 1)

end Cert.Kernel31Ideal.Gelu

end
-- ==== Proof.Gelu32.lean ====
/-
  The S5 mixer's skip term and its GELU in the hyperbolic tangent's form.
-/
module

public import proofs.«01_k».proof.Defs
public import proofs.«01_k».proof.Proof.FfnSpec
public import proofs.«01_k».proof.Proof.Gen.Kernel32Ideal.Value
public import proofs.«01_k».proof.Proof.Gen.Reference32Ideal.Run
public import proofs.«01_k».proof.Proof.Gen.Reference32Ideal.Read

@[expose] public section

noncomputable section

namespace Cert.Kernel32Ideal.Gelu

open Idealize.ShloMosaic Idealize.ShloMosaic.TcCoe Idealize.SL.Sem
open Cert.Kernel32Ideal Cert.Kernel32Ideal.Gen Cert.Ffn

/-- The hyperbolic tangent's form of the GELU. -/
def gelu (z : EReal) : EReal :=
  Ideal.ofBits .f32 0x3F000000#32 * z
    * (1 + Ideal.tanh (Ideal.ofBits .f32 0x3F4C422A#32 * (z + Ideal.ofBits .f32 0x3D372713#32 * z * z * z)))

/-- The GELU of the scan's output plus the skip term. -/
def skipGelu (Y U D : Nat → Nat → EReal) (p q : Nat) : EReal := gelu (Y p q + D 0 q * U p q)

theorem out_read (x0 x1 : Vec Ideal S512x1024 .f32) (x2 : Vec Ideal S1x1024 .f32) (r : Fin 512) (l : Fin 1024) :
    out0_3 (F := Ideal) x0 x1 x2 (ix2 r l) = gelu (x0 (ix2 r l) + x2 (ix2 0 l) * x1 (ix2 r l)) := by
  unfold out0_3
  refine (congrFun (View.canon_unit_zero hz inb_S512x1024_S512x1024_0_0 _) (ix2 r l)).trans ?_
  have e0 : View.ld x0 r0_0 = x0 := View.ld_unit_zero (S := S512x1024) hz inb_S512x1024_S512x1024_0_0 x0
  have e1 : View.ld x1 r0_0 = x1 := View.ld_unit_zero (S := S512x1024) hz inb_S512x1024_S512x1024_0_0 x1
  have e2 : View.ld x2 r0_1 = x2 := View.ld_unit_zero (S := S1x1024) hz inb_S1x1024_S1x1024_0_0 x2
  rw [e0, e1, e2]
  unfold k0_pay1 gelu
  pointwise

variable (m : (ℓ : Loc nD τ sig) → Buf (Elt Ideal) ℓ) (ρ : Dev nD → PrngReg) (c : Dev nD)

/-- Argument 0 as a matrix. -/
abbrev arg0 : Nat → Nat → EReal := at2 (n := 4096) (m := 1024) (m ((c : Thread nD τ).loc main_arg0))

/-- Argument 1 as a matrix. -/
abbrev arg1 : Nat → Nat → EReal := at2 (n := 4096) (m := 1024) (m ((c : Thread nD τ).loc main_arg1))

/-- Argument 2 as a matrix. -/
abbrev arg2 : Nat → Nat → EReal := at2 (n := 1) (m := 1024) (m ((c : Thread nD τ).loc main_arg2))

theorem point_lt (t : Fin cfg0.N) : t.val < 8 := t.isLt.trans_eq N_0

theorem index_0 : ∀ t : Fin grid0.N, win0_0.index t 0 = t.val ∧ win0_0.index t 1 = 0 := by decide +kernel

theorem index_1 : ∀ t : Fin grid0.N, win0_1.index t 0 = t.val ∧ win0_1.index t 1 = 0 := by decide +kernel

theorem index_2 : ∀ t : Fin grid0.N, win0_2.index t 0 = 0 ∧ win0_2.index t 1 = 0 := by decide +kernel

theorem index_3 : ∀ t : Fin grid0.N, win0_3.index t 0 = t.val ∧ win0_3.index t 1 = 0 := by decide +kernel

/-- What point `t` reads through window 0. -/
theorem iblk_0 (t : Fin cfg0.N) (r : Fin 512) (l : Fin 1024) :
    iblk m c 0 t (ix2 r l) = arg0 m c ((t.val) * 512 + r.val) ((0) * 1024 + l.val) := by
  have ht := point_lt t
  obtain ⟨i0, i1⟩ := index_0 t
  unfold iblk
  rw [View.read_apply]
  show V m c main_arg0 _ = _
  rw [V_main_arg0]
  exact at2_at _ _ (by show win0_0.index t 0 * 512 + 1 * r.val = _; rw [i0]; omega)
    (by show win0_0.index t 1 * 1024 + 1 * l.val = _; rw [i1]; omega)

/-- What point `t` reads through window 1. -/
theorem iblk_1 (t : Fin cfg0.N) (r : Fin 512) (l : Fin 1024) :
    iblk m c 1 t (ix2 r l) = arg1 m c ((t.val) * 512 + r.val) ((0) * 1024 + l.val) := by
  have ht := point_lt t
  obtain ⟨i0, i1⟩ := index_1 t
  unfold iblk
  rw [View.read_apply]
  show V m c main_arg1 _ = _
  rw [V_main_arg1]
  exact at2_at _ _ (by show win0_1.index t 0 * 512 + 1 * r.val = _; rw [i0]; omega)
    (by show win0_1.index t 1 * 1024 + 1 * l.val = _; rw [i1]; omega)

/-- What point `t` reads through window 2. -/
theorem iblk_2 (t : Fin cfg0.N) (r : Fin 1) (l : Fin 1024) :
    iblk m c 2 t (ix2 r l) = arg2 m c ((0) * 1 + r.val) ((0) * 1024 + l.val) := by
  have ht := point_lt t
  obtain ⟨i0, i1⟩ := index_2 t
  unfold iblk
  rw [View.read_apply]
  show V m c main_arg2 _ = _
  rw [V_main_arg2]
  exact at2_at _ _ (by show win0_2.index t 0 * 1 + 1 * r.val = _; rw [i0]; omega)
    (by show win0_2.index t 1 * 1024 + 1 * l.val = _; rw [i1]; omega)

/-- What point `t` leaves of the output. -/
theorem block_3 (t : Fin cfg0.N) (r : Fin 512) (l : Fin 1024) :
    out0_3 (F := Ideal) (iblk m c 0 t) (iblk m c 1 t) (iblk m c 2 t) (ix2 r l) = skipGelu (arg0 m c) (arg1 m c) (arg2 m c) (t.val * 512 + r.val) (0 * 1024 + l.val) := by
  rw [out_read, iblk_0, iblk_1, iblk_2]
  unfold skipGelu
  simp only [zero_mul, zero_add, Fin.val_zero]

/-- The whole result. -/
def result_3 : Buf (Elt Ideal) ((c : Thread nD τ).loc main_v0) := fun (q : S4096x1024.Idx) => skipGelu (arg0 m c) (arg1 m c) (arg2 m c) (q 0).val (q 1).val

theorem flushed_3 (t : Fin cfg0.N) (hf : (cfg0.win 3).flush t = true) :
    (dats m 0 c).flushed 3 t = ((cfg0.win 3).blk t).view.read (Elt Ideal) (result_3 m c) := by
  obtain ⟨i0, i1⟩ := index_3 t
  rw [Cert.Kernel32Ideal.Value.flushed3]
  funext j
  rw [View.read_apply]
  refine (congrArg (out0_3 (F := Ideal) (iblk m c 0 t) (iblk m c 1 t) (iblk m c 2 t)) (eq_ix2 (j : S512x1024.Idx))).trans ?_
  refine (block_3 m c t (j 0) (j 1)).trans ?_
  show _ = skipGelu (arg0 m c) (arg1 m c) (arg2 m c) (win0_3.index t 0 * 512 + 1 * (j 0).val) (win0_3.index t 1 * 1024 + 1 * (j 1).val)
  rw [i0, i1, one_mul, one_mul]

theorem final_3 : (dats m 0 c).arrAt 3 cfg0.N = result_3 m c :=
  (dats m 0 c).arrAt_eq_of_cover 3 (result_3 m c) (flushed_3 m c) fun i => by
    have h0 : (i 0 : Nat) < 4096 := (i 0).isLt
    have h1 : (i 1 : Nat) < 1024 := (i 1).isLt
    have hN : cfg0.N = 8 := N_0
    obtain ⟨t, hv⟩ : ∃ t : Fin cfg0.N, t.val = (i 0 : Nat) / 512 := ⟨⟨_, by omega⟩, rfl⟩
    have hx := index_3 t
    refine ⟨t, flush0_3 _, ?_⟩
    show i ∈ ((View.whole main_v0).slice (win0_3.rect t)).set
    rw [View.set_slice_whole, Rect.mem_set_unit]
    exact tile_at (by show _ * 512 ≤ (i 0 : Nat) ∧ _ < _ * 512 + 512; rw [hx.1]; omega)
      (by show _ * 1024 ≤ (i 1 : Nat) ∧ _ < _ * 1024 + 1024; rw [hx.2]; omega)

/-- The kernel's run: the results are the arrays above and the arguments are unchanged. -/
theorem run : θ_run defs (onTc (τ := τ) (main (F := Ideal))) ⟨m, fun _ => 0, ρ⟩ fun r => ∀ c : Dev nD,
      r.2.mem ((c : Thread nD τ).loc main_v0) = result_3 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_3 m c), (h c).2⟩)
    (Cert.Kernel32Ideal.Value.run_blocks m ρ)

end Cert.Kernel32Ideal.Gelu

namespace Cert.Reference32Ideal.Gelu

open Idealize.ShloMosaic Idealize.SL.Sem
open Cert.Reference32Ideal Cert.Reference32Ideal.Gen Cert.Reference32Ideal.Read Cert.Ffn Cert.Kernel32Ideal.Gelu

/-- The reference runs, keeps its arguments and leaves every counter at zero. -/
theorem frame : Cert.quiescent_Reference32Ideal := fun m ρ _ =>
  (θ_run Cert.Reference32Ideal.defs _ _).mono (fun r h => ⟨fun c => (h c).2, sem_eq_zero_of_no_sems (by decide) r.2⟩)
    (Cert.Reference32Ideal.Value.run m ρ)

/-- One entry of the reference's result. -/
theorem val_main_v16_read (x0 x1 : (⟨S4096x1024, .f32⟩ : BufTy).Contents (Elt Ideal)) (x2 : (⟨S1x1024, .f32⟩ : BufTy).Contents (Elt Ideal))
    (p : Fin 4096) (q : Fin 1024) :
    val_main_v16 (F := Ideal) x0 x1 x2 (ix2 p q) = skipGelu (at2 (n := 4096) (m := 1024) x0) (at2 (n := 4096) (m := 1024) x1) (at2 (n := 1) (m := 1024) x2) p.val q.val := by
  unfold val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1 val_main_cst_2
  unfold skipGelu
  rw [at2_ix2, at2_ix2, show at2 (n := 1) (m := 1024) x2 0 q.val = x2 (ix2 0 q) from at2_ix2 x2 0 q]
  pointwise
  generalize x0 (ix2 p q) + x2 (ix2 0 q) * x1 (ix2 p q) = z
  unfold gelu
  rw [mul_comm (Ideal.ofBits .f32 0x3F000000#32) z, mul_assoc, mul_assoc (_ * z) z z, mul_assoc (Ideal.ofBits .f32 0x3D372713#32) z (z * z)]
  exact (mul_assoc z _ _).symm
end Cert.Reference32Ideal.Gelu

namespace Cert.Kernel32Ideal.Gelu

open Idealize.ShloMosaic Idealize.SL.Sem Cert.Ffn

/-- The kernel and the reference end with the same arrays. -/
theorem algebraic : Cert.algebraic_Kernel32Ideal_Reference32Ideal := by
  intro m g m' g' _ hargs
  refine ⟨result_3 m, run m g, ?_⟩
  refine (θ_run Cert.Reference32Ideal.defs _ _).mono (fun r h c => ?_) (Cert.Reference32Ideal.Value.run (F := Ideal) m' g')
  obtain ⟨a0, a1, a2⟩ := hargs c
  refine ⟨(h c).1.trans ?_, (h c).2⟩
  · rw [Cert.Reference32Ideal.Read.val_main_v16_eq, a0, a1, a2]
    refine funext fun i => ?_
    rw [eq_ix2 i]
    exact Cert.Reference32Ideal.Gelu.val_main_v16_read _ _ _ (i 0) (i 1)

end Cert.Kernel32Ideal.Gelu

end
-- ==== Proof.NormSpec.lean ====
/-
  The norm's backward pass as plain mathematics on extended reals. A row is a function of a column number, `n` its length and
  `N` the count its squares are averaged over.
-/
module

public import proofs.«01_k».proof.Proof.FfnSpec

@[expose] public section

noncomputable section

namespace Cert.Norm

open Idealize.ShloMosaic Cert.Ffn

/-- A row's mean square with the small constant added. -/
def meanSq (n : Nat) (N : EReal) (x : Nat → EReal) : EReal :=
  Ideal.div (∑ k : Fin n, x k * x k) N + Ideal.ofBits .f32 0x358637BD#32

/-- The reciprocal root of a row's mean square. -/
def scaleOf (n : Nat) (N : EReal) (x : Nat → EReal) : EReal := Ideal.rsqrt (meanSq n N x)

/-- The gradient of the norm's input: column `q` of a row `x` with gains `g` and output gradient `y`. -/
def backRow (n : Nat) (N : EReal) (x g y : Nat → EReal) (q : Nat) : EReal :=
  scaleOf n N x * (y q * g q - x q * scaleOf n N x * Ideal.div (∑ k : Fin n, y k * g k * (x k * scaleOf n N x)) N)

/-- The gradient of the norm's gain over the first `i` rows. -/
def backGain (n : Nat) (N : EReal) (X Y : Nat → Nat → EReal) (i q : Nat) : EReal :=
  ∑ e ∈ Finset.range i, Y e q * (X e q * scaleOf n N (X e))

theorem backGain_zero (n : Nat) (N : EReal) (X Y : Nat → Nat → EReal) (q : Nat) : backGain n N X Y 0 q = 0 := rfl

/-- One more tile of rows added. -/
theorem backGain_tile (n : Nat) (N : EReal) (X Y : Nat → Nat → EReal) (i q : Nat) : backGain n N X Y (512 * (i + 1)) q
    = backGain n N X Y (512 * i) q + ∑ r : Fin 512, Y (512 * i + r.val) q * (X (512 * i + r.val) q * scaleOf n N (X (512 * i + r.val))) := by
  unfold backGain
  rw [show 512 * (i + 1) = 512 * i + 512 by omega, Finset.sum_range_add]
  exact congrArg (_ + ·) (Fin.sum_univ_eq_sum_range
    (fun e => Y (512 * i + e) q * (X (512 * i + e) q * scaleOf n N (X (512 * i + e)))) 512).symm

theorem ofBits_1024 : Ideal.ofBits .f32 0x44800000#32 = ((1024 : ℝ) : EReal) := by
  simp [Ideal.ofBits, Ideal.ieee, -EReal.coe_mul]; norm_num

theorem ofBits_256 : Ideal.ofBits .f32 0x43800000#32 = ((256 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_small : ∃ e : ℝ, 0 < e ∧ Ideal.ofBits .f32 0x358637BD#32 = (e : EReal) := by
  refine ⟨8796093 * (2 : ℝ) ^ (-43 : ℤ), by positivity, ?_⟩
  simp [Ideal.ofBits, Ideal.ieee, -EReal.coe_mul]

theorem coe_sum {n : Nat} (f : Fin n → ℝ) : ((∑ k, f k : ℝ) : EReal) = ∑ k, (f k : EReal) := by
  classical
  induction (Finset.univ : Finset (Fin n)) using Finset.induction_on with
  | empty => rw [Finset.sum_empty, Finset.sum_empty, EReal.coe_zero]
  | insert a s ha ih => rw [Finset.sum_insert ha, Finset.sum_insert ha, EReal.coe_add, ih]

/-- The derivative as the chain rule gives it, term by term, is the factored form: on finite rows. -/
theorem backRow_chain {n : Nat} {N : EReal} {C : ℝ} (hN : N = (C : EReal)) (hC : 0 < C) {x g y : Nat → EReal}
    (hx : ∀ k, IsReal (x k)) (hg : ∀ k, IsReal (g k)) (hy : ∀ k, IsReal (y k)) (q : Nat) :
    y q * g q * scaleOf n N x
      + x q * (∑ _i : Fin 1, Ideal.div ((∑ k : Fin n, x k * (y k * g k)) * (Ideal.ofBits .f32 0xBF000000#32 * Ideal.div (scaleOf n N x) (meanSq n N x))) N)
      + (∑ _i : Fin 1, Ideal.div ((∑ k : Fin n, x k * (y k * g k)) * (Ideal.ofBits .f32 0xBF000000#32 * Ideal.div (scaleOf n N x) (meanSq n N x))) N) * x q
      = backRow n N x g y q := by
  choose x' hx' using hx
  choose g' hg' using hg
  choose y' hy' using hy
  obtain ⟨e, he, hb⟩ := ofBits_small
  have hC0 : C ≠ 0 := ne_of_gt hC
  have ht : ∃ t : ℝ, 0 < t ∧ meanSq n N x = (t : EReal) := by
    refine ⟨(∑ k : Fin n, x' k * x' k) * (1 / C) + e, ?_, ?_⟩
    · have : 0 ≤ ∑ k : Fin n, x' k * x' k := Finset.sum_nonneg fun k _ => mul_self_nonneg _
      positivity
    · unfold meanSq
      rw [hb, hN, Ideal.div_coe hC0, EReal.coe_add, EReal.coe_mul, coe_sum]
      simp only [hx', EReal.coe_mul]
  obtain ⟨t, ht0, ht⟩ := ht
  have hs : scaleOf n N x = (((Real.sqrt t)⁻¹ : ℝ) : EReal) := by
    unfold scaleOf
    rw [ht, Ideal.rsqrt_coe, if_neg (not_lt.mpr ht0.le), if_neg ht0.ne']
  have hsq : (Real.sqrt t)⁻¹ * (Real.sqrt t)⁻¹ = 1 / t := by
    rw [← mul_inv, Real.mul_self_sqrt ht0.le, one_div]
  unfold backRow
  rw [hs, ht, hN, Ideal.div_coe ht0.ne', Ideal.div_coe hC0, Ideal.div_coe hC0, ofBits_neg_half, Fin.sum_univ_one]
  generalize (Real.sqrt t)⁻¹ = s at hsq ⊢
  simp only [hx', hg', hy', ← EReal.coe_mul, ← coe_sum, ← EReal.coe_add, ← EReal.coe_sub]
  refine congrArg _ ?_
  have e1 : ∑ k : Fin n, y' k * g' k * (x' k * s) = s * ∑ k : Fin n, x' k * (y' k * g' k) := by
    rw [Finset.mul_sum]; exact Finset.sum_congr rfl fun k _ => by ring
  rw [e1, ← hsq]
  ring

end Cert.Norm

end
-- ==== Proof.Norm33.lean ====
/-
  The gradients of a block's norm over its 1024 features.
-/
module

public import proofs.«01_k».proof.Defs
public import proofs.«01_k».proof.Proof.NormSpec
public import proofs.«01_k».proof.Proof.NormPre
public import proofs.«01_k».proof.Proof.Gen.Kernel33Ideal.Value
public import proofs.«01_k».proof.Proof.Gen.Reference33Ideal.Run
public import proofs.«01_k».proof.Proof.Gen.Reference33Ideal.Read

@[expose] public section

noncomputable section

namespace Cert.Kernel33Ideal.Norm

open Idealize.ShloMosaic Idealize.ShloMosaic.TcCoe Idealize.SL.Sem
open Cert.Kernel33Ideal Cert.Kernel33Ideal.Gen Cert.Ffn Cert.Norm

/-- The gradient of the norm's input, added to what reaches it past the norm. -/
def dNorm (X G Y D : Nat → Nat → EReal) (p q : Nat) : EReal :=
  backRow 1024 (Ideal.ofBits .f32 0x44800000#32) (fun k => X p (k)) (G 0) (Y p) q + D p q

/-- The gradient of the norm's gain. -/
def dGain (X Y : Nat → Nat → EReal) (_p q : Nat) : EReal := backGain 1024 (Ideal.ofBits .f32 0x44800000#32) (fun e k => X e (k)) Y 4096 q

theorem out_A_4 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole) (hc0 : cond0_0 i)
    (x0 : Vec Ideal S512x1024 .f32) (x1 : Vec Ideal S1x1024 .f32) (x2 : Vec Ideal S512x1024 .f32) (x3 : Vec Ideal S512x1024 .f32) :
    out0_A_4 (F := Ideal) c i arg1 harg1 arg2 harg2 arg3 harg3 arg4 harg4 arg5 harg5 arg6 harg6 arg7 harg7 hc0 x0 x1 x2 x3 = k0_pay6 x0 x2 x1 x3 := by
  unfold out0_A_4
  rw [View.read_writes_eq_canon _ _ _ (fun _ => cover0_A_4 ..)]
  unfold kernelRun0_A
  dsimp only
  sl_unfold_words
  rw [View.canon_cons_unit_zero hz]
  simp only [View.readAt_eq_ld, harg1.read_unread, harg2.read_unread, harg3.read_unread, harg4.read_unread, harg5.read_unread, harg6.read_unread, harg7.read_unread, View.ld_unit_zero (S := S1x1024) hz, View.ld_unit_zero (S := S512x1024) hz, shapeCast_self]

theorem out_A_5 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole) (hc0 : cond0_0 i)
    (x0 : Vec Ideal S512x1024 .f32) (x1 : Vec Ideal S1x1024 .f32) (x2 : Vec Ideal S512x1024 .f32) (x3 : Vec Ideal S512x1024 .f32) :
    out0_A_5 (F := Ideal) c i arg1 harg1 arg2 harg2 arg3 harg3 arg4 harg4 arg5 harg5 arg6 harg6 arg7 harg7 hc0 x0 x1 x2 x3 = k0_pay1 (k0_pay6 x0 x2 x1 x3) := by
  unfold out0_A_5
  rw [View.read_writes_eq_canon _ _ _ (fun _ => cover0_A_5 ..)]
  unfold kernelRun0_A
  dsimp only
  sl_unfold_words
  rw [View.canon_cons_unit_zero hz]
  simp only [View.readAt_eq_ld, harg1.read_unread, harg2.read_unread, harg3.read_unread, harg4.read_unread, harg5.read_unread, harg6.read_unread, harg7.read_unread, View.ld_unit_zero (S := S1x1024) hz, View.ld_unit_zero (S := S512x1024) hz, shapeCast_self]

theorem out_A_6 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole) (hc0 : cond0_0 i)
    (x0 : Vec Ideal S512x1024 .f32) (x1 : Vec Ideal S1x1024 .f32) (x2 : Vec Ideal S512x1024 .f32) (x3 : Vec Ideal S512x1024 .f32) :
    out0_A_6 (F := Ideal) c i arg1 harg1 arg2 harg2 arg3 harg3 arg4 harg4 arg5 harg5 arg6 harg6 arg7 harg7 hc0 x0 x1 x2 x3 = k0_pay5 x0 x2 (k0_pay2 (F := Ideal)) := by
  unfold out0_A_6
  rw [View.read_writes_eq_canon _ _ _ (fun _ => cover0_A_6 ..)]
  unfold kernelRun0_A
  dsimp only
  sl_unfold_words
  rw [View.canon_cons_unit_zero hz]
  rw [View.readCov_unit_zero _ hz]
  simp only [View.readAt_eq_ld, harg1.read_unread, harg2.read_unread, harg3.read_unread, harg4.read_unread, harg5.read_unread, harg6.read_unread, harg7.read_unread, View.ld_unit_zero (S := S1x1024) hz, View.ld_unit_zero (S := S512x1024) hz, shapeCast_self]

theorem out_B_4 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole) (hc0 : ¬cond0_0 i)
    (x0 : Vec Ideal S512x1024 .f32) (x1 : Vec Ideal S1x1024 .f32) (x2 : Vec Ideal S512x1024 .f32) (x3 : Vec Ideal S512x1024 .f32) (xo6 : Vec Ideal S1x1024 .f32) :
    out0_B_4 (F := Ideal) c i arg1 harg1 arg2 harg2 arg3 harg3 arg4 harg4 arg5 harg5 arg6 harg6 arg7 harg7 hc0 x0 x1 x2 x3 xo6 = k0_pay6 x0 x2 x1 x3 := by
  unfold out0_B_4
  rw [View.read_writes_eq_canon _ _ _ (fun _ => cover0_B_4 ..)]
  unfold kernelRun0_B
  dsimp only
  sl_unfold_words
  rw [View.canon_cons_unit_zero hz]
  simp only [View.readAt_eq_ld, harg1.read_unread, harg2.read_unread, harg3.read_unread, harg4.read_unread, harg5.read_unread, harg6.read_unread, harg7.read_unread, View.ld_unit_zero (S := S1x1024) hz, View.ld_unit_zero (S := S512x1024) hz, shapeCast_self]

theorem out_B_5 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole) (hc0 : ¬cond0_0 i)
    (x0 : Vec Ideal S512x1024 .f32) (x1 : Vec Ideal S1x1024 .f32) (x2 : Vec Ideal S512x1024 .f32) (x3 : Vec Ideal S512x1024 .f32) (xo6 : Vec Ideal S1x1024 .f32) :
    out0_B_5 (F := Ideal) c i arg1 harg1 arg2 harg2 arg3 harg3 arg4 harg4 arg5 harg5 arg6 harg6 arg7 harg7 hc0 x0 x1 x2 x3 xo6 = k0_pay1 (k0_pay6 x0 x2 x1 x3) := by
  unfold out0_B_5
  rw [View.read_writes_eq_canon _ _ _ (fun _ => cover0_B_5 ..)]
  unfold kernelRun0_B
  dsimp only
  sl_unfold_words
  rw [View.canon_cons_unit_zero hz]
  simp only [View.readAt_eq_ld, harg1.read_unread, harg2.read_unread, harg3.read_unread, harg4.read_unread, harg5.read_unread, harg6.read_unread, harg7.read_unread, View.ld_unit_zero (S := S1x1024) hz, View.ld_unit_zero (S := S512x1024) hz, shapeCast_self]

theorem out_B_6 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1024 .f32) (harg7 : arg7.IsWhole) (hc0 : ¬cond0_0 i)
    (x0 : Vec Ideal S512x1024 .f32) (x1 : Vec Ideal S1x1024 .f32) (x2 : Vec Ideal S512x1024 .f32) (x3 : Vec Ideal S512x1024 .f32) (xo6 : Vec Ideal S1x1024 .f32) :
    out0_B_6 (F := Ideal) c i arg1 harg1 arg2 harg2 arg3 harg3 arg4 harg4 arg5 harg5 arg6 harg6 arg7 harg7 hc0 x0 x1 x2 x3 xo6 = k0_pay5 x0 x2 xo6 := by
  unfold out0_B_6
  rw [View.read_writes_eq_canon _ _ _ (fun _ => cover0_B_6 ..)]
  unfold kernelRun0_B
  dsimp only
  sl_unfold_words
  rw [View.canon_cons_unit_zero hz]
  simp only [View.readAt_eq_ld, harg1.read_unread, harg2.read_unread, harg3.read_unread, harg4.read_unread, harg5.read_unread, harg6.read_unread, harg7.read_unread, View.ld_unit_zero (S := S1x1024) hz, View.ld_unit_zero (S := S512x1024) hz, shapeCast_self]

/-- One entry of the input's gradient of a tile, as the stored operations give it. -/
theorem dx_read (x0 x2 : Vec Ideal S512x1024 .f32) (x1 : Vec Ideal S1x1024 .f32) (x3 : Vec Ideal S512x1024 .f32) (r : Fin 512) (l : Fin 1024) :
    k0_pay6 (F := Ideal) x0 x2 x1 x3 (ix2 r l) = Ideal.rsqrt (Ideal.div (∑ k : Fin 1024, x0 (ix2 r k) * x0 (ix2 r k)) (Ideal.ofBits .f32 0x44800000#32) + Ideal.ofBits .f32 0x358637BD#32)
      * (x2 (ix2 r l) * x1 (ix2 0 l) - x0 (ix2 r l) * Ideal.rsqrt (Ideal.div (∑ k : Fin 1024, x0 (ix2 r k) * x0 (ix2 r k)) (Ideal.ofBits .f32 0x44800000#32) + Ideal.ofBits .f32 0x358637BD#32) * Ideal.div (∑ k : Fin 1024, x2 (ix2 r k) * x1 (ix2 0 k) * (x0 (ix2 r k) * Ideal.rsqrt (Ideal.div (∑ k : Fin 1024, x0 (ix2 r k) * x0 (ix2 r k)) (Ideal.ofBits .f32 0x44800000#32) + Ideal.ofBits .f32 0x358637BD#32))) (Ideal.ofBits .f32 0x44800000#32)) + x3 (ix2 r l) := by
  unfold k0_pay6 k0_pay4 k0_pay3
  pointwise

/-- One entry of the gain's gradient after a tile. -/
theorem gain_read (x0 x2 : Vec Ideal S512x1024 .f32) (v : Vec Ideal S1x1024 .f32) (l : Fin 1024) :
    k0_pay5 (F := Ideal) x0 x2 v (ix2 (0 : Fin 1) l) = v (ix2 (0 : Fin 1) l)
      + ∑ r : Fin 512, x2 (ix2 r l) * (x0 (ix2 r l) * Ideal.rsqrt (Ideal.div (∑ k : Fin 1024, x0 (ix2 r k) * x0 (ix2 r k)) (Ideal.ofBits .f32 0x44800000#32) + Ideal.ofBits .f32 0x358637BD#32)) := by
  unfold k0_pay5 k0_pay4 k0_pay3
  pointwise

theorem zero_read (l : Fin 1024) : k0_pay2 (F := Ideal) (ix2 (0 : Fin 1) l) = 0 := by
  unfold k0_pay2
  pointwise

variable (m : (ℓ : Loc nD τ sig) → Buf (Elt Ideal) ℓ) (ρ : Dev nD → PrngReg) (c : Dev nD)

/-- Argument 0 as a matrix. -/
abbrev arg0 : Nat → Nat → EReal := at2 (n := 4096) (m := 1024) (m ((c : Thread nD τ).loc main_arg0))

/-- Argument 1 as a matrix. -/
abbrev arg1 : Nat → Nat → EReal := at2 (n := 1) (m := 1024) (m ((c : Thread nD τ).loc main_arg1))

/-- Argument 2 as a matrix. -/
abbrev arg2 : Nat → Nat → EReal := at2 (n := 4096) (m := 1024) (m ((c : Thread nD τ).loc main_arg2))

/-- Argument 3 as a matrix. -/
abbrev arg3 : Nat → Nat → EReal := at2 (n := 4096) (m := 1024) (m ((c : Thread nD τ).loc main_arg3))

theorem point_lt (t : Fin cfg0.N) : t.val < 8 := t.isLt.trans_eq N_0

theorem index_0 : ∀ t : Fin grid0.N, win0_0.index t 0 = t.val ∧ win0_0.index t 1 = 0 := by decide +kernel

theorem index_1 : ∀ t : Fin grid0.N, win0_1.index t 0 = 0 ∧ win0_1.index t 1 = 0 := by decide +kernel

theorem index_2 : ∀ t : Fin grid0.N, win0_2.index t 0 = t.val ∧ win0_2.index t 1 = 0 := by decide +kernel

theorem index_3 : ∀ t : Fin grid0.N, win0_3.index t 0 = t.val ∧ win0_3.index t 1 = 0 := by decide +kernel

theorem index_4 : ∀ t : Fin grid0.N, win0_4.index t 0 = t.val ∧ win0_4.index t 1 = 0 := by decide +kernel

theorem index_5 : ∀ t : Fin grid0.N, win0_5.index t 0 = t.val ∧ win0_5.index t 1 = 0 := by decide +kernel

theorem index_6 : ∀ t : Fin grid0.N, win0_6.index t 0 = 0 ∧ win0_6.index t 1 = 0 := by decide +kernel

/-- What point `t` reads through window 0. -/
theorem iblk_0 (t : Fin cfg0.N) (r : Fin 512) (l : Fin 1024) :
    iblk m c 0 t (ix2 r l) = arg0 m c ((t.val) * 512 + r.val) ((0) * 1024 + l.val) := by
  have ht := point_lt t
  obtain ⟨i0, i1⟩ := index_0 t
  unfold iblk
  rw [View.read_apply]
  show V m c main_arg0 _ = _
  rw [V_main_arg0]
  exact at2_at _ _ (by show win0_0.index t 0 * 512 + 1 * r.val = _; rw [i0]; omega)
    (by show win0_0.index t 1 * 1024 + 1 * l.val = _; rw [i1]; omega)

/-- What point `t` reads through window 1. -/
theorem iblk_1 (t : Fin cfg0.N) (r : Fin 1) (l : Fin 1024) :
    iblk m c 1 t (ix2 r l) = arg1 m c ((0) * 1 + r.val) ((0) * 1024 + l.val) := by
  have ht := point_lt t
  obtain ⟨i0, i1⟩ := index_1 t
  unfold iblk
  rw [View.read_apply]
  show V m c main_arg1 _ = _
  rw [V_main_arg1]
  exact at2_at _ _ (by show win0_1.index t 0 * 1 + 1 * r.val = _; rw [i0]; omega)
    (by show win0_1.index t 1 * 1024 + 1 * l.val = _; rw [i1]; omega)

/-- What point `t` reads through window 2. -/
theorem iblk_2 (t : Fin cfg0.N) (r : Fin 512) (l : Fin 1024) :
    iblk m c 2 t (ix2 r l) = arg2 m c ((t.val) * 512 + r.val) ((0) * 1024 + l.val) := by
  have ht := point_lt t
  obtain ⟨i0, i1⟩ := index_2 t
  unfold iblk
  rw [View.read_apply]
  show V m c main_arg2 _ = _
  rw [V_main_arg2]
  exact at2_at _ _ (by show win0_2.index t 0 * 512 + 1 * r.val = _; rw [i0]; omega)
    (by show win0_2.index t 1 * 1024 + 1 * l.val = _; rw [i1]; omega)

/-- What point `t` reads through window 3. -/
theorem iblk_3 (t : Fin cfg0.N) (r : Fin 512) (l : Fin 1024) :
    iblk m c 3 t (ix2 r l) = arg3 m c ((t.val) * 512 + r.val) ((0) * 1024 + l.val) := by
  have ht := point_lt t
  obtain ⟨i0, i1⟩ := index_3 t
  unfold iblk
  rw [View.read_apply]
  show V m c main_arg3 _ = _
  rw [V_main_arg3]
  exact at2_at _ _ (by show win0_3.index t 0 * 512 + 1 * r.val = _; rw [i0]; omega)
    (by show win0_3.index t 1 * 1024 + 1 * l.val = _; rw [i1]; omega)

theorem block_4 (t : Fin cfg0.N) (r : Fin 512) (l : Fin 1024) :
    (outsAt0 m c t.val t.isLt).1 (ix2 r l) = dNorm (arg0 m c) (arg1 m c) (arg2 m c) (arg3 m c) (t.val * 512 + r.val) (0 * 1024 + l.val) := by
  have e : (outsAt0 m c t.val t.isLt).1 = k0_pay6 (F := Ideal) (iblk m c 0 t) (iblk m c 2 t) (iblk m c 1 t) (iblk m c 3 t) := by
    by_cases h0 : t.val % 8 = 0
    · rw [outsAt0_A m c t h0]; dsimp only; rw [out_A_4]
    · rw [outsAt0_B m c t h0]; dsimp only; rw [out_B_4]
  rw [e]

  rw [dx_read]
  simp only [iblk_0, iblk_1, iblk_2, iblk_3]
  unfold dNorm backRow scaleOf meanSq
  simp only [zero_mul, zero_add, one_mul, Fin.val_zero]

theorem block_5 (t : Fin cfg0.N) (r : Fin 512) (l : Fin 1024) :
    (outsAt0 m c t.val t.isLt).2.1 (ix2 r l) = dNorm (arg0 m c) (arg1 m c) (arg2 m c) (arg3 m c) (t.val * 512 + r.val) (0 * 1024 + l.val) := by
  have e : (outsAt0 m c t.val t.isLt).2.1 = k0_pay1 (k0_pay6 (F := Ideal) (iblk m c 0 t) (iblk m c 2 t) (iblk m c 1 t) (iblk m c 3 t)) := by
    by_cases h0 : t.val % 8 = 0
    · rw [outsAt0_A m c t h0]; dsimp only; rw [out_A_5]
    · rw [outsAt0_B m c t h0]; dsimp only; rw [out_B_5]
  rw [e]
  unfold k0_pay1
  refine Eq.trans (b := k0_pay6 (F := Ideal) (iblk m c 0 t) (iblk m c 2 t) (iblk m c 1 t) (iblk m c 3 t) (ix2 r l)) (by pointwise) ?_
  rw [dx_read]
  simp only [iblk_0, iblk_1, iblk_2, iblk_3]
  unfold dNorm backRow scaleOf meanSq
  simp only [zero_mul, zero_add, one_mul, Fin.val_zero]

/-- What one tile adds to the gain's gradient. -/
theorem gain_tile (t : Fin cfg0.N) (v : Vec Ideal S1x1024 .f32) (l : Fin 1024) :
    k0_pay5 (F := Ideal) (iblk m c 0 t) (iblk m c 2 t) v (ix2 (0 : Fin 1) l) = v (ix2 (0 : Fin 1) l)
      + ∑ r : Fin 512, arg2 m c (512 * t.val + r.val) l.val * (arg0 m c (512 * t.val + r.val) (l.val)
        * scaleOf 1024 (Ideal.ofBits .f32 0x44800000#32) (fun k => arg0 m c (512 * t.val + r.val) (k))) := by
  rw [gain_read]
  simp only [iblk_0, iblk_2]
  unfold scaleOf meanSq
  simp only [zero_mul, zero_add, one_mul, mul_comm t.val 512]

/-- What the points up to `n` have summed into the gain's gradient. -/
theorem summed : ∀ (n : ℕ) (h : n < cfg0.N) (l : Fin 1024), (outsAt0 m c n h).2.2 (ix2 (0 : Fin 1) l)
    = backGain 1024 (Ideal.ofBits .f32 0x44800000#32) (fun e k => arg0 m c e (k)) (arg2 m c) (512 * (n + 1)) l.val := by
  have hN : cfg0.N = 8 := N_0
  intro n
  induction n with
  | zero =>
    intro h l
    have e := congrArg (fun p => p.2.2 (ix2 (0 : Fin 1) l)) (outsAt0_A m c ⟨0, h⟩ rfl)
    dsimp only at e
    rw [out_A_6, gain_tile, zero_read] at e
    rw [backGain_tile]
    refine e.trans ?_
    rfl
  | succ n ih =>
    intro h l
    have h0 : ¬(n + 1) % 8 = 0 := by omega
    have e := congrArg (fun p => p.2.2 (ix2 (0 : Fin 1) l)) (outsAt0_B m c ⟨n + 1, h⟩ h0)
    dsimp only at e
    rw [out_B_6, gain_tile] at e
    rw [backGain_tile, ← ih (Nat.lt_of_succ_lt h) l]
    exact e

theorem block_6 (t : Fin cfg0.N) (h : t.val % 8 = 7) (r : Fin 1) (l : Fin 1024) :
    (outsAt0 m c t.val t.isLt).2.2 (ix2 r l) = dGain (arg0 m c) (arg2 m c) (0 * 1 + r.val) (0 * 1024 + l.val) := by
  have ht := point_lt t
  rw [Subsingleton.elim r 0, summed m c t.val t.isLt l]
  unfold dGain
  rw [show 512 * (t.val + 1) = 4096 by omega, zero_mul, zero_add]

/-- The input's gradient. -/
def result_4 : Buf (Elt Ideal) ((c : Thread nD τ).loc main_v0_0) := fun (q : S4096x1024.Idx) => dNorm (arg0 m c) (arg1 m c) (arg2 m c) (arg3 m c) (q 0).val (q 1).val

theorem flushed_4 (t : Fin cfg0.N) (hf : (cfg0.win 4).flush t = true) :
    (dats m 0 c).flushed 4 t = ((cfg0.win 4).blk t).view.read (Elt Ideal) (result_4 m c) := by
  obtain ⟨i0, i1⟩ := index_4 t
  rw [Cert.Kernel33Ideal.Value.flushed4]
  funext j
  rw [View.read_apply]
  refine (congrArg ((outsAt0 m c t.val t.isLt).1) (eq_ix2 (j : S512x1024.Idx))).trans ?_
  refine (block_4 m c t (j 0) (j 1)).trans ?_
  show _ = dNorm (arg0 m c) (arg1 m c) (arg2 m c) (arg3 m c) (win0_4.index t 0 * 512 + 1 * (j 0).val) (win0_4.index t 1 * 1024 + 1 * (j 1).val)
  rw [i0, i1, one_mul, one_mul]

theorem final_4 : (dats m 0 c).arrAt 4 cfg0.N = result_4 m c :=
  (dats m 0 c).arrAt_eq_of_cover 4 (result_4 m c) (flushed_4 m c) fun i => by
    have h0 : (i 0 : Nat) < 4096 := (i 0).isLt
    have h1 : (i 1 : Nat) < 1024 := (i 1).isLt
    have hN : cfg0.N = 8 := N_0
    obtain ⟨t, hv⟩ : ∃ t : Fin cfg0.N, t.val = (i 0 : Nat) / 512 := ⟨⟨_, by omega⟩, rfl⟩
    have hx := index_4 t
    refine ⟨t, flush0_4 _, ?_⟩
    show i ∈ ((View.whole main_v0_0).slice (win0_4.rect t)).set
    rw [View.set_slice_whole, Rect.mem_set_unit]
    exact tile_at (by show _ * 512 ≤ (i 0 : Nat) ∧ _ < _ * 512 + 512; rw [hx.1]; omega)
      (by show _ * 1024 ≤ (i 1 : Nat) ∧ _ < _ * 1024 + 1024; rw [hx.2]; omega)

/-- The input's gradient again, rounded. -/
def result_5 : Buf (Elt Ideal) ((c : Thread nD τ).loc main_v0_1) := fun (q : S4096x1024.Idx) => dNorm (arg0 m c) (arg1 m c) (arg2 m c) (arg3 m c) (q 0).val (q 1).val

theorem flushed_5 (t : Fin cfg0.N) (hf : (cfg0.win 5).flush t = true) :
    (dats m 0 c).flushed 5 t = ((cfg0.win 5).blk t).view.read (Elt Ideal) (result_5 m c) := by
  obtain ⟨i0, i1⟩ := index_5 t
  rw [Cert.Kernel33Ideal.Value.flushed5]
  funext j
  rw [View.read_apply]
  refine (congrArg ((outsAt0 m c t.val t.isLt).2.1) (eq_ix2 (j : S512x1024.Idx))).trans ?_
  refine (block_5 m c t (j 0) (j 1)).trans ?_
  show _ = dNorm (arg0 m c) (arg1 m c) (arg2 m c) (arg3 m c) (win0_5.index t 0 * 512 + 1 * (j 0).val) (win0_5.index t 1 * 1024 + 1 * (j 1).val)
  rw [i0, i1, one_mul, one_mul]

theorem final_5 : (dats m 0 c).arrAt 5 cfg0.N = result_5 m c :=
  (dats m 0 c).arrAt_eq_of_cover 5 (result_5 m c) (flushed_5 m c) fun i => by
    have h0 : (i 0 : Nat) < 4096 := (i 0).isLt
    have h1 : (i 1 : Nat) < 1024 := (i 1).isLt
    have hN : cfg0.N = 8 := N_0
    obtain ⟨t, hv⟩ : ∃ t : Fin cfg0.N, t.val = (i 0 : Nat) / 512 := ⟨⟨_, by omega⟩, rfl⟩
    have hx := index_5 t
    refine ⟨t, flush0_5 _, ?_⟩
    show i ∈ ((View.whole main_v0_1).slice (win0_5.rect t)).set
    rw [View.set_slice_whole, Rect.mem_set_unit]
    exact tile_at (by show _ * 512 ≤ (i 0 : Nat) ∧ _ < _ * 512 + 512; rw [hx.1]; omega)
      (by show _ * 1024 ≤ (i 1 : Nat) ∧ _ < _ * 1024 + 1024; rw [hx.2]; omega)

/-- The gain's gradient. -/
def result_6 : Buf (Elt Ideal) ((c : Thread nD τ).loc main_v0_2) := fun (q : S1x1024.Idx) => dGain (arg0 m c) (arg2 m c) (q 0).val (q 1).val

theorem flushed_6 (t : Fin cfg0.N) (hf : (cfg0.win 6).flush t = true) :
    (dats m 0 c).flushed 6 t = ((cfg0.win 6).blk t).view.read (Elt Ideal) (result_6 m c) := by
  obtain ⟨i0, i1⟩ := index_6 t
  rw [Cert.Kernel33Ideal.Value.flushed6]
  funext j
  rw [View.read_apply]
  refine (congrArg ((outsAt0 m c t.val t.isLt).2.2) (eq_ix2 (j : S1x1024.Idx))).trans ?_
  refine (block_6 m c t ((flush0_6 t).mp hf) (j 0) (j 1)).trans ?_
  show _ = dGain (arg0 m c) (arg2 m c) (win0_6.index t 0 * 1 + 1 * (j 0).val) (win0_6.index t 1 * 1024 + 1 * (j 1).val)
  rw [i0, i1, one_mul, one_mul]

theorem final_6 : (dats m 0 c).arrAt 6 cfg0.N = result_6 m c :=
  (dats m 0 c).arrAt_eq_of_cover 6 (result_6 m c) (flushed_6 m c) fun i => by
    have h0 : (i 0 : Nat) < 1 := (i 0).isLt
    have h1 : (i 1 : Nat) < 1024 := (i 1).isLt
    have hN : cfg0.N = 8 := N_0
    obtain ⟨t, hv⟩ : ∃ t : Fin cfg0.N, t.val = 7 := ⟨⟨_, by omega⟩, rfl⟩
    have hx := index_6 t
    refine ⟨t, (flush0_6 _).mpr (by omega), ?_⟩
    show i ∈ ((View.whole main_v0_2).slice (win0_6.rect t)).set
    rw [View.set_slice_whole, Rect.mem_set_unit]
    exact tile_at (by show _ * 1 ≤ (i 0 : Nat) ∧ _ < _ * 1 + 1; rw [hx.1]; omega)
      (by show _ * 1024 ≤ (i 1 : Nat) ∧ _ < _ * 1024 + 1024; rw [hx.2]; omega)

/-- The kernel's run: the results are the arrays above and the arguments are unchanged. -/
theorem run : θ_run defs (onTc (τ := τ) (main (F := Ideal))) ⟨m, fun _ => 0, ρ⟩ fun r => ∀ c : Dev nD,
      r.2.mem ((c : Thread nD τ).loc main_v0_0) = result_4 m c
      ∧ r.2.mem ((c : Thread nD τ).loc main_v0_1) = result_5 m c
      ∧ r.2.mem ((c : Thread nD τ).loc main_v0_2) = result_6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_4 m c), (h c).2.1.trans (final_5 m c), (h c).2.2.1.trans (final_6 m c), (h c).2.2.2⟩)
    (Cert.Kernel33Ideal.Value.run_blocks m ρ)

end Cert.Kernel33Ideal.Norm

namespace Cert.Reference33Ideal.Norm

open Idealize.ShloMosaic Idealize.SL.Sem
open Cert.Reference33Ideal Cert.Reference33Ideal.Gen Cert.Reference33Ideal.Read Cert.Ffn Cert.Kernel33Ideal.Norm Cert.Norm

/-- The reference runs, keeps its arguments and leaves every counter at zero. -/
theorem frame : Cert.quiescent_Reference33Ideal := fun m ρ _ =>
  (θ_run Cert.Reference33Ideal.defs _ _).mono (fun r h => ⟨fun c => (h c).2.2.2, sem_eq_zero_of_no_sems (by decide) r.2⟩)
    (Cert.Reference33Ideal.Value.run m ρ)

/-- One entry of the reference's result. -/
theorem val_main_v34_read (x0 : (⟨S4096x1024, .f32⟩ : BufTy).Contents (Elt Ideal)) (x1 : (⟨S1x1024, .f32⟩ : BufTy).Contents (Elt Ideal)) (x2 x3 : (⟨S4096x1024, .f32⟩ : BufTy).Contents (Elt Ideal))
    (f0 : ∀ i, IsReal (x0 i)) (f1 : ∀ i, IsReal (x1 i)) (f2 : ∀ i, IsReal (x2 i)) (p : Fin 4096) (q : Fin 1024) :
    val_main_v34 (F := Ideal) x0 x1 x2 x3 (ix2 p q) = dNorm (at2 (n := 4096) (m := 1024) x0) (at2 (n := 1) (m := 1024) x1) (at2 (n := 4096) (m := 1024) x2) (at2 (n := 4096) (m := 1024) x3) p.val q.val := by
  have hX : AllFin (at2 (n := 4096) (m := 1024) x0) := AllFin.at2 f0
  have hG : AllFin (at2 (n := 1) (m := 1024) x1) := AllFin.at2 f1
  have hY : AllFin (at2 (n := 4096) (m := 1024) x2) := AllFin.at2 f2
  unfold dNorm
  rw [← backRow_chain ofBits_1024 (by norm_num) (fun k => hX p.val (k)) (fun k => hG 0 k) (fun k => hY p.val k) q.val]
  unfold scaleOf meanSq
  have ex : ∀ k : Fin 1024, (at2 (n := 4096) (m := 1024) x0) p.val (k.val) = x0 (ix2 p ⟨k.val, by omega⟩) := fun k => at2_of_lt _ p.isLt (by omega)
  have eg : ∀ k : Fin 1024, (at2 (n := 1) (m := 1024) x1) 0 k.val = x1 (ix2 0 k) := fun k => at2_of_lt _ (by omega) k.isLt
  have ey : ∀ k : Fin 1024, (at2 (n := 4096) (m := 1024) x2) p.val k.val = x2 (ix2 p k) := fun k => at2_ix2 x2 p k
  have ed : (at2 (n := 4096) (m := 1024) x3) p.val q.val = x3 (ix2 p q) := at2_ix2 x3 p q
  simp only [ex, eg, ey, ed]
  unfold val_main_v34 val_main_v33 val_main_v32 val_main_v31 val_main_v30 val_main_v29 val_main_v28 val_main_v27 val_main_v26 val_main_v25 val_main_v24 val_main_v23 val_main_v22 val_main_v21 val_main_v20 val_main_v19 val_main_v18 val_main_v10 val_main_v9 val_main_v8 val_main_v7 val_main_v6 val_main_v5 val_main_v4 val_main_v3 val_main_v2 val_main_v1 val_main_v0 val_main_cst val_main_cst_0 val_main_cst_1 val_main_cst_2 val_main_cst_4 val_main_cst_5 val_main_cst_6
  pointwise
/-- One entry of the reference's result. -/
theorem val_main_v35_read (x0 : (⟨S4096x1024, .f32⟩ : BufTy).Contents (Elt Ideal)) (x1 : (⟨S1x1024, .f32⟩ : BufTy).Contents (Elt Ideal)) (x2 x3 : (⟨S4096x1024, .f32⟩ : BufTy).Contents (Elt Ideal))
    (f0 : ∀ i, IsReal (x0 i)) (f1 : ∀ i, IsReal (x1 i)) (f2 : ∀ i, IsReal (x2 i)) (p : Fin 4096) (q : Fin 1024) :
    val_main_v35 (F := Ideal) x0 x1 x2 x3 (ix2 p q) = dNorm (at2 (n := 4096) (m := 1024) x0) (at2 (n := 1) (m := 1024) x1) (at2 (n := 4096) (m := 1024) x2) (at2 (n := 4096) (m := 1024) x3) p.val q.val := by
  refine Eq.trans ?_ (val_main_v34_read x0 x1 x2 x3 f0 f1 f2 p q)
  unfold val_main_v35
  pointwise
/-- One entry of the reference's result. -/
theorem val_main_v17_read (x0 x2 : (⟨S4096x1024, .f32⟩ : BufTy).Contents (Elt Ideal))
    (f0 : ∀ i, IsReal (x0 i)) (f2 : ∀ i, IsReal (x2 i)) (p : Fin 1) (q : Fin 1024) :
    val_main_v17 (F := Ideal) x0 x2 (ix2 p q) = dGain (at2 (n := 4096) (m := 1024) x0) (at2 (n := 4096) (m := 1024) x2) p.val q.val := by
  unfold dGain backGain scaleOf meanSq
  rw [Finset.sum_range fun e => (at2 (n := 4096) (m := 1024) x2) e q.val * ((at2 (n := 4096) (m := 1024) x0) e (q.val) * Ideal.rsqrt (Ideal.div (∑ k : Fin 1024, (at2 (n := 4096) (m := 1024) x0) e (k) * (at2 (n := 4096) (m := 1024) x0) e (k)) (Ideal.ofBits .f32 0x44800000#32) + Ideal.ofBits .f32 0x358637BD#32))]
  have ex : ∀ (e : Fin 4096) (k : Fin 1024), (at2 (n := 4096) (m := 1024) x0) e.val (k.val) = x0 (ix2 e ⟨k.val, by omega⟩) := fun e k => at2_of_lt _ e.isLt (by omega)
  have ey : ∀ e : Fin 4096, (at2 (n := 4096) (m := 1024) x2) e.val q.val = x2 (ix2 e q) := fun e => at2_ix2 x2 e q
  simp only [ex, ey]
  unfold val_main_v17 val_main_v16 val_main_v15 val_main_v12 val_main_v11 val_main_v7 val_main_v6 val_main_v5 val_main_v4 val_main_v3 val_main_v2 val_main_v1 val_main_v0 val_main_cst val_main_cst_0 val_main_cst_1 val_main_cst_3
  pointwise
  exact Finset.sum_congr rfl fun e _ => mul_comm _ _
end Cert.Reference33Ideal.Norm

namespace Cert.Kernel33Ideal.Norm

open Idealize.ShloMosaic Idealize.SL.Sem Cert.Ffn

/-- The kernel and the reference end with the same arrays. -/
theorem algebraic : Cert.algebraic_Kernel33Ideal_Reference33Ideal_pre_finite_norm := by
  intro m g m' g' hpre hargs
  refine ⟨result_4 m, result_5 m, result_6 m, run m g, ?_⟩
  refine (θ_run Cert.Reference33Ideal.defs _ _).mono (fun r h c => ?_) (Cert.Reference33Ideal.Value.run (F := Ideal) m' g')
  obtain ⟨a0, a1, a2, a3⟩ := hargs c
  obtain ⟨f0, f1, f2⟩ := Cert.Pre_finite_norm.Back.isReal _ _ _ _ (fun i => congrFun (hpre c) i)
  refine ⟨(h c).1.trans ?_, (h c).2.1.trans ?_, (h c).2.2.1.trans ?_, (h c).2.2.2⟩
  · rw [Cert.Reference33Ideal.Read.val_main_v34_eq, a0, a1, a2, a3]
    refine funext fun i => ?_
    rw [eq_ix2 i]
    exact Cert.Reference33Ideal.Norm.val_main_v34_read _ _ _ _ f0 f1 f2 (i 0) (i 1)
  · rw [Cert.Reference33Ideal.Read.val_main_v35_eq, a0, a1, a2, a3]
    refine funext fun i => ?_
    rw [eq_ix2 i]
    exact Cert.Reference33Ideal.Norm.val_main_v35_read _ _ _ _ f0 f1 f2 (i 0) (i 1)
  · rw [Cert.Reference33Ideal.Read.val_main_v17_eq, a0, a2]
    refine funext fun i => ?_
    rw [eq_ix2 i]
    exact Cert.Reference33Ideal.Norm.val_main_v17_read _ _ f0 f2 (i 0) (i 1)

end Cert.Kernel33Ideal.Norm

end
-- ==== Proof.Norm34.lean ====
/-
  A block's norm over its 1024 features.
-/
module

public import proofs.«01_k».proof.Defs
public import proofs.«01_k».proof.Proof.FfnSpec
public import proofs.«01_k».proof.Proof.Gen.Kernel34Ideal.Value
public import proofs.«01_k».proof.Proof.Gen.Reference34Ideal.Run
public import proofs.«01_k».proof.Proof.Gen.Reference34Ideal.Read

@[expose] public section

noncomputable section

namespace Cert.Kernel34Ideal.Norm

open Idealize.ShloMosaic Idealize.ShloMosaic.TcCoe Idealize.SL.Sem
open Cert.Kernel34Ideal Cert.Kernel34Ideal.Gen Cert.Ffn

/-- The reciprocal root of a row's mean square. -/
def rowScale (x : Nat → EReal) : EReal :=
  Ideal.rsqrt (Ideal.div (∑ k : Fin 1024, x k * x k) (Ideal.ofBits .f32 0x44800000#32) + Ideal.ofBits .f32 0x358637BD#32)

/-- The rows normalised and weighted. -/
def rms (X G : Nat → Nat → EReal) (p q : Nat) : EReal := X p (q) * rowScale (fun k => X p (k)) * G 0 q

theorem out_read (x0 : Vec Ideal S512x1024 .f32) (x1 : Vec Ideal S1x1024 .f32) (r : Fin 512) (l : Fin 1024) :
    out0_2 (F := Ideal) x0 x1 (ix2 r l) = x0 (ix2 r l) * Ideal.rsqrt (Ideal.div (∑ k : Fin 1024, x0 (ix2 r k) * x0 (ix2 r k)) (Ideal.ofBits .f32 0x44800000#32) + Ideal.ofBits .f32 0x358637BD#32) * x1 (ix2 0 l) := by
  unfold out0_2
  refine (congrFun (View.canon_unit_zero hz inb_S512x1024_S512x1024_0_0 _) (ix2 r l)).trans ?_
  have e0 : View.ld x0 r0_0 = x0 := View.ld_unit_zero (S := S512x1024) hz inb_S512x1024_S512x1024_0_0 x0
  have e1 : View.ld x1 r0_1 = x1 := View.ld_unit_zero (S := S1x1024) hz inb_S1x1024_S1x1024_0_0 x1
  rw [e0, e1]
  unfold k0_pay1
  pointwise

variable (m : (ℓ : Loc nD τ sig) → Buf (Elt Ideal) ℓ) (ρ : Dev nD → PrngReg) (c : Dev nD)

/-- Argument 0 as a matrix. -/
abbrev arg0 : Nat → Nat → EReal := at2 (n := 4096) (m := 1024) (m ((c : Thread nD τ).loc main_arg0))

/-- Argument 1 as a matrix. -/
abbrev arg1 : Nat → Nat → EReal := at2 (n := 1) (m := 1024) (m ((c : Thread nD τ).loc main_arg1))

theorem point_lt (t : Fin cfg0.N) : t.val < 8 := t.isLt.trans_eq N_0

theorem index_0 : ∀ t : Fin grid0.N, win0_0.index t 0 = t.val ∧ win0_0.index t 1 = 0 := by decide +kernel

theorem index_1 : ∀ t : Fin grid0.N, win0_1.index t 0 = 0 ∧ win0_1.index t 1 = 0 := by decide +kernel

theorem index_2 : ∀ t : Fin grid0.N, win0_2.index t 0 = t.val ∧ win0_2.index t 1 = 0 := by decide +kernel

/-- What point `t` reads through window 0. -/
theorem iblk_0 (t : Fin cfg0.N) (r : Fin 512) (l : Fin 1024) :
    iblk m c 0 t (ix2 r l) = arg0 m c ((t.val) * 512 + r.val) ((0) * 1024 + l.val) := by
  have ht := point_lt t
  obtain ⟨i0, i1⟩ := index_0 t
  unfold iblk
  rw [View.read_apply]
  show V m c main_arg0 _ = _
  rw [V_main_arg0]
  exact at2_at _ _ (by show win0_0.index t 0 * 512 + 1 * r.val = _; rw [i0]; omega)
    (by show win0_0.index t 1 * 1024 + 1 * l.val = _; rw [i1]; omega)

/-- What point `t` reads through window 1. -/
theorem iblk_1 (t : Fin cfg0.N) (r : Fin 1) (l : Fin 1024) :
    iblk m c 1 t (ix2 r l) = arg1 m c ((0) * 1 + r.val) ((0) * 1024 + l.val) := by
  have ht := point_lt t
  obtain ⟨i0, i1⟩ := index_1 t
  unfold iblk
  rw [View.read_apply]
  show V m c main_arg1 _ = _
  rw [V_main_arg1]
  exact at2_at _ _ (by show win0_1.index t 0 * 1 + 1 * r.val = _; rw [i0]; omega)
    (by show win0_1.index t 1 * 1024 + 1 * l.val = _; rw [i1]; omega)

/-- What point `t` leaves of the output. -/
theorem block_2 (t : Fin cfg0.N) (r : Fin 512) (l : Fin 1024) :
    (out0_2 (F := Ideal) (iblk m c 0 t) (iblk m c 1 t)) (ix2 r l) = rms (arg0 m c) (arg1 m c) (t.val * 512 + r.val) (0 * 1024 + l.val) := by
  rw [out_read]
  simp only [iblk_0, iblk_1]
  unfold rms rowScale
  simp only [zero_mul, zero_add, one_mul, Fin.val_zero]

/-- The whole result. -/
def result_2 : Buf (Elt Ideal) ((c : Thread nD τ).loc main_v0) := fun (q : S4096x1024.Idx) => rms (arg0 m c) (arg1 m c) (q 0).val (q 1).val

theorem flushed_2 (t : Fin cfg0.N) (hf : (cfg0.win 2).flush t = true) :
    (dats m 0 c).flushed 2 t = ((cfg0.win 2).blk t).view.read (Elt Ideal) (result_2 m c) := by
  obtain ⟨i0, i1⟩ := index_2 t
  rw [Cert.Kernel34Ideal.Value.flushed2]
  funext j
  rw [View.read_apply]
  refine (congrArg (out0_2 (F := Ideal) (iblk m c 0 t) (iblk m c 1 t)) (eq_ix2 (j : S512x1024.Idx))).trans ?_
  refine (block_2 m c t (j 0) (j 1)).trans ?_
  show _ = rms (arg0 m c) (arg1 m c) (win0_2.index t 0 * 512 + 1 * (j 0).val) (win0_2.index t 1 * 1024 + 1 * (j 1).val)
  rw [i0, i1, one_mul, one_mul]

theorem final_2 : (dats m 0 c).arrAt 2 cfg0.N = result_2 m c :=
  (dats m 0 c).arrAt_eq_of_cover 2 (result_2 m c) (flushed_2 m c) fun i => by
    have h0 : (i 0 : Nat) < 4096 := (i 0).isLt
    have h1 : (i 1 : Nat) < 1024 := (i 1).isLt
    have hN : cfg0.N = 8 := N_0
    obtain ⟨t, hv⟩ : ∃ t : Fin cfg0.N, t.val = (i 0 : Nat) / 512 := ⟨⟨_, by omega⟩, rfl⟩
    have hx := index_2 t
    refine ⟨t, flush0_2 _, ?_⟩
    show i ∈ ((View.whole main_v0).slice (win0_2.rect t)).set
    rw [View.set_slice_whole, Rect.mem_set_unit]
    exact tile_at (by show _ * 512 ≤ (i 0 : Nat) ∧ _ < _ * 512 + 512; rw [hx.1]; omega)
      (by show _ * 1024 ≤ (i 1 : Nat) ∧ _ < _ * 1024 + 1024; rw [hx.2]; omega)

/-- The kernel's run: the results are the arrays above and the arguments are unchanged. -/
theorem run : θ_run defs (onTc (τ := τ) (main (F := Ideal))) ⟨m, fun _ => 0, ρ⟩ fun r => ∀ c : Dev nD,
      r.2.mem ((c : Thread nD τ).loc main_v0) = result_2 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_2 m c), (h c).2⟩)
    (Cert.Kernel34Ideal.Value.run_blocks m ρ)

end Cert.Kernel34Ideal.Norm

namespace Cert.Reference34Ideal.Norm

open Idealize.ShloMosaic Idealize.SL.Sem
open Cert.Reference34Ideal Cert.Reference34Ideal.Gen Cert.Reference34Ideal.Read Cert.Ffn Cert.Kernel34Ideal.Norm

/-- The reference runs, keeps its arguments and leaves every counter at zero. -/
theorem frame : Cert.quiescent_Reference34Ideal := fun m ρ _ =>
  (θ_run Cert.Reference34Ideal.defs _ _).mono (fun r h => ⟨fun c => (h c).2, sem_eq_zero_of_no_sems (by decide) r.2⟩)
    (Cert.Reference34Ideal.Value.run m ρ)

/-- One entry of the reference's result. -/
theorem val_main_v12_read (x0 : (⟨S4096x1024, .f32⟩ : BufTy).Contents (Elt Ideal)) (x1 : (⟨S1x1024, .f32⟩ : BufTy).Contents (Elt Ideal))
    (p : Fin 4096) (q : Fin 1024) :
    val_main_v12 (F := Ideal) x0 x1 (ix2 p q) = rms (at2 (n := 4096) (m := 1024) x0) (at2 (n := 1) (m := 1024) x1) p.val q.val := by
  unfold val_main_v12 val_main_v11 val_main_v10 val_main_v9 val_main_v8 val_main_v7 val_main_v6 val_main_v5 val_main_v4 val_main_v3 val_main_v2 val_main_v1 val_main_v0 val_main_cst val_main_cst_0 val_main_cst_1
  unfold rms rowScale
  pointwise
  rw [show at2 (n := 1) (m := 1024) x1 0 q.val = x1 (ix2 0 q) from at2_ix2 x1 0 q,
    show at2 (n := 4096) (m := 1024) x0 p.val (q.val) = x0 (ix2 ⟨p.val, by omega⟩ ⟨q.val, by omega⟩) from at2_of_lt _ (by omega) (by omega)]
  refine congrArg (· * _) (congrArg (_ * ·) (congrArg Ideal.rsqrt (congrArg (· + _) (congrArg (fun s => Ideal.div s _) ?_))))
  try rw [zero_add]
  refine Finset.sum_congr rfl fun k _ => ?_
  rw [show at2 (n := 4096) (m := 1024) x0 p.val (k.val) = x0 (ix2 ⟨p.val, by omega⟩ ⟨k.val, by omega⟩) from at2_of_lt _ (by omega) (by omega)]
end Cert.Reference34Ideal.Norm

namespace Cert.Kernel34Ideal.Norm

open Idealize.ShloMosaic Idealize.SL.Sem Cert.Ffn

/-- The kernel and the reference end with the same arrays. -/
theorem algebraic : Cert.algebraic_Kernel34Ideal_Reference34Ideal := by
  intro m g m' g' _ hargs
  refine ⟨result_2 m, run m g, ?_⟩
  refine (θ_run Cert.Reference34Ideal.defs _ _).mono (fun r h c => ?_) (Cert.Reference34Ideal.Value.run (F := Ideal) m' g')
  obtain ⟨a0, a1⟩ := hargs c
  refine ⟨(h c).1.trans ?_, (h c).2⟩
  · rw [Cert.Reference34Ideal.Read.val_main_v12_eq, a0, a1]
    refine funext fun i => ?_
    rw [eq_ix2 i]
    exact Cert.Reference34Ideal.Norm.val_main_v12_read _ _ (i 0) (i 1)

end Cert.Kernel34Ideal.Norm

end
-- ==== Proof.Norm35.lean ====
/-
  The gradients of the query latent's norm.
-/
module

public import proofs.«01_k».proof.Defs
public import proofs.«01_k».proof.Proof.NormSpec
public import proofs.«01_k».proof.Proof.NormPre
public import proofs.«01_k».proof.Proof.Gen.Kernel35Ideal.Value
public import proofs.«01_k».proof.Proof.Gen.Reference35Ideal.Run
public import proofs.«01_k».proof.Proof.Gen.Reference35Ideal.Read

@[expose] public section

noncomputable section

namespace Cert.Kernel35Ideal.Norm

open Idealize.ShloMosaic Idealize.ShloMosaic.TcCoe Idealize.SL.Sem
open Cert.Kernel35Ideal Cert.Kernel35Ideal.Gen Cert.Ffn Cert.Norm

/-- The gradient of the norm's input. -/
def dNorm (X G Y : Nat → Nat → EReal) (p q : Nat) : EReal :=
  backRow 256 (Ideal.ofBits .f32 0x43800000#32) (fun k => X p (k)) (G 0) (Y p) q

/-- The gradient of the norm's gain. -/
def dGain (X Y : Nat → Nat → EReal) (_p q : Nat) : EReal := backGain 256 (Ideal.ofBits .f32 0x43800000#32) (fun e k => X e (k)) Y 4096 q

theorem out_A_3 (c : Dev nD) (i : grid0.Coords) (arg1 : Memref sig .tc .vmem S512x256 .f32) (harg1 : arg1.IsWhole) (arg2 : Memref sig .tc .vmem S1x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1x256 .f32) (harg5 : arg5.IsWhole) (hc0 : cond0_0 i)
    (x0 : Vec Ideal S512x256 .f32) (x1 : Vec Ideal S1x256 .f32) (x2 : Vec Ideal S512x256 .f32) :
    out0_A_3 (F := Ideal) c i arg1 harg1 arg2 harg2 arg3 harg3 arg4 harg4 arg5 harg5 hc0 x0 x1 x2 = k0_pay5 x0 x2 x1 := by
  unfold out0_A_3
  rw [View.read_writes_eq_canon _ _ _ (fun _ => cover0_A_3 ..)]
  unfold kernelRun0_A
  dsimp only
  sl_unfold_words
  rw [View.canon_cons_unit_zero hz]
  simp only [View.readAt_eq_ld, harg1.read_unread, harg2.read_unread, harg3.read_unread, harg4.read_unread, harg5.read_unread, View.ld_unit_zero (S := S1x256) hz, View.ld_unit_zero (S := S512x256) hz, shapeCast_self]

theorem out_A_4 (c : Dev nD) (i : grid0.Coords) (arg1 : Memref sig .tc .vmem S512x256 .f32) (harg1 : arg1.IsWhole) (arg2 : Memref sig .tc .vmem S1x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1x256 .f32) (harg5 : arg5.IsWhole) (hc0 : cond0_0 i)
    (x0 : Vec Ideal S512x256 .f32) (x1 : Vec Ideal S1x256 .f32) (x2 : Vec Ideal S512x256 .f32) :
    out0_A_4 (F := Ideal) c i arg1 harg1 arg2 harg2 arg3 harg3 arg4 harg4 arg5 harg5 hc0 x0 x1 x2 = k0_pay4 x0 x2 (k0_pay1 (F := Ideal)) := by
  unfold out0_A_4
  rw [View.read_writes_eq_canon _ _ _ (fun _ => cover0_A_4 ..)]
  unfold kernelRun0_A
  dsimp only
  sl_unfold_words
  rw [View.canon_cons_unit_zero hz]
  rw [View.readCov_unit_zero _ hz]
  simp only [View.readAt_eq_ld, harg1.read_unread, harg2.read_unread, harg3.read_unread, harg4.read_unread, harg5.read_unread, View.ld_unit_zero (S := S1x256) hz, View.ld_unit_zero (S := S512x256) hz, shapeCast_self]

theorem out_B_3 (c : Dev nD) (i : grid0.Coords) (arg1 : Memref sig .tc .vmem S512x256 .f32) (harg1 : arg1.IsWhole) (arg2 : Memref sig .tc .vmem S1x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1x256 .f32) (harg5 : arg5.IsWhole) (hc0 : ¬cond0_0 i)
    (x0 : Vec Ideal S512x256 .f32) (x1 : Vec Ideal S1x256 .f32) (x2 : Vec Ideal S512x256 .f32) (xo4 : Vec Ideal S1x256 .f32) :
    out0_B_3 (F := Ideal) c i arg1 harg1 arg2 harg2 arg3 harg3 arg4 harg4 arg5 harg5 hc0 x0 x1 x2 xo4 = k0_pay5 x0 x2 x1 := by
  unfold out0_B_3
  rw [View.read_writes_eq_canon _ _ _ (fun _ => cover0_B_3 ..)]
  unfold kernelRun0_B
  dsimp only
  sl_unfold_words
  rw [View.canon_cons_unit_zero hz]
  simp only [View.readAt_eq_ld, harg1.read_unread, harg2.read_unread, harg3.read_unread, harg4.read_unread, harg5.read_unread, View.ld_unit_zero (S := S1x256) hz, View.ld_unit_zero (S := S512x256) hz, shapeCast_self]

theorem out_B_4 (c : Dev nD) (i : grid0.Coords) (arg1 : Memref sig .tc .vmem S512x256 .f32) (harg1 : arg1.IsWhole) (arg2 : Memref sig .tc .vmem S1x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1x256 .f32) (harg5 : arg5.IsWhole) (hc0 : ¬cond0_0 i)
    (x0 : Vec Ideal S512x256 .f32) (x1 : Vec Ideal S1x256 .f32) (x2 : Vec Ideal S512x256 .f32) (xo4 : Vec Ideal S1x256 .f32) :
    out0_B_4 (F := Ideal) c i arg1 harg1 arg2 harg2 arg3 harg3 arg4 harg4 arg5 harg5 hc0 x0 x1 x2 xo4 = k0_pay4 x0 x2 xo4 := by
  unfold out0_B_4
  rw [View.read_writes_eq_canon _ _ _ (fun _ => cover0_B_4 ..)]
  unfold kernelRun0_B
  dsimp only
  sl_unfold_words
  rw [View.canon_cons_unit_zero hz]
  simp only [View.readAt_eq_ld, harg1.read_unread, harg2.read_unread, harg3.read_unread, harg4.read_unread, harg5.read_unread, View.ld_unit_zero (S := S1x256) hz, View.ld_unit_zero (S := S512x256) hz, shapeCast_self]

/-- One entry of the input's gradient of a tile, as the stored operations give it. -/
theorem dx_read (x0 x2 : Vec Ideal S512x256 .f32) (x1 : Vec Ideal S1x256 .f32) (r : Fin 512) (l : Fin 256) :
    k0_pay5 (F := Ideal) x0 x2 x1 (ix2 r l) = Ideal.rsqrt (Ideal.div (∑ k : Fin 256, x0 (ix2 r k) * x0 (ix2 r k)) (Ideal.ofBits .f32 0x43800000#32) + Ideal.ofBits .f32 0x358637BD#32)
      * (x2 (ix2 r l) * x1 (ix2 0 l) - x0 (ix2 r l) * Ideal.rsqrt (Ideal.div (∑ k : Fin 256, x0 (ix2 r k) * x0 (ix2 r k)) (Ideal.ofBits .f32 0x43800000#32) + Ideal.ofBits .f32 0x358637BD#32) * Ideal.div (∑ k : Fin 256, x2 (ix2 r k) * x1 (ix2 0 k) * (x0 (ix2 r k) * Ideal.rsqrt (Ideal.div (∑ k : Fin 256, x0 (ix2 r k) * x0 (ix2 r k)) (Ideal.ofBits .f32 0x43800000#32) + Ideal.ofBits .f32 0x358637BD#32))) (Ideal.ofBits .f32 0x43800000#32)) := by
  unfold k0_pay5 k0_pay3 k0_pay2
  pointwise

/-- One entry of the gain's gradient after a tile. -/
theorem gain_read (x0 x2 : Vec Ideal S512x256 .f32) (v : Vec Ideal S1x256 .f32) (l : Fin 256) :
    k0_pay4 (F := Ideal) x0 x2 v (ix2 (0 : Fin 1) l) = v (ix2 (0 : Fin 1) l)
      + ∑ r : Fin 512, x2 (ix2 r l) * (x0 (ix2 r l) * Ideal.rsqrt (Ideal.div (∑ k : Fin 256, x0 (ix2 r k) * x0 (ix2 r k)) (Ideal.ofBits .f32 0x43800000#32) + Ideal.ofBits .f32 0x358637BD#32)) := by
  unfold k0_pay4 k0_pay3 k0_pay2
  pointwise

theorem zero_read (l : Fin 256) : k0_pay1 (F := Ideal) (ix2 (0 : Fin 1) l) = 0 := by
  unfold k0_pay1
  pointwise

variable (m : (ℓ : Loc nD τ sig) → Buf (Elt Ideal) ℓ) (ρ : Dev nD → PrngReg) (c : Dev nD)

/-- Argument 0 as a matrix. -/
abbrev arg0 : Nat → Nat → EReal := at2 (n := 4096) (m := 2176) (m ((c : Thread nD τ).loc main_arg0))

/-- Argument 1 as a matrix. -/
abbrev arg1 : Nat → Nat → EReal := at2 (n := 1) (m := 256) (m ((c : Thread nD τ).loc main_arg1))

/-- Argument 2 as a matrix. -/
abbrev arg2 : Nat → Nat → EReal := at2 (n := 4096) (m := 256) (m ((c : Thread nD τ).loc main_arg2))

theorem point_lt (t : Fin cfg0.N) : t.val < 8 := t.isLt.trans_eq N_0

theorem index_0 : ∀ t : Fin grid0.N, win0_0.index t 0 = t.val ∧ win0_0.index t 1 = 0 := by decide +kernel

theorem index_1 : ∀ t : Fin grid0.N, win0_1.index t 0 = 0 ∧ win0_1.index t 1 = 0 := by decide +kernel

theorem index_2 : ∀ t : Fin grid0.N, win0_2.index t 0 = t.val ∧ win0_2.index t 1 = 0 := by decide +kernel

theorem index_3 : ∀ t : Fin grid0.N, win0_3.index t 0 = t.val ∧ win0_3.index t 1 = 0 := by decide +kernel

theorem index_4 : ∀ t : Fin grid0.N, win0_4.index t 0 = 0 ∧ win0_4.index t 1 = 0 := by decide +kernel

/-- What point `t` reads through window 0. -/
theorem iblk_0 (t : Fin cfg0.N) (r : Fin 512) (l : Fin 256) :
    X0_0 m c t (ix2 r l) = arg0 m c ((t.val) * 512 + r.val) ((0) * 256 + l.val) := by
  have ht := point_lt t
  obtain ⟨i0, i1⟩ := index_0 t
  unfold X0_0 Pipeline.Window.fill
  rw [dif_pos (moved0_0 t _)]
  unfold iblk
  rw [View.read_apply]
  show V m c main_arg0 _ = _
  rw [V_main_arg0]
  exact at2_at _ _ (by show win0_0.index t 0 * 512 + 1 * r.val = _; rw [i0]; omega)
    (by show win0_0.index t 1 * 256 + 1 * l.val = _; rw [i1]; omega)

/-- What point `t` reads through window 1. -/
theorem iblk_1 (t : Fin cfg0.N) (r : Fin 1) (l : Fin 256) :
    iblk m c 1 t (ix2 r l) = arg1 m c ((0) * 1 + r.val) ((0) * 256 + l.val) := by
  have ht := point_lt t
  obtain ⟨i0, i1⟩ := index_1 t
  unfold iblk
  rw [View.read_apply]
  show V m c main_arg1 _ = _
  rw [V_main_arg1]
  exact at2_at _ _ (by show win0_1.index t 0 * 1 + 1 * r.val = _; rw [i0]; omega)
    (by show win0_1.index t 1 * 256 + 1 * l.val = _; rw [i1]; omega)

/-- What point `t` reads through window 2. -/
theorem iblk_2 (t : Fin cfg0.N) (r : Fin 512) (l : Fin 256) :
    iblk m c 2 t (ix2 r l) = arg2 m c ((t.val) * 512 + r.val) ((0) * 256 + l.val) := by
  have ht := point_lt t
  obtain ⟨i0, i1⟩ := index_2 t
  unfold iblk
  rw [View.read_apply]
  show V m c main_arg2 _ = _
  rw [V_main_arg2]
  exact at2_at _ _ (by show win0_2.index t 0 * 512 + 1 * r.val = _; rw [i0]; omega)
    (by show win0_2.index t 1 * 256 + 1 * l.val = _; rw [i1]; omega)

theorem block_3 (t : Fin cfg0.N) (r : Fin 512) (l : Fin 256) :
    (outsAt0 m c t.val t.isLt).1 (ix2 r l) = dNorm (arg0 m c) (arg1 m c) (arg2 m c) (t.val * 512 + r.val) (0 * 256 + l.val) := by
  have e : (outsAt0 m c t.val t.isLt).1 = k0_pay5 (F := Ideal) (X0_0 m c t) (iblk m c 2 t) (iblk m c 1 t) := by
    by_cases h0 : t.val % 8 = 0
    · rw [outsAt0_A m c t h0]; dsimp only; rw [out_A_3]
    · rw [outsAt0_B m c t h0]; dsimp only; rw [out_B_3]
  rw [e]

  rw [dx_read]
  simp only [iblk_0, iblk_1, iblk_2]
  unfold dNorm backRow scaleOf meanSq
  simp only [zero_mul, zero_add, one_mul, Fin.val_zero]

/-- What one tile adds to the gain's gradient. -/
theorem gain_tile (t : Fin cfg0.N) (v : Vec Ideal S1x256 .f32) (l : Fin 256) :
    k0_pay4 (F := Ideal) (X0_0 m c t) (iblk m c 2 t) v (ix2 (0 : Fin 1) l) = v (ix2 (0 : Fin 1) l)
      + ∑ r : Fin 512, arg2 m c (512 * t.val + r.val) l.val * (arg0 m c (512 * t.val + r.val) (l.val)
        * scaleOf 256 (Ideal.ofBits .f32 0x43800000#32) (fun k => arg0 m c (512 * t.val + r.val) (k))) := by
  rw [gain_read]
  simp only [iblk_0, iblk_2]
  unfold scaleOf meanSq
  simp only [zero_mul, zero_add, one_mul, mul_comm t.val 512]

/-- What the points up to `n` have summed into the gain's gradient. -/
theorem summed : ∀ (n : ℕ) (h : n < cfg0.N) (l : Fin 256), (outsAt0 m c n h).2 (ix2 (0 : Fin 1) l)
    = backGain 256 (Ideal.ofBits .f32 0x43800000#32) (fun e k => arg0 m c e (k)) (arg2 m c) (512 * (n + 1)) l.val := by
  have hN : cfg0.N = 8 := N_0
  intro n
  induction n with
  | zero =>
    intro h l
    have e := congrArg (fun p => p.2 (ix2 (0 : Fin 1) l)) (outsAt0_A m c ⟨0, h⟩ rfl)
    dsimp only at e
    rw [out_A_4, gain_tile, zero_read] at e
    rw [backGain_tile]
    refine e.trans ?_
    rfl
  | succ n ih =>
    intro h l
    have h0 : ¬(n + 1) % 8 = 0 := by omega
    have e := congrArg (fun p => p.2 (ix2 (0 : Fin 1) l)) (outsAt0_B m c ⟨n + 1, h⟩ h0)
    dsimp only at e
    rw [out_B_4, gain_tile] at e
    rw [backGain_tile, ← ih (Nat.lt_of_succ_lt h) l]
    exact e

theorem block_4 (t : Fin cfg0.N) (h : t.val % 8 = 7) (r : Fin 1) (l : Fin 256) :
    (outsAt0 m c t.val t.isLt).2 (ix2 r l) = dGain (arg0 m c) (arg2 m c) (0 * 1 + r.val) (0 * 256 + l.val) := by
  have ht := point_lt t
  rw [Subsingleton.elim r 0, summed m c t.val t.isLt l]
  unfold dGain
  rw [show 512 * (t.val + 1) = 4096 by omega, zero_mul, zero_add]

/-- The input's gradient. -/
def result_3 : Buf (Elt Ideal) ((c : Thread nD τ).loc main_v0_0) := fun (q : S4096x256.Idx) => dNorm (arg0 m c) (arg1 m c) (arg2 m c) (q 0).val (q 1).val

theorem flushed_3 (t : Fin cfg0.N) (hf : (cfg0.win 3).flush t = true) :
    (dats m 0 c).flushed 3 t = ((cfg0.win 3).blk t).view.read (Elt Ideal) (result_3 m c) := by
  obtain ⟨i0, i1⟩ := index_3 t
  rw [Cert.Kernel35Ideal.Value.flushed3]
  funext j
  rw [View.read_apply]
  refine (congrArg ((outsAt0 m c t.val t.isLt).1) (eq_ix2 (j : S512x256.Idx))).trans ?_
  refine (block_3 m c t (j 0) (j 1)).trans ?_
  show _ = dNorm (arg0 m c) (arg1 m c) (arg2 m c) (win0_3.index t 0 * 512 + 1 * (j 0).val) (win0_3.index t 1 * 256 + 1 * (j 1).val)
  rw [i0, i1, one_mul, one_mul]

theorem final_3 : (dats m 0 c).arrAt 3 cfg0.N = result_3 m c :=
  (dats m 0 c).arrAt_eq_of_cover 3 (result_3 m c) (flushed_3 m c) fun i => by
    have h0 : (i 0 : Nat) < 4096 := (i 0).isLt
    have h1 : (i 1 : Nat) < 256 := (i 1).isLt
    have hN : cfg0.N = 8 := N_0
    obtain ⟨t, hv⟩ : ∃ t : Fin cfg0.N, t.val = (i 0 : Nat) / 512 := ⟨⟨_, by omega⟩, rfl⟩
    have hx := index_3 t
    refine ⟨t, flush0_3 _, ?_⟩
    show i ∈ ((View.whole main_v0_0).slice (win0_3.rect t)).set
    rw [View.set_slice_whole, Rect.mem_set_unit]
    exact tile_at (by show _ * 512 ≤ (i 0 : Nat) ∧ _ < _ * 512 + 512; rw [hx.1]; omega)
      (by show _ * 256 ≤ (i 1 : Nat) ∧ _ < _ * 256 + 256; rw [hx.2]; omega)

/-- The gain's gradient. -/
def result_4 : Buf (Elt Ideal) ((c : Thread nD τ).loc main_v0_1) := fun (q : S1x256.Idx) => dGain (arg0 m c) (arg2 m c) (q 0).val (q 1).val

theorem flushed_4 (t : Fin cfg0.N) (hf : (cfg0.win 4).flush t = true) :
    (dats m 0 c).flushed 4 t = ((cfg0.win 4).blk t).view.read (Elt Ideal) (result_4 m c) := by
  obtain ⟨i0, i1⟩ := index_4 t
  rw [Cert.Kernel35Ideal.Value.flushed4]
  funext j
  rw [View.read_apply]
  refine (congrArg ((outsAt0 m c t.val t.isLt).2) (eq_ix2 (j : S1x256.Idx))).trans ?_
  refine (block_4 m c t ((flush0_4 t).mp hf) (j 0) (j 1)).trans ?_
  show _ = dGain (arg0 m c) (arg2 m c) (win0_4.index t 0 * 1 + 1 * (j 0).val) (win0_4.index t 1 * 256 + 1 * (j 1).val)
  rw [i0, i1, one_mul, one_mul]

theorem final_4 : (dats m 0 c).arrAt 4 cfg0.N = result_4 m c :=
  (dats m 0 c).arrAt_eq_of_cover 4 (result_4 m c) (flushed_4 m c) fun i => by
    have h0 : (i 0 : Nat) < 1 := (i 0).isLt
    have h1 : (i 1 : Nat) < 256 := (i 1).isLt
    have hN : cfg0.N = 8 := N_0
    obtain ⟨t, hv⟩ : ∃ t : Fin cfg0.N, t.val = 7 := ⟨⟨_, by omega⟩, rfl⟩
    have hx := index_4 t
    refine ⟨t, (flush0_4 _).mpr (by omega), ?_⟩
    show i ∈ ((View.whole main_v0_1).slice (win0_4.rect t)).set
    rw [View.set_slice_whole, Rect.mem_set_unit]
    exact tile_at (by show _ * 1 ≤ (i 0 : Nat) ∧ _ < _ * 1 + 1; rw [hx.1]; omega)
      (by show _ * 256 ≤ (i 1 : Nat) ∧ _ < _ * 256 + 256; rw [hx.2]; omega)

/-- The kernel's run: the results are the arrays above and the arguments are unchanged. -/
theorem run : θ_run defs (onTc (τ := τ) (main (F := Ideal))) ⟨m, fun _ => 0, ρ⟩ fun r => ∀ c : Dev nD,
      r.2.mem ((c : Thread nD τ).loc main_v0_0) = result_3 m c
      ∧ r.2.mem ((c : Thread nD τ).loc main_v0_1) = result_4 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_3 m c), (h c).2.1.trans (final_4 m c), (h c).2.2⟩)
    (Cert.Kernel35Ideal.Value.run_blocks m ρ)

end Cert.Kernel35Ideal.Norm

namespace Cert.Reference35Ideal.Norm

open Idealize.ShloMosaic Idealize.SL.Sem
open Cert.Reference35Ideal Cert.Reference35Ideal.Gen Cert.Reference35Ideal.Read Cert.Ffn Cert.Kernel35Ideal.Norm Cert.Norm

/-- The reference runs, keeps its arguments and leaves every counter at zero. -/
theorem frame : Cert.quiescent_Reference35Ideal := fun m ρ _ =>
  (θ_run Cert.Reference35Ideal.defs _ _).mono (fun r h => ⟨fun c => (h c).2.2, sem_eq_zero_of_no_sems (by decide) r.2⟩)
    (Cert.Reference35Ideal.Value.run m ρ)

/-- One entry of the reference's result. -/
theorem val_main_v35_read (x0 : (⟨S4096x2176, .f32⟩ : BufTy).Contents (Elt Ideal)) (x1 : (⟨S1x256, .f32⟩ : BufTy).Contents (Elt Ideal)) (x2 : (⟨S4096x256, .f32⟩ : BufTy).Contents (Elt Ideal))
    (f0 : ∀ i, IsReal (x0 i)) (f1 : ∀ i, IsReal (x1 i)) (f2 : ∀ i, IsReal (x2 i)) (p : Fin 4096) (q : Fin 256) :
    val_main_v35 (F := Ideal) x0 x1 x2 (ix2 p q) = dNorm (at2 (n := 4096) (m := 2176) x0) (at2 (n := 1) (m := 256) x1) (at2 (n := 4096) (m := 256) x2) p.val q.val := by
  have hX : AllFin (at2 (n := 4096) (m := 2176) x0) := AllFin.at2 f0
  have hG : AllFin (at2 (n := 1) (m := 256) x1) := AllFin.at2 f1
  have hY : AllFin (at2 (n := 4096) (m := 256) x2) := AllFin.at2 f2
  unfold dNorm
  rw [← backRow_chain ofBits_256 (by norm_num) (fun k => hX p.val (k)) (fun k => hG 0 k) (fun k => hY p.val k) q.val]
  unfold scaleOf meanSq
  have ex : ∀ k : Fin 256, (at2 (n := 4096) (m := 2176) x0) p.val (k.val) = x0 (ix2 p ⟨k.val, by omega⟩) := fun k => at2_of_lt _ p.isLt (by omega)
  have eg : ∀ k : Fin 256, (at2 (n := 1) (m := 256) x1) 0 k.val = x1 (ix2 0 k) := fun k => at2_of_lt _ (by omega) k.isLt
  have ey : ∀ k : Fin 256, (at2 (n := 4096) (m := 256) x2) p.val k.val = x2 (ix2 p k) := fun k => at2_ix2 x2 p k
  simp only [ex, eg, ey]
  unfold val_main_v35 val_main_v34 val_main_v33 val_main_v32 val_main_v31 val_main_v30 val_main_v29 val_main_v28 val_main_v27 val_main_v26 val_main_v25 val_main_v24 val_main_v23 val_main_v22 val_main_v21 val_main_v20 val_main_v19 val_main_v11 val_main_v10 val_main_v9 val_main_v8 val_main_v7 val_main_v6 val_main_v5 val_main_v4 val_main_v3 val_main_v2 val_main_v1 val_main_v0 val_main_cst val_main_cst_0 val_main_cst_1 val_main_cst_2 val_main_cst_4 val_main_cst_5 val_main_cst_6
  pointwise
/-- One entry of the reference's result. -/
theorem val_main_v18_read (x0 : (⟨S4096x2176, .f32⟩ : BufTy).Contents (Elt Ideal)) (x2 : (⟨S4096x256, .f32⟩ : BufTy).Contents (Elt Ideal))
    (f0 : ∀ i, IsReal (x0 i)) (f2 : ∀ i, IsReal (x2 i)) (p : Fin 1) (q : Fin 256) :
    val_main_v18 (F := Ideal) x0 x2 (ix2 p q) = dGain (at2 (n := 4096) (m := 2176) x0) (at2 (n := 4096) (m := 256) x2) p.val q.val := by
  unfold dGain backGain scaleOf meanSq
  rw [Finset.sum_range fun e => (at2 (n := 4096) (m := 256) x2) e q.val * ((at2 (n := 4096) (m := 2176) x0) e (q.val) * Ideal.rsqrt (Ideal.div (∑ k : Fin 256, (at2 (n := 4096) (m := 2176) x0) e (k) * (at2 (n := 4096) (m := 2176) x0) e (k)) (Ideal.ofBits .f32 0x43800000#32) + Ideal.ofBits .f32 0x358637BD#32))]
  have ex : ∀ (e : Fin 4096) (k : Fin 256), (at2 (n := 4096) (m := 2176) x0) e.val (k.val) = x0 (ix2 e ⟨k.val, by omega⟩) := fun e k => at2_of_lt _ e.isLt (by omega)
  have ey : ∀ e : Fin 4096, (at2 (n := 4096) (m := 256) x2) e.val q.val = x2 (ix2 e q) := fun e => at2_ix2 x2 e q
  simp only [ex, ey]
  unfold val_main_v18 val_main_v17 val_main_v16 val_main_v13 val_main_v12 val_main_v8 val_main_v7 val_main_v6 val_main_v5 val_main_v4 val_main_v3 val_main_v2 val_main_v1 val_main_v0 val_main_cst val_main_cst_0 val_main_cst_1 val_main_cst_3
  pointwise
  exact Finset.sum_congr rfl fun e _ => mul_comm _ _
end Cert.Reference35Ideal.Norm

namespace Cert.Kernel35Ideal.Norm

open Idealize.ShloMosaic Idealize.SL.Sem Cert.Ffn

/-- The kernel and the reference end with the same arrays. -/
theorem algebraic : Cert.algebraic_Kernel35Ideal_Reference35Ideal_pre_finite_latent := by
  intro m g m' g' hpre hargs
  refine ⟨result_3 m, result_4 m, run m g, ?_⟩
  refine (θ_run Cert.Reference35Ideal.defs _ _).mono (fun r h c => ?_) (Cert.Reference35Ideal.Value.run (F := Ideal) m' g')
  obtain ⟨a0, a1, a2⟩ := hargs c
  obtain ⟨f0, f1, f2⟩ := Cert.Pre_finite_latent.Back.isReal _ _ _ (fun i => congrFun (hpre c) i)
  refine ⟨(h c).1.trans ?_, (h c).2.1.trans ?_, (h c).2.2⟩
  · rw [Cert.Reference35Ideal.Read.val_main_v35_eq, a0, a1, a2]
    refine funext fun i => ?_
    rw [eq_ix2 i]
    exact Cert.Reference35Ideal.Norm.val_main_v35_read _ _ _ f0 f1 f2 (i 0) (i 1)
  · rw [Cert.Reference35Ideal.Read.val_main_v18_eq, a0, a2]
    refine funext fun i => ?_
    rw [eq_ix2 i]
    exact Cert.Reference35Ideal.Norm.val_main_v18_read _ _ f0 f2 (i 0) (i 1)

end Cert.Kernel35Ideal.Norm

end
-- ==== Proof.Norm36.lean ====
/-
  The gradients of the key and value latent's norm.
-/
module

public import proofs.«01_k».proof.Defs
public import proofs.«01_k».proof.Proof.NormSpec
public import proofs.«01_k».proof.Proof.NormPre
public import proofs.«01_k».proof.Proof.Gen.Kernel36Ideal.Value
public import proofs.«01_k».proof.Proof.Gen.Reference36Ideal.Run
public import proofs.«01_k».proof.Proof.Gen.Reference36Ideal.Read

@[expose] public section

noncomputable section

namespace Cert.Kernel36Ideal.Norm

open Idealize.ShloMosaic Idealize.ShloMosaic.TcCoe Idealize.SL.Sem
open Cert.Kernel36Ideal Cert.Kernel36Ideal.Gen Cert.Ffn Cert.Norm

/-- The gradient of the norm's input. -/
def dNorm (X G Y : Nat → Nat → EReal) (p q : Nat) : EReal :=
  backRow 256 (Ideal.ofBits .f32 0x43800000#32) (fun k => X p (256 + k)) (G 0) (Y p) q

/-- The gradient of the norm's gain. -/
def dGain (X Y : Nat → Nat → EReal) (_p q : Nat) : EReal := backGain 256 (Ideal.ofBits .f32 0x43800000#32) (fun e k => X e (256 + k)) Y 4096 q

theorem out_A_3 (c : Dev nD) (i : grid0.Coords) (arg1 : Memref sig .tc .vmem S512x256 .f32) (harg1 : arg1.IsWhole) (arg2 : Memref sig .tc .vmem S1x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1x256 .f32) (harg5 : arg5.IsWhole) (hc0 : cond0_0 i)
    (x0 : Vec Ideal S512x256 .f32) (x1 : Vec Ideal S1x256 .f32) (x2 : Vec Ideal S512x256 .f32) :
    out0_A_3 (F := Ideal) c i arg1 harg1 arg2 harg2 arg3 harg3 arg4 harg4 arg5 harg5 hc0 x0 x1 x2 = k0_pay5 x0 x2 x1 := by
  unfold out0_A_3
  rw [View.read_writes_eq_canon _ _ _ (fun _ => cover0_A_3 ..)]
  unfold kernelRun0_A
  dsimp only
  sl_unfold_words
  rw [View.canon_cons_unit_zero hz]
  simp only [View.readAt_eq_ld, harg1.read_unread, harg2.read_unread, harg3.read_unread, harg4.read_unread, harg5.read_unread, View.ld_unit_zero (S := S1x256) hz, View.ld_unit_zero (S := S512x256) hz, shapeCast_self]

theorem out_A_4 (c : Dev nD) (i : grid0.Coords) (arg1 : Memref sig .tc .vmem S512x256 .f32) (harg1 : arg1.IsWhole) (arg2 : Memref sig .tc .vmem S1x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1x256 .f32) (harg5 : arg5.IsWhole) (hc0 : cond0_0 i)
    (x0 : Vec Ideal S512x256 .f32) (x1 : Vec Ideal S1x256 .f32) (x2 : Vec Ideal S512x256 .f32) :
    out0_A_4 (F := Ideal) c i arg1 harg1 arg2 harg2 arg3 harg3 arg4 harg4 arg5 harg5 hc0 x0 x1 x2 = k0_pay4 x0 x2 (k0_pay1 (F := Ideal)) := by
  unfold out0_A_4
  rw [View.read_writes_eq_canon _ _ _ (fun _ => cover0_A_4 ..)]
  unfold kernelRun0_A
  dsimp only
  sl_unfold_words
  rw [View.canon_cons_unit_zero hz]
  rw [View.readCov_unit_zero _ hz]
  simp only [View.readAt_eq_ld, harg1.read_unread, harg2.read_unread, harg3.read_unread, harg4.read_unread, harg5.read_unread, View.ld_unit_zero (S := S1x256) hz, View.ld_unit_zero (S := S512x256) hz, shapeCast_self]

theorem out_B_3 (c : Dev nD) (i : grid0.Coords) (arg1 : Memref sig .tc .vmem S512x256 .f32) (harg1 : arg1.IsWhole) (arg2 : Memref sig .tc .vmem S1x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1x256 .f32) (harg5 : arg5.IsWhole) (hc0 : ¬cond0_0 i)
    (x0 : Vec Ideal S512x256 .f32) (x1 : Vec Ideal S1x256 .f32) (x2 : Vec Ideal S512x256 .f32) (xo4 : Vec Ideal S1x256 .f32) :
    out0_B_3 (F := Ideal) c i arg1 harg1 arg2 harg2 arg3 harg3 arg4 harg4 arg5 harg5 hc0 x0 x1 x2 xo4 = k0_pay5 x0 x2 x1 := by
  unfold out0_B_3
  rw [View.read_writes_eq_canon _ _ _ (fun _ => cover0_B_3 ..)]
  unfold kernelRun0_B
  dsimp only
  sl_unfold_words
  rw [View.canon_cons_unit_zero hz]
  simp only [View.readAt_eq_ld, harg1.read_unread, harg2.read_unread, harg3.read_unread, harg4.read_unread, harg5.read_unread, View.ld_unit_zero (S := S1x256) hz, View.ld_unit_zero (S := S512x256) hz, shapeCast_self]

theorem out_B_4 (c : Dev nD) (i : grid0.Coords) (arg1 : Memref sig .tc .vmem S512x256 .f32) (harg1 : arg1.IsWhole) (arg2 : Memref sig .tc .vmem S1x256 .f32) (harg2 : arg2.IsWhole) (arg3 : Memref sig .tc .vmem S512x256 .f32) (harg3 : arg3.IsWhole) (arg4 : Memref sig .tc .vmem S512x256 .bf16) (harg4 : arg4.IsWhole) (arg5 : Memref sig .tc .vmem S1x256 .f32) (harg5 : arg5.IsWhole) (hc0 : ¬cond0_0 i)
    (x0 : Vec Ideal S512x256 .f32) (x1 : Vec Ideal S1x256 .f32) (x2 : Vec Ideal S512x256 .f32) (xo4 : Vec Ideal S1x256 .f32) :
    out0_B_4 (F := Ideal) c i arg1 harg1 arg2 harg2 arg3 harg3 arg4 harg4 arg5 harg5 hc0 x0 x1 x2 xo4 = k0_pay4 x0 x2 xo4 := by
  unfold out0_B_4
  rw [View.read_writes_eq_canon _ _ _ (fun _ => cover0_B_4 ..)]
  unfold kernelRun0_B
  dsimp only
  sl_unfold_words
  rw [View.canon_cons_unit_zero hz]
  simp only [View.readAt_eq_ld, harg1.read_unread, harg2.read_unread, harg3.read_unread, harg4.read_unread, harg5.read_unread, View.ld_unit_zero (S := S1x256) hz, View.ld_unit_zero (S := S512x256) hz, shapeCast_self]

/-- One entry of the input's gradient of a tile, as the stored operations give it. -/
theorem dx_read (x0 x2 : Vec Ideal S512x256 .f32) (x1 : Vec Ideal S1x256 .f32) (r : Fin 512) (l : Fin 256) :
    k0_pay5 (F := Ideal) x0 x2 x1 (ix2 r l) = Ideal.rsqrt (Ideal.div (∑ k : Fin 256, x0 (ix2 r k) * x0 (ix2 r k)) (Ideal.ofBits .f32 0x43800000#32) + Ideal.ofBits .f32 0x358637BD#32)
      * (x2 (ix2 r l) * x1 (ix2 0 l) - x0 (ix2 r l) * Ideal.rsqrt (Ideal.div (∑ k : Fin 256, x0 (ix2 r k) * x0 (ix2 r k)) (Ideal.ofBits .f32 0x43800000#32) + Ideal.ofBits .f32 0x358637BD#32) * Ideal.div (∑ k : Fin 256, x2 (ix2 r k) * x1 (ix2 0 k) * (x0 (ix2 r k) * Ideal.rsqrt (Ideal.div (∑ k : Fin 256, x0 (ix2 r k) * x0 (ix2 r k)) (Ideal.ofBits .f32 0x43800000#32) + Ideal.ofBits .f32 0x358637BD#32))) (Ideal.ofBits .f32 0x43800000#32)) := by
  unfold k0_pay5 k0_pay3 k0_pay2
  pointwise

/-- One entry of the gain's gradient after a tile. -/
theorem gain_read (x0 x2 : Vec Ideal S512x256 .f32) (v : Vec Ideal S1x256 .f32) (l : Fin 256) :
    k0_pay4 (F := Ideal) x0 x2 v (ix2 (0 : Fin 1) l) = v (ix2 (0 : Fin 1) l)
      + ∑ r : Fin 512, x2 (ix2 r l) * (x0 (ix2 r l) * Ideal.rsqrt (Ideal.div (∑ k : Fin 256, x0 (ix2 r k) * x0 (ix2 r k)) (Ideal.ofBits .f32 0x43800000#32) + Ideal.ofBits .f32 0x358637BD#32)) := by
  unfold k0_pay4 k0_pay3 k0_pay2
  pointwise

theorem zero_read (l : Fin 256) : k0_pay1 (F := Ideal) (ix2 (0 : Fin 1) l) = 0 := by
  unfold k0_pay1
  pointwise

variable (m : (ℓ : Loc nD τ sig) → Buf (Elt Ideal) ℓ) (ρ : Dev nD → PrngReg) (c : Dev nD)

/-- Argument 0 as a matrix. -/
abbrev arg0 : Nat → Nat → EReal := at2 (n := 4096) (m := 2176) (m ((c : Thread nD τ).loc main_arg0))

/-- Argument 1 as a matrix. -/
abbrev arg1 : Nat → Nat → EReal := at2 (n := 1) (m := 256) (m ((c : Thread nD τ).loc main_arg1))

/-- Argument 2 as a matrix. -/
abbrev arg2 : Nat → Nat → EReal := at2 (n := 4096) (m := 256) (m ((c : Thread nD τ).loc main_arg2))

theorem point_lt (t : Fin cfg0.N) : t.val < 8 := t.isLt.trans_eq N_0

theorem index_0 : ∀ t : Fin grid0.N, win0_0.index t 0 = t.val ∧ win0_0.index t 1 = 1 := by decide +kernel

theorem index_1 : ∀ t : Fin grid0.N, win0_1.index t 0 = 0 ∧ win0_1.index t 1 = 0 := by decide +kernel

theorem index_2 : ∀ t : Fin grid0.N, win0_2.index t 0 = t.val ∧ win0_2.index t 1 = 0 := by decide +kernel

theorem index_3 : ∀ t : Fin grid0.N, win0_3.index t 0 = t.val ∧ win0_3.index t 1 = 0 := by decide +kernel

theorem index_4 : ∀ t : Fin grid0.N, win0_4.index t 0 = 0 ∧ win0_4.index t 1 = 0 := by decide +kernel

/-- What point `t` reads through window 0. -/
theorem iblk_0 (t : Fin cfg0.N) (r : Fin 512) (l : Fin 256) :
    X0_0 m c t (ix2 r l) = arg0 m c ((t.val) * 512 + r.val) ((1) * 256 + l.val) := by
  have ht := point_lt t
  obtain ⟨i0, i1⟩ := index_0 t
  unfold X0_0 Pipeline.Window.fill
  rw [dif_pos (moved0_0 t _)]
  unfold iblk
  rw [View.read_apply]
  show V m c main_arg0 _ = _
  rw [V_main_arg0]
  exact at2_at _ _ (by show win0_0.index t 0 * 512 + 1 * r.val = _; rw [i0]; omega)
    (by show win0_0.index t 1 * 256 + 1 * l.val = _; rw [i1]; omega)

/-- What point `t` reads through window 1. -/
theorem iblk_1 (t : Fin cfg0.N) (r : Fin 1) (l : Fin 256) :
    iblk m c 1 t (ix2 r l) = arg1 m c ((0) * 1 + r.val) ((0) * 256 + l.val) := by
  have ht := point_lt t
  obtain ⟨i0, i1⟩ := index_1 t
  unfold iblk
  rw [View.read_apply]
  show V m c main_arg1 _ = _
  rw [V_main_arg1]
  exact at2_at _ _ (by show win0_1.index t 0 * 1 + 1 * r.val = _; rw [i0]; omega)
    (by show win0_1.index t 1 * 256 + 1 * l.val = _; rw [i1]; omega)

/-- What point `t` reads through window 2. -/
theorem iblk_2 (t : Fin cfg0.N) (r : Fin 512) (l : Fin 256) :
    iblk m c 2 t (ix2 r l) = arg2 m c ((t.val) * 512 + r.val) ((0) * 256 + l.val) := by
  have ht := point_lt t
  obtain ⟨i0, i1⟩ := index_2 t
  unfold iblk
  rw [View.read_apply]
  show V m c main_arg2 _ = _
  rw [V_main_arg2]
  exact at2_at _ _ (by show win0_2.index t 0 * 512 + 1 * r.val = _; rw [i0]; omega)
    (by show win0_2.index t 1 * 256 + 1 * l.val = _; rw [i1]; omega)

theorem block_3 (t : Fin cfg0.N) (r : Fin 512) (l : Fin 256) :
    (outsAt0 m c t.val t.isLt).1 (ix2 r l) = dNorm (arg0 m c) (arg1 m c) (arg2 m c) (t.val * 512 + r.val) (0 * 256 + l.val) := by
  have e : (outsAt0 m c t.val t.isLt).1 = k0_pay5 (F := Ideal) (X0_0 m c t) (iblk m c 2 t) (iblk m c 1 t) := by
    by_cases h0 : t.val % 8 = 0
    · rw [outsAt0_A m c t h0]; dsimp only; rw [out_A_3]
    · rw [outsAt0_B m c t h0]; dsimp only; rw [out_B_3]
  rw [e]

  rw [dx_read]
  simp only [iblk_0, iblk_1, iblk_2]
  unfold dNorm backRow scaleOf meanSq
  simp only [zero_mul, zero_add, one_mul, Fin.val_zero]

/-- What one tile adds to the gain's gradient. -/
theorem gain_tile (t : Fin cfg0.N) (v : Vec Ideal S1x256 .f32) (l : Fin 256) :
    k0_pay4 (F := Ideal) (X0_0 m c t) (iblk m c 2 t) v (ix2 (0 : Fin 1) l) = v (ix2 (0 : Fin 1) l)
      + ∑ r : Fin 512, arg2 m c (512 * t.val + r.val) l.val * (arg0 m c (512 * t.val + r.val) (256 + l.val)
        * scaleOf 256 (Ideal.ofBits .f32 0x43800000#32) (fun k => arg0 m c (512 * t.val + r.val) (256 + k))) := by
  rw [gain_read]
  simp only [iblk_0, iblk_2]
  unfold scaleOf meanSq
  simp only [zero_mul, zero_add, one_mul, mul_comm t.val 512]

/-- What the points up to `n` have summed into the gain's gradient. -/
theorem summed : ∀ (n : ℕ) (h : n < cfg0.N) (l : Fin 256), (outsAt0 m c n h).2 (ix2 (0 : Fin 1) l)
    = backGain 256 (Ideal.ofBits .f32 0x43800000#32) (fun e k => arg0 m c e (256 + k)) (arg2 m c) (512 * (n + 1)) l.val := by
  have hN : cfg0.N = 8 := N_0
  intro n
  induction n with
  | zero =>
    intro h l
    have e := congrArg (fun p => p.2 (ix2 (0 : Fin 1) l)) (outsAt0_A m c ⟨0, h⟩ rfl)
    dsimp only at e
    rw [out_A_4, gain_tile, zero_read] at e
    rw [backGain_tile]
    refine e.trans ?_
    rfl
  | succ n ih =>
    intro h l
    have h0 : ¬(n + 1) % 8 = 0 := by omega
    have e := congrArg (fun p => p.2 (ix2 (0 : Fin 1) l)) (outsAt0_B m c ⟨n + 1, h⟩ h0)
    dsimp only at e
    rw [out_B_4, gain_tile] at e
    rw [backGain_tile, ← ih (Nat.lt_of_succ_lt h) l]
    exact e

theorem block_4 (t : Fin cfg0.N) (h : t.val % 8 = 7) (r : Fin 1) (l : Fin 256) :
    (outsAt0 m c t.val t.isLt).2 (ix2 r l) = dGain (arg0 m c) (arg2 m c) (0 * 1 + r.val) (0 * 256 + l.val) := by
  have ht := point_lt t
  rw [Subsingleton.elim r 0, summed m c t.val t.isLt l]
  unfold dGain
  rw [show 512 * (t.val + 1) = 4096 by omega, zero_mul, zero_add]

/-- The input's gradient. -/
def result_3 : Buf (Elt Ideal) ((c : Thread nD τ).loc main_v0_0) := fun (q : S4096x256.Idx) => dNorm (arg0 m c) (arg1 m c) (arg2 m c) (q 0).val (q 1).val

theorem flushed_3 (t : Fin cfg0.N) (hf : (cfg0.win 3).flush t = true) :
    (dats m 0 c).flushed 3 t = ((cfg0.win 3).blk t).view.read (Elt Ideal) (result_3 m c) := by
  obtain ⟨i0, i1⟩ := index_3 t
  rw [Cert.Kernel36Ideal.Value.flushed3]
  funext j
  rw [View.read_apply]
  refine (congrArg ((outsAt0 m c t.val t.isLt).1) (eq_ix2 (j : S512x256.Idx))).trans ?_
  refine (block_3 m c t (j 0) (j 1)).trans ?_
  show _ = dNorm (arg0 m c) (arg1 m c) (arg2 m c) (win0_3.index t 0 * 512 + 1 * (j 0).val) (win0_3.index t 1 * 256 + 1 * (j 1).val)
  rw [i0, i1, one_mul, one_mul]

theorem final_3 : (dats m 0 c).arrAt 3 cfg0.N = result_3 m c :=
  (dats m 0 c).arrAt_eq_of_cover 3 (result_3 m c) (flushed_3 m c) fun i => by
    have h0 : (i 0 : Nat) < 4096 := (i 0).isLt
    have h1 : (i 1 : Nat) < 256 := (i 1).isLt
    have hN : cfg0.N = 8 := N_0
    obtain ⟨t, hv⟩ : ∃ t : Fin cfg0.N, t.val = (i 0 : Nat) / 512 := ⟨⟨_, by omega⟩, rfl⟩
    have hx := index_3 t
    refine ⟨t, flush0_3 _, ?_⟩
    show i ∈ ((View.whole main_v0_0).slice (win0_3.rect t)).set
    rw [View.set_slice_whole, Rect.mem_set_unit]
    exact tile_at (by show _ * 512 ≤ (i 0 : Nat) ∧ _ < _ * 512 + 512; rw [hx.1]; omega)
      (by show _ * 256 ≤ (i 1 : Nat) ∧ _ < _ * 256 + 256; rw [hx.2]; omega)

/-- The gain's gradient. -/
def result_4 : Buf (Elt Ideal) ((c : Thread nD τ).loc main_v0_1) := fun (q : S1x256.Idx) => dGain (arg0 m c) (arg2 m c) (q 0).val (q 1).val

theorem flushed_4 (t : Fin cfg0.N) (hf : (cfg0.win 4).flush t = true) :
    (dats m 0 c).flushed 4 t = ((cfg0.win 4).blk t).view.read (Elt Ideal) (result_4 m c) := by
  obtain ⟨i0, i1⟩ := index_4 t
  rw [Cert.Kernel36Ideal.Value.flushed4]
  funext j
  rw [View.read_apply]
  refine (congrArg ((outsAt0 m c t.val t.isLt).2) (eq_ix2 (j : S1x256.Idx))).trans ?_
  refine (block_4 m c t ((flush0_4 t).mp hf) (j 0) (j 1)).trans ?_
  show _ = dGain (arg0 m c) (arg2 m c) (win0_4.index t 0 * 1 + 1 * (j 0).val) (win0_4.index t 1 * 256 + 1 * (j 1).val)
  rw [i0, i1, one_mul, one_mul]

theorem final_4 : (dats m 0 c).arrAt 4 cfg0.N = result_4 m c :=
  (dats m 0 c).arrAt_eq_of_cover 4 (result_4 m c) (flushed_4 m c) fun i => by
    have h0 : (i 0 : Nat) < 1 := (i 0).isLt
    have h1 : (i 1 : Nat) < 256 := (i 1).isLt
    have hN : cfg0.N = 8 := N_0
    obtain ⟨t, hv⟩ : ∃ t : Fin cfg0.N, t.val = 7 := ⟨⟨_, by omega⟩, rfl⟩
    have hx := index_4 t
    refine ⟨t, (flush0_4 _).mpr (by omega), ?_⟩
    show i ∈ ((View.whole main_v0_1).slice (win0_4.rect t)).set
    rw [View.set_slice_whole, Rect.mem_set_unit]
    exact tile_at (by show _ * 1 ≤ (i 0 : Nat) ∧ _ < _ * 1 + 1; rw [hx.1]; omega)
      (by show _ * 256 ≤ (i 1 : Nat) ∧ _ < _ * 256 + 256; rw [hx.2]; omega)

/-- The kernel's run: the results are the arrays above and the arguments are unchanged. -/
theorem run : θ_run defs (onTc (τ := τ) (main (F := Ideal))) ⟨m, fun _ => 0, ρ⟩ fun r => ∀ c : Dev nD,
      r.2.mem ((c : Thread nD τ).loc main_v0_0) = result_3 m c
      ∧ r.2.mem ((c : Thread nD τ).loc main_v0_1) = result_4 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_3 m c), (h c).2.1.trans (final_4 m c), (h c).2.2⟩)
    (Cert.Kernel36Ideal.Value.run_blocks m ρ)

end Cert.Kernel36Ideal.Norm

namespace Cert.Reference36Ideal.Norm

open Idealize.ShloMosaic Idealize.SL.Sem
open Cert.Reference36Ideal Cert.Reference36Ideal.Gen Cert.Reference36Ideal.Read Cert.Ffn Cert.Kernel36Ideal.Norm Cert.Norm

/-- The reference runs, keeps its arguments and leaves every counter at zero. -/
theorem frame : Cert.quiescent_Reference36Ideal := fun m ρ _ =>
  (θ_run Cert.Reference36Ideal.defs _ _).mono (fun r h => ⟨fun c => (h c).2.2, sem_eq_zero_of_no_sems (by decide) r.2⟩)
    (Cert.Reference36Ideal.Value.run m ρ)

/-- One entry of the reference's result. -/
theorem val_main_v35_read (x0 : (⟨S4096x2176, .f32⟩ : BufTy).Contents (Elt Ideal)) (x1 : (⟨S1x256, .f32⟩ : BufTy).Contents (Elt Ideal)) (x2 : (⟨S4096x256, .f32⟩ : BufTy).Contents (Elt Ideal))
    (f0 : ∀ i, IsReal (x0 i)) (f1 : ∀ i, IsReal (x1 i)) (f2 : ∀ i, IsReal (x2 i)) (p : Fin 4096) (q : Fin 256) :
    val_main_v35 (F := Ideal) x0 x1 x2 (ix2 p q) = dNorm (at2 (n := 4096) (m := 2176) x0) (at2 (n := 1) (m := 256) x1) (at2 (n := 4096) (m := 256) x2) p.val q.val := by
  have hX : AllFin (at2 (n := 4096) (m := 2176) x0) := AllFin.at2 f0
  have hG : AllFin (at2 (n := 1) (m := 256) x1) := AllFin.at2 f1
  have hY : AllFin (at2 (n := 4096) (m := 256) x2) := AllFin.at2 f2
  unfold dNorm
  rw [← backRow_chain ofBits_256 (by norm_num) (fun k => hX p.val (256 + k)) (fun k => hG 0 k) (fun k => hY p.val k) q.val]
  unfold scaleOf meanSq
  have ex : ∀ k : Fin 256, (at2 (n := 4096) (m := 2176) x0) p.val (256 + k.val) = x0 (ix2 p ⟨256 + k.val, by omega⟩) := fun k => at2_of_lt _ p.isLt (by omega)
  have eg : ∀ k : Fin 256, (at2 (n := 1) (m := 256) x1) 0 k.val = x1 (ix2 0 k) := fun k => at2_of_lt _ (by omega) k.isLt
  have ey : ∀ k : Fin 256, (at2 (n := 4096) (m := 256) x2) p.val k.val = x2 (ix2 p k) := fun k => at2_ix2 x2 p k
  simp only [ex, eg, ey]
  unfold val_main_v35 val_main_v34 val_main_v33 val_main_v32 val_main_v31 val_main_v30 val_main_v29 val_main_v28 val_main_v27 val_main_v26 val_main_v25 val_main_v24 val_main_v23 val_main_v22 val_main_v21 val_main_v20 val_main_v19 val_main_v11 val_main_v10 val_main_v9 val_main_v8 val_main_v7 val_main_v6 val_main_v5 val_main_v4 val_main_v3 val_main_v2 val_main_v1 val_main_v0 val_main_cst val_main_cst_0 val_main_cst_1 val_main_cst_2 val_main_cst_4 val_main_cst_5 val_main_cst_6
  pointwise
/-- One entry of the reference's result. -/
theorem val_main_v18_read (x0 : (⟨S4096x2176, .f32⟩ : BufTy).Contents (Elt Ideal)) (x2 : (⟨S4096x256, .f32⟩ : BufTy).Contents (Elt Ideal))
    (f0 : ∀ i, IsReal (x0 i)) (f2 : ∀ i, IsReal (x2 i)) (p : Fin 1) (q : Fin 256) :
    val_main_v18 (F := Ideal) x0 x2 (ix2 p q) = dGain (at2 (n := 4096) (m := 2176) x0) (at2 (n := 4096) (m := 256) x2) p.val q.val := by
  unfold dGain backGain scaleOf meanSq
  rw [Finset.sum_range fun e => (at2 (n := 4096) (m := 256) x2) e q.val * ((at2 (n := 4096) (m := 2176) x0) e (256 + q.val) * Ideal.rsqrt (Ideal.div (∑ k : Fin 256, (at2 (n := 4096) (m := 2176) x0) e (256 + k) * (at2 (n := 4096) (m := 2176) x0) e (256 + k)) (Ideal.ofBits .f32 0x43800000#32) + Ideal.ofBits .f32 0x358637BD#32))]
  have ex : ∀ (e : Fin 4096) (k : Fin 256), (at2 (n := 4096) (m := 2176) x0) e.val (256 + k.val) = x0 (ix2 e ⟨256 + k.val, by omega⟩) := fun e k => at2_of_lt _ e.isLt (by omega)
  have ey : ∀ e : Fin 4096, (at2 (n := 4096) (m := 256) x2) e.val q.val = x2 (ix2 e q) := fun e => at2_ix2 x2 e q
  simp only [ex, ey]
  unfold val_main_v18 val_main_v17 val_main_v16 val_main_v13 val_main_v12 val_main_v8 val_main_v7 val_main_v6 val_main_v5 val_main_v4 val_main_v3 val_main_v2 val_main_v1 val_main_v0 val_main_cst val_main_cst_0 val_main_cst_1 val_main_cst_3
  pointwise
  exact Finset.sum_congr rfl fun e _ => mul_comm _ _
end Cert.Reference36Ideal.Norm

namespace Cert.Kernel36Ideal.Norm

open Idealize.ShloMosaic Idealize.SL.Sem Cert.Ffn

/-- The kernel and the reference end with the same arrays. -/
theorem algebraic : Cert.algebraic_Kernel36Ideal_Reference36Ideal_pre_finite_latent := by
  intro m g m' g' hpre hargs
  refine ⟨result_3 m, result_4 m, run m g, ?_⟩
  refine (θ_run Cert.Reference36Ideal.defs _ _).mono (fun r h c => ?_) (Cert.Reference36Ideal.Value.run (F := Ideal) m' g')
  obtain ⟨a0, a1, a2⟩ := hargs c
  obtain ⟨f0, f1, f2⟩ := Cert.Pre_finite_latent.Back.isReal _ _ _ (fun i => congrFun (hpre c) i)
  refine ⟨(h c).1.trans ?_, (h c).2.1.trans ?_, (h c).2.2⟩
  · rw [Cert.Reference36Ideal.Read.val_main_v35_eq, a0, a1, a2]
    refine funext fun i => ?_
    rw [eq_ix2 i]
    exact Cert.Reference36Ideal.Norm.val_main_v35_read _ _ _ f0 f1 f2 (i 0) (i 1)
  · rw [Cert.Reference36Ideal.Read.val_main_v18_eq, a0, a2]
    refine funext fun i => ?_
    rw [eq_ix2 i]
    exact Cert.Reference36Ideal.Norm.val_main_v18_read _ _ f0 f2 (i 0) (i 1)

end Cert.Kernel36Ideal.Norm

end
-- ==== Proof.Norm37.lean ====
/-
  The query latent's norm, over the first 256 columns of the joint projection.
-/
module

public import proofs.«01_k».proof.Defs
public import proofs.«01_k».proof.Proof.FfnSpec
public import proofs.«01_k».proof.Proof.Gen.Kernel37Ideal.Value
public import proofs.«01_k».proof.Proof.Gen.Reference37Ideal.Run
public import proofs.«01_k».proof.Proof.Gen.Reference37Ideal.Read

@[expose] public section

noncomputable section

namespace Cert.Kernel37Ideal.Norm

open Idealize.ShloMosaic Idealize.ShloMosaic.TcCoe Idealize.SL.Sem
open Cert.Kernel37Ideal Cert.Kernel37Ideal.Gen Cert.Ffn

/-- The reciprocal root of a row's mean square. -/
def rowScale (x : Nat → EReal) : EReal :=
  Ideal.rsqrt (Ideal.div (∑ k : Fin 256, x k * x k) (Ideal.ofBits .f32 0x43800000#32) + Ideal.ofBits .f32 0x358637BD#32)

/-- The rows normalised and weighted. -/
def rms (X G : Nat → Nat → EReal) (p q : Nat) : EReal := X p (q) * rowScale (fun k => X p (k)) * G 0 q

theorem out_read (c : Dev nD) (i : grid0.Coords) (arg1 : Memref sig .tc .vmem S512x256 .f32) (harg1 : arg1.IsWhole) (arg2 : Memref sig .tc .vmem S1x256 .f32) (harg2 : arg2.IsWhole)
    (arg3 : Memref sig .tc .vmem S512x256 .bf16) (harg3 : arg3.IsWhole) (x0 : Vec Ideal S512x256 .f32) (x1 : Vec Ideal S1x256 .f32) (r : Fin 512) (l : Fin 256) :
    out0_A_2 (F := Ideal) c i arg1 harg1 arg2 harg2 arg3 harg3 x0 x1 (ix2 r l) = x0 (ix2 r l) * Ideal.rsqrt (Ideal.div (∑ k : Fin 256, x0 (ix2 r k) * x0 (ix2 r k)) (Ideal.ofBits .f32 0x43800000#32) + Ideal.ofBits .f32 0x358637BD#32) * x1 (ix2 0 l) := by
  unfold out0_A_2
  rw [View.read_writes_eq_canon _ _ _ (fun _ => cover0_A_2 ..)]
  unfold kernelRun0_A
  dsimp only
  sl_unfold_words
  rw [View.canon_unit_zero hz]
  simp only [View.readAt_eq_ld, harg1.read_unread, harg2.read_unread, View.ld_unit_zero (S := S512x256) hz, View.ld_unit_zero (S := S1x256) hz, shapeCast_self]
  unfold k0_pay1
  pointwise

variable (m : (ℓ : Loc nD τ sig) → Buf (Elt Ideal) ℓ) (ρ : Dev nD → PrngReg) (c : Dev nD)

/-- Argument 0 as a matrix. -/
abbrev arg0 : Nat → Nat → EReal := at2 (n := 4096) (m := 2176) (m ((c : Thread nD τ).loc main_arg0))

/-- Argument 1 as a matrix. -/
abbrev arg1 : Nat → Nat → EReal := at2 (n := 1) (m := 256) (m ((c : Thread nD τ).loc main_arg1))

theorem point_lt (t : Fin cfg0.N) : t.val < 8 := t.isLt.trans_eq N_0

theorem index_0 : ∀ t : Fin grid0.N, win0_0.index t 0 = t.val ∧ win0_0.index t 1 = 0 := by decide +kernel

theorem index_1 : ∀ t : Fin grid0.N, win0_1.index t 0 = 0 ∧ win0_1.index t 1 = 0 := by decide +kernel

theorem index_2 : ∀ t : Fin grid0.N, win0_2.index t 0 = t.val ∧ win0_2.index t 1 = 0 := by decide +kernel

/-- What point `t` reads through window 0. -/
theorem iblk_0 (t : Fin cfg0.N) (r : Fin 512) (l : Fin 256) :
    X0_0 m c t (ix2 r l) = arg0 m c ((t.val) * 512 + r.val) ((0) * 256 + l.val) := by
  have ht := point_lt t
  obtain ⟨i0, i1⟩ := index_0 t
  unfold X0_0 Pipeline.Window.fill
  rw [dif_pos (moved0_0 t _)]
  unfold iblk
  rw [View.read_apply]
  show V m c main_arg0 _ = _
  rw [V_main_arg0]
  exact at2_at _ _ (by show win0_0.index t 0 * 512 + 1 * r.val = _; rw [i0]; omega)
    (by show win0_0.index t 1 * 256 + 1 * l.val = _; rw [i1]; omega)

/-- What point `t` reads through window 1. -/
theorem iblk_1 (t : Fin cfg0.N) (r : Fin 1) (l : Fin 256) :
    iblk m c 1 t (ix2 r l) = arg1 m c ((0) * 1 + r.val) ((0) * 256 + l.val) := by
  have ht := point_lt t
  obtain ⟨i0, i1⟩ := index_1 t
  unfold iblk
  rw [View.read_apply]
  show V m c main_arg1 _ = _
  rw [V_main_arg1]
  exact at2_at _ _ (by show win0_1.index t 0 * 1 + 1 * r.val = _; rw [i0]; omega)
    (by show win0_1.index t 1 * 256 + 1 * l.val = _; rw [i1]; omega)

/-- What point `t` leaves of the output. -/
theorem block_2 (t : Fin cfg0.N) (r : Fin 512) (l : Fin 256) :
    (outsAt0 m c t) (ix2 r l) = rms (arg0 m c) (arg1 m c) (t.val * 512 + r.val) (0 * 256 + l.val) := by
  unfold outsAt0
  rw [out_read]
  simp only [iblk_0, iblk_1]
  unfold rms rowScale
  simp only [zero_mul, zero_add, one_mul, Fin.val_zero]

/-- The whole result. -/
def result_2 : Buf (Elt Ideal) ((c : Thread nD τ).loc main_v0) := fun (q : S4096x256.Idx) => rms (arg0 m c) (arg1 m c) (q 0).val (q 1).val

theorem flushed_2 (t : Fin cfg0.N) (hf : (cfg0.win 2).flush t = true) :
    (dats m 0 c).flushed 2 t = ((cfg0.win 2).blk t).view.read (Elt Ideal) (result_2 m c) := by
  obtain ⟨i0, i1⟩ := index_2 t
  rw [Cert.Kernel37Ideal.Value.flushed2]
  funext j
  rw [View.read_apply]
  refine (congrArg (outsAt0 m c t) (eq_ix2 (j : S512x256.Idx))).trans ?_
  refine (block_2 m c t (j 0) (j 1)).trans ?_
  show _ = rms (arg0 m c) (arg1 m c) (win0_2.index t 0 * 512 + 1 * (j 0).val) (win0_2.index t 1 * 256 + 1 * (j 1).val)
  rw [i0, i1, one_mul, one_mul]

theorem final_2 : (dats m 0 c).arrAt 2 cfg0.N = result_2 m c :=
  (dats m 0 c).arrAt_eq_of_cover 2 (result_2 m c) (flushed_2 m c) fun i => by
    have h0 : (i 0 : Nat) < 4096 := (i 0).isLt
    have h1 : (i 1 : Nat) < 256 := (i 1).isLt
    have hN : cfg0.N = 8 := N_0
    obtain ⟨t, hv⟩ : ∃ t : Fin cfg0.N, t.val = (i 0 : Nat) / 512 := ⟨⟨_, by omega⟩, rfl⟩
    have hx := index_2 t
    refine ⟨t, flush0_2 _, ?_⟩
    show i ∈ ((View.whole main_v0).slice (win0_2.rect t)).set
    rw [View.set_slice_whole, Rect.mem_set_unit]
    exact tile_at (by show _ * 512 ≤ (i 0 : Nat) ∧ _ < _ * 512 + 512; rw [hx.1]; omega)
      (by show _ * 256 ≤ (i 1 : Nat) ∧ _ < _ * 256 + 256; rw [hx.2]; omega)

/-- The kernel's run: the results are the arrays above and the arguments are unchanged. -/
theorem run : θ_run defs (onTc (τ := τ) (main (F := Ideal))) ⟨m, fun _ => 0, ρ⟩ fun r => ∀ c : Dev nD,
      r.2.mem ((c : Thread nD τ).loc main_v0) = result_2 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_2 m c), (h c).2⟩)
    (Cert.Kernel37Ideal.Value.run_blocks m ρ)

end Cert.Kernel37Ideal.Norm

namespace Cert.Reference37Ideal.Norm

open Idealize.ShloMosaic Idealize.SL.Sem
open Cert.Reference37Ideal Cert.Reference37Ideal.Gen Cert.Reference37Ideal.Read Cert.Ffn Cert.Kernel37Ideal.Norm

/-- The reference runs, keeps its arguments and leaves every counter at zero. -/
theorem frame : Cert.quiescent_Reference37Ideal := fun m ρ _ =>
  (θ_run Cert.Reference37Ideal.defs _ _).mono (fun r h => ⟨fun c => (h c).2, sem_eq_zero_of_no_sems (by decide) r.2⟩)
    (Cert.Reference37Ideal.Value.run m ρ)

/-- One entry of the reference's result. -/
theorem val_main_v13_read (x0 : (⟨S4096x2176, .f32⟩ : BufTy).Contents (Elt Ideal)) (x1 : (⟨S1x256, .f32⟩ : BufTy).Contents (Elt Ideal))
    (p : Fin 4096) (q : Fin 256) :
    val_main_v13 (F := Ideal) x0 x1 (ix2 p q) = rms (at2 (n := 4096) (m := 2176) x0) (at2 (n := 1) (m := 256) x1) p.val q.val := by
  unfold val_main_v13 val_main_v12 val_main_v11 val_main_v10 val_main_v9 val_main_v8 val_main_v7 val_main_v6 val_main_v5 val_main_v4 val_main_v3 val_main_v2 val_main_v1 val_main_v0 val_main_cst val_main_cst_0 val_main_cst_1
  unfold rms rowScale
  pointwise
  rw [show at2 (n := 1) (m := 256) x1 0 q.val = x1 (ix2 0 q) from at2_ix2 x1 0 q,
    show at2 (n := 4096) (m := 2176) x0 p.val (q.val) = x0 (ix2 ⟨p.val, by omega⟩ ⟨q.val, by omega⟩) from at2_of_lt _ (by omega) (by omega)]
  refine congrArg (· * _) (congrArg (_ * ·) (congrArg Ideal.rsqrt (congrArg (· + _) (congrArg (fun s => Ideal.div s _) ?_))))
  try rw [zero_add]
  refine Finset.sum_congr rfl fun k _ => ?_
  rw [show at2 (n := 4096) (m := 2176) x0 p.val (k.val) = x0 (ix2 ⟨p.val, by omega⟩ ⟨k.val, by omega⟩) from at2_of_lt _ (by omega) (by omega)]
end Cert.Reference37Ideal.Norm

namespace Cert.Kernel37Ideal.Norm

open Idealize.ShloMosaic Idealize.SL.Sem Cert.Ffn

/-- The kernel and the reference end with the same arrays. -/
theorem algebraic : Cert.algebraic_Kernel37Ideal_Reference37Ideal := by
  intro m g m' g' _ hargs
  refine ⟨result_2 m, run m g, ?_⟩
  refine (θ_run Cert.Reference37Ideal.defs _ _).mono (fun r h c => ?_) (Cert.Reference37Ideal.Value.run (F := Ideal) m' g')
  obtain ⟨a0, a1⟩ := hargs c
  refine ⟨(h c).1.trans ?_, (h c).2⟩
  · rw [Cert.Reference37Ideal.Read.val_main_v13_eq, a0, a1]
    refine funext fun i => ?_
    rw [eq_ix2 i]
    exact Cert.Reference37Ideal.Norm.val_main_v13_read _ _ (i 0) (i 1)

end Cert.Kernel37Ideal.Norm

end
-- ==== Proof.Norm38.lean ====
/-
  The key and value latent's norm, over the second 256 columns of the joint projection.
-/
module

public import proofs.«01_k».proof.Defs
public import proofs.«01_k».proof.Proof.FfnSpec
public import proofs.«01_k».proof.Proof.Gen.Kernel38Ideal.Value
public import proofs.«01_k».proof.Proof.Gen.Reference38Ideal.Run
public import proofs.«01_k».proof.Proof.Gen.Reference38Ideal.Read

@[expose] public section

noncomputable section

namespace Cert.Kernel38Ideal.Norm

open Idealize.ShloMosaic Idealize.ShloMosaic.TcCoe Idealize.SL.Sem
open Cert.Kernel38Ideal Cert.Kernel38Ideal.Gen Cert.Ffn

/-- The reciprocal root of a row's mean square. -/
def rowScale (x : Nat → EReal) : EReal :=
  Ideal.rsqrt (Ideal.div (∑ k : Fin 256, x k * x k) (Ideal.ofBits .f32 0x43800000#32) + Ideal.ofBits .f32 0x358637BD#32)

/-- The rows normalised and weighted. -/
def rms (X G : Nat → Nat → EReal) (p q : Nat) : EReal := X p (256 + q) * rowScale (fun k => X p (256 + k)) * G 0 q

theorem out_read (c : Dev nD) (i : grid0.Coords) (arg1 : Memref sig .tc .vmem S512x256 .f32) (harg1 : arg1.IsWhole) (arg2 : Memref sig .tc .vmem S1x256 .f32) (harg2 : arg2.IsWhole)
    (arg3 : Memref sig .tc .vmem S512x256 .bf16) (harg3 : arg3.IsWhole) (x0 : Vec Ideal S512x256 .f32) (x1 : Vec Ideal S1x256 .f32) (r : Fin 512) (l : Fin 256) :
    out0_A_2 (F := Ideal) c i arg1 harg1 arg2 harg2 arg3 harg3 x0 x1 (ix2 r l) = x0 (ix2 r l) * Ideal.rsqrt (Ideal.div (∑ k : Fin 256, x0 (ix2 r k) * x0 (ix2 r k)) (Ideal.ofBits .f32 0x43800000#32) + Ideal.ofBits .f32 0x358637BD#32) * x1 (ix2 0 l) := by
  unfold out0_A_2
  rw [View.read_writes_eq_canon _ _ _ (fun _ => cover0_A_2 ..)]
  unfold kernelRun0_A
  dsimp only
  sl_unfold_words
  rw [View.canon_unit_zero hz]
  simp only [View.readAt_eq_ld, harg1.read_unread, harg2.read_unread, View.ld_unit_zero (S := S512x256) hz, View.ld_unit_zero (S := S1x256) hz, shapeCast_self]
  unfold k0_pay1
  pointwise

variable (m : (ℓ : Loc nD τ sig) → Buf (Elt Ideal) ℓ) (ρ : Dev nD → PrngReg) (c : Dev nD)

/-- Argument 0 as a matrix. -/
abbrev arg0 : Nat → Nat → EReal := at2 (n := 4096) (m := 2176) (m ((c : Thread nD τ).loc main_arg0))

/-- Argument 1 as a matrix. -/
abbrev arg1 : Nat → Nat → EReal := at2 (n := 1) (m := 256) (m ((c : Thread nD τ).loc main_arg1))

theorem point_lt (t : Fin cfg0.N) : t.val < 8 := t.isLt.trans_eq N_0

theorem index_0 : ∀ t : Fin grid0.N, win0_0.index t 0 = t.val ∧ win0_0.index t 1 = 1 := by decide +kernel

theorem index_1 : ∀ t : Fin grid0.N, win0_1.index t 0 = 0 ∧ win0_1.index t 1 = 0 := by decide +kernel

theorem index_2 : ∀ t : Fin grid0.N, win0_2.index t 0 = t.val ∧ win0_2.index t 1 = 0 := by decide +kernel

/-- What point `t` reads through window 0. -/
theorem iblk_0 (t : Fin cfg0.N) (r : Fin 512) (l : Fin 256) :
    X0_0 m c t (ix2 r l) = arg0 m c ((t.val) * 512 + r.val) ((1) * 256 + l.val) := by
  have ht := point_lt t
  obtain ⟨i0, i1⟩ := index_0 t
  unfold X0_0 Pipeline.Window.fill
  rw [dif_pos (moved0_0 t _)]
  unfold iblk
  rw [View.read_apply]
  show V m c main_arg0 _ = _
  rw [V_main_arg0]
  exact at2_at _ _ (by show win0_0.index t 0 * 512 + 1 * r.val = _; rw [i0]; omega)
    (by show win0_0.index t 1 * 256 + 1 * l.val = _; rw [i1]; omega)

/-- What point `t` reads through window 1. -/
theorem iblk_1 (t : Fin cfg0.N) (r : Fin 1) (l : Fin 256) :
    iblk m c 1 t (ix2 r l) = arg1 m c ((0) * 1 + r.val) ((0) * 256 + l.val) := by
  have ht := point_lt t
  obtain ⟨i0, i1⟩ := index_1 t
  unfold iblk
  rw [View.read_apply]
  show V m c main_arg1 _ = _
  rw [V_main_arg1]
  exact at2_at _ _ (by show win0_1.index t 0 * 1 + 1 * r.val = _; rw [i0]; omega)
    (by show win0_1.index t 1 * 256 + 1 * l.val = _; rw [i1]; omega)

/-- What point `t` leaves of the output. -/
theorem block_2 (t : Fin cfg0.N) (r : Fin 512) (l : Fin 256) :
    (outsAt0 m c t) (ix2 r l) = rms (arg0 m c) (arg1 m c) (t.val * 512 + r.val) (0 * 256 + l.val) := by
  unfold outsAt0
  rw [out_read]
  simp only [iblk_0, iblk_1]
  unfold rms rowScale
  simp only [zero_mul, zero_add, one_mul, Fin.val_zero]

/-- The whole result. -/
def result_2 : Buf (Elt Ideal) ((c : Thread nD τ).loc main_v0) := fun (q : S4096x256.Idx) => rms (arg0 m c) (arg1 m c) (q 0).val (q 1).val

theorem flushed_2 (t : Fin cfg0.N) (hf : (cfg0.win 2).flush t = true) :
    (dats m 0 c).flushed 2 t = ((cfg0.win 2).blk t).view.read (Elt Ideal) (result_2 m c) := by
  obtain ⟨i0, i1⟩ := index_2 t
  rw [Cert.Kernel38Ideal.Value.flushed2]
  funext j
  rw [View.read_apply]
  refine (congrArg (outsAt0 m c t) (eq_ix2 (j : S512x256.Idx))).trans ?_
  refine (block_2 m c t (j 0) (j 1)).trans ?_
  show _ = rms (arg0 m c) (arg1 m c) (win0_2.index t 0 * 512 + 1 * (j 0).val) (win0_2.index t 1 * 256 + 1 * (j 1).val)
  rw [i0, i1, one_mul, one_mul]

theorem final_2 : (dats m 0 c).arrAt 2 cfg0.N = result_2 m c :=
  (dats m 0 c).arrAt_eq_of_cover 2 (result_2 m c) (flushed_2 m c) fun i => by
    have h0 : (i 0 : Nat) < 4096 := (i 0).isLt
    have h1 : (i 1 : Nat) < 256 := (i 1).isLt
    have hN : cfg0.N = 8 := N_0
    obtain ⟨t, hv⟩ : ∃ t : Fin cfg0.N, t.val = (i 0 : Nat) / 512 := ⟨⟨_, by omega⟩, rfl⟩
    have hx := index_2 t
    refine ⟨t, flush0_2 _, ?_⟩
    show i ∈ ((View.whole main_v0).slice (win0_2.rect t)).set
    rw [View.set_slice_whole, Rect.mem_set_unit]
    exact tile_at (by show _ * 512 ≤ (i 0 : Nat) ∧ _ < _ * 512 + 512; rw [hx.1]; omega)
      (by show _ * 256 ≤ (i 1 : Nat) ∧ _ < _ * 256 + 256; rw [hx.2]; omega)

/-- The kernel's run: the results are the arrays above and the arguments are unchanged. -/
theorem run : θ_run defs (onTc (τ := τ) (main (F := Ideal))) ⟨m, fun _ => 0, ρ⟩ fun r => ∀ c : Dev nD,
      r.2.mem ((c : Thread nD τ).loc main_v0) = result_2 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_2 m c), (h c).2⟩)
    (Cert.Kernel38Ideal.Value.run_blocks m ρ)

end Cert.Kernel38Ideal.Norm

namespace Cert.Reference38Ideal.Norm

open Idealize.ShloMosaic Idealize.SL.Sem
open Cert.Reference38Ideal Cert.Reference38Ideal.Gen Cert.Reference38Ideal.Read Cert.Ffn Cert.Kernel38Ideal.Norm

/-- The reference runs, keeps its arguments and leaves every counter at zero. -/
theorem frame : Cert.quiescent_Reference38Ideal := fun m ρ _ =>
  (θ_run Cert.Reference38Ideal.defs _ _).mono (fun r h => ⟨fun c => (h c).2, sem_eq_zero_of_no_sems (by decide) r.2⟩)
    (Cert.Reference38Ideal.Value.run m ρ)

/-- One entry of the reference's result. -/
theorem val_main_v13_read (x0 : (⟨S4096x2176, .f32⟩ : BufTy).Contents (Elt Ideal)) (x1 : (⟨S1x256, .f32⟩ : BufTy).Contents (Elt Ideal))
    (p : Fin 4096) (q : Fin 256) :
    val_main_v13 (F := Ideal) x0 x1 (ix2 p q) = rms (at2 (n := 4096) (m := 2176) x0) (at2 (n := 1) (m := 256) x1) p.val q.val := by
  unfold val_main_v13 val_main_v12 val_main_v11 val_main_v10 val_main_v9 val_main_v8 val_main_v7 val_main_v6 val_main_v5 val_main_v4 val_main_v3 val_main_v2 val_main_v1 val_main_v0 val_main_cst val_main_cst_0 val_main_cst_1
  unfold rms rowScale
  pointwise
  rw [show at2 (n := 1) (m := 256) x1 0 q.val = x1 (ix2 0 q) from at2_ix2 x1 0 q,
    show at2 (n := 4096) (m := 2176) x0 p.val (256 + q.val) = x0 (ix2 ⟨p.val, by omega⟩ ⟨256 + q.val, by omega⟩) from at2_of_lt _ (by omega) (by omega)]
  refine congrArg (· * _) (congrArg (_ * ·) (congrArg Ideal.rsqrt (congrArg (· + _) (congrArg (fun s => Ideal.div s _) ?_))))
  try rw [zero_add]
  refine Finset.sum_congr rfl fun k _ => ?_
  rw [show at2 (n := 4096) (m := 2176) x0 p.val (256 + k.val) = x0 (ix2 ⟨p.val, by omega⟩ ⟨256 + k.val, by omega⟩) from at2_of_lt _ (by omega) (by omega)]
end Cert.Reference38Ideal.Norm

namespace Cert.Kernel38Ideal.Norm

open Idealize.ShloMosaic Idealize.SL.Sem Cert.Ffn

/-- The kernel and the reference end with the same arrays. -/
theorem algebraic : Cert.algebraic_Kernel38Ideal_Reference38Ideal := by
  intro m g m' g' _ hargs
  refine ⟨result_2 m, run m g, ?_⟩
  refine (θ_run Cert.Reference38Ideal.defs _ _).mono (fun r h c => ?_) (Cert.Reference38Ideal.Value.run (F := Ideal) m' g')
  obtain ⟨a0, a1⟩ := hargs c
  refine ⟨(h c).1.trans ?_, (h c).2⟩
  · rw [Cert.Reference38Ideal.Read.val_main_v13_eq, a0, a1]
    refine funext fun i => ?_
    rw [eq_ix2 i]
    exact Cert.Reference38Ideal.Norm.val_main_v13_read _ _ (i 0) (i 1)

end Cert.Kernel38Ideal.Norm

end
-- ==== Proof.FfnBlock.lean ====
/-
  The printed operations of one grid point of the feed-forward backward kernel, read at an index: with the eleven loaded
  blocks known as windows of the arrays, each intermediate is the corresponding value of the plain mathematics at the
  tile's rows and columns.
-/
module

public import proofs.«01_k».proof.Proof.FfnOut
public import proofs.«01_k».proof.Proof.FfnSpec

@[expose] public section

noncomputable section

namespace Cert.KernelIdeal.FfnOut

open Idealize.ShloMosaic Idealize.SL.Sem
open Cert.KernelIdeal Cert.KernelIdeal.Gen Cert.Ffn

/-- The factor that clears the rows before the first tile: zero at the first tile and one at the others. -/
theorem pay1_eq (i : grid0.Coords) : k0_pay1 (F := Ideal) i = if (i 1).val = 0 then 0 else 1 := by
  have h : (i 1).val < 4 := (i 1).isLt
  unfold k0_pay1
  generalize (i 1).val = n at h ⊢
  interval_cases n
  · show (((Scalar.extui (Scalar.cmpi .sgt (BitVec.ofNat 32 0) 0#32) : BitVec 32).toInt : ℝ) : EReal) = _
    rw [show (Scalar.extui (Scalar.cmpi .sgt (BitVec.ofNat 32 0) 0#32) : BitVec 32).toInt = 0 from by decide]
    norm_num
  · show (((Scalar.extui (Scalar.cmpi .sgt (BitVec.ofNat 32 1) 0#32) : BitVec 32).toInt : ℝ) : EReal) = _
    rw [show (Scalar.extui (Scalar.cmpi .sgt (BitVec.ofNat 32 1) 0#32) : BitVec 32).toInt = 1 from by decide]
    norm_num
  · show (((Scalar.extui (Scalar.cmpi .sgt (BitVec.ofNat 32 2) 0#32) : BitVec 32).toInt : ℝ) : EReal) = _
    rw [show (Scalar.extui (Scalar.cmpi .sgt (BitVec.ofNat 32 2) 0#32) : BitVec 32).toInt = 1 from by decide]
    norm_num
  · show (((Scalar.extui (Scalar.cmpi .sgt (BitVec.ofNat 32 3) 0#32) : BitVec 32).toInt : ℝ) : EReal) = _
    rw [show (Scalar.extui (Scalar.cmpi .sgt (BitVec.ofNat 32 3) 0#32) : BitVec 32).toInt = 1 from by decide]
    norm_num

/-- The factor that clears the rows after the last tile: one at every tile but the last. -/
theorem pay2_eq (i : grid0.Coords) : k0_pay2 (F := Ideal) i = if (i 1).val < 3 then 1 else 0 := by
  have h : (i 1).val < 4 := (i 1).isLt
  unfold k0_pay2
  generalize (i 1).val = n at h ⊢
  interval_cases n
  · show (((Scalar.extui (Scalar.cmpi .slt (BitVec.ofNat 32 0) 3#32) : BitVec 32).toInt : ℝ) : EReal) = _
    rw [show (Scalar.extui (Scalar.cmpi .slt (BitVec.ofNat 32 0) 3#32) : BitVec 32).toInt = 1 from by decide]
    norm_num
  · show (((Scalar.extui (Scalar.cmpi .slt (BitVec.ofNat 32 1) 3#32) : BitVec 32).toInt : ℝ) : EReal) = _
    rw [show (Scalar.extui (Scalar.cmpi .slt (BitVec.ofNat 32 1) 3#32) : BitVec 32).toInt = 1 from by decide]
    norm_num
  · show (((Scalar.extui (Scalar.cmpi .slt (BitVec.ofNat 32 2) 3#32) : BitVec 32).toInt : ℝ) : EReal) = _
    rw [show (Scalar.extui (Scalar.cmpi .slt (BitVec.ofNat 32 2) 3#32) : BitVec 32).toInt = 1 from by decide]
    norm_num
  · show (((Scalar.extui (Scalar.cmpi .slt (BitVec.ofNat 32 3) 3#32) : BitVec 32).toInt : ℝ) : EReal) = _
    rw [show (Scalar.extui (Scalar.cmpi .slt (BitVec.ofNat 32 3) 3#32) : BitVec 32).toInt = 0 from by decide]
    norm_num

variable {i : grid0.Coords} {b : Nat}

/-- One half's loaded rows — eight before the tile, the tile, eight after — as rows of the extended input `x`. -/
structure Rows (i : grid0.Coords) (b : Nat) (x : Nat → Nat → EReal) (xp : Vec Ideal S8x256 .f32) (xc : Vec Ideal S1024x256 .f32)
    (xn : Vec Ideal S8x256 .f32) : Prop where
  cur : ∀ (r : Fin 1024) (l : Fin 256), xc (ix2 r l) = x (1024 * (i 1).val + r.val) (b + l.val)
  prev : 0 < (i 1).val → ∀ (r : Fin 8) (l : Fin 256), xp (ix2 r l) = x (1024 * (i 1).val + r.val - 8) (b + l.val)
  next : (i 1).val < 3 → ∀ (r : Fin 8) (l : Fin 256), xn (ix2 r l) = x (1024 * (i 1).val + 1024 + r.val) (b + l.val)

/-- The concatenated rows of the gate half: the row `p - 8` of the tile, with zero before the first row of all. -/
theorem pay5_read {x : Nat → Nat → EReal} {xp : Vec Ideal S8x256 .f32} {xc : Vec Ideal S1024x256 .f32} {xn : Vec Ideal S8x256 .f32}
    (h : Rows i b x xp xc xn) (p : Fin 1040) (l : Fin 256) (hp : 1024 * (i 1).val + p.val < 4104) :
    k0_pay5 (F := Ideal) i xp xc xn (ix2 p l) = bk 8 x (1024 * (i 1).val + p.val) (b + l.val) := by
  have hi : (i 1).val < 4 := (i 1).isLt
  have hb : 8 ≤ 1024 * (i 1).val + p.val → bk 8 x (1024 * (i 1).val + p.val) (b + l.val) = x (1024 * (i 1).val + p.val - 8) (b + l.val) :=
    fun h => if_pos h
  have hz := pay1_eq i
  unfold k0_pay5
  generalize k0_pay1 (F := Ideal) i = z at hz ⊢
  pointwise
  split
  · by_cases h0 : (i 1).val = 0
    · rw [if_pos h0] at hz
      rw [hz, mul_zero]
      exact (if_neg (by omega)).symm
    · rw [if_neg h0] at hz
      rw [hz, mul_one, hb (by omega), h.prev (by omega)]
  · rw [hb (by omega)]
    split
    · rw [h.cur]
      exact congrArg (fun q => x q (b + l.val)) (by show 1024 * (i 1).val + (p.val - 8) = _; omega)
    · rw [h.next (by omega)]
      exact congrArg (fun q => x q (b + l.val)) (by show 1024 * (i 1).val + 1024 + (p.val - 8 - 1024) = _; omega)

/-- The value half's rows are concatenated the same way. -/
theorem pay6_eq (xp : Vec Ideal S8x256 .f32) (xc : Vec Ideal S1024x256 .f32) (xn : Vec Ideal S8x256 .f32) :
    k0_pay6 (F := Ideal) i xp xc xn = k0_pay5 i xp xc xn := rfl

theorem pay7_read {x : Nat → Nat → EReal} {xp : Vec Ideal S8x256 .f32} {xc : Vec Ideal S1024x256 .f32} {xn : Vec Ideal S8x256 .f32}
    (h : Rows i b x xp xc xn) (p : Fin 1040) (l : Fin 256) (h8 : 8 ≤ p.val) (hp : 1024 * (i 1).val + p.val < 4104) :
    k0_pay7 (F := Ideal) i xp xc xn (ix2 p l) = bk 9 x (1024 * (i 1).val + p.val) (b + l.val) := by
  have hr : ∀ y : FVec Ideal S1040x256 .f32, dynamicRotate 0 1#32 none y rotates_S1040x256_d0 (ix2 p l)
      = y (ix2 ⟨p.val - 1, by omega⟩ l) := by
    intro y
    pointwise
    exact congrArg (fun q => y (ix2 q l)) (Fin.ext (by show (p.val + 1040 - 1) % 1040 = p.val - 1; omega))
  unfold k0_pay7
  rw [hr, pay5_read h _ _ (by show 1024 * (i 1).val + (p.val - 1) < 4104; omega)]
  have := bk_add 8 1 x (1024 * (i 1).val + (p.val - 1)) (b + l.val)
  rw [show 1024 * (i 1).val + (p.val - 1) + 1 = 1024 * (i 1).val + p.val by omega] at this
  exact this.symm

theorem pay8_read {x : Nat → Nat → EReal} {xp : Vec Ideal S8x256 .f32} {xc : Vec Ideal S1024x256 .f32} {xn : Vec Ideal S8x256 .f32}
    (h : Rows i b x xp xc xn) (p : Fin 1040) (l : Fin 256) (h8 : 8 ≤ p.val) (hp : 1024 * (i 1).val + p.val < 4104) :
    k0_pay8 (F := Ideal) i xp xc xn (ix2 p l) = bk 10 x (1024 * (i 1).val + p.val) (b + l.val) := by
  have hr : ∀ y : FVec Ideal S1040x256 .f32, dynamicRotate 0 2#32 none y rotates_S1040x256_d0 (ix2 p l)
      = y (ix2 ⟨p.val - 2, by omega⟩ l) := by
    intro y
    pointwise
    exact congrArg (fun q => y (ix2 q l)) (Fin.ext (by show (p.val + 1040 - 2) % 1040 = p.val - 2; omega))
  unfold k0_pay8
  rw [hr, pay5_read h _ _ (by show 1024 * (i 1).val + (p.val - 2) < 4104; omega)]
  have := bk_add 8 2 x (1024 * (i 1).val + (p.val - 2)) (b + l.val)
  rw [show 1024 * (i 1).val + (p.val - 2) + 2 = 1024 * (i 1).val + p.val by omega] at this
  exact this.symm

theorem pay9_eq (xp : Vec Ideal S8x256 .f32) (xc : Vec Ideal S1024x256 .f32) (xn : Vec Ideal S8x256 .f32) :
    k0_pay9 (F := Ideal) i xp xc xn = k0_pay7 i xp xc xn := rfl

theorem pay10_eq (xp : Vec Ideal S8x256 .f32) (xc : Vec Ideal S1024x256 .f32) (xn : Vec Ideal S8x256 .f32) :
    k0_pay10 (F := Ideal) i xp xc xn = k0_pay8 i xp xc xn := rfl

/-- The three rows of a filter block, as rows of the filter `w` at the columns from `f`. -/
def Taps (f : Nat) (w : Nat → Nat → EReal) (xw : Vec Ideal S3x256 .f32) : Prop :=
  ∀ (a : Fin 3) (l : Fin 256), xw (ix2 a l) = w a.val (f + l.val)

/-- The gate half's convolution on the tile's rows and the eight after it. -/
theorem gateConv_read {x w : Nat → Nat → EReal} {f : Nat} {xp : Vec Ideal S8x256 .f32} {xc : Vec Ideal S1024x256 .f32} {xn : Vec Ideal S8x256 .f32}
    {xw : Vec Ideal S3x256 .f32} (h : Rows i b x xp xc xn) (hw : Taps f w xw) (r : Fin 1032) (l : Fin 256)
    (hr : 1024 * (i 1).val + r.val < 4096) :
    k0_pay13 (F := Ideal) xw (k0_pay8 i xp xc xn) (k0_pay11 i xw xp xc xn) (k0_pay12 i xw xp xc xn) (ix2 r l)
      = conv x w (f + l.val) (1024 * (i 1).val + r.val) (b + l.val) := by
  have e5 := pay5_read h (⟨8 + r.val, by omega⟩ : Fin 1040) l (by show 1024 * (i 1).val + (8 + r.val) < 4104; omega)
  have e7 := pay7_read h (⟨8 + r.val, by omega⟩ : Fin 1040) l (by show 8 ≤ 8 + r.val; omega) (by show 1024 * (i 1).val + (8 + r.val) < 4104; omega)
  have e8 := pay8_read h (⟨8 + r.val, by omega⟩ : Fin 1040) l (by show 8 ≤ 8 + r.val; omega) (by show 1024 * (i 1).val + (8 + r.val) < 4104; omega)
  unfold k0_pay13 k0_pay11 k0_pay12
  generalize k0_pay5 (F := Ideal) i xp xc xn = y5 at e5 ⊢
  generalize k0_pay7 (F := Ideal) i xp xc xn = y7 at e7 ⊢
  generalize k0_pay8 (F := Ideal) i xp xc xn = y8 at e8 ⊢
  pointwise
  rw [e5, e7, e8, hw 2 l, hw 1 l, hw 0 l]
  have h0 := bk_add 0 8 x (1024 * (i 1).val + r.val) (b + l.val)
  have h1 := bk_add 1 8 x (1024 * (i 1).val + r.val) (b + l.val)
  have h2 := bk_add 2 8 x (1024 * (i 1).val + r.val) (b + l.val)
  rw [bk_zero] at h0
  unfold conv
  rw [← h0, ← h1, ← h2]
  show _ + _ + _ = _
  simp only [show 1024 * (i 1).val + r.val + 8 = 1024 * (i 1).val + (8 + r.val) by omega]
  rfl

/-- The value half's convolution, read where the gate's gradient uses it. -/
theorem valConv_read {x w : Nat → Nat → EReal} {f : Nat} {xp : Vec Ideal S8x256 .f32} {xc : Vec Ideal S1024x256 .f32} {xn : Vec Ideal S8x256 .f32}
    {xw : Vec Ideal S3x256 .f32} (h : Rows i b x xp xc xn) (hw : Taps f w xw) (r : Fin 1032) (l : Fin 256)
    (hr : 1024 * (i 1).val + r.val < 4096) (h8 : 8 + r.val < 1040) :
    xw (ix2 2 l) * k0_pay5 (F := Ideal) i xp xc xn (ix2 ⟨8 + r.val, h8⟩ l) + xw (ix2 1 l) * k0_pay7 (F := Ideal) i xp xc xn (ix2 ⟨8 + r.val, h8⟩ l)
        + xw (ix2 0 l) * k0_pay8 (F := Ideal) i xp xc xn (ix2 ⟨8 + r.val, h8⟩ l)
      = conv x w (f + l.val) (1024 * (i 1).val + r.val) (b + l.val) := by
  rw [← gateConv_read h hw r l hr]
  unfold k0_pay13 k0_pay11 k0_pay12
  generalize k0_pay5 (F := Ideal) i xp xc xn = y5
  generalize k0_pay7 (F := Ideal) i xp xc xn = y7
  generalize k0_pay8 (F := Ideal) i xp xc xn = y8
  pointwise

/-- The loaded rows of the output gradient — the tile and the sixteen after it — and the loaded rows of the down projection. -/
structure Prods (i : grid0.Coords) (b : Nat) (D M : Nat → Nat → EReal) (xd : Vec Ideal S1024x1024 .bf16) (xn : Vec Ideal S16x1024 .bf16)
    (xm : Vec Ideal S256x1024 .bf16) : Prop where
  cur : ∀ (r k : Fin 1024), xd (ix2 r k) = D (1024 * (i 1).val + r.val) k.val
  next : (i 1).val < 3 → ∀ (r : Fin 16) (k : Fin 1024), xn (ix2 r k) = D (1024 * (i 1).val + 1024 + r.val) k.val
  mat : ∀ (l : Fin 256) (k : Fin 1024), xm (ix2 l k) = M (b + l.val) k.val
  out : ∀ e k, 4096 ≤ e → D e k = 0

/-- The gradient of the activation on the tile's rows and the eight after it; past the last row it is zero. -/
theorem pay14_read {D M : Nat → Nat → EReal} {xd : Vec Ideal S1024x1024 .bf16} {xn : Vec Ideal S16x1024 .bf16} {xm : Vec Ideal S256x1024 .bf16}
    (h : Prods i b D M xd xn xm) (r : Fin 1032) (l : Fin 256) :
    k0_pay14 (F := Ideal) (k0_pay2 i) xm xd xn (ix2 r l) = dAct D M (1024 * (i 1).val + r.val) (b + l.val) := by
  have hz := pay2_eq i
  unfold k0_pay14
  generalize k0_pay2 (F := Ideal) i = z at hz ⊢
  pointwise
  unfold dAct
  rw [Finset.sum_range]
  split
  · refine Finset.sum_congr rfl fun k _ => ?_
    rw [h.cur, h.mat]
  · rename_i hr
    have hi : (i 1).val < 4 := (i 1).isLt
    by_cases h3 : (i 1).val < 3
    · rw [if_pos h3] at hz
      rw [hz, mul_one]
      refine Finset.sum_congr rfl fun k _ => ?_
      rw [h.next h3, h.mat]
      exact congrArg (fun q => D q k.val * _) (by show 1024 * (i 1).val + 1024 + (r.val - 1024) = 1024 * (i 1).val + r.val; omega)
    · rw [if_neg h3] at hz
      rw [hz, mul_zero]
      exact (Finset.sum_eq_zero fun k _ => by rw [h.out _ _ (by omega), zero_mul]).symm

/-- Everything the eleven loaded blocks hold. -/
structure Reads (i : grid0.Coords) (b : Nat) (G V W D M : Nat → Nat → EReal) (x0 : Vec Ideal S1024x256 .f32) (x1 : Vec Ideal S8x256 .f32) (x2 : Vec Ideal S8x256 .f32) (x3 : Vec Ideal S1024x256 .f32) (x4 : Vec Ideal S8x256 .f32) (x5 : Vec Ideal S8x256 .f32) (x6 : Vec Ideal S3x256 .f32) (x7 : Vec Ideal S3x256 .f32) (x8 : Vec Ideal S1024x1024 .bf16) (x9 : Vec Ideal S16x1024 .bf16) (x10 : Vec Ideal S256x1024 .bf16) : Prop where
  g : Rows i b G x1 x0 x2
  v : Rows i b V x4 x3 x5
  wg : Taps b W x6
  wv : Taps (2816 + b) W x7
  p : Prods i b D M x8 x9 x10

variable {G V W D M : Nat → Nat → EReal} {x0 : Vec Ideal S1024x256 .f32} {x1 : Vec Ideal S8x256 .f32} {x2 : Vec Ideal S8x256 .f32} {x3 : Vec Ideal S1024x256 .f32} {x4 : Vec Ideal S8x256 .f32} {x5 : Vec Ideal S8x256 .f32} {x6 : Vec Ideal S3x256 .f32} {x7 : Vec Ideal S3x256 .f32} {x8 : Vec Ideal S1024x1024 .bf16} {x9 : Vec Ideal S16x1024 .bf16} {x10 : Vec Ideal S256x1024 .bf16}

/-- The gate half's gradient on the tile's rows and the eight after it. -/
theorem dGate_read (h : Reads i b G V W D M x0 x1 x2 x3 x4 x5 x6 x7 x8 x9 x10) (r : Fin 1032) (l : Fin 256) :
    FfnOut.dGate (F := Ideal) i x0 x1 x2 x3 x4 x5 x6 x7 x8 x9 x10 (ix2 r l)
      = Ffn.dGate G V W D M (1024 * (i 1).val + r.val) (b + l.val) := by
  have ea := pay14_read h.p r l
  have hval : FfnOut.dGate (F := Ideal) i x0 x1 x2 x3 x4 x5 x6 x7 x8 x9 x10 (ix2 r l)
      = k0_pay14 (F := Ideal) (k0_pay2 i) x10 x8 x9 (ix2 r l)
        * (x7 (ix2 2 l) * k0_pay5 (F := Ideal) i x4 x3 x5 (ix2 ⟨8 + r.val, by omega⟩ l) + x7 (ix2 1 l) * k0_pay7 (F := Ideal) i x4 x3 x5 (ix2 ⟨8 + r.val, by omega⟩ l)
          + x7 (ix2 0 l) * k0_pay8 (F := Ideal) i x4 x3 x5 (ix2 ⟨8 + r.val, by omega⟩ l))
        * (Ideal.logistic (k0_pay13 (F := Ideal) x6 (k0_pay8 i x1 x0 x2) (k0_pay11 i x6 x1 x0 x2) (k0_pay12 i x6 x1 x0 x2) (ix2 r l))
          * (1 + k0_pay13 (F := Ideal) x6 (k0_pay8 i x1 x0 x2) (k0_pay11 i x6 x1 x0 x2) (k0_pay12 i x6 x1 x0 x2) (ix2 r l)
            * (1 - Ideal.logistic (k0_pay13 (F := Ideal) x6 (k0_pay8 i x1 x0 x2) (k0_pay11 i x6 x1 x0 x2) (k0_pay12 i x6 x1 x0 x2) (ix2 r l))))) := by
    unfold FfnOut.dGate k0_pay16 k0_pay15
    rw [pay6_eq, pay9_eq, pay10_eq]
    generalize k0_pay14 (F := Ideal) (k0_pay2 i) x10 x8 x9 = da
    generalize k0_pay13 (F := Ideal) x6 (k0_pay8 i x1 x0 x2) (k0_pay11 i x6 x1 x0 x2) (k0_pay12 i x6 x1 x0 x2) = cg
    generalize k0_pay5 (F := Ideal) i x4 x3 x5 = y5
    generalize k0_pay7 (F := Ideal) i x4 x3 x5 = y7
    generalize k0_pay8 (F := Ideal) i x4 x3 x5 = y8
    pointwise
  rw [hval, ea]
  by_cases hr : 1024 * (i 1).val + r.val < 4096
  · rw [valConv_read h.v h.wv r l hr, gateConv_read h.g h.wg r l hr]
    unfold Ffn.dGate
    rw [show 2816 + b + l.val = 2816 + (b + l.val) by omega]
  · have hz : ∀ k, D (1024 * (i 1).val + r.val) k = 0 := fun k => h.p.out _ k (by omega)
    rw [dGate_of_zero G V W M _ hz, dAct_of_zero M _ hz, zero_mul, zero_mul]

/-- The value half's gradient on the same rows. -/
theorem dVal_read (h : Reads i b G V W D M x0 x1 x2 x3 x4 x5 x6 x7 x8 x9 x10) (r : Fin 1032) (l : Fin 256) :
    FfnOut.dVal (F := Ideal) i x0 x1 x2 x3 x4 x5 x6 x7 x8 x9 x10 (ix2 r l)
      = Ffn.dVal G W D M (1024 * (i 1).val + r.val) (b + l.val) := by
  have ea := pay14_read h.p r l
  have hval : FfnOut.dVal (F := Ideal) i x0 x1 x2 x3 x4 x5 x6 x7 x8 x9 x10 (ix2 r l)
      = k0_pay14 (F := Ideal) (k0_pay2 i) x10 x8 x9 (ix2 r l)
        * (k0_pay13 (F := Ideal) x6 (k0_pay8 i x1 x0 x2) (k0_pay11 i x6 x1 x0 x2) (k0_pay12 i x6 x1 x0 x2) (ix2 r l)
          * Ideal.logistic (k0_pay13 (F := Ideal) x6 (k0_pay8 i x1 x0 x2) (k0_pay11 i x6 x1 x0 x2) (k0_pay12 i x6 x1 x0 x2) (ix2 r l))) := by
    unfold FfnOut.dVal k0_pay17 k0_pay15
    generalize k0_pay14 (F := Ideal) (k0_pay2 i) x10 x8 x9 = da
    generalize k0_pay13 (F := Ideal) x6 (k0_pay8 i x1 x0 x2) (k0_pay11 i x6 x1 x0 x2) (k0_pay12 i x6 x1 x0 x2) = cg
    pointwise
  rw [hval, ea]
  by_cases hr : 1024 * (i 1).val + r.val < 4096
  · rw [gateConv_read h.g h.wg r l hr]
    rfl
  · have hz : ∀ k, D (1024 * (i 1).val + r.val) k = 0 := fun k => h.p.out _ k (by omega)
    rw [dVal_of_zero G W M _ hz, dAct_of_zero M _ hz, zero_mul]

/-- The tile of the gate input's gradient that the point stores. -/
theorem gateOut_read (h : Reads i b G V W D M x0 x1 x2 x3 x4 x5 x6 x7 x8 x9 x10) (r : Fin 1024) (l : Fin 256) :
    k0_pay19 (F := Ideal) x6 (FfnOut.dGate i x0 x1 x2 x3 x4 x5 x6 x7 x8 x9 x10) (FfnOut.dTaps i x0 x1 x2 x3 x4 x5 x6 x7 x8 x9 x10) (ix2 r l)
      = convT (Ffn.dGate G V W D M) W (b + l.val) (1024 * (i 1).val + r.val) (b + l.val) := by
  have e0 := dGate_read h (⟨r.val, by omega⟩ : Fin 1032) l
  have e1 := dGate_read h (⟨r.val + 1, by omega⟩ : Fin 1032) l
  have e2 := dGate_read h (⟨r.val + 2, by omega⟩ : Fin 1032) l
  have hval : ∀ y : FVec Ideal S1032x256 .f32, FfnOut.dGate (F := Ideal) i x0 x1 x2 x3 x4 x5 x6 x7 x8 x9 x10 = y →
      k0_pay19 (F := Ideal) x6 (FfnOut.dGate i x0 x1 x2 x3 x4 x5 x6 x7 x8 x9 x10) (FfnOut.dTaps i x0 x1 x2 x3 x4 x5 x6 x7 x8 x9 x10) (ix2 r l)
      = (x6 (ix2 2 l) * y (ix2 ⟨r.val, by omega⟩ l) + x6 (ix2 1 l) * y (ix2 ⟨r.val + 1, by omega⟩ l))
        + x6 (ix2 0 l) * y (ix2 ⟨r.val + 2, by omega⟩ l) := by
    intro y hy
    unfold FfnOut.dTaps k0_pay18
    unfold FfnOut.dGate at hy ⊢
    rw [hy]
    unfold k0_pay19
    pointwise
    congr 2
    · exact congrArg (fun q => x6 (ix2 1 l) * y (ix2 q l)) (Fin.ext (by show (r.val + 1032 - 1031) % 1032 = r.val + 1; omega))
    · exact congrArg (fun q => y (ix2 q l)) (Fin.ext (by show (r.val + 1032 - 1030) % 1032 = r.val + 2; omega))
  rw [hval _ rfl, e0, e1, e2, h.wg 2 l, h.wg 1 l, h.wg 0 l]
  rfl

/-- The tile of the value input's gradient that the point stores. -/
theorem valOut_read (h : Reads i b G V W D M x0 x1 x2 x3 x4 x5 x6 x7 x8 x9 x10) (r : Fin 1024) (l : Fin 256) :
    k0_pay20 (F := Ideal) x7 (FfnOut.dVal i x0 x1 x2 x3 x4 x5 x6 x7 x8 x9 x10) (ix2 r l)
      = convT (Ffn.dVal G W D M) W (2816 + (b + l.val)) (1024 * (i 1).val + r.val) (b + l.val) := by
  have e0 := dVal_read h (⟨r.val, by omega⟩ : Fin 1032) l
  have e1 := dVal_read h (⟨r.val + 1, by omega⟩ : Fin 1032) l
  have e2 := dVal_read h (⟨r.val + 2, by omega⟩ : Fin 1032) l
  have hval : ∀ y : FVec Ideal S1032x256 .f32,
      k0_pay20 (F := Ideal) x7 y (ix2 r l)
      = (x7 (ix2 2 l) * y (ix2 ⟨r.val, by omega⟩ l) + x7 (ix2 1 l) * y (ix2 ⟨r.val + 1, by omega⟩ l))
        + x7 (ix2 0 l) * y (ix2 ⟨r.val + 2, by omega⟩ l) := by
    intro y
    unfold k0_pay20
    pointwise
    congr 2
    · exact congrArg (fun q => x7 (ix2 1 l) * y (ix2 q l)) (Fin.ext (by show (r.val + 1032 - 1031) % 1032 = r.val + 1; omega))
    · exact congrArg (fun q => y (ix2 q l)) (Fin.ext (by show (r.val + 1032 - 1030) % 1032 = r.val + 2; omega))
  rw [hval, e0, e1, e2, h.wv 2 l, h.wv 1 l, h.wv 0 l]
  rw [show 2816 + b + l.val = 2816 + (b + l.val) by omega]
  rfl

/-- One tile's sum of gradient times input, for a tap whose rotated input reads `k` rows back. -/
theorem tapSum_read (x y : Nat → Nat → EReal) (k : Nat) (w : FVec Ideal S1040x256 .f32) (v : FVec Ideal S1032x256 .f32) (l : Fin 256)
    (hw : ∀ (p : Fin 1040), 8 ≤ p.val → 1024 * (i 1).val + p.val < 4104 → w (ix2 p l) = bk (k + 8) x (1024 * (i 1).val + p.val) (b + l.val))
    (hv : ∀ r : Fin 1032, v (ix2 r l) = y (1024 * (i 1).val + r.val) (b + l.val)) :
    lastRow (F := Ideal) w (k0_pay21 v) (ix2 (0 : Fin 1) l)
      = ∑ r : Fin 1024, y (1024 * (i 1).val + r.val) (b + l.val) * bk k x (1024 * (i 1).val + r.val) (b + l.val) := by
  have hi : (i 1).val < 4 := (i 1).isLt
  unfold lastRow k0_pay21
  pointwise
  refine Finset.sum_congr rfl fun r _ => ?_
  rw [hv, hw _ (by show 8 ≤ 8 + r.val; omega) (by show 1024 * (i 1).val + (8 + r.val) < 4104; omega), ← bk_add k 8]
  show _ * bk (k + 8) x (1024 * (i 1).val + (8 + r.val)) _ = _
  rw [show 1024 * (i 1).val + (8 + r.val) = 1024 * (i 1).val + r.val + 8 by omega]

/-- One tile's share of the gate half's filter gradient. -/
theorem gateTap_read (h : Reads i b G V W D M x0 x1 x2 x3 x4 x5 x6 x7 x8 x9 x10) (a : Fin 3) (l : Fin 256) :
    gateTap (F := Ideal) i x0 x1 x2 x3 x4 x5 x6 x7 x8 x9 x10 a (ix2 (0 : Fin 1) l)
      = ∑ r : Fin 1024, Ffn.dGate G V W D M (1024 * (i 1).val + r.val) (b + l.val) * bk (2 - a.val) G (1024 * (i 1).val + r.val) (b + l.val) := by
  match a with
  | 0 => exact tapSum_read G _ 2 _ _ l (fun p h8 hp => pay8_read h.g p l h8 hp) (fun r => dGate_read h r l)
  | 1 => exact tapSum_read G _ 1 _ _ l (fun p h8 hp => pay7_read h.g p l h8 hp) (fun r => dGate_read h r l)
  | 2 => exact tapSum_read G _ 0 _ _ l (fun p _ hp => pay5_read h.g p l hp) (fun r => dGate_read h r l)

/-- One tile's share of the value half's filter gradient. -/
theorem valTap_read (h : Reads i b G V W D M x0 x1 x2 x3 x4 x5 x6 x7 x8 x9 x10) (a : Fin 3) (l : Fin 256) :
    valTap (F := Ideal) i x0 x1 x2 x3 x4 x5 x6 x7 x8 x9 x10 a (ix2 (0 : Fin 1) l)
      = ∑ r : Fin 1024, Ffn.dVal G W D M (1024 * (i 1).val + r.val) (b + l.val) * bk (2 - a.val) V (1024 * (i 1).val + r.val) (b + l.val) := by
  match a with
  | 0 => exact tapSum_read V _ 2 _ _ l (fun p h8 hp => pay8_read h.v p l h8 hp) (fun r => dVal_read h r l)
  | 1 => exact tapSum_read V _ 1 _ _ l (fun p h8 hp => pay7_read h.v p l h8 hp) (fun r => dVal_read h r l)
  | 2 => exact tapSum_read V _ 0 _ _ l (fun p _ hp => pay5_read h.v p l hp) (fun r => dVal_read h r l)

end Cert.KernelIdeal.FfnOut

end
-- ==== Proof.FfnArr.lean ====
/-
  The four result arrays of the feed-forward backward kernel at the extended reals: what each grid point reads of the
  arguments, what it leaves in the outputs' buffers, and so what each result array ends holding.
-/
module

public import proofs.«01_k».proof.Proof.FfnBlock
public import proofs.«01_k».proof.Proof.Gen.KernelIdeal.Value

@[expose] public section

noncomputable section

namespace Cert.KernelIdeal.FfnOut

open Idealize.ShloMosaic Idealize.ShloMosaic.TcCoe Idealize.SL.Sem
open Cert.KernelIdeal Cert.KernelIdeal.Gen Cert.Ffn

variable (m : (ℓ : Loc nD τ sig) → Buf (Elt Ideal) ℓ) (ρ : Dev nD → PrngReg) (c : Dev nD)

/-- The five arguments as arrays of rows and columns. -/
abbrev argG : Nat → Nat → EReal := at2 (n := 4096) (m := 2816) (m ((c : Thread nD τ).loc main_arg0))
abbrev argV : Nat → Nat → EReal := at2 (n := 4096) (m := 2816) (m ((c : Thread nD τ).loc main_arg1))
abbrev argW : Nat → Nat → EReal := at2 (n := 3) (m := 5632) (m ((c : Thread nD τ).loc main_arg2))
abbrev argM : Nat → Nat → EReal := at2 (n := 2816) (m := 1024) (m ((c : Thread nD τ).loc main_arg3))
abbrev argD : Nat → Nat → EReal := at2 (n := 4096) (m := 1024) (m ((c : Thread nD τ).loc main_arg4))

theorem point_lt (t : Fin cfg0.N) : t.val < 44 := t.isLt.trans_eq N_0

/-- Point `t` of the grid works on tile `t mod 4` of the rows. -/
theorem coord1 : ∀ t : Fin grid0.N, ((grid0.coords t) 1).val = t.val % 4 := by decide +kernel

/-- The output gradient the kernel reads is the argument: the cast keeps its values. -/
theorem V_main_v0 : V m c main_v0 = (m ((c : Thread nD τ).loc main_arg4) : Vec Ideal S4096x1024 .f32) := by
  unfold V hostOps0
  after_results
  rfl

/-- So is the down projection. -/
theorem V_main_v1 : V m c main_v1 = (m ((c : Thread nD τ).loc main_arg3) : Vec Ideal S2816x1024 .f32) := by
  unfold V hostOps0
  after_results
  rfl

theorem index_0 : ∀ t : Fin grid0.N, win0_0.index t 0 = t.val % 4 ∧ win0_0.index t 1 = t.val / 4 := by decide +kernel

theorem index_1 : ∀ t : Fin grid0.N, win0_1.index t 0 = 128 * (t.val % 4) - 1 ∧ win0_1.index t 1 = t.val / 4 := by decide +kernel

theorem index_2 : ∀ t : Fin grid0.N, win0_2.index t 0 = min (128 * (t.val % 4) + 128) 511 ∧ win0_2.index t 1 = t.val / 4 := by decide +kernel

theorem index_3 : ∀ t : Fin grid0.N, win0_3.index t 0 = t.val % 4 ∧ win0_3.index t 1 = t.val / 4 := by decide +kernel

theorem index_4 : ∀ t : Fin grid0.N, win0_4.index t 0 = 128 * (t.val % 4) - 1 ∧ win0_4.index t 1 = t.val / 4 := by decide +kernel

theorem index_5 : ∀ t : Fin grid0.N, win0_5.index t 0 = min (128 * (t.val % 4) + 128) 511 ∧ win0_5.index t 1 = t.val / 4 := by decide +kernel

theorem index_6 : ∀ t : Fin grid0.N, win0_6.index t 0 = 0 ∧ win0_6.index t 1 = t.val / 4 := by decide +kernel

theorem index_7 : ∀ t : Fin grid0.N, win0_7.index t 0 = 0 ∧ win0_7.index t 1 = 11 + t.val / 4 := by decide +kernel

theorem index_8 : ∀ t : Fin grid0.N, win0_8.index t 0 = t.val % 4 ∧ win0_8.index t 1 = 0 := by decide +kernel

theorem index_9 : ∀ t : Fin grid0.N, win0_9.index t 0 = min (64 * (t.val % 4) + 64) 255 ∧ win0_9.index t 1 = 0 := by decide +kernel

theorem index_10 : ∀ t : Fin grid0.N, win0_10.index t 0 = t.val / 4 ∧ win0_10.index t 1 = 0 := by decide +kernel

theorem index_11 : ∀ t : Fin grid0.N, win0_11.index t 0 = t.val % 4 ∧ win0_11.index t 1 = t.val / 4 := by decide +kernel

theorem index_12 : ∀ t : Fin grid0.N, win0_12.index t 0 = t.val % 4 ∧ win0_12.index t 1 = t.val / 4 := by decide +kernel

theorem index_13 : ∀ t : Fin grid0.N, win0_13.index t 0 = 0 ∧ win0_13.index t 1 = t.val / 4 := by decide +kernel

theorem index_14 : ∀ t : Fin grid0.N, win0_14.index t 0 = 0 ∧ win0_14.index t 1 = t.val / 4 := by decide +kernel

/-- What point `t` reads through window 0. -/
theorem iblk_0 (t : Fin cfg0.N) (r : Fin 1024) (l : Fin 256) :
    iblk m c 0 t (ix2 r l) = argG m c (1024 * (t.val % 4) + r.val) (256 * (t.val / 4) + l.val) := by
  have ht := point_lt t
  obtain ⟨i0, i1⟩ := index_0 t
  unfold iblk
  rw [View.read_apply]
  show V m c main_arg0 _ = _
  rw [V_main_arg0]
  exact at2_at _ _ (by show win0_0.index t 0 * 1024 + 1 * r.val = _; rw [i0]; omega)
    (by show win0_0.index t 1 * 256 + 1 * l.val = _; rw [i1]; omega)

/-- What point `t` reads through window 1. -/
theorem iblk_1 (t : Fin cfg0.N) (h : 0 < t.val % 4) (r : Fin 8) (l : Fin 256) :
    iblk m c 1 t (ix2 r l) = argG m c (1024 * (t.val % 4) + r.val - 8) (256 * (t.val / 4) + l.val) := by
  have ht := point_lt t
  obtain ⟨i0, i1⟩ := index_1 t
  unfold iblk
  rw [View.read_apply]
  show V m c main_arg0 _ = _
  rw [V_main_arg0]
  exact at2_at _ _ (by show win0_1.index t 0 * 8 + 1 * r.val = _; rw [i0]; omega)
    (by show win0_1.index t 1 * 256 + 1 * l.val = _; rw [i1]; omega)

/-- What point `t` reads through window 2. -/
theorem iblk_2 (t : Fin cfg0.N) (h : t.val % 4 < 3) (r : Fin 8) (l : Fin 256) :
    iblk m c 2 t (ix2 r l) = argG m c (1024 * (t.val % 4) + 1024 + r.val) (256 * (t.val / 4) + l.val) := by
  have ht := point_lt t
  obtain ⟨i0, i1⟩ := index_2 t
  unfold iblk
  rw [View.read_apply]
  show V m c main_arg0 _ = _
  rw [V_main_arg0]
  exact at2_at _ _ (by show win0_2.index t 0 * 8 + 1 * r.val = _; rw [i0]; omega)
    (by show win0_2.index t 1 * 256 + 1 * l.val = _; rw [i1]; omega)

/-- What point `t` reads through window 3. -/
theorem iblk_3 (t : Fin cfg0.N) (r : Fin 1024) (l : Fin 256) :
    iblk m c 3 t (ix2 r l) = argV m c (1024 * (t.val % 4) + r.val) (256 * (t.val / 4) + l.val) := by
  have ht := point_lt t
  obtain ⟨i0, i1⟩ := index_3 t
  unfold iblk
  rw [View.read_apply]
  show V m c main_arg1 _ = _
  rw [V_main_arg1]
  exact at2_at _ _ (by show win0_3.index t 0 * 1024 + 1 * r.val = _; rw [i0]; omega)
    (by show win0_3.index t 1 * 256 + 1 * l.val = _; rw [i1]; omega)

/-- What point `t` reads through window 4. -/
theorem iblk_4 (t : Fin cfg0.N) (h : 0 < t.val % 4) (r : Fin 8) (l : Fin 256) :
    iblk m c 4 t (ix2 r l) = argV m c (1024 * (t.val % 4) + r.val - 8) (256 * (t.val / 4) + l.val) := by
  have ht := point_lt t
  obtain ⟨i0, i1⟩ := index_4 t
  unfold iblk
  rw [View.read_apply]
  show V m c main_arg1 _ = _
  rw [V_main_arg1]
  exact at2_at _ _ (by show win0_4.index t 0 * 8 + 1 * r.val = _; rw [i0]; omega)
    (by show win0_4.index t 1 * 256 + 1 * l.val = _; rw [i1]; omega)

/-- What point `t` reads through window 5. -/
theorem iblk_5 (t : Fin cfg0.N) (h : t.val % 4 < 3) (r : Fin 8) (l : Fin 256) :
    iblk m c 5 t (ix2 r l) = argV m c (1024 * (t.val % 4) + 1024 + r.val) (256 * (t.val / 4) + l.val) := by
  have ht := point_lt t
  obtain ⟨i0, i1⟩ := index_5 t
  unfold iblk
  rw [View.read_apply]
  show V m c main_arg1 _ = _
  rw [V_main_arg1]
  exact at2_at _ _ (by show win0_5.index t 0 * 8 + 1 * r.val = _; rw [i0]; omega)
    (by show win0_5.index t 1 * 256 + 1 * l.val = _; rw [i1]; omega)

/-- What point `t` reads through window 6. -/
theorem iblk_6 (t : Fin cfg0.N) (r : Fin 3) (l : Fin 256) :
    iblk m c 6 t (ix2 r l) = argW m c (r.val) (256 * (t.val / 4) + l.val) := by
  have ht := point_lt t
  obtain ⟨i0, i1⟩ := index_6 t
  unfold iblk
  rw [View.read_apply]
  show V m c main_arg2 _ = _
  rw [V_main_arg2]
  exact at2_at _ _ (by show win0_6.index t 0 * 3 + 1 * r.val = _; rw [i0]; omega)
    (by show win0_6.index t 1 * 256 + 1 * l.val = _; rw [i1]; omega)

/-- What point `t` reads through window 7. -/
theorem iblk_7 (t : Fin cfg0.N) (r : Fin 3) (l : Fin 256) :
    iblk m c 7 t (ix2 r l) = argW m c (r.val) (2816 + 256 * (t.val / 4) + l.val) := by
  have ht := point_lt t
  obtain ⟨i0, i1⟩ := index_7 t
  unfold iblk
  rw [View.read_apply]
  show V m c main_arg2 _ = _
  rw [V_main_arg2]
  exact at2_at _ _ (by show win0_7.index t 0 * 3 + 1 * r.val = _; rw [i0]; omega)
    (by show win0_7.index t 1 * 256 + 1 * l.val = _; rw [i1]; omega)

/-- What point `t` reads through window 8. -/
theorem iblk_8 (t : Fin cfg0.N) (r : Fin 1024) (l : Fin 1024) :
    iblk m c 8 t (ix2 r l) = argD m c (1024 * (t.val % 4) + r.val) (l.val) := by
  have ht := point_lt t
  obtain ⟨i0, i1⟩ := index_8 t
  unfold iblk
  rw [View.read_apply]
  show V m c main_v0 _ = _
  rw [V_main_v0]
  exact at2_at _ _ (by show win0_8.index t 0 * 1024 + 1 * r.val = _; rw [i0]; omega)
    (by show win0_8.index t 1 * 1024 + 1 * l.val = _; rw [i1]; omega)

/-- What point `t` reads through window 9. -/
theorem iblk_9 (t : Fin cfg0.N) (h : t.val % 4 < 3) (r : Fin 16) (l : Fin 1024) :
    iblk m c 9 t (ix2 r l) = argD m c (1024 * (t.val % 4) + 1024 + r.val) (l.val) := by
  have ht := point_lt t
  obtain ⟨i0, i1⟩ := index_9 t
  unfold iblk
  rw [View.read_apply]
  show V m c main_v0 _ = _
  rw [V_main_v0]
  exact at2_at _ _ (by show win0_9.index t 0 * 16 + 1 * r.val = _; rw [i0]; omega)
    (by show win0_9.index t 1 * 1024 + 1 * l.val = _; rw [i1]; omega)

/-- What point `t` reads through window 10. -/
theorem iblk_10 (t : Fin cfg0.N) (r : Fin 256) (l : Fin 1024) :
    iblk m c 10 t (ix2 r l) = argM m c (256 * (t.val / 4) + r.val) (l.val) := by
  have ht := point_lt t
  obtain ⟨i0, i1⟩ := index_10 t
  unfold iblk
  rw [View.read_apply]
  show V m c main_v1 _ = _
  rw [V_main_v1]
  exact at2_at _ _ (by show win0_10.index t 0 * 256 + 1 * r.val = _; rw [i0]; omega)
    (by show win0_10.index t 1 * 1024 + 1 * l.val = _; rw [i1]; omega)

/-- The eleven blocks that point `t` reads. -/
theorem reads (t : Fin cfg0.N) : Reads (grid0.coords t) (256 * (t.val / 4)) (argG m c) (argV m c) (argW m c) (argD m c) (argM m c)
    (iblk m c 0 t) (iblk m c 1 t) (iblk m c 2 t) (iblk m c 3 t) (iblk m c 4 t) (iblk m c 5 t) (iblk m c 6 t) (iblk m c 7 t)
    (iblk m c 8 t) (iblk m c 9 t) (iblk m c 10 t) := by
  refine ⟨⟨?_, ?_, ?_⟩, ⟨?_, ?_, ?_⟩, ?_, ?_, ⟨?_, ?_, ?_, ?_⟩⟩
  · rw [coord1]; exact iblk_0 m c t
  · rw [coord1]; exact fun h => iblk_1 m c t h
  · rw [coord1]; exact fun h => iblk_2 m c t h
  · rw [coord1]; exact iblk_3 m c t
  · rw [coord1]; exact fun h => iblk_4 m c t h
  · rw [coord1]; exact fun h => iblk_5 m c t h
  · exact iblk_6 m c t
  · exact iblk_7 m c t
  · rw [coord1]; exact iblk_8 m c t
  · rw [coord1]; exact fun h => iblk_9 m c t h
  · exact iblk_10 m c t
  · exact fun e k he => at2_of_row_le _ he

/-! What a point leaves in each output's buffer, in terms of the blocks it reads. -/

theorem outs_A_11 (t : Fin cfg0.N) (h0 : t.val % 4 = 0) (r : Fin 1024) (l : Fin 256) : (outsAt0 m c t.val t.isLt).1 (ix2 r l)
    = k0_pay19 (F := Ideal) (iblk m c 6 t) (FfnOut.dGate (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (FfnOut.dTaps (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (ix2 r l) := by
  refine (congrArg (fun p => p.1 (ix2 r l)) (outsAt0_A m c t h0)).trans ?_
  dsimp only
  refine congrFun ?_ (ix2 r l)
  refine (out_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)).trans ?_
  with_reducible rfl

theorem outs_B_11 (t : Fin cfg0.N) (h0 : ¬t.val % 4 = 0) (r : Fin 1024) (l : Fin 256) : (outsAt0 m c t.val t.isLt).1 (ix2 r l)
    = k0_pay19 (F := Ideal) (iblk m c 6 t) (FfnOut.dGate (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (FfnOut.dTaps (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (ix2 r l) := by
  refine (congrArg (fun p => p.1 (ix2 r l)) (outsAt0_B m c t h0)).trans ?_
  dsimp only
  refine congrFun ?_ (ix2 r l)
  refine (out_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_
  with_reducible rfl

theorem outs_A_12 (t : Fin cfg0.N) (h0 : t.val % 4 = 0) (r : Fin 1024) (l : Fin 256) : (outsAt0 m c t.val t.isLt).2.1 (ix2 r l)
    = k0_pay20 (F := Ideal) (iblk m c 7 t) (FfnOut.dVal (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (ix2 r l) := by
  refine (congrArg (fun p => p.2.1 (ix2 r l)) (outsAt0_A m c t h0)).trans ?_
  dsimp only
  refine congrFun ?_ (ix2 r l)
  refine (out_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)).trans ?_
  with_reducible rfl

theorem outs_B_12 (t : Fin cfg0.N) (h0 : ¬t.val % 4 = 0) (r : Fin 1024) (l : Fin 256) : (outsAt0 m c t.val t.isLt).2.1 (ix2 r l)
    = k0_pay20 (F := Ideal) (iblk m c 7 t) (FfnOut.dVal (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (ix2 r l) := by
  refine (congrArg (fun p => p.2.1 (ix2 r l)) (outsAt0_B m c t h0)).trans ?_
  dsimp only
  refine congrFun ?_ (ix2 r l)
  refine (out_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_
  with_reducible rfl

theorem outs_A_13 (t : Fin cfg0.N) (h0 : t.val % 4 = 0) (a : Fin 3) (l : Fin 256) : (outsAt0 m c t.val t.isLt).2.2.1 (ix2 a l)
    = FloatOps.addf (F := Ideal) (φ := .f32) (Scalar.ofBits .f32 0x00000000#32) (gateTap (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) a (ix2 (0 : Fin 1) l)) :=
  (congrArg (fun p => p.2.2.1 (ix2 a l)) (outsAt0_A m c t h0)).trans
    (out_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) a l)

theorem outs_B_13 (t : Fin cfg0.N) (h0 : ¬t.val % 4 = 0) (a : Fin 3) (l : Fin 256) : (outsAt0 m c t.val t.isLt).2.2.1 (ix2 a l)
    = FloatOps.addf (F := Ideal) (φ := .f32) ((outsAt0 m c (t.val - 1) (Nat.lt_of_le_of_lt (Nat.sub_le _ _) t.isLt)).2.2.1 (ix2 a l)) (gateTap (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) a (ix2 (0 : Fin 1) l)) :=
  (congrArg (fun p => p.2.2.1 (ix2 a l)) (outsAt0_B m c t h0)).trans
    (out_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.1 (outsAt0 m c (t.val - 1) (Nat.lt_of_le_of_lt (Nat.sub_le _ _) t.isLt)).2.2.2 a l)

theorem outs_A_14 (t : Fin cfg0.N) (h0 : t.val % 4 = 0) (a : Fin 3) (l : Fin 256) : (outsAt0 m c t.val t.isLt).2.2.2 (ix2 a l)
    = FloatOps.addf (F := Ideal) (φ := .f32) (Scalar.ofBits .f32 0x00000000#32) (valTap (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) a (ix2 (0 : Fin 1) l)) :=
  (congrArg (fun p => p.2.2.2 (ix2 a l)) (outsAt0_A m c t h0)).trans
    (out_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) a l)

theorem outs_B_14 (t : Fin cfg0.N) (h0 : ¬t.val % 4 = 0) (a : Fin 3) (l : Fin 256) : (outsAt0 m c t.val t.isLt).2.2.2 (ix2 a l)
    = FloatOps.addf (F := Ideal) (φ := .f32) ((outsAt0 m c (t.val - 1) (Nat.lt_of_le_of_lt (Nat.sub_le _ _) t.isLt)).2.2.2 (ix2 a l)) (valTap (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) a (ix2 (0 : Fin 1) l)) :=
  (congrArg (fun p => p.2.2.2 (ix2 a l)) (outsAt0_B m c t h0)).trans
    (out_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.1 (outsAt0 m c (t.val - 1) (Nat.lt_of_le_of_lt (Nat.sub_le _ _) t.isLt)).2.2.2 a l)

/-- The gate half's gradient of the arguments at a row and a column. -/
abbrev gradG : Nat → Nat → EReal := Ffn.dGate (argG m c) (argV m c) (argW m c) (argD m c) (argM m c)

/-- The value half's. -/
abbrev gradV : Nat → Nat → EReal := Ffn.dVal (argG m c) (argW m c) (argD m c) (argM m c)

/-- What point `t` leaves in the buffer of the gate input's gradient. -/
theorem after_11 (t : Fin cfg0.N) (r : Fin 1024) (l : Fin 256) : (outsAt0 m c t.val t.isLt).1 (ix2 r l)
    = convT (gradG m c) (argW m c) (256 * (t.val / 4) + l.val) (1024 * (t.val % 4) + r.val) (256 * (t.val / 4) + l.val) := by
  have key := gateOut_read (reads m c t) r l
  rw [coord1] at key
  by_cases h0 : t.val % 4 = 0
  · exact (outs_A_11 m c t h0 r l).trans key
  · exact (outs_B_11 m c t h0 r l).trans key

/-- What it leaves in the buffer of the value input's gradient. -/
theorem after_12 (t : Fin cfg0.N) (r : Fin 1024) (l : Fin 256) : (outsAt0 m c t.val t.isLt).2.1 (ix2 r l)
    = convT (gradV m c) (argW m c) (2816 + (256 * (t.val / 4) + l.val)) (1024 * (t.val % 4) + r.val) (256 * (t.val / 4) + l.val) := by
  have key := valOut_read (reads m c t) r l
  rw [coord1] at key
  by_cases h0 : t.val % 4 = 0
  · exact (outs_A_12 m c t h0 r l).trans key
  · exact (outs_B_12 m c t h0 r l).trans key

theorem zero_add_bits (x : EReal) : FloatOps.addf (F := Ideal) (φ := .f32) (Scalar.ofBits .f32 0x00000000#32) x = x := by
  pointwise

/-- One more tile added to the sum over the tiles before it. -/
theorem convW_tile (y x : Nat → Nat → EReal) (a q i : Nat) : convW y x a (1024 * (i + 1)) q
    = convW y x a (1024 * i) q + ∑ r : Fin 1024, y (1024 * i + r.val) q * bk (2 - a) x (1024 * i + r.val) q := by
  unfold convW
  rw [show 1024 * (i + 1) = 1024 * i + 1024 by omega, Finset.sum_range_add]
  exact congrArg (_ + ·) (Fin.sum_univ_eq_sum_range (fun e => y (1024 * i + e) q * bk (2 - a) x (1024 * i + e) q) 1024).symm

theorem convW_zero (y x : Nat → Nat → EReal) (a q : Nat) : convW y x a 0 q = 0 := rfl

/-- What the points up to `n` of a column block have summed into the gate half's filter gradient. -/
theorem after_13 : ∀ (n : ℕ) (h : n < cfg0.N) (a : Fin 3) (l : Fin 256), (outsAt0 m c n h).2.2.1 (ix2 a l)
    = convW (gradG m c) (argG m c) a.val (1024 * (n % 4 + 1)) (256 * (n / 4) + l.val) := by
  intro n
  induction n with
  | zero =>
    intro h a l
    have key := gateTap_read (reads m c ⟨0, h⟩) a l
    rw [coord1] at key
    refine (outs_A_13 m c ⟨0, h⟩ rfl a l).trans ((zero_add_bits _).trans (key.trans ?_))
    rw [convW_tile]
    show _ = convW _ _ _ 0 _ + _
    rw [convW_zero, zero_add]
  | succ n ih =>
    intro h a l
    have key := gateTap_read (reads m c ⟨n + 1, h⟩) a l
    rw [coord1] at key
    by_cases h0 : (n + 1) % 4 = 0
    · refine (outs_A_13 m c ⟨n + 1, h⟩ h0 a l).trans ((zero_add_bits _).trans (key.trans ?_))
      rw [convW_tile, h0]
      show _ = convW _ _ _ 0 _ + _
      rw [convW_zero, zero_add]
    · refine (outs_B_13 m c ⟨n + 1, h⟩ h0 a l).trans ?_
      have ihn := ih (Nat.lt_of_succ_lt h) a l
      rw [show n % 4 + 1 = (n + 1) % 4 by omega, show n / 4 = (n + 1) / 4 by omega] at ihn
      rw [convW_tile, ← ihn]
      exact congrArg (FloatOps.addf (F := Ideal) (φ := .f32) _) key

/-- What the points up to `n` of a column block have summed into the value half's filter gradient. -/
theorem after_14 : ∀ (n : ℕ) (h : n < cfg0.N) (a : Fin 3) (l : Fin 256), (outsAt0 m c n h).2.2.2 (ix2 a l)
    = convW (gradV m c) (argV m c) a.val (1024 * (n % 4 + 1)) (256 * (n / 4) + l.val) := by
  intro n
  induction n with
  | zero =>
    intro h a l
    have key := valTap_read (reads m c ⟨0, h⟩) a l
    rw [coord1] at key
    refine (outs_A_14 m c ⟨0, h⟩ rfl a l).trans ((zero_add_bits _).trans (key.trans ?_))
    rw [convW_tile]
    show _ = convW _ _ _ 0 _ + _
    rw [convW_zero, zero_add]
  | succ n ih =>
    intro h a l
    have key := valTap_read (reads m c ⟨n + 1, h⟩) a l
    rw [coord1] at key
    by_cases h0 : (n + 1) % 4 = 0
    · refine (outs_A_14 m c ⟨n + 1, h⟩ h0 a l).trans ((zero_add_bits _).trans (key.trans ?_))
      rw [convW_tile, h0]
      show _ = convW _ _ _ 0 _ + _
      rw [convW_zero, zero_add]
    · refine (outs_B_14 m c ⟨n + 1, h⟩ h0 a l).trans ?_
      have ihn := ih (Nat.lt_of_succ_lt h) a l
      rw [show n % 4 + 1 = (n + 1) % 4 by omega, show n / 4 = (n + 1) / 4 by omega] at ihn
      rw [convW_tile, ← ihn]
      exact congrArg (FloatOps.addf (F := Ideal) (φ := .f32) _) key

/-- The whole array of the gate input's gradient. -/
def result_11 : Buf (Elt Ideal) ((c : Thread nD τ).loc main_v2_0) := fun (q : S4096x2816.Idx) => convT (gradG m c) (argW m c) (q 1).val (q 0).val (q 1).val

theorem flushed_11 (t : Fin cfg0.N) (hf : (cfg0.win 11).flush t = true) :
    (dats m 0 c).flushed 11 t = ((cfg0.win 11).blk t).view.read (Elt Ideal) (result_11 m c) := by
  obtain ⟨i0, i1⟩ := index_11 t
  rw [Cert.KernelIdeal.Value.flushed11]
  funext j
  rw [View.read_apply]
  have ej : j = (ix2 (j 0) (j 1) : S1024x256.Idx) := by funext a; match a with | ⟨0, _⟩ => rfl | ⟨1, _⟩ => rfl
  generalize (j 0 : Fin 1024) = r at ej
  generalize (j 1 : Fin 256) = l at ej
  subst ej
  show (outsAt0 m c t.val t.isLt).1 (ix2 r l) = convT (gradG m c) (argW m c) (win0_11.index t 1 * 256 + 1 * l.val) (win0_11.index t 0 * 1024 + 1 * r.val) (win0_11.index t 1 * 256 + 1 * l.val)
  rw [after_11 m c t r l, i0, i1]
  rw [show t.val % 4 * 1024 + 1 * r.val = 1024 * (t.val % 4) + r.val by omega, show t.val / 4 * 256 + 1 * l.val = 256 * (t.val / 4) + l.val by omega]

/-- The array of the gate input's gradient after the run. -/
theorem final_11 : (dats m 0 c).arrAt 11 cfg0.N = result_11 m c :=
  (dats m 0 c).arrAt_eq_of_cover 11 (result_11 m c) (flushed_11 m c) fun i => by
    have h0 : (i 0 : Nat) < 4096 := (i 0).isLt
    have h1 : (i 1 : Nat) < 2816 := (i 1).isLt
    have hN : cfg0.N = 44 := N_0
    obtain ⟨t, hv⟩ : ∃ t : Fin cfg0.N, t.val = 4 * ((i 1 : Nat) / 256) + (i 0 : Nat) / 1024 := ⟨⟨_, by omega⟩, rfl⟩
    have hx := index_11 t
    refine ⟨t, flush0_11 _, ?_⟩
    show i ∈ ((View.whole main_v2_0).slice (win0_11.rect t)).set
    rw [View.set_slice_whole, Rect.mem_set_unit]
    exact tile_at (by show _ * 1024 ≤ (i 0 : Nat) ∧ _ < _ * 1024 + 1024; rw [hx.1]; omega)
      (by show _ * 256 ≤ (i 1 : Nat) ∧ _ < _ * 256 + 256; rw [hx.2]; omega)

/-- The whole array of the value input's gradient. -/
def result_12 : Buf (Elt Ideal) ((c : Thread nD τ).loc main_v2_1) := fun (q : S4096x2816.Idx) => convT (gradV m c) (argW m c) (2816 + (q 1).val) (q 0).val (q 1).val

theorem flushed_12 (t : Fin cfg0.N) (hf : (cfg0.win 12).flush t = true) :
    (dats m 0 c).flushed 12 t = ((cfg0.win 12).blk t).view.read (Elt Ideal) (result_12 m c) := by
  obtain ⟨i0, i1⟩ := index_12 t
  rw [Cert.KernelIdeal.Value.flushed12]
  funext j
  rw [View.read_apply]
  have ej : j = (ix2 (j 0) (j 1) : S1024x256.Idx) := by funext a; match a with | ⟨0, _⟩ => rfl | ⟨1, _⟩ => rfl
  generalize (j 0 : Fin 1024) = r at ej
  generalize (j 1 : Fin 256) = l at ej
  subst ej
  show (outsAt0 m c t.val t.isLt).2.1 (ix2 r l) = convT (gradV m c) (argW m c) (2816 + (win0_12.index t 1 * 256 + 1 * l.val)) (win0_12.index t 0 * 1024 + 1 * r.val) (win0_12.index t 1 * 256 + 1 * l.val)
  rw [after_12 m c t r l, i0, i1]
  rw [show t.val % 4 * 1024 + 1 * r.val = 1024 * (t.val % 4) + r.val by omega, show t.val / 4 * 256 + 1 * l.val = 256 * (t.val / 4) + l.val by omega]

/-- The array of the value input's gradient after the run. -/
theorem final_12 : (dats m 0 c).arrAt 12 cfg0.N = result_12 m c :=
  (dats m 0 c).arrAt_eq_of_cover 12 (result_12 m c) (flushed_12 m c) fun i => by
    have h0 : (i 0 : Nat) < 4096 := (i 0).isLt
    have h1 : (i 1 : Nat) < 2816 := (i 1).isLt
    have hN : cfg0.N = 44 := N_0
    obtain ⟨t, hv⟩ : ∃ t : Fin cfg0.N, t.val = 4 * ((i 1 : Nat) / 256) + (i 0 : Nat) / 1024 := ⟨⟨_, by omega⟩, rfl⟩
    have hx := index_12 t
    refine ⟨t, flush0_12 _, ?_⟩
    show i ∈ ((View.whole main_v2_1).slice (win0_12.rect t)).set
    rw [View.set_slice_whole, Rect.mem_set_unit]
    exact tile_at (by show _ * 1024 ≤ (i 0 : Nat) ∧ _ < _ * 1024 + 1024; rw [hx.1]; omega)
      (by show _ * 256 ≤ (i 1 : Nat) ∧ _ < _ * 256 + 256; rw [hx.2]; omega)

/-- The whole array of the gate half's filter gradient. -/
def result_13 : Buf (Elt Ideal) ((c : Thread nD τ).loc main_v2_2) := fun (q : S3x2816.Idx) => convW (gradG m c) (argG m c) (q 0).val 4096 (q 1).val

theorem flushed_13 (t : Fin cfg0.N) (hf : (cfg0.win 13).flush t = true) :
    (dats m 0 c).flushed 13 t = ((cfg0.win 13).blk t).view.read (Elt Ideal) (result_13 m c) := by
  obtain ⟨i0, i1⟩ := index_13 t
  have h3 : t.val % 4 = 3 := (flush0_13 t).mp hf
  rw [Cert.KernelIdeal.Value.flushed13]
  funext j
  rw [View.read_apply]
  have ej : j = (ix2 (j 0) (j 1) : S3x256.Idx) := by funext a; match a with | ⟨0, _⟩ => rfl | ⟨1, _⟩ => rfl
  generalize (j 0 : Fin 3) = r at ej
  generalize (j 1 : Fin 256) = l at ej
  subst ej
  show (outsAt0 m c t.val t.isLt).2.2.1 (ix2 r l) = convW (gradG m c) (argG m c) (win0_13.index t 0 * 3 + 1 * r.val) 4096 (win0_13.index t 1 * 256 + 1 * l.val)
  rw [after_13 m c t.val t.isLt r l, i0, i1]
  rw [h3, show 0 * 3 + 1 * r.val = r.val by omega, show t.val / 4 * 256 + 1 * l.val = 256 * (t.val / 4) + l.val by omega]

/-- The array of the gate half's filter gradient after the run. -/
theorem final_13 : (dats m 0 c).arrAt 13 cfg0.N = result_13 m c :=
  (dats m 0 c).arrAt_eq_of_cover 13 (result_13 m c) (flushed_13 m c) fun i => by
    have h0 : (i 0 : Nat) < 3 := (i 0).isLt
    have h1 : (i 1 : Nat) < 2816 := (i 1).isLt
    have hN : cfg0.N = 44 := N_0
    obtain ⟨t, hv⟩ : ∃ t : Fin cfg0.N, t.val = 4 * ((i 1 : Nat) / 256) + 3 := ⟨⟨_, by omega⟩, rfl⟩
    have hx := index_13 t
    refine ⟨t, (flush0_13 _).mpr (by omega), ?_⟩
    show i ∈ ((View.whole main_v2_2).slice (win0_13.rect t)).set
    rw [View.set_slice_whole, Rect.mem_set_unit]
    exact tile_at (by show _ * 3 ≤ (i 0 : Nat) ∧ _ < _ * 3 + 3; rw [hx.1]; omega)
      (by show _ * 256 ≤ (i 1 : Nat) ∧ _ < _ * 256 + 256; rw [hx.2]; omega)

/-- The whole array of the value half's filter gradient. -/
def result_14 : Buf (Elt Ideal) ((c : Thread nD τ).loc main_v2_3) := fun (q : S3x2816.Idx) => convW (gradV m c) (argV m c) (q 0).val 4096 (q 1).val

theorem flushed_14 (t : Fin cfg0.N) (hf : (cfg0.win 14).flush t = true) :
    (dats m 0 c).flushed 14 t = ((cfg0.win 14).blk t).view.read (Elt Ideal) (result_14 m c) := by
  obtain ⟨i0, i1⟩ := index_14 t
  have h3 : t.val % 4 = 3 := (flush0_14 t).mp hf
  rw [Cert.KernelIdeal.Value.flushed14]
  funext j
  rw [View.read_apply]
  have ej : j = (ix2 (j 0) (j 1) : S3x256.Idx) := by funext a; match a with | ⟨0, _⟩ => rfl | ⟨1, _⟩ => rfl
  generalize (j 0 : Fin 3) = r at ej
  generalize (j 1 : Fin 256) = l at ej
  subst ej
  show (outsAt0 m c t.val t.isLt).2.2.2 (ix2 r l) = convW (gradV m c) (argV m c) (win0_14.index t 0 * 3 + 1 * r.val) 4096 (win0_14.index t 1 * 256 + 1 * l.val)
  rw [after_14 m c t.val t.isLt r l, i0, i1]
  rw [h3, show 0 * 3 + 1 * r.val = r.val by omega, show t.val / 4 * 256 + 1 * l.val = 256 * (t.val / 4) + l.val by omega]

/-- The array of the value half's filter gradient after the run. -/
theorem final_14 : (dats m 0 c).arrAt 14 cfg0.N = result_14 m c :=
  (dats m 0 c).arrAt_eq_of_cover 14 (result_14 m c) (flushed_14 m c) fun i => by
    have h0 : (i 0 : Nat) < 3 := (i 0).isLt
    have h1 : (i 1 : Nat) < 2816 := (i 1).isLt
    have hN : cfg0.N = 44 := N_0
    obtain ⟨t, hv⟩ : ∃ t : Fin cfg0.N, t.val = 4 * ((i 1 : Nat) / 256) + 3 := ⟨⟨_, by omega⟩, rfl⟩
    have hx := index_14 t
    refine ⟨t, (flush0_14 _).mpr (by omega), ?_⟩
    show i ∈ ((View.whole main_v2_3).slice (win0_14.rect t)).set
    rw [View.set_slice_whole, Rect.mem_set_unit]
    exact tile_at (by show _ * 3 ≤ (i 0 : Nat) ∧ _ < _ * 3 + 3; rw [hx.1]; omega)
      (by show _ * 256 ≤ (i 1 : Nat) ∧ _ < _ * 256 + 256; rw [hx.2]; omega)

/-- The kernel's run: the four results are the plain mathematics of the arguments and the arguments are unchanged. -/
theorem run : θ_run defs (onTc (τ := τ) (main (F := Ideal))) ⟨m, fun _ => 0, ρ⟩ fun r => ∀ c : Dev nD,
      r.2.mem ((c : Thread nD τ).loc main_v2_0) = result_11 m c
      ∧ r.2.mem ((c : Thread nD τ).loc main_v2_1) = result_12 m c
      ∧ r.2.mem ((c : Thread nD τ).loc main_v2_2) = result_13 m c
      ∧ r.2.mem ((c : Thread nD τ).loc main_v2_3) = result_14 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨(h c).1.trans (final_11 m c), (h c).2.1.trans (final_12 m c), (h c).2.2.1.trans (final_13 m c),
      (h c).2.2.2.1.trans (final_14 m c), (h c).2.2.2.2⟩)
    (Cert.KernelIdeal.Value.run_blocks m ρ)

end Cert.KernelIdeal.FfnOut

end
-- ==== Proof.FfnRef.lean ====
/-
  The reference's four results at the extended reals, read at an index: the program that differentiates the plain
  formula computes the same convolutions, products and sums.
-/
module

public import proofs.«01_k».proof.Proof.FfnSpec
public import proofs.«01_k».proof.Proof.Gen.ReferenceIdeal.Read
public import Idealize.ShloMosaic.Lib.Pointwise

@[expose] public section

noncomputable section

namespace Cert.ReferenceIdeal.FfnRef

open Idealize.ShloMosaic Idealize.SL.Sem
open Cert.ReferenceIdeal Cert.ReferenceIdeal.Gen Cert.ReferenceIdeal.Read Cert.Ffn

/-- Two matrices of 2816 columns side by side. -/
def beside (x y : Nat → Nat → EReal) (e q : Nat) : EReal := if q < 2816 then x e q else y e (q - 2816)

theorem beside_left (x y : Nat → Nat → EReal) (e : Nat) {q : Nat} (h : q < 2816) : beside x y e q = x e q := if_pos h

theorem beside_right (x y : Nat → Nat → EReal) (e q : Nat) : beside x y e (2816 + q) = y e q := by
  unfold beside; rw [if_neg (by omega), show 2816 + q - 2816 = q by omega]

theorem bk_left (k : Nat) (x y : Nat → Nat → EReal) (e : Nat) {q : Nat} (h : q < 2816) : bk k (beside x y) e q = bk k x e q := by
  unfold bk; rw [beside_left x y _ h]

theorem bk_right (k : Nat) (x y : Nat → Nat → EReal) (e q : Nat) : bk k (beside x y) e (2816 + q) = bk k y e q := by
  unfold bk; rw [beside_right]

theorem conv_left (x y w : Nat → Nat → EReal) (f e : Nat) {q : Nat} (h : q < 2816) : conv (beside x y) w f e q = conv x w f e q := by
  unfold conv; rw [beside_left x y _ h, bk_left _ x y _ h, bk_left _ x y _ h]

theorem conv_right (x y w : Nat → Nat → EReal) (f e q : Nat) : conv (beside x y) w f e (2816 + q) = conv y w f e q := by
  unfold conv; rw [beside_right, bk_right, bk_right]

theorem convT_left (x y w : Nat → Nat → EReal) (f e : Nat) {q : Nat} (h : q < 2816) : convT (beside x y) w f e q = convT x w f e q := by
  unfold convT; rw [beside_left x y _ h, beside_left x y _ h, beside_left x y _ h]

theorem convT_right (x y w : Nat → Nat → EReal) (f e q : Nat) : convT (beside x y) w f e (2816 + q) = convT y w f e q := by
  unfold convT; rw [beside_right, beside_right, beside_right]

theorem convW_left (x y x' y' : Nat → Nat → EReal) (a n : Nat) {q : Nat} (h : q < 2816) :
    convW (beside x y) (beside x' y') a n q = convW x x' a n q :=
  Finset.sum_congr rfl fun _ _ => by rw [beside_left x y _ h, bk_left _ x' y' _ h]

theorem convW_right (x y x' y' : Nat → Nat → EReal) (a n q : Nat) :
    convW (beside x y) (beside x' y') a n (2816 + q) = convW y y' a n q :=
  Finset.sum_congr rfl fun _ _ => by rw [beside_right, bk_right]

variable (x0 x1 : (⟨S4096x2816, .f32⟩ : BufTy).Contents (Elt Ideal)) (x2 : (⟨S3x5632, .f32⟩ : BufTy).Contents (Elt Ideal))
  (x3 : (⟨S2816x1024, .f32⟩ : BufTy).Contents (Elt Ideal)) (x4 : (⟨S4096x1024, .f32⟩ : BufTy).Contents (Elt Ideal))

/-- The five arguments as matrices. -/
abbrev aG : Nat → Nat → EReal := at2 (n := 4096) (m := 2816) x0
abbrev aW : Nat → Nat → EReal := at2 (n := 3) (m := 5632) x2
abbrev aM : Nat → Nat → EReal := at2 (n := 2816) (m := 1024) x3
abbrev aD : Nat → Nat → EReal := at2 (n := 4096) (m := 1024) x4

/-- The convolution's padded input: the two halves side by side, two zero rows before them. -/
theorem input_read (p : Fin 4098) (q : Fin 5632) :
    val_main_v2 (F := Ideal) x0 x1 (ix2 p q) = bk 2 (beside (aG x0) (aG x1)) p.val q.val := by
  unfold val_main_v2 val_main_v1 val_main_v0 val_main_cst
  pointwise
  by_cases hp : p.val < 2
  · rw [dif_pos hp]
    exact (if_neg (by omega)).symm
  · rw [dif_neg hp]
    refine Eq.trans ?_ (if_pos (by omega)).symm
    unfold beside
    by_cases hq : q.val < 2816
    · rw [dif_pos hq, if_pos hq]
      exact (at2_of_lt _ (by omega) hq).symm
    · rw [dif_neg hq, if_neg hq]
      exact (at2_of_lt _ (by omega) (by omega)).symm

/-- The convolution's output. -/
theorem conv_read (p : Fin 4096) (q : Fin 5632) : val_main_v17 (F := Ideal) x0 x1 x2 (ix2 p q)
    = conv (beside (aG x0) (aG x1)) (aW x2) q.val p.val q.val := by
  have r0 := input_read x0 x1 (⟨p.val, by omega⟩ : Fin 4098) q
  have r1 := input_read x0 x1 (⟨1 + p.val, by omega⟩ : Fin 4098) q
  have r2 := input_read x0 x1 (⟨2 + p.val, by omega⟩ : Fin 4098) q
  unfold val_main_v17 val_main_v16 val_main_v15 val_main_v14 val_main_v13 val_main_v12 val_main_v11 val_main_v10 val_main_v9
    val_main_v8 val_main_v7 val_main_v6 val_main_v5 val_main_v4
  generalize val_main_v2 (F := Ideal) x0 x1 = y at r0 r1 r2 ⊢
  pointwise
  rw [r0, r1, r2]
  have h1 := bk_add 1 1 (beside (aG x0) (aG x1)) p.val q.val
  have h2 := bk_add 0 2 (beside (aG x0) (aG x1)) p.val q.val
  rw [bk_zero] at h2
  unfold conv
  rw [← h1, ← h2, show x2 (ix2 0 q) = aW x2 0 q.val from (at2_ix2 x2 0 q).symm, show x2 (ix2 1 q) = aW x2 1 q.val from (at2_ix2 x2 1 q).symm,
    show x2 (ix2 2 q) = aW x2 2 q.val from (at2_ix2 x2 2 q).symm]
  show _ + aW x2 1 q.val * bk 2 _ (1 + p.val) _ + aW x2 2 q.val * bk 2 _ (2 + p.val) _ = _
  rw [add_comm 1 p.val, add_comm 2 p.val]
  generalize aW x2 0 q.val * _ = u0
  generalize aW x2 1 q.val * _ = u1
  generalize aW x2 2 q.val * _ = u2
  rw [add_comm (u0 + u1) u2, add_comm u0 u1, add_assoc]

theorem dAct_read (p : Fin 4096) (q : Fin 2816) :
    (∑ k : Fin 1024, x4 (ix2 p k) * x3 (ix2 q k)) = dAct (aD x4) (aM x3) p.val q.val := by
  unfold dAct
  rw [Finset.sum_range]
  exact Finset.sum_congr rfl fun k _ => by rw [show aD x4 p.val k.val = x4 (ix2 p k) from at2_ix2 x4 p k, show aM x3 q.val k.val = x3 (ix2 q k) from at2_ix2 x3 q k]

/-- The gate half of the convolution's output. -/
theorem gate_read (p : Fin 4096) (q : Fin 2816) (h : q.val < 5632) : val_main_v17 (F := Ideal) x0 x1 x2 (ix2 p ⟨q.val, h⟩)
    = conv (aG x0) (aW x2) q.val p.val q.val := by
  rw [conv_read]; exact conv_left _ _ _ _ _ q.isLt

/-- The value half. -/
theorem val_read (p : Fin 4096) (q : Fin 2816) (h : 2816 + q.val < 5632) : val_main_v17 (F := Ideal) x0 x1 x2 (ix2 p ⟨2816 + q.val, h⟩)
    = conv (aG x1) (aW x2) (2816 + q.val) p.val q.val := by
  rw [conv_read]; exact conv_right _ _ _ _ _ _

variable {x0 x1 x2 x3 x4}

/-- The gate half's gradient, on finite arguments. -/
theorem dGate_read (h0 : ∀ i, IsReal (x0 i)) (h1 : ∀ i, IsReal (x1 i)) (h2 : ∀ i, IsReal (x2 i)) (h3 : ∀ i, IsReal (x3 i))
    (h4 : ∀ i, IsReal (x4 i)) (p : Fin 4096) (q : Fin 2816) : val_main_v26 (F := Ideal) x0 x1 x2 x3 x4 (ix2 p q)
    = dGate (aG x0) (aG x1) (aW x2) (aD x4) (aM x3) p.val q.val := by
  have rg := gate_read x0 x1 x2 p q (by omega)
  have rv := val_read x0 x1 x2 p q (by omega)
  unfold val_main_v26 val_main_call1_v2 val_main_call1_v1 val_main_call1_v0 val_main_v25 val_main_v23 val_main_v20_1
    val_main_call0_v7 val_main_call0_v6 val_main_v20_2 val_main_call0_v4 val_main_call0_v3 val_main_call0_v2 val_main_call0_v1
    val_main_call0_v0 val_main_v18 val_main_v19 val_main_call0_cst_1 val_main_call0_cst_0 val_main_call0_cst
  generalize val_main_v17 (F := Ideal) x0 x1 x2 = y at rg rv ⊢
  pointwise
  rw [rg, rv, dAct_read]
  exact (silu_deriv ((AllFin.at2 h4).dAct (AllFin.at2 h3) _ _) ((AllFin.at2 h1).conv (AllFin.at2 h2) _ _ _)
    ((AllFin.at2 h0).conv (AllFin.at2 h2) _ _ _)).symm

/-- The value half's gradient. -/
theorem dVal_read (p : Fin 4096) (q : Fin 2816) : val_main_v24 (F := Ideal) x0 x1 x2 x3 x4 (ix2 p q)
    = dVal (aG x0) (aW x2) (aD x4) (aM x3) p.val q.val := by
  have rg := gate_read x0 x1 x2 p q (by omega)
  unfold val_main_v24 val_main_v20_0 val_main_v23 val_main_v20_2 val_main_call0_v4 val_main_call0_v3 val_main_call0_v2
    val_main_call0_v1 val_main_call0_v0 val_main_v18 val_main_call0_cst_0 val_main_call0_cst
  generalize val_main_v17 (F := Ideal) x0 x1 x2 = y at rg ⊢
  pointwise
  rw [rg, dAct_read]
  exact mul_comm _ _

/-- The gradient of the convolution's output, the two halves side by side. -/
abbrev grad (x0 x1 : (⟨S4096x2816, .f32⟩ : BufTy).Contents (Elt Ideal)) (x2 : (⟨S3x5632, .f32⟩ : BufTy).Contents (Elt Ideal))
    (x3 : (⟨S2816x1024, .f32⟩ : BufTy).Contents (Elt Ideal)) (x4 : (⟨S4096x1024, .f32⟩ : BufTy).Contents (Elt Ideal)) : Nat → Nat → EReal :=
  beside (dGate (aG x0) (aG x1) (aW x2) (aD x4) (aM x3)) (dVal (aG x0) (aW x2) (aD x4) (aM x3))

theorem grad_read (h0 : ∀ i, IsReal (x0 i)) (h1 : ∀ i, IsReal (x1 i)) (h2 : ∀ i, IsReal (x2 i)) (h3 : ∀ i, IsReal (x3 i))
    (h4 : ∀ i, IsReal (x4 i)) (p : Fin 4096) (q : Fin 5632) : val_main_v27 (F := Ideal) x0 x1 x2 x3 x4 (ix2 p q)
    = grad x0 x1 x2 x3 x4 p.val q.val := by
  have rg := fun q => dGate_read h0 h1 h2 h3 h4 p q
  have rv := fun q => dVal_read (x0 := x0) (x1 := x1) (x2 := x2) (x3 := x3) (x4 := x4) p q
  unfold val_main_v27
  generalize val_main_v26 (F := Ideal) x0 x1 x2 x3 x4 = y at rg ⊢
  generalize val_main_v24 (F := Ideal) x0 x1 x2 x3 x4 = z at rv ⊢
  pointwise
  unfold grad beside
  by_cases hq : q.val < 2816
  · rw [dif_pos hq, if_pos hq, rg]
  · rw [dif_neg hq, if_neg hq, rv]

/-- Past the last row that gradient is zero. -/
theorem grad_zero (e q : Nat) (he : 4096 ≤ e) : grad x0 x1 x2 x3 x4 e q = 0 := by
  have hz : ∀ k, aD x4 e k = 0 := fun k => at2_of_row_le _ he
  unfold grad beside
  rw [dGate_of_zero _ _ _ _ _ hz, dVal_of_zero _ _ _ _ hz, ite_self]

/-- The gradient of the convolution's input. -/
theorem dInput_read (h0 : ∀ i, IsReal (x0 i)) (h1 : ∀ i, IsReal (x1 i)) (h2 : ∀ i, IsReal (x2 i)) (h3 : ∀ i, IsReal (x3 i))
    (h4 : ∀ i, IsReal (x4 i)) (p : Fin 4096) (q : Fin 5632) : val_main_v54 (F := Ideal) x0 x1 x2 x3 x4 (ix2 p q)
    = convT (grad x0 x1 x2 x3 x4) (aW x2) q.val p.val q.val := by
  have r := fun p q => grad_read h0 h1 h2 h3 h4 p q
  have rz := fun e q he => grad_zero (x0 := x0) (x1 := x1) (x2 := x2) (x3 := x3) (x4 := x4) e q he
  unfold val_main_v54 val_main_v50 val_main_v41 val_main_v49 val_main_v40 val_main_v33 val_main_v45 val_main_v36 val_main_v29
    val_main_v28 val_main_v35 val_main_v44 val_main_cst_5 val_main_cst_8 val_main_cst_2 val_main_v4 val_main_v8 val_main_v13
  generalize val_main_v27 (F := Ideal) x0 x1 x2 x3 x4 = y at r ⊢
  pointwise
  rw [show x2 (ix2 0 q) = aW x2 0 q.val from (at2_ix2 x2 0 q).symm, show x2 (ix2 1 q) = aW x2 1 q.val from (at2_ix2 x2 1 q).symm,
    show x2 (ix2 2 q) = aW x2 2 q.val from (at2_ix2 x2 2 q).symm, r]
  unfold convT
  congr 2
  · by_cases hp : p.val + 1 < 4096
    · rw [dif_pos (by omega), r]
      exact congrArg (fun e => aW x2 1 q.val * grad x0 x1 x2 x3 x4 e q.val) (by show 2 + p.val - 1 = p.val + 1; omega)
    · rw [dif_neg (by omega), rz _ _ (by omega), mul_zero]
  · by_cases hp : p.val + 2 < 4096
    · rw [dif_pos (by omega), r]
      exact congrArg (fun e => aW x2 0 q.val * grad x0 x1 x2 x3 x4 e q.val) (by show 2 + p.val = p.val + 2; omega)
    · rw [dif_neg (by omega), rz _ _ (by omega), mul_zero]

theorem tap_sum (y : (⟨S4096x5632, .f32⟩ : BufTy).Contents (Elt Ideal)) (Y X : Nat → Nat → EReal) (a q : Nat) (f : Fin 4096 → EReal)
    (hf : ∀ e : Fin 4096, f e = Y e.val q * bk (2 - a) X e.val q) : ∑ e, f e = convW Y X a 4096 q := by
  unfold convW
  rw [Finset.sum_range]
  exact Finset.sum_congr rfl fun e _ => hf e

/-- The filter's gradient. -/
theorem dFilter_read (h0 : ∀ i, IsReal (x0 i)) (h1 : ∀ i, IsReal (x1 i)) (h2 : ∀ i, IsReal (x2 i)) (h3 : ∀ i, IsReal (x3 i))
    (h4 : ∀ i, IsReal (x4 i)) (a : Fin 3) (q : Fin 5632) : val_main_v52 (F := Ideal) x0 x1 x2 x3 x4 (ix2 a q)
    = convW (grad x0 x1 x2 x3 x4) (beside (aG x0) (aG x1)) a.val 4096 q.val := by
  have r := fun p q => grad_read h0 h1 h2 h3 h4 p q
  have ri := fun p q => input_read x0 x1 p q
  unfold val_main_v52 val_main_v51 val_main_v43 val_main_v34 val_main_v42 val_main_v48 val_main_v39 val_main_v32 val_main_v47
    val_main_v38 val_main_v31 val_main_v30 val_main_v37 val_main_v46 val_main_v5 val_main_v9 val_main_v14 val_main_cst_1
    val_main_cst_3 val_main_cst_4 val_main_cst_6 val_main_cst_7 val_main_cst_9
  generalize val_main_v27 (F := Ideal) x0 x1 x2 x3 x4 = y at r ⊢
  generalize val_main_v2 (F := Ideal) x0 x1 = z at ri ⊢
  pointwise
  match a with
  | ⟨0, _⟩ =>
    rw [dif_neg (by simp), dif_neg (by simp), dif_pos (by simp), zero_add, zero_add]
    refine tap_sum y _ _ 0 _ _ fun e => ?_
    rw [r, ri]
  | ⟨1, _⟩ =>
    rw [dif_neg (by simp), dif_pos (by simp), dif_neg (by simp), zero_add, add_zero]
    refine tap_sum y _ _ 1 _ _ fun e => ?_
    rw [r, ri, ← bk_add 1 1]
    exact congrArg (fun n => _ * bk 2 _ n _) (by show 1 + e.val = e.val + 1; omega)
  | ⟨2, _⟩ =>
    rw [dif_pos (by simp), dif_neg (by simp), dif_neg (by simp), add_zero, add_zero]
    refine tap_sum y _ _ 2 _ _ fun e => ?_
    rw [r, ri, ← bk_add 0 2]
    exact congrArg (fun n => _ * bk 2 _ n _) (by show 2 + e.val = e.val + 2; omega)

variable (h0 : ∀ i, IsReal (x0 i)) (h1 : ∀ i, IsReal (x1 i)) (h2 : ∀ i, IsReal (x2 i)) (h3 : ∀ i, IsReal (x3 i)) (h4 : ∀ i, IsReal (x4 i))
include h0 h1 h2 h3 h4

/-- The gate input's gradient. -/
theorem out0_read (p : Fin 4096) (q : Fin 2816) : val_main_v59 (F := Ideal) x0 x1 x2 x3 x4 (ix2 p q)
    = convT (dGate (aG x0) (aG x1) (aW x2) (aD x4) (aM x3)) (aW x2) q.val p.val q.val := by
  have r := fun p q => dInput_read h0 h1 h2 h3 h4 p q
  unfold val_main_v59 val_main_v55
  generalize val_main_v54 (F := Ideal) x0 x1 x2 x3 x4 = y at r ⊢
  pointwise
  rw [r]
  exact convT_left _ _ _ _ _ q.isLt

/-- The value input's gradient. -/
theorem out1_read (p : Fin 4096) (q : Fin 2816) : val_main_v60 (F := Ideal) x0 x1 x2 x3 x4 (ix2 p q)
    = convT (dVal (aG x0) (aW x2) (aD x4) (aM x3)) (aW x2) (2816 + q.val) p.val q.val := by
  have r := fun p q => dInput_read h0 h1 h2 h3 h4 p q
  unfold val_main_v60 val_main_v56
  generalize val_main_v54 (F := Ideal) x0 x1 x2 x3 x4 = y at r ⊢
  pointwise
  rw [r]
  exact convT_right _ _ _ _ _ _

/-- The gate half's filter gradient. -/
theorem out2_read (a : Fin 3) (q : Fin 2816) : val_main_v57 (F := Ideal) x0 x1 x2 x3 x4 (ix2 a q)
    = convW (dGate (aG x0) (aG x1) (aW x2) (aD x4) (aM x3)) (aG x0) a.val 4096 q.val := by
  have r := fun p q => dFilter_read h0 h1 h2 h3 h4 p q
  unfold val_main_v57
  generalize val_main_v52 (F := Ideal) x0 x1 x2 x3 x4 = y at r ⊢
  pointwise
  rw [r]
  exact convW_left _ _ _ _ _ _ q.isLt

/-- The value half's filter gradient. -/
theorem out3_read (a : Fin 3) (q : Fin 2816) : val_main_v58 (F := Ideal) x0 x1 x2 x3 x4 (ix2 a q)
    = convW (dVal (aG x0) (aW x2) (aD x4) (aM x3)) (aG x1) a.val 4096 q.val := by
  have r := fun p q => dFilter_read h0 h1 h2 h3 h4 p q
  unfold val_main_v58
  generalize val_main_v52 (F := Ideal) x0 x1 x2 x3 x4 = y at r ⊢
  pointwise
  rw [r]
  exact convW_right _ _ _ _ _ _ _

end Cert.ReferenceIdeal.FfnRef

end
-- ==== Proof.lean ====
/-
  The claims about the feed-forward block's backward call: both programs run and leave their arguments alone, and at the
  extended reals they end with the same four arrays on finite arguments.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_inputs
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite_skip
public import proofs.«01_k».proof.Proof.Gen.Pre_finite_norm
public import proofs.«01_k».proof.Proof.Gen.Pre_finite_latent
public import proofs.«01_k».proof.Proof.Gen.Kernel2.Frame
public import proofs.«01_k».proof.Proof.Up2
public import proofs.«01_k».proof.Proof.Gen.Kernel3.Frame
public import proofs.«01_k».proof.Proof.Prod3
public import proofs.«01_k».proof.Proof.Gen.Kernel4.Frame
public import proofs.«01_k».proof.Proof.Prod4
public import proofs.«01_k».proof.Proof.Gen.Kernel5.Frame
public import proofs.«01_k».proof.Proof.Prod5
public import proofs.«01_k».proof.Proof.Gen.Kernel6.Frame
public import proofs.«01_k».proof.Proof.Prod6
public import proofs.«01_k».proof.Proof.Gen.Kernel7.Frame
public import proofs.«01_k».proof.Proof.Prod7
public import proofs.«01_k».proof.Proof.Gen.Kernel8.Frame
public import proofs.«01_k».proof.Proof.Prod8
public import proofs.«01_k».proof.Proof.Gen.Kernel9.Frame
public import proofs.«01_k».proof.Proof.Prod9
public import proofs.«01_k».proof.Proof.Gen.Kernel10.Frame
public import proofs.«01_k».proof.Proof.Prod10
public import proofs.«01_k».proof.Proof.Gen.Kernel11.Frame
public import proofs.«01_k».proof.Proof.Prod11
public import proofs.«01_k».proof.Proof.Gen.Kernel12.Frame
public import proofs.«01_k».proof.Proof.Prod12
public import proofs.«01_k».proof.Proof.Gen.Kernel13.Frame
public import proofs.«01_k».proof.Proof.Prod13
public import proofs.«01_k».proof.Proof.Gen.Kernel14.Frame
public import proofs.«01_k».proof.Proof.Prod14
public import proofs.«01_k».proof.Proof.Gen.Kernel15.Frame
public import proofs.«01_k».proof.Proof.Prod15
public import proofs.«01_k».proof.Proof.Gen.Kernel16.Frame
public import proofs.«01_k».proof.Proof.Prod16
public import proofs.«01_k».proof.Proof.Gen.Kernel17.Frame
public import proofs.«01_k».proof.Proof.Prod17
public import proofs.«01_k».proof.Proof.Gen.Kernel18.Frame
public import proofs.«01_k».proof.Proof.Prod18
public import proofs.«01_k».proof.Proof.Gen.Kernel19.Frame
public import proofs.«01_k».proof.Proof.Prod19
public import proofs.«01_k».proof.Proof.Gen.Kernel20.Frame
public import proofs.«01_k».proof.Proof.Prod20
public import proofs.«01_k».proof.Proof.Gen.Kernel21.Frame
public import proofs.«01_k».proof.Proof.Prod21
public import proofs.«01_k».proof.Proof.Gen.Kernel22.Frame
public import proofs.«01_k».proof.Proof.Prod22
public import proofs.«01_k».proof.Proof.Gen.Kernel23.Frame
public import proofs.«01_k».proof.Proof.Prod23
public import proofs.«01_k».proof.Proof.Gen.Kernel24.Frame
public import proofs.«01_k».proof.Proof.Prod24
public import proofs.«01_k».proof.Proof.Gen.Kernel25.Frame
public import proofs.«01_k».proof.Proof.Prod25
public import proofs.«01_k».proof.Proof.Gen.Kernel26.Frame
public import proofs.«01_k».proof.Proof.Prod26
public import proofs.«01_k».proof.Proof.Gen.Kernel27.Frame
public import proofs.«01_k».proof.Proof.Gate27
public import proofs.«01_k».proof.Proof.Gen.Kernel28.Frame
public import proofs.«01_k».proof.Proof.Gate28
public import proofs.«01_k».proof.Proof.Gen.Kernel29.Frame
public import proofs.«01_k».proof.Proof.Conv29
public import proofs.«01_k».proof.Proof.Gen.Kernel30.Frame
public import proofs.«01_k».proof.Proof.Conv30
public import proofs.«01_k».proof.Proof.Gen.Kernel31.Frame
public import proofs.«01_k».proof.Proof.Gelu31
public import proofs.«01_k».proof.Proof.Gen.Kernel32.Frame
public import proofs.«01_k».proof.Proof.Gelu32
public import proofs.«01_k».proof.Proof.Gen.Kernel33.Frame
public import proofs.«01_k».proof.Proof.Norm33
public import proofs.«01_k».proof.Proof.Gen.Kernel34.Frame
public import proofs.«01_k».proof.Proof.Norm34
public import proofs.«01_k».proof.Proof.Gen.Kernel35.Frame
public import proofs.«01_k».proof.Proof.Norm35
public import proofs.«01_k».proof.Proof.Gen.Kernel36.Frame
public import proofs.«01_k».proof.Proof.Norm36
public import proofs.«01_k».proof.Proof.Gen.Kernel37.Frame
public import proofs.«01_k».proof.Proof.Norm37
public import proofs.«01_k».proof.Proof.Gen.Kernel38.Frame
public import proofs.«01_k».proof.Proof.Norm38
public import proofs.«01_k».proof.Proof.FfnArr
public import proofs.«01_k».proof.Proof.FfnRef
public import proofs.«01_k».proof.Proof.FfnPre
public import Idealize.ShloMosaic.Adequacy
public import Idealize.ShloMosaic.Init

@[expose] public section

noncomputable section

namespace Cert.Proof

open Idealize.ShloMosaic Idealize.SL.Sem

/-- The reference runs, keeps its arguments and leaves every counter at zero. -/
theorem reference_frame : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run m ρ)

/-- On finite arguments the kernel and the reference end with the same four arrays. -/
theorem algebraic : Cert.algebraic_KernelIdeal_ReferenceIdeal_pre_finite_inputs := by
  intro m g m' g' hpre hargs
  refine ⟨Cert.KernelIdeal.FfnOut.result_11 m, Cert.KernelIdeal.FfnOut.result_12 m, Cert.KernelIdeal.FfnOut.result_13 m,
    Cert.KernelIdeal.FfnOut.result_14 m, Cert.KernelIdeal.FfnOut.run m g, ?_⟩
  refine (θ_run Cert.ReferenceIdeal.defs _ _).mono (fun r h c => ?_) (Cert.ReferenceIdeal.Value.run (F := Ideal) m' g')
  obtain ⟨a0, a1, a2, a3, a4⟩ := hargs c
  obtain ⟨f0, f1, f2, f3, f4⟩ := Cert.Pre_finite_inputs.FfnPre.isReal_of_pre _ _ _ _ _ (fun i => congrFun (hpre c) i)
  refine ⟨(h c).1.trans ?_, (h c).2.1.trans ?_, (h c).2.2.1.trans ?_, (h c).2.2.2.1.trans ?_, (h c).2.2.2.2⟩
  · rw [Cert.ReferenceIdeal.Read.val_main_v59_eq, a0, a1, a2, a3, a4]
    refine funext fun i => ?_
    rw [eq_ix2 i]
    exact Cert.ReferenceIdeal.FfnRef.out0_read f0 f1 f2 f3 f4 (i 0) (i 1)
  · rw [Cert.ReferenceIdeal.Read.val_main_v60_eq, a0, a1, a2, a3, a4]
    refine funext fun i => ?_
    rw [eq_ix2 i]
    exact Cert.ReferenceIdeal.FfnRef.out1_read f0 f1 f2 f3 f4 (i 0) (i 1)
  · rw [Cert.ReferenceIdeal.Read.val_main_v57_eq, a0, a1, a2, a3, a4]
    refine funext fun i => ?_
    rw [eq_ix2 i]
    exact Cert.ReferenceIdeal.FfnRef.out2_read f0 f1 f2 f3 f4 (i 0) (i 1)
  · rw [Cert.ReferenceIdeal.Read.val_main_v58_eq, a0, a1, a2, a3, a4]
    refine funext fun i => ?_
    rw [eq_ix2 i]
    exact Cert.ReferenceIdeal.FfnRef.out3_read f0 f1 f2 f3 f4 (i 0) (i 1)

/-- Every claim. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Kernel30.Gen.facts, Cert.Kernel30Ideal.Gen.facts, Cert.Reference30Ideal.Gen.facts, Cert.Kernel31.Gen.facts, Cert.Kernel31Ideal.Gen.facts, Cert.Reference31Ideal.Gen.facts, Cert.Kernel32.Gen.facts, Cert.Kernel32Ideal.Gen.facts, Cert.Reference32Ideal.Gen.facts, Cert.Kernel33.Gen.facts, Cert.Kernel33Ideal.Gen.facts, Cert.Reference33Ideal.Gen.facts, Cert.Kernel34.Gen.facts, Cert.Kernel34Ideal.Gen.facts, Cert.Reference34Ideal.Gen.facts, Cert.Kernel35.Gen.facts, Cert.Kernel35Ideal.Gen.facts, Cert.Reference35Ideal.Gen.facts, Cert.Kernel36.Gen.facts, Cert.Kernel36Ideal.Gen.facts, Cert.Reference36Ideal.Gen.facts, Cert.Kernel37.Gen.facts, Cert.Kernel37Ideal.Gen.facts, Cert.Reference37Ideal.Gen.facts, Cert.Kernel38.Gen.facts, Cert.Kernel38Ideal.Gen.facts, Cert.Reference38Ideal.Gen.facts,
    Cert.Pre_finite_inputs.Gen.facts, Cert.Pre_finite_skip.Gen.facts, Cert.Pre_finite_norm.Gen.facts, Cert.Pre_finite_latent.Gen.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial,
    fun m ρ _ => Cert.Kernel2.Gen.frame m ρ, fun m ρ _ => Cert.Kernel2Ideal.Gen.frame m ρ, Cert.Reference2Ideal.Up.frame,
    fun m ρ _ => Cert.Kernel3.Gen.frame m ρ, fun m ρ _ => Cert.Kernel3Ideal.Gen.frame m ρ, Cert.Reference3Ideal.Prod.frame,
    fun m ρ _ => Cert.Kernel4.Gen.frame m ρ, fun m ρ _ => Cert.Kernel4Ideal.Gen.frame m ρ, Cert.Reference4Ideal.Prod.frame,
    fun m ρ _ => Cert.Kernel5.Gen.frame m ρ, fun m ρ _ => Cert.Kernel5Ideal.Gen.frame m ρ, Cert.Reference5Ideal.Prod.frame,
    fun m ρ _ => Cert.Kernel6.Gen.frame m ρ, fun m ρ _ => Cert.Kernel6Ideal.Gen.frame m ρ, Cert.Reference6Ideal.Prod.frame,
    fun m ρ _ => Cert.Kernel7.Gen.frame m ρ, fun m ρ _ => Cert.Kernel7Ideal.Gen.frame m ρ, Cert.Reference7Ideal.Prod.frame,
    fun m ρ _ => Cert.Kernel8.Gen.frame m ρ, fun m ρ _ => Cert.Kernel8Ideal.Gen.frame m ρ, Cert.Reference8Ideal.Prod.frame,
    fun m ρ _ => Cert.Kernel9.Gen.frame m ρ, fun m ρ _ => Cert.Kernel9Ideal.Gen.frame m ρ, Cert.Reference9Ideal.Prod.frame,
    fun m ρ _ => Cert.Kernel10.Gen.frame m ρ, fun m ρ _ => Cert.Kernel10Ideal.Gen.frame m ρ, Cert.Reference10Ideal.Prod.frame,
    fun m ρ _ => Cert.Kernel11.Gen.frame m ρ, fun m ρ _ => Cert.Kernel11Ideal.Gen.frame m ρ, Cert.Reference11Ideal.Prod.frame,
    fun m ρ _ => Cert.Kernel12.Gen.frame m ρ, fun m ρ _ => Cert.Kernel12Ideal.Gen.frame m ρ, Cert.Reference12Ideal.Prod.frame,
    fun m ρ _ => Cert.Kernel13.Gen.frame m ρ, fun m ρ _ => Cert.Kernel13Ideal.Gen.frame m ρ, Cert.Reference13Ideal.Prod.frame,
    fun m ρ _ => Cert.Kernel14.Gen.frame m ρ, fun m ρ _ => Cert.Kernel14Ideal.Gen.frame m ρ, Cert.Reference14Ideal.Prod.frame,
    fun m ρ _ => Cert.Kernel15.Gen.frame m ρ, fun m ρ _ => Cert.Kernel15Ideal.Gen.frame m ρ, Cert.Reference15Ideal.Prod.frame,
    fun m ρ _ => Cert.Kernel16.Gen.frame m ρ, fun m ρ _ => Cert.Kernel16Ideal.Gen.frame m ρ, Cert.Reference16Ideal.Prod.frame,
    fun m ρ _ => Cert.Kernel17.Gen.frame m ρ, fun m ρ _ => Cert.Kernel17Ideal.Gen.frame m ρ, Cert.Reference17Ideal.Prod.frame,
    fun m ρ _ => Cert.Kernel18.Gen.frame m ρ, fun m ρ _ => Cert.Kernel18Ideal.Gen.frame m ρ, Cert.Reference18Ideal.Prod.frame,
    fun m ρ _ => Cert.Kernel19.Gen.frame m ρ, fun m ρ _ => Cert.Kernel19Ideal.Gen.frame m ρ, Cert.Reference19Ideal.Prod.frame,
    fun m ρ _ => Cert.Kernel20.Gen.frame m ρ, fun m ρ _ => Cert.Kernel20Ideal.Gen.frame m ρ, Cert.Reference20Ideal.Prod.frame,
    fun m ρ _ => Cert.Kernel21.Gen.frame m ρ, fun m ρ _ => Cert.Kernel21Ideal.Gen.frame m ρ, Cert.Reference21Ideal.Prod.frame,
    fun m ρ _ => Cert.Kernel22.Gen.frame m ρ, fun m ρ _ => Cert.Kernel22Ideal.Gen.frame m ρ, Cert.Reference22Ideal.Prod.frame,
    fun m ρ _ => Cert.Kernel23.Gen.frame m ρ, fun m ρ _ => Cert.Kernel23Ideal.Gen.frame m ρ, Cert.Reference23Ideal.Prod.frame,
    fun m ρ _ => Cert.Kernel24.Gen.frame m ρ, fun m ρ _ => Cert.Kernel24Ideal.Gen.frame m ρ, Cert.Reference24Ideal.Prod.frame,
    fun m ρ _ => Cert.Kernel25.Gen.frame m ρ, fun m ρ _ => Cert.Kernel25Ideal.Gen.frame m ρ, Cert.Reference25Ideal.Prod.frame,
    fun m ρ _ => Cert.Kernel26.Gen.frame m ρ, fun m ρ _ => Cert.Kernel26Ideal.Gen.frame m ρ, Cert.Reference26Ideal.Prod.frame,
    fun m ρ _ => Cert.Kernel27.Gen.frame m ρ, fun m ρ _ => Cert.Kernel27Ideal.Gen.frame m ρ, Cert.Reference27Ideal.Gate.frame,
    fun m ρ _ => Cert.Kernel28.Gen.frame m ρ, fun m ρ _ => Cert.Kernel28Ideal.Gen.frame m ρ, Cert.Reference28Ideal.Gate.frame,
    fun m ρ _ => Cert.Kernel29.Gen.frame m ρ, fun m ρ _ => Cert.Kernel29Ideal.Gen.frame m ρ, Cert.Reference29Ideal.Conv.frame,
    fun m ρ _ => Cert.Kernel30.Gen.frame m ρ, fun m ρ _ => Cert.Kernel30Ideal.Gen.frame m ρ, Cert.Reference30Ideal.Conv.frame,
    fun m ρ _ => Cert.Kernel31.Gen.frame m ρ, fun m ρ _ => Cert.Kernel31Ideal.Gen.frame m ρ, fun m ρ _ => Cert.Kernel31Ideal.Gen.frame m ρ, Cert.Reference31Ideal.Gelu.frame, fun m ρ _ => Cert.Reference31Ideal.Gelu.frame m ρ trivial,
    fun m ρ _ => Cert.Kernel32.Gen.frame m ρ, fun m ρ _ => Cert.Kernel32Ideal.Gen.frame m ρ, Cert.Reference32Ideal.Gelu.frame,
    fun m ρ _ => Cert.Kernel33.Gen.frame m ρ, fun m ρ _ => Cert.Kernel33Ideal.Gen.frame m ρ, fun m ρ _ => Cert.Kernel33Ideal.Gen.frame m ρ, Cert.Reference33Ideal.Norm.frame, fun m ρ _ => Cert.Reference33Ideal.Norm.frame m ρ trivial,
    fun m ρ _ => Cert.Kernel34.Gen.frame m ρ, fun m ρ _ => Cert.Kernel34Ideal.Gen.frame m ρ, Cert.Reference34Ideal.Norm.frame,
    fun m ρ _ => Cert.Kernel35.Gen.frame m ρ, fun m ρ _ => Cert.Kernel35Ideal.Gen.frame m ρ, fun m ρ _ => Cert.Kernel35Ideal.Gen.frame m ρ, Cert.Reference35Ideal.Norm.frame, fun m ρ _ => Cert.Reference35Ideal.Norm.frame m ρ trivial,
    fun m ρ _ => Cert.Kernel36.Gen.frame m ρ, fun m ρ _ => Cert.Kernel36Ideal.Gen.frame m ρ, fun m ρ _ => Cert.Kernel36Ideal.Gen.frame m ρ, Cert.Reference36Ideal.Norm.frame, fun m ρ _ => Cert.Reference36Ideal.Norm.frame m ρ trivial,
    fun m ρ _ => Cert.Kernel37.Gen.frame m ρ, fun m ρ _ => Cert.Kernel37Ideal.Gen.frame m ρ, Cert.Reference37Ideal.Norm.frame,
    fun m ρ _ => Cert.Kernel38.Gen.frame m ρ, fun m ρ _ => Cert.Kernel38Ideal.Gen.frame m ρ, Cert.Reference38Ideal.Norm.frame,
    trivial, algebraic,
    trivial, Cert.Kernel2Ideal.Up.algebraic,
    trivial, Cert.Kernel3Ideal.Prod.algebraic,
    trivial, Cert.Kernel4Ideal.Prod.algebraic,
    trivial, Cert.Kernel5Ideal.Prod.algebraic,
    trivial, Cert.Kernel6Ideal.Prod.algebraic,
    trivial, Cert.Kernel7Ideal.Prod.algebraic,
    trivial, Cert.Kernel8Ideal.Prod.algebraic,
    trivial, Cert.Kernel9Ideal.Prod.algebraic,
    trivial, Cert.Kernel10Ideal.Prod.algebraic,
    trivial, Cert.Kernel11Ideal.Prod.algebraic,
    trivial, Cert.Kernel12Ideal.Prod.algebraic,
    trivial, Cert.Kernel13Ideal.Prod.algebraic,
    trivial, Cert.Kernel14Ideal.Prod.algebraic,
    trivial, Cert.Kernel15Ideal.Prod.algebraic,
    trivial, Cert.Kernel16Ideal.Prod.algebraic,
    trivial, Cert.Kernel17Ideal.Prod.algebraic,
    trivial, Cert.Kernel18Ideal.Prod.algebraic,
    trivial, Cert.Kernel19Ideal.Prod.algebraic,
    trivial, Cert.Kernel20Ideal.Prod.algebraic,
    trivial, Cert.Kernel21Ideal.Prod.algebraic,
    trivial, Cert.Kernel22Ideal.Prod.algebraic,
    trivial, Cert.Kernel23Ideal.Prod.algebraic,
    trivial, Cert.Kernel24Ideal.Prod.algebraic,
    trivial, Cert.Kernel25Ideal.Prod.algebraic,
    trivial, Cert.Kernel26Ideal.Prod.algebraic,
    trivial, Cert.Kernel27Ideal.Gate.algebraic,
    trivial, Cert.Kernel28Ideal.Gate.algebraic,
    trivial, Cert.Kernel29Ideal.Conv.algebraic,
    trivial, Cert.Kernel30Ideal.Conv.algebraic,
    ⟨IdealRules.named_const.statement Cert.Kernel31Ideal.κ "gelu_a" .f32 0x3D372713#32 ((8943 / 200000 : ℝ) : EReal) rfl,
      IdealRules.named_const.statement Cert.Kernel31Ideal.κ "gelu_3a" .f32 0x3E095D4F#32 ((26829 / 200000 : ℝ) : EReal) rfl⟩, Cert.Kernel31Ideal.Gelu.algebraic,
    trivial, Cert.Kernel32Ideal.Gelu.algebraic,
    trivial, Cert.Kernel33Ideal.Norm.algebraic,
    trivial, Cert.Kernel34Ideal.Norm.algebraic,
    trivial, Cert.Kernel35Ideal.Norm.algebraic,
    trivial, Cert.Kernel36Ideal.Norm.algebraic,
    trivial, Cert.Kernel37Ideal.Norm.algebraic,
    trivial, Cert.Kernel38Ideal.Norm.algebraic⟩

end Cert.Proof

end
